-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v48_0)) (v1 : (c : Dev Cert.KernelIdeal.nD) → Buf (Elt Ideal) ((c.tc : Thread Cert.KernelIdeal.nD Cert.KernelIdeal.τ).loc Cert.KernelIdeal.main_v48_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48_0) = v0 c
          ∧ r.2.mem ((c.tc : Thread Cert.KernelIdeal.nD Cert.KernelIdeal.τ).loc Cert.KernelIdeal.main_v48_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v44) = v0 c
          ∧ r.2.mem ((c.tc : Thread Cert.Reference6Ideal.nD Cert.Reference6Ideal.τ).loc Cert.Reference6Ideal.main_v48) = v1 c
          ∧ r.2.mem ((c.tc : Thread Cert.Reference6Ideal.nD Cert.Reference6Ideal.τ).loc Cert.Reference6Ideal.main_v49) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v34) = v0 c
          ∧ r.2.mem ((c.tc : Thread Cert.Reference13Ideal.nD Cert.Reference13Ideal.τ).loc Cert.Reference13Ideal.main_v36) = v1 c
          ∧ r.2.mem ((c.tc : Thread Cert.Reference13Ideal.nD Cert.Reference13Ideal.τ).loc Cert.Reference13Ideal.main_v17) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v128_0)) (v1 : (c : Dev Cert.Kernel14Ideal.nD) → Buf (Elt Ideal) ((c.tc : Thread Cert.Kernel14Ideal.nD Cert.Kernel14Ideal.τ).loc Cert.Kernel14Ideal.main_v128_1)) (v2 : (c : Dev Cert.Kernel14Ideal.nD) → Buf (Elt Ideal) ((c.tc : Thread Cert.Kernel14Ideal.nD Cert.Kernel14Ideal.τ).loc Cert.Kernel14Ideal.main_v128_2)) (v3 : (c : Dev Cert.Kernel14Ideal.nD) → Buf (Elt Ideal) ((c.tc : Thread Cert.Kernel14Ideal.nD Cert.Kernel14Ideal.τ).loc Cert.Kernel14Ideal.main_v128_3)) (v4 : (c : Dev Cert.Kernel14Ideal.nD) → Buf (Elt Ideal) ((c.tc : Thread Cert.Kernel14Ideal.nD Cert.Kernel14Ideal.τ).loc Cert.Kernel14Ideal.main_v128_4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v128_0) = v0 c
          ∧ r.2.mem ((c.tc : Thread Cert.Kernel14Ideal.nD Cert.Kernel14Ideal.τ).loc Cert.Kernel14Ideal.main_v128_1) = v1 c
          ∧ r.2.mem ((c.tc : Thread Cert.Kernel14Ideal.nD Cert.Kernel14Ideal.τ).loc Cert.Kernel14Ideal.main_v128_2) = v2 c
          ∧ r.2.mem ((c.tc : Thread Cert.Kernel14Ideal.nD Cert.Kernel14Ideal.τ).loc Cert.Kernel14Ideal.main_v128_3) = v3 c
          ∧ r.2.mem ((c.tc : Thread Cert.Kernel14Ideal.nD Cert.Kernel14Ideal.τ).loc Cert.Kernel14Ideal.main_v128_4) = v4 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v287) = v0 c
          ∧ r.2.mem ((c.tc : Thread Cert.Reference14Ideal.nD Cert.Reference14Ideal.τ).loc Cert.Reference14Ideal.main_v288) = v1 c
          ∧ r.2.mem ((c.tc : Thread Cert.Reference14Ideal.nD Cert.Reference14Ideal.τ).loc Cert.Reference14Ideal.main_v180) = v2 c
          ∧ r.2.mem ((c.tc : Thread Cert.Reference14Ideal.nD Cert.Reference14Ideal.τ).loc Cert.Reference14Ideal.main_v151) = v3 c
          ∧ r.2.mem ((c.tc : Thread Cert.Reference14Ideal.nD Cert.Reference14Ideal.τ).loc Cert.Reference14Ideal.main_v270) = v4 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v140) = v0 c
          ∧ r.2.mem ((c.tc : Thread Cert.Reference15Ideal.nD Cert.Reference15Ideal.τ).loc Cert.Reference15Ideal.main_v142) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v12) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v15) = v0 c
          ∧ r.2.mem ((c.tc : Thread Cert.Reference17Ideal.nD Cert.Reference17Ideal.τ).loc Cert.Reference17Ideal.main_v14) = v1 c
          ∧ r.2.mem ((c.tc : Thread Cert.Reference17Ideal.nD Cert.Reference17Ideal.τ).loc Cert.Reference17Ideal.main_v16) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Pre_finite.lean ====
abbrev S8192x11264 : Shape := ⟨2, ![8192, 11264]⟩
abbrev S3x11264 : Shape := ⟨2, ![3, 11264]⟩
abbrev S1x11264 : Shape := ⟨2, ![1, 11264]⟩
abbrev S5632x2048 : Shape := ⟨2, ![5632, 2048]⟩
abbrev S8192x2048 : Shape := ⟨2, ![8192, 2048]⟩
abbrev S_ : Shape := ⟨0, ![]⟩

class Facts : Prop where
  bcast_S_S8192x11264 : S_.BroadcastsInDim S8192x11264 (![] : Fin 0 → Fin S8192x11264.rank)
  reducesTo_S8192x11264_S_d0_1 : S8192x11264.ReducesTo [0, 1] S_
  h_S_ : 0 < S_.numel
  bcast_S_S3x11264 : S_.BroadcastsInDim S3x11264 (![] : Fin 0 → Fin S3x11264.rank)
  reducesTo_S3x11264_S_d0_1 : S3x11264.ReducesTo [0, 1] S_
  bcast_S_S1x11264 : S_.BroadcastsInDim S1x11264 (![] : Fin 0 → Fin S1x11264.rank)
  reducesTo_S1x11264_S_d0_1 : S1x11264.ReducesTo [0, 1] S_
  bcast_S_S5632x2048 : S_.BroadcastsInDim S5632x2048 (![] : Fin 0 → Fin S5632x2048.rank)
  reducesTo_S5632x2048_S_d0_1 : S5632x2048.ReducesTo [0, 1] S_
  bcast_S_S8192x2048 : S_.BroadcastsInDim S8192x2048 (![] : Fin 0 → Fin S8192x2048.rank)
  reducesTo_S8192x2048_S_d0_1 : S8192x2048.ReducesTo [0, 1] S_

variable [Facts]

def fn_part1 {F : FTy → Type} [FloatOps F] (main_arg4 : FVec F S8192x2048 .f32) (main_v3 : IVec S_ 1) (main_v7 : IVec S_ 1) (main_v11 : IVec S_ 1) (main_v15 : IVec S_ 1) : IVec S_ 1 :=
  let main_v16 : FVec F S8192x2048 .f32 := subf main_arg4 main_arg4
  let main_cst_6 : FVec F S_ .f32 := constant S_ .f32 0x00000000#32
  let main_v17 : FVec F S8192x2048 .f32 := broadcastInDim S8192x2048 ![] bcast_S_S8192x2048 main_cst_6
  let main_v18 : IVec S8192x2048 1 := cmpf .oeq main_v16 main_v17
  let main_c_7 : IVec S_ 1 := constantI S_ 1 1#1
  let main_v19 : IVec S_ 1 := (fun x v => Host.reduce IntOp.andi x v reducesTo_S8192x2048_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8192x11264 .f32) (main_arg1 : FVec F S3x11264 .f32) (main_arg2 : FVec F S1x11264 .f32) (main_arg3 : FVec F S5632x2048 .f32) (main_arg4 : FVec F S8192x2048 .f32) : IVec S_ 1 :=
  let main_v0 : FVec F S8192x11264 .f32 := subf main_arg0 main_arg0
  let main_cst : FVec F S_ .f32 := constant S_ .f32 0x00000000#32
  let main_v1 : FVec F S8192x11264 .f32 := broadcastInDim S8192x11264 ![] bcast_S_S8192x11264 main_cst
  let main_v2 : IVec S8192x11264 1 := cmpf .oeq main_v0 main_v1
  let main_c : IVec S_ 1 := constantI S_ 1 1#1
  let main_v3 : IVec S_ 1 := (fun x v => Host.reduce IntOp.andi x v reducesTo_S8192x11264_S_d0_1 h_S_) main_v2 main_c
  let main_v4 : FVec F S3x11264 .f32 := subf main_arg1 main_arg1
  let main_cst_0 : FVec F S_ .f32 := constant S_ .f32 0x00000000#32
  let main_v5 : FVec F S3x11264 .f32 := broadcastInDim S3x11264 ![] bcast_S_S3x11264 main_cst_0
  let main_v6 : IVec S3x11264 1 := cmpf .oeq main_v4 main_v5
  let main_c_1 : IVec S_ 1 := constantI S_ 1 1#1
  let main_v7 : IVec S_ 1 := (fun x v => Host.reduce IntOp.andi x v reducesTo_S3x11264_S_d0_1 h_S_) main_v6 main_c_1
  let main_v8 : FVec F S1x11264 .f32 := subf main_arg2 main_arg2
  let main_cst_2 : FVec F S_ .f32 := constant S_ .f32 0x00000000#32
  let main_v9 : FVec F S1x11264 .f32 := broadcastInDim S1x11264 ![] bcast_S_S1x11264 main_cst_2
  let main_v10 : IVec S1x11264 1 := cmpf .oeq main_v8 main_v9
  let main_c_3 : IVec S_ 1 := constantI S_ 1 1#1
  let main_v11 : IVec S_ 1 := (fun x v => Host.reduce IntOp.andi x v reducesTo_S1x11264_S_d0_1 h_S_) main_v10 main_c_3
  let main_v12 : FVec F S5632x2048 .f32 := subf main_arg3 main_arg3
  let main_cst_4 : FVec F S_ .f32 := constant S_ .f32 0x00000000#32
  let main_v13 : FVec F S5632x2048 .f32 := broadcastInDim S5632x2048 ![] bcast_S_S5632x2048 main_cst_4
  let main_v14 : IVec S5632x2048 1 := cmpf .oeq main_v12 main_v13
  let main_c_5 : IVec S_ 1 := constantI S_ 1 1#1
  let main_v15 : IVec S_ 1 := (fun x v => Host.reduce IntOp.andi x v reducesTo_S5632x2048_S_d0_1 h_S_) main_v14 main_c_5
  fn_part1 (F := F) main_arg4 main_v3 main_v7 main_v11 main_v15
-- ==== Pre_finite6.lean ====
abbrev S8192x2048 : Shape := ⟨2, ![8192, 2048]⟩
abbrev S2048x11264 : Shape := ⟨2, ![2048, 11264]⟩
abbrev S3x11264 : Shape := ⟨2, ![3, 11264]⟩
abbrev S1x11264 : Shape := ⟨2, ![1, 11264]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x11264 : S_.BroadcastsInDim S2048x11264 (![] : Fin 0 → Fin S2048x11264.rank)
  reducesTo_S2048x11264_S_d0_1 : S2048x11264.ReducesTo [0, 1] S_
  bcast_S_S3x11264 : S_.BroadcastsInDim S3x11264 (![] : Fin 0 → Fin S3x11264.rank)
  reducesTo_S3x11264_S_d0_1 : S3x11264.ReducesTo [0, 1] S_
  bcast_S_S1x11264 : S_.BroadcastsInDim S1x11264 (![] : Fin 0 → Fin S1x11264.rank)
  reducesTo_S1x11264_S_d0_1 : S1x11264.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8192x2048 .bf16) (main_arg1 : FVec F S2048x11264 .bf16) (main_arg2 : FVec F S3x11264 .f32) (main_arg3 : FVec F S1x11264 .f32) : IVec S_ 1 :=
  let main_v0 : FVec F S8192x2048 .bf16 := subf main_arg0 main_arg0
  let main_cst : FVec F S_ .bf16 := constant S_ .bf16 0x0000#16
  let main_v1 : FVec F S8192x2048 .bf16 := broadcastInDim S8192x2048 ![] bcast_S_S8192x2048 main_cst
  let main_v2 : IVec S8192x2048 1 := cmpf .oeq main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x11264 .bf16 := subf main_arg1 main_arg1
  let main_cst_0 : FVec F S_ .bf16 := constant S_ .bf16 0x0000#16
  let main_v5 : FVec F S2048x11264 .bf16 := broadcastInDim S2048x11264 ![] bcast_S_S2048x11264 main_cst_0
  let main_v6 : IVec S2048x11264 1 := cmpf .oeq main_v4 main_v5
  let main_c_1 : IVec S_ 1 := constantI S_ 1 1#1
  let main_v7 : IVec S_ 1 := (fun x v => Host.reduce IntOp.andi x v reducesTo_S2048x11264_S_d0_1 h_S_) main_v6 main_c_1
  let main_v8 : FVec F S3x11264 .f32 := subf main_arg2 main_arg2
  let main_cst_2 : FVec F S_ .f32 := constant S_ .f32 0x00000000#32
  let main_v9 : FVec F S3x11264 .f32 := broadcastInDim S3x11264 ![] bcast_S_S3x11264 main_cst_2
  let main_v10 : IVec S3x11264 1 := cmpf .oeq main_v8 main_v9
  let main_c_3 : IVec S_ 1 := constantI S_ 1 1#1
  let main_v11 : IVec S_ 1 := (fun x v => Host.reduce IntOp.andi x v reducesTo_S3x11264_S_d0_1 h_S_) main_v10 main_c_3
  let main_v12 : FVec F S1x11264 .f32 := subf main_arg3 main_arg3
  let main_cst_4 : FVec F S_ .f32 := constant S_ .f32 0x00000000#32
  let main_v13 : FVec F S1x11264 .f32 := broadcastInDim S1x11264 ![] bcast_S_S1x11264 main_cst_4
  let main_v14 : IVec S1x11264 1 := cmpf .oeq main_v12 main_v13
  let main_c_5 : IVec S_ 1 := constantI S_ 1 1#1
  let main_v15 : IVec S_ 1 := (fun x v => Host.reduce IntOp.andi x v reducesTo_S1x11264_S_d0_1 h_S_) main_v14 main_c_5
  fn_part1 (F := F) main_v3 main_v7 main_v11 main_v15
-- ==== Kernel.lean ====
abbrev S8192x11264 : Shape := ⟨2, ![8192, 11264]⟩
abbrev S3x11264 : Shape := ⟨2, ![3, 11264]⟩
abbrev S1x11264 : Shape := ⟨2, ![1, 11264]⟩
abbrev S5632x2048 : Shape := ⟨2, ![5632, 2048]⟩
abbrev S8192x2048 : Shape := ⟨2, ![8192, 2048]⟩
abbrev S_ : Shape := ⟨0, ![]⟩
abbrev S2x11264 : Shape := ⟨2, ![2, 11264]⟩
abbrev S8194x11264 : Shape := ⟨2, ![8194, 11264]⟩
abbrev S11264 : Shape := ⟨1, ![11264]⟩
abbrev S8192x5632 : Shape := ⟨2, ![8192, 5632]⟩
abbrev S1x8192x5632 : Shape := ⟨3, ![1, 8192, 5632]⟩
abbrev S2x8192x5632 : Shape := ⟨3, ![2, 8192, 5632]⟩
abbrev S2x8x5632 : Shape := ⟨3, ![2, 8, 5632]⟩
abbrev S512x2048 : Shape := ⟨2, ![512, 2048]⟩
abbrev S1408x2048 : Shape := ⟨2, ![1408, 2048]⟩
abbrev S2x512x1408 : Shape := ⟨3, ![2, 512, 1408]⟩
abbrev S3x1408 : Shape := ⟨2, ![3, 1408]⟩
abbrev S2x8x1408 : Shape := ⟨3, ![2, 8, 1408]⟩
abbrev S8x1408 : Shape := ⟨2, ![8, 1408]⟩
abbrev S256x2048 : Shape := ⟨2, ![256, 2048]⟩
abbrev S512x256 : Shape := ⟨2, ![512, 256]⟩
abbrev S1x512x256 : Shape := ⟨3, ![1, 512, 256]⟩
abbrev S8x256 : Shape := ⟨2, ![8, 256]⟩
abbrev S504x256 : Shape := ⟨2, ![504, 256]⟩
abbrev S1x256 : Shape := ⟨2, ![1, 256]⟩
abbrev S1x1x256 : Shape := ⟨3, ![1, 1, 256]⟩
abbrev S256 : Shape := ⟨1, ![256]⟩
abbrev S128x2048 : Shape := ⟨2, ![128, 2048]⟩
abbrev S512x128 : Shape := ⟨2, ![512, 128]⟩
abbrev S1x512x128 : Shape := ⟨3, ![1, 512, 128]⟩
abbrev S8x128 : Shape := ⟨2, ![8, 128]⟩
abbrev S504x128 : Shape := ⟨2, ![504, 128]⟩
abbrev S1x128 : Shape := ⟨2, ![1, 128]⟩
abbrev S1x1x128 : Shape := ⟨3, ![1, 1, 128]⟩
abbrev S128 : Shape := ⟨1, ![128]⟩

abbrev nBuf : Space → Nat
  | .hbm => 73
  | .vmem => 18
  | .smem => 0
  | _ => 0

abbrev bufTy : (tb : Table) → Fin (tcTables nBuf tb) → BufTy
  | .hbm, ⟨0, _⟩ => ⟨S8192x11264, .f32⟩
  | .hbm, ⟨1, _⟩ => ⟨S3x11264, .f32⟩
  | .hbm, ⟨2, _⟩ => ⟨S1x11264, .f32⟩
  | .hbm, ⟨3, _⟩ => ⟨S5632x2048, .f32⟩
  | .hbm, ⟨4, _⟩ => ⟨S8192x2048, .f32⟩
  | .hbm, ⟨5, _⟩ => ⟨S_, .f32⟩
  | .hbm, ⟨6, _⟩ => ⟨S2x11264, .f32⟩
  | .hbm, ⟨7, _⟩ => ⟨S8194x11264, .f32⟩
  | .hbm, ⟨8, _⟩ => ⟨S1x11264, .f32⟩
  | .hbm, ⟨9, _⟩ => ⟨S11264, .f32⟩
  | .hbm, ⟨10, _⟩ => ⟨S8192x11264, .f32⟩
  | .hbm, ⟨11, _⟩ => ⟨S1x11264, .f32⟩
  | .hbm, ⟨12, _⟩ => ⟨S8192x11264, .f32⟩
  | .hbm, ⟨13, _⟩ => ⟨S8192x11264, .f32⟩
  | .hbm, ⟨14, _⟩ => ⟨S_, .f32⟩
  | .hbm, ⟨15, _⟩ => ⟨S8192x11264, .f32⟩
  | .hbm, ⟨16, _⟩ => ⟨S8192x11264, .f32⟩
  | .hbm, ⟨17, _⟩ => ⟨S1x11264, .f32⟩
  | .hbm, ⟨18, _⟩ => ⟨S11264, .f32⟩
  | .hbm, ⟨19, _⟩ => ⟨S8192x11264, .f32⟩
  | .hbm, ⟨20, _⟩ => ⟨S1x11264, .f32⟩
  | .hbm, ⟨21, _⟩ => ⟨S8192x11264, .f32⟩
  | .hbm, ⟨22, _⟩ => ⟨S8192x11264, .f32⟩
  | .hbm, ⟨23, _⟩ => ⟨S8192x11264, .f32⟩
  | .hbm, ⟨24, _⟩ => ⟨S1x11264, .f32⟩
  | .hbm, ⟨25, _⟩ => ⟨S11264, .f32⟩
  | .hbm, ⟨26, _⟩ => ⟨S8192x11264, .f32⟩
  | .hbm, ⟨27, _⟩ => ⟨S1x11264, .f32⟩
  | .hbm, ⟨28, _⟩ => ⟨S8192x11264, .f32⟩
  | .hbm, ⟨29, _⟩ => ⟨S8192x11264, .f32⟩
  | .hbm, ⟨30, _⟩ => ⟨S8192x11264, .f32⟩
  | .hbm, ⟨31, _⟩ => ⟨S11264, .f32⟩
  | .hbm, ⟨32, _⟩ => ⟨S1x11264, .f32⟩
  | .hbm, ⟨33, _⟩ => ⟨S8192x11264, .f32⟩
  | .hbm, ⟨34, _⟩ => ⟨S8192x11264, .f32⟩
  | .hbm, ⟨35, _⟩ => ⟨S8192x5632, .f32⟩
  | .hbm, ⟨36, _⟩ => ⟨S8192x5632, .f32⟩
  | .hbm, ⟨37, _⟩ => ⟨S_, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S_, .f32⟩
  | .hbm, ⟨42, _⟩ => ⟨S8192x5632, .f32⟩
  | .hbm, ⟨43, _⟩ => ⟨S8192x5632, .f32⟩
  | .hbm, ⟨44, _⟩ => ⟨S_, .f32⟩
  | .hbm, ⟨45, _⟩ => ⟨S8192x5632, .f32⟩
  | .hbm, ⟨46, _⟩ => ⟨S8192x5632, .f32⟩
  | .hbm, ⟨47, _⟩ => ⟨S_, .f32⟩
  | .hbm, ⟨48, _⟩ => ⟨S8192x5632, .f32⟩
  | .hbm, ⟨49, _⟩ => ⟨S8192x5632, .f32⟩
  | .hbm, ⟨50, _⟩ => ⟨S8192x5632, .f32⟩
  | .hbm, ⟨51, _⟩ => ⟨S8192x5632, .f32⟩
  | .hbm, ⟨52, _⟩ => ⟨S8192x5632, .f32⟩
  | .hbm, ⟨53, _⟩ => ⟨S8192x5632, .f32⟩
  | .hbm, ⟨54, _⟩ => ⟨S8192x5632, .f32⟩
  | .hbm, ⟨55, _⟩ => ⟨S8192x5632, .f32⟩
  | .hbm, ⟨56, _⟩ => ⟨S8192x5632, .f32⟩
  | .hbm, ⟨57, _⟩ => ⟨S8192x5632, .f32⟩
  | .hbm, ⟨58, _⟩ => ⟨S8192x5632, .f32⟩
  | .hbm, ⟨59, _⟩ => ⟨S1x8192x5632, .f32⟩
  | .hbm, ⟨60, _⟩ => ⟨S1x8192x5632, .f32⟩
  | .hbm, ⟨61, _⟩ => ⟨S2x8192x5632, .f32⟩
  | .hbm, ⟨62, _⟩ => ⟨S8192x5632, .f32⟩
  | .hbm, ⟨63, _⟩ => ⟨S8192x5632, .f32⟩
  | .hbm, ⟨64, _⟩ => ⟨S1x8192x5632, .f32⟩
  | .hbm, ⟨65, _⟩ => ⟨S1x8192x5632, .f32⟩
  | .hbm, ⟨66, _⟩ => ⟨S2x8192x5632, .f32⟩
  | .hbm, ⟨67, _⟩ => ⟨S8192x2048, .bf16⟩
  | .hbm, ⟨68, _⟩ => ⟨S5632x2048, .bf16⟩
  | .hbm, ⟨69, _⟩ => ⟨S2x8192x5632, .bf16⟩
  | .hbm, ⟨70, _⟩ => ⟨S2x8192x5632, .bf16⟩
  | .hbm, ⟨71, _⟩ => ⟨S2x8192x5632, .bf16⟩
  | .hbm, ⟨72, _⟩ => ⟨S2x8x5632, .f32⟩
  | .local _ .vmem, ⟨0, _⟩ => ⟨S512x2048, .bf16⟩
  | .local _ .vmem, ⟨1, _⟩ => ⟨S512x2048, .bf16⟩
  | .local _ .vmem, ⟨2, _⟩ => ⟨S1408x2048, .bf16⟩
  | .local _ .vmem, ⟨3, _⟩ => ⟨S1408x2048, .bf16⟩
  | .local _ .vmem, ⟨4, _⟩ => ⟨S2x512x1408, .bf16⟩
  | .local _ .vmem, ⟨5, _⟩ => ⟨S2x512x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S3x1408, .f32⟩
  | .local _ .vmem, ⟨9, _⟩ => ⟨S3x1408, .f32⟩
  | .local _ .vmem, ⟨10, _⟩ => ⟨S3x1408, .f32⟩
  | .local _ .vmem, ⟨11, _⟩ => ⟨S3x1408, .f32⟩
  | .local _ .vmem, ⟨12, _⟩ => ⟨S2x512x1408, .bf16⟩
  | .local _ .vmem, ⟨13, _⟩ => ⟨S2x512x1408, .bf16⟩
  | .local _ .vmem, ⟨14, _⟩ => ⟨S2x8x1408, .f32⟩
  | .local _ .vmem, ⟨15, _⟩ => ⟨S2x8x1408, .f32⟩
  | .local _ .vmem, ⟨16, _⟩ => ⟨S8x1408, .f32⟩
  | .local _ .vmem, ⟨17, _⟩ => ⟨S8x1408, .f32⟩
  | _, _ => ⟨S8192x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_1 : Ref sig .tc := ⟨.hbm, 37, rfl⟩
abbrev main_v30 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v31_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v31_1 : Ref sig .tc := ⟨.hbm, 50, rfl⟩
abbrev main_v31_0 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48_0 : Ref sig .tc := ⟨.hbm, 71, rfl⟩
abbrev main_v48_1 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![c0_i32.toNat, v0.toNat, arg0.toNat]

def cc0_transform_3 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![c0_i32.toNat, v0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_6 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![c0_i32.toNat, v0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x8x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S8192x11264 : Shape := ⟨2, ![8192, 11264]⟩
abbrev S3x11264 : Shape := ⟨2, ![3, 11264]⟩
abbrev S1x11264 : Shape := ⟨2, ![1, 11264]⟩
abbrev S5632x2048 : Shape := ⟨2, ![5632, 2048]⟩
abbrev S8192x2048 : Shape := ⟨2, ![8192, 2048]⟩
abbrev S_ : Shape := ⟨0, ![]⟩
abbrev S2x11264 : Shape := ⟨2, ![2, 11264]⟩
abbrev S8194x11264 : Shape := ⟨2, ![8194, 11264]⟩
abbrev S11264 : Shape := ⟨1, ![11264]⟩
abbrev S8192x5632 : Shape := ⟨2, ![8192, 5632]⟩
abbrev S4x11264 : Shape := ⟨2, ![4, 11264]⟩
abbrev S8x11264 : Shape := ⟨2, ![8, 11264]⟩
abbrev S1x8192x5632 : Shape := ⟨3, ![1, 8192, 5632]⟩
abbrev S2x8192x5632 : Shape := ⟨3, ![2, 8192, 5632]⟩
abbrev S8x5632 : Shape := ⟨2, ![8, 5632]⟩
abbrev S1x8x5632 : Shape := ⟨3, ![1, 8, 5632]⟩
abbrev S2x8x5632 : Shape := ⟨3, ![2, 8, 5632]⟩

abbrev nBuf : Space → Nat
  | .hbm => 127
  | .vmem => 0
  | .smem => 0
  | _ => 0

abbrev bufTy : (tb : Table) → Fin (tcTables nBuf tb) → BufTy
  | .hbm, ⟨0, _⟩ => ⟨S8192x11264, .f32⟩
  | .hbm, ⟨1, _⟩ => ⟨S3x11264, .f32⟩
  | .hbm, ⟨2, _⟩ => ⟨S1x11264, .f32⟩
  | .hbm, ⟨3, _⟩ => ⟨S5632x2048, .f32⟩
  | .hbm, ⟨4, _⟩ => ⟨S8192x2048, .f32⟩
  | .hbm, ⟨5, _⟩ => ⟨S_, .f32⟩
  | .hbm, ⟨6, _⟩ => ⟨S2x11264, .f32⟩
  | .hbm, ⟨7, _⟩ => ⟨S8194x11264, .f32⟩
  | .hbm, ⟨8, _⟩ => ⟨S_, .f32⟩
  | .hbm, ⟨9, _⟩ => ⟨S2x11264, .f32⟩
  | .hbm, ⟨10, _⟩ => ⟨S1x11264, .f32⟩
  | .hbm, ⟨11, _⟩ => ⟨S11264, .f32⟩
  | .hbm, ⟨12, _⟩ => ⟨S8192x11264, .f32⟩
  | .hbm, ⟨13, _⟩ => ⟨S1x11264, .f32⟩
  | .hbm, ⟨14, _⟩ => ⟨S8192x11264, .f32⟩
  | .hbm, ⟨15, _⟩ => ⟨S8192x11264, .f32⟩
  | .hbm, ⟨16, _⟩ => ⟨S_, .f32⟩
  | .hbm, ⟨17, _⟩ => ⟨S8192x11264, .f32⟩
  | .hbm, ⟨18, _⟩ => ⟨S8192x11264, .f32⟩
  | .hbm, ⟨19, _⟩ => ⟨S1x11264, .f32⟩
  | .hbm, ⟨20, _⟩ => ⟨S11264, .f32⟩
  | .hbm, ⟨21, _⟩ => ⟨S8192x11264, .f32⟩
  | .hbm, ⟨22, _⟩ => ⟨S1x11264, .f32⟩
  | .hbm, ⟨23, _⟩ => ⟨S8192x11264, .f32⟩
  | .hbm, ⟨24, _⟩ => ⟨S8192x11264, .f32⟩
  | .hbm, ⟨25, _⟩ => ⟨S8192x11264, .f32⟩
  | .hbm, ⟨26, _⟩ => ⟨S1x11264, .f32⟩
  | .hbm, ⟨27, _⟩ => ⟨S11264, .f32⟩
  | .hbm, ⟨28, _⟩ => ⟨S8192x11264, .f32⟩
  | .hbm, ⟨29, _⟩ => ⟨S1x11264, .f32⟩
  | .hbm, ⟨30, _⟩ => ⟨S8192x11264, .f32⟩
  | .hbm, ⟨31, _⟩ => ⟨S8192x11264, .f32⟩
  | .hbm, ⟨32, _⟩ => ⟨S8192x11264, .f32⟩
  | .hbm, ⟨33, _⟩ => ⟨S11264, .f32⟩
  | .hbm, ⟨34, _⟩ => ⟨S1x11264, .f32⟩
  | .hbm, ⟨35, _⟩ => ⟨S8192x11264, .f32⟩
  | .hbm, ⟨36, _⟩ => ⟨S8192x11264, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S_, .f32⟩
  | .hbm, ⟨42, _⟩ => ⟨S8192x5632, .f32⟩
  | .hbm, ⟨43, _⟩ => ⟨S8192x5632, .f32⟩
  | .hbm, ⟨44, _⟩ => ⟨S_, .f32⟩
  | .hbm, ⟨45, _⟩ => ⟨S8192x5632, .f32⟩
  | .hbm, ⟨46, _⟩ => ⟨S8192x5632, .f32⟩
  | .hbm, ⟨47, _⟩ => ⟨S_, .f32⟩
  | .hbm, ⟨48, _⟩ => ⟨S8192x5632, .f32⟩
  | .hbm, ⟨49, _⟩ => ⟨S8192x5632, .f32⟩
  | .hbm, ⟨50, _⟩ => ⟨S8192x5632, .f32⟩
  | .hbm, ⟨51, _⟩ => ⟨S8192x5632, .f32⟩
  | .hbm, ⟨52, _⟩ => ⟨S8192x5632, .f32⟩
  | .hbm, ⟨53, _⟩ => ⟨S8192x2048, .f32⟩
  | .hbm, ⟨54, _⟩ => ⟨S8192x5632, .f32⟩
  | .hbm, ⟨55, _⟩ => ⟨S8192x5632, .f32⟩
  | .hbm, ⟨56, _⟩ => ⟨S8192x5632, .f32⟩
  | .hbm, ⟨57, _⟩ => ⟨S8192x5632, .f32⟩
  | .hbm, ⟨58, _⟩ => ⟨S8192x5632, .f32⟩
  | .hbm, ⟨59, _⟩ => ⟨S8192x5632, .f32⟩
  | .hbm, ⟨60, _⟩ => ⟨S8192x5632, .f32⟩
  | .hbm, ⟨61, _⟩ => ⟨S8192x11264, .f32⟩
  | .hbm, ⟨62, _⟩ => ⟨S_, .f32⟩
  | .hbm, ⟨63, _⟩ => ⟨S11264, .f32⟩
  | .hbm, ⟨64, _⟩ => ⟨S1x11264, .f32⟩
  | .hbm, ⟨65, _⟩ => ⟨S_, .f32⟩
  | .hbm, ⟨66, _⟩ => ⟨S11264, .f32⟩
  | .hbm, ⟨67, _⟩ => ⟨S1x11264, .f32⟩
  | .hbm, ⟨68, _⟩ => ⟨S8192x11264, .f32⟩
  | .hbm, ⟨69, _⟩ => ⟨S8192x11264, .f32⟩
  | .hbm, ⟨70, _⟩ => ⟨S8192x11264, .f32⟩
  | .hbm, ⟨71, _⟩ => ⟨S_, .f32⟩
  | .hbm, ⟨72, _⟩ => ⟨S11264, .f32⟩
  | .hbm, ⟨73, _⟩ => ⟨S1x11264, .f32⟩
  | .hbm, ⟨74, _⟩ => ⟨S_, .f32⟩
  | .hbm, ⟨75, _⟩ => ⟨S11264, .f32⟩
  | .hbm, ⟨76, _⟩ => ⟨S_, .f32⟩
  | .hbm, ⟨77, _⟩ => ⟨S8194x11264, .f32⟩
  | .hbm, ⟨78, _⟩ => ⟨S1x11264, .f32⟩
  | .hbm, ⟨79, _⟩ => ⟨S_, .f32⟩
  | .hbm, ⟨80, _⟩ => ⟨S3x11264, .f32⟩
  | .hbm, ⟨81, _⟩ => ⟨S8192x11264, .f32⟩
  | .hbm, ⟨82, _⟩ => ⟨S8192x11264, .f32⟩
  | .hbm, ⟨83, _⟩ => ⟨S8192x11264, .f32⟩
  | .hbm, ⟨84, _⟩ => ⟨S_, .f32⟩
  | .hbm, ⟨85, _⟩ => ⟨S11264, .f32⟩
  | .hbm, ⟨86, _⟩ => ⟨S1x11264, .f32⟩
  | .hbm, ⟨87, _⟩ => ⟨S_, .f32⟩
  | .hbm, ⟨88, _⟩ => ⟨S11264, .f32⟩
  | .hbm, ⟨89, _⟩ => ⟨S_, .f32⟩
  | .hbm, ⟨90, _⟩ => ⟨S8194x11264, .f32⟩
  | .hbm, ⟨91, _⟩ => ⟨S8194x11264, .f32⟩
  | .hbm, ⟨92, _⟩ => ⟨S1x11264, .f32⟩
  | .hbm, ⟨93, _⟩ => ⟨S_, .f32⟩
  | .hbm, ⟨94, _⟩ => ⟨S3x11264, .f32⟩
  | .hbm, ⟨95, _⟩ => ⟨S3x11264, .f32⟩
  | .hbm, ⟨96, _⟩ => ⟨S8192x11264, .f32⟩
  | .hbm, ⟨97, _⟩ => ⟨S8192x11264, .f32⟩
  | .hbm, ⟨98, _⟩ => ⟨S8192x11264, .f32⟩
  | .hbm, ⟨99, _⟩ => ⟨S_, .f32⟩
  | .hbm, ⟨100, _⟩ => ⟨S11264, .f32⟩
  | .hbm, ⟨101, _⟩ => ⟨S1x11264, .f32⟩
  | .hbm, ⟨102, _⟩ => ⟨S_, .f32⟩
  | .hbm, ⟨103, _⟩ => ⟨S11264, .f32⟩
  | .hbm, ⟨104, _⟩ => ⟨S_, .f32⟩
  | .hbm, ⟨105, _⟩ => ⟨S8194x11264, .f32⟩
  | .hbm, ⟨106, _⟩ => ⟨S8194x11264, .f32⟩
  | .hbm, ⟨107, _⟩ => ⟨S1x11264, .f32⟩
  | .hbm, ⟨108, _⟩ => ⟨S_, .f32⟩
  | .hbm, ⟨109, _⟩ => ⟨S3x11264, .f32⟩
  | .hbm, ⟨110, _⟩ => ⟨S3x11264, .f32⟩
  | .hbm, ⟨111, _⟩ => ⟨S2x11264, .f32⟩
  | .hbm, ⟨112, _⟩ => ⟨S8192x11264, .f32⟩
  | .hbm, ⟨113, _⟩ => ⟨S_, .f32⟩
  | .hbm, ⟨114, _⟩ => ⟨S4x11264, .f32⟩
  | .hbm, ⟨115, _⟩ => ⟨S8x11264, .f32⟩
  | .hbm, ⟨116, _⟩ => ⟨S8192x5632, .f32⟩
  | .hbm, ⟨117, _⟩ => ⟨S8192x5632, .f32⟩
  | .hbm, ⟨118, _⟩ => ⟨S1x8192x5632, .f32⟩
  | .hbm, ⟨119, _⟩ => ⟨S1x8192x5632, .f32⟩
  | .hbm, ⟨120, _⟩ => ⟨S2x8192x5632, .f32⟩
  | .hbm, ⟨121, _⟩ => ⟨S2x8192x5632, .bf16⟩
  | .hbm, ⟨122, _⟩ => ⟨S8x5632, .f32⟩
  | .hbm, ⟨123, _⟩ => ⟨S8x5632, .f32⟩
  | .hbm, ⟨124, _⟩ => ⟨S1x8x5632, .f32⟩
  | .hbm, ⟨125, _⟩ => ⟨S1x8x5632, .f32⟩
  | .hbm, ⟨126, _⟩ => ⟨S2x8x5632, .f32⟩
  | _, _ => ⟨S8192x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v31_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v31_1 : Ref sig .tc := ⟨.hbm, 50, rfl⟩
abbrev main_v31_0 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v37 : Ref sig .tc := ⟨.hbm, 60, rfl⟩
abbrev main_v38 : Ref sig .tc := ⟨.hbm, 61, rfl⟩
abbrev main_cst_2 : Ref sig .tc := ⟨.hbm, 62, rfl⟩
abbrev main_v39 : Ref sig .tc := ⟨.hbm, 63, rfl⟩
abbrev main_v40 : Ref sig .tc := ⟨.hbm, 64, rfl⟩
abbrev main_cst_3 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_4 : Ref sig .tc := ⟨.hbm, 71, rfl⟩
abbrev main_v46 : Ref sig .tc := ⟨.hbm, 72, rfl⟩
abbrev main_v47 : Ref sig .tc := ⟨.hbm, 73, rfl⟩
abbrev main_cst_5 : Ref sig .tc := ⟨.hbm, 74, rfl⟩
abbrev main_v48 : Ref sig .tc := ⟨.hbm, 75, rfl⟩
abbrev main_cst_6 : Ref sig .tc := ⟨.hbm, 76, rfl⟩
abbrev main_v49 : Ref sig .tc := ⟨.hbm, 77, rfl⟩
abbrev main_v50 : Ref sig .tc := ⟨.hbm, 78, rfl⟩
abbrev main_cst_7 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_8 : Ref sig .tc := ⟨.hbm, 84, rfl⟩
abbrev main_v55 : Ref sig .tc := ⟨.hbm, 85, rfl⟩
abbrev main_v56 : Ref sig .tc := ⟨.hbm, 86, rfl⟩
abbrev main_cst_9 : Ref sig .tc := ⟨.hbm, 87, rfl⟩
abbrev main_v57 : Ref sig .tc := ⟨.hbm, 88, rfl⟩
abbrev main_cst_10 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_11 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_12 : Ref sig .tc := ⟨.hbm, 99, rfl⟩
abbrev main_v66 : Ref sig .tc := ⟨.hbm, 100, rfl⟩
abbrev main_v67 : Ref sig .tc := ⟨.hbm, 101, rfl⟩
abbrev main_cst_13 : Ref sig .tc := ⟨.hbm, 102, rfl⟩
abbrev main_v68 : Ref sig .tc := ⟨.hbm, 103, rfl⟩
abbrev main_cst_14 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_15 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_16 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩

abbrev nD : Nat := 1
abbrev τ : Topo := Topo.v7x

variable {F : FTy → Type} [FloatOps F]
-- ==== Kernel2.lean ====
abbrev S8192x2048 : Shape := ⟨2, ![8192, 2048]⟩
abbrev S2x8192x5632 : Shape := ⟨3, ![2, 8192, 5632]⟩
abbrev S8x2048x1408 : Shape := ⟨3, ![8, 2048, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x8192x5632, .bf16⟩
  | .hbm, ⟨2, _⟩ => ⟨S8x2048x1408, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x2048 : Shape := ⟨2, ![8192, 2048]⟩
abbrev S2x8192x5632 : Shape := ⟨3, ![2, 8192, 5632]⟩
abbrev S1x8192x5632 : Shape := ⟨3, ![1, 8192, 5632]⟩
abbrev S8192x5632 : Shape := ⟨2, ![8192, 5632]⟩
abbrev S8192x11264 : Shape := ⟨2, ![8192, 11264]⟩
abbrev S_ : Shape := ⟨0, ![]⟩
abbrev S2048x11264 : Shape := ⟨2, ![2048, 11264]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x8192x5632, .bf16⟩
  | .hbm, ⟨2, _⟩ => ⟨S1x8192x5632, .bf16⟩
  | .hbm, ⟨3, _⟩ => ⟨S8192x5632, .bf16⟩
  | .hbm, ⟨4, _⟩ => ⟨S1x8192x5632, .bf16⟩
  | .hbm, ⟨5, _⟩ => ⟨S8192x5632, .bf16⟩
  | .hbm, ⟨6, _⟩ => ⟨S8192x11264, .bf16⟩
  | .hbm, ⟨7, _⟩ => ⟨S_, .f32⟩
  | .hbm, ⟨8, _⟩ => ⟨S2048x11264, .f32⟩
  | .hbm, ⟨9, _⟩ => ⟨S8192x2048, .f32⟩
  | .hbm, ⟨10, _⟩ => ⟨S8192x11264, .f32⟩
  | .hbm, ⟨11, _⟩ => ⟨S8192x11264, .f32⟩
  | .hbm, ⟨12, _⟩ => ⟨S11264x2048, .f32⟩
  | .hbm, ⟨13, _⟩ => ⟨S2048x11264, .f32⟩
  | .hbm, ⟨14, _⟩ => ⟨S2048x8x1408, .f32⟩
  | .hbm, ⟨15, _⟩ => ⟨S8x2048x1408, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel3.lean ====
abbrev S2x8192x5632 : Shape := ⟨3, ![2, 8192, 5632]⟩
abbrev S2048x11264 : Shape := ⟨2, ![2048, 11264]⟩
abbrev S8192x2048 : Shape := ⟨2, ![8192, 2048]⟩
abbrev S1x512x2816 : Shape := ⟨3, ![1, 512, 2816]⟩
abbrev S2048x2816 : Shape := ⟨2, ![2048, 2816]⟩
abbrev S512x2048 : Shape := ⟨2, ![512, 2048]⟩
abbrev S512x2816 : Shape := ⟨2, ![512, 2816]⟩

abbrev nBuf : Space → Nat
  | .hbm => 3
  | .vmem => 7
  | .smem => 0
  | _ => 0

abbrev bufTy : (tb : Table) → Fin (tcTables nBuf tb) → BufTy
  | .hbm, ⟨0, _⟩ => ⟨S2x8192x5632, .bf16⟩
  | .hbm, ⟨1, _⟩ => ⟨S2048x11264, .bf16⟩
  | .hbm, ⟨2, _⟩ => ⟨S8192x2048, .f32⟩
  | .local _ .vmem, ⟨0, _⟩ => ⟨S1x512x2816, .bf16⟩
  | .local _ .vmem, ⟨1, _⟩ => ⟨S1x512x2816, .bf16⟩
  | .local _ .vmem, ⟨2, _⟩ => ⟨S2048x2816, .bf16⟩
  | .local _ .vmem, ⟨3, _⟩ => ⟨S2048x2816, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S2x8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 16, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference3Ideal.lean ====
abbrev S2x8192x5632 : Shape := ⟨3, ![2, 8192, 5632]⟩
abbrev S2048x11264 : Shape := ⟨2, ![2048, 11264]⟩
abbrev S1x8192x5632 : Shape := ⟨3, ![1, 8192, 5632]⟩
abbrev S8192x5632 : Shape := ⟨2, ![8192, 5632]⟩
abbrev S8192x11264 : Shape := ⟨2, ![8192, 11264]⟩
abbrev S_ : Shape := ⟨0, ![]⟩
abbrev S8192x2048 : Shape := ⟨2, ![8192, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2x8192x5632, .bf16⟩
  | .hbm, ⟨1, _⟩ => ⟨S2048x11264, .bf16⟩
  | .hbm, ⟨2, _⟩ => ⟨S1x8192x5632, .bf16⟩
  | .hbm, ⟨3, _⟩ => ⟨S8192x5632, .bf16⟩
  | .hbm, ⟨4, _⟩ => ⟨S1x8192x5632, .bf16⟩
  | .hbm, ⟨5, _⟩ => ⟨S8192x5632, .bf16⟩
  | .hbm, ⟨6, _⟩ => ⟨S8192x11264, .bf16⟩
  | .hbm, ⟨7, _⟩ => ⟨S_, .f32⟩
  | .hbm, ⟨8, _⟩ => ⟨S8192x2048, .f32⟩
  | .hbm, ⟨9, _⟩ => ⟨S2048x11264, .f32⟩
  | .hbm, ⟨10, _⟩ => ⟨S8192x11264, .f32⟩
  | .hbm, ⟨11, _⟩ => ⟨S8192x11264, .f32⟩
  | .hbm, ⟨12, _⟩ => ⟨S8192x2048, .f32⟩
  | _, _ => ⟨S2x8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel4.lean ====
abbrev S8192x5632 : Shape := ⟨2, ![8192, 5632]⟩
abbrev S8192x2048 : Shape := ⟨2, ![8192, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x5632 : Shape := ⟨2, ![8192, 5632]⟩
abbrev S5632x2048 : Shape := ⟨2, ![5632, 2048]⟩
abbrev S8192x2048 : Shape := ⟨2, ![8192, 2048]⟩
abbrev S512x2816 : Shape := ⟨2, ![512, 2816]⟩
abbrev S2816x2048 : Shape := ⟨2, ![2816, 2048]⟩
abbrev S512x2048 : Shape := ⟨2, ![512, 2048]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .local _ .vmem, ⟨0, _⟩ => ⟨S512x2816, .bf16⟩
  | .local _ .vmem, ⟨1, _⟩ => ⟨S512x2816, .bf16⟩
  | .local _ .vmem, ⟨2, _⟩ => ⟨S2816x2048, .bf16⟩
  | .local _ .vmem, ⟨3, _⟩ => ⟨S2816x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 16, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2816x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]
-- ==== Reference5Ideal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S8192x2048 : Shape := ⟨2, ![8192, 2048]⟩
abbrev S2048x11264 : Shape := ⟨2, ![2048, 11264]⟩
abbrev S3x11264 : Shape := ⟨2, ![3, 11264]⟩
abbrev S1x11264 : Shape := ⟨2, ![1, 11264]⟩
abbrev S2x8192x5632 : Shape := ⟨3, ![2, 8192, 5632]⟩
abbrev S8192x5632 : Shape := ⟨2, ![8192, 5632]⟩
abbrev S512x2048 : Shape := ⟨2, ![512, 2048]⟩
abbrev S2048x1408 : Shape := ⟨2, ![2048, 1408]⟩
abbrev S3x1408 : Shape := ⟨2, ![3, 1408]⟩
abbrev S1x1408 : Shape := ⟨2, ![1, 1408]⟩
abbrev S2x512x1408 : Shape := ⟨3, ![2, 512, 1408]⟩
abbrev S512x1408 : Shape := ⟨2, ![512, 1408]⟩
abbrev S8x1408 : Shape := ⟨2, ![8, 1408]⟩
abbrev S1x512x1408 : Shape := ⟨3, ![1, 512, 1408]⟩
abbrev S504x1408 : Shape := ⟨2, ![504, 1408]⟩

abbrev nBuf : Space → Nat
  | .hbm => 7
  | .vmem => 22
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S3x11264, .f32⟩
  | .hbm, ⟨3, _⟩ => ⟨S1x11264, .f32⟩
  | .hbm, ⟨4, _⟩ => ⟨S2x8192x5632, .bf16⟩
  | .hbm, ⟨5, _⟩ => ⟨S2x8192x5632, .bf16⟩
  | .hbm, ⟨6, _⟩ => ⟨S8192x5632, .bf16⟩
  | .local _ .vmem, ⟨0, _⟩ => ⟨S512x2048, .bf16⟩
  | .local _ .vmem, ⟨1, _⟩ => ⟨S512x2048, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S3x1408, .f32⟩
  | .local _ .vmem, ⟨7, _⟩ => ⟨S3x1408, .f32⟩
  | .local _ .vmem, ⟨8, _⟩ => ⟨S3x1408, .f32⟩
  | .local _ .vmem, ⟨9, _⟩ => ⟨S3x1408, .f32⟩
  | .local _ .vmem, ⟨10, _⟩ => ⟨S1x1408, .f32⟩
  | .local _ .vmem, ⟨11, _⟩ => ⟨S1x1408, .f32⟩
  | .local _ .vmem, ⟨12, _⟩ => ⟨S1x1408, .f32⟩
  | .local _ .vmem, ⟨13, _⟩ => ⟨S1x1408, .f32⟩
  | .local _ .vmem, ⟨14, _⟩ => ⟨S2x512x1408, .bf16⟩
  | .local _ .vmem, ⟨15, _⟩ => ⟨S2x512x1408, .bf16⟩
  | .local _ .vmem, ⟨16, _⟩ => ⟨S2x512x1408, .bf16⟩
  | .local _ .vmem, ⟨17, _⟩ => ⟨S2x512x1408, .bf16⟩
  | .local _ .vmem, ⟨18, _⟩ => ⟨S512x1408, .bf16⟩
  | .local _ .vmem, ⟨19, _⟩ => ⟨S512x1408, .bf16⟩
  | .local _ .vmem, ⟨20, _⟩ => ⟨S8x1408, .f32⟩
  | .local _ .vmem, ⟨21, _⟩ => ⟨S8x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference6Ideal.lean ====
abbrev S8192x2048 : Shape := ⟨2, ![8192, 2048]⟩
abbrev S2048x11264 : Shape := ⟨2, ![2048, 11264]⟩
abbrev S3x11264 : Shape := ⟨2, ![3, 11264]⟩
abbrev S1x11264 : Shape := ⟨2, ![1, 11264]⟩
abbrev S8192x11264 : Shape := ⟨2, ![8192, 11264]⟩
abbrev S_ : Shape := ⟨0, ![]⟩
abbrev S2x11264 : Shape := ⟨2, ![2, 11264]⟩
abbrev S8194x11264 : Shape := ⟨2, ![8194, 11264]⟩
abbrev S11264 : Shape := ⟨1, ![11264]⟩
abbrev S8192x5632 : Shape := ⟨2, ![8192, 5632]⟩
abbrev S1x8192x5632 : Shape := ⟨3, ![1, 8192, 5632]⟩
abbrev S2x8192x5632 : Shape := ⟨3, ![2, 8192, 5632]⟩

abbrev nBuf : Space → Nat
  | .hbm => 72
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S3x11264, .f32⟩
  | .hbm, ⟨3, _⟩ => ⟨S1x11264, .f32⟩
  | .hbm, ⟨4, _⟩ => ⟨S8192x2048, .f32⟩
  | .hbm, ⟨5, _⟩ => ⟨S2048x11264, .f32⟩
  | .hbm, ⟨6, _⟩ => ⟨S8192x11264, .f32⟩
  | .hbm, ⟨7, _⟩ => ⟨S_, .f32⟩
  | .hbm, ⟨8, _⟩ => ⟨S2x11264, .f32⟩
  | .hbm, ⟨9, _⟩ => ⟨S8194x11264, .f32⟩
  | .hbm, ⟨10, _⟩ => ⟨S1x11264, .f32⟩
  | .hbm, ⟨11, _⟩ => ⟨S11264, .f32⟩
  | .hbm, ⟨12, _⟩ => ⟨S8192x11264, .f32⟩
  | .hbm, ⟨13, _⟩ => ⟨S1x11264, .f32⟩
  | .hbm, ⟨14, _⟩ => ⟨S8192x11264, .f32⟩
  | .hbm, ⟨15, _⟩ => ⟨S8192x11264, .f32⟩
  | .hbm, ⟨16, _⟩ => ⟨S_, .f32⟩
  | .hbm, ⟨17, _⟩ => ⟨S8192x11264, .f32⟩
  | .hbm, ⟨18, _⟩ => ⟨S8192x11264, .f32⟩
  | .hbm, ⟨19, _⟩ => ⟨S1x11264, .f32⟩
  | .hbm, ⟨20, _⟩ => ⟨S11264, .f32⟩
  | .hbm, ⟨21, _⟩ => ⟨S8192x11264, .f32⟩
  | .hbm, ⟨22, _⟩ => ⟨S1x11264, .f32⟩
  | .hbm, ⟨23, _⟩ => ⟨S8192x11264, .f32⟩
  | .hbm, ⟨24, _⟩ => ⟨S8192x11264, .f32⟩
  | .hbm, ⟨25, _⟩ => ⟨S8192x11264, .f32⟩
  | .hbm, ⟨26, _⟩ => ⟨S1x11264, .f32⟩
  | .hbm, ⟨27, _⟩ => ⟨S11264, .f32⟩
  | .hbm, ⟨28, _⟩ => ⟨S8192x11264, .f32⟩
  | .hbm, ⟨29, _⟩ => ⟨S1x11264, .f32⟩
  | .hbm, ⟨30, _⟩ => ⟨S8192x11264, .f32⟩
  | .hbm, ⟨31, _⟩ => ⟨S8192x11264, .f32⟩
  | .hbm, ⟨32, _⟩ => ⟨S8192x11264, .f32⟩
  | .hbm, ⟨33, _⟩ => ⟨S11264, .f32⟩
  | .hbm, ⟨34, _⟩ => ⟨S1x11264, .f32⟩
  | .hbm, ⟨35, _⟩ => ⟨S8192x11264, .f32⟩
  | .hbm, ⟨36, _⟩ => ⟨S8192x11264, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S_, .f32⟩
  | .hbm, ⟨42, _⟩ => ⟨S8192x5632, .f32⟩
  | .hbm, ⟨43, _⟩ => ⟨S8192x5632, .f32⟩
  | .hbm, ⟨44, _⟩ => ⟨S_, .f32⟩
  | .hbm, ⟨45, _⟩ => ⟨S8192x5632, .f32⟩
  | .hbm, ⟨46, _⟩ => ⟨S8192x5632, .f32⟩
  | .hbm, ⟨47, _⟩ => ⟨S_, .f32⟩
  | .hbm, ⟨48, _⟩ => ⟨S8192x5632, .f32⟩
  | .hbm, ⟨49, _⟩ => ⟨S8192x5632, .f32⟩
  | .hbm, ⟨50, _⟩ => ⟨S8192x5632, .f32⟩
  | .hbm, ⟨51, _⟩ => ⟨S8192x5632, .f32⟩
  | .hbm, ⟨52, _⟩ => ⟨S8192x5632, .f32⟩
  | .hbm, ⟨53, _⟩ => ⟨S_, .f32⟩
  | .hbm, ⟨54, _⟩ => ⟨S8192x5632, .f32⟩
  | .hbm, ⟨55, _⟩ => ⟨S8192x5632, .f32⟩
  | .hbm, ⟨56, _⟩ => ⟨S8192x5632, .f32⟩
  | .hbm, ⟨57, _⟩ => ⟨S8192x5632, .f32⟩
  | .hbm, ⟨58, _⟩ => ⟨S8192x5632, .f32⟩
  | .hbm, ⟨59, _⟩ => ⟨S8192x5632, .f32⟩
  | .hbm, ⟨60, _⟩ => ⟨S8192x5632, .f32⟩
  | .hbm, ⟨61, _⟩ => ⟨S8192x5632, .f32⟩
  | .hbm, ⟨62, _⟩ => ⟨S8192x5632, .f32⟩
  | .hbm, ⟨63, _⟩ => ⟨S1x8192x5632, .f32⟩
  | .hbm, ⟨64, _⟩ => ⟨S1x8192x5632, .f32⟩
  | .hbm, ⟨65, _⟩ => ⟨S2x8192x5632, .f32⟩
  | .hbm, ⟨66, _⟩ => ⟨S2x8192x5632, .bf16⟩
  | .hbm, ⟨67, _⟩ => ⟨S1x8192x5632, .f32⟩
  | .hbm, ⟨68, _⟩ => ⟨S1x8192x5632, .f32⟩
  | .hbm, ⟨69, _⟩ => ⟨S2x8192x5632, .f32⟩
  | .hbm, ⟨70, _⟩ => ⟨S2x8192x5632, .bf16⟩
  | .hbm, ⟨71, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v33_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v33_1 : Ref sig .tc := ⟨.hbm, 50, rfl⟩
abbrev main_v33_0 : Ref sig .tc := ⟨.hbm, 51, rfl⟩
abbrev main_v34 : Ref sig .tc := ⟨.hbm, 52, rfl⟩
abbrev main_cst_1 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩

abbrev nD : Nat := 1
abbrev τ : Topo := Topo.v7x

variable {F : FTy → Type} [FloatOps F]
-- ==== Kernel7.lean ====
abbrev S8192x2048 : Shape := ⟨2, ![8192, 2048]⟩
abbrev S2048x2560 : Shape := ⟨2, ![2048, 2560]⟩
abbrev S8192x2560 : Shape := ⟨2, ![8192, 2560]⟩
abbrev S512x2048 : Shape := ⟨2, ![512, 2048]⟩
abbrev S512x2560 : Shape := ⟨2, ![512, 2560]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x2560, .bf16⟩
  | .hbm, ⟨2, _⟩ => ⟨S8192x2560, .f32⟩
  | .local _ .vmem, ⟨0, _⟩ => ⟨S512x2048, .bf16⟩
  | .local _ .vmem, ⟨1, _⟩ => ⟨S512x2048, .bf16⟩
  | .local _ .vmem, ⟨2, _⟩ => ⟨S2048x2560, .bf16⟩
  | .local _ .vmem, ⟨3, _⟩ => ⟨S512x2560, .f32⟩
  | .local _ .vmem, ⟨4, _⟩ => ⟨S512x2560, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S2048x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference7Ideal.lean ====
abbrev S8192x2048 : Shape := ⟨2, ![8192, 2048]⟩
abbrev S2048x2560 : Shape := ⟨2, ![2048, 2560]⟩
abbrev S8192x2560 : Shape := ⟨2, ![8192, 2560]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2560, .bf16⟩
  | .hbm, ⟨2, _⟩ => ⟨S8192x2048, .f32⟩
  | .hbm, ⟨3, _⟩ => ⟨S2048x2560, .f32⟩
  | .hbm, ⟨4, _⟩ => ⟨S8192x2560, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]
-- ==== Reference8Ideal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference9Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8192x2048 : Shape := ⟨2, ![8192, 2048]⟩
abbrev S8192x2560 : Shape := ⟨2, ![8192, 2560]⟩
abbrev S2048x2560 : Shape := ⟨2, ![2048, 2560]⟩
abbrev S2048x1024 : Shape := ⟨2, ![2048, 1024]⟩
abbrev S2048x1280 : Shape := ⟨2, ![2048, 1280]⟩
abbrev S1024x1280 : Shape := ⟨2, ![1024, 1280]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2560, .bf16⟩
  | .hbm, ⟨2, _⟩ => ⟨S2048x2560, .f32⟩
  | .local _ .vmem, ⟨0, _⟩ => ⟨S2048x1024, .bf16⟩
  | .local _ .vmem, ⟨1, _⟩ => ⟨S2048x1024, .bf16⟩
  | .local _ .vmem, ⟨2, _⟩ => ⟨S2048x1280, .bf16⟩
  | .local _ .vmem, ⟨3, _⟩ => ⟨S2048x1280, .bf16⟩
  | .local _ .vmem, ⟨4, _⟩ => ⟨S1024x1280, .f32⟩
  | .local _ .vmem, ⟨5, _⟩ => ⟨S1024x1280, .f32⟩
  | .local _ .vmem, ⟨6, _⟩ => ⟨S1024x1280, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x2048 : Shape := ⟨2, ![8192, 2048]⟩
abbrev S8192x2560 : Shape := ⟨2, ![8192, 2560]⟩
abbrev S_ : Shape := ⟨0, ![]⟩
abbrev S2048x2560 : Shape := ⟨2, ![2048, 2560]⟩
abbrev S2560x2048 : Shape := ⟨2, ![2560, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2560, .bf16⟩
  | .hbm, ⟨2, _⟩ => ⟨S_, .f32⟩
  | .hbm, ⟨3, _⟩ => ⟨S2048x2560, .f32⟩
  | .hbm, ⟨4, _⟩ => ⟨S8192x2048, .f32⟩
  | .hbm, ⟨5, _⟩ => ⟨S8192x2560, .f32⟩
  | .hbm, ⟨6, _⟩ => ⟨S8192x2560, .f32⟩
  | .hbm, ⟨7, _⟩ => ⟨S2560x2048, .f32⟩
  | .hbm, ⟨8, _⟩ => ⟨S2048x2560, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S8192x2560 : Shape := ⟨2, ![8192, 2560]⟩
abbrev S2048x2560 : Shape := ⟨2, ![2048, 2560]⟩
abbrev S8192x2048 : Shape := ⟨2, ![8192, 2048]⟩
abbrev S512x2560 : Shape := ⟨2, ![512, 2560]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2560, .bf16⟩
  | .hbm, ⟨1, _⟩ => ⟨S2048x2560, .bf16⟩
  | .hbm, ⟨2, _⟩ => ⟨S8192x2048, .f32⟩
  | .local _ .vmem, ⟨0, _⟩ => ⟨S512x2560, .bf16⟩
  | .local _ .vmem, ⟨1, _⟩ => ⟨S512x2560, .bf16⟩
  | .local _ .vmem, ⟨2, _⟩ => ⟨S2048x2560, .bf16⟩
  | .local _ .vmem, ⟨3, _⟩ => ⟨S512x2048, .f32⟩
  | .local _ .vmem, ⟨4, _⟩ => ⟨S512x2048, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S2048x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference12Ideal.lean ====
abbrev S8192x2560 : Shape := ⟨2, ![8192, 2560]⟩
abbrev S2048x2560 : Shape := ⟨2, ![2048, 2560]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S2048x2560, .bf16⟩
  | .hbm, ⟨2, _⟩ => ⟨S_, .f32⟩
  | .hbm, ⟨3, _⟩ => ⟨S8192x2048, .f32⟩
  | .hbm, ⟨4, _⟩ => ⟨S2048x2560, .f32⟩
  | .hbm, ⟨5, _⟩ => ⟨S8192x2560, .f32⟩
  | .hbm, ⟨6, _⟩ => ⟨S8192x2560, .f32⟩
  | .hbm, ⟨7, _⟩ => ⟨S8192x2048, .f32⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_16 : BitVec 32 := 0#32
  let v35 : BitVec 1 := Scalar.cmpi .ne v34 c0_i32_16
  v35

def k0_cond2 (i : grid0.Coords) : BitVec 1 :=
  let arg0 : BitVec 32 := BitVec.ofNat 32 (i 0).val
  let c0_i32_17 : BitVec 32 := 0#32
  let v36 : BitVec 1 := Scalar.cmpi .sgt arg0 c0_i32_17
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference13Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel14.lean ====
abbrev S8192x2048 : Shape := ⟨2, ![8192, 2048]⟩
abbrev S1x2048 : Shape := ⟨2, ![1, 2048]⟩
abbrev S4x512x512 : Shape := ⟨3, ![4, 512, 512]⟩
abbrev S_ : Shape := ⟨0, ![]⟩
abbrev S8192 : Shape := ⟨1, ![8192]⟩
abbrev S8192x1 : Shape := ⟨2, ![8192, 1]⟩
abbrev S8192x512 : Shape := ⟨2, ![8192, 512]⟩
abbrev S2x512 : Shape := ⟨2, ![2, 512]⟩
abbrev S8194x512 : Shape := ⟨2, ![8194, 512]⟩
abbrev S4x512 : Shape := ⟨2, ![4, 512]⟩
abbrev S8196x512 : Shape := ⟨2, ![8196, 512]⟩
abbrev S8x512 : Shape := ⟨2, ![8, 512]⟩
abbrev S8200x512 : Shape := ⟨2, ![8200, 512]⟩
abbrev S16x512 : Shape := ⟨2, ![16, 512]⟩
abbrev S8208x512 : Shape := ⟨2, ![8208, 512]⟩
abbrev S256x2048 : Shape := ⟨2, ![256, 2048]⟩
abbrev S32x2048 : Shape := ⟨2, ![32, 2048]⟩
abbrev S288x2048 : Shape := ⟨2, ![288, 2048]⟩
abbrev S256x1 : Shape := ⟨2, ![256, 1]⟩
abbrev S32x1 : Shape := ⟨2, ![32, 1]⟩
abbrev S256x512 : Shape := ⟨2, ![256, 512]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S32x512 : Shape := ⟨2, ![32, 512]⟩
abbrev S8x2048 : Shape := ⟨2, ![8, 2048]⟩
abbrev S280x512 : Shape := ⟨2, ![280, 512]⟩
abbrev S256 : Shape := ⟨1, ![256]⟩
abbrev S2048 : Shape := ⟨1, ![2048]⟩

abbrev nBuf : Space → Nat
  | .hbm => 157
  | .vmem => 23
  | .smem => 0
  | _ => 0

abbrev hbmTy0_0 (i : Nat) : BufTy := match i % 128 with
  | 0 => ⟨S8192x2048, .f32⟩
  | 1 => ⟨S8192x2048, .f32⟩
  | 2 => ⟨S1x2048, .f32⟩
  | 3 => ⟨S4x512x512, .f32⟩
  | 4 => ⟨S1x2048, .f32⟩
  | 5 => ⟨S8192x2048, .f32⟩
  | 6 => ⟨S_, .f32⟩
  | 7 => ⟨S8192, .f32⟩
  | 8 => ⟨S8192x1, .f32⟩
  | 9 => ⟨S_, .f32⟩
  | 10 => ⟨S8192x1, .f32⟩
  | 11 => ⟨S8192x1, .f32⟩
  | 12 => ⟨S_, .f32⟩
  | 13 => ⟨S8192x1, .f32⟩
  | 14 => ⟨S8192x1, .f32⟩
  | 15 => ⟨S8192x1, .f32⟩
  | 16 => ⟨S8192x2048, .f32⟩
  | 17 => ⟨S8192x2048, .f32⟩
  | 18 => ⟨S8192x2048, .f32⟩
  | 19 => ⟨S8192x2048, .f32⟩
  | 20 => ⟨S8192, .i32⟩
  | 21 => ⟨S8192x512, .f32⟩
  | 22 => ⟨S_, .f32⟩
  | 23 => ⟨S2x512, .f32⟩
  | 24 => ⟨S8194x512, .f32⟩
  | 25 => ⟨S8192x512, .f32⟩
  | 26 => ⟨S_, .f32⟩
  | 27 => ⟨S8192x512, .f32⟩
  | 28 => ⟨S8192x512, .f32⟩
  | 29 => ⟨S8192x512, .f32⟩
  | 30 => ⟨S8192x512, .f32⟩
  | 31 => ⟨S_, .i32⟩
  | 32 => ⟨S8192, .i32⟩
  | 33 => ⟨S8192, .i32⟩
  | 34 => ⟨S_, .i32⟩
  | 35 => ⟨S8192, .i32⟩
  | 36 => ⟨S8192, .i32⟩
  | 37 => ⟨S8192, .f32⟩
  | 38 => ⟨S8192x1, .f32⟩
  | 39 => ⟨S8192x512, .f32⟩
  | 40 => ⟨S8192x512, .f32⟩
  | 41 => ⟨S8192x512, .f32⟩
  | 42 => ⟨S8192x512, .f32⟩
  | 43 => ⟨S_, .f32⟩
  | 44 => ⟨S4x512, .f32⟩
  | 45 => ⟨S8196x512, .f32⟩
  | 46 => ⟨S8192x512, .f32⟩
  | 47 => ⟨S_, .f32⟩
  | 48 => ⟨S8192x512, .f32⟩
  | 49 => ⟨S8192x512, .f32⟩
  | 50 => ⟨S8192x512, .f32⟩
  | 51 => ⟨S8192x512, .f32⟩
  | 52 => ⟨S8192x512, .f32⟩
  | 53 => ⟨S8192x512, .f32⟩
  | 54 => ⟨S8192x512, .f32⟩
  | 55 => ⟨S8192x512, .f32⟩
  | 56 => ⟨S_, .i32⟩
  | 57 => ⟨S8192, .i32⟩
  | 58 => ⟨S8192, .i32⟩
  | 59 => ⟨S_, .i32⟩
  | 60 => ⟨S8192, .i32⟩
  | 61 => ⟨S8192, .i32⟩
  | 62 => ⟨S8192, .f32⟩
  | 63 => ⟨S8192x1, .f32⟩
  | 64 => ⟨S8192x512, .f32⟩
  | 65 => ⟨S8192x512, .f32⟩
  | 66 => ⟨S8192x512, .f32⟩
  | 67 => ⟨S8192x512, .f32⟩
  | 68 => ⟨S_, .f32⟩
  | 69 => ⟨S8x512, .f32⟩
  | 70 => ⟨S8200x512, .f32⟩
  | 71 => ⟨S8192x512, .f32⟩
  | 72 => ⟨S_, .f32⟩
  | 73 => ⟨S8192x512, .f32⟩
  | 74 => ⟨S8192x512, .f32⟩
  | 75 => ⟨S8192x512, .f32⟩
  | 76 => ⟨S8192x512, .f32⟩
  | 77 => ⟨S8192x512, .f32⟩
  | 78 => ⟨S8192x512, .f32⟩
  | 79 => ⟨S8192x512, .f32⟩
  | 80 => ⟨S8192x512, .f32⟩
  | 81 => ⟨S8192x512, .f32⟩
  | 82 => ⟨S8192x512, .f32⟩
  | 83 => ⟨S8192x512, .f32⟩
  | 84 => ⟨S8192x512, .f32⟩
  | 85 => ⟨S8192x512, .f32⟩
  | 86 => ⟨S8192x512, .f32⟩
  | 87 => ⟨S8192x512, .f32⟩
  | 88 => ⟨S8192x512, .f32⟩
  | 89 => ⟨S_, .i32⟩
  | 90 => ⟨S8192, .i32⟩
  | 91 => ⟨S8192, .i32⟩
  | 92 => ⟨S_, .i32⟩
  | 93 => ⟨S8192, .i32⟩
  | 94 => ⟨S8192, .i32⟩
  | 95 => ⟨S8192, .f32⟩
  | 96 => ⟨S8192x1, .f32⟩
  | 97 => ⟨S8192x512, .f32⟩
  | 98 => ⟨S8192x512, .f32⟩
  | 99 => ⟨S8192x512, .f32⟩
  | 100 => ⟨S8192x512, .f32⟩
  | 101 => ⟨S_, .f32⟩
  | 102 => ⟨S16x512, .f32⟩
  | 103 => ⟨S8208x512, .f32⟩
  | 104 => ⟨S8192x512, .f32⟩
  | 105 => ⟨S_, .f32⟩
  | 106 => ⟨S8192x512, .f32⟩
  | 107 => ⟨S8192x512, .f32⟩
  | 108 => ⟨S8192x512, .f32⟩
  | 109 => ⟨S8192x512, .f32⟩
  | 110 => ⟨S8192x512, .f32⟩
  | 111 => ⟨S8192x512, .f32⟩
  | 112 => ⟨S8192x512, .f32⟩
  | 113 => ⟨S8192x512, .f32⟩
  | 114 => ⟨S8192x512, .f32⟩
  | 115 => ⟨S8192x512, .f32⟩
  | 116 => ⟨S8192x512, .f32⟩
  | 117 => ⟨S8192x512, .f32⟩
  | 118 => ⟨S8192x512, .f32⟩
  | 119 => ⟨S8192x512, .f32⟩
  | 120 => ⟨S8192x512, .f32⟩
  | 121 => ⟨S8192x512, .f32⟩
  | 122 => ⟨S8192x512, .f32⟩
  | 123 => ⟨S8192x512, .f32⟩
  | 124 => ⟨S8192x512, .f32⟩
  | 125 => ⟨S8192x512, .f32⟩
  | 126 => ⟨S8192x512, .f32⟩
  | 127 => ⟨S8192x512, .f32⟩
  | _ => ⟨S8192x2048, .f32⟩

abbrev hbmTy0_1 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S8192x512, .f32⟩
  | 5 => ⟨S8192x512, .f32⟩
  | 6 => ⟨S8192x512, .f32⟩
  | 7 => ⟨S8192x512, .f32⟩
  | 8 => ⟨S8192x512, .f32⟩
  | 9 => ⟨S8192x512, .f32⟩
  | 10 => ⟨S_, .i32⟩
  | 11 => ⟨S8192, .i32⟩
  | 12 => ⟨S8192, .i32⟩
  | 13 => ⟨S_, .i32⟩
  | 14 => ⟨S8192, .i32⟩
  | 15 => ⟨S8192, .i32⟩
  | 16 => ⟨S8192, .f32⟩
  | 17 => ⟨S8192x1, .f32⟩
  | 18 => ⟨S8192x512, .f32⟩
  | 19 => ⟨S8192x512, .f32⟩
  | 20 => ⟨S8192x512, .f32⟩
  | 21 => ⟨S8192x2048, .f32⟩
  | 22 => ⟨S4x512x512, .bf16⟩
  | 23 => ⟨S8192x2048, .bf16⟩
  | 24 => ⟨S8192x2048, .f32⟩
  | 25 => ⟨S8192x2048, .bf16⟩
  | 26 => ⟨S4x512x512, .f32⟩
  | 27 => ⟨S1x2048, .f32⟩
  | 28 => ⟨S1x2048, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | .local _ .vmem, ⟨0, _⟩ => ⟨S256x2048, .f32⟩
  | .local _ .vmem, ⟨1, _⟩ => ⟨S256x2048, .f32⟩
  | .local _ .vmem, ⟨2, _⟩ => ⟨S32x2048, .f32⟩
  | .local _ .vmem, ⟨3, _⟩ => ⟨S32x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S4x512x512, .bf16⟩
  | .local _ .vmem, ⟨8, _⟩ => ⟨S1x2048, .f32⟩
  | .local _ .vmem, ⟨9, _⟩ => ⟨S256x2048, .bf16⟩
  | .local _ .vmem, ⟨10, _⟩ => ⟨S256x2048, .bf16⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | .local _ .vmem, ⟨15, _⟩ => ⟨S4x512x512, .f32⟩
  | .local _ .vmem, ⟨16, _⟩ => ⟨S1x2048, .f32⟩
  | .local _ .vmem, ⟨17, _⟩ => ⟨S1x2048, .f32⟩
  | .local _ .vmem, ⟨18, _⟩ => ⟨S288x2048, .f32⟩
  | .local _ .vmem, ⟨19, _⟩ => ⟨S288x2048, .f32⟩
  | .local _ .vmem, ⟨20, _⟩ => ⟨S288x2048, .f32⟩
  | .local _ .vmem, ⟨21, _⟩ => ⟨S288x2048, .f32⟩
  | .local _ .vmem, ⟨22, _⟩ => ⟨S288x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c_7 : Ref sig .tc := ⟨.hbm, 56, rfl⟩
abbrev main_v42 : Ref sig .tc := ⟨.hbm, 57, rfl⟩
abbrev main_v43 : Ref sig .tc := ⟨.hbm, 58, rfl⟩
abbrev main_c_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_10 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_c_11 : Ref sig .tc := ⟨.hbm, 89, rfl⟩
abbrev main_v71 : Ref sig .tc := ⟨.hbm, 90, rfl⟩
abbrev main_v72 : Ref sig .tc := ⟨.hbm, 91, rfl⟩
abbrev main_c_12 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_13 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_14 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_c_15 : Ref sig .tc := ⟨.hbm, 138, rfl⟩
abbrev main_v116 : Ref sig .tc := ⟨.hbm, 139, rfl⟩
abbrev main_v117 : Ref sig .tc := ⟨.hbm, 140, rfl⟩
abbrev main_c_16 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128_0 : Ref sig .tc := ⟨.hbm, 152, rfl⟩
abbrev main_v128_1 : Ref sig .tc := ⟨.hbm, 153, rfl⟩
abbrev main_v128_2 : Ref sig .tc := ⟨.hbm, 154, rfl⟩
abbrev main_v128_3 : Ref sig .tc := ⟨.hbm, 155, rfl⟩
abbrev main_v128_4 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference14Ideal.lean ====
abbrev S8192x2048 : Shape := ⟨2, ![8192, 2048]⟩
abbrev S1x2048 : Shape := ⟨2, ![1, 2048]⟩
abbrev S4x512x512 : Shape := ⟨3, ![4, 512, 512]⟩
abbrev S_ : Shape := ⟨0, ![]⟩
abbrev S8192 : Shape := ⟨1, ![8192]⟩
abbrev S8192x1 : Shape := ⟨2, ![8192, 1]⟩
abbrev S8192x512 : Shape := ⟨2, ![8192, 512]⟩
abbrev S2x512 : Shape := ⟨2, ![2, 512]⟩
abbrev S8194x512 : Shape := ⟨2, ![8194, 512]⟩
abbrev S4x512 : Shape := ⟨2, ![4, 512]⟩
abbrev S8196x512 : Shape := ⟨2, ![8196, 512]⟩
abbrev S8x512 : Shape := ⟨2, ![8, 512]⟩
abbrev S8200x512 : Shape := ⟨2, ![8200, 512]⟩
abbrev S16x512 : Shape := ⟨2, ![16, 512]⟩
abbrev S8208x512 : Shape := ⟨2, ![8208, 512]⟩
abbrev S1x512x512 : Shape := ⟨3, ![1, 512, 512]⟩
abbrev S512x512 : Shape := ⟨2, ![512, 512]⟩
abbrev S2048 : Shape := ⟨1, ![2048]⟩

abbrev nBuf : Space → Nat
  | .hbm => 361
  | .vmem => 0
  | .smem => 0
  | _ => 0

abbrev hbmTy0_0 (i : Nat) : BufTy := match i % 128 with
  | 0 => ⟨S8192x2048, .f32⟩
  | 1 => ⟨S8192x2048, .f32⟩
  | 2 => ⟨S1x2048, .f32⟩
  | 3 => ⟨S4x512x512, .f32⟩
  | 4 => ⟨S1x2048, .f32⟩
  | 5 => ⟨S8192x2048, .f32⟩
  | 6 => ⟨S_, .f32⟩
  | 7 => ⟨S8192, .f32⟩
  | 8 => ⟨S8192x1, .f32⟩
  | 9 => ⟨S_, .f32⟩
  | 10 => ⟨S8192x1, .f32⟩
  | 11 => ⟨S8192x1, .f32⟩
  | 12 => ⟨S_, .f32⟩
  | 13 => ⟨S8192x1, .f32⟩
  | 14 => ⟨S8192x1, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x2048, .f32⟩
  | 21 => ⟨S8192x2048, .f32⟩
  | 22 => ⟨S8192x2048, .f32⟩
  | 23 => ⟨S8192x2048, .f32⟩
  | 24 => ⟨S8192, .i32⟩
  | 25 => ⟨S8192x512, .f32⟩
  | 26 => ⟨S_, .f32⟩
  | 27 => ⟨S2x512, .f32⟩
  | 28 => ⟨S8194x512, .f32⟩
  | 29 => ⟨S_, .f32⟩
  | 30 => ⟨S2x512, .f32⟩
  | 31 => ⟨S8192x512, .f32⟩
  | 32 => ⟨S_, .f32⟩
  | 33 => ⟨S8192x512, .f32⟩
  | 34 => ⟨S8192x512, .f32⟩
  | 35 => ⟨S8192x512, .f32⟩
  | 36 => ⟨S8192x512, .f32⟩
  | 37 => ⟨S_, .i32⟩
  | 38 => ⟨S8192, .i32⟩
  | 39 => ⟨S8192, .i32⟩
  | 40 => ⟨S_, .i32⟩
  | 41 => ⟨S8192, .i32⟩
  | 42 => ⟨S8192, .i32⟩
  | 43 => ⟨S8192, .f32⟩
  | 44 => ⟨S8192x1, .f32⟩
  | 45 => ⟨S8192x512, .f32⟩
  | 46 => ⟨S8192x512, .f32⟩
  | 47 => ⟨S8192x512, .f32⟩
  | 48 => ⟨S8192x512, .f32⟩
  | 49 => ⟨S_, .f32⟩
  | 50 => ⟨S4x512, .f32⟩
  | 51 => ⟨S8196x512, .f32⟩
  | 52 => ⟨S_, .f32⟩
  | 53 => ⟨S4x512, .f32⟩
  | 54 => ⟨S8192x512, .f32⟩
  | 55 => ⟨S_, .f32⟩
  | 56 => ⟨S8192x512, .f32⟩
  | 57 => ⟨S8192x512, .f32⟩
  | 58 => ⟨S8192x512, .f32⟩
  | 59 => ⟨S8192x512, .f32⟩
  | 60 => ⟨S8192x512, .f32⟩
  | 61 => ⟨S8192x512, .f32⟩
  | 62 => ⟨S8192x512, .f32⟩
  | 63 => ⟨S8192x512, .f32⟩
  | 64 => ⟨S_, .i32⟩
  | 65 => ⟨S8192, .i32⟩
  | 66 => ⟨S8192, .i32⟩
  | 67 => ⟨S_, .i32⟩
  | 68 => ⟨S8192, .i32⟩
  | 69 => ⟨S8192, .i32⟩
  | 70 => ⟨S8192, .f32⟩
  | 71 => ⟨S8192x1, .f32⟩
  | 72 => ⟨S8192x512, .f32⟩
  | 73 => ⟨S8192x512, .f32⟩
  | 74 => ⟨S8192x512, .f32⟩
  | 75 => ⟨S8192x512, .f32⟩
  | 76 => ⟨S_, .f32⟩
  | 77 => ⟨S8x512, .f32⟩
  | 78 => ⟨S8200x512, .f32⟩
  | 79 => ⟨S_, .f32⟩
  | 80 => ⟨S8x512, .f32⟩
  | 81 => ⟨S8192x512, .f32⟩
  | 82 => ⟨S_, .f32⟩
  | 83 => ⟨S8192x512, .f32⟩
  | 84 => ⟨S8192x512, .f32⟩
  | 85 => ⟨S8192x512, .f32⟩
  | 86 => ⟨S8192x512, .f32⟩
  | 87 => ⟨S8192x512, .f32⟩
  | 88 => ⟨S8192x512, .f32⟩
  | 89 => ⟨S8192x512, .f32⟩
  | 90 => ⟨S8192x512, .f32⟩
  | 91 => ⟨S8192x512, .f32⟩
  | 92 => ⟨S8192x512, .f32⟩
  | 93 => ⟨S8192x512, .f32⟩
  | 94 => ⟨S8192x512, .f32⟩
  | 95 => ⟨S8192x512, .f32⟩
  | 96 => ⟨S8192x512, .f32⟩
  | 97 => ⟨S8192x512, .f32⟩
  | 98 => ⟨S8192x512, .f32⟩
  | 99 => ⟨S_, .i32⟩
  | 100 => ⟨S8192, .i32⟩
  | 101 => ⟨S8192, .i32⟩
  | 102 => ⟨S_, .i32⟩
  | 103 => ⟨S8192, .i32⟩
  | 104 => ⟨S8192, .i32⟩
  | 105 => ⟨S8192, .f32⟩
  | 106 => ⟨S8192x1, .f32⟩
  | 107 => ⟨S8192x512, .f32⟩
  | 108 => ⟨S8192x512, .f32⟩
  | 109 => ⟨S8192x512, .f32⟩
  | 110 => ⟨S8192x512, .f32⟩
  | 111 => ⟨S_, .f32⟩
  | 112 => ⟨S16x512, .f32⟩
  | 113 => ⟨S8208x512, .f32⟩
  | 114 => ⟨S_, .f32⟩
  | 115 => ⟨S16x512, .f32⟩
  | 116 => ⟨S8192x512, .f32⟩
  | 117 => ⟨S_, .f32⟩
  | 118 => ⟨S8192x512, .f32⟩
  | 119 => ⟨S8192x512, .f32⟩
  | 120 => ⟨S8192x512, .f32⟩
  | 121 => ⟨S8192x512, .f32⟩
  | 122 => ⟨S8192x512, .f32⟩
  | 123 => ⟨S8192x512, .f32⟩
  | 124 => ⟨S8192x512, .f32⟩
  | 125 => ⟨S8192x512, .f32⟩
  | 126 => ⟨S8192x512, .f32⟩
  | 127 => ⟨S8192x512, .f32⟩
  | _ => ⟨S8192x2048, .f32⟩

abbrev hbmTy0_1 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S8192x512, .f32⟩
  | 5 => ⟨S8192x512, .f32⟩
  | 6 => ⟨S8192x512, .f32⟩
  | 7 => ⟨S8192x512, .f32⟩
  | 8 => ⟨S8192x512, .f32⟩
  | 9 => ⟨S8192x512, .f32⟩
  | 10 => ⟨S8192x512, .f32⟩
  | 11 => ⟨S8192x512, .f32⟩
  | 12 => ⟨S8192x512, .f32⟩
  | 13 => ⟨S8192x512, .f32⟩
  | 14 => ⟨S8192x512, .f32⟩
  | 15 => ⟨S8192x512, .f32⟩
  | 16 => ⟨S8192x512, .f32⟩
  | 17 => ⟨S8192x512, .f32⟩
  | 18 => ⟨S8192x512, .f32⟩
  | 19 => ⟨S8192x512, .f32⟩
  | 20 => ⟨S8192x512, .f32⟩
  | 21 => ⟨S8192x512, .f32⟩
  | 22 => ⟨S_, .i32⟩
  | 23 => ⟨S8192, .i32⟩
  | 24 => ⟨S8192, .i32⟩
  | 25 => ⟨S_, .i32⟩
  | 26 => ⟨S8192, .i32⟩
  | 27 => ⟨S8192, .i32⟩
  | 28 => ⟨S8192, .f32⟩
  | 29 => ⟨S8192x1, .f32⟩
  | 30 => ⟨S8192x512, .f32⟩
  | 31 => ⟨S8192x512, .f32⟩
  | 32 => ⟨S8192x512, .f32⟩
  | 33 => ⟨S1x512x512, .f32⟩
  | 34 => ⟨S512x512, .f32⟩
  | 35 => ⟨S8192x512, .f32⟩
  | 36 => ⟨S1x512x512, .f32⟩
  | 37 => ⟨S512x512, .f32⟩
  | 38 => ⟨S8192x512, .f32⟩
  | 39 => ⟨S1x512x512, .f32⟩
  | 40 => ⟨S512x512, .f32⟩
  | 41 => ⟨S8192x512, .f32⟩
  | 42 => ⟨S1x512x512, .f32⟩
  | 43 => ⟨S512x512, .f32⟩
  | 44 => ⟨S8192x512, .f32⟩
  | 45 => ⟨S8192x2048, .f32⟩
  | 46 => ⟨S8192x2048, .f32⟩
  | 47 => ⟨S8192x2048, .f32⟩
  | 48 => ⟨S8192x2048, .f32⟩
  | 49 => ⟨S8192x2048, .f32⟩
  | 50 => ⟨S8192x2048, .f32⟩
  | 51 => ⟨S_, .f32⟩
  | 52 => ⟨S2048, .f32⟩
  | 53 => ⟨S1x2048, .f32⟩
  | 54 => ⟨S8192x2048, .f32⟩
  | 55 => ⟨S8192x2048, .f32⟩
  | 56 => ⟨S8192x512, .f32⟩
  | 57 => ⟨S8192x512, .f32⟩
  | 58 => ⟨S8192x512, .f32⟩
  | 59 => ⟨S8192x512, .f32⟩
  | 60 => ⟨S512x512, .f32⟩
  | 61 => ⟨S512x512, .f32⟩
  | 62 => ⟨S8192x512, .f32⟩
  | 63 => ⟨S1x512x512, .f32⟩
  | 64 => ⟨S_, .f32⟩
  | 65 => ⟨S4x512x512, .f32⟩
  | 66 => ⟨S512x512, .f32⟩
  | 67 => ⟨S512x512, .f32⟩
  | 68 => ⟨S8192x512, .f32⟩
  | 69 => ⟨S1x512x512, .f32⟩
  | 70 => ⟨S_, .f32⟩
  | 71 => ⟨S4x512x512, .f32⟩
  | 72 => ⟨S4x512x512, .f32⟩
  | 73 => ⟨S512x512, .f32⟩
  | 74 => ⟨S512x512, .f32⟩
  | 75 => ⟨S8192x512, .f32⟩
  | 76 => ⟨S1x512x512, .f32⟩
  | 77 => ⟨S_, .f32⟩
  | 78 => ⟨S4x512x512, .f32⟩
  | 79 => ⟨S4x512x512, .f32⟩
  | 80 => ⟨S512x512, .f32⟩
  | 81 => ⟨S512x512, .f32⟩
  | 82 => ⟨S8192x512, .f32⟩
  | 83 => ⟨S1x512x512, .f32⟩
  | 84 => ⟨S_, .f32⟩
  | 85 => ⟨S4x512x512, .f32⟩
  | 86 => ⟨S4x512x512, .f32⟩
  | 87 => ⟨S8192x512, .f32⟩
  | 88 => ⟨S8192x512, .f32⟩
  | 89 => ⟨S8192x512, .f32⟩
  | 90 => ⟨S_, .f32⟩
  | 91 => ⟨S8208x512, .f32⟩
  | 92 => ⟨S_, .f32⟩
  | 93 => ⟨S8208x512, .f32⟩
  | 94 => ⟨S8208x512, .f32⟩
  | 95 => ⟨S_, .f32⟩
  | 96 => ⟨S8208x512, .f32⟩
  | 97 => ⟨S8208x512, .f32⟩
  | 98 => ⟨S_, .f32⟩
  | 99 => ⟨S8208x512, .f32⟩
  | 100 => ⟨S8208x512, .f32⟩
  | 101 => ⟨S_, .f32⟩
  | 102 => ⟨S8208x512, .f32⟩
  | 103 => ⟨S8208x512, .f32⟩
  | 104 => ⟨S_, .f32⟩
  | 105 => ⟨S8208x512, .f32⟩
  | 106 => ⟨S8208x512, .f32⟩
  | 107 => ⟨S_, .f32⟩
  | 108 => ⟨S8208x512, .f32⟩
  | 109 => ⟨S8208x512, .f32⟩
  | 110 => ⟨S_, .f32⟩
  | 111 => ⟨S8208x512, .f32⟩
  | 112 => ⟨S8208x512, .f32⟩
  | 113 => ⟨S_, .f32⟩
  | 114 => ⟨S8208x512, .f32⟩
  | 115 => ⟨S8208x512, .f32⟩
  | 116 => ⟨S_, .f32⟩
  | 117 => ⟨S8208x512, .f32⟩
  | 118 => ⟨S8208x512, .f32⟩
  | 119 => ⟨S_, .f32⟩
  | 120 => ⟨S8208x512, .f32⟩
  | 121 => ⟨S8208x512, .f32⟩
  | 122 => ⟨S_, .f32⟩
  | 123 => ⟨S8208x512, .f32⟩
  | 124 => ⟨S8208x512, .f32⟩
  | 125 => ⟨S_, .f32⟩
  | 126 => ⟨S8208x512, .f32⟩
  | 127 => ⟨S8208x512, .f32⟩
  | _ => ⟨S8192x2048, .f32⟩

abbrev hbmTy0_2 (i : Nat) : BufTy := match i % 128 with
  | 0 => ⟨S_, .f32⟩
  | 1 => ⟨S8208x512, .f32⟩
  | 2 => ⟨S8208x512, .f32⟩
  | 3 => ⟨S_, .f32⟩
  | 4 => ⟨S8208x512, .f32⟩
  | 5 => ⟨S8208x512, .f32⟩
  | 6 => ⟨S_, .f32⟩
  | 7 => ⟨S8208x512, .f32⟩
  | 8 => ⟨S8208x512, .f32⟩
  | 9 => ⟨S16x512, .f32⟩
  | 10 => ⟨S8192x512, .f32⟩
  | 11 => ⟨S8192x512, .f32⟩
  | 12 => ⟨S_, .f32⟩
  | 13 => ⟨S8192x2048, .f32⟩
  | 14 => ⟨S8192x512, .f32⟩
  | 15 => ⟨S8192x512, .f32⟩
  | 16 => ⟨S8192x512, .f32⟩
  | 17 => ⟨S_, .f32⟩
  | 18 => ⟨S8200x512, .f32⟩
  | 19 => ⟨S_, .f32⟩
  | 20 => ⟨S8200x512, .f32⟩
  | 21 => ⟨S8200x512, .f32⟩
  | 22 => ⟨S_, .f32⟩
  | 23 => ⟨S8200x512, .f32⟩
  | 24 => ⟨S8200x512, .f32⟩
  | 25 => ⟨S_, .f32⟩
  | 26 => ⟨S8200x512, .f32⟩
  | 27 => ⟨S8200x512, .f32⟩
  | 28 => ⟨S_, .f32⟩
  | 29 => ⟨S8200x512, .f32⟩
  | 30 => ⟨S8200x512, .f32⟩
  | 31 => ⟨S_, .f32⟩
  | 32 => ⟨S8200x512, .f32⟩
  | 33 => ⟨S8200x512, .f32⟩
  | 34 => ⟨S_, .f32⟩
  | 35 => ⟨S8200x512, .f32⟩
  | 36 => ⟨S8200x512, .f32⟩
  | 37 => ⟨S_, .f32⟩
  | 38 => ⟨S8200x512, .f32⟩
  | 39 => ⟨S8200x512, .f32⟩
  | 40 => ⟨S8x512, .f32⟩
  | 41 => ⟨S8192x512, .f32⟩
  | 42 => ⟨S8192x512, .f32⟩
  | 43 => ⟨S_, .f32⟩
  | 44 => ⟨S8192x2048, .f32⟩
  | 45 => ⟨S8192x2048, .f32⟩
  | 46 => ⟨S8192x512, .f32⟩
  | 47 => ⟨S8192x512, .f32⟩
  | 48 => ⟨S8192x512, .f32⟩
  | 49 => ⟨S_, .f32⟩
  | 50 => ⟨S8196x512, .f32⟩
  | 51 => ⟨S_, .f32⟩
  | 52 => ⟨S8196x512, .f32⟩
  | 53 => ⟨S8196x512, .f32⟩
  | 54 => ⟨S_, .f32⟩
  | 55 => ⟨S8196x512, .f32⟩
  | 56 => ⟨S8196x512, .f32⟩
  | 57 => ⟨S_, .f32⟩
  | 58 => ⟨S8196x512, .f32⟩
  | 59 => ⟨S8196x512, .f32⟩
  | 60 => ⟨S4x512, .f32⟩
  | 61 => ⟨S8192x512, .f32⟩
  | 62 => ⟨S8192x512, .f32⟩
  | 63 => ⟨S_, .f32⟩
  | 64 => ⟨S8192x2048, .f32⟩
  | 65 => ⟨S8192x2048, .f32⟩
  | 66 => ⟨S8192x512, .f32⟩
  | 67 => ⟨S8192x512, .f32⟩
  | 68 => ⟨S8192x512, .f32⟩
  | 69 => ⟨S_, .f32⟩
  | 70 => ⟨S8194x512, .f32⟩
  | 71 => ⟨S_, .f32⟩
  | 72 => ⟨S8194x512, .f32⟩
  | 73 => ⟨S8194x512, .f32⟩
  | 74 => ⟨S2x512, .f32⟩
  | 75 => ⟨S8192x512, .f32⟩
  | 76 => ⟨S8192x512, .f32⟩
  | 77 => ⟨S_, .f32⟩
  | 78 => ⟨S8192x2048, .f32⟩
  | 79 => ⟨S8192x2048, .f32⟩
  | 80 => ⟨S8192x2048, .f32⟩
  | 81 => ⟨S_, .f32⟩
  | 82 => ⟨S2048, .f32⟩
  | 83 => ⟨S1x2048, .f32⟩
  | 84 => ⟨S8192x2048, .f32⟩
  | 85 => ⟨S8192x2048, .f32⟩
  | 86 => ⟨S8192x2048, .f32⟩
  | 87 => ⟨S_, .f32⟩
  | 88 => ⟨S8192, .f32⟩
  | 89 => ⟨S8192x1, .f32⟩
  | 90 => ⟨S8192x2048, .f32⟩
  | 91 => ⟨S8192x2048, .f32⟩
  | 92 => ⟨S8192x2048, .f32⟩
  | 93 => ⟨S8192x1, .f32⟩
  | 94 => ⟨S_, .f32⟩
  | 95 => ⟨S8192x1, .f32⟩
  | 96 => ⟨S8192x1, .f32⟩
  | 97 => ⟨S_, .f32⟩
  | 98 => ⟨S8192, .f32⟩
  | 99 => ⟨S8192x2048, .f32⟩
  | 100 => ⟨S8192x2048, .f32⟩
  | 101 => ⟨S8192x2048, .f32⟩
  | 102 => ⟨S8192x2048, .f32⟩
  | 103 => ⟨S8192x2048, .f32⟩
  | 104 => ⟨S8192x2048, .bf16⟩
  | _ => ⟨S8192x2048, .f32⟩

abbrev hbmTy (i : Nat) : BufTy := match i / 128 with
  | 0 => hbmTy0_0 i
  | 1 => hbmTy0_1 i
  | 2 => hbmTy0_2 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_10 : Ref sig .tc := ⟨.hbm, 64, rfl⟩
abbrev main_v47 : Ref sig .tc := ⟨.hbm, 65, rfl⟩
abbrev main_v48 : Ref sig .tc := ⟨.hbm, 66, rfl⟩
abbrev main_c_11 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_v58 : Ref sig .tc := ⟨.hbm, 78, rfl⟩
abbrev main_cst_13 : Ref sig .tc := ⟨.hbm, 79, rfl⟩
abbrev main_v59 : Ref sig .tc := ⟨.hbm, 80, rfl⟩
abbrev main_v60 : Ref sig .tc := ⟨.hbm, 81, rfl⟩
abbrev main_cst_14 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_c_15 : Ref sig .tc := ⟨.hbm, 99, rfl⟩
abbrev main_v77 : Ref sig .tc := ⟨.hbm, 100, rfl⟩
abbrev main_v78 : Ref sig .tc := ⟨.hbm, 101, rfl⟩
abbrev main_c_16 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_17 : Ref sig .tc := ⟨.hbm, 111, rfl⟩
abbrev main_v87 : Ref sig .tc := ⟨.hbm, 112, rfl⟩
abbrev main_v88 : Ref sig .tc := ⟨.hbm, 113, rfl⟩
abbrev main_cst_18 : Ref sig .tc := ⟨.hbm, 114, rfl⟩
abbrev main_v89 : Ref sig .tc := ⟨.hbm, 115, rfl⟩
abbrev main_v90 : Ref sig .tc := ⟨.hbm, 116, rfl⟩
abbrev main_cst_19 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_c_20 : Ref sig .tc := ⟨.hbm, 150, rfl⟩
abbrev main_v123 : Ref sig .tc := ⟨.hbm, 151, rfl⟩
abbrev main_v124 : Ref sig .tc := ⟨.hbm, 152, rfl⟩
abbrev main_c_21 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_cst_22 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_cst_23 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_cst_24 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_cst_25 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_cst_26 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_cst_27 : Ref sig .tc := ⟨.hbm, 218, rfl⟩
abbrev main_v184 : Ref sig .tc := ⟨.hbm, 219, rfl⟩
abbrev main_cst_28 : Ref sig .tc := ⟨.hbm, 220, rfl⟩
abbrev main_v185 : Ref sig .tc := ⟨.hbm, 221, rfl⟩
abbrev main_v186 : Ref sig .tc := ⟨.hbm, 222, rfl⟩
abbrev main_cst_29 : Ref sig .tc := ⟨.hbm, 223, rfl⟩
abbrev main_v187 : Ref sig .tc := ⟨.hbm, 224, rfl⟩
abbrev main_v188 : Ref sig .tc := ⟨.hbm, 225, rfl⟩
abbrev main_cst_30 : Ref sig .tc := ⟨.hbm, 226, rfl⟩
abbrev main_v189 : Ref sig .tc := ⟨.hbm, 227, rfl⟩
abbrev main_v190 : Ref sig .tc := ⟨.hbm, 228, rfl⟩
abbrev main_cst_31 : Ref sig .tc := ⟨.hbm, 229, rfl⟩
abbrev main_v191 : Ref sig .tc := ⟨.hbm, 230, rfl⟩
abbrev main_v192 : Ref sig .tc := ⟨.hbm, 231, rfl⟩
abbrev main_cst_32 : Ref sig .tc := ⟨.hbm, 232, rfl⟩
abbrev main_v193 : Ref sig .tc := ⟨.hbm, 233, rfl⟩
abbrev main_v194 : Ref sig .tc := ⟨.hbm, 234, rfl⟩
abbrev main_cst_33 : Ref sig .tc := ⟨.hbm, 235, rfl⟩
abbrev main_v195 : Ref sig .tc := ⟨.hbm, 236, rfl⟩
abbrev main_v196 : Ref sig .tc := ⟨.hbm, 237, rfl⟩
abbrev main_cst_34 : Ref sig .tc := ⟨.hbm, 238, rfl⟩
abbrev main_v197 : Ref sig .tc := ⟨.hbm, 239, rfl⟩
abbrev main_v198 : Ref sig .tc := ⟨.hbm, 240, rfl⟩
abbrev main_cst_35 : Ref sig .tc := ⟨.hbm, 241, rfl⟩
abbrev main_v199 : Ref sig .tc := ⟨.hbm, 242, rfl⟩
abbrev main_v200 : Ref sig .tc := ⟨.hbm, 243, rfl⟩
abbrev main_cst_36 : Ref sig .tc := ⟨.hbm, 244, rfl⟩
abbrev main_v201 : Ref sig .tc := ⟨.hbm, 245, rfl⟩
abbrev main_v202 : Ref sig .tc := ⟨.hbm, 246, rfl⟩
abbrev main_cst_37 : Ref sig .tc := ⟨.hbm, 247, rfl⟩
abbrev main_v203 : Ref sig .tc := ⟨.hbm, 248, rfl⟩
abbrev main_v204 : Ref sig .tc := ⟨.hbm, 249, rfl⟩
abbrev main_cst_38 : Ref sig .tc := ⟨.hbm, 250, rfl⟩
abbrev main_v205 : Ref sig .tc := ⟨.hbm, 251, rfl⟩
abbrev main_v206 : Ref sig .tc := ⟨.hbm, 252, rfl⟩
abbrev main_cst_39 : Ref sig .tc := ⟨.hbm, 253, rfl⟩
abbrev main_v207 : Ref sig .tc := ⟨.hbm, 254, rfl⟩
abbrev main_v208 : Ref sig .tc := ⟨.hbm, 255, rfl⟩
abbrev main_cst_40 : Ref sig .tc := ⟨.hbm, 256, rfl⟩
abbrev main_v209 : Ref sig .tc := ⟨.hbm, 257, rfl⟩
abbrev main_v210 : Ref sig .tc := ⟨.hbm, 258, rfl⟩
abbrev main_cst_41 : Ref sig .tc := ⟨.hbm, 259, rfl⟩
abbrev main_v211 : Ref sig .tc := ⟨.hbm, 260, rfl⟩
abbrev main_v212 : Ref sig .tc := ⟨.hbm, 261, rfl⟩
abbrev main_cst_42 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_cst_43 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_cst_44 : Ref sig .tc := ⟨.hbm, 273, rfl⟩
abbrev main_v222 : Ref sig .tc := ⟨.hbm, 274, rfl⟩
abbrev main_cst_45 : Ref sig .tc := ⟨.hbm, 275, rfl⟩
abbrev main_v223 : Ref sig .tc := ⟨.hbm, 276, rfl⟩
abbrev main_v224 : Ref sig .tc := ⟨.hbm, 277, rfl⟩
abbrev main_cst_46 : Ref sig .tc := ⟨.hbm, 278, rfl⟩
abbrev main_v225 : Ref sig .tc := ⟨.hbm, 279, rfl⟩
abbrev main_v226 : Ref sig .tc := ⟨.hbm, 280, rfl⟩
abbrev main_cst_47 : Ref sig .tc := ⟨.hbm, 281, rfl⟩
abbrev main_v227 : Ref sig .tc := ⟨.hbm, 282, rfl⟩
abbrev main_v228 : Ref sig .tc := ⟨.hbm, 283, rfl⟩
abbrev main_cst_48 : Ref sig .tc := ⟨.hbm, 284, rfl⟩
abbrev main_v229 : Ref sig .tc := ⟨.hbm, 285, rfl⟩
abbrev main_v230 : Ref sig .tc := ⟨.hbm, 286, rfl⟩
abbrev main_cst_49 : Ref sig .tc := ⟨.hbm, 287, rfl⟩
abbrev main_v231 : Ref sig .tc := ⟨.hbm, 288, rfl⟩
abbrev main_v232 : Ref sig .tc := ⟨.hbm, 289, rfl⟩
abbrev main_cst_50 : Ref sig .tc := ⟨.hbm, 290, rfl⟩
abbrev main_v233 : Ref sig .tc := ⟨.hbm, 291, rfl⟩
abbrev main_v234 : Ref sig .tc := ⟨.hbm, 292, rfl⟩
abbrev main_cst_51 : Ref sig .tc := ⟨.hbm, 293, rfl⟩
abbrev main_v235 : Ref sig .tc := ⟨.hbm, 294, rfl⟩
abbrev main_v236 : Ref sig .tc := ⟨.hbm, 295, rfl⟩
abbrev main_v237 : Ref sig .tc := ⟨.hbm, 296, rfl⟩
abbrev main_v238 : Ref sig .tc := ⟨.hbm, 297, rfl⟩
abbrev main_v239 : Ref sig .tc := ⟨.hbm, 298, rfl⟩
abbrev main_cst_52 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_cst_53 : Ref sig .tc := ⟨.hbm, 305, rfl⟩
abbrev main_v245 : Ref sig .tc := ⟨.hbm, 306, rfl⟩
abbrev main_cst_54 : Ref sig .tc := ⟨.hbm, 307, rfl⟩
abbrev main_v246 : Ref sig .tc := ⟨.hbm, 308, rfl⟩
abbrev main_v247 : Ref sig .tc := ⟨.hbm, 309, rfl⟩
abbrev main_cst_55 : Ref sig .tc := ⟨.hbm, 310, rfl⟩
abbrev main_v248 : Ref sig .tc := ⟨.hbm, 311, rfl⟩
abbrev main_v249 : Ref sig .tc := ⟨.hbm, 312, rfl⟩
abbrev main_cst_56 : Ref sig .tc := ⟨.hbm, 313, rfl⟩
abbrev main_v250 : Ref sig .tc := ⟨.hbm, 314, rfl⟩
abbrev main_v251 : Ref sig .tc := ⟨.hbm, 315, rfl⟩
abbrev main_v252 : Ref sig .tc := ⟨.hbm, 316, rfl⟩
abbrev main_v253 : Ref sig .tc := ⟨.hbm, 317, rfl⟩
abbrev main_v254 : Ref sig .tc := ⟨.hbm, 318, rfl⟩
abbrev main_cst_57 : Ref sig .tc := ⟨.hbm, 319, rfl⟩
abbrev main_v255 : Ref sig .tc := ⟨.hbm, 320, rfl⟩
abbrev main_v256 : Ref sig .tc := ⟨.hbm, 321, rfl⟩
abbrev main_v257 : Ref sig .tc := ⟨.hbm, 322, rfl⟩
abbrev main_v258 : Ref sig .tc := ⟨.hbm, 323, rfl⟩
abbrev main_v259 : Ref sig .tc := ⟨.hbm, 324, rfl⟩
abbrev main_cst_58 : Ref sig .tc := ⟨.hbm, 325, rfl⟩
abbrev main_v260 : Ref sig .tc := ⟨.hbm, 326, rfl⟩
abbrev main_cst_59 : Ref sig .tc := ⟨.hbm, 327, rfl⟩
abbrev main_v261 : Ref sig .tc := ⟨.hbm, 328, rfl⟩
abbrev main_v262 : Ref sig .tc := ⟨.hbm, 329, rfl⟩
abbrev main_v263 : Ref sig .tc := ⟨.hbm, 330, rfl⟩
abbrev main_v264 : Ref sig .tc := ⟨.hbm, 331, rfl⟩
abbrev main_v265 : Ref sig .tc := ⟨.hbm, 332, rfl⟩
abbrev main_cst_60 : Ref sig .tc := ⟨.hbm, 333, rfl⟩
abbrev main_v266 : Ref sig .tc := ⟨.hbm, 334, rfl⟩
abbrev main_v267 : Ref sig .tc := ⟨.hbm, 335, rfl⟩
abbrev main_v268 : Ref sig .tc := ⟨.hbm, 336, rfl⟩
abbrev main_cst_61 : Ref sig .tc := ⟨.hbm, 337, rfl⟩
abbrev main_v269 : Ref sig .tc := ⟨.hbm, 338, rfl⟩
abbrev main_v270 : Ref sig .tc := ⟨.hbm, 339, rfl⟩
abbrev main_v271 : Ref sig .tc := ⟨.hbm, 340, rfl⟩
abbrev main_v272 : Ref sig .tc := ⟨.hbm, 341, rfl⟩
abbrev main_v273 : Ref sig .tc := ⟨.hbm, 342, rfl⟩
abbrev main_cst_62 : Ref sig .tc := ⟨.hbm, 343, rfl⟩
abbrev main_v274 : Ref sig .tc := ⟨.hbm, 344, rfl⟩
abbrev main_v275 : Ref sig .tc := ⟨.hbm, 345, rfl⟩
abbrev main_v276 : Ref sig .tc := ⟨.hbm, 346, rfl⟩
abbrev main_v277 : Ref sig .tc := ⟨.hbm, 347, rfl⟩
abbrev main_v278 : Ref sig .tc := ⟨.hbm, 348, rfl⟩
abbrev main_v279 : Ref sig .tc := ⟨.hbm, 349, rfl⟩
abbrev main_cst_63 : Ref sig .tc := ⟨.hbm, 350, rfl⟩
abbrev main_v280 : Ref sig .tc := ⟨.hbm, 351, rfl⟩
abbrev main_v281 : Ref sig .tc := ⟨.hbm, 352, rfl⟩
abbrev main_cst_64 : Ref sig .tc := ⟨.hbm, 353, rfl⟩
abbrev main_v282 : Ref sig .tc := ⟨.hbm, 354, rfl⟩
abbrev main_v283 : Ref sig .tc := ⟨.hbm, 355, rfl⟩
abbrev main_v284 : Ref sig .tc := ⟨.hbm, 356, rfl⟩
abbrev main_v285 : Ref sig .tc := ⟨.hbm, 357, rfl⟩
abbrev main_v286 : Ref sig .tc := ⟨.hbm, 358, rfl⟩
abbrev main_v287 : Ref sig .tc := ⟨.hbm, 359, rfl⟩
abbrev main_v288 : Ref sig .tc := ⟨.hbm, 360, rfl⟩

abbrev nD : Nat := 1
abbrev τ : Topo := Topo.v7x

variable {F : FTy → Type} [FloatOps F]
-- ==== Kernel15.lean ====
abbrev S8192x2048 : Shape := ⟨2, ![8192, 2048]⟩
abbrev S1x2048 : Shape := ⟨2, ![1, 2048]⟩
abbrev S4x512x512 : Shape := ⟨3, ![4, 512, 512]⟩
abbrev S256x2048 : Shape := ⟨2, ![256, 2048]⟩
abbrev S32x2048 : Shape := ⟨2, ![32, 2048]⟩
abbrev S288x2048 : Shape := ⟨2, ![288, 2048]⟩
abbrev S256 : Shape := ⟨1, ![256]⟩
abbrev S256x1 : Shape := ⟨2, ![256, 1]⟩
abbrev S32 : Shape := ⟨1, ![32]⟩
abbrev S32x1 : Shape := ⟨2, ![32, 1]⟩
abbrev S8x2048 : Shape := ⟨2, ![8, 2048]⟩
abbrev S280x512 : Shape := ⟨2, ![280, 512]⟩
abbrev S256x512 : Shape := ⟨2, ![256, 512]⟩
abbrev S1x512x512 : Shape := ⟨3, ![1, 512, 512]⟩
abbrev S512x512 : Shape := ⟨2, ![512, 512]⟩
abbrev S1x512 : Shape := ⟨2, ![1, 512]⟩

abbrev nBuf : Space → Nat
  | .hbm => 7
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S4x512x512, .f32⟩
  | .hbm, ⟨3, _⟩ => ⟨S1x2048, .f32⟩
  | .hbm, ⟨4, _⟩ => ⟨S4x512x512, .bf16⟩
  | .hbm, ⟨5, _⟩ => ⟨S8192x2048, .f32⟩
  | .hbm, ⟨6, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S32x2048, .f32⟩
  | .local _ .vmem, ⟨3, _⟩ => ⟨S32x2048, .f32⟩
  | .local _ .vmem, ⟨4, _⟩ => ⟨S1x2048, .f32⟩
  | .local _ .vmem, ⟨5, _⟩ => ⟨S4x512x512, .bf16⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S288x2048, .f32⟩
  | .local _ .vmem, ⟨12, _⟩ => ⟨S288x2048, .f32⟩
  | .local _ .vmem, ⟨13, _⟩ => ⟨S288x2048, .f32⟩
  | .local _ .vmem, ⟨14, _⟩ => ⟨S288x2048, .f32⟩
  | .local _ .vmem, ⟨15, _⟩ => ⟨S288x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S8192x2048 : Shape := ⟨2, ![8192, 2048]⟩
abbrev S1x2048 : Shape := ⟨2, ![1, 2048]⟩
abbrev S4x512x512 : Shape := ⟨3, ![4, 512, 512]⟩
abbrev S_ : Shape := ⟨0, ![]⟩
abbrev S8192 : Shape := ⟨1, ![8192]⟩
abbrev S8192x1 : Shape := ⟨2, ![8192, 1]⟩
abbrev S8192x512 : Shape := ⟨2, ![8192, 512]⟩
abbrev S2x512 : Shape := ⟨2, ![2, 512]⟩
abbrev S8194x512 : Shape := ⟨2, ![8194, 512]⟩
abbrev S4x512 : Shape := ⟨2, ![4, 512]⟩
abbrev S8196x512 : Shape := ⟨2, ![8196, 512]⟩
abbrev S8x512 : Shape := ⟨2, ![8, 512]⟩
abbrev S8200x512 : Shape := ⟨2, ![8200, 512]⟩
abbrev S16x512 : Shape := ⟨2, ![16, 512]⟩
abbrev S8208x512 : Shape := ⟨2, ![8208, 512]⟩
abbrev S1x512x512 : Shape := ⟨3, ![1, 512, 512]⟩
abbrev S512x512 : Shape := ⟨2, ![512, 512]⟩

abbrev nBuf : Space → Nat
  | .hbm => 166
  | .vmem => 0
  | .smem => 0
  | _ => 0

abbrev hbmTy0_0 (i : Nat) : BufTy := match i % 128 with
  | 0 => ⟨S8192x2048, .f32⟩
  | 1 => ⟨S1x2048, .f32⟩
  | 2 => ⟨S4x512x512, .f32⟩
  | 3 => ⟨S1x2048, .f32⟩
  | 4 => ⟨S8192x2048, .f32⟩
  | 5 => ⟨S_, .f32⟩
  | 6 => ⟨S8192, .f32⟩
  | 7 => ⟨S8192x1, .f32⟩
  | 8 => ⟨S_, .f32⟩
  | 9 => ⟨S8192x1, .f32⟩
  | 10 => ⟨S8192x1, .f32⟩
  | 11 => ⟨S_, .f32⟩
  | 12 => ⟨S8192x1, .f32⟩
  | 13 => ⟨S8192x1, .f32⟩
  | 14 => ⟨S8192x1, .f32⟩
  | 15 => ⟨S8192x2048, .f32⟩
  | 16 => ⟨S8192x2048, .f32⟩
  | 17 => ⟨S8192x2048, .f32⟩
  | 18 => ⟨S8192x2048, .f32⟩
  | 19 => ⟨S8192, .i32⟩
  | 20 => ⟨S8192x512, .f32⟩
  | 21 => ⟨S_, .f32⟩
  | 22 => ⟨S2x512, .f32⟩
  | 23 => ⟨S8194x512, .f32⟩
  | 24 => ⟨S8192x512, .f32⟩
  | 25 => ⟨S_, .f32⟩
  | 26 => ⟨S8192x512, .f32⟩
  | 27 => ⟨S8192x512, .f32⟩
  | 28 => ⟨S8192x512, .f32⟩
  | 29 => ⟨S8192x512, .f32⟩
  | 30 => ⟨S_, .i32⟩
  | 31 => ⟨S8192, .i32⟩
  | 32 => ⟨S8192, .i32⟩
  | 33 => ⟨S_, .i32⟩
  | 34 => ⟨S8192, .i32⟩
  | 35 => ⟨S8192, .i32⟩
  | 36 => ⟨S8192, .f32⟩
  | 37 => ⟨S8192x1, .f32⟩
  | 38 => ⟨S8192x512, .f32⟩
  | 39 => ⟨S8192x512, .f32⟩
  | 40 => ⟨S8192x512, .f32⟩
  | 41 => ⟨S8192x512, .f32⟩
  | 42 => ⟨S_, .f32⟩
  | 43 => ⟨S4x512, .f32⟩
  | 44 => ⟨S8196x512, .f32⟩
  | 45 => ⟨S8192x512, .f32⟩
  | 46 => ⟨S_, .f32⟩
  | 47 => ⟨S8192x512, .f32⟩
  | 48 => ⟨S8192x512, .f32⟩
  | 49 => ⟨S8192x512, .f32⟩
  | 50 => ⟨S8192x512, .f32⟩
  | 51 => ⟨S8192x512, .f32⟩
  | 52 => ⟨S8192x512, .f32⟩
  | 53 => ⟨S8192x512, .f32⟩
  | 54 => ⟨S8192x512, .f32⟩
  | 55 => ⟨S_, .i32⟩
  | 56 => ⟨S8192, .i32⟩
  | 57 => ⟨S8192, .i32⟩
  | 58 => ⟨S_, .i32⟩
  | 59 => ⟨S8192, .i32⟩
  | 60 => ⟨S8192, .i32⟩
  | 61 => ⟨S8192, .f32⟩
  | 62 => ⟨S8192x1, .f32⟩
  | 63 => ⟨S8192x512, .f32⟩
  | 64 => ⟨S8192x512, .f32⟩
  | 65 => ⟨S8192x512, .f32⟩
  | 66 => ⟨S8192x512, .f32⟩
  | 67 => ⟨S_, .f32⟩
  | 68 => ⟨S8x512, .f32⟩
  | 69 => ⟨S8200x512, .f32⟩
  | 70 => ⟨S8192x512, .f32⟩
  | 71 => ⟨S_, .f32⟩
  | 72 => ⟨S8192x512, .f32⟩
  | 73 => ⟨S8192x512, .f32⟩
  | 74 => ⟨S8192x512, .f32⟩
  | 75 => ⟨S8192x512, .f32⟩
  | 76 => ⟨S8192x512, .f32⟩
  | 77 => ⟨S8192x512, .f32⟩
  | 78 => ⟨S8192x512, .f32⟩
  | 79 => ⟨S8192x512, .f32⟩
  | 80 => ⟨S8192x512, .f32⟩
  | 81 => ⟨S8192x512, .f32⟩
  | 82 => ⟨S8192x512, .f32⟩
  | 83 => ⟨S8192x512, .f32⟩
  | 84 => ⟨S8192x512, .f32⟩
  | 85 => ⟨S8192x512, .f32⟩
  | 86 => ⟨S8192x512, .f32⟩
  | 87 => ⟨S8192x512, .f32⟩
  | 88 => ⟨S_, .i32⟩
  | 89 => ⟨S8192, .i32⟩
  | 90 => ⟨S8192, .i32⟩
  | 91 => ⟨S_, .i32⟩
  | 92 => ⟨S8192, .i32⟩
  | 93 => ⟨S8192, .i32⟩
  | 94 => ⟨S8192, .f32⟩
  | 95 => ⟨S8192x1, .f32⟩
  | 96 => ⟨S8192x512, .f32⟩
  | 97 => ⟨S8192x512, .f32⟩
  | 98 => ⟨S8192x512, .f32⟩
  | 99 => ⟨S8192x512, .f32⟩
  | 100 => ⟨S_, .f32⟩
  | 101 => ⟨S16x512, .f32⟩
  | 102 => ⟨S8208x512, .f32⟩
  | 103 => ⟨S8192x512, .f32⟩
  | 104 => ⟨S_, .f32⟩
  | 105 => ⟨S8192x512, .f32⟩
  | 106 => ⟨S8192x512, .f32⟩
  | 107 => ⟨S8192x512, .f32⟩
  | 108 => ⟨S8192x512, .f32⟩
  | 109 => ⟨S8192x512, .f32⟩
  | 110 => ⟨S8192x512, .f32⟩
  | 111 => ⟨S8192x512, .f32⟩
  | 112 => ⟨S8192x512, .f32⟩
  | 113 => ⟨S8192x512, .f32⟩
  | 114 => ⟨S8192x512, .f32⟩
  | 115 => ⟨S8192x512, .f32⟩
  | 116 => ⟨S8192x512, .f32⟩
  | 117 => ⟨S8192x512, .f32⟩
  | 118 => ⟨S8192x512, .f32⟩
  | 119 => ⟨S8192x512, .f32⟩
  | 120 => ⟨S8192x512, .f32⟩
  | 121 => ⟨S8192x512, .f32⟩
  | 122 => ⟨S8192x512, .f32⟩
  | 123 => ⟨S8192x512, .f32⟩
  | 124 => ⟨S8192x512, .f32⟩
  | 125 => ⟨S8192x512, .f32⟩
  | 126 => ⟨S8192x512, .f32⟩
  | 127 => ⟨S8192x512, .f32⟩
  | _ => ⟨S8192x2048, .f32⟩

abbrev hbmTy0_1 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S8192x512, .f32⟩
  | 5 => ⟨S8192x512, .f32⟩
  | 6 => ⟨S8192x512, .f32⟩
  | 7 => ⟨S8192x512, .f32⟩
  | 8 => ⟨S8192x512, .f32⟩
  | 9 => ⟨S_, .i32⟩
  | 10 => ⟨S8192, .i32⟩
  | 11 => ⟨S8192, .i32⟩
  | 12 => ⟨S_, .i32⟩
  | 13 => ⟨S8192, .i32⟩
  | 14 => ⟨S8192, .i32⟩
  | 15 => ⟨S8192, .f32⟩
  | 16 => ⟨S8192x1, .f32⟩
  | 17 => ⟨S8192x512, .f32⟩
  | 18 => ⟨S8192x512, .f32⟩
  | 19 => ⟨S8192x512, .f32⟩
  | 20 => ⟨S1x512x512, .f32⟩
  | 21 => ⟨S512x512, .f32⟩
  | 22 => ⟨S8192x512, .f32⟩
  | 23 => ⟨S1x512x512, .f32⟩
  | 24 => ⟨S512x512, .f32⟩
  | 25 => ⟨S8192x512, .f32⟩
  | 26 => ⟨S1x512x512, .f32⟩
  | 27 => ⟨S512x512, .f32⟩
  | 28 => ⟨S8192x512, .f32⟩
  | 29 => ⟨S1x512x512, .f32⟩
  | 30 => ⟨S512x512, .f32⟩
  | 31 => ⟨S8192x512, .f32⟩
  | 32 => ⟨S8192x2048, .f32⟩
  | 33 => ⟨S8192x2048, .f32⟩
  | 34 => ⟨S8192x2048, .f32⟩
  | 35 => ⟨S8192x2048, .f32⟩
  | 36 => ⟨S8192x2048, .f32⟩
  | 37 => ⟨S8192x2048, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_7 : Ref sig .tc := ⟨.hbm, 55, rfl⟩
abbrev main_v42 : Ref sig .tc := ⟨.hbm, 56, rfl⟩
abbrev main_v43 : Ref sig .tc := ⟨.hbm, 57, rfl⟩
abbrev main_c_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_9 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_10 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_c_11 : Ref sig .tc := ⟨.hbm, 88, rfl⟩
abbrev main_v71 : Ref sig .tc := ⟨.hbm, 89, rfl⟩
abbrev main_v72 : Ref sig .tc := ⟨.hbm, 90, rfl⟩
abbrev main_c_12 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_13 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_cst_14 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_c_15 : Ref sig .tc := ⟨.hbm, 137, rfl⟩
abbrev main_v116 : Ref sig .tc := ⟨.hbm, 138, rfl⟩
abbrev main_v117 : Ref sig .tc := ⟨.hbm, 139, rfl⟩
abbrev main_c_16 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩

abbrev nD : Nat := 1
abbrev τ : Topo := Topo.v7x

variable {F : FTy → Type} [FloatOps F]
-- ==== Kernel16.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference16Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel17.lean ====
abbrev S8192x2048 : Shape := ⟨2, ![8192, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8x128, .f32⟩
  | .hbm, ⟨3, _⟩ => ⟨S8192x2048, .f32⟩
  | .hbm, ⟨4, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S8x128, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v19 : BitVec 1 := Scalar.cmpi .eq arg0 c0_i32
  let v20 : BitVec 32 := Scalar.extui v19
  let c0_i32_11 : BitVec 32 := 0#32
  let v21 : BitVec 1 := Scalar.cmpi .ne v20 c0_i32_11
  v21

def k0_cond2 (i : grid0.Coords) : BitVec 1 :=
  let arg0 : BitVec 32 := BitVec.ofNat 32 (i 0).val
  let c0_i32_12 : BitVec 32 := 0#32
  let v22 : BitVec 1 := Scalar.cmpi .sgt arg0 c0_i32_12
  let v23 : BitVec 32 := Scalar.extui v22
  let c0_i32_13 : BitVec 32 := 0#32
  let v24 : BitVec 1 := Scalar.cmpi .ne v23 c0_i32_13
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference17Ideal.lean ====
abbrev S8192x2048 : Shape := ⟨2, ![8192, 2048]⟩
abbrev S_ : Shape := ⟨0, ![]⟩
abbrev S8192 : Shape := ⟨1, ![8192]⟩
abbrev S8x128 : Shape := ⟨2, ![8, 128]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x2048, .f32⟩
  | .hbm, ⟨24, _⟩ => ⟨S8192x2048, .f32⟩
  | .hbm, ⟨25, _⟩ => ⟨S8x128, .f32⟩
  | .hbm, ⟨26, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Kernel18.lean ====
abbrev S8192x1408 : Shape := ⟨2, ![8192, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S8192x1408, .f32⟩
  | .hbm, ⟨1, _⟩ => ⟨S8192x1408, .f32⟩
  | .hbm, ⟨2, _⟩ => ⟨S8192x1408, .f32⟩
  | .hbm, ⟨3, _⟩ => ⟨S8192x1408, .f32⟩
  | .hbm, ⟨4, _⟩ => ⟨S8192x1408, .f32⟩
  | .hbm, ⟨5, _⟩ => ⟨S8192x1408, .f32⟩
  | .hbm, ⟨6, _⟩ => ⟨S8192x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S8192x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S8192x1408 : Shape := ⟨2, ![8192, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x1408, .f32⟩
  | .hbm, ⟨1, _⟩ => ⟨S8192x1408, .f32⟩
  | .hbm, ⟨2, _⟩ => ⟨S8192x1408, .f32⟩
  | .hbm, ⟨3, _⟩ => ⟨S8192x1408, .f32⟩
  | .hbm, ⟨4, _⟩ => ⟨S_, .f32⟩
  | .hbm, ⟨5, _⟩ => ⟨S8192x1408, .f32⟩
  | .hbm, ⟨6, _⟩ => ⟨S8192x1408, .f32⟩
  | .hbm, ⟨7, _⟩ => ⟨S_, .f32⟩
  | .hbm, ⟨8, _⟩ => ⟨S8192x1408, .f32⟩
  | .hbm, ⟨9, _⟩ => ⟨S8192x1408, .f32⟩
  | .hbm, ⟨10, _⟩ => ⟨S8192x1408, .f32⟩
  | .hbm, ⟨11, _⟩ => ⟨S_, .f32⟩
  | .hbm, ⟨12, _⟩ => ⟨S8192x1408, .f32⟩
  | .hbm, ⟨13, _⟩ => ⟨S8192x1408, .f32⟩
  | .hbm, ⟨14, _⟩ => ⟨S8192x1408, .f32⟩
  | .hbm, ⟨15, _⟩ => ⟨S_, .f32⟩
  | .hbm, ⟨16, _⟩ => ⟨S8192x1408, .f32⟩
  | .hbm, ⟨17, _⟩ => ⟨S8192x1408, .f32⟩
  | .hbm, ⟨18, _⟩ => ⟨S8192x1408, .f32⟩
  | .hbm, ⟨19, _⟩ => ⟨S_, .f32⟩
  | .hbm, ⟨20, _⟩ => ⟨S8192x1408, .f32⟩
  | .hbm, ⟨21, _⟩ => ⟨S8192x1408, .f32⟩
  | .hbm, ⟨22, _⟩ => ⟨S_, .f32⟩
  | .hbm, ⟨23, _⟩ => ⟨S8192x1408, .f32⟩
  | .hbm, ⟨24, _⟩ => ⟨S8192x1408, .f32⟩
  | .hbm, ⟨25, _⟩ => ⟨S8192x1408, .f32⟩
  | .hbm, ⟨26, _⟩ => ⟨S_, .f32⟩
  | .hbm, ⟨27, _⟩ => ⟨S8192x1408, .f32⟩
  | .hbm, ⟨28, _⟩ => ⟨S8192x1408, .f32⟩
  | .hbm, ⟨29, _⟩ => ⟨S8192x1408, .f32⟩
  | .hbm, ⟨30, _⟩ => ⟨S_, .f32⟩
  | .hbm, ⟨31, _⟩ => ⟨S8192x1408, .f32⟩
  | .hbm, ⟨32, _⟩ => ⟨S8192x1408, .f32⟩
  | .hbm, ⟨33, _⟩ => ⟨S8192x1408, .f32⟩
  | .hbm, ⟨34, _⟩ => ⟨S_, .f32⟩
  | .hbm, ⟨35, _⟩ => ⟨S8192x1408, .f32⟩
  | .hbm, ⟨36, _⟩ => ⟨S8192x1408, .f32⟩
  | _, _ => ⟨S8192x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.GateB.lean ====
module

public import proofs.«01_k».proof.Proof.Gen.KernelIdeal.Skeleton
public import proofs.«01_k».proof.Proof.Gen.KernelIdeal.Frame
public import Idealize.ShloMosaic.Lib.Claim

@[expose] public section

set_option maxRecDepth 16384

noncomputable section

namespace Cert.KernelIdeal.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The condition of the body's one branch: the second grid coordinate is zero. -/
abbrev cond0_0 (i : grid0.Coords) : Prop := (Scalar.cmpi .ne (Scalar.extui (Scalar.cmpi .eq (BitVec.ofNat 32 (i 1).val) 0#32)) 0#32) = 1#1

set_option maxHeartbeats 4000000 in
/-- What the body leaves at a point of kind B (any but the first of a column of the grid): the pieces its
    stores put in the two results' blocks and in the two carried edges, found by running it. -/
noncomputable def runB (c : Dev nD) (i : grid0.Coords) (arg2 : Memref sig .tc .vmem S512x2048 .bf16) (harg2 : arg2.IsWhole) (arg3 : Memref sig .tc .vmem S1408x2048 .bf16) (harg3 : arg3.IsWhole) (arg4 : Memref sig .tc .vmem S2x512x1408 .bf16) (harg4 : arg4.IsWhole) (arg5 : Memref sig .tc .vmem S2x512x1408 .bf16) (harg5 : arg5.IsWhole) (arg6 : Memref sig .tc .vmem S3x1408 .f32) (harg6 : arg6.IsWhole) (arg7 : Memref sig .tc .vmem S3x1408 .f32) (harg7 : arg7.IsWhole) (arg8 : Memref sig .tc .vmem S2x512x1408 .bf16) (harg8 : arg8.IsWhole) (arg9 : Memref sig .tc .vmem S2x8x1408 .f32) (harg9 : arg9.IsWhole) (arg10 : Memref sig .tc .vmem S8x1408 .f32) (harg10 : arg10.IsWhole) (arg11 : Memref sig .tc .vmem S8x1408 .f32) (harg11 : arg11.IsWhole) (hc0 : ¬cond0_0 i)
    (x0 : Vec F S512x2048 .bf16) (x1 : Vec F S1408x2048 .bf16) (x2 : Vec F S2x512x1408 .bf16) (x3 : Vec F S2x512x1408 .bf16) (x4 : Vec F S3x1408 .f32) (x5 : Vec F S3x1408 .f32) (x7 : Vec F S2x8x1408 .f32) (xs0 : Vec F S8x1408 .f32) (xs1 : Vec F S8x1408 .f32) :
    Σ' (L6 : List (View.Piece (Elt F) S2x512x1408 .bf16)), Σ' (L7 : List (View.Piece (Elt F) S2x8x1408 .f32)), Σ' (LS0 : List (View.Piece (Elt F) S8x1408 .f32)), { LS1 : List (View.Piece (Elt F) S8x1408 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (arg9.view.loc (c : Thread nD τ) ↦[arg9.view.set]{fullShare} arg9.view.writes (Elt F) (harg9.unread x7) L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0_ffn_da i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_ffn_da_eq_skeleton]; unfold cc0_ffn_da_skel
    simp only [k0_part29_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs0; obtain rfl := harg11.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexact H7
    isplitl [HS0]; · iexists _; iexact HS0
    iexists _; iexact HS1

end Cert.KernelIdeal.Gate

end
-- ==== Proof.GateTile.lean ====
module

public import proofs.«01_k».proof.Proof.GateB
public import Idealize.ShloMosaic.Lib.Pointwise
public import Idealize.ShloMosaic.Lib.WholeRead

@[expose] public section

set_option maxRecDepth 16384

noncomputable section

namespace Cert.KernelIdeal.Gate

open Idealize.ShloMosaic Cert.KernelIdeal.Gen

/-! ## What one tile of the gradient holds, from the blocks it reads -/

/-- A column moved up by one row; the last row comes from the top of the next tile. -/
def up1 (f : Fin 512 → EReal) (e : Fin 8 → EReal) (r : Fin 512) : EReal :=
  if h : r.val < 504 then f ⟨(r.val + 512 - 511) % 512, Nat.mod_lt _ (by decide)⟩
  else Scalar.select (IntOp.cmpi .sge (BitVec.ofNat 32 (r.val - 504)) 7#32)
    (e ⟨(r.val - 504 + 8 - 7) % 8, Nat.mod_lt _ (by decide)⟩)
    (f ⟨(504 + (r.val - 504) + 512 - 511) % 512, Nat.mod_lt _ (by decide)⟩)

/-- A column moved up by two rows; the last two rows come from the top of the next tile. -/
def up2 (f : Fin 512 → EReal) (e : Fin 8 → EReal) (r : Fin 512) : EReal :=
  if h : r.val < 504 then f ⟨(r.val + 512 - 510) % 512, Nat.mod_lt _ (by decide)⟩
  else Scalar.select (IntOp.cmpi .sge (BitVec.ofNat 32 (r.val - 504)) 6#32)
    (e ⟨(r.val - 504 + 8 - 6) % 8, Nat.mod_lt _ (by decide)⟩)
    (f ⟨(504 + (r.val - 504) + 512 - 510) % 512, Nat.mod_lt _ (by decide)⟩)

section
variable (x0 : Vec Ideal S512x2048 .bf16) (x1 : Vec Ideal S1408x2048 .bf16) (x2 x3 : Vec Ideal S2x512x1408 .bf16)
  (x4 x5 : Vec Ideal S3x1408 .f32) (x7 : Vec Ideal S2x8x1408 .f32) (e0 e1 : Vec Ideal S8x1408 .f32)

/-- The gradient of the convolved halves: the product with the down projection, times the saved slope. -/
def tD (s : Fin 2) (r : Fin 512) (q : Fin 1408) : EReal :=
  (∑ k : Fin 2048, x0 (ix2 r k) * x1 (ix2 q k)) * x3 (ix3 s r q)

/-- One half's gradient before the convolution, from its taps `w` and its edge `e`. -/
def tU (w : Vec Ideal S3x1408 .f32) (e : Vec Ideal S8x1408 .f32) (s : Fin 2) (r : Fin 512) (q : Fin 1408) : EReal :=
  w (ix2 2 q) * tD x0 x1 x3 s r q
    + w (ix2 1 q) * up1 (fun r => tD x0 x1 x3 s r q) (fun r => e (ix2 r q)) r
    + w (ix2 0 q) * up2 (fun r => tD x0 x1 x3 s r q) (fun r => e (ix2 r q)) r

/-- What the tile adds to row `a` of one half's tap and bias gradients. -/
def tC (e : Vec Ideal S8x1408 .f32) (s : Fin 2) (a : ℕ) (q : Fin 1408) : EReal :=
  if a = 0 then ∑ r : Fin 512, up2 (fun r => tD x0 x1 x3 s r q) (fun r => e (ix2 r q)) r * x2 (ix3 s r q)
  else if a = 1 then ∑ r : Fin 512, up1 (fun r => tD x0 x1 x3 s r q) (fun r => e (ix2 r q)) r * x2 (ix3 s r q)
  else if a = 2 then ∑ r : Fin 512, tD x0 x1 x3 s r q * x2 (ix3 s r q)
  else ∑ r : Fin 512, tD x0 x1 x3 s r q

/-- The block of the first result. -/
def g6 (y : S2x512x1408.Idx) : EReal :=
  if (y 0).val = 0 then tU x0 x1 x3 x4 e0 0 (y 1) (y 2) else tU x0 x1 x3 x5 e1 1 (y 1) (y 2)

/-- The block of the second result after the tile, over its contents `x7` before. -/
def g7 (y : S2x8x1408.Idx) : EReal :=
  if (y 1).val < 4 then
    x7 y + (if (y 0).val = 0 then tC x0 x1 x2 x3 e0 0 (y 1).val (y 2) else tC x0 x1 x2 x3 e1 1 (y 1).val (y 2))
  else x7 y

/-- The edge a tile leaves for the tile above it: its first eight rows. -/
def gE (s : Fin 2) (y : S8x1408.Idx) : EReal := tD x0 x1 x3 s ⟨(y 0).val, lt_trans (y 0).isLt (by decide)⟩ (y 1)

end

/-- An element of a rectangle of a box of rank 3, by its coordinates. -/
theorem emb3 {a b n : ℕ} {s o c a' b' n' : ℕ}
    (inb : ∀ x, (![s, o, c] : Fin 3 → ℕ) x + (![a', b', n'] : Fin 3 → ℕ) x ≤ (⟨3, ![a, b, n]⟩ : Shape).size x)
    (i : Fin a') (j : Fin b') (k : Fin n') :
    (Rect.unit (s := ⟨3, ![a, b, n]⟩) ![s, o, c] ![a', b', n'] inb).emb (ix3 i j k)
      = ix3 ⟨s + i.val, by have := inb 0; have := i.isLt; simp at *; omega⟩
          ⟨o + j.val, by have := inb 1; have := j.isLt; simp at *; omega⟩
          ⟨c + k.val, by have := inb 2; have := k.isLt; simp at *; omega⟩ := by
  funext x
  apply Fin.ext
  show (![s, o, c] : Fin 3 → ℕ) x + 1 * _ = _
  rw [one_mul]
  fin_cases x <;> rfl

theorem emb6 {s c n : ℕ}
    (inb : ∀ x, (![s, 0, c] : Fin 3 → ℕ) x + (![1, 512, n] : Fin 3 → ℕ) x ≤ S2x512x1408.size x)
    (i : Fin 1) (j : Fin 512) (k : Fin n) :
    (Rect.unit (s := S2x512x1408) ![s, 0, c] ![1, 512, n] inb).emb (ix3 i j k)
      = ix3 ⟨s, by have := inb 0; simp at *; omega⟩ j
          ⟨c + k.val, by have := inb 2; have := k.isLt; simp at *; omega⟩ :=
  (emb3 (a := 2) (b := 512) (n := 1408) inb i j k).trans (by
    obtain rfl : i = 0 := Subsingleton.elim _ _
    congr 1
    exact Fin.ext (by simp))

theorem emb7 {s o c n : ℕ}
    (inb : ∀ x, (![s, o, c] : Fin 3 → ℕ) x + (![1, 1, n] : Fin 3 → ℕ) x ≤ S2x8x1408.size x)
    (i : Fin 1) (j : Fin 1) (k : Fin n) :
    (Rect.unit (s := S2x8x1408) ![s, o, c] ![1, 1, n] inb).emb (ix3 i j k)
      = ix3 ⟨s, by have := inb 0; simp at *; omega⟩ ⟨o, by have := inb 1; simp at *; omega⟩
          ⟨c + k.val, by have := inb 2; have := k.isLt; simp at *; omega⟩ :=
  (emb3 (a := 2) (b := 8) (n := 1408) inb i j k).trans (by
    obtain rfl : i = 0 := Subsingleton.elim _ _
    obtain rfl : j = 0 := Subsingleton.elim _ _
    rfl)

/-- An element of a rectangle of a box of rank 2, by its coordinates. -/
theorem emb2 {a b : ℕ} {s o a' b' : ℕ}
    (inb : ∀ x, (![s, o] : Fin 2 → ℕ) x + (![a', b'] : Fin 2 → ℕ) x ≤ (⟨2, ![a, b]⟩ : Shape).size x)
    (i : Fin a') (j : Fin b') :
    (Rect.unit (s := ⟨2, ![a, b]⟩) ![s, o] ![a', b'] inb).emb (ix2 i j)
      = ix2 ⟨s + i.val, by have := inb 0; have := i.isLt; simp at *; omega⟩
          ⟨o + j.val, by have := inb 1; have := j.isLt; simp at *; omega⟩ := by
  funext x
  apply Fin.ext
  show (![s, o] : Fin 2 → ℕ) x + 1 * _ = _
  rw [one_mul]
  fin_cases x <;> rfl

theorem embE {c n : ℕ}
    (inb : ∀ x, (![0, c] : Fin 2 → ℕ) x + (![8, n] : Fin 2 → ℕ) x ≤ S8x1408.size x) (j : Fin 8) (k : Fin n) :
    (Rect.unit (s := S8x1408) ![0, c] ![8, n] inb).emb (ix2 j k)
      = ix2 j ⟨c + k.val, by have := inb 1; have := k.isLt; simp at *; omega⟩ :=
  (emb2 (a := 8) (b := 1408) inb j k).trans (by
    congr 1
    exact Fin.ext (by simp))

/-- The part of an array under a rectangle. -/
def blk {s : Shape} {e : EltTy} {Val : EltTy → Type} (X : s.Idx → Val e) (B : Rect s) : B.shape.Idx → Val e :=
  fun x => X (B.emb x)

theorem readAt_blk {sig : RefSig} {κ : Kind} {sp : Space} {s : Shape} {e : EltTy} {Val : EltTy → Type}
    (m : Memref sig κ sp s e) (h : m.IsWhole) (B : Rect s) (X : s.Idx → Val e) :
    View.readAt Val m.view B.toLoadRect (h.unread X) = blk X B :=
  funext fun x => Memref.IsWhole.readAt_unread h X B.toLoadRect x

theorem blk0 {n m : ℕ} {e : EltTy} {Val : EltTy → Type} (X : (⟨2, ![n, m]⟩ : Shape).Idx → Val e)
    (inb : ∀ x, (![0, 0] : Fin 2 → ℕ) x + (![n, m] : Fin 2 → ℕ) x ≤ (⟨2, ![n, m]⟩ : Shape).size x) (i : Fin n) (j : Fin m) :
    blk X (Rect.unit (s := ⟨2, ![n, m]⟩) ![0, 0] ![n, m] inb) (ix2 i j) = X (ix2 i j) :=
  congrArg X ((emb2 inb i j).trans (by congr 1 <;> exact Fin.ext (by simp)))

theorem blkR {a b n c : ℕ} {e : EltTy} {Val : EltTy → Type} (X : (⟨2, ![a, b]⟩ : Shape).Idx → Val e)
    (inb : ∀ x, (![c, 0] : Fin 2 → ℕ) x + (![n, b] : Fin 2 → ℕ) x ≤ (⟨2, ![a, b]⟩ : Shape).size x) (i : Fin n) (j : Fin b) :
    blk X (Rect.unit (s := ⟨2, ![a, b]⟩) ![c, 0] ![n, b] inb) (ix2 i j)
      = X (ix2 ⟨c + i.val, by have := inb 0; have := i.isLt; simp at *; omega⟩ j) :=
  congrArg X ((emb2 inb i j).trans (by congr 1; exact Fin.ext (by simp)))

theorem blkC {a b n s c : ℕ} {e : EltTy} {Val : EltTy → Type} (X : (⟨2, ![a, b]⟩ : Shape).Idx → Val e)
    (inb : ∀ x, (![s, c] : Fin 2 → ℕ) x + (![1, n] : Fin 2 → ℕ) x ≤ (⟨2, ![a, b]⟩ : Shape).size x) (i : Fin 1) (j : Fin n) :
    blk X (Rect.unit (s := ⟨2, ![a, b]⟩) ![s, c] ![1, n] inb) (ix2 i j)
      = X (ix2 ⟨s, by have := inb 0; simp at *; omega⟩ ⟨c + j.val, by have := inb 1; have := j.isLt; simp at *; omega⟩) :=
  congrArg X ((emb2 inb i j).trans (by obtain rfl : i = 0 := Subsingleton.elim _ _; rfl))

theorem blkE {n c : ℕ} {e : EltTy} {Val : EltTy → Type} (X : S8x1408.Idx → Val e)
    (inb : ∀ x, (![0, c] : Fin 2 → ℕ) x + (![8, n] : Fin 2 → ℕ) x ≤ S8x1408.size x) (i : Fin 8) (j : Fin n) :
    blk X (Rect.unit (s := S8x1408) ![0, c] ![8, n] inb) (ix2 i j)
      = X (ix2 i ⟨c + j.val, by have := inb 1; have := j.isLt; simp at *; omega⟩) :=
  congrArg X (embE inb i j)

theorem blk6 {n s c : ℕ} {e : EltTy} {Val : EltTy → Type} (X : S2x512x1408.Idx → Val e)
    (inb : ∀ x, (![s, 0, c] : Fin 3 → ℕ) x + (![1, 512, n] : Fin 3 → ℕ) x ≤ S2x512x1408.size x) (i : Fin 1) (j : Fin 512) (k : Fin n) :
    blk X (Rect.unit (s := S2x512x1408) ![s, 0, c] ![1, 512, n] inb) (ix3 i j k)
      = X (ix3 ⟨s, by have := inb 0; simp at *; omega⟩ j ⟨c + k.val, by have := inb 2; have := k.isLt; simp at *; omega⟩) :=
  congrArg X (emb6 inb i j k)

theorem blk7 {n s o c : ℕ} {e : EltTy} {Val : EltTy → Type} (X : S2x8x1408.Idx → Val e)
    (inb : ∀ x, (![s, o, c] : Fin 3 → ℕ) x + (![1, 1, n] : Fin 3 → ℕ) x ≤ S2x8x1408.size x) (i j : Fin 1) (k : Fin n) :
    blk X (Rect.unit (s := S2x8x1408) ![s, o, c] ![1, 1, n] inb) (ix3 i j k)
      = X (ix3 ⟨s, by have := inb 0; simp at *; omega⟩ ⟨o, by have := inb 1; simp at *; omega⟩
          ⟨c + k.val, by have := inb 2; have := k.isLt; simp at *; omega⟩) :=
  congrArg X (emb7 inb i j k)

/-- A buffer after pieces that all agree with `G`, and holding `G` already where no piece lies, holds `G`. -/
theorem read_of_pieces {sig : RefSig} {κ : Kind} {sp : Space} {s : Shape} {e : EltTy} {Val : EltTy → Type}
    (v : View sig κ sp s e) (f : v.ty.Contents Val) (G : s.Idx → Val e) (L : List (View.Piece Val s e))
    (hL : ∀ p ∈ L, ∀ x : p.1.shape.Idx, p.2 x = G (p.1.emb x))
    (h : ∀ y, (∀ p ∈ L, y ∉ p.1.set) → v.read Val f y = G y) : v.read Val (v.writes Val f L) = G := by
  funext y
  suffices key : ∀ L : List (View.Piece Val s e), (∀ p ∈ L, ∀ x : p.1.shape.Idx, p.2 x = G (p.1.emb x)) →
      (v.read Val (v.writes Val f L) y = G y) ∨
        ((∀ p ∈ L, y ∉ p.1.set) ∧ v.read Val (v.writes Val f L) y = v.read Val f y) by
    rcases key L hL with h' | ⟨h1, h2⟩
    · exact h'
    · rw [h2]; exact h y h1
  intro L
  induction L with
  | nil => intro _; right; exact ⟨by simp, rfl⟩
  | cons p L ih =>
    intro hL
    by_cases hy : y ∈ p.1.set
    · left
      rw [← Rect.map_emb_univ, Finset.mem_map] at hy
      obtain ⟨x, -, hx⟩ := hy
      subst hx
      rw [View.writes_cons]
      exact (View.read_slice_write_emb _ _ _ (Finset.mem_univ x)).trans (hL p (by simp) x)
    · have hr : v.read Val (v.writes Val f (p :: L)) y = v.read Val (v.writes Val f L) y := by
        rw [View.writes_cons]
        exact View.read_slice_write_of_not_mem _ _ _ _ (by rw [Rect.map_emb_univ]; exact hy)
      rcases ih (fun q hq => hL q (by simp [hq])) with h' | ⟨h1, h2⟩
      · left; rw [hr]; exact h'
      · right
        refine ⟨?_, hr.trans h2⟩
        intro q hq
        rcases List.mem_cons.mp hq with rfl | hq
        · exact hy
        · exact h1 q hq

end Cert.KernelIdeal.Gate

end
-- ==== Proof.GateChunk.lean ====
module

public import proofs.«01_k».proof.Proof.GateTile

@[expose] public section

set_option maxRecDepth 16384

noncomputable section

namespace Cert.KernelIdeal.Gate

open Idealize.ShloMosaic Cert.KernelIdeal.Gen

section
variable (x0 : Vec Ideal S512x2048 .bf16) (x1 : Vec Ideal S1408x2048 .bf16) (x2 x3 : Vec Ideal S2x512x1408 .bf16)
  (e : Vec Ideal S8x1408 .f32) (s : Fin 2) (q : Fin 1408)

theorem tC_0 : tC x0 x1 x2 x3 e s 0 q
    = ∑ r : Fin 512, up2 (fun r => tD x0 x1 x3 s r q) (fun r => e (ix2 r q)) r * x2 (ix3 s r q) := by simp [tC]
theorem tC_1 : tC x0 x1 x2 x3 e s 1 q
    = ∑ r : Fin 512, up1 (fun r => tD x0 x1 x3 s r q) (fun r => e (ix2 r q)) r * x2 (ix3 s r q) := by simp [tC]
theorem tC_2 : tC x0 x1 x2 x3 e s 2 q = ∑ r : Fin 512, tD x0 x1 x3 s r q * x2 (ix3 s r q) := by simp [tC]
theorem tC_3 : tC x0 x1 x2 x3 e s 3 q = ∑ r : Fin 512, tD x0 x1 x3 s r q := by simp [tC]
end

/-! ### Column chunks of width 256 -/

section
variable (v3 : Vec Ideal S512x2048 .bf16) (v5 : Vec Ideal S256x2048 .bf16) (v8 v12 : Vec Ideal S1x512x256 .bf16)
  (v15 : Vec Ideal S8x256 .f32) (w0 w1 w2 : Vec Ideal S1x256 .f32) (acc : Vec Ideal S1x1x256 .f32)

/-- The chunk's gradient of the convolved half. -/
def d256 : FVec Ideal S512x256 .f32 :=
  mulf (matmul (F := Ideal) (φ₁ := .bf16) (φ₂ := .bf16) dot_S512x2048_S256x2048_S512x256_1_1_0_0_n_n none
      (shapeCast S512x2048 v3 shapeCasts_S512x2048_S512x2048 : FVec Ideal S512x2048 .bf16) (shapeCast S256x2048 v5 shapeCasts_S256x2048_S256x2048 : FVec Ideal S256x2048 .bf16)
      (constant S512x256 .f32 0x00000000#32))
    (extf .f32 (shapeCast S512x256 v8 shapeCasts_S1x512x256_S512x256 : FVec Ideal S512x256 .bf16) bitsLt_bf16_f32)

/-- The chunk moved up by one row. -/
def s256 : FVec Ideal S512x256 .f32 :=
  concatenate S512x256 0 [⟨S504x256, extractStridedSlice S504x256 ![0, 0]
      (dynamicRotate 0 511#32 none (d256 v3 v5 v8) rotates_S512x256_d0) slices_S512x256_o0_0_S504x256⟩,
    ⟨S8x256, select (cmpi .sge (iota .tc S8x256 32 [0] iota_S8x256_d0_w32) (broadcast S8x256 7#32))
      (dynamicRotate 0 7#32 none v15 rotates_S8x256_d0)
      (extractStridedSlice S8x256 ![504, 0] (dynamicRotate 0 511#32 none (d256 v3 v5 v8) rotates_S512x256_d0)
        slices_S512x256_o504_0_S8x256)⟩] concatenates_S504x256_S8x256_S512x256_d0

/-- The chunk moved up by two rows. -/
def t256 : FVec Ideal S512x256 .f32 :=
  concatenate S512x256 0 [⟨S504x256, extractStridedSlice S504x256 ![0, 0]
      (dynamicRotate 0 510#32 none (d256 v3 v5 v8) rotates_S512x256_d0) slices_S512x256_o0_0_S504x256⟩,
    ⟨S8x256, select (cmpi .sge (iota .tc S8x256 32 [0] iota_S8x256_d0_w32) (broadcast S8x256 6#32))
      (dynamicRotate 0 6#32 none v15 rotates_S8x256_d0)
      (extractStridedSlice S8x256 ![504, 0] (dynamicRotate 0 510#32 none (d256 v3 v5 v8) rotates_S512x256_d0)
        slices_S512x256_o504_0_S8x256)⟩] concatenates_S504x256_S8x256_S512x256_d0

/-- The chunk of the first result. -/
def u256 : FVec Ideal S1x512x256 .bf16 :=
  shapeCast S1x512x256 (truncf .bf16
    (addf (addf (mulf (broadcastTo S512x256 w2 broadcasts_S1x256_S512x256) (d256 v3 v5 v8))
        (mulf (broadcastTo S512x256 w1 broadcasts_S1x256_S512x256) (s256 v3 v5 v8 v15)))
      (mulf (broadcastTo S512x256 w0 broadcasts_S1x256_S512x256) (t256 v3 v5 v8 v15))) bitsLt_bf16_f32)
    shapeCasts_S512x256_S1x512x256

/-- The edge the chunk leaves. -/
def e256 : FVec Ideal S8x256 .f32 :=
  shapeCast S8x256 (extractStridedSlice S8x256 ![0, 0] (d256 v3 v5 v8) slices_S512x256_o0_0_S8x256) shapeCasts_S8x256_S8x256

/-- A row of sums over the rows of `a`, added to what the buffer held. -/
def r256 (a : FVec Ideal S512x256 .f32) : FVec Ideal S1x1x256 .f32 :=
  shapeCast S1x1x256 (addf (shapeCast S1x256 acc shapeCasts_S1x1x256_S1x256)
    (shapeCast S1x256 (multiReduction (F := Ideal) .add [0] S256 a 0x00000000#32 reduces_S512x256_S256 (.inl rfl) rfl)
      shapeCasts_S256_S1x256)) shapeCasts_S1x256_S1x1x256

/-- The convolution's own input, widened. -/
def i256 : FVec Ideal S512x256 .f32 := extf .f32 (shapeCast S512x256 v12 shapeCasts_S1x512x256_S512x256) bitsLt_bf16_f32

theorem d256_at (r : Fin 512) (q : Fin 256) :
    d256 v3 v5 v8 (ix2 r q) = (∑ k, v3 (ix2 r k) * v5 (ix2 q k)) * v8 (ix3 0 r q) := by
  unfold d256; pointwise

theorem s256_at (r : Fin 512) (q : Fin 256) :
    s256 v3 v5 v8 v15 (ix2 r q) = up1 (fun r => d256 v3 v5 v8 (ix2 r q)) (fun r => v15 (ix2 r q)) r := by
  unfold s256 up1; generalize d256 v3 v5 v8 = d; pointwise

theorem t256_at (r : Fin 512) (q : Fin 256) :
    t256 v3 v5 v8 v15 (ix2 r q) = up2 (fun r => d256 v3 v5 v8 (ix2 r q)) (fun r => v15 (ix2 r q)) r := by
  unfold t256 up2; generalize d256 v3 v5 v8 = d; pointwise

theorem u256_at (z : Fin 1) (r : Fin 512) (q : Fin 256) :
    u256 v3 v5 v8 v15 w0 w1 w2 (ix3 z r q)
      = w2 (ix2 0 q) * d256 v3 v5 v8 (ix2 r q) + w1 (ix2 0 q) * s256 v3 v5 v8 v15 (ix2 r q)
        + w0 (ix2 0 q) * t256 v3 v5 v8 v15 (ix2 r q) := by
  unfold u256; generalize d256 v3 v5 v8 = d; generalize s256 v3 v5 v8 v15 = s; generalize t256 v3 v5 v8 v15 = t; pointwise

theorem e256_at (r : Fin 8) (q : Fin 256) :
    e256 v3 v5 v8 (ix2 r q) = d256 v3 v5 v8 (ix2 ⟨r.val, lt_trans r.isLt (by decide)⟩ q) := by
  unfold e256; generalize d256 v3 v5 v8 = d; pointwise

theorem r256_at (a : FVec Ideal S512x256 .f32) (z z' : Fin 1) (q : Fin 256) :
    r256 acc a (ix3 z z' q) = acc (ix3 z z' q) + ∑ r, a (ix2 r q) := by
  obtain rfl : z = 0 := Subsingleton.elim _ _
  obtain rfl : z' = 0 := Subsingleton.elim _ _
  unfold r256; pointwise

theorem i256_at (r : Fin 512) (q : Fin 256) : i256 v12 (ix2 r q) = v12 (ix3 0 r q) := by
  unfold i256; pointwise

end

section
variable (a0 : Vec Ideal S512x2048 .bf16) (a1 : Vec Ideal S1408x2048 .bf16) (a2 a3 : Vec Ideal S2x512x1408 .bf16)
  (a7 : Vec Ideal S2x8x1408 .f32) (w : Vec Ideal S3x1408 .f32) (e : Vec Ideal S8x1408 .f32) (s c : ℕ) (i0 i1 i3 ie j0 j1 j2)

/-- A chunk's loads, by its half `s` and its first column `c`. -/
abbrev D256 : FVec Ideal S512x256 .f32 :=
  d256 (blk a0 (Rect.unit (s := S512x2048) ![0, 0] ![512, 2048] i0))
    (blk a1 (Rect.unit (s := S1408x2048) ![c, 0] ![256, 2048] i1))
    (blk a3 (Rect.unit (s := S2x512x1408) ![s, 0, c] ![1, 512, 256] i3))

abbrev S256' : FVec Ideal S512x256 .f32 :=
  s256 (blk a0 (Rect.unit (s := S512x2048) ![0, 0] ![512, 2048] i0))
    (blk a1 (Rect.unit (s := S1408x2048) ![c, 0] ![256, 2048] i1))
    (blk a3 (Rect.unit (s := S2x512x1408) ![s, 0, c] ![1, 512, 256] i3))
    (blk e (Rect.unit (s := S8x1408) ![0, c] ![8, 256] ie))

abbrev T256 : FVec Ideal S512x256 .f32 :=
  t256 (blk a0 (Rect.unit (s := S512x2048) ![0, 0] ![512, 2048] i0))
    (blk a1 (Rect.unit (s := S1408x2048) ![c, 0] ![256, 2048] i1))
    (blk a3 (Rect.unit (s := S2x512x1408) ![s, 0, c] ![1, 512, 256] i3))
    (blk e (Rect.unit (s := S8x1408) ![0, c] ![8, 256] ie))

abbrev U256 : FVec Ideal S1x512x256 .bf16 :=
  u256 (blk a0 (Rect.unit (s := S512x2048) ![0, 0] ![512, 2048] i0))
    (blk a1 (Rect.unit (s := S1408x2048) ![c, 0] ![256, 2048] i1))
    (blk a3 (Rect.unit (s := S2x512x1408) ![s, 0, c] ![1, 512, 256] i3))
    (blk e (Rect.unit (s := S8x1408) ![0, c] ![8, 256] ie))
    (blk w (Rect.unit (s := S3x1408) ![0, c] ![1, 256] j0)) (blk w (Rect.unit (s := S3x1408) ![1, c] ![1, 256] j1))
    (blk w (Rect.unit (s := S3x1408) ![2, c] ![1, 256] j2))

abbrev I256 : FVec Ideal S512x256 .f32 := i256 (blk a2 (Rect.unit (s := S2x512x1408) ![s, 0, c] ![1, 512, 256] i3))

abbrev E256 : FVec Ideal S8x256 .f32 :=
  e256 (blk a0 (Rect.unit (s := S512x2048) ![0, 0] ![512, 2048] i0))
    (blk a1 (Rect.unit (s := S1408x2048) ![c, 0] ![256, 2048] i1))
    (blk a3 (Rect.unit (s := S2x512x1408) ![s, 0, c] ![1, 512, 256] i3))

theorem D256_at (hs : s < 2) (r : Fin 512) (q : Fin 256) (hq : c + q.val < 1408) :
    D256 a0 a1 a3 s c i0 i1 i3 (ix2 r q) = tD a0 a1 a3 ⟨s, hs⟩ r ⟨c + q.val, hq⟩ := by
  rw [D256, d256_at]
  simp only [blk0]
  simp only [blkR, blk6]
  rfl

theorem S256_at (hs : s < 2) (r : Fin 512) (q : Fin 256) (hq : c + q.val < 1408) :
    S256' a0 a1 a3 e s c i0 i1 i3 ie (ix2 r q)
      = up1 (fun r => tD a0 a1 a3 ⟨s, hs⟩ r ⟨c + q.val, hq⟩) (fun r => e (ix2 r ⟨c + q.val, hq⟩)) r := by
  rw [S256', s256_at]
  exact congrArg₂ (fun f g => up1 f g r) (funext fun r => D256_at a0 a1 a3 s c i0 i1 i3 hs r q hq)
    (funext fun r => blkE e ie r q)

theorem T256_at (hs : s < 2) (r : Fin 512) (q : Fin 256) (hq : c + q.val < 1408) :
    T256 a0 a1 a3 e s c i0 i1 i3 ie (ix2 r q)
      = up2 (fun r => tD a0 a1 a3 ⟨s, hs⟩ r ⟨c + q.val, hq⟩) (fun r => e (ix2 r ⟨c + q.val, hq⟩)) r := by
  rw [T256, t256_at]
  exact congrArg₂ (fun f g => up2 f g r) (funext fun r => D256_at a0 a1 a3 s c i0 i1 i3 hs r q hq)
    (funext fun r => blkE e ie r q)

theorem U256_at (hs : s < 2) (z : Fin 1) (r : Fin 512) (q : Fin 256) (hq : c + q.val < 1408) :
    U256 a0 a1 a3 w e s c i0 i1 i3 ie j0 j1 j2 (ix3 z r q) = tU a0 a1 a3 w e ⟨s, hs⟩ r ⟨c + q.val, hq⟩ := by
  rw [U256, u256_at]
  have h1 := D256_at a0 a1 a3 s c i0 i1 i3 hs r q hq
  have h2 := S256_at a0 a1 a3 e s c i0 i1 i3 ie hs r q hq
  have h3 := T256_at a0 a1 a3 e s c i0 i1 i3 ie hs r q hq
  unfold D256 at h1; unfold S256' at h2; unfold T256 at h3
  rw [h1, h2, h3]
  simp only [blkC]
  rfl

theorem E256_at (hs : s < 2) (r : Fin 8) (q : Fin 256) (hq : c + q.val < 1408) :
    E256 a0 a1 a3 s c i0 i1 i3 (ix2 r q) = gE a0 a1 a3 ⟨s, hs⟩ (ix2 r ⟨c + q.val, hq⟩) :=
  (e256_at _ _ _ r q).trans (D256_at a0 a1 a3 s c i0 i1 i3 hs _ q hq)

theorem I256_at (hs : s < 2) (r : Fin 512) (q : Fin 256) (hq : c + q.val < 1408) :
    I256 a2 s c i3 (ix2 r q) = a2 (ix3 ⟨s, hs⟩ r ⟨c + q.val, hq⟩) :=
  (i256_at _ r q).trans (blk6 a2 i3 0 r q)

/-- A piece of the first result. -/
theorem p256_6 (hs : s < 2) (g : S2x512x1408.Idx → EReal)
    (hg : ∀ (r : Fin 512) (q : Fin 1408), g (ix3 ⟨s, hs⟩ r q) = tU a0 a1 a3 w e ⟨s, hs⟩ r q)
    (x : (Rect.unit (s := S2x512x1408) ![s, 0, c] ![1, 512, 256] i3).shape.Idx) :
    U256 a0 a1 a3 w e s c i0 i1 i3 ie j0 j1 j2 x = g ((Rect.unit (s := S2x512x1408) ![s, 0, c] ![1, 512, 256] i3).emb x) := by
  idx_vars x
  rw [U256_at a0 a1 a3 w e s c i0 i1 i3 ie j0 j1 j2 hs _ _ _ (by have := i3 2; simp at this; omega)]
  exact (hg _ _).symm.trans (congrArg g (emb6 i3 _ _ _).symm)

/-- A piece of an edge. -/
theorem p256_E (hs : s < 2) (x : (Rect.unit (s := S8x1408) ![0, c] ![8, 256] ie).shape.Idx) :
    E256 a0 a1 a3 s c i0 i1 i3 x = gE a0 a1 a3 ⟨s, hs⟩ ((Rect.unit (s := S8x1408) ![0, c] ![8, 256] ie).emb x) := by
  idx_vars x
  rw [E256_at a0 a1 a3 s c i0 i1 i3 hs _ _ (by have := i3 2; simp at this; omega)]
  exact congrArg _ (embE ie _ _).symm

/-- A piece of the second result: row `o` of half `s`. -/
theorem p256_7 (hs : s < 2) (o : ℕ) (ho : o < 8) (i7) (g : S2x8x1408.Idx → EReal) (a : FVec Ideal S512x256 .f32)
    (hg : ∀ (q : Fin 256) (hq : c + q.val < 1408), g (ix3 ⟨s, hs⟩ ⟨o, ho⟩ ⟨c + q.val, hq⟩)
      = a7 (ix3 ⟨s, hs⟩ ⟨o, ho⟩ ⟨c + q.val, hq⟩) + ∑ r, a (ix2 r q))
    (x : (Rect.unit (s := S2x8x1408) ![s, o, c] ![1, 1, 256] i7).shape.Idx) :
    r256 (blk a7 (Rect.unit (s := S2x8x1408) ![s, o, c] ![1, 1, 256] i7)) a x
      = g ((Rect.unit (s := S2x8x1408) ![s, o, c] ![1, 1, 256] i7).emb x) := by
  idx_vars x
  rw [r256_at, blk7]
  exact (hg _ _).symm.trans (congrArg g (emb7 i7 _ _ _).symm)

/-- The four rows of sums. -/
theorem p256_70 (hs : s < 2) (i7) (g : S2x8x1408.Idx → EReal)
    (hg : ∀ q : Fin 1408, g (ix3 ⟨s, hs⟩ 0 q) = a7 (ix3 ⟨s, hs⟩ 0 q) + tC a0 a1 a2 a3 e ⟨s, hs⟩ 0 q)
    (x : (Rect.unit (s := S2x8x1408) ![s, 0, c] ![1, 1, 256] i7).shape.Idx) :
    r256 (blk a7 (Rect.unit (s := S2x8x1408) ![s, 0, c] ![1, 1, 256] i7))
        (mulf (T256 a0 a1 a3 e s c i0 i1 i3 ie) (I256 a2 s c i3)) x
      = g ((Rect.unit (s := S2x8x1408) ![s, 0, c] ![1, 1, 256] i7).emb x) := by
  refine p256_7 a7 s c hs 0 (by decide) i7 g _ (fun q hq => (hg _).trans ?_) x
  rw [tC_0]
  refine congrArg₂ (· + ·) rfl (Finset.sum_congr rfl fun r _ => ?_)
  exact (congrArg₂ (· * ·) (T256_at a0 a1 a3 e s c i0 i1 i3 ie hs r q hq) (I256_at a2 s c i3 hs r q hq)).symm

theorem p256_71 (hs : s < 2) (i7) (g : S2x8x1408.Idx → EReal)
    (hg : ∀ q : Fin 1408, g (ix3 ⟨s, hs⟩ 1 q) = a7 (ix3 ⟨s, hs⟩ 1 q) + tC a0 a1 a2 a3 e ⟨s, hs⟩ 1 q)
    (x : (Rect.unit (s := S2x8x1408) ![s, 1, c] ![1, 1, 256] i7).shape.Idx) :
    r256 (blk a7 (Rect.unit (s := S2x8x1408) ![s, 1, c] ![1, 1, 256] i7))
        (mulf (S256' a0 a1 a3 e s c i0 i1 i3 ie) (I256 a2 s c i3)) x
      = g ((Rect.unit (s := S2x8x1408) ![s, 1, c] ![1, 1, 256] i7).emb x) := by
  refine p256_7 a7 s c hs 1 (by decide) i7 g _ (fun q hq => (hg _).trans ?_) x
  rw [tC_1]
  refine congrArg₂ (· + ·) rfl (Finset.sum_congr rfl fun r _ => ?_)
  exact (congrArg₂ (· * ·) (S256_at a0 a1 a3 e s c i0 i1 i3 ie hs r q hq) (I256_at a2 s c i3 hs r q hq)).symm

theorem p256_72 (hs : s < 2) (i7) (g : S2x8x1408.Idx → EReal)
    (hg : ∀ q : Fin 1408, g (ix3 ⟨s, hs⟩ 2 q) = a7 (ix3 ⟨s, hs⟩ 2 q) + tC a0 a1 a2 a3 e ⟨s, hs⟩ 2 q)
    (x : (Rect.unit (s := S2x8x1408) ![s, 2, c] ![1, 1, 256] i7).shape.Idx) :
    r256 (blk a7 (Rect.unit (s := S2x8x1408) ![s, 2, c] ![1, 1, 256] i7))
        (mulf (D256 a0 a1 a3 s c i0 i1 i3) (I256 a2 s c i3)) x
      = g ((Rect.unit (s := S2x8x1408) ![s, 2, c] ![1, 1, 256] i7).emb x) := by
  refine p256_7 a7 s c hs 2 (by decide) i7 g _ (fun q hq => (hg _).trans ?_) x
  rw [tC_2]
  refine congrArg₂ (· + ·) rfl (Finset.sum_congr rfl fun r _ => ?_)
  exact (congrArg₂ (· * ·) (D256_at a0 a1 a3 s c i0 i1 i3 hs r q hq) (I256_at a2 s c i3 hs r q hq)).symm

theorem p256_73 (hs : s < 2) (i7) (g : S2x8x1408.Idx → EReal)
    (hg : ∀ q : Fin 1408, g (ix3 ⟨s, hs⟩ 3 q) = a7 (ix3 ⟨s, hs⟩ 3 q) + tC a0 a1 a2 a3 e ⟨s, hs⟩ 3 q)
    (x : (Rect.unit (s := S2x8x1408) ![s, 3, c] ![1, 1, 256] i7).shape.Idx) :
    r256 (blk a7 (Rect.unit (s := S2x8x1408) ![s, 3, c] ![1, 1, 256] i7)) (D256 a0 a1 a3 s c i0 i1 i3) x
      = g ((Rect.unit (s := S2x8x1408) ![s, 3, c] ![1, 1, 256] i7).emb x) := by
  refine p256_7 a7 s c hs 3 (by decide) i7 g _ (fun q hq => (hg _).trans ?_) x
  rw [tC_3]
  refine congrArg₂ (· + ·) rfl (Finset.sum_congr rfl fun r _ => ?_)
  exact (D256_at a0 a1 a3 s c i0 i1 i3 hs r q hq).symm

end

/-! ### Column chunks of width 128 -/

section
variable (v3 : Vec Ideal S512x2048 .bf16) (v5 : Vec Ideal S128x2048 .bf16) (v8 v12 : Vec Ideal S1x512x128 .bf16)
  (v15 : Vec Ideal S8x128 .f32) (w0 w1 w2 : Vec Ideal S1x128 .f32) (acc : Vec Ideal S1x1x128 .f32)

/-- The chunk's gradient of the convolved half. -/
def d128 : FVec Ideal S512x128 .f32 :=
  mulf (matmul (F := Ideal) (φ₁ := .bf16) (φ₂ := .bf16) dot_S512x2048_S128x2048_S512x128_1_1_0_0_n_n none
      (shapeCast S512x2048 v3 shapeCasts_S512x2048_S512x2048 : FVec Ideal S512x2048 .bf16) (shapeCast S128x2048 v5 shapeCasts_S128x2048_S128x2048 : FVec Ideal S128x2048 .bf16)
      (constant S512x128 .f32 0x00000000#32))
    (extf .f32 (shapeCast S512x128 v8 shapeCasts_S1x512x128_S512x128 : FVec Ideal S512x128 .bf16) bitsLt_bf16_f32)

/-- The chunk moved up by one row. -/
def s128 : FVec Ideal S512x128 .f32 :=
  concatenate S512x128 0 [⟨S504x128, extractStridedSlice S504x128 ![0, 0]
      (dynamicRotate 0 511#32 none (d128 v3 v5 v8) rotates_S512x128_d0) slices_S512x128_o0_0_S504x128⟩,
    ⟨S8x128, select (cmpi .sge (iota .tc S8x128 32 [0] iota_S8x128_d0_w32) (broadcast S8x128 7#32))
      (dynamicRotate 0 7#32 none v15 rotates_S8x128_d0)
      (extractStridedSlice S8x128 ![504, 0] (dynamicRotate 0 511#32 none (d128 v3 v5 v8) rotates_S512x128_d0)
        slices_S512x128_o504_0_S8x128)⟩] concatenates_S504x128_S8x128_S512x128_d0

/-- The chunk moved up by two rows. -/
def t128 : FVec Ideal S512x128 .f32 :=
  concatenate S512x128 0 [⟨S504x128, extractStridedSlice S504x128 ![0, 0]
      (dynamicRotate 0 510#32 none (d128 v3 v5 v8) rotates_S512x128_d0) slices_S512x128_o0_0_S504x128⟩,
    ⟨S8x128, select (cmpi .sge (iota .tc S8x128 32 [0] iota_S8x128_d0_w32) (broadcast S8x128 6#32))
      (dynamicRotate 0 6#32 none v15 rotates_S8x128_d0)
      (extractStridedSlice S8x128 ![504, 0] (dynamicRotate 0 510#32 none (d128 v3 v5 v8) rotates_S512x128_d0)
        slices_S512x128_o504_0_S8x128)⟩] concatenates_S504x128_S8x128_S512x128_d0

/-- The chunk of the first result. -/
def u128 : FVec Ideal S1x512x128 .bf16 :=
  shapeCast S1x512x128 (truncf .bf16
    (addf (addf (mulf (broadcastTo S512x128 w2 broadcasts_S1x128_S512x128) (d128 v3 v5 v8))
        (mulf (broadcastTo S512x128 w1 broadcasts_S1x128_S512x128) (s128 v3 v5 v8 v15)))
      (mulf (broadcastTo S512x128 w0 broadcasts_S1x128_S512x128) (t128 v3 v5 v8 v15))) bitsLt_bf16_f32)
    shapeCasts_S512x128_S1x512x128

/-- The edge the chunk leaves. -/
def e128 : FVec Ideal S8x128 .f32 :=
  shapeCast S8x128 (extractStridedSlice S8x128 ![0, 0] (d128 v3 v5 v8) slices_S512x128_o0_0_S8x128) shapeCasts_S8x128_S8x128

/-- A row of sums over the rows of `a`, added to what the buffer held. -/
def r128 (a : FVec Ideal S512x128 .f32) : FVec Ideal S1x1x128 .f32 :=
  shapeCast S1x1x128 (addf (shapeCast S1x128 acc shapeCasts_S1x1x128_S1x128)
    (shapeCast S1x128 (multiReduction (F := Ideal) .add [0] S128 a 0x00000000#32 reduces_S512x128_S128 (.inl rfl) rfl)
      shapeCasts_S128_S1x128)) shapeCasts_S1x128_S1x1x128

/-- The convolution's own input, widened. -/
def i128 : FVec Ideal S512x128 .f32 := extf .f32 (shapeCast S512x128 v12 shapeCasts_S1x512x128_S512x128) bitsLt_bf16_f32

theorem d128_at (r : Fin 512) (q : Fin 128) :
    d128 v3 v5 v8 (ix2 r q) = (∑ k, v3 (ix2 r k) * v5 (ix2 q k)) * v8 (ix3 0 r q) := by
  unfold d128; pointwise

theorem s128_at (r : Fin 512) (q : Fin 128) :
    s128 v3 v5 v8 v15 (ix2 r q) = up1 (fun r => d128 v3 v5 v8 (ix2 r q)) (fun r => v15 (ix2 r q)) r := by
  unfold s128 up1; generalize d128 v3 v5 v8 = d; pointwise

theorem t128_at (r : Fin 512) (q : Fin 128) :
    t128 v3 v5 v8 v15 (ix2 r q) = up2 (fun r => d128 v3 v5 v8 (ix2 r q)) (fun r => v15 (ix2 r q)) r := by
  unfold t128 up2; generalize d128 v3 v5 v8 = d; pointwise

theorem u128_at (z : Fin 1) (r : Fin 512) (q : Fin 128) :
    u128 v3 v5 v8 v15 w0 w1 w2 (ix3 z r q)
      = w2 (ix2 0 q) * d128 v3 v5 v8 (ix2 r q) + w1 (ix2 0 q) * s128 v3 v5 v8 v15 (ix2 r q)
        + w0 (ix2 0 q) * t128 v3 v5 v8 v15 (ix2 r q) := by
  unfold u128; generalize d128 v3 v5 v8 = d; generalize s128 v3 v5 v8 v15 = s; generalize t128 v3 v5 v8 v15 = t; pointwise

theorem e128_at (r : Fin 8) (q : Fin 128) :
    e128 v3 v5 v8 (ix2 r q) = d128 v3 v5 v8 (ix2 ⟨r.val, lt_trans r.isLt (by decide)⟩ q) := by
  unfold e128; generalize d128 v3 v5 v8 = d; pointwise

theorem r128_at (a : FVec Ideal S512x128 .f32) (z z' : Fin 1) (q : Fin 128) :
    r128 acc a (ix3 z z' q) = acc (ix3 z z' q) + ∑ r, a (ix2 r q) := by
  obtain rfl : z = 0 := Subsingleton.elim _ _
  obtain rfl : z' = 0 := Subsingleton.elim _ _
  unfold r128; pointwise

theorem i128_at (r : Fin 512) (q : Fin 128) : i128 v12 (ix2 r q) = v12 (ix3 0 r q) := by
  unfold i128; pointwise

end

section
variable (a0 : Vec Ideal S512x2048 .bf16) (a1 : Vec Ideal S1408x2048 .bf16) (a2 a3 : Vec Ideal S2x512x1408 .bf16)
  (a7 : Vec Ideal S2x8x1408 .f32) (w : Vec Ideal S3x1408 .f32) (e : Vec Ideal S8x1408 .f32) (s c : ℕ) (i0 i1 i3 ie j0 j1 j2)

/-- A chunk's loads, by its half `s` and its first column `c`. -/
abbrev D128 : FVec Ideal S512x128 .f32 :=
  d128 (blk a0 (Rect.unit (s := S512x2048) ![0, 0] ![512, 2048] i0))
    (blk a1 (Rect.unit (s := S1408x2048) ![c, 0] ![128, 2048] i1))
    (blk a3 (Rect.unit (s := S2x512x1408) ![s, 0, c] ![1, 512, 128] i3))

abbrev S128' : FVec Ideal S512x128 .f32 :=
  s128 (blk a0 (Rect.unit (s := S512x2048) ![0, 0] ![512, 2048] i0))
    (blk a1 (Rect.unit (s := S1408x2048) ![c, 0] ![128, 2048] i1))
    (blk a3 (Rect.unit (s := S2x512x1408) ![s, 0, c] ![1, 512, 128] i3))
    (blk e (Rect.unit (s := S8x1408) ![0, c] ![8, 128] ie))

abbrev T128 : FVec Ideal S512x128 .f32 :=
  t128 (blk a0 (Rect.unit (s := S512x2048) ![0, 0] ![512, 2048] i0))
    (blk a1 (Rect.unit (s := S1408x2048) ![c, 0] ![128, 2048] i1))
    (blk a3 (Rect.unit (s := S2x512x1408) ![s, 0, c] ![1, 512, 128] i3))
    (blk e (Rect.unit (s := S8x1408) ![0, c] ![8, 128] ie))

abbrev U128 : FVec Ideal S1x512x128 .bf16 :=
  u128 (blk a0 (Rect.unit (s := S512x2048) ![0, 0] ![512, 2048] i0))
    (blk a1 (Rect.unit (s := S1408x2048) ![c, 0] ![128, 2048] i1))
    (blk a3 (Rect.unit (s := S2x512x1408) ![s, 0, c] ![1, 512, 128] i3))
    (blk e (Rect.unit (s := S8x1408) ![0, c] ![8, 128] ie))
    (blk w (Rect.unit (s := S3x1408) ![0, c] ![1, 128] j0)) (blk w (Rect.unit (s := S3x1408) ![1, c] ![1, 128] j1))
    (blk w (Rect.unit (s := S3x1408) ![2, c] ![1, 128] j2))

abbrev I128 : FVec Ideal S512x128 .f32 := i128 (blk a2 (Rect.unit (s := S2x512x1408) ![s, 0, c] ![1, 512, 128] i3))

abbrev E128 : FVec Ideal S8x128 .f32 :=
  e128 (blk a0 (Rect.unit (s := S512x2048) ![0, 0] ![512, 2048] i0))
    (blk a1 (Rect.unit (s := S1408x2048) ![c, 0] ![128, 2048] i1))
    (blk a3 (Rect.unit (s := S2x512x1408) ![s, 0, c] ![1, 512, 128] i3))

theorem D128_at (hs : s < 2) (r : Fin 512) (q : Fin 128) (hq : c + q.val < 1408) :
    D128 a0 a1 a3 s c i0 i1 i3 (ix2 r q) = tD a0 a1 a3 ⟨s, hs⟩ r ⟨c + q.val, hq⟩ := by
  rw [D128, d128_at]
  simp only [blk0]
  simp only [blkR, blk6]
  rfl

theorem S128_at (hs : s < 2) (r : Fin 512) (q : Fin 128) (hq : c + q.val < 1408) :
    S128' a0 a1 a3 e s c i0 i1 i3 ie (ix2 r q)
      = up1 (fun r => tD a0 a1 a3 ⟨s, hs⟩ r ⟨c + q.val, hq⟩) (fun r => e (ix2 r ⟨c + q.val, hq⟩)) r := by
  rw [S128', s128_at]
  exact congrArg₂ (fun f g => up1 f g r) (funext fun r => D128_at a0 a1 a3 s c i0 i1 i3 hs r q hq)
    (funext fun r => blkE e ie r q)

theorem T128_at (hs : s < 2) (r : Fin 512) (q : Fin 128) (hq : c + q.val < 1408) :
    T128 a0 a1 a3 e s c i0 i1 i3 ie (ix2 r q)
      = up2 (fun r => tD a0 a1 a3 ⟨s, hs⟩ r ⟨c + q.val, hq⟩) (fun r => e (ix2 r ⟨c + q.val, hq⟩)) r := by
  rw [T128, t128_at]
  exact congrArg₂ (fun f g => up2 f g r) (funext fun r => D128_at a0 a1 a3 s c i0 i1 i3 hs r q hq)
    (funext fun r => blkE e ie r q)

theorem U128_at (hs : s < 2) (z : Fin 1) (r : Fin 512) (q : Fin 128) (hq : c + q.val < 1408) :
    U128 a0 a1 a3 w e s c i0 i1 i3 ie j0 j1 j2 (ix3 z r q) = tU a0 a1 a3 w e ⟨s, hs⟩ r ⟨c + q.val, hq⟩ := by
  rw [U128, u128_at]
  have h1 := D128_at a0 a1 a3 s c i0 i1 i3 hs r q hq
  have h2 := S128_at a0 a1 a3 e s c i0 i1 i3 ie hs r q hq
  have h3 := T128_at a0 a1 a3 e s c i0 i1 i3 ie hs r q hq
  unfold D128 at h1; unfold S128' at h2; unfold T128 at h3
  rw [h1, h2, h3]
  simp only [blkC]
  rfl

theorem E128_at (hs : s < 2) (r : Fin 8) (q : Fin 128) (hq : c + q.val < 1408) :
    E128 a0 a1 a3 s c i0 i1 i3 (ix2 r q) = gE a0 a1 a3 ⟨s, hs⟩ (ix2 r ⟨c + q.val, hq⟩) :=
  (e128_at _ _ _ r q).trans (D128_at a0 a1 a3 s c i0 i1 i3 hs _ q hq)

theorem I128_at (hs : s < 2) (r : Fin 512) (q : Fin 128) (hq : c + q.val < 1408) :
    I128 a2 s c i3 (ix2 r q) = a2 (ix3 ⟨s, hs⟩ r ⟨c + q.val, hq⟩) :=
  (i128_at _ r q).trans (blk6 a2 i3 0 r q)

/-- A piece of the first result. -/
theorem p128_6 (hs : s < 2) (g : S2x512x1408.Idx → EReal)
    (hg : ∀ (r : Fin 512) (q : Fin 1408), g (ix3 ⟨s, hs⟩ r q) = tU a0 a1 a3 w e ⟨s, hs⟩ r q)
    (x : (Rect.unit (s := S2x512x1408) ![s, 0, c] ![1, 512, 128] i3).shape.Idx) :
    U128 a0 a1 a3 w e s c i0 i1 i3 ie j0 j1 j2 x = g ((Rect.unit (s := S2x512x1408) ![s, 0, c] ![1, 512, 128] i3).emb x) := by
  idx_vars x
  rw [U128_at a0 a1 a3 w e s c i0 i1 i3 ie j0 j1 j2 hs _ _ _ (by have := i3 2; simp at this; omega)]
  exact (hg _ _).symm.trans (congrArg g (emb6 i3 _ _ _).symm)

/-- A piece of an edge. -/
theorem p128_E (hs : s < 2) (x : (Rect.unit (s := S8x1408) ![0, c] ![8, 128] ie).shape.Idx) :
    E128 a0 a1 a3 s c i0 i1 i3 x = gE a0 a1 a3 ⟨s, hs⟩ ((Rect.unit (s := S8x1408) ![0, c] ![8, 128] ie).emb x) := by
  idx_vars x
  rw [E128_at a0 a1 a3 s c i0 i1 i3 hs _ _ (by have := i3 2; simp at this; omega)]
  exact congrArg _ (embE ie _ _).symm

/-- A piece of the second result: row `o` of half `s`. -/
theorem p128_7 (hs : s < 2) (o : ℕ) (ho : o < 8) (i7) (g : S2x8x1408.Idx → EReal) (a : FVec Ideal S512x128 .f32)
    (hg : ∀ (q : Fin 128) (hq : c + q.val < 1408), g (ix3 ⟨s, hs⟩ ⟨o, ho⟩ ⟨c + q.val, hq⟩)
      = a7 (ix3 ⟨s, hs⟩ ⟨o, ho⟩ ⟨c + q.val, hq⟩) + ∑ r, a (ix2 r q))
    (x : (Rect.unit (s := S2x8x1408) ![s, o, c] ![1, 1, 128] i7).shape.Idx) :
    r128 (blk a7 (Rect.unit (s := S2x8x1408) ![s, o, c] ![1, 1, 128] i7)) a x
      = g ((Rect.unit (s := S2x8x1408) ![s, o, c] ![1, 1, 128] i7).emb x) := by
  idx_vars x
  rw [r128_at, blk7]
  exact (hg _ _).symm.trans (congrArg g (emb7 i7 _ _ _).symm)

/-- The four rows of sums. -/
theorem p128_70 (hs : s < 2) (i7) (g : S2x8x1408.Idx → EReal)
    (hg : ∀ q : Fin 1408, g (ix3 ⟨s, hs⟩ 0 q) = a7 (ix3 ⟨s, hs⟩ 0 q) + tC a0 a1 a2 a3 e ⟨s, hs⟩ 0 q)
    (x : (Rect.unit (s := S2x8x1408) ![s, 0, c] ![1, 1, 128] i7).shape.Idx) :
    r128 (blk a7 (Rect.unit (s := S2x8x1408) ![s, 0, c] ![1, 1, 128] i7))
        (mulf (T128 a0 a1 a3 e s c i0 i1 i3 ie) (I128 a2 s c i3)) x
      = g ((Rect.unit (s := S2x8x1408) ![s, 0, c] ![1, 1, 128] i7).emb x) := by
  refine p128_7 a7 s c hs 0 (by decide) i7 g _ (fun q hq => (hg _).trans ?_) x
  rw [tC_0]
  refine congrArg₂ (· + ·) rfl (Finset.sum_congr rfl fun r _ => ?_)
  exact (congrArg₂ (· * ·) (T128_at a0 a1 a3 e s c i0 i1 i3 ie hs r q hq) (I128_at a2 s c i3 hs r q hq)).symm

theorem p128_71 (hs : s < 2) (i7) (g : S2x8x1408.Idx → EReal)
    (hg : ∀ q : Fin 1408, g (ix3 ⟨s, hs⟩ 1 q) = a7 (ix3 ⟨s, hs⟩ 1 q) + tC a0 a1 a2 a3 e ⟨s, hs⟩ 1 q)
    (x : (Rect.unit (s := S2x8x1408) ![s, 1, c] ![1, 1, 128] i7).shape.Idx) :
    r128 (blk a7 (Rect.unit (s := S2x8x1408) ![s, 1, c] ![1, 1, 128] i7))
        (mulf (S128' a0 a1 a3 e s c i0 i1 i3 ie) (I128 a2 s c i3)) x
      = g ((Rect.unit (s := S2x8x1408) ![s, 1, c] ![1, 1, 128] i7).emb x) := by
  refine p128_7 a7 s c hs 1 (by decide) i7 g _ (fun q hq => (hg _).trans ?_) x
  rw [tC_1]
  refine congrArg₂ (· + ·) rfl (Finset.sum_congr rfl fun r _ => ?_)
  exact (congrArg₂ (· * ·) (S128_at a0 a1 a3 e s c i0 i1 i3 ie hs r q hq) (I128_at a2 s c i3 hs r q hq)).symm

theorem p128_72 (hs : s < 2) (i7) (g : S2x8x1408.Idx → EReal)
    (hg : ∀ q : Fin 1408, g (ix3 ⟨s, hs⟩ 2 q) = a7 (ix3 ⟨s, hs⟩ 2 q) + tC a0 a1 a2 a3 e ⟨s, hs⟩ 2 q)
    (x : (Rect.unit (s := S2x8x1408) ![s, 2, c] ![1, 1, 128] i7).shape.Idx) :
    r128 (blk a7 (Rect.unit (s := S2x8x1408) ![s, 2, c] ![1, 1, 128] i7))
        (mulf (D128 a0 a1 a3 s c i0 i1 i3) (I128 a2 s c i3)) x
      = g ((Rect.unit (s := S2x8x1408) ![s, 2, c] ![1, 1, 128] i7).emb x) := by
  refine p128_7 a7 s c hs 2 (by decide) i7 g _ (fun q hq => (hg _).trans ?_) x
  rw [tC_2]
  refine congrArg₂ (· + ·) rfl (Finset.sum_congr rfl fun r _ => ?_)
  exact (congrArg₂ (· * ·) (D128_at a0 a1 a3 s c i0 i1 i3 hs r q hq) (I128_at a2 s c i3 hs r q hq)).symm

theorem p128_73 (hs : s < 2) (i7) (g : S2x8x1408.Idx → EReal)
    (hg : ∀ q : Fin 1408, g (ix3 ⟨s, hs⟩ 3 q) = a7 (ix3 ⟨s, hs⟩ 3 q) + tC a0 a1 a2 a3 e ⟨s, hs⟩ 3 q)
    (x : (Rect.unit (s := S2x8x1408) ![s, 3, c] ![1, 1, 128] i7).shape.Idx) :
    r128 (blk a7 (Rect.unit (s := S2x8x1408) ![s, 3, c] ![1, 1, 128] i7)) (D128 a0 a1 a3 s c i0 i1 i3) x
      = g ((Rect.unit (s := S2x8x1408) ![s, 3, c] ![1, 1, 128] i7).emb x) := by
  refine p128_7 a7 s c hs 3 (by decide) i7 g _ (fun q hq => (hg _).trans ?_) x
  rw [tC_3]
  refine congrArg₂ (· + ·) rfl (Finset.sum_congr rfl fun r _ => ?_)
  exact (D128_at a0 a1 a3 s c i0 i1 i3 hs r q hq).symm

end

end Cert.KernelIdeal.Gate

end
-- ==== Proof.GatePieces.lean ====
module

public import proofs.«01_k».proof.Proof.GateChunk

@[expose] public section

set_option maxRecDepth 16384

noncomputable section

namespace Cert.KernelIdeal.Gate

open Idealize.ShloMosaic Idealize.ShloMosaic.Tactic Cert.KernelIdeal.Gen

section
variable (x0 : Vec Ideal S512x2048 .bf16) (x1 : Vec Ideal S1408x2048 .bf16) (x2 x3 : Vec Ideal S2x512x1408 .bf16) (x7 : Vec Ideal S2x8x1408 .f32) (e0 e1 : Vec Ideal S8x1408 .f32)

theorem g7_0 (o : Fin 8) (ho : o.val < 4) (q : Fin 1408) :
    g7 x0 x1 x2 x3 x7 e0 e1 (ix3 0 o q) = x7 (ix3 0 o q) + tC x0 x1 x2 x3 e0 0 o.val q := by
  unfold g7
  rw [if_pos (show ((ix3 (0 : Fin 2) o q : S2x8x1408.Idx) 1).val < 4 from ho),
    if_pos (show ((ix3 (0 : Fin 2) o q : S2x8x1408.Idx) 0).val = 0 from rfl)]
  rfl

theorem g7_1 (o : Fin 8) (ho : o.val < 4) (q : Fin 1408) :
    g7 x0 x1 x2 x3 x7 e0 e1 (ix3 1 o q) = x7 (ix3 1 o q) + tC x0 x1 x2 x3 e1 1 o.val q := by
  unfold g7
  rw [if_pos (show ((ix3 (1 : Fin 2) o q : S2x8x1408.Idx) 1).val < 4 from ho),
    if_neg (show ¬ ((ix3 (1 : Fin 2) o q : S2x8x1408.Idx) 0).val = 0 from one_ne_zero)]
  rfl

end

section
variable (c : Dev nD) (i : grid0.Coords) (arg2 : Memref sig .tc .vmem S512x2048 .bf16) (harg2 : arg2.IsWhole) (arg3 : Memref sig .tc .vmem S1408x2048 .bf16) (harg3 : arg3.IsWhole) (arg4 : Memref sig .tc .vmem S2x512x1408 .bf16) (harg4 : arg4.IsWhole) (arg5 : Memref sig .tc .vmem S2x512x1408 .bf16) (harg5 : arg5.IsWhole) (arg6 : Memref sig .tc .vmem S3x1408 .f32) (harg6 : arg6.IsWhole) (arg7 : Memref sig .tc .vmem S3x1408 .f32) (harg7 : arg7.IsWhole) (arg8 : Memref sig .tc .vmem S2x512x1408 .bf16) (harg8 : arg8.IsWhole) (arg9 : Memref sig .tc .vmem S2x8x1408 .f32) (harg9 : arg9.IsWhole) (arg10 : Memref sig .tc .vmem S8x1408 .f32) (harg10 : arg10.IsWhole) (arg11 : Memref sig .tc .vmem S8x1408 .f32) (harg11 : arg11.IsWhole)
  (hc0 : ¬cond0_0 i) (x0 : Vec Ideal S512x2048 .bf16) (x1 : Vec Ideal S1408x2048 .bf16) (x2 x3 : Vec Ideal S2x512x1408 .bf16) (x4 x5 : Vec Ideal S3x1408 .f32) (x7 : Vec Ideal S2x8x1408 .f32) (e0 e1 : Vec Ideal S8x1408 .f32)

set_option maxHeartbeats 4000000 in
/-- Every store of the body into this buffer agrees with the tile's values. -/
theorem pieces6 : ∀ p ∈ (runB c i arg2 harg2 arg3 harg3 arg4 harg4 arg5 harg5 arg6 harg6 arg7 harg7 arg8 harg8 arg9 harg9 arg10 harg10 arg11 harg11 hc0 x0 x1 x2 x3 x4 x5 x7 e0 e1).1, ∀ x : p.1.shape.Idx, p.2 x = g6 x0 x1 x3 x4 x5 e0 e1 (p.1.emb x) := by
  unfold runB
  dsimp only
  simp only [List.forall_mem_cons]
  refine ⟨?_, ?_, ?_, ?_, ?_, ?_, ?_, ?_, ?_, ?_, ?_, ?_, fun _ h => absurd h List.not_mem_nil⟩
  · intro x
    sl_unfold_words
    show u128 _ _ _ _ _ _ _ x = _
    simp only [readAt_blk]
    exact p128_6 x0 x1 x3 x5 e1 1 1280 _ _ _ _ _ _ _ (by decide) (g6 x0 x1 x3 x4 x5 e0 e1) (fun _ _ => rfl) x
  · intro x
    sl_unfold_words
    show u128 _ _ _ _ _ _ _ x = _
    simp only [readAt_blk]
    exact p128_6 x0 x1 x3 x4 e0 0 1280 _ _ _ _ _ _ _ (by decide) (g6 x0 x1 x3 x4 x5 e0 e1) (fun _ _ => rfl) x
  · intro x
    sl_unfold_words
    show u256 _ _ _ _ _ _ _ x = _
    simp only [readAt_blk]
    exact p256_6 x0 x1 x3 x5 e1 1 1024 _ _ _ _ _ _ _ (by decide) (g6 x0 x1 x3 x4 x5 e0 e1) (fun _ _ => rfl) x
  · intro x
    sl_unfold_words
    show u256 _ _ _ _ _ _ _ x = _
    simp only [readAt_blk]
    exact p256_6 x0 x1 x3 x4 e0 0 1024 _ _ _ _ _ _ _ (by decide) (g6 x0 x1 x3 x4 x5 e0 e1) (fun _ _ => rfl) x
  · intro x
    sl_unfold_words
    show u256 _ _ _ _ _ _ _ x = _
    simp only [readAt_blk]
    exact p256_6 x0 x1 x3 x5 e1 1 768 _ _ _ _ _ _ _ (by decide) (g6 x0 x1 x3 x4 x5 e0 e1) (fun _ _ => rfl) x
  · intro x
    sl_unfold_words
    show u256 _ _ _ _ _ _ _ x = _
    simp only [readAt_blk]
    exact p256_6 x0 x1 x3 x4 e0 0 768 _ _ _ _ _ _ _ (by decide) (g6 x0 x1 x3 x4 x5 e0 e1) (fun _ _ => rfl) x
  · intro x
    sl_unfold_words
    show u256 _ _ _ _ _ _ _ x = _
    simp only [readAt_blk]
    exact p256_6 x0 x1 x3 x5 e1 1 512 _ _ _ _ _ _ _ (by decide) (g6 x0 x1 x3 x4 x5 e0 e1) (fun _ _ => rfl) x
  · intro x
    sl_unfold_words
    show u256 _ _ _ _ _ _ _ x = _
    simp only [readAt_blk]
    exact p256_6 x0 x1 x3 x4 e0 0 512 _ _ _ _ _ _ _ (by decide) (g6 x0 x1 x3 x4 x5 e0 e1) (fun _ _ => rfl) x
  · intro x
    sl_unfold_words
    show u256 _ _ _ _ _ _ _ x = _
    simp only [readAt_blk]
    exact p256_6 x0 x1 x3 x5 e1 1 256 _ _ _ _ _ _ _ (by decide) (g6 x0 x1 x3 x4 x5 e0 e1) (fun _ _ => rfl) x
  · intro x
    sl_unfold_words
    show u256 _ _ _ _ _ _ _ x = _
    simp only [readAt_blk]
    exact p256_6 x0 x1 x3 x4 e0 0 256 _ _ _ _ _ _ _ (by decide) (g6 x0 x1 x3 x4 x5 e0 e1) (fun _ _ => rfl) x
  · intro x
    sl_unfold_words
    show u256 _ _ _ _ _ _ _ x = _
    simp only [readAt_blk]
    exact p256_6 x0 x1 x3 x5 e1 1 0 _ _ _ _ _ _ _ (by decide) (g6 x0 x1 x3 x4 x5 e0 e1) (fun _ _ => rfl) x
  · intro x
    sl_unfold_words
    show u256 _ _ _ _ _ _ _ x = _
    simp only [readAt_blk]
    exact p256_6 x0 x1 x3 x4 e0 0 0 _ _ _ _ _ _ _ (by decide) (g6 x0 x1 x3 x4 x5 e0 e1) (fun _ _ => rfl) x

set_option maxHeartbeats 4000000 in
/-- Every store of the body into this buffer agrees with the tile's values. -/
theorem piecesE0 : ∀ p ∈ (runB c i arg2 harg2 arg3 harg3 arg4 harg4 arg5 harg5 arg6 harg6 arg7 harg7 arg8 harg8 arg9 harg9 arg10 harg10 arg11 harg11 hc0 x0 x1 x2 x3 x4 x5 x7 e0 e1).2.2.1, ∀ x : p.1.shape.Idx, p.2 x = gE x0 x1 x3 0 (p.1.emb x) := by
  unfold runB
  dsimp only
  simp only [List.forall_mem_cons]
  refine ⟨?_, ?_, ?_, ?_, ?_, ?_, fun _ h => absurd h List.not_mem_nil⟩
  · intro x
    sl_unfold_words
    show e128 _ _ _ x = _
    simp only [readAt_blk]
    exact p128_E x0 x1 x3 0 1280 _ _ _ _ (by decide) x
  · intro x
    sl_unfold_words
    show e256 _ _ _ x = _
    simp only [readAt_blk]
    exact p256_E x0 x1 x3 0 1024 _ _ _ _ (by decide) x
  · intro x
    sl_unfold_words
    show e256 _ _ _ x = _
    simp only [readAt_blk]
    exact p256_E x0 x1 x3 0 768 _ _ _ _ (by decide) x
  · intro x
    sl_unfold_words
    show e256 _ _ _ x = _
    simp only [readAt_blk]
    exact p256_E x0 x1 x3 0 512 _ _ _ _ (by decide) x
  · intro x
    sl_unfold_words
    show e256 _ _ _ x = _
    simp only [readAt_blk]
    exact p256_E x0 x1 x3 0 256 _ _ _ _ (by decide) x
  · intro x
    sl_unfold_words
    show e256 _ _ _ x = _
    simp only [readAt_blk]
    exact p256_E x0 x1 x3 0 0 _ _ _ _ (by decide) x

set_option maxHeartbeats 4000000 in
/-- Every store of the body into this buffer agrees with the tile's values. -/
theorem piecesE1 : ∀ p ∈ (runB c i arg2 harg2 arg3 harg3 arg4 harg4 arg5 harg5 arg6 harg6 arg7 harg7 arg8 harg8 arg9 harg9 arg10 harg10 arg11 harg11 hc0 x0 x1 x2 x3 x4 x5 x7 e0 e1).2.2.2.1, ∀ x : p.1.shape.Idx, p.2 x = gE x0 x1 x3 1 (p.1.emb x) := by
  unfold runB
  dsimp only
  simp only [List.forall_mem_cons]
  refine ⟨?_, ?_, ?_, ?_, ?_, ?_, fun _ h => absurd h List.not_mem_nil⟩
  · intro x
    sl_unfold_words
    show e128 _ _ _ x = _
    simp only [readAt_blk]
    exact p128_E x0 x1 x3 1 1280 _ _ _ _ (by decide) x
  · intro x
    sl_unfold_words
    show e256 _ _ _ x = _
    simp only [readAt_blk]
    exact p256_E x0 x1 x3 1 1024 _ _ _ _ (by decide) x
  · intro x
    sl_unfold_words
    show e256 _ _ _ x = _
    simp only [readAt_blk]
    exact p256_E x0 x1 x3 1 768 _ _ _ _ (by decide) x
  · intro x
    sl_unfold_words
    show e256 _ _ _ x = _
    simp only [readAt_blk]
    exact p256_E x0 x1 x3 1 512 _ _ _ _ (by decide) x
  · intro x
    sl_unfold_words
    show e256 _ _ _ x = _
    simp only [readAt_blk]
    exact p256_E x0 x1 x3 1 256 _ _ _ _ (by decide) x
  · intro x
    sl_unfold_words
    show e256 _ _ _ x = _
    simp only [readAt_blk]
    exact p256_E x0 x1 x3 1 0 _ _ _ _ (by decide) x

set_option maxHeartbeats 4000000 in
/-- Every store of the body into this buffer agrees with the tile's values. -/
theorem pieces7 : ∀ p ∈ (runB c i arg2 harg2 arg3 harg3 arg4 harg4 arg5 harg5 arg6 harg6 arg7 harg7 arg8 harg8 arg9 harg9 arg10 harg10 arg11 harg11 hc0 x0 x1 x2 x3 x4 x5 x7 e0 e1).2.1, ∀ x : p.1.shape.Idx, p.2 x = g7 x0 x1 x2 x3 x7 e0 e1 (p.1.emb x) := by
  unfold runB
  dsimp only
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
  · intro x
    sl_unfold_words
    show r128 _ (d128 _ _ _) x = _
    simp only [readAt_blk]
    exact p128_73 x0 x1 x2 x3 x7 e1 1 1280 _ _ _ (by decide) _ (g7 x0 x1 x2 x3 x7 e0 e1) (g7_1 x0 x1 x2 x3 x7 e0 e1 3 (by decide)) x
  · intro x
    sl_unfold_words
    show r128 _ (mulf (d128 _ _ _) (i128 _)) x = _
    simp only [readAt_blk]
    exact p128_72 x0 x1 x2 x3 x7 e1 1 1280 _ _ _ (by decide) _ (g7 x0 x1 x2 x3 x7 e0 e1) (g7_1 x0 x1 x2 x3 x7 e0 e1 2 (by decide)) x
  · intro x
    sl_unfold_words
    show r128 _ (mulf (s128 _ _ _ _) (i128 _)) x = _
    simp only [readAt_blk]
    exact p128_71 x0 x1 x2 x3 x7 e1 1 1280 _ _ _ _ (by decide) _ (g7 x0 x1 x2 x3 x7 e0 e1) (g7_1 x0 x1 x2 x3 x7 e0 e1 1 (by decide)) x
  · intro x
    sl_unfold_words
    show r128 _ (mulf (t128 _ _ _ _) (i128 _)) x = _
    simp only [readAt_blk]
    exact p128_70 x0 x1 x2 x3 x7 e1 1 1280 _ _ _ _ (by decide) _ (g7 x0 x1 x2 x3 x7 e0 e1) (g7_1 x0 x1 x2 x3 x7 e0 e1 0 (by decide)) x
  · intro x
    sl_unfold_words
    show r128 _ (d128 _ _ _) x = _
    simp only [readAt_blk]
    exact p128_73 x0 x1 x2 x3 x7 e0 0 1280 _ _ _ (by decide) _ (g7 x0 x1 x2 x3 x7 e0 e1) (g7_0 x0 x1 x2 x3 x7 e0 e1 3 (by decide)) x
  · intro x
    sl_unfold_words
    show r128 _ (mulf (d128 _ _ _) (i128 _)) x = _
    simp only [readAt_blk]
    exact p128_72 x0 x1 x2 x3 x7 e0 0 1280 _ _ _ (by decide) _ (g7 x0 x1 x2 x3 x7 e0 e1) (g7_0 x0 x1 x2 x3 x7 e0 e1 2 (by decide)) x
  · intro x
    sl_unfold_words
    show r128 _ (mulf (s128 _ _ _ _) (i128 _)) x = _
    simp only [readAt_blk]
    exact p128_71 x0 x1 x2 x3 x7 e0 0 1280 _ _ _ _ (by decide) _ (g7 x0 x1 x2 x3 x7 e0 e1) (g7_0 x0 x1 x2 x3 x7 e0 e1 1 (by decide)) x
  · intro x
    sl_unfold_words
    show r128 _ (mulf (t128 _ _ _ _) (i128 _)) x = _
    simp only [readAt_blk]
    exact p128_70 x0 x1 x2 x3 x7 e0 0 1280 _ _ _ _ (by decide) _ (g7 x0 x1 x2 x3 x7 e0 e1) (g7_0 x0 x1 x2 x3 x7 e0 e1 0 (by decide)) x
  · intro x
    sl_unfold_words
    show r256 _ (d256 _ _ _) x = _
    simp only [readAt_blk]
    exact p256_73 x0 x1 x2 x3 x7 e1 1 1024 _ _ _ (by decide) _ (g7 x0 x1 x2 x3 x7 e0 e1) (g7_1 x0 x1 x2 x3 x7 e0 e1 3 (by decide)) x
  · intro x
    sl_unfold_words
    show r256 _ (mulf (d256 _ _ _) (i256 _)) x = _
    simp only [readAt_blk]
    exact p256_72 x0 x1 x2 x3 x7 e1 1 1024 _ _ _ (by decide) _ (g7 x0 x1 x2 x3 x7 e0 e1) (g7_1 x0 x1 x2 x3 x7 e0 e1 2 (by decide)) x
  · intro x
    sl_unfold_words
    show r256 _ (mulf (s256 _ _ _ _) (i256 _)) x = _
    simp only [readAt_blk]
    exact p256_71 x0 x1 x2 x3 x7 e1 1 1024 _ _ _ _ (by decide) _ (g7 x0 x1 x2 x3 x7 e0 e1) (g7_1 x0 x1 x2 x3 x7 e0 e1 1 (by decide)) x
  · intro x
    sl_unfold_words
    show r256 _ (mulf (t256 _ _ _ _) (i256 _)) x = _
    simp only [readAt_blk]
    exact p256_70 x0 x1 x2 x3 x7 e1 1 1024 _ _ _ _ (by decide) _ (g7 x0 x1 x2 x3 x7 e0 e1) (g7_1 x0 x1 x2 x3 x7 e0 e1 0 (by decide)) x
  · intro x
    sl_unfold_words
    show r256 _ (d256 _ _ _) x = _
    simp only [readAt_blk]
    exact p256_73 x0 x1 x2 x3 x7 e0 0 1024 _ _ _ (by decide) _ (g7 x0 x1 x2 x3 x7 e0 e1) (g7_0 x0 x1 x2 x3 x7 e0 e1 3 (by decide)) x
  · intro x
    sl_unfold_words
    show r256 _ (mulf (d256 _ _ _) (i256 _)) x = _
    simp only [readAt_blk]
    exact p256_72 x0 x1 x2 x3 x7 e0 0 1024 _ _ _ (by decide) _ (g7 x0 x1 x2 x3 x7 e0 e1) (g7_0 x0 x1 x2 x3 x7 e0 e1 2 (by decide)) x
  · intro x
    sl_unfold_words
    show r256 _ (mulf (s256 _ _ _ _) (i256 _)) x = _
    simp only [readAt_blk]
    exact p256_71 x0 x1 x2 x3 x7 e0 0 1024 _ _ _ _ (by decide) _ (g7 x0 x1 x2 x3 x7 e0 e1) (g7_0 x0 x1 x2 x3 x7 e0 e1 1 (by decide)) x
  · intro x
    sl_unfold_words
    show r256 _ (mulf (t256 _ _ _ _) (i256 _)) x = _
    simp only [readAt_blk]
    exact p256_70 x0 x1 x2 x3 x7 e0 0 1024 _ _ _ _ (by decide) _ (g7 x0 x1 x2 x3 x7 e0 e1) (g7_0 x0 x1 x2 x3 x7 e0 e1 0 (by decide)) x
  · intro x
    sl_unfold_words
    show r256 _ (d256 _ _ _) x = _
    simp only [readAt_blk]
    exact p256_73 x0 x1 x2 x3 x7 e1 1 768 _ _ _ (by decide) _ (g7 x0 x1 x2 x3 x7 e0 e1) (g7_1 x0 x1 x2 x3 x7 e0 e1 3 (by decide)) x
  · intro x
    sl_unfold_words
    show r256 _ (mulf (d256 _ _ _) (i256 _)) x = _
    simp only [readAt_blk]
    exact p256_72 x0 x1 x2 x3 x7 e1 1 768 _ _ _ (by decide) _ (g7 x0 x1 x2 x3 x7 e0 e1) (g7_1 x0 x1 x2 x3 x7 e0 e1 2 (by decide)) x
  · intro x
    sl_unfold_words
    show r256 _ (mulf (s256 _ _ _ _) (i256 _)) x = _
    simp only [readAt_blk]
    exact p256_71 x0 x1 x2 x3 x7 e1 1 768 _ _ _ _ (by decide) _ (g7 x0 x1 x2 x3 x7 e0 e1) (g7_1 x0 x1 x2 x3 x7 e0 e1 1 (by decide)) x
  · intro x
    sl_unfold_words
    show r256 _ (mulf (t256 _ _ _ _) (i256 _)) x = _
    simp only [readAt_blk]
    exact p256_70 x0 x1 x2 x3 x7 e1 1 768 _ _ _ _ (by decide) _ (g7 x0 x1 x2 x3 x7 e0 e1) (g7_1 x0 x1 x2 x3 x7 e0 e1 0 (by decide)) x
  · intro x
    sl_unfold_words
    show r256 _ (d256 _ _ _) x = _
    simp only [readAt_blk]
    exact p256_73 x0 x1 x2 x3 x7 e0 0 768 _ _ _ (by decide) _ (g7 x0 x1 x2 x3 x7 e0 e1) (g7_0 x0 x1 x2 x3 x7 e0 e1 3 (by decide)) x
  · intro x
    sl_unfold_words
    show r256 _ (mulf (d256 _ _ _) (i256 _)) x = _
    simp only [readAt_blk]
    exact p256_72 x0 x1 x2 x3 x7 e0 0 768 _ _ _ (by decide) _ (g7 x0 x1 x2 x3 x7 e0 e1) (g7_0 x0 x1 x2 x3 x7 e0 e1 2 (by decide)) x
  · intro x
    sl_unfold_words
    show r256 _ (mulf (s256 _ _ _ _) (i256 _)) x = _
    simp only [readAt_blk]
    exact p256_71 x0 x1 x2 x3 x7 e0 0 768 _ _ _ _ (by decide) _ (g7 x0 x1 x2 x3 x7 e0 e1) (g7_0 x0 x1 x2 x3 x7 e0 e1 1 (by decide)) x
  · intro x
    sl_unfold_words
    show r256 _ (mulf (t256 _ _ _ _) (i256 _)) x = _
    simp only [readAt_blk]
    exact p256_70 x0 x1 x2 x3 x7 e0 0 768 _ _ _ _ (by decide) _ (g7 x0 x1 x2 x3 x7 e0 e1) (g7_0 x0 x1 x2 x3 x7 e0 e1 0 (by decide)) x
  · intro x
    sl_unfold_words
    show r256 _ (d256 _ _ _) x = _
    simp only [readAt_blk]
    exact p256_73 x0 x1 x2 x3 x7 e1 1 512 _ _ _ (by decide) _ (g7 x0 x1 x2 x3 x7 e0 e1) (g7_1 x0 x1 x2 x3 x7 e0 e1 3 (by decide)) x
  · intro x
    sl_unfold_words
    show r256 _ (mulf (d256 _ _ _) (i256 _)) x = _
    simp only [readAt_blk]
    exact p256_72 x0 x1 x2 x3 x7 e1 1 512 _ _ _ (by decide) _ (g7 x0 x1 x2 x3 x7 e0 e1) (g7_1 x0 x1 x2 x3 x7 e0 e1 2 (by decide)) x
  · intro x
    sl_unfold_words
    show r256 _ (mulf (s256 _ _ _ _) (i256 _)) x = _
    simp only [readAt_blk]
    exact p256_71 x0 x1 x2 x3 x7 e1 1 512 _ _ _ _ (by decide) _ (g7 x0 x1 x2 x3 x7 e0 e1) (g7_1 x0 x1 x2 x3 x7 e0 e1 1 (by decide)) x
  · intro x
    sl_unfold_words
    show r256 _ (mulf (t256 _ _ _ _) (i256 _)) x = _
    simp only [readAt_blk]
    exact p256_70 x0 x1 x2 x3 x7 e1 1 512 _ _ _ _ (by decide) _ (g7 x0 x1 x2 x3 x7 e0 e1) (g7_1 x0 x1 x2 x3 x7 e0 e1 0 (by decide)) x
  · intro x
    sl_unfold_words
    show r256 _ (d256 _ _ _) x = _
    simp only [readAt_blk]
    exact p256_73 x0 x1 x2 x3 x7 e0 0 512 _ _ _ (by decide) _ (g7 x0 x1 x2 x3 x7 e0 e1) (g7_0 x0 x1 x2 x3 x7 e0 e1 3 (by decide)) x
  · intro x
    sl_unfold_words
    show r256 _ (mulf (d256 _ _ _) (i256 _)) x = _
    simp only [readAt_blk]
    exact p256_72 x0 x1 x2 x3 x7 e0 0 512 _ _ _ (by decide) _ (g7 x0 x1 x2 x3 x7 e0 e1) (g7_0 x0 x1 x2 x3 x7 e0 e1 2 (by decide)) x
  · intro x
    sl_unfold_words
    show r256 _ (mulf (s256 _ _ _ _) (i256 _)) x = _
    simp only [readAt_blk]
    exact p256_71 x0 x1 x2 x3 x7 e0 0 512 _ _ _ _ (by decide) _ (g7 x0 x1 x2 x3 x7 e0 e1) (g7_0 x0 x1 x2 x3 x7 e0 e1 1 (by decide)) x
  · intro x
    sl_unfold_words
    show r256 _ (mulf (t256 _ _ _ _) (i256 _)) x = _
    simp only [readAt_blk]
    exact p256_70 x0 x1 x2 x3 x7 e0 0 512 _ _ _ _ (by decide) _ (g7 x0 x1 x2 x3 x7 e0 e1) (g7_0 x0 x1 x2 x3 x7 e0 e1 0 (by decide)) x
  · intro x
    sl_unfold_words
    show r256 _ (d256 _ _ _) x = _
    simp only [readAt_blk]
    exact p256_73 x0 x1 x2 x3 x7 e1 1 256 _ _ _ (by decide) _ (g7 x0 x1 x2 x3 x7 e0 e1) (g7_1 x0 x1 x2 x3 x7 e0 e1 3 (by decide)) x
  · intro x
    sl_unfold_words
    show r256 _ (mulf (d256 _ _ _) (i256 _)) x = _
    simp only [readAt_blk]
    exact p256_72 x0 x1 x2 x3 x7 e1 1 256 _ _ _ (by decide) _ (g7 x0 x1 x2 x3 x7 e0 e1) (g7_1 x0 x1 x2 x3 x7 e0 e1 2 (by decide)) x
  · intro x
    sl_unfold_words
    show r256 _ (mulf (s256 _ _ _ _) (i256 _)) x = _
    simp only [readAt_blk]
    exact p256_71 x0 x1 x2 x3 x7 e1 1 256 _ _ _ _ (by decide) _ (g7 x0 x1 x2 x3 x7 e0 e1) (g7_1 x0 x1 x2 x3 x7 e0 e1 1 (by decide)) x
  · intro x
    sl_unfold_words
    show r256 _ (mulf (t256 _ _ _ _) (i256 _)) x = _
    simp only [readAt_blk]
    exact p256_70 x0 x1 x2 x3 x7 e1 1 256 _ _ _ _ (by decide) _ (g7 x0 x1 x2 x3 x7 e0 e1) (g7_1 x0 x1 x2 x3 x7 e0 e1 0 (by decide)) x
  · intro x
    sl_unfold_words
    show r256 _ (d256 _ _ _) x = _
    simp only [readAt_blk]
    exact p256_73 x0 x1 x2 x3 x7 e0 0 256 _ _ _ (by decide) _ (g7 x0 x1 x2 x3 x7 e0 e1) (g7_0 x0 x1 x2 x3 x7 e0 e1 3 (by decide)) x
  · intro x
    sl_unfold_words
    show r256 _ (mulf (d256 _ _ _) (i256 _)) x = _
    simp only [readAt_blk]
    exact p256_72 x0 x1 x2 x3 x7 e0 0 256 _ _ _ (by decide) _ (g7 x0 x1 x2 x3 x7 e0 e1) (g7_0 x0 x1 x2 x3 x7 e0 e1 2 (by decide)) x
  · intro x
    sl_unfold_words
    show r256 _ (mulf (s256 _ _ _ _) (i256 _)) x = _
    simp only [readAt_blk]
    exact p256_71 x0 x1 x2 x3 x7 e0 0 256 _ _ _ _ (by decide) _ (g7 x0 x1 x2 x3 x7 e0 e1) (g7_0 x0 x1 x2 x3 x7 e0 e1 1 (by decide)) x
  · intro x
    sl_unfold_words
    show r256 _ (mulf (t256 _ _ _ _) (i256 _)) x = _
    simp only [readAt_blk]
    exact p256_70 x0 x1 x2 x3 x7 e0 0 256 _ _ _ _ (by decide) _ (g7 x0 x1 x2 x3 x7 e0 e1) (g7_0 x0 x1 x2 x3 x7 e0 e1 0 (by decide)) x
  · intro x
    sl_unfold_words
    show r256 _ (d256 _ _ _) x = _
    simp only [readAt_blk]
    exact p256_73 x0 x1 x2 x3 x7 e1 1 0 _ _ _ (by decide) _ (g7 x0 x1 x2 x3 x7 e0 e1) (g7_1 x0 x1 x2 x3 x7 e0 e1 3 (by decide)) x
  · intro x
    sl_unfold_words
    show r256 _ (mulf (d256 _ _ _) (i256 _)) x = _
    simp only [readAt_blk]
    exact p256_72 x0 x1 x2 x3 x7 e1 1 0 _ _ _ (by decide) _ (g7 x0 x1 x2 x3 x7 e0 e1) (g7_1 x0 x1 x2 x3 x7 e0 e1 2 (by decide)) x
  · intro x
    sl_unfold_words
    show r256 _ (mulf (s256 _ _ _ _) (i256 _)) x = _
    simp only [readAt_blk]
    exact p256_71 x0 x1 x2 x3 x7 e1 1 0 _ _ _ _ (by decide) _ (g7 x0 x1 x2 x3 x7 e0 e1) (g7_1 x0 x1 x2 x3 x7 e0 e1 1 (by decide)) x
  · intro x
    sl_unfold_words
    show r256 _ (mulf (t256 _ _ _ _) (i256 _)) x = _
    simp only [readAt_blk]
    exact p256_70 x0 x1 x2 x3 x7 e1 1 0 _ _ _ _ (by decide) _ (g7 x0 x1 x2 x3 x7 e0 e1) (g7_1 x0 x1 x2 x3 x7 e0 e1 0 (by decide)) x
  · intro x
    sl_unfold_words
    show r256 _ (d256 _ _ _) x = _
    simp only [readAt_blk]
    exact p256_73 x0 x1 x2 x3 x7 e0 0 0 _ _ _ (by decide) _ (g7 x0 x1 x2 x3 x7 e0 e1) (g7_0 x0 x1 x2 x3 x7 e0 e1 3 (by decide)) x
  · intro x
    sl_unfold_words
    show r256 _ (mulf (d256 _ _ _) (i256 _)) x = _
    simp only [readAt_blk]
    exact p256_72 x0 x1 x2 x3 x7 e0 0 0 _ _ _ (by decide) _ (g7 x0 x1 x2 x3 x7 e0 e1) (g7_0 x0 x1 x2 x3 x7 e0 e1 2 (by decide)) x
  · intro x
    sl_unfold_words
    show r256 _ (mulf (s256 _ _ _ _) (i256 _)) x = _
    simp only [readAt_blk]
    exact p256_71 x0 x1 x2 x3 x7 e0 0 0 _ _ _ _ (by decide) _ (g7 x0 x1 x2 x3 x7 e0 e1) (g7_0 x0 x1 x2 x3 x7 e0 e1 1 (by decide)) x
  · intro x
    sl_unfold_words
    show r256 _ (mulf (t256 _ _ _ _) (i256 _)) x = _
    simp only [readAt_blk]
    exact p256_70 x0 x1 x2 x3 x7 e0 0 0 _ _ _ _ (by decide) _ (g7 x0 x1 x2 x3 x7 e0 e1) (g7_0 x0 x1 x2 x3 x7 e0 e1 0 (by decide)) x

end

end Cert.KernelIdeal.Gate

end
-- ==== Proof.GateFirst.lean ====
module

public import proofs.«01_k».proof.Proof.Gen.KernelIdeal.Skeleton
public import proofs.«01_k».proof.Proof.Gen.KernelIdeal.Frame
public import Idealize.ShloMosaic.Lib.Claim
public import proofs.«01_k».proof.Proof.GateB

@[expose] public section

set_option maxRecDepth 16384

noncomputable section

namespace Cert.KernelIdeal.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section
variable (c : Dev nD) (i j : grid0.Coords) (arg2 : Memref sig .tc .vmem S512x2048 .bf16) (harg2 : arg2.IsWhole) (arg3 : Memref sig .tc .vmem S1408x2048 .bf16) (harg3 : arg3.IsWhole) (arg4 : Memref sig .tc .vmem S2x512x1408 .bf16) (harg4 : arg4.IsWhole) (arg5 : Memref sig .tc .vmem S2x512x1408 .bf16) (harg5 : arg5.IsWhole) (arg6 : Memref sig .tc .vmem S3x1408 .f32) (harg6 : arg6.IsWhole) (arg7 : Memref sig .tc .vmem S3x1408 .f32) (harg7 : arg7.IsWhole) (arg8 : Memref sig .tc .vmem S2x512x1408 .bf16) (harg8 : arg8.IsWhole) (arg9 : Memref sig .tc .vmem S2x8x1408 .f32) (harg9 : arg9.IsWhole) (arg10 : Memref sig .tc .vmem S8x1408 .f32) (harg10 : arg10.IsWhole) (arg11 : Memref sig .tc .vmem S8x1408 .f32) (harg11 : arg11.IsWhole)
  (hi : cond0_0 i) (hj : ¬cond0_0 j)

/-- The stores of zero a column begins with. -/
def start : Prog (TpuEff nD τ sig (Elt F) Λ₀ .tc) PUnit := do
  let _ ← Prog.lift (.load arg10 (Rect.unit (s := S8x1408) ![0, 0] S8x1408.size inb_S8x1408_S8x1408_0_0).toLoadRect (View.loadsAt_vmem h_S8x1408))
  Prog.lift (.store arg10 (Rect.unit (s := S8x1408) ![0, 0] S8x1408.size inb_S8x1408_S8x1408_0_0) (k0_pay2 (F := F)) Finset.univ (View.stores_vmem_bits_univ h_S8x1408 rfl) (.inl rfl))
  let _ ← Prog.lift (.load arg11 (Rect.unit (s := S8x1408) ![0, 0] S8x1408.size inb_S8x1408_S8x1408_0_0).toLoadRect (View.loadsAt_vmem h_S8x1408))
  Prog.lift (.store arg11 (Rect.unit (s := S8x1408) ![0, 0] S8x1408.size inb_S8x1408_S8x1408_0_0) (k0_pay3 (F := F)) Finset.univ (View.stores_vmem_bits_univ h_S8x1408 rfl) (.inl rfl))
  let _ ← Prog.lift (.load arg9 (Rect.unit (s := S2x8x1408) ![0, 0, 0] S2x8x1408.size inb_S2x8x1408_S2x8x1408_0_0_0).toLoadRect (View.loadsAt_vmem h_S2x8x1408))
  Prog.lift (.store arg9 (Rect.unit (s := S2x8x1408) ![0, 0, 0] S2x8x1408.size inb_S2x8x1408_S2x8x1408_0_0_0) (k0_pay4 (F := F)) Finset.univ (View.stores_vmem_bits_univ h_S2x8x1408 rfl) (.inl rfl))

include hi hj in
theorem part1_first : k0_part1 (F := F) i arg2 harg2 arg3 harg3 arg4 harg4 arg5 harg5 arg6 harg6 arg7 harg7 arg8 harg8 arg9 harg9 arg10 harg10 arg11 harg11 = start arg9 arg10 arg11 >>= fun _ => k0_part1 (F := F) j arg2 harg2 arg3 harg3 arg4 harg4 arg5 harg5 arg6 harg6 arg7 harg7 arg8 harg8 arg9 harg9 arg10 harg10 arg11 harg11 := by
  rw [k0_part1_eq_skeleton]
  unfold k0_part1_skel start
  dsimp only
  rw [dif_pos hi, dif_neg hj]
  simp only [pure_bind, bind_assoc]
  rfl

theorem part2_any : k0_part2 (F := F) i = k0_part2 (F := F) j := rfl
theorem part3_any : k0_part3 (F := F) i = k0_part3 (F := F) j := rfl
theorem part4_any : k0_part4 (F := F) i = k0_part4 (F := F) j := rfl
theorem part5_any : k0_part5 (F := F) i = k0_part5 (F := F) j := rfl
theorem part6_any : k0_part6 (F := F) i = k0_part6 (F := F) j := rfl
theorem part7_any : k0_part7 (F := F) i = k0_part7 (F := F) j := rfl
theorem part8_any : k0_part8 (F := F) i = k0_part8 (F := F) j := rfl
theorem part9_any : k0_part9 (F := F) i = k0_part9 (F := F) j := rfl
theorem part10_any : k0_part10 (F := F) i = k0_part10 (F := F) j := rfl
theorem part11_any : k0_part11 (F := F) i = k0_part11 (F := F) j := rfl
theorem part12_any : k0_part12 (F := F) i = k0_part12 (F := F) j := rfl
theorem part13_any : k0_part13 (F := F) i = k0_part13 (F := F) j := rfl
theorem part14_any : k0_part14 (F := F) i = k0_part14 (F := F) j := rfl
theorem part15_any : k0_part15 (F := F) i = k0_part15 (F := F) j := rfl
theorem part16_any : k0_part16 (F := F) i = k0_part16 (F := F) j := rfl
theorem part17_any : k0_part17 (F := F) i = k0_part17 (F := F) j := rfl
theorem part18_any : k0_part18 (F := F) i = k0_part18 (F := F) j := rfl
theorem part19_any : k0_part19 (F := F) i = k0_part19 (F := F) j := rfl
theorem part20_any : k0_part20 (F := F) i = k0_part20 (F := F) j := rfl
theorem part21_any : k0_part21 (F := F) i = k0_part21 (F := F) j := rfl
theorem part22_any : k0_part22 (F := F) i = k0_part22 (F := F) j := rfl
theorem part23_any : k0_part23 (F := F) i = k0_part23 (F := F) j := rfl
theorem part24_any : k0_part24 (F := F) i = k0_part24 (F := F) j := rfl
theorem part25_any : k0_part25 (F := F) i = k0_part25 (F := F) j := rfl
theorem part26_any : k0_part26 (F := F) i = k0_part26 (F := F) j := rfl
theorem part27_any : k0_part27 (F := F) i = k0_part27 (F := F) j := rfl
theorem part28_any : k0_part28 (F := F) i = k0_part28 (F := F) j := rfl

include hi hj in
theorem part29_first : k0_part29 (F := F) i arg2 harg2 arg3 harg3 arg4 harg4 arg5 harg5 arg6 harg6 arg7 harg7 arg8 harg8 arg9 harg9 arg10 harg10 arg11 harg11 = start arg9 arg10 arg11 >>= fun _ => k0_part29 (F := F) j arg2 harg2 arg3 harg3 arg4 harg4 arg5 harg5 arg6 harg6 arg7 harg7 arg8 harg8 arg9 harg9 arg10 harg10 arg11 harg11 := by
  rw [k0_part29_eq_skeleton]
  unfold k0_part29_skel
  rw [part1_first i j arg2 harg2 arg3 harg3 arg4 harg4 arg5 harg5 arg6 harg6 arg7 harg7 arg8 harg8 arg9 harg9 arg10 harg10 arg11 harg11 hi hj]
  rw [bind_assoc]
  refine congrArg (start arg9 arg10 arg11 >>= ·) (funext fun _ => ?_)
  refine congrArg (k0_part1 (F := F) j arg2 harg2 arg3 harg3 arg4 harg4 arg5 harg5 arg6 harg6 arg7 harg7 arg8 harg8 arg9 harg9 arg10 harg10 arg11 harg11 >>= ·) (funext fun v => ?_)
  obtain ⟨v4, v7, v11, v14, v24, v33⟩ := v
  dsimp only
  simp only [part2_any i j, part3_any i j, part4_any i j, part5_any i j, part6_any i j, part7_any i j, part8_any i j, part9_any i j, part10_any i j, part11_any i j, part12_any i j, part13_any i j, part14_any i j, part15_any i j, part16_any i j, part17_any i j, part18_any i j, part19_any i j, part20_any i j, part21_any i j, part22_any i j, part23_any i j, part24_any i j, part25_any i j, part26_any i j, part27_any i j, part28_any i j]

include hi hj in
theorem body_first : cc0_ffn_da (F := F) i arg2 harg2 arg3 harg3 arg4 harg4 arg5 harg5 arg6 harg6 arg7 harg7 arg8 harg8 arg9 harg9 arg10 harg10 arg11 harg11 = start arg9 arg10 arg11 >>= fun _ => cc0_ffn_da (F := F) j arg2 harg2 arg3 harg3 arg4 harg4 arg5 harg5 arg6 harg6 arg7 harg7 arg8 harg8 arg9 harg9 arg10 harg10 arg11 harg11 := by
  rw [cc0_ffn_da_eq_skeleton]
  unfold cc0_ffn_da_skel
  rw [part29_first i j arg2 harg2 arg3 harg3 arg4 harg4 arg5 harg5 arg6 harg6 arg7 harg7 arg8 harg8 arg9 harg9 arg10 harg10 arg11 harg11 hi hj]
  rw [bind_assoc]

end

end Cert.KernelIdeal.Gate

end
-- ==== Proof.GateBody.lean ====
module

public import proofs.«01_k».proof.Proof.GatePieces
public import proofs.«01_k».proof.Proof.GateFirst

@[expose] public section

set_option maxRecDepth 16384

noncomputable section

namespace Cert.KernelIdeal.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

local notation "𝕄" => MT nD τ sig Unit (Elt Ideal) ℕ (UR sig nD τ) ℕ

section
variable (c : Dev nD) (i : grid0.Coords) (arg2 : Memref sig .tc .vmem S512x2048 .bf16) (harg2 : arg2.IsWhole) (arg3 : Memref sig .tc .vmem S1408x2048 .bf16) (harg3 : arg3.IsWhole) (arg4 : Memref sig .tc .vmem S2x512x1408 .bf16) (harg4 : arg4.IsWhole) (arg5 : Memref sig .tc .vmem S2x512x1408 .bf16) (harg5 : arg5.IsWhole) (arg6 : Memref sig .tc .vmem S3x1408 .f32) (harg6 : arg6.IsWhole) (arg7 : Memref sig .tc .vmem S3x1408 .f32) (harg7 : arg7.IsWhole) (arg8 : Memref sig .tc .vmem S2x512x1408 .bf16) (harg8 : arg8.IsWhole) (arg9 : Memref sig .tc .vmem S2x8x1408 .f32) (harg9 : arg9.IsWhole) (arg10 : Memref sig .tc .vmem S8x1408 .f32) (harg10 : arg10.IsWhole) (arg11 : Memref sig .tc .vmem S8x1408 .f32) (harg11 : arg11.IsWhole)
  (hc0 : ¬cond0_0 i) (x0 : Vec Ideal S512x2048 .bf16) (x1 : Vec Ideal S1408x2048 .bf16) (x2 x3 : Vec Ideal S2x512x1408 .bf16) (x4 x5 : Vec Ideal S3x1408 .f32) (x7 : Vec Ideal S2x8x1408 .f32) (e0 e1 : Vec Ideal S8x1408 .f32)

theorem in6 {s c n : ℕ} (inb) (y : S2x512x1408.Idx) (h0 : (y 0).val = s) (h2 : c ≤ (y 2).val ∧ (y 2).val < c + n) :
    y ∈ (Rect.unit (s := S2x512x1408) ![s, 0, c] ![1, 512, n] inb).set := by
  rw [Rect.mem_set_unit]
  intro a
  have h1 : (y 1).val < 512 := (y 1).isLt
  fin_cases a
  · show s ≤ (y 0).val ∧ (y 0).val < s + 1; omega
  · show 0 ≤ (y 1).val ∧ (y 1).val < 0 + 512; omega
  · exact h2

theorem in7 {s o c n : ℕ} (inb) (y : S2x8x1408.Idx) (h0 : (y 0).val = s) (h1 : (y 1).val = o) (h2 : c ≤ (y 2).val ∧ (y 2).val < c + n) :
    y ∈ (Rect.unit (s := S2x8x1408) ![s, o, c] ![1, 1, n] inb).set := by
  rw [Rect.mem_set_unit]
  intro a
  fin_cases a
  · show s ≤ (y 0).val ∧ (y 0).val < s + 1; omega
  · show o ≤ (y 1).val ∧ (y 1).val < o + 1; omega
  · exact h2

theorem inE {c n : ℕ} (inb) (y : S8x1408.Idx) (h2 : c ≤ (y 1).val ∧ (y 1).val < c + n) :
    y ∈ (Rect.unit (s := S8x1408) ![0, c] ![8, n] inb).set := by
  rw [Rect.mem_set_unit]
  intro a
  have h1 : (y 0).val < 8 := (y 0).isLt
  fin_cases a
  · show 0 ≤ (y 0).val ∧ (y 0).val < 0 + 8; omega
  · exact h2

/-- A column lies in one of the chunks. -/
theorem col_cases {q : ℕ} (h : q < 1408) : (1280 ≤ q ∧ q < 1280 + 128) ∨ (1024 ≤ q ∧ q < 1024 + 256) ∨ (768 ≤ q ∧ q < 768 + 256)
    ∨ (512 ≤ q ∧ q < 512 + 256) ∨ (256 ≤ q ∧ q < 256 + 256) ∨ (0 ≤ q ∧ q < 0 + 256) := by omega

set_option maxHeartbeats 4000000 in
theorem cover6 (y : S2x512x1408.Idx) (h : ∀ p ∈ (runB c i arg2 harg2 arg3 harg3 arg4 harg4 arg5 harg5 arg6 harg6 arg7 harg7 arg8 harg8 arg9 harg9 arg10 harg10 arg11 harg11 hc0 x0 x1 x2 x3 x4 x5 x7 e0 e1).1, y ∉ p.1.set) : False := by
  unfold runB at h
  dsimp only at h
  simp only [List.forall_mem_cons] at h
  obtain ⟨h0, h1, h2, h3, h4, h5, h6, h7, h8, h9, h10, h11, -⟩ := h
  have a0 : (y 0).val = 1 ∨ (y 0).val = 0 := by have : (y 0).val < 2 := (y 0).isLt; omega
  rcases col_cases (show (y 2).val < 1408 from (y 2).isLt) with a2 | a2 | a2 | a2 | a2 | a2
  · rcases a0 with a0 | a0
    · exact h0 (in6 _ y a0 a2)
    · exact h1 (in6 _ y a0 a2)
  · rcases a0 with a0 | a0
    · exact h2 (in6 _ y a0 a2)
    · exact h3 (in6 _ y a0 a2)
  · rcases a0 with a0 | a0
    · exact h4 (in6 _ y a0 a2)
    · exact h5 (in6 _ y a0 a2)
  · rcases a0 with a0 | a0
    · exact h6 (in6 _ y a0 a2)
    · exact h7 (in6 _ y a0 a2)
  · rcases a0 with a0 | a0
    · exact h8 (in6 _ y a0 a2)
    · exact h9 (in6 _ y a0 a2)
  · rcases a0 with a0 | a0
    · exact h10 (in6 _ y a0 a2)
    · exact h11 (in6 _ y a0 a2)

set_option maxHeartbeats 4000000 in
theorem coverE0 (y : S8x1408.Idx) (h : ∀ p ∈ (runB c i arg2 harg2 arg3 harg3 arg4 harg4 arg5 harg5 arg6 harg6 arg7 harg7 arg8 harg8 arg9 harg9 arg10 harg10 arg11 harg11 hc0 x0 x1 x2 x3 x4 x5 x7 e0 e1).2.2.1, y ∉ p.1.set) : False := by
  unfold runB at h
  dsimp only at h
  simp only [List.forall_mem_cons] at h
  obtain ⟨h0, h1, h2, h3, h4, h5, -⟩ := h
  rcases col_cases (show (y 1).val < 1408 from (y 1).isLt) with a2 | a2 | a2 | a2 | a2 | a2
  · exact h0 (inE _ y a2)
  · exact h1 (inE _ y a2)
  · exact h2 (inE _ y a2)
  · exact h3 (inE _ y a2)
  · exact h4 (inE _ y a2)
  · exact h5 (inE _ y a2)

set_option maxHeartbeats 4000000 in
theorem coverE1 (y : S8x1408.Idx) (h : ∀ p ∈ (runB c i arg2 harg2 arg3 harg3 arg4 harg4 arg5 harg5 arg6 harg6 arg7 harg7 arg8 harg8 arg9 harg9 arg10 harg10 arg11 harg11 hc0 x0 x1 x2 x3 x4 x5 x7 e0 e1).2.2.2.1, y ∉ p.1.set) : False := by
  unfold runB at h
  dsimp only at h
  simp only [List.forall_mem_cons] at h
  obtain ⟨h0, h1, h2, h3, h4, h5, -⟩ := h
  rcases col_cases (show (y 1).val < 1408 from (y 1).isLt) with a2 | a2 | a2 | a2 | a2 | a2
  · exact h0 (inE _ y a2)
  · exact h1 (inE _ y a2)
  · exact h2 (inE _ y a2)
  · exact h3 (inE _ y a2)
  · exact h4 (inE _ y a2)
  · exact h5 (inE _ y a2)

set_option maxHeartbeats 4000000 in
theorem cover7 (y : S2x8x1408.Idx) (h : ∀ p ∈ (runB c i arg2 harg2 arg3 harg3 arg4 harg4 arg5 harg5 arg6 harg6 arg7 harg7 arg8 harg8 arg9 harg9 arg10 harg10 arg11 harg11 hc0 x0 x1 x2 x3 x4 x5 x7 e0 e1).2.1, y ∉ p.1.set) : ¬(y 1).val < 4 := by
  unfold runB at h
  dsimp only at h
  simp only [List.forall_mem_cons] at h
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, -⟩ := h
  by_contra hlt
  have a0 : (y 0).val = 1 ∨ (y 0).val = 0 := by have : (y 0).val < 2 := (y 0).isLt; omega
  have a1 : (y 1).val = 3 ∨ (y 1).val = 2 ∨ (y 1).val = 1 ∨ (y 1).val = 0 := by omega
  rcases col_cases (show (y 2).val < 1408 from (y 2).isLt) with a2 | a2 | a2 | a2 | a2 | a2
  · rcases a0 with a0 | a0 <;> rcases a1 with a1 | a1 | a1 | a1
    · exact h0 (in7 _ y a0 a1 a2)
    · exact h1 (in7 _ y a0 a1 a2)
    · exact h2 (in7 _ y a0 a1 a2)
    · exact h3 (in7 _ y a0 a1 a2)
    · exact h4 (in7 _ y a0 a1 a2)
    · exact h5 (in7 _ y a0 a1 a2)
    · exact h6 (in7 _ y a0 a1 a2)
    · exact h7 (in7 _ y a0 a1 a2)
  · rcases a0 with a0 | a0 <;> rcases a1 with a1 | a1 | a1 | a1
    · exact h8 (in7 _ y a0 a1 a2)
    · exact h9 (in7 _ y a0 a1 a2)
    · exact h10 (in7 _ y a0 a1 a2)
    · exact h11 (in7 _ y a0 a1 a2)
    · exact h12 (in7 _ y a0 a1 a2)
    · exact h13 (in7 _ y a0 a1 a2)
    · exact h14 (in7 _ y a0 a1 a2)
    · exact h15 (in7 _ y a0 a1 a2)
  · rcases a0 with a0 | a0 <;> rcases a1 with a1 | a1 | a1 | a1
    · exact h16 (in7 _ y a0 a1 a2)
    · exact h17 (in7 _ y a0 a1 a2)
    · exact h18 (in7 _ y a0 a1 a2)
    · exact h19 (in7 _ y a0 a1 a2)
    · exact h20 (in7 _ y a0 a1 a2)
    · exact h21 (in7 _ y a0 a1 a2)
    · exact h22 (in7 _ y a0 a1 a2)
    · exact h23 (in7 _ y a0 a1 a2)
  · rcases a0 with a0 | a0 <;> rcases a1 with a1 | a1 | a1 | a1
    · exact h24 (in7 _ y a0 a1 a2)
    · exact h25 (in7 _ y a0 a1 a2)
    · exact h26 (in7 _ y a0 a1 a2)
    · exact h27 (in7 _ y a0 a1 a2)
    · exact h28 (in7 _ y a0 a1 a2)
    · exact h29 (in7 _ y a0 a1 a2)
    · exact h30 (in7 _ y a0 a1 a2)
    · exact h31 (in7 _ y a0 a1 a2)
  · rcases a0 with a0 | a0 <;> rcases a1 with a1 | a1 | a1 | a1
    · exact h32 (in7 _ y a0 a1 a2)
    · exact h33 (in7 _ y a0 a1 a2)
    · exact h34 (in7 _ y a0 a1 a2)
    · exact h35 (in7 _ y a0 a1 a2)
    · exact h36 (in7 _ y a0 a1 a2)
    · exact h37 (in7 _ y a0 a1 a2)
    · exact h38 (in7 _ y a0 a1 a2)
    · exact h39 (in7 _ y a0 a1 a2)
  · rcases a0 with a0 | a0 <;> rcases a1 with a1 | a1 | a1 | a1
    · exact h40 (in7 _ y a0 a1 a2)
    · exact h41 (in7 _ y a0 a1 a2)
    · exact h42 (in7 _ y a0 a1 a2)
    · exact h43 (in7 _ y a0 a1 a2)
    · exact h44 (in7 _ y a0 a1 a2)
    · exact h45 (in7 _ y a0 a1 a2)
    · exact h46 (in7 _ y a0 a1 a2)
    · exact h47 (in7 _ y a0 a1 a2)

theorem read6 (f) : arg8.view.read (Elt Ideal) (arg8.view.writes (Elt Ideal) f (runB c i arg2 harg2 arg3 harg3 arg4 harg4 arg5 harg5 arg6 harg6 arg7 harg7 arg8 harg8 arg9 harg9 arg10 harg10 arg11 harg11 hc0 x0 x1 x2 x3 x4 x5 x7 e0 e1).1) = g6 x0 x1 x3 x4 x5 e0 e1 :=
  read_of_pieces _ _ _ _ (pieces6 c i arg2 harg2 arg3 harg3 arg4 harg4 arg5 harg5 arg6 harg6 arg7 harg7 arg8 harg8 arg9 harg9 arg10 harg10 arg11 harg11 hc0 x0 x1 x2 x3 x4 x5 x7 e0 e1) (fun y h => (cover6 c i arg2 harg2 arg3 harg3 arg4 harg4 arg5 harg5 arg6 harg6 arg7 harg7 arg8 harg8 arg9 harg9 arg10 harg10 arg11 harg11 hc0 x0 x1 x2 x3 x4 x5 x7 e0 e1 y h).elim)

theorem read7 : arg9.view.read (Elt Ideal) (arg9.view.writes (Elt Ideal) (harg9.unread x7) (runB c i arg2 harg2 arg3 harg3 arg4 harg4 arg5 harg5 arg6 harg6 arg7 harg7 arg8 harg8 arg9 harg9 arg10 harg10 arg11 harg11 hc0 x0 x1 x2 x3 x4 x5 x7 e0 e1).2.1) = g7 x0 x1 x2 x3 x7 e0 e1 :=
  read_of_pieces _ _ _ _ (pieces7 c i arg2 harg2 arg3 harg3 arg4 harg4 arg5 harg5 arg6 harg6 arg7 harg7 arg8 harg8 arg9 harg9 arg10 harg10 arg11 harg11 hc0 x0 x1 x2 x3 x4 x5 x7 e0 e1) (fun y h => by
    have h4 := cover7 c i arg2 harg2 arg3 harg3 arg4 harg4 arg5 harg5 arg6 harg6 arg7 harg7 arg8 harg8 arg9 harg9 arg10 harg10 arg11 harg11 hc0 x0 x1 x2 x3 x4 x5 x7 e0 e1 y h
    unfold g7
    rw [if_neg h4, harg9.read_unread])

theorem readE0 (f) : arg10.view.read (Elt Ideal) (arg10.view.writes (Elt Ideal) f (runB c i arg2 harg2 arg3 harg3 arg4 harg4 arg5 harg5 arg6 harg6 arg7 harg7 arg8 harg8 arg9 harg9 arg10 harg10 arg11 harg11 hc0 x0 x1 x2 x3 x4 x5 x7 e0 e1).2.2.1) = gE x0 x1 x3 0 :=
  read_of_pieces _ _ _ _ (piecesE0 c i arg2 harg2 arg3 harg3 arg4 harg4 arg5 harg5 arg6 harg6 arg7 harg7 arg8 harg8 arg9 harg9 arg10 harg10 arg11 harg11 hc0 x0 x1 x2 x3 x4 x5 x7 e0 e1) (fun y h => (coverE0 c i arg2 harg2 arg3 harg3 arg4 harg4 arg5 harg5 arg6 harg6 arg7 harg7 arg8 harg8 arg9 harg9 arg10 harg10 arg11 harg11 hc0 x0 x1 x2 x3 x4 x5 x7 e0 e1 y h).elim)

theorem readE1 (f) : arg11.view.read (Elt Ideal) (arg11.view.writes (Elt Ideal) f (runB c i arg2 harg2 arg3 harg3 arg4 harg4 arg5 harg5 arg6 harg6 arg7 harg7 arg8 harg8 arg9 harg9 arg10 harg10 arg11 harg11 hc0 x0 x1 x2 x3 x4 x5 x7 e0 e1).2.2.2.1) = gE x0 x1 x3 1 :=
  read_of_pieces _ _ _ _ (piecesE1 c i arg2 harg2 arg3 harg3 arg4 harg4 arg5 harg5 arg6 harg6 arg7 harg7 arg8 harg8 arg9 harg9 arg10 harg10 arg11 harg11 hc0 x0 x1 x2 x3 x4 x5 x7 e0 e1) (fun y h => (coverE1 c i arg2 harg2 arg3 harg3 arg4 harg4 arg5 harg5 arg6 harg6 arg7 harg7 arg8 harg8 arg9 harg9 arg10 harg10 arg11 harg11 hc0 x0 x1 x2 x3 x4 x5 x7 e0 e1 y h).elim)

include hc0 in
set_option maxHeartbeats 4000000 in
/-- The body at a point that is not the first of a column: from the blocks, the sums so far and the edges left
    below, to the tile's blocks, the sums and the tile's own edges. -/
theorem soundB (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7 ∗ owns (c : Thread nD τ) arg10 fullShare e0 ∗ owns (c : Thread nD τ) arg11 fullShare e1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (g6 x0 x1 x3 x4 x5 e0 e1) ∗ owns (c : Thread nD τ) arg9 fullShare (g7 x0 x1 x2 x3 x7 e0 e1) ∗ owns (c : Thread nD τ) arg10 fullShare (gE x0 x1 x3 0) ∗ owns (c : Thread nD τ) arg11 fullShare (gE x0 x1 x3 1)) -∗ K ⟨⟩))
      ⊢ wp frame (wpE (defs₀ (F := Ideal)) Variants.none c none) E (cc0_ffn_da i arg2 harg2 arg3 harg3 arg4 harg4 arg5 harg5 arg6 harg6 arg7 harg7 arg8 harg8 arg9 harg9 arg10 harg10 arg11 harg11) K := by
  iintro ⟨H0, H1, H2, H3, H4, H5, H6, H7, HS0, HS1, Hk⟩
  iapply ((runB c i arg2 harg2 arg3 harg3 arg4 harg4 arg5 harg5 arg6 harg6 arg7 harg7 arg8 harg8 arg9 harg9 arg10 harg10 arg11 harg11 hc0 x0 x1 x2 x3 x4 x5 x7 e0 e1).2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, ⟨%f6, H6⟩, H7, ⟨%fs0, HS0⟩, ⟨%fs1, HS1⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact read6 c i arg2 harg2 arg3 harg3 arg4 harg4 arg5 harg5 arg6 harg6 arg7 harg7 arg8 harg8 arg9 harg9 arg10 harg10 arg11 harg11 hc0 x0 x1 x2 x3 x4 x5 x7 e0 e1 f6
  isplitl [H7]
  · unfold owns; iexists _; isplitr
    swap; · iexact H7
    ipureintro; exact read7 c i arg2 harg2 arg3 harg3 arg4 harg4 arg5 harg5 arg6 harg6 arg7 harg7 arg8 harg8 arg9 harg9 arg10 harg10 arg11 harg11 hc0 x0 x1 x2 x3 x4 x5 x7 e0 e1
  isplitl [HS0]
  · unfold owns; iexists _; isplitr
    swap; · iexact HS0
    ipureintro; exact readE0 c i arg2 harg2 arg3 harg3 arg4 harg4 arg5 harg5 arg6 harg6 arg7 harg7 arg8 harg8 arg9 harg9 arg10 harg10 arg11 harg11 hc0 x0 x1 x2 x3 x4 x5 x7 e0 e1 fs0
  unfold owns; iexists _; isplitr
  swap; · iexact HS1
  ipureintro; exact readE1 c i arg2 harg2 arg3 harg3 arg4 harg4 arg5 harg5 arg6 harg6 arg7 harg7 arg8 harg8 arg9 harg9 arg10 harg10 arg11 harg11 hc0 x0 x1 x2 x3 x4 x5 x7 e0 e1 fs1

end

section
variable (c : Dev nD) (i j : grid0.Coords) (arg2 : Memref sig .tc .vmem S512x2048 .bf16) (harg2 : arg2.IsWhole) (arg3 : Memref sig .tc .vmem S1408x2048 .bf16) (harg3 : arg3.IsWhole) (arg4 : Memref sig .tc .vmem S2x512x1408 .bf16) (harg4 : arg4.IsWhole) (arg5 : Memref sig .tc .vmem S2x512x1408 .bf16) (harg5 : arg5.IsWhole) (arg6 : Memref sig .tc .vmem S3x1408 .f32) (harg6 : arg6.IsWhole) (arg7 : Memref sig .tc .vmem S3x1408 .f32) (harg7 : arg7.IsWhole) (arg8 : Memref sig .tc .vmem S2x512x1408 .bf16) (harg8 : arg8.IsWhole) (arg9 : Memref sig .tc .vmem S2x8x1408 .f32) (harg9 : arg9.IsWhole) (arg10 : Memref sig .tc .vmem S8x1408 .f32) (harg10 : arg10.IsWhole) (arg11 : Memref sig .tc .vmem S8x1408 .f32) (harg11 : arg11.IsWhole)
  (hi : cond0_0 i) (hj : ¬cond0_0 j) (x0 : Vec Ideal S512x2048 .bf16) (x1 : Vec Ideal S1408x2048 .bf16) (x2 x3 : Vec Ideal S2x512x1408 .bf16) (x4 x5 : Vec Ideal S3x1408 .f32) (x7 : Vec Ideal S2x8x1408 .f32) (e0 e1 : Vec Ideal S8x1408 .f32)

/-- An array of zeros. -/
def zer (s : Shape) : Vec Ideal s .f32 := fun _ => (0 : EReal)

theorem read_whole {sp : Space} {s : Shape} (m : Memref sig .tc sp s .f32) {off : Fin s.rank → ℕ} (hoff : off = fun _ => 0)
    (inb) (f) (g : Vec Ideal s .f32) (hg : g = zer s) :
    m.view.read (Elt Ideal) (m.view.writes (Elt Ideal) f [⟨Rect.unit (s := s) off s.size inb, g⟩]) = zer s := by
  subst hoff
  subst hg
  refine read_of_pieces _ _ _ _ (fun p hp x => ?_) (fun y h => ?_)
  · obtain rfl := List.mem_singleton.mp hp
    rfl
  · refine (h _ (List.mem_singleton.mpr rfl) ?_).elim
    rw [Rect.mem_set_unit]
    intro a
    exact ⟨Nat.zero_le _, by rw [Nat.zero_add]; exact (y a).isLt⟩

theorem pay2_zero : k0_pay2 (F := Ideal) = zer S8x1408 := by
  funext y; idx_vars y; unfold zer; unfold_payloads; pointwise
theorem pay3_zero : k0_pay3 (F := Ideal) = zer S8x1408 := by
  funext y; idx_vars y; unfold zer; unfold_payloads; pointwise
theorem pay4_zero : k0_pay4 (F := Ideal) = zer S2x8x1408 := by
  funext y; idx_vars y; unfold zer; unfold_payloads; pointwise

theorem off2 : (![0, 0] : Fin 2 → ℕ) = fun _ => 0 := by funext a; fin_cases a <;> rfl
theorem off3 : (![0, 0, 0] : Fin 3 → ℕ) = fun _ => 0 := by funext a; fin_cases a <;> rfl

include hi hj in
set_option maxHeartbeats 4000000 in
/-- The body at the first point of a column: the sums and the edges begin at zero. -/
theorem soundA (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (g6 x0 x1 x3 x4 x5 (zer S8x1408) (zer S8x1408)) ∗ owns (c : Thread nD τ) arg9 fullShare (g7 x0 x1 x2 x3 (zer S2x8x1408) (zer S8x1408) (zer S8x1408)) ∗ owns (c : Thread nD τ) arg10 fullShare (gE x0 x1 x3 0) ∗ owns (c : Thread nD τ) arg11 fullShare (gE x0 x1 x3 1)) -∗ K ⟨⟩))
      ⊢ wp frame (wpE (defs₀ (F := Ideal)) Variants.none c none) E (cc0_ffn_da i arg2 harg2 arg3 harg3 arg4 harg4 arg5 harg5 arg6 harg6 arg7 harg7 arg8 harg8 arg9 harg9 arg10 harg10 arg11 harg11) K := by
  rw [body_first i j arg2 harg2 arg3 harg3 arg4 harg4 arg5 harg5 arg6 harg6 arg7 harg7 arg8 harg8 arg9 harg9 arg10 harg10 arg11 harg11 hi hj]
  have hB := soundB c j arg2 harg2 arg3 harg3 arg4 harg4 arg5 harg5 arg6 harg6 arg7 harg7 arg8 harg8 arg9 harg9 arg10 harg10 arg11 harg11 hj x0 x1 x2 x3 x4 x5 (zer S2x8x1408) (zer S8x1408) (zer S8x1408) E K
  generalize cc0_ffn_da (F := Ideal) j arg2 harg2 arg3 harg3 arg4 harg4 arg5 harg5 arg6 harg6 arg7 harg7 arg8 harg8 arg9 harg9 arg10 harg10 arg11 harg11 = body at hB ⊢
  unfold start
  simp only [bind_assoc]
  iintro ⟨H0, H1, H2, H3, H4, H5, H6, ⟨%d7, H7⟩, ⟨%ds0, HS0⟩, ⟨%ds1, HS1⟩, Hk⟩
  unfold owns at hB ⊢
  icases H7 with ⟨%f7, -, H7⟩
  icases HS0 with ⟨%fs0, -, HS0⟩
  icases HS1 with ⟨%fs1, -, HS1⟩
  sl_exec
  iapply hB
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    swap; · iexact H7
    ipureintro; exact read_whole arg9 off3 _ f7 _ pay4_zero
  isplitl [HS0]
  · iexists _; isplitr
    swap; · iexact HS0
    ipureintro; exact read_whole arg10 off2 _ fs0 _ pay2_zero
  isplitl [HS1]
  · iexists _; isplitr
    swap; · iexact HS1
    ipureintro; exact read_whole arg11 off2 _ fs1 _ pay3_zero
  iexact Hk

end

end Cert.KernelIdeal.Gate

end
-- ==== Proof.GateFrame.lean ====
module

public import proofs.«01_k».proof.Proof.Gen.KernelIdeal.Skeleton
public import proofs.«01_k».proof.Proof.Gen.KernelIdeal.Frame
public import proofs.«01_k».proof.Proof.GateFirst
public import Idealize.ShloMosaic.Lib.WordCmp
public import proofs.«01_k».proof.Proof.Gen.Kernel.Frame
public import proofs.«01_k».proof.Defs
public import Idealize.ShloMosaic.Adequacy

@[expose] public section

set_option maxRecDepth 16384

noncomputable section

namespace Cert.KernelIdeal.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section
variable (c : Dev nD) (i j : grid0.Coords) (arg2 : Memref sig .tc .vmem S512x2048 .bf16) (harg2 : arg2.IsWhole) (arg3 : Memref sig .tc .vmem S1408x2048 .bf16) (harg3 : arg3.IsWhole) (arg4 : Memref sig .tc .vmem S2x512x1408 .bf16) (harg4 : arg4.IsWhole) (arg5 : Memref sig .tc .vmem S2x512x1408 .bf16) (harg5 : arg5.IsWhole) (arg6 : Memref sig .tc .vmem S3x1408 .f32) (harg6 : arg6.IsWhole) (arg7 : Memref sig .tc .vmem S3x1408 .f32) (harg7 : arg7.IsWhole) (arg8 : Memref sig .tc .vmem S2x512x1408 .bf16) (harg8 : arg8.IsWhole) (arg9 : Memref sig .tc .vmem S2x8x1408 .f32) (harg9 : arg9.IsWhole) (arg10 : Memref sig .tc .vmem S8x1408 .f32) (harg10 : arg10.IsWhole) (arg11 : Memref sig .tc .vmem S8x1408 .f32) (harg11 : arg11.IsWhole)
  (x0 : Vec F S512x2048 .bf16) (x1 : Vec F S1408x2048 .bf16) (x2 x3 : Vec F S2x512x1408 .bf16) (x4 x5 : Vec F S3x1408 .f32)

set_option maxHeartbeats 4000000 in
/-- The body at a point that is not the first of a column keeps its inputs, whatever it leaves elsewhere. -/
theorem keepsB (hj : ¬cond0_0 j) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_ffn_da j arg2 harg2 arg3 harg3 arg4 harg4 arg5 harg5 arg6 harg6 arg7 harg7 arg8 harg8 arg9 harg9 arg10 harg10 arg11 harg11) K := by
  iintro ⟨H0, H1, H2, H3, H4, H5, H6, ⟨%d7, H7⟩, ⟨%e0, HS0⟩, ⟨%e1, HS1⟩, Hk⟩
  iapply ((runB c j arg2 harg2 arg3 harg3 arg4 harg4 arg5 harg5 arg6 harg6 arg7 harg7 arg8 harg8 arg9 harg9 arg10 harg10 arg11 harg11 hj x0 x1 x2 x3 x4 x5 d7 e0 e1).2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, ⟨%f6, H6⟩, H7, ⟨%fs0, HS0⟩, ⟨%fs1, HS1⟩⟩
  iapply Hk
  isplitl [H0]; · iexact H0
  isplitl [H1]; · iexact H1
  isplitl [H2]; · iexact H2
  isplitl [H3]; · iexact H3
  isplitl [H4]; · iexact H4
  isplitl [H5]; · iexact H5
  unfold owns
  isplitl [H6]
  · iexists _; iexists _; isplitr
    swap; · iexact H6
    ipureintro; rfl
  isplitl [H7]
  · iexists _; iexists _; isplitr
    swap; · iexact H7
    ipureintro; rfl
  isplitl [HS0]
  · iexists _; iexists _; isplitr
    swap; · iexact HS0
    ipureintro; rfl
  iexists _; iexists _; isplitr
  swap; · iexact HS1
  ipureintro; rfl

set_option maxHeartbeats 4000000 in
/-- So does the body at the first point of a column. -/
theorem keepsA (hi : cond0_0 i) (hj : ¬cond0_0 j) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_ffn_da i arg2 harg2 arg3 harg3 arg4 harg4 arg5 harg5 arg6 harg6 arg7 harg7 arg8 harg8 arg9 harg9 arg10 harg10 arg11 harg11) K := by
  rw [body_first i j arg2 harg2 arg3 harg3 arg4 harg4 arg5 harg5 arg6 harg6 arg7 harg7 arg8 harg8 arg9 harg9 arg10 harg10 arg11 harg11 hi hj]
  have hB := keepsB c j arg2 harg2 arg3 harg3 arg4 harg4 arg5 harg5 arg6 harg6 arg7 harg7 arg8 harg8 arg9 harg9 arg10 harg10 arg11 harg11 x0 x1 x2 x3 x4 x5 hj E K
  generalize cc0_ffn_da (F := F) j arg2 harg2 arg3 harg3 arg4 harg4 arg5 harg5 arg6 harg6 arg7 harg7 arg8 harg8 arg9 harg9 arg10 harg10 arg11 harg11 = body at hB ⊢
  unfold start
  simp only [bind_assoc]
  iintro ⟨H0, H1, H2, H3, H4, H5, H6, ⟨%d7, H7⟩, ⟨%ds0, HS0⟩, ⟨%ds1, HS1⟩, Hk⟩
  unfold owns at hB ⊢
  icases H7 with ⟨%f7, -, H7⟩
  icases HS0 with ⟨%fs0, -, HS0⟩
  icases HS1 with ⟨%fs1, -, HS1⟩
  sl_exec
  iapply hB
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; iexists _; isplitr
    swap; · iexact H7
    ipureintro; rfl
  isplitl [HS0]
  · iexists _; iexists _; isplitr
    swap; · iexact HS0
    ipureintro; rfl
  isplitl [HS1]
  · iexists _; iexists _; isplitr
    swap; · iexact HS1
    ipureintro; rfl
  iexact Hk

end

variable (m : (ℓ : Loc nD τ sig) → Buf (Elt F) ℓ) (ρ : Dev nD → PrngReg)

/-- A point is the first of its column exactly when sixteen divides its number. -/
theorem first_iff (t : Fin cfg0.N) : cond0_0 (grid0.coords t) ↔ t.val % 16 = 0 := by
  have ht : t.val < 64 := Nat.lt_of_lt_of_eq t.isLt N_0
  have a0 : (grid0.coords t 0).val = t.val / 16 % 4 := Pipeline.Grid.coords_val t 0 (by decide) rfl
  have a1 : (grid0.coords t 1).val = t.val / 1 % 16 := Pipeline.Grid.coords_val t 1 (by decide) rfl
  simp only [cond0_0, a0, a1]
  word_cmp

/-- Coordinates of a point that is not the first of its column. -/
def later : grid0.Coords := grid0.coords (⟨1, by rw [show cfg0.N = 64 from N_0]; decide⟩ : Fin cfg0.N)

theorem later_not : ¬cond0_0 later := fun h => by
  have := (first_iff _).mp h
  revert this; decide
/-- Window 0's staging buffer at point `t`. -/
abbrev mw0 (t : Fin cfg0.N) : Memref sig .tc .vmem S512x2048 .bf16 := win0_0.stage (cfg0.slots t 0)
/-- Window 1's staging buffer at point `t`. -/
abbrev mw1 (t : Fin cfg0.N) : Memref sig .tc .vmem S1408x2048 .bf16 := win0_1.stage (cfg0.slots t 1)
/-- Window 2's staging buffer at point `t`. -/
abbrev mw2 (t : Fin cfg0.N) : Memref sig .tc .vmem S2x512x1408 .bf16 := win0_2.stage (cfg0.slots t 2)
/-- Window 3's staging buffer at point `t`. -/
abbrev mw3 (t : Fin cfg0.N) : Memref sig .tc .vmem S2x512x1408 .bf16 := win0_3.stage (cfg0.slots t 3)
/-- Window 4's staging buffer at point `t`. -/
abbrev mw4 (t : Fin cfg0.N) : Memref sig .tc .vmem S3x1408 .f32 := win0_4.stage (cfg0.slots t 4)
/-- Window 5's staging buffer at point `t`. -/
abbrev mw5 (t : Fin cfg0.N) : Memref sig .tc .vmem S3x1408 .f32 := win0_5.stage (cfg0.slots t 5)
/-- Window 6's staging buffer at point `t`. -/
abbrev mw6 (t : Fin cfg0.N) : Memref sig .tc .vmem S2x512x1408 .bf16 := win0_6.stage (cfg0.slots t 6)
/-- Window 7's staging buffer at point `t`. -/
abbrev mw7 (t : Fin cfg0.N) : Memref sig .tc .vmem S2x8x1408 .f32 := win0_7.stage (cfg0.slots t 7)
/-- The two edge buffers. -/
abbrev edge0 : Memref sig .tc .vmem S8x1408 .f32 := Memref.whole cc0_scratch0
abbrev edge1 : Memref sig .tc .vmem S8x1408 .f32 := Memref.whole cc0_scratch1

theorem rest_eq (c : Dev nD) :
    (Pipeline.ΦA spec0 c : sProp 𝕄)
      = iprop(iprop((∃ d, owns (c : Thread nD τ) edge0 fullShare d) ∗ (∃ d, owns (c : Thread nD τ) edge1 fullShare d)) ∗ (∃ r, prngReg c r)) := by
  unfold Pipeline.ΦA; rw [scopedRest0_eq]; simp only [edge0, edge1, owns_whole]; try rfl

/-! ## The frame at any float values -/

/-- The pipeline's data where only what it reads matters: every window at its block as launched. -/
def keep (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
  Φ _ := Pipeline.ΦA spec0 c
  q w := Pipeline.shareOf spec0 w
  owed _ := 0

/-- The two results' windows, of which nothing is said. -/
def free : Fin cfg0.W → Bool
  | ⟨6, _⟩ => true
  | ⟨7, _⟩ => true
  | _ => false

theorem keep_A (c : Dev nD) (w : Fin cfg0.W) : (keep m 0 c).A w = V m c (Pipeline.arrRef spec0 w) := by
  dsimp only [keep]

theorem keep_after_0 (c : Dev nD) (t : Fin cfg0.N) : (keep m 0 c).after 0 t = iblk m c 0 t := by dsimp only [keep]
theorem keep_after_1 (c : Dev nD) (t : Fin cfg0.N) : (keep m 0 c).after 1 t = iblk m c 1 t := by dsimp only [keep]
theorem keep_after_2 (c : Dev nD) (t : Fin cfg0.N) : (keep m 0 c).after 2 t = iblk m c 2 t := by dsimp only [keep]
theorem keep_after_3 (c : Dev nD) (t : Fin cfg0.N) : (keep m 0 c).after 3 t = iblk m c 3 t := by dsimp only [keep]
theorem keep_after_4 (c : Dev nD) (t : Fin cfg0.N) : (keep m 0 c).after 4 t = iblk m c 4 t := by dsimp only [keep]
theorem keep_after_5 (c : Dev nD) (t : Fin cfg0.N) : (keep m 0 c).after 5 t = iblk m c 5 t := by dsimp only [keep]
theorem keep_before_0 (c : Dev nD) (t : Fin cfg0.N) (d) : (keep m 0 c).before 0 t d = iblk m c 0 t :=
  before0_0_of m (keep m 0 c) (keep_A m c 0) (keep_after_0 m c) t d
theorem keep_before_1 (c : Dev nD) (t : Fin cfg0.N) (d) : (keep m 0 c).before 1 t d = iblk m c 1 t :=
  before0_1_of m (keep m 0 c) (keep_A m c 1) (keep_after_1 m c) t d
theorem keep_before_2 (c : Dev nD) (t : Fin cfg0.N) (d) : (keep m 0 c).before 2 t d = iblk m c 2 t :=
  before0_2_of m (keep m 0 c) (keep_A m c 2) (keep_after_2 m c) t d
theorem keep_before_3 (c : Dev nD) (t : Fin cfg0.N) (d) : (keep m 0 c).before 3 t d = iblk m c 3 t :=
  before0_3_of m (keep m 0 c) (keep_A m c 3) (keep_after_3 m c) t d
theorem keep_before_4 (c : Dev nD) (t : Fin cfg0.N) (d) : (keep m 0 c).before 4 t d = iblk m c 4 t :=
  before0_4_of m (keep m 0 c) (keep_A m c 4) (keep_after_4 m c) t d
theorem keep_before_5 (c : Dev nD) (t : Fin cfg0.N) (d) : (keep m 0 c).before 5 t d = iblk m c 5 t :=
  before0_5_of m (keep m 0 c) (keep_A m c 5) (keep_after_5 m c) t d

set_option maxHeartbeats 4000000 in
/-- The body at any point keeps its inputs. -/
theorem keep_at (c : Dev nD) (t : Fin cfg0.N) :
    iprop((Pipeline.ΦA spec0 c : sProp 𝕄) ∗ (keep m 0 c).owesAt () t.castSucc ∗ (∃ d, owns (c : Thread nD τ) (mw0 t) fullShare ((keep m 0 c).before 0 t d)) ∗ (∃ d, owns (c : Thread nD τ) (mw1 t) fullShare ((keep m 0 c).before 1 t d)) ∗ (∃ d, owns (c : Thread nD τ) (mw2 t) fullShare ((keep m 0 c).before 2 t d)) ∗ (∃ d, owns (c : Thread nD τ) (mw3 t) fullShare ((keep m 0 c).before 3 t d)) ∗ (∃ d, owns (c : Thread nD τ) (mw4 t) fullShare ((keep m 0 c).before 4 t d)) ∗ (∃ d, owns (c : Thread nD τ) (mw5 t) fullShare ((keep m 0 c).before 5 t d)) ∗ (∃ d, owns (c : Thread nD τ) (mw6 t) fullShare d) ∗ (∃ d, owns (c : Thread nD τ) (mw7 t) fullShare d))
      ⊢ wp frame (wpE (defs₀ (F := F)) Variants.none c none) Set.univ (bodyAt0 t) (fun _ =>
        iprop((Pipeline.ΦA spec0 c : sProp 𝕄) ∗ (keep m 0 c).owesAt () t.succ ∗ owns (c : Thread nD τ) (mw0 t) fullShare ((keep m 0 c).after 0 t) ∗ owns (c : Thread nD τ) (mw1 t) fullShare ((keep m 0 c).after 1 t) ∗ owns (c : Thread nD τ) (mw2 t) fullShare ((keep m 0 c).after 2 t) ∗ owns (c : Thread nD τ) (mw3 t) fullShare ((keep m 0 c).after 3 t) ∗ owns (c : Thread nD τ) (mw4 t) fullShare ((keep m 0 c).after 4 t) ∗ owns (c : Thread nD τ) (mw5 t) fullShare ((keep m 0 c).after 5 t) ∗ (∃ d, owns (c : Thread nD τ) (mw6 t) fullShare d) ∗ (∃ d, owns (c : Thread nD τ) (mw7 t) fullShare d))) := by
  rw [rest_eq]
  unfold bodyAt0
  simp only [keep_before_0, keep_before_1, keep_before_2, keep_before_3, keep_before_4, keep_before_5, keep_after_0, keep_after_1, keep_after_2, keep_after_3, keep_after_4, keep_after_5]
  rw [show (keep m 0 c).owesAt () t.succ = (keep m 0 c).owesAt () t.castSucc from rfl]
  by_cases h0 : t.val % 16 = 0
  · iintro ⟨⟨⟨HS0, HS1⟩, Hg⟩, Ho, ⟨%d0, H0⟩, ⟨%d1, H1⟩, ⟨%d2, H2⟩, ⟨%d3, H3⟩, ⟨%d4, H4⟩, ⟨%d5, H5⟩, H6, H7⟩
    iapply (keepsA c (grid0.coords t) later _ _ _ _ _ _ _ _ _ _ _ _ _ _ _ _ _ _ _ _ (iblk m c 0 t) (iblk m c 1 t) (iblk m c 2 t) (iblk m c 3 t) (iblk m c 4 t) (iblk m c 5 t) ((first_iff t).mpr h0) later_not Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro ⟨⟨⟨HS0, HS1⟩, Hg⟩, Ho, ⟨%d0, H0⟩, ⟨%d1, H1⟩, ⟨%d2, H2⟩, ⟨%d3, H3⟩, ⟨%d4, H4⟩, ⟨%d5, H5⟩, H6, H7⟩
    iapply (keepsB c (grid0.coords t) _ _ _ _ _ _ _ _ _ _ _ _ _ _ _ _ _ _ _ _ (iblk m c 0 t) (iblk m c 1 t) (iblk m c 2 t) (iblk m c 3 t) (iblk m c 4 t) (iblk m c 5 t) (fun h => h0 ((first_iff t).mp h)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_row_any (t : Fin cfg0.N) :
    defs₀ (F := F) .tc cfg0.body (cfg0.bodyArgs t (cfg0.slots t)) = bodyAt0 t := by
  unfold defs₀; rw [Defs.onTc_tc]

theorem keep_all (c : Dev nD) : Pipeline.BodyObligationLoose (keep m 0 c) (defs₀ (F := F)) Variants.none () Set.univ free := fun t => by
  rw [bigSep_W0, bigSep_W0, body_row_any]
  exact triple_restated (keep_at m c t) rfl .rfl fun _ => .rfl

set_option backward.isDefEq.respectTransparency.types false in
/-- At any float values every execution ends with the arguments unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_frame_forget_shared cfgs (keep m) (0 : Fin 1) launch₀0 defs₀ Variants.none free m ρ main
    (hbody := keep_all m) (hq := fun _ _ _ => rfl)
    (howed := fun _ _ => rfl) (V := V m) (hmain := hmain m Variants.none) (hA := keep_A m) (hΦ := fun _ _ => rfl)
    (Q' := _) (hQ' := fun r h => ⟨fun c => by
      have h5 := (h.1 c).1 5
      rw [Pipeline.RDat.ArrAt_in _ 5 rfl] at h5
      exact ⟨((h.1 c).2 main_arg0 (Pipeline.mem_restRefs_of main_arg0 (by decide) (by decide))).trans (V_main_arg0 m c),
        h5.trans ((keep_A m c 5).trans (V_main_arg1 m c)),
        ((h.1 c).2 main_arg2 (Pipeline.mem_restRefs_of main_arg2 (by decide) (by decide))).trans (V_main_arg2 m c),
        ((h.1 c).2 main_arg3 (Pipeline.mem_restRefs_of main_arg3 (by decide) (by decide))).trans (V_main_arg3 m c),
        ((h.1 c).2 main_arg4 (Pipeline.mem_restRefs_of main_arg4 (by decide) (by decide))).trans (V_main_arg4 m c)⟩, h.2⟩)

/-! ## The two printed programs have the same text -/

theorem body_same : @Cert.Kernel.cc0_ffn_da Bits _ _ = @Cert.KernelIdeal.cc0_ffn_da Bits _ _ := rfl

set_option maxHeartbeats 1000000 in
theorem defs₀_same : Cert.Kernel.defs₀ (F := Bits) = Cert.KernelIdeal.defs₀ (F := Bits) := by
  unfold Cert.Kernel.defs₀ Cert.KernelIdeal.defs₀
  rw [body_same]
  refine congrArg Defs.onTc (funext fun l => funext fun x => ?_)
  obtain ⟨l, hl⟩ := l
  cases l with
  | zero => rfl
  | succ n => exact absurd hl (Nat.not_lt.2 (Nat.le_add_left _ _))

theorem defs_same : Cert.Kernel.defs (F := Bits) = Cert.KernelIdeal.defs (F := Bits) := by
  unfold Cert.Kernel.defs Cert.KernelIdeal.defs
  rw [defs₀_same]
  rfl

set_option maxHeartbeats 4000000 in
theorem main_same : Cert.Kernel.main (F := Bits) = Cert.KernelIdeal.main (F := Bits) := rfl

/-- The kernel's frame as it is printed: the same text at the words of the machine's formats. -/
theorem frame_kernel : Cert.quiescent_Kernel := by
  unfold Cert.quiescent_Kernel
  rw [defs_same, main_same]
  exact fun m ρ _ => frame_any (F := Bits) m ρ

end Cert.KernelIdeal.Gate

end
-- ==== Proof.GateRun.lean ====
module

public import proofs.«01_k».proof.Proof.GateBody
public import proofs.«01_k».proof.Proof.GateFrame
public import proofs.«01_k».proof.Proof.Gen.KernelIdeal.Frame
public import Idealize.ShloMosaic.Lib.WordCmp

@[expose] public section

set_option maxRecDepth 16384

noncomputable section

namespace Cert.KernelIdeal.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation)

local notation "𝕄" => MT nD τ sig Unit (Elt Ideal) ℕ (UR sig nD τ) ℕ

variable (m : (ℓ : Loc nD τ sig) → Buf (Elt Ideal) ℓ) (ρ : Dev nD → PrngReg)

/-! ## What the points leave -/

/-- The point before `t`. -/
def prev (t : Fin cfg0.N) : Fin cfg0.N := ⟨t.val - 1, Nat.lt_of_le_of_lt (Nat.sub_le _ _) t.isLt⟩

/-- The edge a point leaves for the point after it. -/
def gO (c : Dev nD) (t : Fin cfg0.N) (s : Fin 2) : Vec Ideal S8x1408 .f32 :=
  gE (iblk m c 0 t) (iblk m c 1 t) (iblk m c 3 t) s

/-- The edge a point works from: zero at the first point of a column, else the one the point before left. -/
def eI (c : Dev nD) (t : Fin cfg0.N) (s : Fin 2) : Vec Ideal S8x1408 .f32 :=
  if t.val % 16 = 0 then zer S8x1408 else gO m c (prev t) s

/-- The sums a point works from. -/
def accI (c : Dev nD) : ℕ → Vec Ideal S2x8x1408 .f32
  | 0 => zer S2x8x1408
  | n + 1 => if (n + 1) % 16 = 0 then zer S2x8x1408 else if h : n < cfg0.N then
      g7 (iblk m c 0 ⟨n, h⟩) (iblk m c 1 ⟨n, h⟩) (iblk m c 2 ⟨n, h⟩) (iblk m c 3 ⟨n, h⟩) (accI c n) (eI m c ⟨n, h⟩ 0) (eI m c ⟨n, h⟩ 1)
    else zer S2x8x1408

/-- The sums a point leaves. -/
def accO (c : Dev nD) (t : Fin cfg0.N) : Vec Ideal S2x8x1408 .f32 :=
  g7 (iblk m c 0 t) (iblk m c 1 t) (iblk m c 2 t) (iblk m c 3 t) (accI m c t.val) (eI m c t 0) (eI m c t 1)

/-- The block a point writes. -/
def blkO (c : Dev nD) (t : Fin cfg0.N) : Vec Ideal S2x512x1408 .bf16 :=
  g6 (iblk m c 0 t) (iblk m c 1 t) (iblk m c 3 t) (iblk m c 4 t) (iblk m c 5 t) (eI m c t 0) (eI m c t 1)

theorem eI_first (c : Dev nD) (t : Fin cfg0.N) (s : Fin 2) (h : t.val % 16 = 0) : eI m c t s = zer S8x1408 := if_pos h
theorem eI_next (c : Dev nD) (t : Fin cfg0.N) (s : Fin 2) (h : ¬t.val % 16 = 0) : eI m c t s = gO m c (prev t) s := if_neg h

theorem accI_first (c : Dev nD) (n : ℕ) (h : n % 16 = 0) : accI m c n = zer S2x8x1408 := by
  cases n with
  | zero => rfl
  | succ n => unfold accI; rw [if_pos h]

theorem accI_next (c : Dev nD) (t : Fin cfg0.N) (h : ¬t.val % 16 = 0) : accI m c t.val = accO m c (prev t) := by
  obtain ⟨n, hn⟩ := t
  cases n with
  | zero => exact absurd rfl h
  | succ n =>
    show accI m c (n + 1) = _
    rw [accI, if_neg h, dif_pos (Nat.lt_of_succ_lt hn)]
    rfl

/-! ## The pipeline's data -/

/-- What holds between two points: before the first, the scratch at anything; later, the edges at what the point
    before left. -/
def inv (c : Dev nD) : (n : ℕ) → n ≤ cfg0.N → sProp 𝕄
  | 0, _ => Pipeline.ΦA spec0 c
  | n + 1, hn => iprop(iprop(owns (c : Thread nD τ) edge0 fullShare (gO m c ⟨n, hn⟩ 0) ∗ owns (c : Thread nD τ) edge1 fullShare (gO m c ⟨n, hn⟩ 1)) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) edge0 fullShare (gO m c ⟨n, hn⟩ 0) ∗ owns (c : Thread nD τ) edge1 fullShare (gO m c ⟨n, hn⟩ 1)) ∗ (∃ r, prngReg c r)) := rfl

theorem inv_pos (c : Dev nD) (n : ℕ) (h : n ≤ cfg0.N) (hz : n ≠ 0) :
    inv m c n h = iprop(iprop(owns (c : Thread nD τ) edge0 fullShare (gO m c ⟨n - 1, by omega⟩ 0) ∗ owns (c : Thread nD τ) edge1 fullShare (gO m c ⟨n - 1, by omega⟩ 1)) ∗ (∃ r, prngReg c r)) := by
  cases n with
  | zero => exact absurd rfl hz
  | succ n => rfl

/-- The data of the pipeline: inputs stay at their blocks, the outputs are at `blkO` and `accO`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blkO m c t
    | ⟨7, _⟩ => accO m c t
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem inv_at (c : Dev nD) (t : Fin cfg0.N) :
    (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = blkO m c t := by dsimp only [dats]
theorem after_7 (c : Dev nD) (t : Fin cfg0.N) : (dats m 0 c).after 7 t = accO m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- The sums found at a point that is not the first of its column are those the point before left. -/
theorem before_7 (c : Dev nD) (t : Fin cfg0.N) (h : ¬t.val % 16 = 0) (d) :
    (dats m 0 c).before 7 t d = accI m c t.val := by
  have hN : t.val < 64 := lt_of_lt_of_eq t.isLt (show cfg0.N = 64 from N_0)
  rw [Dat.before_out_kept _ 7 rfl t (by omega) (Bool.eq_false_iff.mpr fun h => by have := (flush0_7 _).mp h; dsimp only at this; omega)
    (fun _ => rfl) (fun _ _ => rfl), accI_next m c t h]
  exact after_7 m c (prev t)

/-! ## The body at a point -/

def pre (c : Dev nD) (t : Fin cfg0.N) : sProp 𝕄 :=
  iprop((dats m 0 c).Φ t.castSucc ∗ (dats m 0 c).owesAt () t.castSucc
    ∗ (∃ d, owns (c : Thread nD τ) (mw0 t) fullShare ((dats m 0 c).before 0 t d))
    ∗ (∃ d, owns (c : Thread nD τ) (mw1 t) fullShare ((dats m 0 c).before 1 t d))
    ∗ (∃ d, owns (c : Thread nD τ) (mw2 t) fullShare ((dats m 0 c).before 2 t d))
    ∗ (∃ d, owns (c : Thread nD τ) (mw3 t) fullShare ((dats m 0 c).before 3 t d))
    ∗ (∃ d, owns (c : Thread nD τ) (mw4 t) fullShare ((dats m 0 c).before 4 t d))
    ∗ (∃ d, owns (c : Thread nD τ) (mw5 t) fullShare ((dats m 0 c).before 5 t d))
    ∗ (∃ d, owns (c : Thread nD τ) (mw6 t) fullShare ((dats m 0 c).before 6 t d))
    ∗ (∃ d, owns (c : Thread nD τ) (mw7 t) fullShare ((dats m 0 c).before 7 t d)))

def post (c : Dev nD) (t : Fin cfg0.N) : sProp 𝕄 :=
  iprop((dats m 0 c).Φ t.succ ∗ (dats m 0 c).owesAt () t.succ
    ∗ owns (c : Thread nD τ) (mw0 t) fullShare ((dats m 0 c).after 0 t)
    ∗ owns (c : Thread nD τ) (mw1 t) fullShare ((dats m 0 c).after 1 t)
    ∗ owns (c : Thread nD τ) (mw2 t) fullShare ((dats m 0 c).after 2 t)
    ∗ owns (c : Thread nD τ) (mw3 t) fullShare ((dats m 0 c).after 3 t)
    ∗ owns (c : Thread nD τ) (mw4 t) fullShare ((dats m 0 c).after 4 t)
    ∗ owns (c : Thread nD τ) (mw5 t) fullShare ((dats m 0 c).after 5 t)
    ∗ owns (c : Thread nD τ) (mw6 t) fullShare ((dats m 0 c).after 6 t)
    ∗ owns (c : Thread nD τ) (mw7 t) fullShare ((dats m 0 c).after 7 t))

theorem body_first_column (c : Dev nD) (t : Fin cfg0.N) (h0 : t.val % 16 = 0) :
    iprop(iprop(iprop((∃ d, owns (c : Thread nD τ) edge0 fullShare d) ∗ (∃ d, owns (c : Thread nD τ) edge1 fullShare d)) ∗ (∃ r, prngReg c r)) ∗ (dats m 0 c).owesAt () t.castSucc
    ∗ (∃ d, owns (c : Thread nD τ) (mw0 t) fullShare ((dats m 0 c).before 0 t d))
    ∗ (∃ d, owns (c : Thread nD τ) (mw1 t) fullShare ((dats m 0 c).before 1 t d))
    ∗ (∃ d, owns (c : Thread nD τ) (mw2 t) fullShare ((dats m 0 c).before 2 t d))
    ∗ (∃ d, owns (c : Thread nD τ) (mw3 t) fullShare ((dats m 0 c).before 3 t d))
    ∗ (∃ d, owns (c : Thread nD τ) (mw4 t) fullShare ((dats m 0 c).before 4 t d))
    ∗ (∃ d, owns (c : Thread nD τ) (mw5 t) fullShare ((dats m 0 c).before 5 t d))
    ∗ (∃ d, owns (c : Thread nD τ) (mw6 t) fullShare ((dats m 0 c).before 6 t d))
    ∗ (∃ d, owns (c : Thread nD τ) (mw7 t) fullShare ((dats m 0 c).before 7 t d)))
      ⊢ wp frame (wpE (defs₀ (F := Ideal)) Variants.none c none) Set.univ (bodyAt0 t) (fun _ => post m c t) := by
  unfold post bodyAt0
  simp only [before_0, before_1, before_2, before_3, before_4, before_5]
  rw [show (dats m 0 c).owesAt () t.succ = (dats m 0 c).owesAt () t.castSucc from rfl,
    after_0, after_1, after_2, after_3, after_4, after_5, after_6, after_7,
    show (dats m 0 c).Φ t.succ = inv m c (t.val + 1) t.isLt from rfl, inv_succ]
  unfold blkO accO gO
  simp only [eI_first m c t _ h0, accI_first m c t.val h0]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (soundA c (grid0.coords t) later _ _ _ _ _ _ _ _ _ _ _ _ _ _ _ _ _ _ _ _ ((first_iff t).mpr h0) later_not (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 4000000 in
/-- The body at any point. -/
theorem body_at (c : Dev nD) (t : Fin cfg0.N) :
    pre m c t ⊢ wp frame (wpE (defs₀ (F := Ideal)) Variants.none c none) Set.univ (bodyAt0 t) (fun _ => post m c t) := by
  unfold pre
  rw [inv_at m c t]
  by_cases h0 : t.val % 16 = 0
  · refine .trans ?_ (body_first_column m c t h0)
    refine sep_mono ?_ .rfl
    by_cases hz : t.val = 0
    · rw [inv_zero m c _ _ hz, rest_eq]
    · rw [inv_pos m c _ _ hz]
      iintro ⟨⟨HS0, HS1⟩, Hg⟩
      isplitl [HS0 HS1]
      · isplitl [HS0]
        · iexists _; iexact HS0
        iexists _; iexact HS1
      iexact Hg
  · have hz : t.val ≠ 0 := fun h => h0 (by rw [h])
    rw [inv_pos m c _ _ hz]
    unfold post bodyAt0
    simp only [before_0, before_1, before_2, before_3, before_4, before_5, before_7 m c t h0]
    rw [show (dats m 0 c).owesAt () t.succ = (dats m 0 c).owesAt () t.castSucc from rfl,
      after_0, after_1, after_2, after_3, after_4, after_5, after_6, after_7,
      show (dats m 0 c).Φ t.succ = inv m c (t.val + 1) t.isLt from rfl, inv_succ]
    rw [show gO m c ⟨t.val - 1, Nat.lt_of_le_of_lt (Nat.sub_le _ _) t.isLt⟩ 0 = eI m c t 0 from (eI_next m c t 0 h0).symm,
      show gO m c ⟨t.val - 1, Nat.lt_of_le_of_lt (Nat.sub_le _ _) t.isLt⟩ 1 = eI m c t 1 from (eI_next m c t 1 h0).symm]
    unfold blkO accO gO
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (soundB c (grid0.coords t) _ _ _ _ _ _ _ _ _ _ _ _ _ _ _ _ _ _ _ _ (fun h => h0 ((first_iff t).mp h)) (iblk m c 0 t) (iblk m c 1 t) (iblk m c 2 t) (iblk m c 3 t) (iblk m c 4 t) (iblk m c 5 t) (accI m c t.val) (eI m c t 0) (eI m c t 1) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_all (c : Dev nD) : BodyObligation (dats m 0 c) (defs₀ (F := Ideal)) Variants.none () Set.univ := fun t => by
  rw [bigSep_W0, bigSep_W0, body_row_any]
  exact triple_restated (body_at m c t) rfl .rfl fun _ => .rfl

theorem inv_in (c : Dev nD) : Pipeline.ΦA spec0 c ⊢ (dats m 0 c).Φ 0 := by
  rw [show (dats m 0 c).Φ 0 = inv m c 0 (Nat.zero_le _) from rfl, inv_zero m c 0 _ rfl]

theorem inv_out (c : Dev nD) : (dats m 0 c).Φ (Fin.last cfg0.N) ⊢ Pipeline.ΦA spec0 c := by
  rw [show (dats m 0 c).Φ (Fin.last cfg0.N) = inv m c cfg0.N (Nat.le_refl _) from rfl,
    inv_pos m c _ _ (by have : cfg0.N = 64 := N_0; omega), rest_eq]
  iintro ⟨⟨HS0, HS1⟩, Hg⟩
  isplitl [HS0 HS1]
  · isplitl [HS0]
    · iexists _; iexact HS0
    iexists _; iexact HS1
  iexact Hg

/-! ## The run -/

set_option backward.isDefEq.respectTransparency.types false in
/-- Every execution ends with each array of the pipeline at what the points left in it, and every counter at zero. -/
theorem run : θ_run defs (onTc (τ := τ) (main (F := Ideal))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_all m c).loose) (hq := fun _ _ _ => rfl)
    (howed := fun _ _ => rfl) (V := V m) (hmain := hmain m Variants.none) (hA := A_eq m) (hin := inv_in m) (hout := inv_out m)

/-- The idealized kernel's frame. -/
theorem frame_ideal : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.KernelIdeal.Gate

end
-- ==== Proof.Whole.lean ====
module

public import Idealize.ShloMosaic.Lib.WholeRead
public import Idealize.ShloMosaic.Lib.Pipeline.Value
public import Idealize.ShloMosaic.Lib.Pointwise

@[expose] public section

noncomputable section

namespace Cert.Whole

open Idealize.ShloMosaic

/-- A load of a whole buffer reads what the buffer holds. -/
theorem readAt_all {sig : RefSig} {κ : Kind} {sp : Space} {s : Shape} {e : EltTy} {m : Memref sig κ sp s e}
    (h : m.IsWhole) (X : s.Idx → Elt Ideal e) {off : Fin s.rank → ℕ} (hoff : off = fun _ => 0) (inb) :
    View.readAt (Elt Ideal) m.view (Rect.unit (s := s) off s.size inb).toLoadRect (h.unread X) = X := by
  subst hoff
  funext x
  rw [h.readAt_unread]
  congr 1
  funext a
  apply Fin.ext
  show 0 + 1 * _ = _
  rw [Nat.zero_add, Nat.one_mul]

/-- A buffer stored whole holds what was stored. -/
theorem read_all {sig : RefSig} {κ : Kind} {sp : Space} {s : Shape} {e : EltTy}
    (v : View sig κ sp s e) (f : v.ty.Contents (Elt Ideal)) {off : Fin s.rank → ℕ} (hoff : off = fun _ => 0) (inb)
    (g : s.Idx → Elt Ideal e) (L : List (View.Piece (Elt Ideal) s e)) :
    v.read (Elt Ideal) (v.writes (Elt Ideal) f (⟨Rect.unit (s := s) off s.size inb, g⟩ :: L)) = g := by
  subst hoff
  funext y
  have hy : (Rect.unit (s := s) (fun _ => 0) s.size inb).emb y = y := by
    funext a
    apply Fin.ext
    show 0 + 1 * _ = _
    rw [Nat.zero_add, Nat.one_mul]
  conv_lhs => rw [← hy]
  exact View.read_writes_cons_emb v f (Rect.unit (s := s) (fun _ => 0) s.size inb) g L y

/-- A load of a buffer just stored whole reads what was stored. -/
theorem readCov_all {sig : RefSig} {κ : Kind} {sp : Space} {s : Shape} {e : EltTy}
    (v : View sig κ sp s e) {off : Fin s.rank → ℕ} (hoff : off = fun _ => 0) (inb)
    (g : s.Idx → Elt Ideal e) (L : List (View.Piece (Elt Ideal) s e)) :
    v.readCov (⟨Rect.unit (s := s) off s.size inb, g⟩ :: L) (Rect.unit (s := s) off s.size inb).toLoadRect = g := by
  unfold View.readCov
  funext x
  rw [View.readAt_apply, read_all v _ hoff inb g L]
  subst hoff
  congr 1
  funext a
  apply Fin.ext
  show 0 + 1 * _ = _
  rw [Nat.zero_add, Nat.one_mul]

theorem z2 : (![0, 0] : Fin 2 → ℕ) = fun _ => 0 := by funext a; fin_cases a <;> rfl
theorem z3 : (![0, 0, 0] : Fin 3 → ℕ) = fun _ => 0 := by funext a; fin_cases a <;> rfl

end Cert.Whole

end
-- ==== Proof.Dwup.lean ====
module

public import proofs.«01_k».proof.Proof.Gen.Kernel2Ideal.Value
public import proofs.«01_k».proof.Proof.Gen.Reference2Ideal.Run
public import proofs.«01_k».proof.Proof.Gen.Reference2Ideal.Read
public import proofs.«01_k».proof.Proof.Whole
public import proofs.«01_k».proof.Defs
public import Idealize.ShloMosaic.Lib.Tactic
public import Idealize.ShloMosaic.Lib.Claim

@[expose] public section

set_option maxRecDepth 16384

noncomputable section

namespace Cert.Kernel2Ideal.Dwup

open Idealize.ShloMosaic Idealize.ShloMosaic.TcCoe Idealize.ShloMosaic.Tactic
open Cert.Kernel2Ideal.Gen Cert.Kernel2Ideal.Value

/-! ## One point -/

/-- The product of a block of the transposed activations with a block of gradient columns, over one block of rows. -/
def prod (x0 : Vec Ideal S2048x1024 .bf16) (x1 : Vec Ideal S1x2048x1408 .bf16) : Vec Ideal S1024x1408 .f32 := fun y =>
  ∑ k : Fin 2048, x0 (ix2 k (y 0)) * x1 (ix3 0 k (y 1))

theorem pay1_eq (x0 : Vec Ideal S2048x1024 .bf16) (x1 : Vec Ideal S1x2048x1408 .bf16) : k0_pay1 x0 x1 = prod x0 x1 := by
  funext y; idx_vars y; unfold prod k0_pay1; pointwise; try rfl

theorem pay2_eq (x0 : Vec Ideal S2048x1024 .bf16) (x1 : Vec Ideal S1x2048x1408 .bf16) : k0_pay2 x0 x1 = prod x0 x1 := by
  unfold k0_pay2
  rw [pay1_eq]
  generalize prod x0 x1 = p
  funext y; idx_vars y; pointwise

theorem pay3_eq (x0 : Vec Ideal S2048x1024 .bf16) (x1 : Vec Ideal S1x2048x1408 .bf16) (a : Vec Ideal S1024x1408 .f32) :
    k0_pay3 x0 x1 a = fun y => a y + prod x0 x1 y := by
  unfold k0_pay3
  rw [pay1_eq]
  generalize prod x0 x1 = p
  funext y; idx_vars y; pointwise

theorem pay4_eq (a : Vec Ideal S1024x1408 .f32) : k0_pay4 a = fun y => a (ix2 (y 1) (y 2)) := by
  unfold k0_pay4
  funext y; idx_vars y; pointwise; try rfl

theorem scrA (c : Dev nD) (i : grid0.Coords) (arg3 : Memref sig .tc .vmem S2048x1024 .bf16) (harg3 : arg3.IsWhole) (arg4 : Memref sig .tc .vmem S1x2048x1408 .bf16) (harg4 : arg4.IsWhole) (arg5 : Memref sig .tc .vmem S1x1024x1408 .f32) (harg5 : arg5.IsWhole) (arg6 : Memref sig .tc .vmem S1024x1408 .f32) (harg6 : arg6.IsWhole) (hc0 : cond0_0 i) (hc1 : ¬cond0_1 i) (hc2 : ¬cond0_2 i)
    (x0 : Vec Ideal S2048x1024 .bf16) (x1 : Vec Ideal S1x2048x1408 .bf16) :
    sout0_A_0 c i arg3 harg3 arg4 harg4 arg5 harg5 arg6 harg6 hc0 hc1 hc2 x0 x1 = prod x0 x1 := by
  unfold sout0_A_0 kernelRun0_A
  sl_unfold_words
  dsimp only
  rw [Whole.readAt_all harg3 x0 Whole.z2, Whole.readAt_all harg4 x1 Whole.z3, pay2_eq]
  exact Whole.read_all _ _ Whole.z2 _ _ _

theorem scrB (c : Dev nD) (i : grid0.Coords) (arg3 : Memref sig .tc .vmem S2048x1024 .bf16) (harg3 : arg3.IsWhole) (arg4 : Memref sig .tc .vmem S1x2048x1408 .bf16) (harg4 : arg4.IsWhole) (arg5 : Memref sig .tc .vmem S1x1024x1408 .f32) (harg5 : arg5.IsWhole) (arg6 : Memref sig .tc .vmem S1024x1408 .f32) (harg6 : arg6.IsWhole) (hc0 : ¬cond0_0 i) (hc1 : cond0_1 i) (hc2 : ¬cond0_2 i)
    (x0 : Vec Ideal S2048x1024 .bf16) (x1 : Vec Ideal S1x2048x1408 .bf16) (a : Vec Ideal S1024x1408 .f32) :
    sout0_B_0 c i arg3 harg3 arg4 harg4 arg5 harg5 arg6 harg6 hc0 hc1 hc2 x0 x1 a = fun y => a y + prod x0 x1 y := by
  unfold sout0_B_0 kernelRun0_B
  sl_unfold_words
  dsimp only
  rw [Whole.readAt_all harg3 x0 Whole.z2, Whole.readAt_all harg4 x1 Whole.z3, Whole.readAt_all harg6 a Whole.z2, pay3_eq]
  exact Whole.read_all _ _ Whole.z2 _ _ _

theorem outC (c : Dev nD) (i : grid0.Coords) (arg3 : Memref sig .tc .vmem S2048x1024 .bf16) (harg3 : arg3.IsWhole) (arg4 : Memref sig .tc .vmem S1x2048x1408 .bf16) (harg4 : arg4.IsWhole) (arg5 : Memref sig .tc .vmem S1x1024x1408 .f32) (harg5 : arg5.IsWhole) (arg6 : Memref sig .tc .vmem S1024x1408 .f32) (harg6 : arg6.IsWhole) (hc0 : ¬cond0_0 i) (hc1 : cond0_1 i) (hc2 : cond0_2 i)
    (x0 : Vec Ideal S2048x1024 .bf16) (x1 : Vec Ideal S1x2048x1408 .bf16) (a : Vec Ideal S1024x1408 .f32) :
    out0_C_2 c i arg3 harg3 arg4 harg4 arg5 harg5 arg6 harg6 hc0 hc1 hc2 x0 x1 a = fun y => a (ix2 (y 1) (y 2)) + prod x0 x1 (ix2 (y 1) (y 2)) := by
  unfold out0_C_2 kernelRun0_C
  sl_unfold_words
  dsimp only
  rw [Whole.readAt_all harg3 x0 Whole.z2, Whole.readAt_all harg4 x1 Whole.z3, Whole.readAt_all harg6 a Whole.z2, pay3_eq,
    Whole.readCov_all _ Whole.z2, pay4_eq]
  exact Whole.read_all _ _ Whole.z3 _ _ _

/-! ## The blocks a point reads -/

variable (m : (ℓ : Loc nD τ sig) → Buf (Elt Ideal) ℓ) (ρ : Dev nD → PrngReg)

theorem index0 : ∀ t : Fin cfg0.N, win0_0.index t (0 : Fin 2) = t.val % 4 ∧ win0_0.index t (1 : Fin 2) = t.val / 4 % 2 :=
  (by decide +kernel : ∀ t : Fin grid0.N, _)

theorem index1 : ∀ t : Fin cfg0.N, win0_1.index t (0 : Fin 3) = t.val / 32 ∧ win0_1.index t (1 : Fin 3) = t.val % 4
    ∧ win0_1.index t (2 : Fin 3) = t.val / 8 % 4 :=
  (by decide +kernel : ∀ t : Fin grid0.N, _)

/-- The activations and the gradient, as launched. -/
abbrev act (c : Dev nD) : Vec Ideal S8192x2048 .bf16 := m ((c.tc : Thread nD τ).loc main_arg0)
abbrev grad (c : Dev nD) : Vec Ideal S2x8192x5632 .bf16 := m ((c.tc : Thread nD τ).loc main_arg1)

theorem block0 (c : Dev nD) (t : Fin cfg0.N) (k : Fin 2048) (r : Fin 1024) :
    iblk m c 0 t (ix2 k r) = act m c (ix2 ⟨t.val % 4 * 2048 + k.val, by have := k.isLt; omega⟩ ⟨t.val / 4 % 2 * 1024 + r.val, by have := r.isLt; omega⟩) := by
  obtain ⟨e0, e1⟩ := index0 t
  show act m c (((cfg0.win 0).blk t).view.emb (ix2 k r)) = _
  congr 1
  funext a
  apply Fin.ext
  match a with
  | ⟨0, _⟩ => show win0_0.index t (0 : Fin 2) * 2048 + 1 * k.val = _; rw [e0, one_mul]; rfl
  | ⟨1, _⟩ => show win0_0.index t (1 : Fin 2) * 1024 + 1 * r.val = _; rw [e1, one_mul]; rfl

theorem block1 (c : Dev nD) (t : Fin cfg0.N) (k : Fin 2048) (q : Fin 1408) :
    iblk m c 1 t (ix3 0 k q) = grad m c (ix3 ⟨t.val / 32, by have := lt_of_lt_of_eq t.isLt (show cfg0.N = 64 from N_0); omega⟩
      ⟨t.val % 4 * 2048 + k.val, by have := k.isLt; omega⟩ ⟨t.val / 8 % 4 * 1408 + q.val, by have := q.isLt; omega⟩) := by
  obtain ⟨e0, e1, e2⟩ := index1 t
  show grad m c (((cfg0.win 1).blk t).view.emb (ix3 0 k q)) = _
  congr 1
  funext a
  apply Fin.ext
  match a with
  | ⟨0, _⟩ => show win0_1.index t (0 : Fin 3) * 1 + 1 * 0 = t.val / 32; omega
  | ⟨1, _⟩ => show win0_1.index t (1 : Fin 3) * 2048 + 1 * k.val = _; rw [e1, one_mul]; rfl
  | ⟨2, _⟩ => show win0_1.index t (2 : Fin 3) * 1408 + 1 * q.val = _; rw [e2, one_mul]; rfl

/-! ## The whole result -/

/-- The term of the product at row `k` for the result's index `i`. -/
def term (c : Dev nD) (i : S8x2048x1408.Idx) (k : Fin 8192) : EReal :=
  act m c (ix2 k (i 1)) * grad m c (ix3 ⟨(i 0).val / 4, by have : (i 0).val < 8 := (i 0).isLt; omega⟩ k
    ⟨(i 0).val % 4 * 1408 + (i 2).val, by have : (i 2).val < 1408 := (i 2).isLt; omega⟩)

/-- What the point at step `b` of the run that makes the block of `i` adds. -/
theorem prod_at (c : Dev nD) (i : S8x2048x1408.Idx) (t : Fin cfg0.N) (b : Fin 4)
    (ht : t.val = 4 * (2 * (i 0).val + (i 1).val / 1024) + b.val) (h1 : (i 1).val % 1024 < 1024) :
    prod (iblk m c 0 t) (iblk m c 1 t) (ix2 ⟨(i 1).val % 1024, h1⟩ (i 2))
      = ∑ k : Fin 2048, term m c i ⟨b.val * 2048 + k.val, by have := k.isLt; have := b.isLt; omega⟩ := by
  have hi0 : (i 0).val < 8 := (i 0).isLt
  have hi1 : (i 1).val < 2048 := (i 1).isLt
  have hi2 : (i 2).val < 1408 := (i 2).isLt
  have hb := b.isLt
  unfold prod
  refine Finset.sum_congr rfl fun k _ => ?_
  unfold term
  refine congrArg₂ (· * ·) ((block0 m c t k _).trans (congrArg (act m c) ?_)) ((block1 m c t k _).trans (congrArg (grad m c) ?_))
  · funext a
    apply Fin.ext
    match a with
    | ⟨0, _⟩ => show t.val % 4 * 2048 + k.val = b.val * 2048 + k.val; omega
    | ⟨1, _⟩ => show t.val / 4 % 2 * 1024 + (i 1).val % 1024 = (i 1).val; omega
  · funext a
    apply Fin.ext
    match a with
    | ⟨0, _⟩ => show t.val / 32 = (i 0).val / 4; omega
    | ⟨1, _⟩ => show t.val % 4 * 2048 + k.val = b.val * 2048 + k.val; omega
    | ⟨2, _⟩ => show t.val / 8 % 4 * 1408 + (i 2).val = (i 0).val % 4 * 1408 + (i 2).val; omega

/-- What the kernel's result holds: the whole product, over all rows. -/
theorem result_eq (c : Dev nD) (i : S8x2048x1408.Idx) : G2 m c i = ∑ k : Fin 8192, term m c i k := by
  have hi0 : (i 0).val < 8 := (i 0).isLt
  have hi1 : (i 1).val < 2048 := (i 1).isLt
  have hi2 : (i 2).val < 1408 := (i 2).isLt
  have hN : cfg0.N = 64 := N_0
  have hr : run2Of i = 2 * (i 0).val + (i 1).val / 1024 := by
    show 2 * ((i 0).val / 1 - 0) + 1 * ((i 1).val / 1024 - 0) + 1 * ((i 2).val / 1408 - 0) = _
    omega
  have hp : pt2Of i = 4 * (2 * (i 0).val + (i 1).val / 1024) + 3 := by show 4 * run2Of i + 3 = _; rw [hr]
  unfold G2
  rw [dif_pos (by rw [hp, hN]; omega), ← outsAt0_sweep m c (pt2Of i) (by rw [hp, hN]; omega)]
  obtain ⟨n, hn⟩ : ∃ n, n = 4 * (2 * (i 0).val + (i 1).val / 1024) := ⟨_, rfl⟩
  rw [← hn] at hp
  have hn4 : n % 4 = 0 := by omega
  have hlt : n + 3 < cfg0.N := by rw [hN]; omega
  have e : ∀ (p : ℕ) (h : p < cfg0.N), p = n + 3 → outsAt0 m c p h = outsAt0 m c (n + 3) hlt := fun p h hh => by subst hh; rfl
  rw [e _ _ hp]
  rw [outsAt0_succ, stAt0_C m c ⟨n + 3, hlt⟩ _ (by show ¬(n + 3) % 4 = 0; omega) (by show 1 ≤ (n + 3) % 4; omega) (by show (n + 3) % 4 = 3; omega)]
  dsimp only
  rw [outC]
  rw [outsAt0_succ, stAt0_B m c ⟨n + 2, by omega⟩ _ (by show ¬(n + 2) % 4 = 0; omega) (by show 1 ≤ (n + 2) % 4; omega) (by show ¬(n + 2) % 4 = 3; omega)]
  dsimp only
  rw [scrB]
  rw [outsAt0_succ, stAt0_B m c ⟨n + 1, by omega⟩ _ (by show ¬(n + 1) % 4 = 0; omega) (by show 1 ≤ (n + 1) % 4; omega) (by show ¬(n + 1) % 4 = 3; omega)]
  dsimp only
  rw [scrB]
  rw [outsAt0_A m c ⟨n, by omega⟩ (by show n % 4 = 0; omega) (by show ¬1 ≤ n % 4; omega) (by show ¬n % 4 = 3; omega)]
  dsimp only
  rw [scrA]
  rw [Fin.sum_univ_tiles 4 2048 rfl, Fin.sum_univ_four]
  rw [← prod_at m c i ⟨n, by omega⟩ 0 (by show n = _; rw [hn]; rfl) (Nat.mod_lt _ (by decide)),
    ← prod_at m c i ⟨n + 1, by omega⟩ 1 (by show n + 1 = _; rw [hn]; rfl) (Nat.mod_lt _ (by decide)),
    ← prod_at m c i ⟨n + 2, by omega⟩ 2 (by show n + 2 = _; rw [hn]; rfl) (Nat.mod_lt _ (by decide)),
    ← prod_at m c i ⟨n + 3, by omega⟩ 3 (by show n + 3 = _; rw [hn]; rfl) (Nat.mod_lt _ (by decide))]
  have hl : (ix2 (loc2Of i 1) (loc2Of i 2) : S1024x1408.Idx) = ix2 ⟨(i 1).val % 1024, Nat.mod_lt _ (by decide)⟩ (i 2) := by
    funext a
    apply Fin.ext
    match a with
    | ⟨0, _⟩ => rfl
    | ⟨1, _⟩ => show (i 2).val % 1408 = (i 2).val; omega
  rw [hl]
  rfl

/-! ## The reference -/

section
open Cert.Reference2Ideal.Read

/-- What the reference's result holds. -/
theorem reference_eq (x0 : Vec Ideal S8192x2048 .bf16) (x1 : Vec Ideal S2x8192x5632 .bf16) (i : S8x2048x1408.Idx) :
    val_main_v12 (F := Ideal) x0 x1 i = ∑ k : Fin 8192, x0 (ix2 k (i 1)) * x1 (ix3 ⟨(i 0).val / 4, by have : (i 0).val < 8 := (i 0).isLt; omega⟩ k
      ⟨(i 0).val % 4 * 1408 + (i 2).val, by have : (i 2).val < 1408 := (i 2).isLt; omega⟩) := by
  have hi0 : (i 0).val < 8 := (i 0).isLt
  have hi1 : (i 1).val < 2048 := (i 1).isLt
  have hi2 : (i 2).val < 1408 := (i 2).isLt
  rw [val_main_v12_apply, val_main_v11_apply, val_main_v10_apply, val_main_v9_apply]
  refine Finset.sum_congr rfl fun k _ => ?_
  rw [val_main_v8_apply, val_main_v6_apply, mul_comm]
  refine congrArg₂ (· * ·) (congrArg x0 ?_) ?_
  · funext a
    apply Fin.ext
    match a with
    | ⟨0, _⟩ => rfl
    | ⟨1, _⟩ => show (((i 1).val * 8 + (i 0).val) * 1408 + (i 2).val) / 11264 = (i 1).val; omega
  · show val_main_v4 (F := Ideal) x1 _ = _
    generalize hj : lidx_main_v9 _ k = j
    have j0 : (j 0).val = k.val := by rw [← hj]
    have j1 : (j 1).val = (i 0).val * 1408 + (i 2).val := by
      rw [← hj]; show (((i 1).val * 8 + (i 0).val) * 1408 + (i 2).val) % 11264 = _; omega
    unfold val_main_v4
    have q0 : k.val < 8192 := k.isLt
    by_cases h : (i 0).val < 4
    · refine (concatenate_pair_apply_left (s₁ := Reference2Ideal.S8192x5632) (s₂ := Reference2Ideal.S8192x5632) 1 _ _ _ j rfl
        (ix2 k ⟨(i 0).val * 1408 + (i 2).val, by omega⟩) (fun b => match b with
        | ⟨0, _⟩ => j0.symm
        | ⟨1, _⟩ => j1.symm)).trans ?_
      rw [val_main_v1_apply, val_main_v0_apply]
      congr 1
      funext a
      apply Fin.ext
      match a with
      | ⟨0, _⟩ => show 0 = (i 0).val / 4; omega
      | ⟨1, _⟩ => show (k.val * 5632 + ((i 0).val * 1408 + (i 2).val)) / 5632 % 8192 = k.val; omega
      | ⟨2, _⟩ => show (k.val * 5632 + ((i 0).val * 1408 + (i 2).val)) % 5632 = (i 0).val % 4 * 1408 + (i 2).val; omega
    · refine (concatenate_pair_apply_right (s₁ := Reference2Ideal.S8192x5632) (s₂ := Reference2Ideal.S8192x5632) 1 _ _ _ j rfl rfl
        (ix2 k ⟨(i 0).val * 1408 + (i 2).val - 5632, by omega⟩) (fun b hb => match b, hb with
        | ⟨0, _⟩, _ => j0.symm
        | ⟨1, _⟩, hb => absurd rfl hb) (by show (i 0).val * 1408 + (i 2).val - 5632 + 5632 = (j 1).val; omega)).trans ?_
      rw [val_main_v3_apply, val_main_v2_apply]
      congr 1
      funext a
      apply Fin.ext
      match a with
      | ⟨0, _⟩ => show 1 + 0 = (i 0).val / 4; omega
      | ⟨1, _⟩ => show (k.val * 5632 + ((i 0).val * 1408 + (i 2).val - 5632)) / 5632 % 8192 = k.val; omega
      | ⟨2, _⟩ => show (k.val * 5632 + ((i 0).val * 1408 + (i 2).val - 5632)) % 5632 = (i 0).val % 4 * 1408 + (i 2).val; omega

end

/-- The kernel and its reference end with equal results. -/
theorem equal : Cert.algebraic_Kernel2Ideal_Reference2Ideal := by
  pair_intro
  · run_from Cert.Kernel2Ideal.Value.run m g
  · run_from Cert.Reference2Ideal.Value.run m' g'
    exact (Cert.Reference2Ideal.Read.val_main_v12_eq _ _).trans (funext fun i => (reference_eq _ _ i).trans (result_eq m c i).symm)

end Cert.Kernel2Ideal.Dwup

end
-- ==== Proof.Dh.lean ====
module

public import proofs.«01_k».proof.Proof.Gen.Kernel3Ideal.Value
public import proofs.«01_k».proof.Proof.Gen.Reference3Ideal.Run
public import proofs.«01_k».proof.Proof.Gen.Reference3Ideal.Read
public import proofs.«01_k».proof.Proof.Whole
public import proofs.«01_k».proof.Defs
public import Idealize.ShloMosaic.Lib.Tactic
public import Idealize.ShloMosaic.Lib.Claim

@[expose] public section

set_option maxRecDepth 16384

noncomputable section

namespace Cert.Kernel3Ideal.Dh

open Idealize.ShloMosaic Idealize.ShloMosaic.TcCoe Idealize.ShloMosaic.Tactic
open Cert.Kernel3Ideal.Gen Cert.Kernel3Ideal.Value

/-! ## One point -/

/-- The product of a block of gradient rows with a block of weight columns, over one block of columns. -/
def prod (x0 : Vec Ideal S1x512x2816 .bf16) (x1 : Vec Ideal S2048x2816 .bf16) : Vec Ideal S512x2048 .f32 := fun y =>
  ∑ k : Fin 2816, x0 (ix3 0 (y 0) k) * x1 (ix2 (y 1) k)

theorem pay1_eq (x0 : Vec Ideal S1x512x2816 .bf16) (x1 : Vec Ideal S2048x2816 .bf16) : k0_pay1 x0 x1 = prod x0 x1 := by
  funext y; idx_vars y; unfold prod k0_pay1; pointwise; try rfl

theorem pay2_eq (x0 : Vec Ideal S1x512x2816 .bf16) (x1 : Vec Ideal S2048x2816 .bf16) : k0_pay2 x0 x1 = prod x0 x1 := by
  unfold k0_pay2
  rw [pay1_eq]
  generalize prod x0 x1 = p
  funext y; idx_vars y; pointwise

theorem pay3_eq (x0 : Vec Ideal S1x512x2816 .bf16) (x1 : Vec Ideal S2048x2816 .bf16) (a : Vec Ideal S512x2048 .f32) :
    k0_pay3 x0 x1 a = fun y => a y + prod x0 x1 y := by
  unfold k0_pay3
  rw [pay1_eq]
  generalize prod x0 x1 = p
  funext y; idx_vars y; pointwise

theorem scrA  (c : Dev nD) (i : grid0.Coords) (arg3 : Memref sig .tc .vmem S1x512x2816 .bf16) (harg3 : arg3.IsWhole) (arg4 : Memref sig .tc .vmem S2048x2816 .bf16) (harg4 : arg4.IsWhole) (arg5 : Memref sig .tc .vmem S512x2048 .f32) (harg5 : arg5.IsWhole) (arg6 : Memref sig .tc .vmem S512x2048 .f32) (harg6 : arg6.IsWhole) (hc0 : cond0_0 i) (hc1 : ¬cond0_1 i) (hc2 : ¬cond0_2 i)
    (x0 : Vec Ideal S1x512x2816 .bf16) (x1 : Vec Ideal S2048x2816 .bf16) :
    sout0_A_0 c i arg3 harg3 arg4 harg4 arg5 harg5 arg6 harg6 hc0 hc1 hc2 x0 x1 = prod x0 x1 := by
  unfold sout0_A_0 kernelRun0_A
  sl_unfold_words
  dsimp only
  rw [Whole.readAt_all harg3 x0 Whole.z3, Whole.readAt_all harg4 x1 Whole.z2, pay2_eq]
  exact Whole.read_all _ _ Whole.z2 _ _ _

theorem scrB  (c : Dev nD) (i : grid0.Coords) (arg3 : Memref sig .tc .vmem S1x512x2816 .bf16) (harg3 : arg3.IsWhole) (arg4 : Memref sig .tc .vmem S2048x2816 .bf16) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i) (hc2 : ¬cond0_2 i)
    (x0 : Vec Ideal S1x512x2816 .bf16) (x1 : Vec Ideal S2048x2816 .bf16) (xs0 : Vec Ideal S512x2048 .f32) :
    sout0_B_0 c i arg3 harg3 arg4 harg4 arg5 harg5 arg6 harg6 hc0 hc1 hc2 x0 x1 xs0 = fun y => xs0 y + prod x0 x1 y := by
  unfold sout0_B_0 kernelRun0_B
  sl_unfold_words
  dsimp only
  rw [Whole.readAt_all harg3 x0 Whole.z3, Whole.readAt_all harg4 x1 Whole.z2, Whole.readAt_all harg6 xs0 Whole.z2, pay3_eq]
  exact Whole.read_all _ _ Whole.z2 _ _ _

theorem outC  (c : Dev nD) (i : grid0.Coords) (arg3 : Memref sig .tc .vmem S1x512x2816 .bf16) (harg3 : arg3.IsWhole) (arg4 : Memref sig .tc .vmem S2048x2816 .bf16) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i) (hc2 : cond0_2 i)
    (x0 : Vec Ideal S1x512x2816 .bf16) (x1 : Vec Ideal S2048x2816 .bf16) (xs0 : Vec Ideal S512x2048 .f32) :
    out0_C_2 c i arg3 harg3 arg4 harg4 arg5 harg5 arg6 harg6 hc0 hc1 hc2 x0 x1 xs0 = fun y => xs0 y + prod x0 x1 y := by
  unfold out0_C_2 kernelRun0_C
  sl_unfold_words
  dsimp only
  rw [Whole.readAt_all harg3 x0 Whole.z3, Whole.readAt_all harg4 x1 Whole.z2, Whole.readAt_all harg6 xs0 Whole.z2, pay3_eq,
    Whole.readCov_all _ Whole.z2]
  exact Whole.read_all _ _ Whole.z2 _ _ _

/-! ## The blocks a point reads -/

variable (m : (ℓ : Loc nD τ sig) → Buf (Elt Ideal) ℓ) (ρ : Dev nD → PrngReg)

theorem index0 : ∀ t : Fin cfg0.N, win0_0.index t (0 : Fin 3) = t.val % 4 / 2 ∧ win0_0.index t (1 : Fin 3) = t.val / 4 ∧ win0_0.index t (2 : Fin 3) = t.val % 2 :=
  (by decide +kernel : ∀ t : Fin grid0.N, _)

theorem index1 : ∀ t : Fin cfg0.N, win0_1.index t (0 : Fin 2) = 0 ∧ win0_1.index t (1 : Fin 2) = t.val % 4 :=
  (by decide +kernel : ∀ t : Fin grid0.N, _)

/-- The gradient and the weights, as launched. -/
abbrev grad (c : Dev nD) : Vec Ideal S2x8192x5632 .bf16 := m ((c.tc : Thread nD τ).loc main_arg0)
abbrev wup (c : Dev nD) : Vec Ideal S2048x11264 .bf16 := m ((c.tc : Thread nD τ).loc main_arg1)

theorem block0 (c : Dev nD) (t : Fin cfg0.N) (r : Fin 512) (k : Fin 2816) :
    iblk m c 0 t (ix3 0 r k) = grad m c (ix3 ⟨t.val % 4 / 2, by omega⟩ ⟨t.val / 4 * 512 + r.val, by have := r.isLt; have := lt_of_lt_of_eq t.isLt (show cfg0.N = 64 from N_0); omega⟩ ⟨t.val % 2 * 2816 + k.val, by have := k.isLt; omega⟩) := by
  obtain ⟨e0, e1, e2⟩ := index0 t
  have hN := lt_of_lt_of_eq t.isLt (show cfg0.N = _ from N_0)
  show grad m c (((cfg0.win 0).blk t).view.emb (ix3 0 r k)) = _
  congr 1
  funext a
  apply Fin.ext
  match a with
  | ⟨0, _⟩ => show win0_0.index t (0 : Fin 3) * 1 + 1 * 0 = t.val % 4 / 2; rw [e0]; omega
  | ⟨1, _⟩ => show win0_0.index t (1 : Fin 3) * 512 + 1 * r.val = (t.val / 4) * 512 + r.val; rw [e1]; omega
  | ⟨2, _⟩ => show win0_0.index t (2 : Fin 3) * 2816 + 1 * k.val = (t.val % 2) * 2816 + k.val; rw [e2]; omega

theorem block1 (c : Dev nD) (t : Fin cfg0.N) (q : Fin 2048) (k : Fin 2816) :
    iblk m c 1 t (ix2 q k) = wup m c (ix2 q ⟨t.val % 4 * 2816 + k.val, by have := k.isLt; omega⟩) := by
  obtain ⟨e0, e1⟩ := index1 t
  have hN := lt_of_lt_of_eq t.isLt (show cfg0.N = _ from N_0)
  show wup m c (((cfg0.win 1).blk t).view.emb (ix2 q k)) = _
  congr 1
  funext a
  apply Fin.ext
  match a with
  | ⟨0, _⟩ => show win0_1.index t (0 : Fin 2) * 2048 + 1 * q.val = q.val; rw [e0]; omega
  | ⟨1, _⟩ => show win0_1.index t (1 : Fin 2) * 2816 + 1 * k.val = (t.val % 4) * 2816 + k.val; rw [e1]; omega

/-! ## The whole result -/

/-- The term of the product at column `k` for the result's index `i`. -/
def term (c : Dev nD) (i : S8192x2048.Idx) (k : Fin 11264) : EReal :=
  grad m c (ix3 ⟨k.val / 5632, by have := k.isLt; omega⟩ (i 0) ⟨k.val % 5632, Nat.mod_lt _ (by decide)⟩) * wup m c (ix2 (i 1) k)

/-- What the point at step `b` of the run that makes the block of `i` adds. -/
theorem prod_at (c : Dev nD) (i : S8192x2048.Idx) (t : Fin cfg0.N) (b : Fin 4)
    (ht : t.val = 4 * ((i 0).val / 512) + b.val) (h0 : (i 0).val % 512 < 512) (h1 : (i 1).val % 2048 < 2048) :
    prod (iblk m c 0 t) (iblk m c 1 t) (ix2 ⟨(i 0).val % 512, h0⟩ ⟨(i 1).val % 2048, h1⟩)
      = ∑ k : Fin 2816, term m c i ⟨b.val * 2816 + k.val, by have := k.isLt; have := b.isLt; omega⟩ := by
  have hi0 : (i 0).val < 8192 := (i 0).isLt
  have hi1 : (i 1).val < 2048 := (i 1).isLt
  have hb := b.isLt
  unfold prod
  refine Finset.sum_congr rfl fun k _ => ?_
  have hk := k.isLt
  unfold term
  refine congrArg₂ (· * ·) ((block0 m c t _ k).trans (congrArg (grad m c) ?_)) ((block1 m c t _ k).trans (congrArg (wup m c) ?_))
  · funext a
    apply Fin.ext
    match a with
    | ⟨0, _⟩ => show t.val % 4 / 2 = (b.val * 2816 + k.val) / 5632; omega
    | ⟨1, _⟩ => show t.val / 4 * 512 + (i 0).val % 512 = (i 0).val; omega
    | ⟨2, _⟩ => show t.val % 2 * 2816 + k.val = (b.val * 2816 + k.val) % 5632; omega
  · funext a
    apply Fin.ext
    match a with
    | ⟨0, _⟩ => show (i 1).val % 2048 = (i 1).val; omega
    | ⟨1, _⟩ => show t.val % 4 * 2816 + k.val = b.val * 2816 + k.val; omega

/-- What the kernel's result holds: the whole product. -/
theorem result_eq (c : Dev nD) (i : S8192x2048.Idx) : G2 m c i = ∑ k : Fin 11264, term m c i k := by
  have hi0 : (i 0).val < 8192 := (i 0).isLt
  have hi1 : (i 1).val < 2048 := (i 1).isLt
  have hN : cfg0.N = 64 := N_0
  have hr : run2Of i = (i 0).val / 512 := by
    show 1 * ((i 0).val / 512 - 0) + 1 * ((i 1).val / 2048 - 0) = _
    omega
  have hp : pt2Of i = 4 * ((i 0).val / 512) + 3 := by show 4 * run2Of i + 3 = _; rw [hr]
  unfold G2
  rw [dif_pos (by rw [hp, hN]; omega), ← outsAt0_sweep m c (pt2Of i) (by rw [hp, hN]; omega)]
  obtain ⟨n, hn⟩ : ∃ n, n = 4 * ((i 0).val / 512) := ⟨_, rfl⟩
  rw [← hn] at hp
  have hn4 : n % 4 = 0 := by omega
  have hlt : n + 3 < cfg0.N := by rw [hN]; omega
  have e : ∀ (p : ℕ) (h : p < cfg0.N), p = n + 3 → outsAt0 m c p h = outsAt0 m c (n + 3) hlt := fun p h hh => by subst hh; rfl
  rw [e _ _ hp]
  rw [outsAt0_succ, stAt0_C m c ⟨n + 3, hlt⟩ _ (by show ¬(n + 3) % 4 = 0; omega) (by show 1 ≤ (n + 3) % 4; omega) (by show (n + 3) % 4 = 3; omega)]
  dsimp only
  rw [outC]
  rw [outsAt0_succ, stAt0_B m c ⟨n + 2, by omega⟩ _ (by show ¬(n + 2) % 4 = 0; omega) (by show 1 ≤ (n + 2) % 4; omega) (by show ¬(n + 2) % 4 = 3; omega)]
  dsimp only
  rw [scrB]
  rw [outsAt0_succ, stAt0_B m c ⟨n + 1, by omega⟩ _ (by show ¬(n + 1) % 4 = 0; omega) (by show 1 ≤ (n + 1) % 4; omega) (by show ¬(n + 1) % 4 = 3; omega)]
  dsimp only
  rw [scrB]
  rw [outsAt0_A m c ⟨n, by omega⟩ (by show n % 4 = 0; omega) (by show ¬1 ≤ n % 4; omega) (by show ¬n % 4 = 3; omega)]
  dsimp only
  rw [scrA]
  rw [Fin.sum_univ_tiles 4 2816 rfl, Fin.sum_univ_four]
  rw [← prod_at m c i ⟨n, by omega⟩ 0 (by show n = _; rw [hn]; rfl) (Nat.mod_lt _ (by decide)) (Nat.mod_lt _ (by decide)),
    ← prod_at m c i ⟨n + 1, by omega⟩ 1 (by show n + 1 = _; rw [hn]; rfl) (Nat.mod_lt _ (by decide)) (Nat.mod_lt _ (by decide)),
    ← prod_at m c i ⟨n + 2, by omega⟩ 2 (by show n + 2 = _; rw [hn]; rfl) (Nat.mod_lt _ (by decide)) (Nat.mod_lt _ (by decide)),
    ← prod_at m c i ⟨n + 3, by omega⟩ 3 (by show n + 3 = _; rw [hn]; rfl) (Nat.mod_lt _ (by decide)) (Nat.mod_lt _ (by decide))]
  have hl : loc2Of i = ix2 ⟨(i 0).val % 512, Nat.mod_lt _ (by decide)⟩ ⟨(i 1).val % 2048, Nat.mod_lt _ (by decide)⟩ := by
    funext a
    apply Fin.ext
    match a with
    | ⟨0, _⟩ => rfl
    | ⟨1, _⟩ => rfl
  rw [hl]

/-! ## The reference -/

section
open Cert.Reference3Ideal.Read

/-- What the reference's result holds. -/
theorem reference_eq (x0 : Vec Ideal S2x8192x5632 .bf16) (x1 : Vec Ideal S2048x11264 .bf16) (i : S8192x2048.Idx) :
    val_main_v9 (F := Ideal) x0 x1 i = ∑ k : Fin 11264, x0 (ix3 ⟨k.val / 5632, by have := k.isLt; omega⟩ (i 0) ⟨k.val % 5632, Nat.mod_lt _ (by decide)⟩) * x1 (ix2 (i 1) k) := by
  have hi0 : (i 0).val < 8192 := (i 0).isLt
  rw [val_main_v9_apply]
  refine Finset.sum_congr rfl fun k _ => ?_
  have hk := k.isLt
  rw [val_main_v8_apply, val_main_v6_apply]
  refine congrArg₂ (· * ·) ?_ (congrArg x1 ?_)
  · show val_main_v4 (F := Ideal) x0 _ = _
    generalize hj : lidx_main_v9 _ k = j
    have j0 : (j 0).val = (i 0).val := by rw [← hj]
    have j1 : (j 1).val = k.val := by rw [← hj]
    unfold val_main_v4
    by_cases h : k.val < 5632
    · refine (concatenate_pair_apply_left (s₁ := Reference3Ideal.S8192x5632) (s₂ := Reference3Ideal.S8192x5632) 1 _ _ _ j rfl
        (ix2 (i 0) ⟨k.val, h⟩) (fun b => match b with
        | ⟨0, _⟩ => j0.symm
        | ⟨1, _⟩ => j1.symm)).trans ?_
      rw [val_main_v1_apply, val_main_v0_apply]
      congr 1
      funext a
      apply Fin.ext
      match a with
      | ⟨0, _⟩ => show 0 = k.val / 5632; omega
      | ⟨1, _⟩ => show ((i 0).val * 5632 + k.val) / 5632 % 8192 = (i 0).val; omega
      | ⟨2, _⟩ => show ((i 0).val * 5632 + k.val) % 5632 = k.val % 5632; omega
    · refine (concatenate_pair_apply_right (s₁ := Reference3Ideal.S8192x5632) (s₂ := Reference3Ideal.S8192x5632) 1 _ _ _ j rfl rfl
        (ix2 (i 0) ⟨k.val - 5632, by omega⟩) (fun b hb => match b, hb with
        | ⟨0, _⟩, _ => j0.symm
        | ⟨1, _⟩, hb => absurd rfl hb) (by show k.val - 5632 + 5632 = (j 1).val; omega)).trans ?_
      rw [val_main_v3_apply, val_main_v2_apply]
      congr 1
      funext a
      apply Fin.ext
      match a with
      | ⟨0, _⟩ => show 1 + 0 = k.val / 5632; omega
      | ⟨1, _⟩ => show ((i 0).val * 5632 + (k.val - 5632)) / 5632 % 8192 = (i 0).val; omega
      | ⟨2, _⟩ => show ((i 0).val * 5632 + (k.val - 5632)) % 5632 = k.val % 5632; omega
  · funext a
    apply Fin.ext
    match a with
    | ⟨0, _⟩ => rfl
    | ⟨1, _⟩ => rfl

end

/-- The kernel and its reference end with equal results. -/
theorem equal : Cert.algebraic_Kernel3Ideal_Reference3Ideal := by
  pair_intro
  · run_from Cert.Kernel3Ideal.Value.run m g
  · run_from Cert.Reference3Ideal.Value.run m' g'
    exact (Cert.Reference3Ideal.Read.val_main_v9_eq _ _).trans (funext fun i => (reference_eq _ _ i).trans (result_eq m c i).symm)

end Cert.Kernel3Ideal.Dh

end
-- ==== Proof.Dwdown.lean ====
module

public import proofs.«01_k».proof.Proof.Gen.Kernel4Ideal.Value
public import proofs.«01_k».proof.Proof.Gen.Reference4Ideal.Run
public import proofs.«01_k».proof.Proof.Gen.Reference4Ideal.Read
public import proofs.«01_k».proof.Proof.Whole
public import proofs.«01_k».proof.Defs
public import Idealize.ShloMosaic.Lib.Tactic
public import Idealize.ShloMosaic.Lib.Claim

@[expose] public section

set_option maxRecDepth 16384

noncomputable section

namespace Cert.Kernel4Ideal.Dwdown

open Idealize.ShloMosaic Idealize.ShloMosaic.TcCoe Idealize.ShloMosaic.Tactic
open Cert.Kernel4Ideal.Gen Cert.Kernel4Ideal.Value

/-! ## One point -/

/-- The product of a block of the transposed gated values with a block of gradient columns, over one block of rows. -/
def prod (x0 : Vec Ideal S2048x1408 .bf16) (x1 : Vec Ideal S2048x1024 .bf16) : Vec Ideal S1408x1024 .f32 := fun y =>
  ∑ k : Fin 2048, x0 (ix2 k (y 0)) * x1 (ix2 k (y 1))

theorem pay1_eq (x0 : Vec Ideal S2048x1408 .bf16) (x1 : Vec Ideal S2048x1024 .bf16) : k0_pay1 x0 x1 = prod x0 x1 := by
  funext y; idx_vars y; unfold prod k0_pay1; pointwise; try rfl

theorem pay2_eq (x0 : Vec Ideal S2048x1408 .bf16) (x1 : Vec Ideal S2048x1024 .bf16) : k0_pay2 x0 x1 = prod x0 x1 := by
  unfold k0_pay2
  rw [pay1_eq]
  generalize prod x0 x1 = p
  funext y; idx_vars y; pointwise

theorem pay3_eq (x0 : Vec Ideal S2048x1408 .bf16) (x1 : Vec Ideal S2048x1024 .bf16) (a : Vec Ideal S1408x1024 .f32) :
    k0_pay3 x0 x1 a = fun y => a y + prod x0 x1 y := by
  unfold k0_pay3
  rw [pay1_eq]
  generalize prod x0 x1 = p
  funext y; idx_vars y; pointwise

theorem scrA  (c : Dev nD) (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .f32) (harg5 : arg5.IsWhole) (arg6 : Memref sig .tc .vmem S1408x1024 .f32) (harg6 : arg6.IsWhole) (hc0 : cond0_0 i) (hc1 : ¬cond0_1 i) (hc2 : ¬cond0_2 i)
    (x0 : Vec Ideal S2048x1408 .bf16) (x1 : Vec Ideal S2048x1024 .bf16) :
    sout0_A_0 c i arg3 harg3 arg4 harg4 arg5 harg5 arg6 harg6 hc0 hc1 hc2 x0 x1 = prod x0 x1 := by
  unfold sout0_A_0 kernelRun0_A
  sl_unfold_words
  dsimp only
  rw [Whole.readAt_all harg3 x0 Whole.z2, Whole.readAt_all harg4 x1 Whole.z2, pay2_eq]
  exact Whole.read_all _ _ Whole.z2 _ _ _

theorem scrB  (c : Dev nD) (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .f32) (harg5 : arg5.IsWhole) (arg6 : Memref sig .tc .vmem S1408x1024 .f32) (harg6 : arg6.IsWhole) (hc0 : ¬cond0_0 i) (hc1 : cond0_1 i) (hc2 : ¬cond0_2 i)
    (x0 : Vec Ideal S2048x1408 .bf16) (x1 : Vec Ideal S2048x1024 .bf16) (xs0 : Vec Ideal S1408x1024 .f32) :
    sout0_B_0 c i arg3 harg3 arg4 harg4 arg5 harg5 arg6 harg6 hc0 hc1 hc2 x0 x1 xs0 = fun y => xs0 y + prod x0 x1 y := by
  unfold sout0_B_0 kernelRun0_B
  sl_unfold_words
  dsimp only
  rw [Whole.readAt_all harg3 x0 Whole.z2, Whole.readAt_all harg4 x1 Whole.z2, Whole.readAt_all harg6 xs0 Whole.z2, pay3_eq]
  exact Whole.read_all _ _ Whole.z2 _ _ _

theorem outC  (c : Dev nD) (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .f32) (harg5 : arg5.IsWhole) (arg6 : Memref sig .tc .vmem S1408x1024 .f32) (harg6 : arg6.IsWhole) (hc0 : ¬cond0_0 i) (hc1 : cond0_1 i) (hc2 : cond0_2 i)
    (x0 : Vec Ideal S2048x1408 .bf16) (x1 : Vec Ideal S2048x1024 .bf16) (xs0 : Vec Ideal S1408x1024 .f32) :
    out0_C_2 c i arg3 harg3 arg4 harg4 arg5 harg5 arg6 harg6 hc0 hc1 hc2 x0 x1 xs0 = fun y => xs0 y + prod x0 x1 y := by
  unfold out0_C_2 kernelRun0_C
  sl_unfold_words
  dsimp only
  rw [Whole.readAt_all harg3 x0 Whole.z2, Whole.readAt_all harg4 x1 Whole.z2, Whole.readAt_all harg6 xs0 Whole.z2, pay3_eq,
    Whole.readCov_all _ Whole.z2]
  exact Whole.read_all _ _ Whole.z2 _ _ _

/-! ## The blocks a point reads -/

variable (m : (ℓ : Loc nD τ sig) → Buf (Elt Ideal) ℓ) (ρ : Dev nD → PrngReg)

theorem index0 : ∀ t : Fin cfg0.N, win0_0.index t (0 : Fin 2) = t.val % 4 ∧ win0_0.index t (1 : Fin 2) = t.val / 8 :=
  (by decide +kernel : ∀ t : Fin grid0.N, _)

theorem index1 : ∀ t : Fin cfg0.N, win0_1.index t (0 : Fin 2) = t.val % 4 ∧ win0_1.index t (1 : Fin 2) = t.val / 4 % 2 :=
  (by decide +kernel : ∀ t : Fin grid0.N, _)

/-- The gated values and the gradient, as launched. -/
abbrev act (c : Dev nD) : Vec Ideal S8192x5632 .bf16 := m ((c.tc : Thread nD τ).loc main_arg0)
abbrev grad (c : Dev nD) : Vec Ideal S8192x2048 .bf16 := m ((c.tc : Thread nD τ).loc main_arg1)

theorem block0 (c : Dev nD) (t : Fin cfg0.N) (k : Fin 2048) (r : Fin 1408) :
    iblk m c 0 t (ix2 k r) = act m c (ix2 ⟨t.val % 4 * 2048 + k.val, by have := k.isLt; omega⟩ ⟨t.val / 8 * 1408 + r.val, by have := r.isLt; have := lt_of_lt_of_eq t.isLt (show cfg0.N = 32 from N_0); omega⟩) := by
  obtain ⟨e0, e1⟩ := index0 t
  have hN := lt_of_lt_of_eq t.isLt (show cfg0.N = _ from N_0)
  show act m c (((cfg0.win 0).blk t).view.emb (ix2 k r)) = _
  congr 1
  funext a
  apply Fin.ext
  match a with
  | ⟨0, _⟩ => show win0_0.index t (0 : Fin 2) * 2048 + 1 * k.val = (t.val % 4) * 2048 + k.val; rw [e0]; omega
  | ⟨1, _⟩ => show win0_0.index t (1 : Fin 2) * 1408 + 1 * r.val = (t.val / 8) * 1408 + r.val; rw [e1]; omega

theorem block1 (c : Dev nD) (t : Fin cfg0.N) (k : Fin 2048) (q : Fin 1024) :
    iblk m c 1 t (ix2 k q) = grad m c (ix2 ⟨t.val % 4 * 2048 + k.val, by have := k.isLt; omega⟩ ⟨t.val / 4 % 2 * 1024 + q.val, by have := q.isLt; omega⟩) := by
  obtain ⟨e0, e1⟩ := index1 t
  have hN := lt_of_lt_of_eq t.isLt (show cfg0.N = _ from N_0)
  show grad m c (((cfg0.win 1).blk t).view.emb (ix2 k q)) = _
  congr 1
  funext a
  apply Fin.ext
  match a with
  | ⟨0, _⟩ => show win0_1.index t (0 : Fin 2) * 2048 + 1 * k.val = (t.val % 4) * 2048 + k.val; rw [e0]; omega
  | ⟨1, _⟩ => show win0_1.index t (1 : Fin 2) * 1024 + 1 * q.val = (t.val / 4 % 2) * 1024 + q.val; rw [e1]; omega

/-! ## The whole result -/

/-- The term of the product at row `k` for the result's index `i`. -/
def term (c : Dev nD) (i : S5632x2048.Idx) (k : Fin 8192) : EReal := act m c (ix2 k (i 0)) * grad m c (ix2 k (i 1))

/-- What the point at step `b` of the run that makes the block of `i` adds. -/
theorem prod_at (c : Dev nD) (i : S5632x2048.Idx) (t : Fin cfg0.N) (b : Fin 4)
    (ht : t.val = 4 * (2 * ((i 0).val / 1408) + (i 1).val / 1024) + b.val) (h0 : (i 0).val % 1408 < 1408) (h1 : (i 1).val % 1024 < 1024) :
    prod (iblk m c 0 t) (iblk m c 1 t) (ix2 ⟨(i 0).val % 1408, h0⟩ ⟨(i 1).val % 1024, h1⟩)
      = ∑ k : Fin 2048, term m c i ⟨b.val * 2048 + k.val, by have := k.isLt; have := b.isLt; omega⟩ := by
  have hi0 : (i 0).val < 5632 := (i 0).isLt
  have hi1 : (i 1).val < 2048 := (i 1).isLt
  have hb := b.isLt
  unfold prod
  refine Finset.sum_congr rfl fun k _ => ?_
  have hk := k.isLt
  unfold term
  refine congrArg₂ (· * ·) ((block0 m c t k _).trans (congrArg (act m c) ?_)) ((block1 m c t k _).trans (congrArg (grad m c) ?_))
  · funext a
    apply Fin.ext
    match a with
    | ⟨0, _⟩ => show t.val % 4 * 2048 + k.val = b.val * 2048 + k.val; omega
    | ⟨1, _⟩ => show t.val / 8 * 1408 + (i 0).val % 1408 = (i 0).val; omega
  · funext a
    apply Fin.ext
    match a with
    | ⟨0, _⟩ => show t.val % 4 * 2048 + k.val = b.val * 2048 + k.val; omega
    | ⟨1, _⟩ => show t.val / 4 % 2 * 1024 + (i 1).val % 1024 = (i 1).val; omega

/-- What the kernel's result holds: the whole product. -/
theorem result_eq (c : Dev nD) (i : S5632x2048.Idx) : G2 m c i = ∑ k : Fin 8192, term m c i k := by
  have hi0 : (i 0).val < 5632 := (i 0).isLt
  have hi1 : (i 1).val < 2048 := (i 1).isLt
  have hN : cfg0.N = 32 := N_0
  have hr : run2Of i = 2 * ((i 0).val / 1408) + (i 1).val / 1024 := by
    show 2 * ((i 0).val / 1408 - 0) + 1 * ((i 1).val / 1024 - 0) = _
    omega
  have hp : pt2Of i = 4 * (2 * ((i 0).val / 1408) + (i 1).val / 1024) + 3 := by show 4 * run2Of i + 3 = _; rw [hr]
  unfold G2
  rw [dif_pos (by rw [hp, hN]; omega), ← outsAt0_sweep m c (pt2Of i) (by rw [hp, hN]; omega)]
  obtain ⟨n, hn⟩ : ∃ n, n = 4 * (2 * ((i 0).val / 1408) + (i 1).val / 1024) := ⟨_, rfl⟩
  rw [← hn] at hp
  have hn4 : n % 4 = 0 := by omega
  have hlt : n + 3 < cfg0.N := by rw [hN]; omega
  have e : ∀ (p : ℕ) (h : p < cfg0.N), p = n + 3 → outsAt0 m c p h = outsAt0 m c (n + 3) hlt := fun p h hh => by subst hh; rfl
  rw [e _ _ hp]
  rw [outsAt0_succ, stAt0_C m c ⟨n + 3, hlt⟩ _ (by show ¬(n + 3) % 4 = 0; omega) (by show 1 ≤ (n + 3) % 4; omega) (by show (n + 3) % 4 = 3; omega)]
  dsimp only
  rw [outC]
  rw [outsAt0_succ, stAt0_B m c ⟨n + 2, by omega⟩ _ (by show ¬(n + 2) % 4 = 0; omega) (by show 1 ≤ (n + 2) % 4; omega) (by show ¬(n + 2) % 4 = 3; omega)]
  dsimp only
  rw [scrB]
  rw [outsAt0_succ, stAt0_B m c ⟨n + 1, by omega⟩ _ (by show ¬(n + 1) % 4 = 0; omega) (by show 1 ≤ (n + 1) % 4; omega) (by show ¬(n + 1) % 4 = 3; omega)]
  dsimp only
  rw [scrB]
  rw [outsAt0_A m c ⟨n, by omega⟩ (by show n % 4 = 0; omega) (by show ¬1 ≤ n % 4; omega) (by show ¬n % 4 = 3; omega)]
  dsimp only
  rw [scrA]
  rw [Fin.sum_univ_tiles 4 2048 rfl, Fin.sum_univ_four]
  rw [← prod_at m c i ⟨n, by omega⟩ 0 (by show n = _; rw [hn]; rfl) (Nat.mod_lt _ (by decide)) (Nat.mod_lt _ (by decide)),
    ← prod_at m c i ⟨n + 1, by omega⟩ 1 (by show n + 1 = _; rw [hn]; rfl) (Nat.mod_lt _ (by decide)) (Nat.mod_lt _ (by decide)),
    ← prod_at m c i ⟨n + 2, by omega⟩ 2 (by show n + 2 = _; rw [hn]; rfl) (Nat.mod_lt _ (by decide)) (Nat.mod_lt _ (by decide)),
    ← prod_at m c i ⟨n + 3, by omega⟩ 3 (by show n + 3 = _; rw [hn]; rfl) (Nat.mod_lt _ (by decide)) (Nat.mod_lt _ (by decide))]
  have hl : loc2Of i = ix2 ⟨(i 0).val % 1408, Nat.mod_lt _ (by decide)⟩ ⟨(i 1).val % 1024, Nat.mod_lt _ (by decide)⟩ := by
    funext a
    apply Fin.ext
    match a with
    | ⟨0, _⟩ => rfl
    | ⟨1, _⟩ => rfl
  rw [hl]

/-! ## The reference -/

section
open Cert.Reference4Ideal.Read

/-- What the reference's result holds. -/
theorem reference_eq (x0 : Vec Ideal S8192x5632 .bf16) (x1 : Vec Ideal S8192x2048 .bf16) (i : S5632x2048.Idx) :
    val_main_v5 (F := Ideal) x0 x1 i = ∑ k : Fin 8192, x0 (ix2 k (i 0)) * x1 (ix2 k (i 1)) := by
  rw [val_main_v5_apply, val_main_v4_apply]
  refine Finset.sum_congr rfl fun k _ => ?_
  rw [val_main_v3_apply, val_main_v1_apply, mul_comm]
  refine congrArg₂ (· * ·) (congrArg x0 ?_) (congrArg x1 ?_)
  · funext a
    apply Fin.ext
    match a with
    | ⟨0, _⟩ => rfl
    | ⟨1, _⟩ => rfl
  · funext a
    apply Fin.ext
    match a with
    | ⟨0, _⟩ => rfl
    | ⟨1, _⟩ => rfl

end

/-- The kernel and its reference end with equal results. -/
theorem equal : Cert.algebraic_Kernel4Ideal_Reference4Ideal := by
  pair_intro
  · run_from Cert.Kernel4Ideal.Value.run m g
  · run_from Cert.Reference4Ideal.Value.run m' g'
    exact (Cert.Reference4Ideal.Read.val_main_v5_eq _ _).trans (funext fun i => (reference_eq _ _ i).trans (result_eq m c i).symm)

end Cert.Kernel4Ideal.Dwdown

end
-- ==== Proof.Down.lean ====
module

public import proofs.«01_k».proof.Proof.Gen.Kernel5Ideal.Value
public import proofs.«01_k».proof.Proof.Gen.Reference5Ideal.Run
public import proofs.«01_k».proof.Proof.Gen.Reference5Ideal.Read
public import proofs.«01_k».proof.Proof.Whole
public import proofs.«01_k».proof.Defs
public import Idealize.ShloMosaic.Lib.Tactic
public import Idealize.ShloMosaic.Lib.Claim

@[expose] public section

set_option maxRecDepth 16384

noncomputable section

namespace Cert.Kernel5Ideal.Down

open Idealize.ShloMosaic Idealize.ShloMosaic.TcCoe Idealize.ShloMosaic.Tactic
open Cert.Kernel5Ideal.Gen Cert.Kernel5Ideal.Value

/-! ## One point -/

/-- The product of a block of gated values with a block of weight rows, over one block of inner indices. -/
def prod (x0 : Vec Ideal S512x2816 .bf16) (x1 : Vec Ideal S2816x2048 .bf16) : Vec Ideal S512x2048 .f32 := fun y =>
  ∑ k : Fin 2816, x0 (ix2 (y 0) k) * x1 (ix2 k (y 1))

theorem pay1_eq (x0 : Vec Ideal S512x2816 .bf16) (x1 : Vec Ideal S2816x2048 .bf16) : k0_pay1 x0 x1 = prod x0 x1 := by
  funext y; idx_vars y; unfold prod k0_pay1; pointwise; try rfl

theorem pay2_eq (x0 : Vec Ideal S512x2816 .bf16) (x1 : Vec Ideal S2816x2048 .bf16) : k0_pay2 x0 x1 = prod x0 x1 := by
  unfold k0_pay2
  rw [pay1_eq]
  generalize prod x0 x1 = p
  funext y; idx_vars y; pointwise

theorem pay3_eq (x0 : Vec Ideal S512x2816 .bf16) (x1 : Vec Ideal S2816x2048 .bf16) (a : Vec Ideal S512x2048 .f32) :
    k0_pay3 x0 x1 a = fun y => a y + prod x0 x1 y := by
  unfold k0_pay3
  rw [pay1_eq]
  generalize prod x0 x1 = p
  funext y; idx_vars y; pointwise

theorem pay4_eq (a b : Vec Ideal S512x2048 .f32) : k0_pay4 a b = fun y => a y + b y := by
  unfold k0_pay4
  funext y; idx_vars y; pointwise

theorem scrA  (c : Dev nD) (i : grid0.Coords) (arg3 : Memref sig .tc .vmem S512x2816 .bf16) (harg3 : arg3.IsWhole) (arg4 : Memref sig .tc .vmem S2816x2048 .bf16) (harg4 : arg4.IsWhole) (arg5 : Memref sig .tc .vmem S512x2048 .f32) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i) (hc2 : ¬cond0_2 i)
    (x0 : Vec Ideal S512x2816 .bf16) (x1 : Vec Ideal S2816x2048 .bf16) (x2 : Vec Ideal S512x2048 .f32) :
    sout0_A_0 c i arg3 harg3 arg4 harg4 arg5 harg5 arg6 harg6 arg7 harg7 hc0 hc1 hc2 x0 x1 x2 = prod x0 x1 := by
  unfold sout0_A_0 kernelRun0_A
  sl_unfold_words
  dsimp only
  rw [Whole.readAt_all harg3 x0 Whole.z2, Whole.readAt_all harg4 x1 Whole.z2, pay2_eq]
  exact Whole.read_all _ _ Whole.z2 _ _ _

theorem outB  (c : Dev nD) (i : grid0.Coords) (arg3 : Memref sig .tc .vmem S512x2816 .bf16) (harg3 : arg3.IsWhole) (arg4 : Memref sig .tc .vmem S2816x2048 .bf16) (harg4 : arg4.IsWhole) (arg5 : Memref sig .tc .vmem S512x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i) (hc2 : cond0_2 i)
    (x0 : Vec Ideal S512x2816 .bf16) (x1 : Vec Ideal S2816x2048 .bf16) (x2 : Vec Ideal S512x2048 .f32) (xs0 : Vec Ideal S512x2048 .f32) :
    out0_B_3 c i arg3 harg3 arg4 harg4 arg5 harg5 arg6 harg6 arg7 harg7 hc0 hc1 hc2 x0 x1 x2 xs0 = fun y => (xs0 y + prod x0 x1 y) + x2 y := by
  unfold out0_B_3 kernelRun0_B
  sl_unfold_words
  dsimp only
  rw [Whole.readAt_all harg3 x0 Whole.z2, Whole.readAt_all harg4 x1 Whole.z2, Whole.readAt_all harg5 x2 Whole.z2, Whole.readAt_all harg7 xs0 Whole.z2, pay3_eq,
    Whole.readCov_all _ Whole.z2, pay4_eq]
  exact Whole.read_all _ _ Whole.z2 _ _ _

/-! ## The blocks a point reads -/

variable (m : (ℓ : Loc nD τ sig) → Buf (Elt Ideal) ℓ) (ρ : Dev nD → PrngReg)

theorem index0 : ∀ t : Fin cfg0.N, win0_0.index t (0 : Fin 2) = t.val / 2 ∧ win0_0.index t (1 : Fin 2) = t.val % 2 :=
  (by decide +kernel : ∀ t : Fin grid0.N, _)

theorem index1 : ∀ t : Fin cfg0.N, win0_1.index t (0 : Fin 2) = t.val % 2 ∧ win0_1.index t (1 : Fin 2) = 0 :=
  (by decide +kernel : ∀ t : Fin grid0.N, _)

theorem index2 : ∀ t : Fin cfg0.N, win0_2.index t (0 : Fin 2) = t.val / 2 ∧ win0_2.index t (1 : Fin 2) = 0 :=
  (by decide +kernel : ∀ t : Fin grid0.N, _)

/-- The gated values, the weights and the residual, as launched. -/
abbrev act (c : Dev nD) : Vec Ideal S8192x5632 .bf16 := m ((c.tc : Thread nD τ).loc main_arg0)
abbrev wdown (c : Dev nD) : Vec Ideal S5632x2048 .bf16 := m ((c.tc : Thread nD τ).loc main_arg1)
abbrev resid (c : Dev nD) : Vec Ideal S8192x2048 .f32 := m ((c.tc : Thread nD τ).loc main_arg2)

theorem block0 (c : Dev nD) (t : Fin cfg0.N) (r : Fin 512) (k : Fin 2816) :
    iblk m c 0 t (ix2 r k) = act m c (ix2 ⟨t.val / 2 * 512 + r.val, by have := r.isLt; have := lt_of_lt_of_eq t.isLt (show cfg0.N = 32 from N_0); omega⟩ ⟨t.val % 2 * 2816 + k.val, by have := k.isLt; omega⟩) := by
  obtain ⟨e0, e1⟩ := index0 t
  have hN := lt_of_lt_of_eq t.isLt (show cfg0.N = _ from N_0)
  show act m c (((cfg0.win 0).blk t).view.emb (ix2 r k)) = _
  congr 1
  funext a
  apply Fin.ext
  match a with
  | ⟨0, _⟩ => show win0_0.index t (0 : Fin 2) * 512 + 1 * r.val = (t.val / 2) * 512 + r.val; rw [e0]; omega
  | ⟨1, _⟩ => show win0_0.index t (1 : Fin 2) * 2816 + 1 * k.val = (t.val % 2) * 2816 + k.val; rw [e1]; omega

theorem block1 (c : Dev nD) (t : Fin cfg0.N) (k : Fin 2816) (q : Fin 2048) :
    iblk m c 1 t (ix2 k q) = wdown m c (ix2 ⟨t.val % 2 * 2816 + k.val, by have := k.isLt; omega⟩ q) := by
  obtain ⟨e0, e1⟩ := index1 t
  have hN := lt_of_lt_of_eq t.isLt (show cfg0.N = _ from N_0)
  show wdown m c (((cfg0.win 1).blk t).view.emb (ix2 k q)) = _
  congr 1
  funext a
  apply Fin.ext
  match a with
  | ⟨0, _⟩ => show win0_1.index t (0 : Fin 2) * 2816 + 1 * k.val = (t.val % 2) * 2816 + k.val; rw [e0]; omega
  | ⟨1, _⟩ => show win0_1.index t (1 : Fin 2) * 2048 + 1 * q.val = q.val; rw [e1]; omega

theorem block2 (c : Dev nD) (t : Fin cfg0.N) (r : Fin 512) (q : Fin 2048) :
    iblk m c 2 t (ix2 r q) = resid m c (ix2 ⟨t.val / 2 * 512 + r.val, by have := r.isLt; have := lt_of_lt_of_eq t.isLt (show cfg0.N = 32 from N_0); omega⟩ q) := by
  obtain ⟨e0, e1⟩ := index2 t
  have hN := lt_of_lt_of_eq t.isLt (show cfg0.N = _ from N_0)
  show resid m c (((cfg0.win 2).blk t).view.emb (ix2 r q)) = _
  congr 1
  funext a
  apply Fin.ext
  match a with
  | ⟨0, _⟩ => show win0_2.index t (0 : Fin 2) * 512 + 1 * r.val = (t.val / 2) * 512 + r.val; rw [e0]; omega
  | ⟨1, _⟩ => show win0_2.index t (1 : Fin 2) * 2048 + 1 * q.val = q.val; rw [e1]; omega

/-! ## The whole result -/

/-- The term of the product at inner index `k` for the result's index `i`. -/
def term (c : Dev nD) (i : S8192x2048.Idx) (k : Fin 5632) : EReal := act m c (ix2 (i 0) k) * wdown m c (ix2 k (i 1))

/-- What the point at step `b` of the run that makes the block of `i` adds. -/
theorem prod_at (c : Dev nD) (i : S8192x2048.Idx) (t : Fin cfg0.N) (b : Fin 2)
    (ht : t.val = 2 * ((i 0).val / 512) + b.val) (h0 : (i 0).val % 512 < 512) (h1 : (i 1).val % 2048 < 2048) :
    prod (iblk m c 0 t) (iblk m c 1 t) (ix2 ⟨(i 0).val % 512, h0⟩ ⟨(i 1).val % 2048, h1⟩)
      = ∑ k : Fin 2816, term m c i ⟨b.val * 2816 + k.val, by have := k.isLt; have := b.isLt; omega⟩ := by
  have hi0 : (i 0).val < 8192 := (i 0).isLt
  have hi1 : (i 1).val < 2048 := (i 1).isLt
  have hb := b.isLt
  unfold prod
  refine Finset.sum_congr rfl fun k _ => ?_
  have hk := k.isLt
  unfold term
  refine congrArg₂ (· * ·) ((block0 m c t _ k).trans (congrArg (act m c) ?_)) ((block1 m c t k _).trans (congrArg (wdown m c) ?_))
  · funext a
    apply Fin.ext
    match a with
    | ⟨0, _⟩ => show t.val / 2 * 512 + (i 0).val % 512 = (i 0).val; omega
    | ⟨1, _⟩ => show t.val % 2 * 2816 + k.val = b.val * 2816 + k.val; omega
  · funext a
    apply Fin.ext
    match a with
    | ⟨0, _⟩ => show t.val % 2 * 2816 + k.val = b.val * 2816 + k.val; omega
    | ⟨1, _⟩ => show (i 1).val % 2048 = (i 1).val; omega

/-- What the kernel's result holds: the whole product and the residual. -/
theorem result_eq (c : Dev nD) (i : S8192x2048.Idx) : G3 m c i = (∑ k : Fin 5632, term m c i k) + resid m c i := by
  have hi0 : (i 0).val < 8192 := (i 0).isLt
  have hi1 : (i 1).val < 2048 := (i 1).isLt
  have hN : cfg0.N = 32 := N_0
  have hr : run3Of i = (i 0).val / 512 := by
    show 1 * ((i 0).val / 512 - 0) + 1 * ((i 1).val / 2048 - 0) = _
    omega
  have hp : pt3Of i = 2 * ((i 0).val / 512) + 1 := by show 2 * run3Of i + 1 = _; rw [hr]
  unfold G3
  rw [dif_pos (by rw [hp, hN]; omega), ← outsAt0_sweep m c (pt3Of i) (by rw [hp, hN]; omega)]
  obtain ⟨n, hn⟩ : ∃ n, n = 2 * ((i 0).val / 512) := ⟨_, rfl⟩
  rw [← hn] at hp
  have hn2 : n % 2 = 0 := by omega
  have hlt : n + 1 < cfg0.N := by rw [hN]; omega
  have e : ∀ (p : ℕ) (h : p < cfg0.N), p = n + 1 → outsAt0 m c p h = outsAt0 m c (n + 1) hlt := fun p h hh => by subst hh; rfl
  rw [e _ _ hp]
  rw [outsAt0_succ, stAt0_B m c ⟨n + 1, hlt⟩ _ (by show ¬(n + 1) % 2 = 0; omega) (by show (n + 1) % 2 = 1; omega) (by show (n + 1) % 2 = 1; omega)]
  dsimp only
  rw [outB]
  rw [outsAt0_A m c ⟨n, by omega⟩ (by show n % 2 = 0; omega) (by show ¬n % 2 = 1; omega) (by show ¬n % 2 = 1; omega)]
  dsimp only
  rw [scrA]
  rw [Fin.sum_univ_tiles 2 2816 rfl, Fin.sum_univ_two]
  rw [← prod_at m c i ⟨n, by omega⟩ 0 (by show n = _; rw [hn]; rfl) (Nat.mod_lt _ (by decide)) (Nat.mod_lt _ (by decide)),
    ← prod_at m c i ⟨n + 1, by omega⟩ 1 (by show n + 1 = _; rw [hn]; rfl) (Nat.mod_lt _ (by decide)) (Nat.mod_lt _ (by decide))]
  have hl : loc3Of i = ix2 ⟨(i 0).val % 512, Nat.mod_lt _ (by decide)⟩ ⟨(i 1).val % 2048, Nat.mod_lt _ (by decide)⟩ := by
    funext a
    apply Fin.ext
    match a with
    | ⟨0, _⟩ => rfl
    | ⟨1, _⟩ => rfl
  rw [hl]
  refine congrArg₂ (· + ·) rfl ((block2 m c ⟨n + 1, hlt⟩ _ _).trans (congrArg (resid m c) ?_))
  funext a
  apply Fin.ext
  match a with
  | ⟨0, _⟩ => show (n + 1) / 2 * 512 + (i 0).val % 512 = (i 0).val; omega
  | ⟨1, _⟩ => show (i 1).val % 2048 = (i 1).val; omega

/-! ## The reference -/

section
open Cert.Reference5Ideal.Read

/-- What the reference's result holds. -/
theorem reference_eq (x0 : Vec Ideal S8192x5632 .bf16) (x1 : Vec Ideal S5632x2048 .bf16) (x2 : Vec Ideal S8192x2048 .f32) (i : S8192x2048.Idx) :
    val_main_v3 (F := Ideal) x0 x1 x2 i = (∑ k : Fin 5632, x0 (ix2 (i 0) k) * x1 (ix2 k (i 1))) + x2 i := by
  rw [val_main_v3_apply, val_main_v2_apply]
  refine (add_comm _ _).trans (congrArg (· + x2 i) (Finset.sum_congr rfl fun k _ => ?_))
  rw [val_main_v0_apply, val_main_v1_apply]
  refine congrArg₂ (· * ·) (congrArg x0 ?_) (congrArg x1 ?_)
  · funext a
    apply Fin.ext
    match a with
    | ⟨0, _⟩ => rfl
    | ⟨1, _⟩ => rfl
  · funext a
    apply Fin.ext
    match a with
    | ⟨0, _⟩ => rfl
    | ⟨1, _⟩ => rfl

end

/-- The kernel and its reference end with equal results. -/
theorem equal : Cert.algebraic_Kernel5Ideal_Reference5Ideal := by
  pair_intro
  · run_from Cert.Kernel5Ideal.Value.run m g
  · run_from Cert.Reference5Ideal.Value.run m' g'
    exact (Cert.Reference5Ideal.Read.val_main_v3_eq _ _ _).trans (funext fun i => (reference_eq _ _ _ i).trans (result_eq m c i).symm)

end Cert.Kernel5Ideal.Down

end
-- ==== Proof.GateHost.lean ====
module

public import proofs.«01_k».proof.Proof.Gen.KernelIdeal.Frame
public import proofs.«01_k».proof.Proof.Gen.ReferenceIdeal.Read
public import Idealize.ShloMosaic.Lib.Pipeline.Value

@[expose] public section

set_option maxRecDepth 16384

noncomputable section

namespace Cert.KernelIdeal.Gate

open Idealize.ShloMosaic Idealize.ShloMosaic.TcCoe Cert.KernelIdeal.Gen
open Cert.ReferenceIdeal.Read

variable (m : (ℓ : Loc nD τ sig) → Buf (Elt Ideal) ℓ)

/-! ## What the host leaves for the launch -/

abbrev aU (c : Dev nD) : Vec Ideal S8192x11264 .f32 := m ((c.tc : Thread nD τ).loc main_arg0)
abbrev aW (c : Dev nD) : Vec Ideal S3x11264 .f32 := m ((c.tc : Thread nD τ).loc main_arg1)
abbrev aB (c : Dev nD) : Vec Ideal S1x11264 .f32 := m ((c.tc : Thread nD τ).loc main_arg2)
abbrev aD (c : Dev nD) : Vec Ideal S5632x2048 .f32 := m ((c.tc : Thread nD τ).loc main_arg3)
abbrev aY (c : Dev nD) : Vec Ideal S8192x2048 .f32 := m ((c.tc : Thread nD τ).loc main_arg4)

/-- A slope of ones. -/
abbrev ones : Vec Ideal S8192x5632 .f32 := broadcastInDim S8192x5632 ![] bcast_S_S8192x5632 (constant (F := Ideal) S_ .f32 0x3F800000#32)

/-- The slope of the gated product in its gate. -/
def slopeG (u : Vec Ideal S8192x11264 .f32) (w : Vec Ideal S3x11264 .f32) (b : Vec Ideal S1x11264 .f32) : Vec Ideal S8192x5632 .f32 :=
  addf (mulf (mulf ones (val_main_v30 u w b)) (val_main_v31_2 u w b))
    (mulf (mulf (val_main_v29 u w b) (mulf ones (val_main_v30 u w b))) (val_main_v31_1 u w b))

/-- The slope of the gated product in its value. -/
def slopeV (u : Vec Ideal S8192x11264 .f32) (w : Vec Ideal S3x11264 .f32) (b : Vec Ideal S1x11264 .f32) : Vec Ideal S8192x5632 .f32 :=
  mulf (val_main_v31_0 u w b) ones

/-- Two arrays, one after the other. -/
abbrev pairOf (x y : Vec Ideal S8192x5632 .f32) : Vec Ideal S2x8192x5632 .bf16 :=
  truncf (F := Ideal) .bf16 (concatenate S2x8192x5632 0 [⟨S1x8192x5632, broadcastInDim S1x8192x5632 ![1, 2] bcast_S8192x5632_S1x8192x5632_1_2 x⟩,
    ⟨S1x8192x5632, broadcastInDim S1x8192x5632 ![1, 2] bcast_S8192x5632_S1x8192x5632_1_2 y⟩] concatenates_S1x8192x5632_S1x8192x5632_S2x8192x5632_d0) bitsLt_bf16_f32

/-- The arrays of the device before the host's operations, and after each of its stretches. -/
def w0 (c : Dev nD) : Valuation τ sig (Elt Ideal) := fun b => m (c, b)
def w1 (c : Dev nD) : Valuation τ sig (Elt Ideal) := StableHlo.after hostOps0 (w0 m c)
def w2 (c : Dev nD) : Valuation τ sig (Elt Ideal) := StableHlo.after hostOps0_1 (w1 m c)
def w3 (c : Dev nD) : Valuation τ sig (Elt Ideal) := StableHlo.after hostOps0_2 (w2 m c)
def w4 (c : Dev nD) : Valuation τ sig (Elt Ideal) := StableHlo.after hostOps0_3 (w3 m c)
def w5 (c : Dev nD) : Valuation τ sig (Elt Ideal) := StableHlo.after hostOps0_4 (w4 m c)

theorem V_eq (c : Dev nD) (b : Ref sig .tc) : V m c b = w5 m c (Proc.devRef .tc b) := rfl

theorem w1_v28 (c : Dev nD) : w1 m c (no_index (Proc.devRef .tc main_v28)) = val_main_v29 (aU m c) (aW m c) (aB m c) := by
  unfold w1
  simp only [hostOps0, StableHlo.TRef.binary, StableHlo.TRef.nullary, StableHlo.TRef.unary, StableHlo.TRef.toBuf, StableHlo.TRef.ofBuf, cast_eq]
  after_results_simp
  rfl

theorem w1_v29 (c : Dev nD) : w1 m c (no_index (Proc.devRef .tc main_v29)) = val_main_v30 (aU m c) (aW m c) (aB m c) := by
  unfold w1
  simp only [hostOps0, StableHlo.TRef.binary, StableHlo.TRef.nullary, StableHlo.TRef.unary, StableHlo.TRef.toBuf, StableHlo.TRef.ofBuf, cast_eq]
  after_results_simp
  rfl

theorem w1_v30 (c : Dev nD) : w1 m c (no_index (Proc.devRef .tc main_v30)) = ones := by
  unfold w1
  simp only [hostOps0, StableHlo.TRef.binary, StableHlo.TRef.nullary, StableHlo.TRef.unary, StableHlo.TRef.toBuf, StableHlo.TRef.ofBuf, cast_eq]
  after_results_simp

theorem w1_arg0 (c : Dev nD) : w1 m c (no_index (Proc.devRef .tc main_arg0)) = aU m c := by
  unfold w1
  simp only [hostOps0, StableHlo.TRef.binary, StableHlo.TRef.nullary, StableHlo.TRef.unary, StableHlo.TRef.toBuf, StableHlo.TRef.ofBuf, cast_eq]
  after_results_simp
  rfl

theorem w1_arg3 (c : Dev nD) : w1 m c (no_index (Proc.devRef .tc main_arg3)) = aD m c := by
  unfold w1
  simp only [hostOps0, StableHlo.TRef.binary, StableHlo.TRef.nullary, StableHlo.TRef.unary, StableHlo.TRef.toBuf, StableHlo.TRef.ofBuf, cast_eq]
  after_results_simp
  rfl

theorem w1_arg4 (c : Dev nD) : w1 m c (no_index (Proc.devRef .tc main_arg4)) = aY m c := by
  unfold w1
  simp only [hostOps0, StableHlo.TRef.binary, StableHlo.TRef.nullary, StableHlo.TRef.unary, StableHlo.TRef.toBuf, StableHlo.TRef.ofBuf, cast_eq]
  after_results_simp
  rfl

theorem w2_v28 (c : Dev nD) : w2 m c (no_index (Proc.devRef .tc main_v28)) = val_main_v29 (aU m c) (aW m c) (aB m c) := by
  unfold w2
  simp only [hostOps0_1, StableHlo.TRef.binary, StableHlo.TRef.nullary, StableHlo.TRef.unary, StableHlo.TRef.toBuf, StableHlo.TRef.ofBuf, cast_eq]
  after_results_simp
  simp only [w1_v28, w1_v29, w1_v30, w1_arg0, w1_arg3, w1_arg4] <;> rfl

theorem w2_v29 (c : Dev nD) : w2 m c (no_index (Proc.devRef .tc main_v29)) = val_main_v30 (aU m c) (aW m c) (aB m c) := by
  unfold w2
  simp only [hostOps0_1, StableHlo.TRef.binary, StableHlo.TRef.nullary, StableHlo.TRef.unary, StableHlo.TRef.toBuf, StableHlo.TRef.ofBuf, cast_eq]
  after_results_simp
  simp only [w1_v28, w1_v29, w1_v30, w1_arg0, w1_arg3, w1_arg4] <;> rfl

theorem w2_v30 (c : Dev nD) : w2 m c (no_index (Proc.devRef .tc main_v30)) = ones := by
  unfold w2
  simp only [hostOps0_1, StableHlo.TRef.binary, StableHlo.TRef.nullary, StableHlo.TRef.unary, StableHlo.TRef.toBuf, StableHlo.TRef.ofBuf, cast_eq]
  after_results_simp
  simp only [w1_v28, w1_v29, w1_v30, w1_arg0, w1_arg3, w1_arg4] <;> rfl

theorem w2_v31_0 (c : Dev nD) : w2 m c (no_index (Proc.devRef .tc main_v31_0)) = val_main_v31_0 (aU m c) (aW m c) (aB m c) := by
  unfold w2
  simp only [hostOps0_1, StableHlo.TRef.binary, StableHlo.TRef.nullary, StableHlo.TRef.unary, StableHlo.TRef.toBuf, StableHlo.TRef.ofBuf, cast_eq]
  after_results_simp
  simp only [w1_v28, w1_v29, w1_v30, w1_arg0, w1_arg3, w1_arg4] <;> rfl

theorem w2_v31_1 (c : Dev nD) : w2 m c (no_index (Proc.devRef .tc main_v31_1)) = val_main_v31_1 (aU m c) (aW m c) (aB m c) := by
  unfold w2
  simp only [hostOps0_1, StableHlo.TRef.binary, StableHlo.TRef.nullary, StableHlo.TRef.unary, StableHlo.TRef.toBuf, StableHlo.TRef.ofBuf, cast_eq]
  after_results_simp
  simp only [w1_v28, w1_v29, w1_v30, w1_arg0, w1_arg3, w1_arg4] <;> rfl

theorem w2_v31_2 (c : Dev nD) : w2 m c (no_index (Proc.devRef .tc main_v31_2)) = val_main_v31_2 (aU m c) (aW m c) (aB m c) := by
  unfold w2
  simp only [hostOps0_1, StableHlo.TRef.binary, StableHlo.TRef.nullary, StableHlo.TRef.unary, StableHlo.TRef.toBuf, StableHlo.TRef.ofBuf, cast_eq]
  after_results_simp
  simp only [w1_v28, w1_v29, w1_v30, w1_arg0, w1_arg3, w1_arg4] <;> rfl

theorem w2_arg0 (c : Dev nD) : w2 m c (no_index (Proc.devRef .tc main_arg0)) = aU m c := by
  unfold w2
  simp only [hostOps0_1, StableHlo.TRef.binary, StableHlo.TRef.nullary, StableHlo.TRef.unary, StableHlo.TRef.toBuf, StableHlo.TRef.ofBuf, cast_eq]
  after_results_simp
  simp only [w1_v28, w1_v29, w1_v30, w1_arg0, w1_arg3, w1_arg4] <;> rfl

theorem w2_arg3 (c : Dev nD) : w2 m c (no_index (Proc.devRef .tc main_arg3)) = aD m c := by
  unfold w2
  simp only [hostOps0_1, StableHlo.TRef.binary, StableHlo.TRef.nullary, StableHlo.TRef.unary, StableHlo.TRef.toBuf, StableHlo.TRef.ofBuf, cast_eq]
  after_results_simp
  simp only [w1_v28, w1_v29, w1_v30, w1_arg0, w1_arg3, w1_arg4] <;> rfl

theorem w2_arg4 (c : Dev nD) : w2 m c (no_index (Proc.devRef .tc main_arg4)) = aY m c := by
  unfold w2
  simp only [hostOps0_1, StableHlo.TRef.binary, StableHlo.TRef.nullary, StableHlo.TRef.unary, StableHlo.TRef.toBuf, StableHlo.TRef.ofBuf, cast_eq]
  after_results_simp
  simp only [w1_v28, w1_v29, w1_v30, w1_arg0, w1_arg3, w1_arg4] <;> rfl

theorem w3_v28 (c : Dev nD) : w3 m c (no_index (Proc.devRef .tc main_v28)) = val_main_v29 (aU m c) (aW m c) (aB m c) := by
  unfold w3
  simp only [hostOps0_2, StableHlo.TRef.binary, StableHlo.TRef.nullary, StableHlo.TRef.unary, StableHlo.TRef.toBuf, StableHlo.TRef.ofBuf, cast_eq]
  after_results_simp
  simp only [w2_v28, w2_v29, w2_v30, w2_v31_0, w2_v31_1, w2_v31_2, w2_arg0, w2_arg3, w2_arg4] <;> rfl

theorem w3_v31_1 (c : Dev nD) : w3 m c (no_index (Proc.devRef .tc main_v31_1)) = val_main_v31_1 (aU m c) (aW m c) (aB m c) := by
  unfold w3
  simp only [hostOps0_2, StableHlo.TRef.binary, StableHlo.TRef.nullary, StableHlo.TRef.unary, StableHlo.TRef.toBuf, StableHlo.TRef.ofBuf, cast_eq]
  after_results_simp
  simp only [w2_v28, w2_v29, w2_v30, w2_v31_0, w2_v31_1, w2_v31_2, w2_arg0, w2_arg3, w2_arg4] <;> rfl

theorem w3_v31_2 (c : Dev nD) : w3 m c (no_index (Proc.devRef .tc main_v31_2)) = val_main_v31_2 (aU m c) (aW m c) (aB m c) := by
  unfold w3
  simp only [hostOps0_2, StableHlo.TRef.binary, StableHlo.TRef.nullary, StableHlo.TRef.unary, StableHlo.TRef.toBuf, StableHlo.TRef.ofBuf, cast_eq]
  after_results_simp
  simp only [w2_v28, w2_v29, w2_v30, w2_v31_0, w2_v31_1, w2_v31_2, w2_arg0, w2_arg3, w2_arg4] <;> rfl

theorem w3_v33 (c : Dev nD) : w3 m c (no_index (Proc.devRef .tc main_v33)) = slopeV (aU m c) (aW m c) (aB m c) := by
  unfold w3
  simp only [hostOps0_2, StableHlo.TRef.binary, StableHlo.TRef.nullary, StableHlo.TRef.unary, StableHlo.TRef.toBuf, StableHlo.TRef.ofBuf, cast_eq]
  after_results_simp
  simp only [w2_v28, w2_v29, w2_v30, w2_v31_0, w2_v31_1, w2_v31_2, w2_arg0, w2_arg3, w2_arg4] <;> rfl

theorem w3_v34 (c : Dev nD) : w3 m c (no_index (Proc.devRef .tc main_v34)) = mulf ones (val_main_v30 (aU m c) (aW m c) (aB m c)) := by
  unfold w3
  simp only [hostOps0_2, StableHlo.TRef.binary, StableHlo.TRef.nullary, StableHlo.TRef.unary, StableHlo.TRef.toBuf, StableHlo.TRef.ofBuf, cast_eq]
  after_results_simp
  simp only [w2_v28, w2_v29, w2_v30, w2_v31_0, w2_v31_1, w2_v31_2, w2_arg0, w2_arg3, w2_arg4] <;> rfl

theorem w3_arg0 (c : Dev nD) : w3 m c (no_index (Proc.devRef .tc main_arg0)) = aU m c := by
  unfold w3
  simp only [hostOps0_2, StableHlo.TRef.binary, StableHlo.TRef.nullary, StableHlo.TRef.unary, StableHlo.TRef.toBuf, StableHlo.TRef.ofBuf, cast_eq]
  after_results_simp
  simp only [w2_v28, w2_v29, w2_v30, w2_v31_0, w2_v31_1, w2_v31_2, w2_arg0, w2_arg3, w2_arg4] <;> rfl

theorem w3_arg3 (c : Dev nD) : w3 m c (no_index (Proc.devRef .tc main_arg3)) = aD m c := by
  unfold w3
  simp only [hostOps0_2, StableHlo.TRef.binary, StableHlo.TRef.nullary, StableHlo.TRef.unary, StableHlo.TRef.toBuf, StableHlo.TRef.ofBuf, cast_eq]
  after_results_simp
  simp only [w2_v28, w2_v29, w2_v30, w2_v31_0, w2_v31_1, w2_v31_2, w2_arg0, w2_arg3, w2_arg4] <;> rfl

theorem w3_arg4 (c : Dev nD) : w3 m c (no_index (Proc.devRef .tc main_arg4)) = aY m c := by
  unfold w3
  simp only [hostOps0_2, StableHlo.TRef.binary, StableHlo.TRef.nullary, StableHlo.TRef.unary, StableHlo.TRef.toBuf, StableHlo.TRef.ofBuf, cast_eq]
  after_results_simp
  simp only [w2_v28, w2_v29, w2_v30, w2_v31_0, w2_v31_1, w2_v31_2, w2_arg0, w2_arg3, w2_arg4] <;> rfl

theorem w4_v33 (c : Dev nD) : w4 m c (no_index (Proc.devRef .tc main_v33)) = slopeV (aU m c) (aW m c) (aB m c) := by
  unfold w4
  simp only [hostOps0_3, StableHlo.TRef.binary, StableHlo.TRef.nullary, StableHlo.TRef.unary, StableHlo.TRef.toBuf, StableHlo.TRef.ofBuf, cast_eq]
  after_results_simp
  simp only [w3_v28, w3_v31_1, w3_v31_2, w3_v33, w3_v34, w3_arg0, w3_arg3, w3_arg4] <;> rfl

theorem w4_v35 (c : Dev nD) : w4 m c (no_index (Proc.devRef .tc main_v35)) = slopeG (aU m c) (aW m c) (aB m c) := by
  unfold w4
  simp only [hostOps0_3, StableHlo.TRef.binary, StableHlo.TRef.nullary, StableHlo.TRef.unary, StableHlo.TRef.toBuf, StableHlo.TRef.ofBuf, cast_eq]
  after_results_simp
  simp only [w3_v28, w3_v31_1, w3_v31_2, w3_v33, w3_v34, w3_arg0, w3_arg3, w3_arg4] <;> rfl

theorem w4_arg0 (c : Dev nD) : w4 m c (no_index (Proc.devRef .tc main_arg0)) = aU m c := by
  unfold w4
  simp only [hostOps0_3, StableHlo.TRef.binary, StableHlo.TRef.nullary, StableHlo.TRef.unary, StableHlo.TRef.toBuf, StableHlo.TRef.ofBuf, cast_eq]
  after_results_simp
  simp only [w3_v28, w3_v31_1, w3_v31_2, w3_v33, w3_v34, w3_arg0, w3_arg3, w3_arg4] <;> rfl

theorem w4_arg3 (c : Dev nD) : w4 m c (no_index (Proc.devRef .tc main_arg3)) = aD m c := by
  unfold w4
  simp only [hostOps0_3, StableHlo.TRef.binary, StableHlo.TRef.nullary, StableHlo.TRef.unary, StableHlo.TRef.toBuf, StableHlo.TRef.ofBuf, cast_eq]
  after_results_simp
  simp only [w3_v28, w3_v31_1, w3_v31_2, w3_v33, w3_v34, w3_arg0, w3_arg3, w3_arg4] <;> rfl

theorem w4_arg4 (c : Dev nD) : w4 m c (no_index (Proc.devRef .tc main_arg4)) = aY m c := by
  unfold w4
  simp only [hostOps0_3, StableHlo.TRef.binary, StableHlo.TRef.nullary, StableHlo.TRef.unary, StableHlo.TRef.toBuf, StableHlo.TRef.ofBuf, cast_eq]
  after_results_simp
  simp only [w3_v28, w3_v31_1, w3_v31_2, w3_v33, w3_v34, w3_arg0, w3_arg3, w3_arg4] <;> rfl

theorem w5_v44 (c : Dev nD) : w5 m c (no_index (Proc.devRef .tc main_v44)) = truncf (F := Ideal) .bf16 (aY m c) bitsLt_bf16_f32 := by
  unfold w5
  simp only [hostOps0_4, StableHlo.TRef.binary, StableHlo.TRef.nullary, StableHlo.TRef.unary, StableHlo.TRef.toBuf, StableHlo.TRef.ofBuf, cast_eq]
  after_results_simp
  simp only [w4_v33, w4_v35, w4_arg0, w4_arg3, w4_arg4] <;> rfl

theorem w5_v45 (c : Dev nD) : w5 m c (no_index (Proc.devRef .tc main_v45)) = truncf (F := Ideal) .bf16 (aD m c) bitsLt_bf16_f32 := by
  unfold w5
  simp only [hostOps0_4, StableHlo.TRef.binary, StableHlo.TRef.nullary, StableHlo.TRef.unary, StableHlo.TRef.toBuf, StableHlo.TRef.ofBuf, cast_eq]
  after_results_simp
  simp only [w4_v33, w4_v35, w4_arg0, w4_arg3, w4_arg4] <;> rfl

theorem w5_v46 (c : Dev nD) : w5 m c (no_index (Proc.devRef .tc main_v46)) = pairOf (extractStridedSlice S8192x5632 ![0, 0] (aU m c) slices_S8192x11264_S8192x5632_0_0)
    (extractStridedSlice S8192x5632 ![0, 5632] (aU m c) slices_S8192x11264_S8192x5632_0_5632) := by
  unfold w5
  simp only [hostOps0_4, StableHlo.TRef.binary, StableHlo.TRef.nullary, StableHlo.TRef.unary, StableHlo.TRef.toBuf, StableHlo.TRef.ofBuf, cast_eq]
  after_results
  have e : w4 m c (Proc.devRef .tc main_arg0) = aU m c := w4_arg0 m c
  exact congrArg₂ pairOf (congrArg (fun v => extractStridedSlice S8192x5632 ![0, 0] v slices_S8192x11264_S8192x5632_0_0) e)
    (congrArg (fun v => extractStridedSlice S8192x5632 ![0, 5632] v slices_S8192x11264_S8192x5632_0_5632) e)

theorem w5_v47 (c : Dev nD) : w5 m c (no_index (Proc.devRef .tc main_v47)) = pairOf (slopeG (aU m c) (aW m c) (aB m c)) (slopeV (aU m c) (aW m c) (aB m c)) := by
  unfold w5
  simp only [hostOps0_4, StableHlo.TRef.binary, StableHlo.TRef.nullary, StableHlo.TRef.unary, StableHlo.TRef.toBuf, StableHlo.TRef.ofBuf, cast_eq]
  after_results
  exact congrArg₂ pairOf (w4_v35 m c) (w4_v33 m c)

theorem host_dy (c : Dev nD) : V m c main_v44 = truncf (F := Ideal) .bf16 (aY m c) bitsLt_bf16_f32 := w5_v44 m c
theorem host_wd (c : Dev nD) : V m c main_v45 = truncf (F := Ideal) .bf16 (aD m c) bitsLt_bf16_f32 := w5_v45 m c
theorem host_u3 (c : Dev nD) : V m c main_v46 = pairOf (extractStridedSlice S8192x5632 ![0, 0] (aU m c) slices_S8192x11264_S8192x5632_0_0)
    (extractStridedSlice S8192x5632 ![0, 5632] (aU m c) slices_S8192x11264_S8192x5632_0_5632) := w5_v46 m c
theorem host_ab3 (c : Dev nD) : V m c main_v47 = pairOf (slopeG (aU m c) (aW m c) (aB m c)) (slopeV (aU m c) (aW m c) (aB m c)) := w5_v47 m c

end Cert.KernelIdeal.Gate

end
-- ==== Proof.GateFinite.lean ====
module

public import proofs.«01_k».proof.Proof.GateHost
public import proofs.«01_k».proof.Pre_finite
public import Idealize.ShloMosaic.Lib.IdealHost
public import Idealize.ShloMosaic.Lib.ReduceAll
public import Idealize.ShloMosaic.Lib.Pointwise

@[expose] public section

set_option maxRecDepth 16384

noncomputable section

namespace Cert.KernelIdeal.Gate

open Idealize.ShloMosaic Idealize.ShloMosaic.TcCoe Cert.KernelIdeal.Gen
open Cert.ReferenceIdeal.Read

/-! ## Extended reals that are real numbers -/

/-- The extended real is a real number. -/
def Fin' (x : EReal) : Prop := ∃ r : ℝ, x = (r : EReal)

theorem fin_add {x y : EReal} (hx : Fin' x) (hy : Fin' y) : Fin' (x + y) := by
  obtain ⟨a, rfl⟩ := hx; obtain ⟨b, rfl⟩ := hy; exact ⟨a + b, (EReal.coe_add a b).symm⟩

theorem fin_mul {x y : EReal} (hx : Fin' x) (hy : Fin' y) : Fin' (x * y) := by
  obtain ⟨a, rfl⟩ := hx; obtain ⟨b, rfl⟩ := hy; exact ⟨a * b, (EReal.coe_mul a b).symm⟩

theorem fin_sub {x y : EReal} (hx : Fin' x) (hy : Fin' y) : Fin' (x - y) := by
  obtain ⟨a, rfl⟩ := hx; obtain ⟨b, rfl⟩ := hy; exact ⟨a - b, (EReal.coe_sub a b).symm⟩

theorem fin_zero : Fin' 0 := ⟨0, EReal.coe_zero.symm⟩
theorem fin_one : Fin' 1 := ⟨1, EReal.coe_one.symm⟩

theorem fin_sum {n : ℕ} (f : Fin n → EReal) (h : ∀ k, Fin' (f k)) : Fin' (∑ k, f k) := by
  choose g hg using h
  exact ⟨∑ k, g k, by rw [Finset.sum_congr rfl fun k _ => hg k]; exact (map_sum (⟨⟨fun r : ℝ => (r : EReal), EReal.coe_zero⟩, EReal.coe_add⟩ : ℝ →+ EReal) g Finset.univ).symm⟩

/-- The logistic function of a real number is a real number. -/
theorem fin_sig {x : EReal} (hx : Fin' x) : Fin' (Ideal.div 1 (1 + Ideal.exp (-x))) := by
  obtain ⟨a, rfl⟩ := hx
  have e : Ideal.exp (-(a : EReal)) = (Real.exp (-a) : EReal) := by rw [← EReal.coe_neg]; rfl
  have p : (1 : ℝ) + Real.exp (-a) ≠ 0 := by positivity
  have s : (1 : EReal) + (Real.exp (-a) : EReal) = ((1 + Real.exp (-a) : ℝ) : EReal) := by rw [EReal.coe_add, EReal.coe_one]
  refine ⟨(1 + Real.exp (-a))⁻¹, ?_⟩
  rw [e, s]
  unfold Ideal.div
  rw [if_neg (fun h => p (EReal.coe_eq_zero.1 h)), one_mul, ← EReal.coe_inv]

/-- A number whose difference with itself is zero is a real number. -/
theorem fin_of_sub {x : EReal} (h : x - x = 0) : Fin' x := by
  induction x using EReal.rec with
  | bot => exact absurd h (by simp)
  | coe r => exact ⟨r, rfl⟩
  | top => exact absurd h (by simp)

/-! ## The precondition read back -/

theorem one_index : Subsingleton (Cert.Pre_finite.S_).Idx := ⟨fun a b => funext fun k => k.elim0⟩

theorem fin_of_all {s : Shape} {axes : List (Fin s.rank)} (x : FVec Ideal s .f32) (hb : Cert.Pre_finite.S_.BroadcastsInDim s (![] : Fin 0 → Fin s.rank))
    (hr : s.ReducesTo axes Cert.Pre_finite.S_) (hs : 0 < Cert.Pre_finite.S_.numel) (j : Cert.Pre_finite.S_.Idx)
    (e : Host.reduce IntOp.andi (cmpf .oeq (subf x x) (broadcastInDim s ![] hb (constant (F := Ideal) Cert.Pre_finite.S_ .f32 0x00000000#32)))
      (constantI Cert.Pre_finite.S_ 1 1#1) hr hs j = 1#1) (i : s.Idx) : Fin' (x i) := by
  haveI := one_index
  have e1 := Host.reduce_andi_all _ _ hr hs j e i
  have e2 : BitVec.ofBool (decide (x i - x i = Ideal.ofBits .f32 0x00000000#32)) = 1#1 := e1
  rw [Ideal.ofBits_zero_f32] at e2
  refine fin_of_sub (Classical.byContradiction fun h => ?_)
  rw [decide_eq_false h] at e2
  exact absurd e2 (by decide)

theorem fin_args [Cert.Pre_finite.Facts] (u : Vec Ideal S8192x11264 .f32) (w : Vec Ideal S3x11264 .f32) (b : Vec Ideal S1x11264 .f32)
    (d : Vec Ideal S5632x2048 .f32) (y : Vec Ideal S8192x2048 .f32) (h : Cert.Pre_finite.fn (F := Ideal) u w b d y = fun _ => 1#1) :
    (∀ i, Fin' (u i)) ∧ (∀ i, Fin' (w i)) ∧ (∀ i, Fin' (b i)) ∧ (∀ i, Fin' (d i)) ∧ (∀ i, Fin' (y i)) := by
  have h0 := congrFun h (fun a => a.elim0)
  unfold Cert.Pre_finite.fn Cert.Pre_finite.fn_part1 at h0
  obtain ⟨h1, e4⟩ := IntOp.andi_eq_one.1 h0
  obtain ⟨h2, e3⟩ := IntOp.andi_eq_one.1 h1
  obtain ⟨h3, e2⟩ := IntOp.andi_eq_one.1 h2
  obtain ⟨e0, e1⟩ := IntOp.andi_eq_one.1 h3
  exact ⟨fun i => fin_of_all u _ _ _ _ e0 i, fun i => fin_of_all w _ _ _ _ e1 i, fun i => fin_of_all b _ _ _ _ e2 i, fun i => fin_of_all d _ _ _ _ e3 i, fun i => fin_of_all y _ _ _ _ e4 i⟩

end Cert.KernelIdeal.Gate

end
-- ==== Proof.GateGlob.lean ====
module

public import proofs.«01_k».proof.Proof.GateRun

@[expose] public section

set_option maxRecDepth 16384

noncomputable section

namespace Cert.KernelIdeal.Gate

open Idealize.ShloMosaic Idealize.ShloMosaic.TcCoe Cert.KernelIdeal.Gen
open Idealize.ShloMosaic.Pipeline (Dat Cfg Window BodyObligation)

/-! ## The shifts, over a column read by its row number -/

theorem cmp7 : ∀ a : Fin 8, IntOp.cmpi .sge (BitVec.ofNat 32 a.val) 7#32 = if 7 ≤ a.val then 1#1 else 0#1 := by decide
theorem cmp6 : ∀ a : Fin 8, IntOp.cmpi .sge (BitVec.ofNat 32 a.val) 6#32 = if 6 ≤ a.val then 1#1 else 0#1 := by decide

theorem up1_of (f : Fin 512 → EReal) (e : Fin 8 → EReal) (g : ℕ → EReal) (b : ℕ) (hf : ∀ r : Fin 512, f r = g (b + r.val))
    (he : ∀ a : Fin 8, e a = g (b + 512 + a.val)) (r : Fin 512) : up1 f e r = g (b + r.val + 1) := by
  have hr := r.isLt
  unfold up1
  split
  · rw [hf]; congr 1; show b + (r.val + 512 - 511) % 512 = _; omega
  · rw [cmp7 ⟨r.val - 504, by omega⟩]
    split
    · rename_i h; replace h : 7 ≤ r.val - 504 := h
      show e _ = _
      rw [he]; congr 1; show b + 512 + (r.val - 504 + 8 - 7) % 8 = _; omega
    · rename_i h; replace h : ¬7 ≤ r.val - 504 := h
      show f _ = _
      rw [hf]; congr 1; show b + (504 + (r.val - 504) + 512 - 511) % 512 = _; omega

theorem up2_of (f : Fin 512 → EReal) (e : Fin 8 → EReal) (g : ℕ → EReal) (b : ℕ) (hf : ∀ r : Fin 512, f r = g (b + r.val))
    (he : ∀ a : Fin 8, e a = g (b + 512 + a.val)) (r : Fin 512) : up2 f e r = g (b + r.val + 2) := by
  have hr := r.isLt
  unfold up2
  split
  · rw [hf]; congr 1; show b + (r.val + 512 - 510) % 512 = _; omega
  · rw [cmp6 ⟨r.val - 504, by omega⟩]
    split
    · rename_i h; replace h : 6 ≤ r.val - 504 := h
      show e _ = _
      rw [he]; congr 1; show b + 512 + (r.val - 504 + 8 - 6) % 8 = _; omega
    · rename_i h; replace h : ¬6 ≤ r.val - 504 := h
      show f _ = _
      rw [hf]; congr 1; show b + (504 + (r.val - 504) + 512 - 510) % 512 = _; omega

/-! ## The two results over whole arrays -/

/-- Column `C` of half `s`. -/
def hcol (s : Fin 2) (C : Fin 5632) : Fin 11264 := ⟨s.val * 5632 + C.val, by have := s.isLt; have := C.isLt; omega⟩

section
variable (Y : Vec Ideal S8192x2048 .bf16) (W : Vec Ideal S5632x2048 .bf16) (U AB : Vec Ideal S2x8192x5632 .bf16) (K : Vec Ideal S3x11264 .f32)

/-- The gradient of the convolved halves, by row number; zero past the end. -/
def gD (s : Fin 2) (C : Fin 5632) (R : ℕ) : EReal :=
  if h : R < 8192 then (∑ k : Fin 2048, Y (ix2 ⟨R, h⟩ k) * W (ix2 C k)) * AB (ix3 s ⟨R, h⟩ C) else 0

/-- The gradient before the convolution. -/
def gDU (y : S2x8192x5632.Idx) : EReal :=
  K (ix2 2 (hcol (y 0) (y 2))) * gD Y W AB (y 0) (y 2) (y 1).val + K (ix2 1 (hcol (y 0) (y 2))) * gD Y W AB (y 0) (y 2) ((y 1).val + 1)
    + K (ix2 0 (hcol (y 0) (y 2))) * gD Y W AB (y 0) (y 2) ((y 1).val + 2)

/-- What a row adds to row `a` of the tap and bias gradients. -/
def gT (s : Fin 2) (C : Fin 5632) (a : ℕ) (R : Fin 8192) : EReal :=
  if a = 0 then gD Y W AB s C (R.val + 2) * U (ix3 s R C)
  else if a = 1 then gD Y W AB s C (R.val + 1) * U (ix3 s R C)
  else if a = 2 then gD Y W AB s C R.val * U (ix3 s R C)
  else gD Y W AB s C R.val

/-- The tap and bias gradients. -/
def gDC (y : S2x8x5632.Idx) : EReal := if (y 1).val < 4 then ∑ R : Fin 8192, gT Y W U AB (y 0) (y 2) (y 1).val R else 0

end

/-! ## The blocks a point reads -/

variable (m : (ℓ : Loc nD τ sig) → Buf (Elt Ideal) ℓ) (ρ : Dev nD → PrngReg)

def vY (c : Dev nD) : Vec Ideal S8192x2048 .bf16 := V m c main_v44
def vW (c : Dev nD) : Vec Ideal S5632x2048 .bf16 := V m c main_v45
def vU (c : Dev nD) : Vec Ideal S2x8192x5632 .bf16 := V m c main_v46
def vA (c : Dev nD) : Vec Ideal S2x8192x5632 .bf16 := V m c main_v47
def vK (c : Dev nD) : Vec Ideal S3x11264 .f32 := V m c main_arg1

theorem index0 : ∀ t : Fin cfg0.N, win0_0.index t (0 : Fin 2) = 15 - t.val % 16 ∧ win0_0.index t (1 : Fin 2) = 0 :=
  (by decide +kernel : ∀ t : Fin grid0.N, _)
theorem index1 : ∀ t : Fin cfg0.N, win0_1.index t (0 : Fin 2) = t.val / 16 ∧ win0_1.index t (1 : Fin 2) = 0 :=
  (by decide +kernel : ∀ t : Fin grid0.N, _)
theorem index2 : ∀ t : Fin cfg0.N, win0_2.index t (0 : Fin 3) = 0 ∧ win0_2.index t (1 : Fin 3) = 15 - t.val % 16 ∧ win0_2.index t (2 : Fin 3) = t.val / 16 :=
  (by decide +kernel : ∀ t : Fin grid0.N, _)
theorem index3 : ∀ t : Fin cfg0.N, win0_3.index t (0 : Fin 3) = 0 ∧ win0_3.index t (1 : Fin 3) = 15 - t.val % 16 ∧ win0_3.index t (2 : Fin 3) = t.val / 16 :=
  (by decide +kernel : ∀ t : Fin grid0.N, _)
theorem index4 : ∀ t : Fin cfg0.N, win0_4.index t (0 : Fin 2) = 0 ∧ win0_4.index t (1 : Fin 2) = t.val / 16 :=
  (by decide +kernel : ∀ t : Fin grid0.N, _)
theorem index5 : ∀ t : Fin cfg0.N, win0_5.index t (0 : Fin 2) = 0 ∧ win0_5.index t (1 : Fin 2) = t.val / 16 + 4 :=
  (by decide +kernel : ∀ t : Fin grid0.N, _)
theorem index6 : ∀ t : Fin cfg0.N, win0_6.index t (0 : Fin 3) = 0 ∧ win0_6.index t (1 : Fin 3) = 15 - t.val % 16 ∧ win0_6.index t (2 : Fin 3) = t.val / 16 :=
  (by decide +kernel : ∀ t : Fin grid0.N, _)
theorem index7 : ∀ t : Fin cfg0.N, win0_7.index t (0 : Fin 3) = 0 ∧ win0_7.index t (1 : Fin 3) = 0 ∧ win0_7.index t (2 : Fin 3) = t.val / 16 :=
  (by decide +kernel : ∀ t : Fin grid0.N, _)

theorem t_lt (t : Fin cfg0.N) : t.val < 64 := lt_of_lt_of_eq t.isLt (show cfg0.N = 64 from N_0)

/-- The first row of a point's tile, and its rows and columns. -/
def base (t : Fin cfg0.N) : ℕ := (15 - t.val % 16) * 512
def row (t : Fin cfg0.N) (r : Fin 512) : Fin 8192 := ⟨base t + r.val, by have := r.isLt; unfold base; omega⟩
def col (t : Fin cfg0.N) (q : Fin 1408) : Fin 5632 := ⟨t.val / 16 * 1408 + q.val, by have := q.isLt; have := t_lt t; omega⟩

theorem block0 (c : Dev nD) (t : Fin cfg0.N) (r : Fin 512) (k : Fin 2048) : iblk m c 0 t (ix2 r k) = vY m c (ix2 (row t r) k) := by
  obtain ⟨e0, e1⟩ := index0 t
  show vY m c (((cfg0.win 0).blk t).view.emb (ix2 r k)) = _
  congr 1; funext a; apply Fin.ext
  match a with
  | ⟨0, _⟩ => show win0_0.index t (0 : Fin 2) * 512 + 1 * r.val = (15 - t.val % 16) * 512 + r.val; rw [e0]; omega
  | ⟨1, _⟩ => show win0_0.index t (1 : Fin 2) * 2048 + 1 * k.val = k.val; rw [e1]; omega

theorem block1 (c : Dev nD) (t : Fin cfg0.N) (q : Fin 1408) (k : Fin 2048) : iblk m c 1 t (ix2 q k) = vW m c (ix2 (col t q) k) := by
  obtain ⟨e0, e1⟩ := index1 t
  show vW m c (((cfg0.win 1).blk t).view.emb (ix2 q k)) = _
  congr 1; funext a; apply Fin.ext
  match a with
  | ⟨0, _⟩ => show win0_1.index t (0 : Fin 2) * 1408 + 1 * q.val = t.val / 16 * 1408 + q.val; rw [e0]; omega
  | ⟨1, _⟩ => show win0_1.index t (1 : Fin 2) * 2048 + 1 * k.val = k.val; rw [e1]; omega

theorem block2 (c : Dev nD) (t : Fin cfg0.N) (s : Fin 2) (r : Fin 512) (q : Fin 1408) :
    iblk m c 2 t (ix3 s r q) = vU m c (ix3 s (row t r) (col t q)) := by
  obtain ⟨e0, e1, e2⟩ := index2 t
  show vU m c (((cfg0.win 2).blk t).view.emb (ix3 s r q)) = _
  congr 1; funext a; apply Fin.ext
  match a with
  | ⟨0, _⟩ => show win0_2.index t (0 : Fin 3) * 2 + 1 * s.val = s.val; rw [e0]; omega
  | ⟨1, _⟩ => show win0_2.index t (1 : Fin 3) * 512 + 1 * r.val = (15 - t.val % 16) * 512 + r.val; rw [e1]; omega
  | ⟨2, _⟩ => show win0_2.index t (2 : Fin 3) * 1408 + 1 * q.val = t.val / 16 * 1408 + q.val; rw [e2]; omega

theorem block3 (c : Dev nD) (t : Fin cfg0.N) (s : Fin 2) (r : Fin 512) (q : Fin 1408) :
    iblk m c 3 t (ix3 s r q) = vA m c (ix3 s (row t r) (col t q)) := by
  obtain ⟨e0, e1, e2⟩ := index3 t
  show vA m c (((cfg0.win 3).blk t).view.emb (ix3 s r q)) = _
  congr 1; funext a; apply Fin.ext
  match a with
  | ⟨0, _⟩ => show win0_3.index t (0 : Fin 3) * 2 + 1 * s.val = s.val; rw [e0]; omega
  | ⟨1, _⟩ => show win0_3.index t (1 : Fin 3) * 512 + 1 * r.val = (15 - t.val % 16) * 512 + r.val; rw [e1]; omega
  | ⟨2, _⟩ => show win0_3.index t (2 : Fin 3) * 1408 + 1 * q.val = t.val / 16 * 1408 + q.val; rw [e2]; omega

theorem block4 (c : Dev nD) (t : Fin cfg0.N) (a : Fin 3) (q : Fin 1408) : iblk m c 4 t (ix2 a q) = vK m c (ix2 a (hcol 0 (col t q))) := by
  obtain ⟨e0, e1⟩ := index4 t
  show vK m c (((cfg0.win 4).blk t).view.emb (ix2 a q)) = _
  congr 1; funext x; apply Fin.ext
  match x with
  | ⟨0, _⟩ => show win0_4.index t (0 : Fin 2) * 3 + 1 * a.val = a.val; rw [e0]; omega
  | ⟨1, _⟩ => show win0_4.index t (1 : Fin 2) * 1408 + 1 * q.val = 0 * 5632 + (t.val / 16 * 1408 + q.val); rw [e1]; omega

theorem block5 (c : Dev nD) (t : Fin cfg0.N) (a : Fin 3) (q : Fin 1408) : iblk m c 5 t (ix2 a q) = vK m c (ix2 a (hcol 1 (col t q))) := by
  obtain ⟨e0, e1⟩ := index5 t
  show vK m c (((cfg0.win 5).blk t).view.emb (ix2 a q)) = _
  congr 1; funext x; apply Fin.ext
  match x with
  | ⟨0, _⟩ => show win0_5.index t (0 : Fin 2) * 3 + 1 * a.val = a.val; rw [e0]; omega
  | ⟨1, _⟩ => show win0_5.index t (1 : Fin 2) * 1408 + 1 * q.val = 1 * 5632 + (t.val / 16 * 1408 + q.val); rw [e1]; omega

/-! ## A point's values over the whole arrays -/

abbrev dD (c : Dev nD) : Fin 2 → Fin 5632 → ℕ → EReal := gD (vY m c) (vW m c) (vA m c)

theorem tD_eq (c : Dev nD) (t : Fin cfg0.N) (s : Fin 2) (r : Fin 512) (q : Fin 1408) :
    tD (iblk m c 0 t) (iblk m c 1 t) (iblk m c 3 t) s r q = dD m c s (col t q) (base t + r.val) := by
  unfold tD dD gD
  rw [dif_pos (show base t + r.val < 8192 from (row t r).isLt), block3]
  exact congrArg₂ (· * ·) (Finset.sum_congr rfl fun k _ => congrArg₂ (· * ·) (block0 m c t r k) (block1 m c t q k)) rfl

theorem edge_eq (c : Dev nD) (t : Fin cfg0.N) (s : Fin 2) (a : Fin 8) (q : Fin 1408) :
    eI m c t s (ix2 a q) = dD m c s (col t q) (base t + 512 + a.val) := by
  have ha := a.isLt
  have hN := t_lt t
  by_cases h : t.val % 16 = 0
  · rw [eI_first m c t s h]
    unfold dD gD
    rw [dif_neg (by unfold base; omega)]
    rfl
  · rw [eI_next m c t s h]
    show tD (iblk m c 0 (prev t)) (iblk m c 1 (prev t)) (iblk m c 3 (prev t)) s ⟨a.val, _⟩ q = _
    rw [tD_eq]
    have e1 : col (prev t) q = col t q := Fin.ext (by show (t.val - 1) / 16 * 1408 + q.val = t.val / 16 * 1408 + q.val; omega)
    have e2 : base (prev t) + a.val = base t + 512 + a.val := by show (15 - (t.val - 1) % 16) * 512 + a.val = (15 - t.val % 16) * 512 + 512 + a.val; omega
    rw [e1]
    exact congrArg _ e2

theorem up1_eq (c : Dev nD) (t : Fin cfg0.N) (s : Fin 2) (r : Fin 512) (q : Fin 1408) :
    up1 (fun r => tD (iblk m c 0 t) (iblk m c 1 t) (iblk m c 3 t) s r q) (fun r => eI m c t s (ix2 r q)) r
      = dD m c s (col t q) (base t + r.val + 1) :=
  up1_of _ _ (dD m c s (col t q)) (base t) (fun r => tD_eq m c t s r q) (fun a => edge_eq m c t s a q) r

theorem up2_eq (c : Dev nD) (t : Fin cfg0.N) (s : Fin 2) (r : Fin 512) (q : Fin 1408) :
    up2 (fun r => tD (iblk m c 0 t) (iblk m c 1 t) (iblk m c 3 t) s r q) (fun r => eI m c t s (ix2 r q)) r
      = dD m c s (col t q) (base t + r.val + 2) :=
  up2_of _ _ (dD m c s (col t q)) (base t) (fun r => tD_eq m c t s r q) (fun a => edge_eq m c t s a q) r

/-- The block a point writes is its block of the first result. -/
theorem blkO_eq (c : Dev nD) (t : Fin cfg0.N) (s : Fin 2) (r : Fin 512) (q : Fin 1408) :
    blkO m c t (ix3 s r q) = gDU (vY m c) (vW m c) (vA m c) (vK m c) (ix3 s (row t r) (col t q)) := by
  show (if s.val = 0 then tU _ _ _ _ _ 0 r q else tU _ _ _ _ _ 1 r q) = _
  have key : ∀ (s : Fin 2) (w : Vec Ideal S3x1408 .f32), (∀ a q, w (ix2 a q) = vK m c (ix2 a (hcol s (col t q)))) →
      tU (iblk m c 0 t) (iblk m c 1 t) (iblk m c 3 t) w (eI m c t s) s r q
        = gDU (vY m c) (vW m c) (vA m c) (vK m c) (ix3 s (row t r) (col t q)) := by
    intro s w hw
    unfold tU
    rw [up1_eq, up2_eq, tD_eq, hw, hw, hw]
    rfl
  match s with
  | ⟨0, _⟩ => exact key 0 _ (block4 m c t)
  | ⟨1, _⟩ => exact key 1 _ (block5 m c t)

/-- What a point adds to the sums. -/
theorem tC_eq (c : Dev nD) (t : Fin cfg0.N) (s : Fin 2) (a : ℕ) (q : Fin 1408) :
    tC (iblk m c 0 t) (iblk m c 1 t) (iblk m c 2 t) (iblk m c 3 t) (eI m c t s) s a q
      = ∑ r : Fin 512, gT (vY m c) (vW m c) (vU m c) (vA m c) s (col t q) a (row t r) := by
  unfold tC gT
  split
  · exact Finset.sum_congr rfl fun r _ => by rw [up2_eq, block2]; rfl
  · split
    · exact Finset.sum_congr rfl fun r _ => by rw [up1_eq, block2]; rfl
    · split
      · exact Finset.sum_congr rfl fun r _ => by rw [tD_eq, block2]; rfl
      · exact Finset.sum_congr rfl fun r _ => by rw [tD_eq]; rfl

end Cert.KernelIdeal.Gate

end
-- ==== Proof.GateWhole.lean ====
module

public import proofs.«01_k».proof.Proof.GateGlob

@[expose] public section

set_option maxRecDepth 16384

noncomputable section

namespace Cert.KernelIdeal.Gate

open Idealize.ShloMosaic Idealize.ShloMosaic.TcCoe Cert.KernelIdeal.Gen
open Idealize.ShloMosaic.Pipeline (Dat Cfg Window BodyObligation)
open Idealize.SL.Sem

variable (m : (ℓ : Loc nD τ sig) → Buf (Elt Ideal) ℓ) (ρ : Dev nD → PrngReg)

/-! ## The sums over a column of points -/

/-- What tile `i` from the bottom adds to the sums. -/
def gS (c : Dev nD) (s : Fin 2) (C : Fin 5632) (a i : ℕ) : EReal :=
  ∑ r : Fin 512, gT (vY m c) (vW m c) (vU m c) (vA m c) s C a ⟨((15 - i) * 512 + r.val) % 8192, Nat.mod_lt _ (by decide)⟩

theorem gS_eq (c : Dev nD) (t : Fin cfg0.N) (s : Fin 2) (C : Fin 5632) (a : ℕ) :
    ∑ r : Fin 512, gT (vY m c) (vW m c) (vU m c) (vA m c) s C a (row t r) = gS m c s C a (t.val % 16) :=
  Finset.sum_congr rfl fun r _ => congrArg _ (Fin.ext (by
    have := r.isLt
    show (15 - t.val % 16) * 512 + r.val = ((15 - t.val % 16) * 512 + r.val) % 8192
    omega))

/-- The sums before a point are those over the tiles below it. -/
theorem accI_eq (c : Dev nD) (s : Fin 2) (a : Fin 8) (q : Fin 1408) : ∀ (n : ℕ) (h : n < cfg0.N),
    accI m c n (ix3 s a q) = if a.val < 4 then ∑ i ∈ Finset.range (n % 16), gS m c s (col ⟨n, h⟩ q) a.val i else 0 := by
  have step : ∀ t : Fin cfg0.N,
      accI m c t.val (ix3 s a q) = (if a.val < 4 then ∑ i ∈ Finset.range (t.val % 16), gS m c s (col t q) a.val i else 0) →
      accO m c t (ix3 s a q) = if a.val < 4 then ∑ i ∈ Finset.range (t.val % 16 + 1), gS m c s (col t q) a.val i else 0 := by
    intro t ht
    have hs : (if s.val = 0 then tC (iblk m c 0 t) (iblk m c 1 t) (iblk m c 2 t) (iblk m c 3 t) (eI m c t 0) 0 a.val q
        else tC (iblk m c 0 t) (iblk m c 1 t) (iblk m c 2 t) (iblk m c 3 t) (eI m c t 1) 1 a.val q) = gS m c s (col t q) a.val (t.val % 16) := by
      match s with
      | ⟨0, _⟩ => exact (tC_eq m c t 0 a.val q).trans (gS_eq m c t _ _ _)
      | ⟨1, _⟩ => exact (tC_eq m c t 1 a.val q).trans (gS_eq m c t _ _ _)
    show (if a.val < 4 then accI m c t.val (ix3 s a q) + _ else accI m c t.val (ix3 s a q)) = _
    rw [ht]
    split
    · rw [Finset.sum_range_succ]
      exact congrArg _ hs
    · rfl
  intro n
  induction n with
  | zero => intro h; rw [accI_first m c 0 rfl]; simp only [Nat.zero_mod, Finset.range_zero, Finset.sum_empty, ite_self]; rfl
  | succ n ih =>
    intro h
    by_cases h0 : (n + 1) % 16 = 0
    · rw [accI_first m c _ h0, h0]; simp only [Finset.range_zero, Finset.sum_empty, ite_self]; rfl
    · have hn : n < cfg0.N := Nat.lt_of_succ_lt h
      have e := accI_next m c ⟨n + 1, h⟩ h0
      rw [show accI m c (n + 1) = accO m c ⟨n, hn⟩ from e, step ⟨n, hn⟩ (ih hn)]
      have e1 : col ⟨n + 1, h⟩ q = col ⟨n, hn⟩ q := Fin.ext (by show (n + 1) / 16 * 1408 + q.val = n / 16 * 1408 + q.val; omega)
      have e2 : n % 16 + 1 = (n + 1) % 16 := by omega
      rw [e1]
      show (if a.val < 4 then ∑ i ∈ Finset.range (n % 16 + 1), _ else _) = _
      rw [e2]

/-- The sixteen tiles make up the rows. -/
theorem sum_tiles (c : Dev nD) (s : Fin 2) (C : Fin 5632) (a : ℕ) :
    ∑ i ∈ Finset.range 16, gS m c s C a i = ∑ R : Fin 8192, gT (vY m c) (vW m c) (vU m c) (vA m c) s C a R := by
  rw [Fin.sum_univ_tiles 16 512 rfl, ← Finset.sum_range_reflect, Finset.sum_range]
  refine Finset.sum_congr rfl fun i _ => ?_
  refine Finset.sum_congr rfl fun r _ => congrArg _ (Fin.ext ?_)
  have := i.isLt
  have := r.isLt
  show ((15 - (16 - 1 - i.val)) * 512 + r.val) % 8192 = _
  simp
  omega

/-- The block a column's last point leaves is its block of the second result. -/
theorem accO_eq (c : Dev nD) (t : Fin cfg0.N) (ht : t.val % 16 = 15) (s : Fin 2) (a : Fin 8) (q : Fin 1408) :
    accO m c t (ix3 s a q) = gDC (vY m c) (vW m c) (vU m c) (vA m c) (ix3 s a (col t q)) := by
  have hs : (if s.val = 0 then tC (iblk m c 0 t) (iblk m c 1 t) (iblk m c 2 t) (iblk m c 3 t) (eI m c t 0) 0 a.val q
      else tC (iblk m c 0 t) (iblk m c 1 t) (iblk m c 2 t) (iblk m c 3 t) (eI m c t 1) 1 a.val q) = gS m c s (col t q) a.val (t.val % 16) := by
    match s with
    | ⟨0, _⟩ => exact (tC_eq m c t 0 a.val q).trans (gS_eq m c t _ _ _)
    | ⟨1, _⟩ => exact (tC_eq m c t 1 a.val q).trans (gS_eq m c t _ _ _)
  show (if a.val < 4 then accI m c t.val (ix3 s a q) + _ else accI m c t.val (ix3 s a q)) = if a.val < 4 then _ else 0
  rw [accI_eq m c s a q t.val t.isLt]
  split
  · refine Eq.trans ?_ (sum_tiles m c s (col t q) a.val)
    rw [show Finset.range 16 = Finset.range (t.val % 16 + 1) by rw [ht], Finset.sum_range_succ]
    exact congrArg _ hs
  · rfl

/-! ## The two arrays after the run -/

theorem flushed6_eq (c : Dev nD) (t : Fin cfg0.N) :
    (dats m 0 c).flushed 6 t = ((cfg0.win 6).blk t).view.read (Elt Ideal) (gDU (vY m c) (vW m c) (vA m c) (vK m c)) := by
  show (cfg0.win 6).cut (grid0.coords t) ((dats m 0 c).after 6 t) = _
  rw [after_6]
  obtain ⟨e0, e1, e2⟩ := index6 t
  funext y
  have hl : (cfg0.win 6).xinj (grid0.coords t) y = (ix3 (y 0) (y 1) (y 2) : S2x512x1408.Idx) := by
    funext a
    match a with
    | ⟨0, _⟩ => rfl
    | ⟨1, _⟩ => rfl
    | ⟨2, _⟩ => rfl
  show blkO m c t ((cfg0.win 6).xinj (grid0.coords t) y) = gDU (vY m c) (vW m c) (vA m c) (vK m c) (((cfg0.win 6).blk t).view.emb y)
  refine (congrArg (blkO m c t) hl).trans ((blkO_eq m c t (y 0) (y 1) (y 2)).trans ?_)
  congr 1
  funext a; apply Fin.ext
  match a with
  | ⟨0, _⟩ => show (y 0).val = win0_6.index t (0 : Fin 3) * 2 + 1 * (y 0).val; rw [e0]; omega
  | ⟨1, _⟩ => show (15 - t.val % 16) * 512 + (y 1).val = win0_6.index t (1 : Fin 3) * 512 + 1 * (y 1).val; rw [e1]; omega
  | ⟨2, _⟩ => show t.val / 16 * 1408 + (y 2).val = win0_6.index t (2 : Fin 3) * 1408 + 1 * (y 2).val; rw [e2]; omega

theorem flushed7_eq (c : Dev nD) (t : Fin cfg0.N) (hf : (cfg0.win 7).flush t = true) :
    (dats m 0 c).flushed 7 t = ((cfg0.win 7).blk t).view.read (Elt Ideal) (gDC (vY m c) (vW m c) (vU m c) (vA m c)) := by
  show (cfg0.win 7).cut (grid0.coords t) ((dats m 0 c).after 7 t) = _
  rw [after_7]
  have ht : t.val % 16 = 15 := (flush0_7 t).mp hf
  obtain ⟨e0, e1, e2⟩ := index7 t
  funext y
  have hl : (cfg0.win 7).xinj (grid0.coords t) y = (ix3 (y 0) (y 1) (y 2) : S2x8x1408.Idx) := by
    funext a
    match a with
    | ⟨0, _⟩ => rfl
    | ⟨1, _⟩ => rfl
    | ⟨2, _⟩ => rfl
  show accO m c t ((cfg0.win 7).xinj (grid0.coords t) y) = gDC (vY m c) (vW m c) (vU m c) (vA m c) (((cfg0.win 7).blk t).view.emb y)
  refine (congrArg (accO m c t) hl).trans ((accO_eq m c t ht (y 0) (y 1) (y 2)).trans ?_)
  congr 1
  funext a; apply Fin.ext
  match a with
  | ⟨0, _⟩ => show (y 0).val = win0_7.index t (0 : Fin 3) * 2 + 1 * (y 0).val; rw [e0]; omega
  | ⟨1, _⟩ => show (y 1).val = win0_7.index t (1 : Fin 3) * 8 + 1 * (y 1).val; rw [e1]; omega
  | ⟨2, _⟩ => show t.val / 16 * 1408 + (y 2).val = win0_7.index t (2 : Fin 3) * 1408 + 1 * (y 2).val; rw [e2]; omega

theorem mem_blk6 (t : Fin cfg0.N) (i : S2x8192x5632.Idx) :
    i ∈ ((cfg0.win 6).blk t).view.set ↔ ∀ a : Fin 3, win0_6.index t a * S2x512x1408.size a ≤ (i a).val ∧ (i a).val < win0_6.index t a * S2x512x1408.size a + S2x512x1408.size a := by
  show i ∈ ((View.whole main_v48_0).slice (win0_6.rect t)).set ↔ _
  rw [View.set_slice_whole, Rect.mem_set_unit]
  exact Iff.rfl

theorem mem_blk7 (t : Fin cfg0.N) (i : S2x8x5632.Idx) :
    i ∈ ((cfg0.win 7).blk t).view.set ↔ ∀ a : Fin 3, win0_7.index t a * S2x8x1408.size a ≤ (i a).val ∧ (i a).val < win0_7.index t a * S2x8x1408.size a + S2x8x1408.size a := by
  show i ∈ ((View.whole main_v48_1).slice (win0_7.rect t)).set ↔ _
  rw [View.set_slice_whole, Rect.mem_set_unit]
  exact Iff.rfl

theorem final6 (c : Dev nD) : (dats m 0 c).arrAt 6 cfg0.N = gDU (vY m c) (vW m c) (vA m c) (vK m c) :=
  (dats m 0 c).arrAt_eq_of_cover 6 _ (fun t _ => flushed6_eq m c t) (fun i => by
    have h0 : (i 0).val < 2 := (i 0).isLt
    have h1 : (i 1).val < 8192 := (i 1).isLt
    have h2 : (i 2).val < 5632 := (i 2).isLt
    let t : Fin cfg0.N := ⟨(i 2).val / 1408 * 16 + (15 - (i 1).val / 512), lt_of_lt_of_eq (by omega) N_0.symm⟩
    obtain ⟨e0, e1, e2⟩ := index6 t
    have ht : t.val = (i 2).val / 1408 * 16 + (15 - (i 1).val / 512) := rfl
    refine ⟨t, flush0_6 t, ?_⟩
    rw [mem_blk6]
    intro a
    match a with
    | ⟨0, _⟩ => show win0_6.index t (0 : Fin 3) * 2 ≤ (i 0).val ∧ (i 0).val < win0_6.index t (0 : Fin 3) * 2 + 2; omega
    | ⟨1, _⟩ => show win0_6.index t (1 : Fin 3) * 512 ≤ (i 1).val ∧ (i 1).val < win0_6.index t (1 : Fin 3) * 512 + 512; omega
    | ⟨2, _⟩ => show win0_6.index t (2 : Fin 3) * 1408 ≤ (i 2).val ∧ (i 2).val < win0_6.index t (2 : Fin 3) * 1408 + 1408; omega)

theorem final7 (c : Dev nD) : (dats m 0 c).arrAt 7 cfg0.N = gDC (vY m c) (vW m c) (vU m c) (vA m c) :=
  (dats m 0 c).arrAt_eq_of_cover 7 _ (fun t hf => flushed7_eq m c t hf) (fun i => by
    have h0 : (i 0).val < 2 := (i 0).isLt
    have h1 : (i 1).val < 8 := (i 1).isLt
    have h2 : (i 2).val < 5632 := (i 2).isLt
    let t : Fin cfg0.N := ⟨(i 2).val / 1408 * 16 + 15, lt_of_lt_of_eq (by omega) N_0.symm⟩
    obtain ⟨e0, e1, e2⟩ := index7 t
    have ht : t.val = (i 2).val / 1408 * 16 + 15 := rfl
    refine ⟨t, (flush0_7 t).mpr (by show t.val % 16 = 15; omega), ?_⟩
    rw [mem_blk7]
    intro a
    match a with
    | ⟨0, _⟩ => show win0_7.index t (0 : Fin 3) * 2 ≤ (i 0).val ∧ (i 0).val < win0_7.index t (0 : Fin 3) * 2 + 2; omega
    | ⟨1, _⟩ => show win0_7.index t (1 : Fin 3) * 8 ≤ (i 1).val ∧ (i 1).val < win0_7.index t (1 : Fin 3) * 8 + 8; omega
    | ⟨2, _⟩ => show win0_7.index t (2 : Fin 3) * 1408 ≤ (i 2).val ∧ (i 2).val < win0_7.index t (2 : Fin 3) * 1408 + 1408; omega)

/-- The results of the launch. -/
theorem ends : θ_run defs (onTc (τ := τ) (main (F := Ideal))) ⟨m, fun _ => 0, ρ⟩ (fun r => ∀ c : Dev nD,
      r.2.mem ((c.tc : Thread nD τ).loc main_v48_0) = gDU (vY m c) (vW m c) (vA m c) (vK m c)
      ∧ r.2.mem ((c.tc : Thread nD τ).loc main_v48_1) = gDC (vY m c) (vW m c) (vU m c) (vA m c)) :=
  (θ_run defs _ _).mono (fun r h c => ⟨((h.1 c).1 6).trans (final6 m c), ((h.1 c).1 7).trans (final7 m c)⟩) (run m ρ)

end Cert.KernelIdeal.Gate

end
-- ==== Proof.GateRef.lean ====
module

public import proofs.«01_k».proof.Proof.Gen.ReferenceIdeal.Read
public import Idealize.ShloMosaic.Lib.Pipeline.Value
public import Idealize.ShloMosaic.Lib.KernelVsHost
public import Idealize.ShloMosaic.Lib.IdealHost
public import Idealize.ShloMosaic.Lib.Pointwise

@[expose] public section

set_option maxRecDepth 16384

noncomputable section

namespace Cert.ReferenceIdeal.Gate

open Idealize.ShloMosaic Cert.ReferenceIdeal Cert.ReferenceIdeal.Gen Cert.ReferenceIdeal.Read

/-! ## Rows put above and below an array -/

theorem pad_row {n N : ℕ} (lo hi : ℕ) (x : Vec Ideal (⟨2, ![n, 11264]⟩ : Shape) .f32) (v : Vec Ideal S_ .f32)
    (h : (⟨2, ![n, 11264]⟩ : Shape).Pads ![lo, 0] ![hi, 0] ![0, 0] ⟨2, ![N, 11264]⟩) (hu : 0 < S_.numel) (hv : v (Shape.Idx.first hu) = (0 : EReal))
    (R : Fin N) (C : Fin 11264) :
    pad ⟨2, ![N, 11264]⟩ ![lo, 0] ![hi, 0] ![0, 0] x v h hu (ix2 R C)
      = if h : lo ≤ R.val ∧ R.val - lo < n then x (ix2 ⟨R.val - lo, h.2⟩ C) else 0 := by
  split
  · rename_i hr
    refine pad_apply_of_inside _ _ _ x v h hu _ _ fun a => ?_
    match a with
    | ⟨0, _⟩ => show R.val = lo + (R.val - lo) * (0 + 1); omega
    | ⟨1, _⟩ => show C.val = 0 + C.val * (0 + 1); omega
  · rename_i hr
    refine (pad_apply_of_not_inside _ _ _ x v h hu _ (0 : Fin 2) ?_).trans hv
    show ¬(lo ≤ R.val ∧ (R.val - lo) % (0 + 1) = 0 ∧ (R.val - lo) / (0 + 1) < n)
    omega

theorem zero_add_of {z s : EReal} (h : z = 0) : z + s = s := by rw [h, zero_add]

section
variable (x0 : Vec Ideal S8192x11264 .f32) (x1 : Vec Ideal S3x11264 .f32) (x2 : Vec Ideal S1x11264 .f32) (x3 : Vec Ideal S5632x2048 .f32) (x4 : Vec Ideal S8192x2048 .f32)

/-- The gradient of the convolved array by row number; zero past the end. -/
def rD (C : Fin 11264) (R : ℕ) : EReal := if h : R < 8192 then val_main_v38 (F := Ideal) x0 x1 x2 x3 x4 (ix2 ⟨R, h⟩ C) else 0

/-- The array convolved, with two rows of zeros above it. -/
def rU (C : Fin 11264) (R : ℕ) : EReal := if h : 2 ≤ R ∧ R - 2 < 8192 then x0 (ix2 ⟨R - 2, h.2⟩ C) else 0

theorem rD_at (R : Fin 8192) (C : Fin 11264) : val_main_v38 (F := Ideal) x0 x1 x2 x3 x4 (ix2 R C) = rD x0 x1 x2 x3 x4 C R.val := by
  unfold rD; rw [dif_pos R.isLt]

/-! ## The gradient before the convolution -/

theorem tap2 (R : Fin 8192) (C : Fin 11264) :
    val_main_v44 (F := Ideal) x0 x1 x2 x3 x4 (ix2 R C) = x1 (ix2 2 C) * rD x0 x1 x2 x3 x4 C R.val := by
  rw [val_main_v44_apply, val_main_v43_apply, val_main_v21_apply, val_main_v19_apply, val_main_v18_apply, rD_at]
  refine congrArg₂ (· * ·) (congrArg x1 ?_) rfl
  funext a; apply Fin.ext
  match a with
  | ⟨0, _⟩ => rfl
  | ⟨1, _⟩ => show C.val % 11264 = C.val; exact Nat.mod_eq_of_lt C.isLt

theorem tap1 (R : Fin 8192) (C : Fin 11264) :
    val_main_v53 (F := Ideal) x0 x1 x2 x3 x4 (ix2 R C) = x1 (ix2 1 C) * rD x0 x1 x2 x3 x4 C R.val := by
  rw [val_main_v53_apply, val_main_v52_apply, val_main_v14_apply, val_main_v12_apply, val_main_v11_apply, rD_at]
  refine congrArg₂ (· * ·) (congrArg x1 ?_) rfl
  funext a; apply Fin.ext
  match a with
  | ⟨0, _⟩ => rfl
  | ⟨1, _⟩ => show C.val % 11264 = C.val; exact Nat.mod_eq_of_lt C.isLt

theorem tap0 (R : Fin 8192) (C : Fin 11264) :
    val_main_v64 (F := Ideal) x0 x1 x2 x3 x4 (ix2 R C) = x1 (ix2 0 C) * rD x0 x1 x2 x3 x4 C R.val := by
  rw [val_main_v64_apply, val_main_v63_apply, val_main_v6_apply, val_main_v4_apply, val_main_v3_apply, rD_at]
  refine congrArg₂ (· * ·) (congrArg x1 ?_) rfl
  funext a; apply Fin.ext
  match a with
  | ⟨0, _⟩ => rfl
  | ⟨1, _⟩ => show C.val % 11264 = C.val; exact Nat.mod_eq_of_lt C.isLt

/-- The gradient before the convolution, row by row: each tap's product, moved up by the tap's distance. -/
theorem du_eq (R : Fin 8192) (C : Fin 11264) : val_main_v75 (F := Ideal) x0 x1 x2 x3 x4 (ix2 R C)
    = x1 (ix2 2 C) * rD x0 x1 x2 x3 x4 C R.val + x1 (ix2 1 C) * rD x0 x1 x2 x3 x4 C (R.val + 1)
      + x1 (ix2 0 C) * rD x0 x1 x2 x3 x4 C (R.val + 2) := by
  have hR := R.isLt
  have hi : idx_main_v75 (ix2 R C) = ix2 ⟨2 + R.val, by omega⟩ C := by
    funext a
    match a with
    | ⟨0, _⟩ => rfl
    | ⟨1, _⟩ => rfl
  rw [val_main_v75_apply, hi, val_main_v70_apply, val_main_v59_apply]
  refine congrArg₂ (· + ·) (congrArg₂ (· + ·) ?_ ?_) ?_
  · unfold val_main_v49
    refine (pad_row 2 0 _ _ _ _ Ideal.ofBits_zero_f32 _ _).trans ?_
    rw [dif_pos ⟨by show 2 ≤ 2 + R.val; omega, by show 2 + R.val - 2 < 8192; omega⟩, tap2]
    show _ * rD x0 x1 x2 x3 x4 C (2 + R.val - 2) = _
    rw [Nat.add_sub_cancel_left]
  · unfold val_main_v58
    refine (pad_row 1 1 _ _ _ _ Ideal.ofBits_zero_f32 _ _).trans ?_
    by_cases h : R.val + 1 < 8192
    · rw [dif_pos ⟨by show 1 ≤ 2 + R.val; omega, by show 2 + R.val - 1 < 8192; omega⟩, tap1]
      show _ * rD x0 x1 x2 x3 x4 C (2 + R.val - 1) = _
      rw [show 2 + R.val - 1 = R.val + 1 by omega]
    · rw [dif_neg (by show ¬(1 ≤ 2 + R.val ∧ 2 + R.val - 1 < 8192); omega)]
      unfold rD
      rw [dif_neg h, mul_zero]
  · unfold val_main_v69
    refine (pad_row 0 2 _ _ _ _ Ideal.ofBits_zero_f32 _ _).trans ?_
    by_cases h : R.val + 2 < 8192
    · rw [dif_pos ⟨by show 0 ≤ 2 + R.val; omega, by show 2 + R.val - 0 < 8192; omega⟩, tap0]
      show _ * rD x0 x1 x2 x3 x4 C (2 + R.val - 0) = _
      rw [show 2 + R.val - 0 = R.val + 2 by omega]
    · rw [dif_neg (by show ¬(0 ≤ 2 + R.val ∧ 2 + R.val - 0 < 8192); omega)]
      unfold rD
      rw [dif_neg h, mul_zero]

/-- The halves of the first result. -/
theorem v83_eq_0 (R : Fin 8192) (C : Fin 5632) (CC : Fin 11264) (hC : CC.val = C.val) :
    val_main_v83 (F := Ideal) x0 x1 x2 x3 x4 (ix3 0 R C) = val_main_v75 (F := Ideal) x0 x1 x2 x3 x4 (ix2 R CC) := by
  rw [val_main_v83_apply]
  show val_main_v82 (F := Ideal) x0 x1 x2 x3 x4 (ix3 0 R C) = _
  unfold val_main_v82
  refine (concatenate_pair_apply_left (s₁ := S1x8192x5632) (s₂ := S1x8192x5632) 0 _ _ _ (ix3 0 R C : S2x8192x5632.Idx) rfl (ix3 0 R C) (fun b => match b with
    | ⟨0, _⟩ => rfl
    | ⟨1, _⟩ => rfl
    | ⟨2, _⟩ => rfl)).trans ?_
  rw [val_main_v80_apply, val_main_v78_apply]
  congr 1; funext a; apply Fin.ext
  match a with
  | ⟨0, _⟩ => rfl
  | ⟨1, _⟩ => show C.val = CC.val; exact hC.symm

theorem v83_eq_1 (R : Fin 8192) (C : Fin 5632) (CC : Fin 11264) (hC : CC.val = 5632 + C.val) :
    val_main_v83 (F := Ideal) x0 x1 x2 x3 x4 (ix3 1 R C) = val_main_v75 (F := Ideal) x0 x1 x2 x3 x4 (ix2 R CC) := by
  rw [val_main_v83_apply]
  show val_main_v82 (F := Ideal) x0 x1 x2 x3 x4 (ix3 1 R C) = _
  unfold val_main_v82
  refine (concatenate_pair_apply_right (s₁ := S1x8192x5632) (s₂ := S1x8192x5632) 0 _ _ _ (ix3 1 R C : S2x8192x5632.Idx) rfl rfl (ix3 0 R C) (fun b hb => match b with
    | ⟨0, _⟩ => absurd rfl hb
    | ⟨1, _⟩ => rfl
    | ⟨2, _⟩ => rfl) rfl).trans ?_
  rw [val_main_v81_apply, val_main_v79_apply]
  congr 1; funext a; apply Fin.ext
  match a with
  | ⟨0, _⟩ => rfl
  | ⟨1, _⟩ => show 5632 + C.val = CC.val; exact hC.symm

/-- The halves of the second result. -/
theorem v88_eq_0 (b : Fin 8) (C : Fin 5632) (CC : Fin 11264) (hC : CC.val = C.val) :
    val_main_v88 (F := Ideal) x0 x1 x2 x3 x4 (ix3 0 b C) = val_main_v77 (F := Ideal) x0 x1 x2 x3 x4 (ix2 b CC) := by
  unfold val_main_v88
  refine (concatenate_pair_apply_left (s₁ := S1x8x5632) (s₂ := S1x8x5632) 0 _ _ _ (ix3 0 b C : S2x8x5632.Idx) rfl (ix3 0 b C) (fun b => match b with
    | ⟨0, _⟩ => rfl
    | ⟨1, _⟩ => rfl
    | ⟨2, _⟩ => rfl)).trans ?_
  rw [val_main_v86_apply, val_main_v84_apply]
  congr 1; funext a; apply Fin.ext
  match a with
  | ⟨0, _⟩ => rfl
  | ⟨1, _⟩ => show C.val = CC.val; exact hC.symm

theorem v88_eq_1 (b : Fin 8) (C : Fin 5632) (CC : Fin 11264) (hC : CC.val = 5632 + C.val) :
    val_main_v88 (F := Ideal) x0 x1 x2 x3 x4 (ix3 1 b C) = val_main_v77 (F := Ideal) x0 x1 x2 x3 x4 (ix2 b CC) := by
  unfold val_main_v88
  refine (concatenate_pair_apply_right (s₁ := S1x8x5632) (s₂ := S1x8x5632) 0 _ _ _ (ix3 1 b C : S2x8x5632.Idx) rfl rfl (ix3 0 b C) (fun b hb => match b with
    | ⟨0, _⟩ => absurd rfl hb
    | ⟨1, _⟩ => rfl
    | ⟨2, _⟩ => rfl) rfl).trans ?_
  rw [val_main_v87_apply, val_main_v85_apply]
  congr 1; funext a; apply Fin.ext
  match a with
  | ⟨0, _⟩ => rfl
  | ⟨1, _⟩ => show 5632 + C.val = CC.val; exact hC.symm

/-! ## The tap and bias gradients -/

/-- The array convolved, below its two rows of zeros. -/
theorem v1_eq (n : Fin 8194) (C : Fin 11264) : val_main_v1 (F := Ideal) x0 (ix2 n C) = rU x0 C n.val := by
  have hn := n.isLt
  unfold val_main_v1 rU
  by_cases h : n.val < 2
  · rw [dif_neg (by omega)]
    refine (concatenate_pair_apply_left (s₁ := S2x11264) (s₂ := S8192x11264) 0 _ _ _ (ix2 n C : S8194x11264.Idx) rfl (ix2 ⟨n.val, h⟩ C) (fun b => match b with
      | ⟨0, _⟩ => rfl
      | ⟨1, _⟩ => rfl)).trans ?_
    rw [val_main_v0_apply, val_main_cst_apply]
    exact Ideal.ofBits_zero_f32
  · rw [dif_pos ⟨by omega, by omega⟩]
    exact concatenate_pair_apply_right (s₁ := S2x11264) (s₂ := S8192x11264) 0 _ _ _ (ix2 n C : S8194x11264.Idx) rfl rfl (ix2 ⟨n.val - 2, by omega⟩ C) (fun b hb => match b with
      | ⟨0, _⟩ => absurd rfl hb
      | ⟨1, _⟩ => rfl) (by show n.val - 2 + 2 = n.val; omega)

theorem grad2 (a : Fin 1) (C : Fin 11264) : val_main_v50 (F := Ideal) x0 x1 x2 x3 x4 (ix2 a C)
    = ∑ R : Fin 8192, rD x0 x1 x2 x3 x4 C R.val * rU x0 C (R.val + 2) := by
  rw [val_main_v50_apply, val_main_v48_apply]
  refine (zero_add_of Ideal.ofBits_zero_f32).trans ?_
  rw [Fin.sum_univ_one, val_main_v47_apply, val_main_v46_apply]
  refine (zero_add_of Ideal.ofBits_zero_f32).trans (Finset.sum_congr rfl fun R _ => ?_)
  rw [val_main_v45_apply, val_main_v20_apply]
  refine congrArg₂ (· * ·) ((congrArg (val_main_v38 (F := Ideal) x0 x1 x2 x3 x4) ?_).trans (rD_at x0 x1 x2 x3 x4 R C)) ((congrArg (val_main_v1 (F := Ideal) x0) ?_).trans (v1_eq x0 ⟨R.val + 2, by have := R.isLt; omega⟩ C))
  · funext a; apply Fin.ext
    match a with
    | ⟨0, _⟩ => rfl
    | ⟨1, _⟩ => show 0 * 11264 + C.val = C.val; omega
  · funext a; apply Fin.ext
    match a with
    | ⟨0, _⟩ => show 2 + R.val = R.val + 2; omega
    | ⟨1, _⟩ => show 0 * 11264 + C.val = C.val; omega

theorem grad1 (a : Fin 1) (C : Fin 11264) : val_main_v60 (F := Ideal) x0 x1 x2 x3 x4 (ix2 a C)
    = ∑ R : Fin 8192, rD x0 x1 x2 x3 x4 C R.val * rU x0 C (R.val + 1) := by
  rw [val_main_v60_apply, val_main_v57_apply]
  refine (zero_add_of Ideal.ofBits_zero_f32).trans ?_
  rw [Fin.sum_univ_one, val_main_v56_apply, val_main_v55_apply]
  refine (zero_add_of Ideal.ofBits_zero_f32).trans (Finset.sum_congr rfl fun R _ => ?_)
  rw [val_main_v54_apply, val_main_v13_apply]
  refine congrArg₂ (· * ·) ((congrArg (val_main_v38 (F := Ideal) x0 x1 x2 x3 x4) ?_).trans (rD_at x0 x1 x2 x3 x4 R C)) ((congrArg (val_main_v1 (F := Ideal) x0) ?_).trans (v1_eq x0 ⟨R.val + 1, by have := R.isLt; omega⟩ C))
  · funext a; apply Fin.ext
    match a with
    | ⟨0, _⟩ => rfl
    | ⟨1, _⟩ => show 0 * 11264 + C.val = C.val; omega
  · funext a; apply Fin.ext
    match a with
    | ⟨0, _⟩ => show 1 + R.val = R.val + 1; omega
    | ⟨1, _⟩ => show 0 * 11264 + C.val = C.val; omega

theorem grad0 (a : Fin 1) (C : Fin 11264) : val_main_v71 (F := Ideal) x0 x1 x2 x3 x4 (ix2 a C)
    = ∑ R : Fin 8192, rD x0 x1 x2 x3 x4 C R.val * rU x0 C (R.val + 0) := by
  rw [val_main_v71_apply, val_main_v68_apply]
  refine (zero_add_of Ideal.ofBits_zero_f32).trans ?_
  rw [Fin.sum_univ_one, val_main_v67_apply, val_main_v66_apply]
  refine (zero_add_of Ideal.ofBits_zero_f32).trans (Finset.sum_congr rfl fun R _ => ?_)
  rw [val_main_v65_apply, val_main_v5_apply]
  refine congrArg₂ (· * ·) ((congrArg (val_main_v38 (F := Ideal) x0 x1 x2 x3 x4) ?_).trans (rD_at x0 x1 x2 x3 x4 R C)) ((congrArg (val_main_v1 (F := Ideal) x0) ?_).trans (v1_eq x0 ⟨R.val + 0, by have := R.isLt; omega⟩ C))
  · funext a; apply Fin.ext
    match a with
    | ⟨0, _⟩ => rfl
    | ⟨1, _⟩ => show 0 * 11264 + C.val = C.val; omega
  · funext a; apply Fin.ext
    match a with
    | ⟨0, _⟩ => rfl
    | ⟨1, _⟩ => show 0 * 11264 + C.val = C.val; omega

theorem gradB (a : Fin 1) (C : Fin 11264) : val_main_v42 (F := Ideal) x0 x1 x2 x3 x4 (ix2 a C) = ∑ R : Fin 8192, rD x0 x1 x2 x3 x4 C R.val := by
  rw [val_main_v42_apply, val_main_v41_apply]
  refine (zero_add_of Ideal.ofBits_zero_f32).trans ?_
  rw [Fin.sum_univ_one, val_main_v40_apply, val_main_v39_apply]
  refine (zero_add_of Ideal.ofBits_zero_f32).trans (Finset.sum_congr rfl fun R _ => ?_)
  refine (congrArg (val_main_v38 (F := Ideal) x0 x1 x2 x3 x4) ?_).trans (rD_at x0 x1 x2 x3 x4 R C)
  funext a; apply Fin.ext
  match a with
  | ⟨0, _⟩ => rfl
  | ⟨1, _⟩ => show 0 * 11264 + C.val = C.val; omega

theorem move1 (f g : ℕ → EReal) (hf : ∀ n, 8192 ≤ n → f n = 0) (hg : ∀ n, n < 1 → g n = 0) :
    ∑ R : Fin 8192, f R.val * g R.val = ∑ R : Fin 8192, f (R.val + 1) * g (R.val + 1) := by
  rw [← Finset.sum_range (fun n => f n * g n), ← Finset.sum_range (fun n => f (n + 1) * g (n + 1))]
  refine (Finset.sum_range_succ' (fun n => f n * g n) 8191).trans (Eq.trans ?_ (Finset.sum_range_succ (fun n => f (n + 1) * g (n + 1)) 8191).symm)
  show _ + f 0 * g 0 = _ + f 8192 * g 8192
  rw [hg 0 (by decide), hf 8192 (le_refl _), mul_zero, zero_mul]

/-- A sum against the array moved down by two rows is a sum of the gradient moved up by two. -/
theorem move2 (f g : ℕ → EReal) (hf : ∀ n, 8192 ≤ n → f n = 0) (hg : ∀ n, n < 2 → g n = 0) :
    ∑ R : Fin 8192, f R.val * g R.val = ∑ R : Fin 8192, f (R.val + 2) * g (R.val + 2) := by
  exact (move1 f g hf fun n h => hg n (by omega)).trans
    (move1 (fun n => f (n + 1)) (fun n => g (n + 1)) (fun n h => hf (n + 1) (by omega)) fun n h => hg (n + 1) (by omega))

theorem rD_past (C : Fin 11264) (n : ℕ) (h : 8192 ≤ n) : rD x0 x1 x2 x3 x4 C n = 0 := by unfold rD; rw [dif_neg (by omega)]
theorem rU_above (C : Fin 11264) (n : ℕ) (h : n < 2) : rU x0 C n = 0 := by unfold rU; rw [dif_neg (by omega)]

theorem rU_below (C : Fin 11264) (R : Fin 8192) : rU x0 C (R.val + 2) = x0 (ix2 R C) := by
  have := R.isLt
  unfold rU
  rw [dif_pos ⟨by omega, by omega⟩]
  rfl

/-- What a row adds to row `b` of the tap and bias gradients. -/
def rT (C : Fin 11264) (b : ℕ) (R : Fin 8192) : EReal :=
  if b = 0 then rD x0 x1 x2 x3 x4 C (R.val + 2) * x0 (ix2 R C)
  else if b = 1 then rD x0 x1 x2 x3 x4 C (R.val + 1) * x0 (ix2 R C)
  else if b = 2 then rD x0 x1 x2 x3 x4 C R.val * x0 (ix2 R C)
  else rD x0 x1 x2 x3 x4 C R.val

theorem taps_eq (b : Fin 3) (C : Fin 11264) : val_main_v73 (F := Ideal) x0 x1 x2 x3 x4 (ix2 b C) = ∑ R : Fin 8192, rT x0 x1 x2 x3 x4 C b.val R := by
  rw [val_main_v73_apply, val_main_v62_apply]
  have e2 := pad_row (N := 3) 2 0 (val_main_v50 (F := Ideal) x0 x1 x2 x3 x4) (val_main_cst_7 (F := Ideal)) pads_S1x11264_S3x11264_200_000 h_S_ Ideal.ofBits_zero_f32 b C
  have e1 := pad_row (N := 3) 1 1 (val_main_v60 (F := Ideal) x0 x1 x2 x3 x4) (val_main_cst_11 (F := Ideal)) pads_S1x11264_S3x11264_110_000 h_S_ Ideal.ofBits_zero_f32 b C
  have e0 := pad_row (N := 3) 0 2 (val_main_v71 (F := Ideal) x0 x1 x2 x3 x4) (val_main_cst_15 (F := Ideal)) pads_S1x11264_S3x11264_020_000 h_S_ Ideal.ofBits_zero_f32 b C
  refine (congrArg₂ (· + ·) (congrArg₂ (· + ·) e2 e1) e0).trans ?_
  match b with
  | ⟨0, _⟩ =>
    rw [dif_neg (show ¬(2 ≤ 0 ∧ 0 - 2 < 1) by decide), dif_neg (show ¬(1 ≤ 0 ∧ 0 - 1 < 1) by decide), dif_pos (show (0 ≤ 0 ∧ 0 - 0 < 1) by decide), grad0,
      move2 (rD x0 x1 x2 x3 x4 C) (fun n => rU x0 C (n + 0)) (rD_past x0 x1 x2 x3 x4 C) (fun n h => rU_above x0 C n h)]
    simp only [zero_add, add_zero]
    exact Finset.sum_congr rfl fun R _ => congrArg₂ (· * ·) rfl (rU_below x0 C R)
  | ⟨1, _⟩ =>
    rw [dif_neg (show ¬(2 ≤ 1 ∧ 1 - 2 < 1) by decide), dif_pos (show (1 ≤ 1 ∧ 1 - 1 < 1) by decide), dif_neg (show ¬(0 ≤ 1 ∧ 1 - 0 < 1) by decide), grad1,
      move1 (rD x0 x1 x2 x3 x4 C) (fun n => rU x0 C (n + 1)) (rD_past x0 x1 x2 x3 x4 C) (fun n h => rU_above x0 C (n + 1) (by omega))]
    simp only [zero_add, add_zero]
    exact Finset.sum_congr rfl fun R _ => congrArg₂ (· * ·) rfl (rU_below x0 C R)
  | ⟨2, _⟩ =>
    rw [dif_pos (show (2 ≤ 2 ∧ 2 - 2 < 1) by decide), dif_neg (show ¬(1 ≤ 2 ∧ 2 - 1 < 1) by decide), dif_neg (show ¬(0 ≤ 2 ∧ 2 - 0 < 1) by decide), grad2]
    simp only [zero_add, add_zero]
    exact Finset.sum_congr rfl fun R _ => congrArg₂ (· * ·) rfl (rU_below x0 C R)

/-- The tap and bias gradients: three rows of taps, one of biases, four of zeros. -/
theorem dc_eq (b : Fin 8) (C : Fin 11264) : val_main_v77 (F := Ideal) x0 x1 x2 x3 x4 (ix2 b C)
    = if b.val < 4 then ∑ R : Fin 8192, rT x0 x1 x2 x3 x4 C b.val R else 0 := by
  have hb := b.isLt
  let L : List ((s : Shape) × (s.Idx → Elt Ideal .f32)) := [⟨S3x11264, val_main_v73 (F := Ideal) x0 x1 x2 x3 x4⟩, ⟨S1x11264, val_main_v42 (F := Ideal) x0 x1 x2 x3 x4⟩, ⟨S4x11264, val_main_v76 (F := Ideal)⟩]
  have hL : val_main_v77 (F := Ideal) x0 x1 x2 x3 x4 = concatenate S8x11264 0 L concatenates_S3x11264_S1x11264_S4x11264_S8x11264_d0 := rfl
  rw [hL]
  by_cases h3 : b.val < 3
  · rw [if_pos (by omega)]
    exact (concatenate_apply_piece 0 L _ (ix2 b C) 0 (by decide : 0 < 3) S3x11264 (val_main_v73 (F := Ideal) x0 x1 x2 x3 x4) rfl rfl 0 rfl (ix2 ⟨b.val, h3⟩ C)
      (fun a ha => match a with
      | ⟨0, _⟩ => absurd rfl ha
      | ⟨1, _⟩ => rfl) (by show 0 + b.val = b.val; omega)).trans (taps_eq x0 x1 x2 x3 x4 ⟨b.val, h3⟩ C)
  · by_cases h4 : b.val < 4
    · rw [if_pos h4]
      refine (concatenate_apply_piece 0 L _ (ix2 b C) 1 (by decide : 1 < 3) S1x11264 (val_main_v42 (F := Ideal) x0 x1 x2 x3 x4) rfl rfl 3 rfl (ix2 0 C)
        (fun a ha => match a with
        | ⟨0, _⟩ => absurd rfl ha
        | ⟨1, _⟩ => rfl) (by show 3 + 0 = b.val; omega)).trans ?_
      rw [gradB]
      refine Finset.sum_congr rfl fun R _ => ?_
      unfold rT
      rw [if_neg (by omega), if_neg (by omega), if_neg (by omega)]
    · rw [if_neg h4]
      refine (concatenate_apply_piece 0 L _ (ix2 b C) 2 (by decide : 2 < 3) S4x11264 (val_main_v76 (F := Ideal)) rfl rfl 4 rfl (ix2 ⟨b.val - 4, by omega⟩ C)
        (fun a ha => match a with
        | ⟨0, _⟩ => absurd rfl ha
        | ⟨1, _⟩ => rfl) (by show 4 + (b.val - 4) = b.val; omega)).trans ?_
      rw [val_main_v76_apply, val_main_cst_16_apply]
      exact Ideal.ofBits_zero_f32

end

end Cert.ReferenceIdeal.Gate

end
-- ==== Proof.GateEqual.lean ====
module

public import proofs.«01_k».proof.Defs
public import proofs.«01_k».proof.Proof.GateFinite
public import proofs.«01_k».proof.Proof.GateWhole
public import proofs.«01_k».proof.Proof.GateRef
public import proofs.«01_k».proof.Proof.Gen.ReferenceIdeal.Run

@[expose] public section

set_option maxRecDepth 16384

noncomputable section

namespace Cert.KernelIdeal.Gate

open Idealize.ShloMosaic Idealize.ShloMosaic.TcCoe Cert.KernelIdeal.Gen
open Cert.ReferenceIdeal.Read
open Cert.ReferenceIdeal.Gate (rD rD_at rU rU_above rU_below rT du_eq v83_eq_0 v83_eq_1 v88_eq_0 v88_eq_1 dc_eq v1_eq)

section
variable (u : Vec Ideal S8192x11264 .f32) (w : Vec Ideal S3x11264 .f32) (b : Vec Ideal S1x11264 .f32)
  (d : Vec Ideal S5632x2048 .f32) (y : Vec Ideal S8192x2048 .f32)

/-! ## The forward values are real numbers -/

theorem fin_v1 (hu : ∀ i, Fin' (u i)) (n : Fin 8194) (C : Fin 11264) : Fin' (val_main_v1 (F := Ideal) u (ix2 n C)) := by
  rw [v1_eq]; unfold rU
  split
  · exact hu _
  · exact fin_zero

theorem fin_v1' (hu : ∀ i, Fin' (u i)) (i : Cert.ReferenceIdeal.S8194x11264.Idx) : Fin' (val_main_v1 (F := Ideal) u i) := by
  have h := fin_v1 u hu (i 0) (i 1)
  have e : (ix2 (i 0) (i 1) : Cert.ReferenceIdeal.S8194x11264.Idx) = i := funext fun a => match a with
    | ⟨0, _⟩ => rfl
    | ⟨1, _⟩ => rfl
  exact e ▸ h

theorem fin_v28 (hu : ∀ i, Fin' (u i)) (hw : ∀ i, Fin' (w i)) (hb : ∀ i, Fin' (b i)) (i : S8192x11264.Idx) : Fin' (val_main_v28 (F := Ideal) u w b i) := by
  rw [val_main_v28_apply, val_main_v24_apply, val_main_v17_apply, val_main_v10_apply, val_main_v8_apply, val_main_v16_apply, val_main_v23_apply]
  refine fin_add (fin_add (fin_add (fin_add ?_ (fin_mul ?_ ?_)) (fin_mul ?_ ?_)) (fin_mul ?_ ?_)) ?_
  · rw [val_main_v9_apply, val_main_cst_1_apply]
    show Fin' (Ideal.ofBits .f32 0x00000000#32); rw [Ideal.ofBits_zero_f32]; exact fin_zero
  · rw [val_main_v7_apply, val_main_v6_apply, val_main_v4_apply, val_main_v3_apply]; exact hw _
  · rw [val_main_v5_apply]; exact fin_v1' u hu _
  · rw [val_main_v15_apply, val_main_v14_apply, val_main_v12_apply, val_main_v11_apply]; exact hw _
  · rw [val_main_v13_apply]; exact fin_v1' u hu _
  · rw [val_main_v22_apply, val_main_v21_apply, val_main_v19_apply, val_main_v18_apply]; exact hw _
  · rw [val_main_v20_apply]; exact fin_v1' u hu _
  · rw [val_main_v27_apply, val_main_v26_apply, val_main_v25_apply]; exact hb _

theorem fin_gate (hu : ∀ i, Fin' (u i)) (hw : ∀ i, Fin' (w i)) (hb : ∀ i, Fin' (b i)) (i : S8192x5632.Idx) : Fin' (val_main_v29 (F := Ideal) u w b i) := by
  rw [val_main_v29_apply]; exact fin_v28 u w b hu hw hb _

theorem fin_val (hu : ∀ i, Fin' (u i)) (hw : ∀ i, Fin' (w i)) (hb : ∀ i, Fin' (b i)) (i : S8192x5632.Idx) : Fin' (val_main_v30 (F := Ideal) u w b i) := by
  rw [val_main_v30_apply]; exact fin_v28 u w b hu hw hb _

/-- The logistic function of the gate. -/
theorem sig_eq (i : S8192x5632.Idx) : val_main_v31_2 (F := Ideal) u w b i = Ideal.div 1 (1 + Ideal.exp (-(val_main_v29 (F := Ideal) u w b i))) := by
  rw [val_main_v31_2_apply, val_main_call0_v3_apply, val_main_call0_v1_apply, val_main_call0_v0_apply, val_main_call0_v4_apply, val_main_call0_v2_apply,
    val_main_call0_cst_0_apply, val_main_call0_cst_apply]
  show Ideal.div (Ideal.ofBits .f32 0x3F800000#32) (Ideal.ofBits .f32 0x3F800000#32 + Ideal.exp (-(val_main_v29 (F := Ideal) u w b i))) = _
  rw [Ideal.ofBits_one_f32]

theorem fin_sigmoid (hu : ∀ i, Fin' (u i)) (hw : ∀ i, Fin' (w i)) (hb : ∀ i, Fin' (b i)) (i : S8192x5632.Idx) : Fin' (val_main_v31_2 (F := Ideal) u w b i) := by
  rw [sig_eq]; exact fin_sig (fin_gate u w b hu hw hb i)

/-- The logistic function times one less itself. -/
theorem fin_slope (hu : ∀ i, Fin' (u i)) (hw : ∀ i, Fin' (w i)) (hb : ∀ i, Fin' (b i)) (i : S8192x5632.Idx) : Fin' (val_main_v31_1 (F := Ideal) u w b i) := by
  rw [val_main_v31_1_apply, val_main_call0_v7_apply, val_main_call0_v6_apply, val_main_call0_cst_1_apply]
  refine fin_mul (fin_sigmoid u w b hu hw hb i) (fin_sub ?_ (fin_sigmoid u w b hu hw hb i))
  show Fin' (Ideal.ofBits .f32 0x3F800000#32); rw [Ideal.ofBits_one_f32]; exact fin_one

theorem da_eq (R : Fin 8192) (C : Fin 5632) : val_main_v34 (F := Ideal) d y (ix2 R C) = ∑ k : Fin 2048, y (ix2 R k) * d (ix2 C k) := by
  rw [val_main_v34_apply]
  refine Finset.sum_congr rfl fun k _ => congrArg₂ (· * ·) (congrArg y ?_) (congrArg d ?_)
  · funext a; apply Fin.ext
    match a with
    | ⟨0, _⟩ => rfl
    | ⟨1, _⟩ => rfl
  · funext a; apply Fin.ext
    match a with
    | ⟨0, _⟩ => rfl
    | ⟨1, _⟩ => rfl

theorem fin_da (hd : ∀ i, Fin' (d i)) (hy : ∀ i, Fin' (y i)) (R : Fin 8192) (C : Fin 5632) : Fin' (val_main_v34 (F := Ideal) d y (ix2 R C)) := by
  rw [da_eq]; exact fin_sum _ fun k => fin_mul (hy _) (hd _)

/-! ## The gradient of the convolved array -/

theorem ones_eq (i : S8192x5632.Idx) : ones i = (1 : EReal) :=
  (show ones i = Ideal.ofBits .f32 0x3F800000#32 from rfl).trans Ideal.ofBits_one_f32

theorem pair_0 (x z : Vec Ideal S8192x5632 .f32) (R : Fin 8192) (C : Fin 5632) : pairOf x z (ix3 0 R C) = x (ix2 R C) := by
  show concatenate S2x8192x5632 0 [⟨S1x8192x5632, broadcastInDim S1x8192x5632 ![1, 2] bcast_S8192x5632_S1x8192x5632_1_2 x⟩,
    ⟨S1x8192x5632, broadcastInDim S1x8192x5632 ![1, 2] bcast_S8192x5632_S1x8192x5632_1_2 z⟩] concatenates_S1x8192x5632_S1x8192x5632_S2x8192x5632_d0 (ix3 0 R C) = x (ix2 R C)
  refine (concatenate_pair_apply_left (s₁ := S1x8192x5632) (s₂ := S1x8192x5632) 0 _ _ _ (ix3 0 R C : S2x8192x5632.Idx) rfl (ix3 0 R C) (fun b => match b with
    | ⟨0, _⟩ => rfl
    | ⟨1, _⟩ => rfl
    | ⟨2, _⟩ => rfl)).trans ?_
  exact broadcastInDim_apply _ _ x (ix3 0 R C : S1x8192x5632.Idx) (ix2 R C) (fun a => match a with
    | ⟨0, _⟩ => (if_neg (show ¬(8192 : ℕ) = 1 by decide)).symm
    | ⟨1, _⟩ => (if_neg (show ¬(5632 : ℕ) = 1 by decide)).symm)

theorem pair_1 (x z : Vec Ideal S8192x5632 .f32) (R : Fin 8192) (C : Fin 5632) : pairOf x z (ix3 1 R C) = z (ix2 R C) := by
  show concatenate S2x8192x5632 0 [⟨S1x8192x5632, broadcastInDim S1x8192x5632 ![1, 2] bcast_S8192x5632_S1x8192x5632_1_2 x⟩,
    ⟨S1x8192x5632, broadcastInDim S1x8192x5632 ![1, 2] bcast_S8192x5632_S1x8192x5632_1_2 z⟩] concatenates_S1x8192x5632_S1x8192x5632_S2x8192x5632_d0 (ix3 1 R C) = z (ix2 R C)
  refine (concatenate_pair_apply_right (s₁ := S1x8192x5632) (s₂ := S1x8192x5632) 0 _ _ _ (ix3 1 R C : S2x8192x5632.Idx) rfl rfl (ix3 0 R C) (fun b hb => match b with
    | ⟨0, _⟩ => absurd rfl hb
    | ⟨1, _⟩ => rfl
    | ⟨2, _⟩ => rfl) rfl).trans ?_
  exact broadcastInDim_apply _ _ z (ix3 0 R C : S1x8192x5632.Idx) (ix2 R C) (fun a => match a with
    | ⟨0, _⟩ => (if_neg (show ¬(8192 : ℕ) = 1 by decide)).symm
    | ⟨1, _⟩ => (if_neg (show ¬(5632 : ℕ) = 1 by decide)).symm)

theorem v38_eq_0 (R : Fin 8192) (C : Fin 5632) (CC : Fin 11264) (hC : CC.val = C.val) :
    val_main_v38 (F := Ideal) u w b d y (ix2 R CC) = val_main_v37 (F := Ideal) u w b d y (ix2 R C) :=
  concatenate_pair_apply_left (s₁ := S8192x5632) (s₂ := S8192x5632) 1 _ _ _ (ix2 R CC : S8192x11264.Idx) rfl (ix2 R C) (fun b => match b with
    | ⟨0, _⟩ => rfl
    | ⟨1, _⟩ => hC.symm)

theorem v38_eq_1 (R : Fin 8192) (C : Fin 5632) (CC : Fin 11264) (hC : CC.val = 5632 + C.val) :
    val_main_v38 (F := Ideal) u w b d y (ix2 R CC) = val_main_v35 (F := Ideal) u w b d y (ix2 R C) :=
  concatenate_pair_apply_right (s₁ := S8192x5632) (s₂ := S8192x5632) 1 _ _ _ (ix2 R CC : S8192x11264.Idx) rfl rfl (ix2 R C) (fun b hb => match b with
    | ⟨0, _⟩ => rfl
    | ⟨1, _⟩ => absurd rfl hb) (by show C.val + 5632 = CC.val; omega)

theorem real_0 {a v s g t : EReal} (ha : Fin' a) (hv : Fin' v) (hs : Fin' s) (hg : Fin' g) (ht : Fin' t) :
    a * (((1 * v) * s) + (g * (1 * v)) * t) = (a * v) * s + (g * (a * v)) * t := by
  obtain ⟨a, rfl⟩ := ha; obtain ⟨v, rfl⟩ := hv; obtain ⟨s, rfl⟩ := hs; obtain ⟨g, rfl⟩ := hg; obtain ⟨t, rfl⟩ := ht
  rw [one_mul]
  simp only [← EReal.coe_mul, ← EReal.coe_add]
  congr 1; ring

/-- The gradient the launch works with is the reference's. -/
theorem gD_eq_0 (hu : ∀ i, Fin' (u i)) (hw : ∀ i, Fin' (w i)) (hb : ∀ i, Fin' (b i)) (hd : ∀ i, Fin' (d i)) (hy : ∀ i, Fin' (y i)) (C : Fin 5632) (R : ℕ) :
    gD (truncf (F := Ideal) .bf16 y bitsLt_bf16_f32) (truncf (F := Ideal) .bf16 d bitsLt_bf16_f32) (pairOf (slopeG u w b) (slopeV u w b)) 0 C R
      = rD u w b d y (hcol 0 C) R := by
  unfold gD rD
  split
  · rename_i h
    rw [pair_0, v38_eq_0 u w b d y ⟨R, h⟩ C (hcol 0 C) (by show 0 * 5632 + C.val = C.val; omega), val_main_v37_apply, val_main_call1_v1_apply, val_main_call1_v2_apply,
      val_main_call1_v0_apply, val_main_v36_apply]
    refine Eq.trans ?_ (real_0 (fin_da d y hd hy ⟨R, h⟩ C) (fin_val u w b hu hw hb _) (fin_sigmoid u w b hu hw hb _) (fin_gate u w b hu hw hb _) (fin_slope u w b hu hw hb _))
    rw [da_eq]
    refine congrArg₂ (· * ·) rfl ?_
    show (ones (ix2 ⟨R, h⟩ C) * _) * _ + (_ * (ones (ix2 ⟨R, h⟩ C) * _)) * _ = _
    rw [ones_eq]
  · rfl

theorem gD_eq_1 (C : Fin 5632) (R : ℕ) :
    gD (truncf (F := Ideal) .bf16 y bitsLt_bf16_f32) (truncf (F := Ideal) .bf16 d bitsLt_bf16_f32) (pairOf (slopeG u w b) (slopeV u w b)) 1 C R
      = rD u w b d y (hcol 1 C) R := by
  unfold gD rD
  split
  · rename_i h
    rw [pair_1, v38_eq_1 u w b d y ⟨R, h⟩ C (hcol 1 C) (by show 1 * 5632 + C.val = 5632 + C.val; omega), val_main_v35_apply, da_eq]
    show _ * (val_main_v31_0 u w b (ix2 ⟨R, h⟩ C) * ones (ix2 ⟨R, h⟩ C)) = _
    rw [ones_eq, mul_one]
    exact mul_comm _ _
  · rfl

theorem gD_eq (hu : ∀ i, Fin' (u i)) (hw : ∀ i, Fin' (w i)) (hb : ∀ i, Fin' (b i)) (hd : ∀ i, Fin' (d i)) (hy : ∀ i, Fin' (y i)) (s : Fin 2) (C : Fin 5632) (R : ℕ) :
    gD (truncf (F := Ideal) .bf16 y bitsLt_bf16_f32) (truncf (F := Ideal) .bf16 d bitsLt_bf16_f32) (pairOf (slopeG u w b) (slopeV u w b)) s C R
      = rD u w b d y (hcol s C) R := by
  rcases (show s = 0 ∨ s = 1 by omega) with rfl | rfl
  · exact gD_eq_0 u w b d y hu hw hb hd hy C R
  · exact gD_eq_1 u w b d y C R

/-- The array convolved, by halves. -/
theorem halves_eq (s : Fin 2) (R : Fin 8192) (C : Fin 5632) :
    pairOf (extractStridedSlice S8192x5632 ![0, 0] u slices_S8192x11264_S8192x5632_0_0) (extractStridedSlice S8192x5632 ![0, 5632] u slices_S8192x11264_S8192x5632_0_5632) (ix3 s R C)
      = u (ix2 R (hcol s C)) := by
  rcases (show s = 0 ∨ s = 1 by omega) with rfl | rfl
  · rw [pair_0]
    exact extractStridedSlice_apply ![0, 0] u slices_S8192x11264_S8192x5632_0_0 (ix2 R C) (ix2 R (hcol 0 C)) (fun a => match a with
      | ⟨0, _⟩ => by show R.val = 0 + R.val; omega
      | ⟨1, _⟩ => by show 0 * 5632 + C.val = 0 + C.val; omega)
  · rw [pair_1]
    exact extractStridedSlice_apply ![0, 5632] u slices_S8192x11264_S8192x5632_0_5632 (ix2 R C) (ix2 R (hcol 1 C)) (fun a => match a with
      | ⟨0, _⟩ => by show R.val = 0 + R.val; omega
      | ⟨1, _⟩ => by show 1 * 5632 + C.val = 5632 + C.val; omega)

theorem v83_eq (s : Fin 2) (R : Fin 8192) (C : Fin 5632) :
    val_main_v83 (F := Ideal) u w b d y (ix3 s R C) = val_main_v75 (F := Ideal) u w b d y (ix2 R (hcol s C)) := by
  rcases (show s = 0 ∨ s = 1 by omega) with rfl | rfl
  · exact v83_eq_0 u w b d y R C (hcol 0 C) (by show 0 * 5632 + C.val = C.val; omega)
  · exact v83_eq_1 u w b d y R C (hcol 1 C) (by show 1 * 5632 + C.val = 5632 + C.val; omega)

theorem v88_eq (s : Fin 2) (a : Fin 8) (C : Fin 5632) :
    val_main_v88 (F := Ideal) u w b d y (ix3 s a C) = val_main_v77 (F := Ideal) u w b d y (ix2 a (hcol s C)) := by
  rcases (show s = 0 ∨ s = 1 by omega) with rfl | rfl
  · exact v88_eq_0 u w b d y a C (hcol 0 C) (by show 0 * 5632 + C.val = C.val; omega)
  · exact v88_eq_1 u w b d y a C (hcol 1 C) (by show 1 * 5632 + C.val = 5632 + C.val; omega)

end

/-! ## The two results are the reference's -/

section
variable [Cert.Pre_finite.Facts] (m : (ℓ : Loc nD τ sig) → Buf (Elt Ideal) ℓ) (c : Dev nD)
  (h : Cert.Pre_finite.fn (F := Ideal) (aU m c) (aW m c) (aB m c) (aD m c) (aY m c) = fun _ => 1#1)
include h

theorem launch_eq (s : Fin 2) (C : Fin 5632) (R : ℕ) :
    gD (vY m c) (vW m c) (vA m c) s C R = rD (aU m c) (aW m c) (aB m c) (aD m c) (aY m c) (hcol s C) R := by
  obtain ⟨hu, hw, hb, hd, hy⟩ := fin_args _ _ _ _ _ h
  have e1 : vY m c = _ := host_dy m c
  have e2 : vW m c = _ := host_wd m c
  have e3 : vA m c = _ := host_ab3 m c
  rw [e1, e2, e3]
  exact gD_eq _ _ _ _ _ hu hw hb hd hy s C R

theorem first_eq : gDU (vY m c) (vW m c) (vA m c) (vK m c) = val_main_v83 (F := Ideal) (aU m c) (aW m c) (aB m c) (aD m c) (aY m c) := by
  funext y
  obtain ⟨s, R, C, rfl⟩ : ∃ (s : Fin 2) (R : Fin 8192) (C : Fin 5632), y = ix3 s R C := ⟨y 0, y 1, y 2, funext fun a => match a with
    | ⟨0, _⟩ => rfl
    | ⟨1, _⟩ => rfl
    | ⟨2, _⟩ => rfl⟩
  have e : vK m c = aW m c := V_main_arg1 m c
  rw [v83_eq, du_eq]
  show vK m c (ix2 2 (hcol s C)) * gD (vY m c) (vW m c) (vA m c) s C R.val + vK m c (ix2 1 (hcol s C)) * gD (vY m c) (vW m c) (vA m c) s C (R.val + 1)
    + vK m c (ix2 0 (hcol s C)) * gD (vY m c) (vW m c) (vA m c) s C (R.val + 2) = _
  rw [e, launch_eq m c h, launch_eq m c h, launch_eq m c h]

theorem second_eq : gDC (vY m c) (vW m c) (vU m c) (vA m c) = val_main_v88 (F := Ideal) (aU m c) (aW m c) (aB m c) (aD m c) (aY m c) := by
  funext y
  obtain ⟨s, a, C, rfl⟩ : ∃ (s : Fin 2) (a : Fin 8) (C : Fin 5632), y = ix3 s a C := ⟨y 0, y 1, y 2, funext fun a => match a with
    | ⟨0, _⟩ => rfl
    | ⟨1, _⟩ => rfl
    | ⟨2, _⟩ => rfl⟩
  have e : vU m c = _ := host_u3 m c
  rw [v88_eq, dc_eq]
  show (if a.val < 4 then ∑ R : Fin 8192, gT (vY m c) (vW m c) (vU m c) (vA m c) s C a.val R else 0) = _
  refine if_congr Iff.rfl (Finset.sum_congr rfl fun R _ => ?_) rfl
  unfold gT rT
  rw [launch_eq m c h, launch_eq m c h, launch_eq m c h, e, halves_eq]

end

theorem same {α β γ δ ε ζ : Type} (f : α → β → γ → δ → ε → ζ) {a a' : α} {b b' : β} {c c' : γ} {d d' : δ} {e e' : ε}
    (ha : a = a') (hb : b = b') (hc : c = c') (hd : d = d') (he : e = e') : f a b c d e = f a' b' c' d' e' := by
  subst ha hb hc hd he; rfl

theorem equal [Cert.Pre_finite.Facts] : Cert.algebraic_KernelIdeal_ReferenceIdeal_pre_finite := by
  intro m g m' g' hpre hagree
  refine ⟨fun c => val_main_v83 (F := Ideal) (aU m c) (aW m c) (aB m c) (aD m c) (aY m c), fun c => val_main_v88 (F := Ideal) (aU m c) (aW m c) (aB m c) (aD m c) (aY m c), ?_, ?_⟩
  · refine (θ_run defs _ _).mono (fun r h c => ?_) (θ_run_and (ends m g) (frame_ideal m g))
    exact ⟨(h.1 c).1.trans (first_eq m c (hpre c)), (h.1 c).2.trans (second_eq m c (hpre c)), h.2.1 c⟩
  · refine (θ_run Cert.ReferenceIdeal.defs _ _).mono (fun r h c => ?_) (Cert.ReferenceIdeal.Value.run (F := Ideal) m' g')
    obtain ⟨a0, a1, a2, a3, a4⟩ := hagree c
    exact ⟨((h c).1.trans (val_main_v83_eq (F := Ideal) _)).trans (same (val_main_v83 (F := Ideal)) a0 a1 a2 a3 a4),
      ((h c).2.1.trans (val_main_v88_eq (F := Ideal) _)).trans (same (val_main_v88 (F := Ideal)) a0 a1 a2 a3 a4), (h c).2.2⟩

end Cert.KernelIdeal.Gate

end
-- ==== Proof.UpTile.lean ====
module

public import proofs.«01_k».proof.Proof.Gen.Kernel6Ideal.Value
public import proofs.«01_k».proof.Proof.Whole
public import Idealize.ShloMosaic.Lib.Tactic
public import Idealize.ShloMosaic.Lib.Claim

@[expose] public section

set_option maxRecDepth 16384

noncomputable section

namespace Cert.Kernel6Ideal.Up

open Idealize.ShloMosaic Idealize.ShloMosaic.TcCoe Idealize.ShloMosaic.Tactic
open Cert.Kernel6Ideal.Gen Cert.Kernel6Ideal.Value

/-! ## What one tile of the up projection holds, from the blocks it reads -/

/-- A column moved down by one row; the first row comes from the end of the tile above. -/
def dn1 (f : Fin 512 → EReal) (e : Fin 8 → EReal) (r : Fin 512) : EReal :=
  if h : r.val < 1 then e ⟨7 + r.val, by omega⟩ else f ⟨r.val - 1, by omega⟩

/-- A column moved down by two rows; the first two rows come from the end of the tile above. -/
def dn2 (f : Fin 512 → EReal) (e : Fin 8 → EReal) (r : Fin 512) : EReal :=
  if h : r.val < 2 then e ⟨6 + r.val, by omega⟩ else f ⟨r.val - 2, by omega⟩

/-- A block of rows times a block of weight columns. -/
def uB (x0 : Vec Ideal S512x2048 .bf16) (x1 : Vec Ideal S2048x1408 .bf16) : FVec Ideal S512x1408 .f32 := fun y =>
  ∑ k : Fin 2048, x0 (ix2 (y 0) k) * x1 (ix2 k (y 1))

/-- The convolution over the rows of a tile, from its taps, its bias and the edge above it. -/
def cv (u : FVec Ideal S512x1408 .f32) (e : Vec Ideal S8x1408 .f32) (w0 w1 w2 b : Vec Ideal S1x1408 .f32) :
    FVec Ideal S512x1408 .f32 := fun y =>
  w0 (ix2 0 (y 1)) * dn2 (fun r => u (ix2 r (y 1))) (fun r => e (ix2 r (y 1))) (y 0)
    + w1 (ix2 0 (y 1)) * dn1 (fun r => u (ix2 r (y 1))) (fun r => e (ix2 r (y 1))) (y 0)
    + w2 (ix2 0 (y 1)) * u y + b (ix2 0 (y 1))

/-- The logistic function, as the kernel writes it. -/
def sg (g : EReal) : EReal :=
  Ideal.div 1 (1 + Ideal.exp (0 - g))

theorem pay5_eq (x0 : Vec Ideal S512x2048 .bf16) (x1 : Vec Ideal S2048x1408 .bf16) : k0_pay5 x0 x1 = uB x0 x1 := by
  funext y; idx_vars y; unfold uB k0_pay5; pointwise; try rfl

theorem pay12_eq (x0 : Vec Ideal S512x2048 .bf16) (x1 : Vec Ideal S2048x1408 .bf16) : k0_pay12 x0 x1 = uB x0 x1 := by
  funext y; idx_vars y; unfold uB k0_pay12; pointwise; try rfl

/-- The tile moved down by one row. -/
def sh1 (u : FVec Ideal S512x1408 .f32) (e : Vec Ideal S8x1408 .f32) : FVec Ideal S512x1408 .f32 :=
  concatenate S512x1408 0 [⟨S8x1408, select (cmpi .slt (iota .tc S8x1408 32 [0] iota_S8x1408_d0_w32) (broadcast S8x1408 1#32))
      (dynamicRotate 0 1#32 none e rotates_S8x1408_d0)
      (extractStridedSlice S8x1408 ![0, 0] (dynamicRotate 0 1#32 none u rotates_S512x1408_d0) slices_S512x1408_o0_0_S8x1408)⟩,
    ⟨S504x1408, extractStridedSlice S504x1408 ![8, 0] (dynamicRotate 0 1#32 none u rotates_S512x1408_d0) slices_S512x1408_o8_0_S504x1408⟩]
    concatenates_S8x1408_S504x1408_S512x1408_d0

/-- The tile moved down by two rows. -/
def sh2 (u : FVec Ideal S512x1408 .f32) (e : Vec Ideal S8x1408 .f32) : FVec Ideal S512x1408 .f32 :=
  concatenate S512x1408 0 [⟨S8x1408, select (cmpi .slt (iota .tc S8x1408 32 [0] iota_S8x1408_d0_w32) (broadcast S8x1408 2#32))
      (dynamicRotate 0 2#32 none e rotates_S8x1408_d0)
      (extractStridedSlice S8x1408 ![0, 0] (dynamicRotate 0 2#32 none u rotates_S512x1408_d0) slices_S512x1408_o0_0_S8x1408)⟩,
    ⟨S504x1408, extractStridedSlice S504x1408 ![8, 0] (dynamicRotate 0 2#32 none u rotates_S512x1408_d0) slices_S512x1408_o8_0_S504x1408⟩]
    concatenates_S8x1408_S504x1408_S512x1408_d0

theorem slt1 : ∀ r : Fin 8, IntOp.cmpi .slt (BitVec.ofNat 32 r.val) 1#32 = if r.val < 1 then 1#1 else 0#1 := by decide
theorem slt2 : ∀ r : Fin 8, IntOp.cmpi .slt (BitVec.ofNat 32 r.val) 2#32 = if r.val < 2 then 1#1 else 0#1 := by decide

theorem sh1_at (u : FVec Ideal S512x1408 .f32) (e : Vec Ideal S8x1408 .f32) (r : Fin 512) (q : Fin 1408) :
    sh1 u e (ix2 r q) = dn1 (fun r => u (ix2 r q)) (fun r => e (ix2 r q)) r := by
  unfold sh1 dn1
  pointwise
  by_cases h8 : r.val < 8
  · rw [dif_pos h8]
    have hc := slt1 ⟨r.val, h8⟩
    dsimp only at hc
    rw [hc]
    by_cases h : r.val < 1
    · rw [if_pos h, dif_pos h]
      show e _ = e _
      congr 2
      apply Fin.ext
      show (r.val + 8 - 1) % 8 = 7 + r.val
      omega
    · rw [if_neg h, dif_neg h]
      show u _ = u _
      congr 2
      apply Fin.ext
      show (r.val + 512 - 1) % 512 = r.val - 1
      have := r.isLt
      omega
  · rw [dif_neg h8, dif_neg (show ¬r.val < 1 by omega)]
    congr 2
    apply Fin.ext
    show (8 + (r.val - 8) + 512 - 1) % 512 = r.val - 1
    have := r.isLt
    omega

theorem sh2_at (u : FVec Ideal S512x1408 .f32) (e : Vec Ideal S8x1408 .f32) (r : Fin 512) (q : Fin 1408) :
    sh2 u e (ix2 r q) = dn2 (fun r => u (ix2 r q)) (fun r => e (ix2 r q)) r := by
  unfold sh2 dn2
  pointwise
  by_cases h8 : r.val < 8
  · rw [dif_pos h8]
    have hc := slt2 ⟨r.val, h8⟩
    dsimp only at hc
    rw [hc]
    by_cases h : r.val < 2
    · rw [if_pos h, dif_pos h]
      show e _ = e _
      congr 2
      apply Fin.ext
      show (r.val + 8 - 2) % 8 = 6 + r.val
      omega
    · rw [if_neg h, dif_neg h]
      show u _ = u _
      congr 2
      apply Fin.ext
      show (r.val + 512 - 2) % 512 = r.val - 2
      have := r.isLt
      omega
  · rw [dif_neg h8, dif_neg (show ¬r.val < 2 by omega)]
    congr 2
    apply Fin.ext
    show (8 + (r.val - 8) + 512 - 2) % 512 = r.val - 2
    have := r.isLt
    omega

theorem conv_gate (x0 : Vec Ideal S512x2048 .bf16) (x1 : Vec Ideal S2048x1408 .bf16) (e : Vec Ideal S8x1408 .f32)
    (w0 w1 w2 b : Vec Ideal S1x1408 .f32) :
    k0_pay10 (k0_pay5 x0 x1) (k0_pay7 x0 x1 e w0) (k0_pay8 x0 x1 e) (k0_pay9 w1) w2 b = cv (uB x0 x1) e w0 w1 w2 b := by
  have h7 : k0_pay7 x0 x1 e w0 = mulf (broadcastTo S512x1408 w0 broadcasts_S1x1408_S512x1408) (sh2 (k0_pay5 x0 x1) e) := rfl
  have h8 : k0_pay8 x0 x1 e = sh1 (k0_pay5 x0 x1) e := rfl
  rw [h7, h8, pay5_eq]
  generalize uB x0 x1 = u
  funext y; idx_vars y
  unfold k0_pay10 k0_pay9
  show _ = w0 (ix2 0 y1) * dn2 (fun r => u (ix2 r y1)) (fun r => e (ix2 r y1)) y0
    + w1 (ix2 0 y1) * dn1 (fun r => u (ix2 r y1)) (fun r => e (ix2 r y1)) y0 + w2 (ix2 0 y1) * u (ix2 y0 y1) + b (ix2 0 y1)
  rw [← sh1_at, ← sh2_at]
  generalize sh1 u e = s1
  generalize sh2 u e = s2
  pointwise

theorem conv_val (x0 : Vec Ideal S512x2048 .bf16) (x1 : Vec Ideal S2048x1408 .bf16) (e : Vec Ideal S8x1408 .f32)
    (w0 w1 w2 b : Vec Ideal S1x1408 .f32) :
    k0_pay16 (k0_pay12 x0 x1) e (k0_pay14 x0 x1 e w0) w1 (iota .tc S8x1408 32 [0] iota_S8x1408_d0_w32) (k0_pay15 x0 x1) 1#32 w2 b
      = cv (uB x0 x1) e w0 w1 w2 b := by
  have h7 : k0_pay14 x0 x1 e w0 = mulf (broadcastTo S512x1408 w0 broadcasts_S1x1408_S512x1408) (sh2 (k0_pay12 x0 x1) e) := rfl
  have h8 : ∀ v65, k0_pay16 (k0_pay12 x0 x1) e v65 w1 (iota .tc S8x1408 32 [0] iota_S8x1408_d0_w32) (k0_pay15 x0 x1) 1#32 w2 b
      = addf (addf (addf v65 (mulf (broadcastTo S512x1408 w1 broadcasts_S1x1408_S512x1408) (sh1 (k0_pay12 x0 x1) e)))
          (mulf (broadcastTo S512x1408 w2 broadcasts_S1x1408_S512x1408) (k0_pay12 x0 x1)))
        (broadcastTo S512x1408 b broadcasts_S1x1408_S512x1408) := fun _ => rfl
  rw [h8, h7, pay12_eq]
  generalize uB x0 x1 = u
  funext y; idx_vars y
  show _ = w0 (ix2 0 y1) * dn2 (fun r => u (ix2 r y1)) (fun r => e (ix2 r y1)) y0
    + w1 (ix2 0 y1) * dn1 (fun r => u (ix2 r y1)) (fun r => e (ix2 r y1)) y0 + w2 (ix2 0 y1) * u (ix2 y0 y1) + b (ix2 0 y1)
  rw [← sh1_at, ← sh2_at]
  generalize sh1 u e = s1
  generalize sh2 u e = s2
  pointwise

theorem pay18_eq (g : FVec Ideal S512x1408 .f32) : k0_pay18 g = fun y => sg (g y) := by
  funext y; idx_vars y; unfold k0_pay18 sg; pointwise; try rfl

theorem pay19_eq (g : FVec Ideal S512x1408 .f32) : k0_pay19 g = fun y => g y * sg (g y) := by
  unfold k0_pay19
  rw [pay18_eq]
  funext y; idx_vars y; pointwise

/-- The edge a tile leaves for the tile below it: its last eight rows. -/
def ed (u : FVec Ideal S512x1408 .f32) : Vec Ideal S8x1408 .f32 := fun y =>
  u (ix2 ⟨504 + (y 0).val, by have : (y 0).val < 8 := (y 0).isLt; omega⟩ (y 1))

theorem pay11_eq (u : FVec Ideal S512x1408 .f32) : k0_pay11 u = ed u := by
  funext y; idx_vars y; unfold k0_pay11 ed; pointwise; try rfl

theorem pay17_eq (u : FVec Ideal S512x1408 .f32) : k0_pay17 u = ed u := by
  funext y; idx_vars y; unfold k0_pay17 ed; pointwise; try rfl

/-- The edge above the first tile. -/
def z8 : Vec Ideal S8x1408 .f32 := fun _ => 0

theorem pay3_eq : k0_pay3 (F := Ideal) = z8 := by
  funext y; idx_vars y; unfold k0_pay3 z8; pointwise; try rfl

theorem pay4_eq : k0_pay4 (F := Ideal) = z8 := by
  funext y; idx_vars y; unfold k0_pay4 z8; pointwise; try rfl

/-- One half laid out with a leading axis. -/
def st {e : EltTy} (a : S512x1408.Idx → Elt Ideal e) : S1x512x1408.Idx → Elt Ideal e := fun y => a (ix2 (y 1) (y 2))

theorem pay6_eq (x0 : Vec Ideal S512x2048 .bf16) (x1 : Vec Ideal S2048x1408 .bf16) :
    k0_pay6 x0 x1 = fun y => uB x0 x1 (ix2 (y 1) (y 2)) := by
  unfold k0_pay6
  rw [pay5_eq]
  generalize uB x0 x1 = u
  funext y; idx_vars y; pointwise

theorem pay13_eq (x0 : Vec Ideal S512x2048 .bf16) (x1 : Vec Ideal S2048x1408 .bf16) :
    k0_pay13 x0 x1 = fun y => uB x0 x1 (ix2 (y 1) (y 2)) := by
  unfold k0_pay13
  rw [pay12_eq]
  generalize uB x0 x1 = u
  funext y; idx_vars y; pointwise

theorem pay1_eq (v : FVec Ideal S512x1408 .bf16) : k0_pay1 v = fun y => v (ix2 (y 1) (y 2)) := by
  funext y; idx_vars y; unfold k0_pay1; pointwise

theorem pay2_eq (v : FVec Ideal S512x1408 .f32) : k0_pay2 v = fun y => v (ix2 (y 1) (y 2)) := by
  funext y; idx_vars y; unfold k0_pay2; pointwise

end Cert.Kernel6Ideal.Up

end
-- ==== Proof.UpPoint.lean ====
module

public import proofs.«01_k».proof.Proof.UpTile
public import proofs.«01_k».proof.Proof.GateTile
public import Idealize.ShloMosaic.Lib.Tactic
public import Idealize.ShloMosaic.Lib.Claim

@[expose] public section

set_option maxRecDepth 16384

noncomputable section

namespace Cert.Kernel6Ideal.Up

open Idealize.ShloMosaic Idealize.ShloMosaic.TcCoe Idealize.ShloMosaic.Tactic
open Cert.Kernel6Ideal.Gen Cert.Kernel6Ideal.Value
open Cert.KernelIdeal.Gate (emb3 emb2 blk readAt_blk read_of_pieces)

/-! ## What a point leaves in each buffer -/

/-- Row `a` of the taps, as a block of one row. -/
def tap (x : Vec Ideal S3x1408 .f32) (a : Fin 3) : Vec Ideal S1x1408 .f32 := fun y => x (ix2 a (y 1))

/-- One convolved half over a tile. -/
def half (x0 : Vec Ideal S512x2048 .bf16) (x1 : Vec Ideal S2048x1408 .bf16) (x3 : Vec Ideal S3x1408 .f32) (x5 : Vec Ideal S1x1408 .f32)
    (e : Vec Ideal S8x1408 .f32) : FVec Ideal S512x1408 .f32 :=
  cv (uB x0 x1) e (tap x3 0) (tap x3 1) (tap x3 2) x5

/-- The two halves of the product, stacked. -/
def g7 (x0 : Vec Ideal S512x2048 .bf16) (x1 x2 : Vec Ideal S2048x1408 .bf16) : Vec Ideal S2x512x1408 .bf16 := fun y =>
  if (y 0).val = 0 then uB x0 x1 (ix2 (y 1) (y 2)) else uB x0 x2 (ix2 (y 1) (y 2))

/-- The slopes of the gated product, stacked. -/
def g8 (g v : FVec Ideal S512x1408 .f32) : Vec Ideal S2x512x1408 .bf16 := fun y =>
  if (y 0).val = 0 then v (ix2 (y 1) (y 2)) * (sg (g (ix2 (y 1) (y 2))) * (1 + g (ix2 (y 1) (y 2)) * (1 - sg (g (ix2 (y 1) (y 2))))))
  else g (ix2 (y 1) (y 2)) * sg (g (ix2 (y 1) (y 2)))

/-- The gated product. -/
def g9 (g v : FVec Ideal S512x1408 .f32) : Vec Ideal S512x1408 .bf16 := fun y => g y * sg (g y) * v y

theorem tap_load {sig : RefSig} {κ : Kind} {sp : Space} {m : Memref sig κ sp S3x1408 .f32} (h : m.IsWhole) (X : Vec Ideal S3x1408 .f32)
    (a : ℕ) (ha : a < 3) (inb) :
    View.readAt (Elt Ideal) m.view (Rect.unit (s := S3x1408) ![a, 0] S1x1408.size inb).toLoadRect (h.unread X) = tap X ⟨a, ha⟩ := by
  refine (readAt_blk m h (Rect.unit (s := S3x1408) ![a, 0] S1x1408.size inb) X).trans (funext fun y => ?_)
  show X _ = X _
  congr 1
  funext b
  apply Fin.ext
  match b with
  | ⟨0, _⟩ => show a + 1 * (y 0).val = a; have : (y 0).val < 1 := (y 0).isLt; omega
  | ⟨1, _⟩ => show 0 + 1 * (y 1).val = (y 1).val; omega

section
variable (x0 : Vec Ideal S512x2048 .bf16) (x1 x2 : Vec Ideal S2048x1408 .bf16) (e0 e1 : Vec Ideal S8x1408 .f32)
  (w0 w1 w2 b v0 v1 v2 d : Vec Ideal S1x1408 .f32)

theorem pay20_eq (g : FVec Ideal S512x1408 .f32) :
    k0_pay20 g (k0_pay12 x0 x2) e1 (k0_pay14 x0 x2 e1 v0) v1 (iota .tc S8x1408 32 [0] iota_S8x1408_d0_w32) (k0_pay15 x0 x2) 1#32 v2 d
      = g9 g (cv (uB x0 x2) e1 v0 v1 v2 d) := by
  unfold k0_pay20
  rw [conv_val, pay19_eq]
  generalize cv (uB x0 x2) e1 v0 v1 v2 d = v
  funext y; idx_vars y; unfold g9; pointwise

theorem pay21_eq (g : FVec Ideal S512x1408 .f32) :
    k0_pay21 g (k0_pay12 x0 x2) e1 (k0_pay14 x0 x2 e1 v0) v1 (iota .tc S8x1408 32 [0] iota_S8x1408_d0_w32) (k0_pay15 x0 x2) 1#32 v2 d
      = fun y => cv (uB x0 x2) e1 v0 v1 v2 d y * (sg (g y) * (1 + g y * (1 - sg (g y)))) := by
  unfold k0_pay21
  rw [conv_val, pay18_eq]
  generalize cv (uB x0 x2) e1 v0 v1 v2 d = v
  funext y; idx_vars y; pointwise

end

/-- Two halves stored one after the other fill a stacked block. -/
theorem stack_read (v : View (Cert.Kernel6Ideal.sig) .tc .vmem S2x512x1408 .bf16) (f : v.ty.Contents (Elt Ideal)) (G : Vec Ideal S2x512x1408 .bf16)
    (p1 p0 : Vec Ideal S1x512x1408 .bf16) (i1 i0)
    (h1 : ∀ (r : Fin 512) (q : Fin 1408), p1 (ix3 0 r q) = G (ix3 1 r q)) (h0 : ∀ (r : Fin 512) (q : Fin 1408), p0 (ix3 0 r q) = G (ix3 0 r q)) :
    v.read (Elt Ideal) (v.writes (Elt Ideal) f [⟨Rect.unit (s := S2x512x1408) ![1, 0, 0] S1x512x1408.size i1, p1⟩,
      ⟨Rect.unit (s := S2x512x1408) ![0, 0, 0] S1x512x1408.size i0, p0⟩]) = G := by
  refine read_of_pieces v f G _ ?_ ?_
  · intro p hp x
    simp only [List.mem_cons, List.not_mem_nil, or_false] at hp
    rcases hp with rfl | rfl
    · show p1 x = G _
      have hx : x = ix3 0 (x 1) (x 2) := by
        funext a
        apply Fin.ext
        match a with
        | ⟨0, _⟩ => show (x 0).val = 0; have : (x 0).val < 1 := (x 0).isLt; omega
        | ⟨1, _⟩ => rfl
        | ⟨2, _⟩ => rfl
      refine (congrArg p1 hx).trans ((h1 (x 1) (x 2)).trans (congrArg G ?_))
      funext a
      apply Fin.ext
      match a with
      | ⟨0, _⟩ => show 1 = 1 + 1 * (x 0).val; have : (x 0).val < 1 := (x 0).isLt; omega
      | ⟨1, _⟩ => show (x 1).val = 0 + 1 * (x 1).val; omega
      | ⟨2, _⟩ => show (x 2).val = 0 + 1 * (x 2).val; omega
    · show p0 x = G _
      have hx : x = ix3 0 (x 1) (x 2) := by
        funext a
        apply Fin.ext
        match a with
        | ⟨0, _⟩ => show (x 0).val = 0; have : (x 0).val < 1 := (x 0).isLt; omega
        | ⟨1, _⟩ => rfl
        | ⟨2, _⟩ => rfl
      refine (congrArg p0 hx).trans ((h0 (x 1) (x 2)).trans (congrArg G ?_))
      funext a
      apply Fin.ext
      match a with
      | ⟨0, _⟩ => show 0 = 0 + 1 * (x 0).val; have : (x 0).val < 1 := (x 0).isLt; omega
      | ⟨1, _⟩ => show (x 1).val = 0 + 1 * (x 1).val; omega
      | ⟨2, _⟩ => show (x 2).val = 0 + 1 * (x 2).val; omega
  · intro y h
    exfalso
    simp only [List.forall_mem_cons] at h
    obtain ⟨a1, a0, -⟩ := h
    have y0 : (y 0).val < 2 := (y 0).isLt
    have y1 : (y 1).val < 512 := (y 1).isLt
    have y2 : (y 2).val < 1408 := (y 2).isLt
    by_cases c : (y 0).val = 0
    · refine a0 ?_
      rw [Rect.mem_set_unit]
      intro a
      fin_cases a
      · show 0 ≤ (y 0).val ∧ (y 0).val < 0 + 1; omega
      · show 0 ≤ (y 1).val ∧ (y 1).val < 0 + 512; omega
      · show 0 ≤ (y 2).val ∧ (y 2).val < 0 + 1408; omega
    · refine a1 ?_
      rw [Rect.mem_set_unit]
      intro a
      fin_cases a
      · show 1 ≤ (y 0).val ∧ (y 0).val < 1 + 1; omega
      · show 0 ≤ (y 1).val ∧ (y 1).val < 0 + 512; omega
      · show 0 ≤ (y 2).val ∧ (y 2).val < 0 + 1408; omega

set_option maxHeartbeats 2000000 in
theorem out0_A_7_eq  (c : Dev nD) (i : grid0.Coords) (arg2 : Memref sig .tc .vmem S512x2048 .bf16) (harg2 : arg2.IsWhole) (arg3 : Memref sig .tc .vmem S2048x1408 .bf16) (harg3 : arg3.IsWhole) (arg4 : Memref sig .tc .vmem S2048x1408 .bf16) (harg4 : arg4.IsWhole) (arg5 : Memref sig .tc .vmem S3x1408 .f32) (harg5 : arg5.IsWhole) (arg6 : Memref sig .tc .vmem S3x1408 .f32) (harg6 : arg6.IsWhole) (arg7 : Memref sig .tc .vmem S1x1408 .f32) (harg7 : arg7.IsWhole) (arg8 : Memref sig .tc .vmem S1x1408 .f32) (harg8 : arg8.IsWhole) (arg9 : Memref sig .tc .vmem S2x512x1408 .bf16) (harg9 : arg9.IsWhole) (arg10 : Memref sig .tc .vmem S2x512x1408 .bf16) (harg10 : arg10.IsWhole) (arg11 : Memref sig .tc .vmem S512x1408 .bf16) (harg11 : arg11.IsWhole) (arg12 : Memref sig .tc .vmem S8x1408 .f32) (harg12 : arg12.IsWhole) (arg13 : Memref sig .tc .vmem S8x1408 .f32) (harg13 : arg13.IsWhole) (hc0 : cond0_0 i)
    (x0 : Vec Ideal S512x2048 .bf16) (x1 : Vec Ideal S2048x1408 .bf16) (x2 : Vec Ideal S2048x1408 .bf16) (x3 : Vec Ideal S3x1408 .f32) (x4 : Vec Ideal S3x1408 .f32) (x5 : Vec Ideal S1x1408 .f32) (x6 : Vec Ideal S1x1408 .f32) :
    out0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 = g7 x0 x1 x2 := by
  unfold out0_A_7 kernelRun0_A
  sl_unfold_words
  dsimp only
  rw [Whole.readAt_all harg2 x0 Whole.z2, Whole.readAt_all harg3 x1 Whole.z2, Whole.readAt_all harg4 x2 Whole.z2]
  rw [pay6_eq, pay13_eq]
  exact stack_read _ _ _ _ _ _ _ (fun _ _ => rfl) (fun _ _ => rfl)

set_option maxHeartbeats 2000000 in
theorem out0_A_8_eq  (c : Dev nD) (i : grid0.Coords) (arg2 : Memref sig .tc .vmem S512x2048 .bf16) (harg2 : arg2.IsWhole) (arg3 : Memref sig .tc .vmem S2048x1408 .bf16) (harg3 : arg3.IsWhole) (arg4 : Memref sig .tc .vmem S2048x1408 .bf16) (harg4 : arg4.IsWhole) (arg5 : Memref sig .tc .vmem S3x1408 .f32) (harg5 : arg5.IsWhole) (arg6 : Memref sig .tc .vmem S3x1408 .f32) (harg6 : arg6.IsWhole) (arg7 : Memref sig .tc .vmem S1x1408 .f32) (harg7 : arg7.IsWhole) (arg8 : Memref sig .tc .vmem S1x1408 .f32) (harg8 : arg8.IsWhole) (arg9 : Memref sig .tc .vmem S2x512x1408 .bf16) (harg9 : arg9.IsWhole) (arg10 : Memref sig .tc .vmem S2x512x1408 .bf16) (harg10 : arg10.IsWhole) (arg11 : Memref sig .tc .vmem S512x1408 .bf16) (harg11 : arg11.IsWhole) (arg12 : Memref sig .tc .vmem S8x1408 .f32) (harg12 : arg12.IsWhole) (arg13 : Memref sig .tc .vmem S8x1408 .f32) (harg13 : arg13.IsWhole) (hc0 : cond0_0 i)
    (x0 : Vec Ideal S512x2048 .bf16) (x1 : Vec Ideal S2048x1408 .bf16) (x2 : Vec Ideal S2048x1408 .bf16) (x3 : Vec Ideal S3x1408 .f32) (x4 : Vec Ideal S3x1408 .f32) (x5 : Vec Ideal S1x1408 .f32) (x6 : Vec Ideal S1x1408 .f32) :
    out0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 = g8 (half x0 x1 x3 x5 z8) (half x0 x2 x4 x6 z8) := by
  unfold out0_A_8 kernelRun0_A
  sl_unfold_words
  dsimp only
  rw [Whole.readAt_all harg2 x0 Whole.z2, Whole.readAt_all harg3 x1 Whole.z2, Whole.readAt_all harg4 x2 Whole.z2, tap_load harg5 x3 0 (by decide), tap_load harg5 x3 1 (by decide), tap_load harg5 x3 2 (by decide), tap_load harg6 x4 0 (by decide), tap_load harg6 x4 1 (by decide), tap_load harg6 x4 2 (by decide), Whole.readAt_all harg7 x5 Whole.z2, Whole.readAt_all harg8 x6 Whole.z2, Whole.readCov_all _ Whole.z2, Whole.readCov_all _ Whole.z2, pay3_eq, pay4_eq]
  rw [pay1_eq, pay2_eq, pay21_eq, conv_gate, pay19_eq]
  exact stack_read _ _ _ _ _ _ _ (fun _ _ => rfl) (fun _ _ => rfl)

set_option maxHeartbeats 2000000 in
theorem out0_A_9_eq  (c : Dev nD) (i : grid0.Coords) (arg2 : Memref sig .tc .vmem S512x2048 .bf16) (harg2 : arg2.IsWhole) (arg3 : Memref sig .tc .vmem S2048x1408 .bf16) (harg3 : arg3.IsWhole) (arg4 : Memref sig .tc .vmem S2048x1408 .bf16) (harg4 : arg4.IsWhole) (arg5 : Memref sig .tc .vmem S3x1408 .f32) (harg5 : arg5.IsWhole) (arg6 : Memref sig .tc .vmem S3x1408 .f32) (harg6 : arg6.IsWhole) (arg7 : Memref sig .tc .vmem S1x1408 .f32) (harg7 : arg7.IsWhole) (arg8 : Memref sig .tc .vmem S1x1408 .f32) (harg8 : arg8.IsWhole) (arg9 : Memref sig .tc .vmem S2x512x1408 .bf16) (harg9 : arg9.IsWhole) (arg10 : Memref sig .tc .vmem S2x512x1408 .bf16) (harg10 : arg10.IsWhole) (arg11 : Memref sig .tc .vmem S512x1408 .bf16) (harg11 : arg11.IsWhole) (arg12 : Memref sig .tc .vmem S8x1408 .f32) (harg12 : arg12.IsWhole) (arg13 : Memref sig .tc .vmem S8x1408 .f32) (harg13 : arg13.IsWhole) (hc0 : cond0_0 i)
    (x0 : Vec Ideal S512x2048 .bf16) (x1 : Vec Ideal S2048x1408 .bf16) (x2 : Vec Ideal S2048x1408 .bf16) (x3 : Vec Ideal S3x1408 .f32) (x4 : Vec Ideal S3x1408 .f32) (x5 : Vec Ideal S1x1408 .f32) (x6 : Vec Ideal S1x1408 .f32) :
    out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 = g9 (half x0 x1 x3 x5 z8) (half x0 x2 x4 x6 z8) := by
  unfold out0_A_9 kernelRun0_A
  sl_unfold_words
  dsimp only
  rw [Whole.readAt_all harg2 x0 Whole.z2, Whole.readAt_all harg3 x1 Whole.z2, Whole.readAt_all harg4 x2 Whole.z2, tap_load harg5 x3 0 (by decide), tap_load harg5 x3 1 (by decide), tap_load harg5 x3 2 (by decide), tap_load harg6 x4 0 (by decide), tap_load harg6 x4 1 (by decide), tap_load harg6 x4 2 (by decide), Whole.readAt_all harg7 x5 Whole.z2, Whole.readAt_all harg8 x6 Whole.z2, Whole.readCov_all _ Whole.z2, Whole.readCov_all _ Whole.z2, pay3_eq, pay4_eq]
  rw [pay20_eq, conv_gate]
  exact Whole.read_all _ _ Whole.z2 _ _ _

set_option maxHeartbeats 2000000 in
theorem sout0_A_0_eq  (c : Dev nD) (i : grid0.Coords) (arg2 : Memref sig .tc .vmem S512x2048 .bf16) (harg2 : arg2.IsWhole) (arg3 : Memref sig .tc .vmem S2048x1408 .bf16) (harg3 : arg3.IsWhole) (arg4 : Memref sig .tc .vmem S2048x1408 .bf16) (harg4 : arg4.IsWhole) (arg5 : Memref sig .tc .vmem S3x1408 .f32) (harg5 : arg5.IsWhole) (arg6 : Memref sig .tc .vmem S3x1408 .f32) (harg6 : arg6.IsWhole) (arg7 : Memref sig .tc .vmem S1x1408 .f32) (harg7 : arg7.IsWhole) (arg8 : Memref sig .tc .vmem S1x1408 .f32) (harg8 : arg8.IsWhole) (arg9 : Memref sig .tc .vmem S2x512x1408 .bf16) (harg9 : arg9.IsWhole) (arg10 : Memref sig .tc .vmem S2x512x1408 .bf16) (harg10 : arg10.IsWhole) (arg11 : Memref sig .tc .vmem S512x1408 .bf16) (harg11 : arg11.IsWhole) (arg12 : Memref sig .tc .vmem S8x1408 .f32) (harg12 : arg12.IsWhole) (arg13 : Memref sig .tc .vmem S8x1408 .f32) (harg13 : arg13.IsWhole) (hc0 : cond0_0 i)
    (x0 : Vec Ideal S512x2048 .bf16) (x1 : Vec Ideal S2048x1408 .bf16) (x2 : Vec Ideal S2048x1408 .bf16) (x3 : Vec Ideal S3x1408 .f32) (x4 : Vec Ideal S3x1408 .f32) (x5 : Vec Ideal S1x1408 .f32) (x6 : Vec Ideal S1x1408 .f32) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 = ed (uB x0 x1) := by
  unfold sout0_A_0 kernelRun0_A
  sl_unfold_words
  dsimp only
  rw [Whole.readAt_all harg2 x0 Whole.z2, Whole.readAt_all harg3 x1 Whole.z2]
  rw [pay11_eq, pay5_eq]
  exact Whole.read_all _ _ Whole.z2 _ _ _

set_option maxHeartbeats 2000000 in
theorem sout0_A_1_eq  (c : Dev nD) (i : grid0.Coords) (arg2 : Memref sig .tc .vmem S512x2048 .bf16) (harg2 : arg2.IsWhole) (arg3 : Memref sig .tc .vmem S2048x1408 .bf16) (harg3 : arg3.IsWhole) (arg4 : Memref sig .tc .vmem S2048x1408 .bf16) (harg4 : arg4.IsWhole) (arg5 : Memref sig .tc .vmem S3x1408 .f32) (harg5 : arg5.IsWhole) (arg6 : Memref sig .tc .vmem S3x1408 .f32) (harg6 : arg6.IsWhole) (arg7 : Memref sig .tc .vmem S1x1408 .f32) (harg7 : arg7.IsWhole) (arg8 : Memref sig .tc .vmem S1x1408 .f32) (harg8 : arg8.IsWhole) (arg9 : Memref sig .tc .vmem S2x512x1408 .bf16) (harg9 : arg9.IsWhole) (arg10 : Memref sig .tc .vmem S2x512x1408 .bf16) (harg10 : arg10.IsWhole) (arg11 : Memref sig .tc .vmem S512x1408 .bf16) (harg11 : arg11.IsWhole) (arg12 : Memref sig .tc .vmem S8x1408 .f32) (harg12 : arg12.IsWhole) (arg13 : Memref sig .tc .vmem S8x1408 .f32) (harg13 : arg13.IsWhole) (hc0 : cond0_0 i)
    (x0 : Vec Ideal S512x2048 .bf16) (x1 : Vec Ideal S2048x1408 .bf16) (x2 : Vec Ideal S2048x1408 .bf16) (x3 : Vec Ideal S3x1408 .f32) (x4 : Vec Ideal S3x1408 .f32) (x5 : Vec Ideal S1x1408 .f32) (x6 : Vec Ideal S1x1408 .f32) :
    sout0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 = ed (uB x0 x2) := by
  unfold sout0_A_1 kernelRun0_A
  sl_unfold_words
  dsimp only
  rw [Whole.readAt_all harg2 x0 Whole.z2, Whole.readAt_all harg4 x2 Whole.z2]
  rw [pay17_eq, pay12_eq]
  exact Whole.read_all _ _ Whole.z2 _ _ _

set_option maxHeartbeats 2000000 in
theorem out0_B_7_eq  (c : Dev nD) (i : grid0.Coords) (arg2 : Memref sig .tc .vmem S512x2048 .bf16) (harg2 : arg2.IsWhole) (arg3 : Memref sig .tc .vmem S2048x1408 .bf16) (harg3 : arg3.IsWhole) (arg4 : Memref sig .tc .vmem S2048x1408 .bf16) (harg4 : arg4.IsWhole) (arg5 : Memref sig .tc .vmem S3x1408 .f32) (harg5 : arg5.IsWhole) (arg6 : Memref sig .tc .vmem S3x1408 .f32) (harg6 : arg6.IsWhole) (arg7 : Memref sig .tc .vmem S1x1408 .f32) (harg7 : arg7.IsWhole) (arg8 : Memref sig .tc .vmem S1x1408 .f32) (harg8 : arg8.IsWhole) (arg9 : Memref sig .tc .vmem S2x512x1408 .bf16) (harg9 : arg9.IsWhole) (arg10 : Memref sig .tc .vmem S2x512x1408 .bf16) (harg10 : arg10.IsWhole) (arg11 : Memref sig .tc .vmem S512x1408 .bf16) (harg11 : arg11.IsWhole) (arg12 : Memref sig .tc .vmem S8x1408 .f32) (harg12 : arg12.IsWhole) (arg13 : Memref sig .tc .vmem S8x1408 .f32) (harg13 : arg13.IsWhole) (hc0 : ¬cond0_0 i)
    (x0 : Vec Ideal S512x2048 .bf16) (x1 : Vec Ideal S2048x1408 .bf16) (x2 : Vec Ideal S2048x1408 .bf16) (x3 : Vec Ideal S3x1408 .f32) (x4 : Vec Ideal S3x1408 .f32) (x5 : Vec Ideal S1x1408 .f32) (x6 : Vec Ideal S1x1408 .f32) (xs0 : Vec Ideal S8x1408 .f32) (xs1 : Vec Ideal S8x1408 .f32) :
    out0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 = g7 x0 x1 x2 := by
  unfold out0_B_7 kernelRun0_B
  sl_unfold_words
  dsimp only
  rw [Whole.readAt_all harg2 x0 Whole.z2, Whole.readAt_all harg3 x1 Whole.z2, Whole.readAt_all harg4 x2 Whole.z2]
  rw [pay6_eq, pay13_eq]
  exact stack_read _ _ _ _ _ _ _ (fun _ _ => rfl) (fun _ _ => rfl)

set_option maxHeartbeats 2000000 in
theorem out0_B_8_eq  (c : Dev nD) (i : grid0.Coords) (arg2 : Memref sig .tc .vmem S512x2048 .bf16) (harg2 : arg2.IsWhole) (arg3 : Memref sig .tc .vmem S2048x1408 .bf16) (harg3 : arg3.IsWhole) (arg4 : Memref sig .tc .vmem S2048x1408 .bf16) (harg4 : arg4.IsWhole) (arg5 : Memref sig .tc .vmem S3x1408 .f32) (harg5 : arg5.IsWhole) (arg6 : Memref sig .tc .vmem S3x1408 .f32) (harg6 : arg6.IsWhole) (arg7 : Memref sig .tc .vmem S1x1408 .f32) (harg7 : arg7.IsWhole) (arg8 : Memref sig .tc .vmem S1x1408 .f32) (harg8 : arg8.IsWhole) (arg9 : Memref sig .tc .vmem S2x512x1408 .bf16) (harg9 : arg9.IsWhole) (arg10 : Memref sig .tc .vmem S2x512x1408 .bf16) (harg10 : arg10.IsWhole) (arg11 : Memref sig .tc .vmem S512x1408 .bf16) (harg11 : arg11.IsWhole) (arg12 : Memref sig .tc .vmem S8x1408 .f32) (harg12 : arg12.IsWhole) (arg13 : Memref sig .tc .vmem S8x1408 .f32) (harg13 : arg13.IsWhole) (hc0 : ¬cond0_0 i)
    (x0 : Vec Ideal S512x2048 .bf16) (x1 : Vec Ideal S2048x1408 .bf16) (x2 : Vec Ideal S2048x1408 .bf16) (x3 : Vec Ideal S3x1408 .f32) (x4 : Vec Ideal S3x1408 .f32) (x5 : Vec Ideal S1x1408 .f32) (x6 : Vec Ideal S1x1408 .f32) (xs0 : Vec Ideal S8x1408 .f32) (xs1 : Vec Ideal S8x1408 .f32) :
    out0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 = g8 (half x0 x1 x3 x5 xs0) (half x0 x2 x4 x6 xs1) := by
  unfold out0_B_8 kernelRun0_B
  sl_unfold_words
  dsimp only
  rw [Whole.readAt_all harg2 x0 Whole.z2, Whole.readAt_all harg3 x1 Whole.z2, Whole.readAt_all harg4 x2 Whole.z2, tap_load harg5 x3 0 (by decide), tap_load harg5 x3 1 (by decide), tap_load harg5 x3 2 (by decide), tap_load harg6 x4 0 (by decide), tap_load harg6 x4 1 (by decide), tap_load harg6 x4 2 (by decide), Whole.readAt_all harg7 x5 Whole.z2, Whole.readAt_all harg8 x6 Whole.z2, Whole.readAt_all harg12 xs0 Whole.z2, Whole.readAt_all harg13 xs1 Whole.z2]
  rw [pay1_eq, pay2_eq, pay21_eq, conv_gate, pay19_eq]
  exact stack_read _ _ _ _ _ _ _ (fun _ _ => rfl) (fun _ _ => rfl)

set_option maxHeartbeats 2000000 in
theorem out0_B_9_eq  (c : Dev nD) (i : grid0.Coords) (arg2 : Memref sig .tc .vmem S512x2048 .bf16) (harg2 : arg2.IsWhole) (arg3 : Memref sig .tc .vmem S2048x1408 .bf16) (harg3 : arg3.IsWhole) (arg4 : Memref sig .tc .vmem S2048x1408 .bf16) (harg4 : arg4.IsWhole) (arg5 : Memref sig .tc .vmem S3x1408 .f32) (harg5 : arg5.IsWhole) (arg6 : Memref sig .tc .vmem S3x1408 .f32) (harg6 : arg6.IsWhole) (arg7 : Memref sig .tc .vmem S1x1408 .f32) (harg7 : arg7.IsWhole) (arg8 : Memref sig .tc .vmem S1x1408 .f32) (harg8 : arg8.IsWhole) (arg9 : Memref sig .tc .vmem S2x512x1408 .bf16) (harg9 : arg9.IsWhole) (arg10 : Memref sig .tc .vmem S2x512x1408 .bf16) (harg10 : arg10.IsWhole) (arg11 : Memref sig .tc .vmem S512x1408 .bf16) (harg11 : arg11.IsWhole) (arg12 : Memref sig .tc .vmem S8x1408 .f32) (harg12 : arg12.IsWhole) (arg13 : Memref sig .tc .vmem S8x1408 .f32) (harg13 : arg13.IsWhole) (hc0 : ¬cond0_0 i)
    (x0 : Vec Ideal S512x2048 .bf16) (x1 : Vec Ideal S2048x1408 .bf16) (x2 : Vec Ideal S2048x1408 .bf16) (x3 : Vec Ideal S3x1408 .f32) (x4 : Vec Ideal S3x1408 .f32) (x5 : Vec Ideal S1x1408 .f32) (x6 : Vec Ideal S1x1408 .f32) (xs0 : Vec Ideal S8x1408 .f32) (xs1 : Vec Ideal S8x1408 .f32) :
    out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 = g9 (half x0 x1 x3 x5 xs0) (half x0 x2 x4 x6 xs1) := by
  unfold out0_B_9 kernelRun0_B
  sl_unfold_words
  dsimp only
  rw [Whole.readAt_all harg2 x0 Whole.z2, Whole.readAt_all harg3 x1 Whole.z2, Whole.readAt_all harg4 x2 Whole.z2, tap_load harg5 x3 0 (by decide), tap_load harg5 x3 1 (by decide), tap_load harg5 x3 2 (by decide), tap_load harg6 x4 0 (by decide), tap_load harg6 x4 1 (by decide), tap_load harg6 x4 2 (by decide), Whole.readAt_all harg7 x5 Whole.z2, Whole.readAt_all harg8 x6 Whole.z2, Whole.readAt_all harg12 xs0 Whole.z2, Whole.readAt_all harg13 xs1 Whole.z2]
  rw [pay20_eq, conv_gate]
  exact Whole.read_all _ _ Whole.z2 _ _ _

set_option maxHeartbeats 2000000 in
theorem sout0_B_0_eq  (c : Dev nD) (i : grid0.Coords) (arg2 : Memref sig .tc .vmem S512x2048 .bf16) (harg2 : arg2.IsWhole) (arg3 : Memref sig .tc .vmem S2048x1408 .bf16) (harg3 : arg3.IsWhole) (arg4 : Memref sig .tc .vmem S2048x1408 .bf16) (harg4 : arg4.IsWhole) (arg5 : Memref sig .tc .vmem S3x1408 .f32) (harg5 : arg5.IsWhole) (arg6 : Memref sig .tc .vmem S3x1408 .f32) (harg6 : arg6.IsWhole) (arg7 : Memref sig .tc .vmem S1x1408 .f32) (harg7 : arg7.IsWhole) (arg8 : Memref sig .tc .vmem S1x1408 .f32) (harg8 : arg8.IsWhole) (arg9 : Memref sig .tc .vmem S2x512x1408 .bf16) (harg9 : arg9.IsWhole) (arg10 : Memref sig .tc .vmem S2x512x1408 .bf16) (harg10 : arg10.IsWhole) (arg11 : Memref sig .tc .vmem S512x1408 .bf16) (harg11 : arg11.IsWhole) (arg12 : Memref sig .tc .vmem S8x1408 .f32) (harg12 : arg12.IsWhole) (arg13 : Memref sig .tc .vmem S8x1408 .f32) (harg13 : arg13.IsWhole) (hc0 : ¬cond0_0 i)
    (x0 : Vec Ideal S512x2048 .bf16) (x1 : Vec Ideal S2048x1408 .bf16) (x2 : Vec Ideal S2048x1408 .bf16) (x3 : Vec Ideal S3x1408 .f32) (x4 : Vec Ideal S3x1408 .f32) (x5 : Vec Ideal S1x1408 .f32) (x6 : Vec Ideal S1x1408 .f32) (xs0 : Vec Ideal S8x1408 .f32) (xs1 : Vec Ideal S8x1408 .f32) :
    sout0_B_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 = ed (uB x0 x1) := by
  unfold sout0_B_0 kernelRun0_B
  sl_unfold_words
  dsimp only
  rw [Whole.readAt_all harg2 x0 Whole.z2, Whole.readAt_all harg3 x1 Whole.z2]
  rw [pay11_eq, pay5_eq]
  exact Whole.read_all _ _ Whole.z2 _ _ _

set_option maxHeartbeats 2000000 in
theorem sout0_B_1_eq  (c : Dev nD) (i : grid0.Coords) (arg2 : Memref sig .tc .vmem S512x2048 .bf16) (harg2 : arg2.IsWhole) (arg3 : Memref sig .tc .vmem S2048x1408 .bf16) (harg3 : arg3.IsWhole) (arg4 : Memref sig .tc .vmem S2048x1408 .bf16) (harg4 : arg4.IsWhole) (arg5 : Memref sig .tc .vmem S3x1408 .f32) (harg5 : arg5.IsWhole) (arg6 : Memref sig .tc .vmem S3x1408 .f32) (harg6 : arg6.IsWhole) (arg7 : Memref sig .tc .vmem S1x1408 .f32) (harg7 : arg7.IsWhole) (arg8 : Memref sig .tc .vmem S1x1408 .f32) (harg8 : arg8.IsWhole) (arg9 : Memref sig .tc .vmem S2x512x1408 .bf16) (harg9 : arg9.IsWhole) (arg10 : Memref sig .tc .vmem S2x512x1408 .bf16) (harg10 : arg10.IsWhole) (arg11 : Memref sig .tc .vmem S512x1408 .bf16) (harg11 : arg11.IsWhole) (arg12 : Memref sig .tc .vmem S8x1408 .f32) (harg12 : arg12.IsWhole) (arg13 : Memref sig .tc .vmem S8x1408 .f32) (harg13 : arg13.IsWhole) (hc0 : ¬cond0_0 i)
    (x0 : Vec Ideal S512x2048 .bf16) (x1 : Vec Ideal S2048x1408 .bf16) (x2 : Vec Ideal S2048x1408 .bf16) (x3 : Vec Ideal S3x1408 .f32) (x4 : Vec Ideal S3x1408 .f32) (x5 : Vec Ideal S1x1408 .f32) (x6 : Vec Ideal S1x1408 .f32) (xs0 : Vec Ideal S8x1408 .f32) (xs1 : Vec Ideal S8x1408 .f32) :
    sout0_B_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 = ed (uB x0 x2) := by
  unfold sout0_B_1 kernelRun0_B
  sl_unfold_words
  dsimp only
  rw [Whole.readAt_all harg2 x0 Whole.z2, Whole.readAt_all harg4 x2 Whole.z2]
  rw [pay17_eq, pay12_eq]
  exact Whole.read_all _ _ Whole.z2 _ _ _

end Cert.Kernel6Ideal.Up

end
-- ==== Proof.UpWhole.lean ====
module

public import proofs.«01_k».proof.Proof.UpPoint

@[expose] public section

set_option maxRecDepth 16384

noncomputable section

namespace Cert.Kernel6Ideal.Up

open Idealize.ShloMosaic Idealize.ShloMosaic.TcCoe
open Cert.Kernel6Ideal.Gen Cert.Kernel6Ideal.Value

/-! ## The results over whole arrays -/

/-- Column `C` of half `s`. -/
def hcol (s : Fin 2) (C : Fin 5632) : Fin 11264 := ⟨s.val * 5632 + C.val, by have := s.isLt; have := C.isLt; omega⟩

section
variable (X : Vec Ideal S8192x2048 .bf16) (W : Vec Ideal S2048x11264 .bf16) (K : Vec Ideal S3x11264 .f32) (B : Vec Ideal S1x11264 .f32)

/-- The up projection at a row and a column. -/
def uG (R : Fin 8192) (C : Fin 11264) : EReal := ∑ k : Fin 2048, X (ix2 R k) * W (ix2 k C)

/-- The up projection with two rows of zeros above it, by row number. -/
def hU (C : Fin 11264) (n : ℕ) : EReal := if h : 2 ≤ n ∧ n - 2 < 8192 then uG X W ⟨n - 2, h.2⟩ C else 0

/-- The convolution down the rows. -/
def cG (C : Fin 11264) (R : ℕ) : EReal :=
  K (ix2 0 C) * hU X W C R + K (ix2 1 C) * hU X W C (R + 1) + K (ix2 2 C) * hU X W C (R + 2) + B (ix2 0 C)

/-- The value half times the slope of the gate half. -/
def slope (g v : EReal) : EReal := v * (sg g * (1 + g * (1 - sg g)))

/-- The two halves of the up projection. -/
def w7 : Vec Ideal S2x8192x5632 .bf16 := fun i => uG X W (i 1) (hcol (i 0) (i 2))

/-- The slopes of the gated activation by its two halves. -/
def w8 : Vec Ideal S2x8192x5632 .bf16 := fun i =>
  if (i 0).val = 0 then slope (cG X W K B (hcol 0 (i 2)) (i 1).val) (cG X W K B (hcol 1 (i 2)) (i 1).val)
  else cG X W K B (hcol 0 (i 2)) (i 1).val * sg (cG X W K B (hcol 0 (i 2)) (i 1).val)

/-- The gated activation. -/
def w9 : Vec Ideal S8192x5632 .bf16 := fun i =>
  cG X W K B (hcol 0 (i 1)) (i 0).val * sg (cG X W K B (hcol 0 (i 1)) (i 0).val) * cG X W K B (hcol 1 (i 1)) (i 0).val

end

theorem dn1_of (f : Fin 512 → EReal) (e : Fin 8 → EReal) (g : ℕ → EReal) (b : ℕ) (hf : ∀ r : Fin 512, f r = g (b + r.val + 2))
    (he : ∀ a : Fin 8, e a = g (b + a.val - 6)) (r : Fin 512) : dn1 f e r = g (b + r.val + 1) := by
  unfold dn1
  split
  · rw [he]; congr 1; show b + (7 + r.val) - 6 = _; omega
  · rw [hf]; congr 1; show b + (r.val - 1) + 2 = _; omega

theorem dn2_of (f : Fin 512 → EReal) (e : Fin 8 → EReal) (g : ℕ → EReal) (b : ℕ) (hf : ∀ r : Fin 512, f r = g (b + r.val + 2))
    (he : ∀ a : Fin 8, e a = g (b + a.val - 6)) (r : Fin 512) : dn2 f e r = g (b + r.val) := by
  unfold dn2
  split
  · rw [he]; congr 1; show b + (6 + r.val) - 6 = _; omega
  · rw [hf]; congr 1; show b + (r.val - 2) + 2 = _; omega

/-! ## The blocks a point reads -/

variable (m : (ℓ : Loc nD τ sig) → Buf (Elt Ideal) ℓ) (ρ : Dev nD → PrngReg)

/-- The normalised rows, the weights, the taps and the bias, as launched. -/
def vX (c : Dev nD) : Vec Ideal S8192x2048 .bf16 := m ((c.tc : Thread nD τ).loc main_arg0)
def vW (c : Dev nD) : Vec Ideal S2048x11264 .bf16 := m ((c.tc : Thread nD τ).loc main_arg1)
def vK (c : Dev nD) : Vec Ideal S3x11264 .f32 := m ((c.tc : Thread nD τ).loc main_arg2)
def vB (c : Dev nD) : Vec Ideal S1x11264 .f32 := m ((c.tc : Thread nD τ).loc main_arg3)

theorem t_lt (t : Fin cfg0.N) : t.val < 64 := lt_of_lt_of_eq t.isLt (show cfg0.N = 64 from N_0)

theorem index0 : ∀ t : Fin cfg0.N, win0_0.index t (0 : Fin 2) = t.val % 16 ∧ win0_0.index t (1 : Fin 2) = 0 :=
  (by decide +kernel : ∀ t : Fin grid0.N, _)
theorem index1 : ∀ t : Fin cfg0.N, win0_1.index t (0 : Fin 2) = 0 ∧ win0_1.index t (1 : Fin 2) = t.val / 16 :=
  (by decide +kernel : ∀ t : Fin grid0.N, _)
theorem index2 : ∀ t : Fin cfg0.N, win0_2.index t (0 : Fin 2) = 0 ∧ win0_2.index t (1 : Fin 2) = t.val / 16 + 4 :=
  (by decide +kernel : ∀ t : Fin grid0.N, _)
theorem index3 : ∀ t : Fin cfg0.N, win0_3.index t (0 : Fin 2) = 0 ∧ win0_3.index t (1 : Fin 2) = t.val / 16 :=
  (by decide +kernel : ∀ t : Fin grid0.N, _)
theorem index4 : ∀ t : Fin cfg0.N, win0_4.index t (0 : Fin 2) = 0 ∧ win0_4.index t (1 : Fin 2) = t.val / 16 + 4 :=
  (by decide +kernel : ∀ t : Fin grid0.N, _)
theorem index5 : ∀ t : Fin cfg0.N, win0_5.index t (0 : Fin 2) = 0 ∧ win0_5.index t (1 : Fin 2) = t.val / 16 :=
  (by decide +kernel : ∀ t : Fin grid0.N, _)
theorem index6 : ∀ t : Fin cfg0.N, win0_6.index t (0 : Fin 2) = 0 ∧ win0_6.index t (1 : Fin 2) = t.val / 16 + 4 :=
  (by decide +kernel : ∀ t : Fin grid0.N, _)
theorem index7 : ∀ t : Fin cfg0.N, win0_7.index t (0 : Fin 3) = 0 ∧ win0_7.index t (1 : Fin 3) = t.val % 16 ∧ win0_7.index t (2 : Fin 3) = t.val / 16 :=
  (by decide +kernel : ∀ t : Fin grid0.N, _)
theorem index8 : ∀ t : Fin cfg0.N, win0_8.index t (0 : Fin 3) = 0 ∧ win0_8.index t (1 : Fin 3) = t.val % 16 ∧ win0_8.index t (2 : Fin 3) = t.val / 16 :=
  (by decide +kernel : ∀ t : Fin grid0.N, _)
theorem index9 : ∀ t : Fin cfg0.N, win0_9.index t (0 : Fin 2) = t.val % 16 ∧ win0_9.index t (1 : Fin 2) = t.val / 16 :=
  (by decide +kernel : ∀ t : Fin grid0.N, _)

/-- The rows and columns of a point's tile. -/
def row (t : Fin cfg0.N) (r : Fin 512) : Fin 8192 := ⟨t.val % 16 * 512 + r.val, by have := r.isLt; omega⟩
def col (t : Fin cfg0.N) (q : Fin 1408) : Fin 5632 := ⟨t.val / 16 * 1408 + q.val, by have := q.isLt; have := t_lt t; omega⟩

theorem block0 (c : Dev nD) (t : Fin cfg0.N) (r : Fin 512) (k : Fin 2048) : iblk m c 0 t (ix2 r k) = vX m c (ix2 (row t r) (k)) := by
  obtain ⟨e0, e1⟩ := index0 t
  show vX m c (((cfg0.win 0).blk t).view.emb (ix2 r k)) = _
  congr 1; funext a; apply Fin.ext
  match a with
  | ⟨0, _⟩ => show win0_0.index t (0 : Fin 2) * 512 + 1 * r.val = t.val % 16 * 512 + r.val; rw [e0]; omega
  | ⟨1, _⟩ => show win0_0.index t (1 : Fin 2) * 2048 + 1 * k.val = k.val; rw [e1]; omega

theorem block1 (c : Dev nD) (t : Fin cfg0.N) (r : Fin 2048) (k : Fin 1408) : iblk m c 1 t (ix2 r k) = vW m c (ix2 (r) (hcol 0 (col t k))) := by
  obtain ⟨e0, e1⟩ := index1 t
  show vW m c (((cfg0.win 1).blk t).view.emb (ix2 r k)) = _
  congr 1; funext a; apply Fin.ext
  match a with
  | ⟨0, _⟩ => show win0_1.index t (0 : Fin 2) * 2048 + 1 * r.val = r.val; rw [e0]; omega
  | ⟨1, _⟩ => show win0_1.index t (1 : Fin 2) * 1408 + 1 * k.val = 0 * 5632 + (t.val / 16 * 1408 + k.val); rw [e1]; omega

theorem block2 (c : Dev nD) (t : Fin cfg0.N) (r : Fin 2048) (k : Fin 1408) : iblk m c 2 t (ix2 r k) = vW m c (ix2 (r) (hcol 1 (col t k))) := by
  obtain ⟨e0, e1⟩ := index2 t
  show vW m c (((cfg0.win 2).blk t).view.emb (ix2 r k)) = _
  congr 1; funext a; apply Fin.ext
  match a with
  | ⟨0, _⟩ => show win0_2.index t (0 : Fin 2) * 2048 + 1 * r.val = r.val; rw [e0]; omega
  | ⟨1, _⟩ => show win0_2.index t (1 : Fin 2) * 1408 + 1 * k.val = 1 * 5632 + (t.val / 16 * 1408 + k.val); rw [e1]; omega

theorem block3 (c : Dev nD) (t : Fin cfg0.N) (r : Fin 3) (k : Fin 1408) : iblk m c 3 t (ix2 r k) = vK m c (ix2 (r) (hcol 0 (col t k))) := by
  obtain ⟨e0, e1⟩ := index3 t
  show vK m c (((cfg0.win 3).blk t).view.emb (ix2 r k)) = _
  congr 1; funext a; apply Fin.ext
  match a with
  | ⟨0, _⟩ => show win0_3.index t (0 : Fin 2) * 3 + 1 * r.val = r.val; rw [e0]; omega
  | ⟨1, _⟩ => show win0_3.index t (1 : Fin 2) * 1408 + 1 * k.val = 0 * 5632 + (t.val / 16 * 1408 + k.val); rw [e1]; omega

theorem block4 (c : Dev nD) (t : Fin cfg0.N) (r : Fin 3) (k : Fin 1408) : iblk m c 4 t (ix2 r k) = vK m c (ix2 (r) (hcol 1 (col t k))) := by
  obtain ⟨e0, e1⟩ := index4 t
  show vK m c (((cfg0.win 4).blk t).view.emb (ix2 r k)) = _
  congr 1; funext a; apply Fin.ext
  match a with
  | ⟨0, _⟩ => show win0_4.index t (0 : Fin 2) * 3 + 1 * r.val = r.val; rw [e0]; omega
  | ⟨1, _⟩ => show win0_4.index t (1 : Fin 2) * 1408 + 1 * k.val = 1 * 5632 + (t.val / 16 * 1408 + k.val); rw [e1]; omega

theorem block5 (c : Dev nD) (t : Fin cfg0.N) (r : Fin 1) (k : Fin 1408) : iblk m c 5 t (ix2 r k) = vB m c (ix2 (r) (hcol 0 (col t k))) := by
  obtain ⟨e0, e1⟩ := index5 t
  show vB m c (((cfg0.win 5).blk t).view.emb (ix2 r k)) = _
  congr 1; funext a; apply Fin.ext
  match a with
  | ⟨0, _⟩ => show win0_5.index t (0 : Fin 2) * 1 + 1 * r.val = r.val; rw [e0]; omega
  | ⟨1, _⟩ => show win0_5.index t (1 : Fin 2) * 1408 + 1 * k.val = 0 * 5632 + (t.val / 16 * 1408 + k.val); rw [e1]; omega

theorem block6 (c : Dev nD) (t : Fin cfg0.N) (r : Fin 1) (k : Fin 1408) : iblk m c 6 t (ix2 r k) = vB m c (ix2 (r) (hcol 1 (col t k))) := by
  obtain ⟨e0, e1⟩ := index6 t
  show vB m c (((cfg0.win 6).blk t).view.emb (ix2 r k)) = _
  congr 1; funext a; apply Fin.ext
  match a with
  | ⟨0, _⟩ => show win0_6.index t (0 : Fin 2) * 1 + 1 * r.val = r.val; rw [e0]; omega
  | ⟨1, _⟩ => show win0_6.index t (1 : Fin 2) * 1408 + 1 * k.val = 1 * 5632 + (t.val / 16 * 1408 + k.val); rw [e1]; omega

theorem uB0_eq (c : Dev nD) (t : Fin cfg0.N) (r : Fin 512) (q : Fin 1408) :
    uB (iblk m c 0 t) (iblk m c 1 t) (ix2 r q) = uG (vX m c) (vW m c) (row t r) (hcol 0 (col t q)) :=
  Finset.sum_congr rfl fun k _ => congrArg₂ (· * ·) (block0 m c t r k) (block1 m c t k q)

theorem uB0_row (c : Dev nD) (t : Fin cfg0.N) (r : Fin 512) (q : Fin 1408) :
    uB (iblk m c 0 t) (iblk m c 1 t) (ix2 r q) = hU (vX m c) (vW m c) (hcol 0 (col t q)) (t.val % 16 * 512 + r.val + 2) := by
  have := r.isLt
  rw [uB0_eq]
  unfold hU
  rw [dif_pos ⟨by omega, by omega⟩]
  exact congrArg (fun R => uG (vX m c) (vW m c) R (hcol 0 (col t q))) (Fin.ext (show t.val % 16 * 512 + r.val = t.val % 16 * 512 + r.val + 2 - 2 by omega))

theorem uB1_eq (c : Dev nD) (t : Fin cfg0.N) (r : Fin 512) (q : Fin 1408) :
    uB (iblk m c 0 t) (iblk m c 2 t) (ix2 r q) = uG (vX m c) (vW m c) (row t r) (hcol 1 (col t q)) :=
  Finset.sum_congr rfl fun k _ => congrArg₂ (· * ·) (block0 m c t r k) (block2 m c t k q)

theorem uB1_row (c : Dev nD) (t : Fin cfg0.N) (r : Fin 512) (q : Fin 1408) :
    uB (iblk m c 0 t) (iblk m c 2 t) (ix2 r q) = hU (vX m c) (vW m c) (hcol 1 (col t q)) (t.val % 16 * 512 + r.val + 2) := by
  have := r.isLt
  rw [uB1_eq]
  unfold hU
  rw [dif_pos ⟨by omega, by omega⟩]
  exact congrArg (fun R => uG (vX m c) (vW m c) R (hcol 1 (col t q))) (Fin.ext (show t.val % 16 * 512 + r.val = t.val % 16 * 512 + r.val + 2 - 2 by omega))

/-! ## The edges carried from tile to tile -/

theorem pred_lt (t : Fin cfg0.N) : t.val - 1 < cfg0.N := Nat.lt_of_le_of_lt (Nat.sub_le _ _) t.isLt

/-- The edge of half 0 above a tile. -/
def eT0 (c : Dev nD) (t : Fin cfg0.N) : Vec Ideal S8x1408 .f32 :=
  if t.val % 16 = 0 then z8 else ed (uB (iblk m c 0 ⟨t.val - 1, pred_lt t⟩) (iblk m c 1 ⟨t.val - 1, pred_lt t⟩))

theorem eT0_eq (c : Dev nD) (t : Fin cfg0.N) (a : Fin 8) (q : Fin 1408) :
    eT0 m c t (ix2 a q) = hU (vX m c) (vW m c) (hcol 0 (col t q)) (t.val % 16 * 512 + a.val - 6) := by
  have ha := a.isLt
  unfold eT0
  split
  · rename_i h
    unfold hU
    rw [dif_neg (by omega)]
    rfl
  · rename_i h
    show uB (iblk m c 0 ⟨t.val - 1, pred_lt t⟩) (iblk m c 1 ⟨t.val - 1, pred_lt t⟩) (ix2 ⟨504 + a.val, by omega⟩ q) = _
    rw [uB0_row]
    have hc : col ⟨t.val - 1, pred_lt t⟩ q = col t q := Fin.ext (by show (t.val - 1) / 16 * 1408 + q.val = t.val / 16 * 1408 + q.val; omega)
    rw [hc]
    congr 1
    show (t.val - 1) % 16 * 512 + (504 + a.val) + 2 = _
    omega

theorem half0_eq (c : Dev nD) (t : Fin cfg0.N) (r : Fin 512) (q : Fin 1408) :
    half (iblk m c 0 t) (iblk m c 1 t) (iblk m c 3 t) (iblk m c 5 t) (eT0 m c t) (ix2 r q)
      = cG (vX m c) (vW m c) (vK m c) (vB m c) (hcol 0 (col t q)) (t.val % 16 * 512 + r.val) := by
  have h2 := dn2_of (fun r => uB (iblk m c 0 t) (iblk m c 1 t) (ix2 r q)) (fun a => eT0 m c t (ix2 a q)) (hU (vX m c) (vW m c) (hcol 0 (col t q)))
    (t.val % 16 * 512) (fun r => uB0_row m c t r q) (fun a => eT0_eq m c t a q) r
  have h1 := dn1_of (fun r => uB (iblk m c 0 t) (iblk m c 1 t) (ix2 r q)) (fun a => eT0 m c t (ix2 a q)) (hU (vX m c) (vW m c) (hcol 0 (col t q)))
    (t.val % 16 * 512) (fun r => uB0_row m c t r q) (fun a => eT0_eq m c t a q) r
  exact congrArg₂ (· + ·) (congrArg₂ (· + ·) (congrArg₂ (· + ·) (congrArg₂ (· * ·) (block3 m c t 0 q) h2) (congrArg₂ (· * ·) (block3 m c t 1 q) h1))
    (congrArg₂ (· * ·) (block3 m c t 2 q) (uB0_row m c t r q))) (block5 m c t 0 q)

/-- The edge of half 1 above a tile. -/
def eT1 (c : Dev nD) (t : Fin cfg0.N) : Vec Ideal S8x1408 .f32 :=
  if t.val % 16 = 0 then z8 else ed (uB (iblk m c 0 ⟨t.val - 1, pred_lt t⟩) (iblk m c 2 ⟨t.val - 1, pred_lt t⟩))

theorem eT1_eq (c : Dev nD) (t : Fin cfg0.N) (a : Fin 8) (q : Fin 1408) :
    eT1 m c t (ix2 a q) = hU (vX m c) (vW m c) (hcol 1 (col t q)) (t.val % 16 * 512 + a.val - 6) := by
  have ha := a.isLt
  unfold eT1
  split
  · rename_i h
    unfold hU
    rw [dif_neg (by omega)]
    rfl
  · rename_i h
    show uB (iblk m c 0 ⟨t.val - 1, pred_lt t⟩) (iblk m c 2 ⟨t.val - 1, pred_lt t⟩) (ix2 ⟨504 + a.val, by omega⟩ q) = _
    rw [uB1_row]
    have hc : col ⟨t.val - 1, pred_lt t⟩ q = col t q := Fin.ext (by show (t.val - 1) / 16 * 1408 + q.val = t.val / 16 * 1408 + q.val; omega)
    rw [hc]
    congr 1
    show (t.val - 1) % 16 * 512 + (504 + a.val) + 2 = _
    omega

theorem half1_eq (c : Dev nD) (t : Fin cfg0.N) (r : Fin 512) (q : Fin 1408) :
    half (iblk m c 0 t) (iblk m c 2 t) (iblk m c 4 t) (iblk m c 6 t) (eT1 m c t) (ix2 r q)
      = cG (vX m c) (vW m c) (vK m c) (vB m c) (hcol 1 (col t q)) (t.val % 16 * 512 + r.val) := by
  have h2 := dn2_of (fun r => uB (iblk m c 0 t) (iblk m c 2 t) (ix2 r q)) (fun a => eT1 m c t (ix2 a q)) (hU (vX m c) (vW m c) (hcol 1 (col t q)))
    (t.val % 16 * 512) (fun r => uB1_row m c t r q) (fun a => eT1_eq m c t a q) r
  have h1 := dn1_of (fun r => uB (iblk m c 0 t) (iblk m c 2 t) (ix2 r q)) (fun a => eT1 m c t (ix2 a q)) (hU (vX m c) (vW m c) (hcol 1 (col t q)))
    (t.val % 16 * 512) (fun r => uB1_row m c t r q) (fun a => eT1_eq m c t a q) r
  exact congrArg₂ (· + ·) (congrArg₂ (· + ·) (congrArg₂ (· + ·) (congrArg₂ (· * ·) (block4 m c t 0 q) h2) (congrArg₂ (· * ·) (block4 m c t 1 q) h1))
    (congrArg₂ (· * ·) (block4 m c t 2 q) (uB1_row m c t r q))) (block6 m c t 0 q)

theorem edges (c : Dev nD) (t : Fin cfg0.N) : (outsAt0 m c t.val t.isLt).2.2.2.1 = ed (uB (iblk m c 0 t) (iblk m c 1 t))
    ∧ (outsAt0 m c t.val t.isLt).2.2.2.2 = ed (uB (iblk m c 0 t) (iblk m c 2 t)) := by
  by_cases h0 : t.val % 16 = 0
  · rw [outsAt0_A m c t h0]
    dsimp only
    rw [sout0_A_0_eq, sout0_A_1_eq]
    exact ⟨rfl, rfl⟩
  · rw [outsAt0_B m c t h0]
    dsimp only
    rw [sout0_B_0_eq, sout0_B_1_eq]
    exact ⟨rfl, rfl⟩

theorem outs7 (c : Dev nD) (t : Fin cfg0.N) : (outsAt0 m c t.val t.isLt).1 = g7 (iblk m c 0 t) (iblk m c 1 t) (iblk m c 2 t) := by
  by_cases h0 : t.val % 16 = 0
  · rw [outsAt0_A m c t h0]
    dsimp only
    rw [out0_A_7_eq]
  · have e := edges m c ⟨t.val - 1, pred_lt t⟩
    rw [outsAt0_B m c t h0]
    dsimp only
    rw [out0_B_7_eq]

theorem outs8 (c : Dev nD) (t : Fin cfg0.N) : (outsAt0 m c t.val t.isLt).2.1 = g8 (half (iblk m c 0 t) (iblk m c 1 t) (iblk m c 3 t) (iblk m c 5 t) (eT0 m c t)) (half (iblk m c 0 t) (iblk m c 2 t) (iblk m c 4 t) (iblk m c 6 t) (eT1 m c t)) := by
  by_cases h0 : t.val % 16 = 0
  · rw [outsAt0_A m c t h0]
    dsimp only
    rw [out0_A_8_eq, show eT0 m c t = z8 from if_pos h0, show eT1 m c t = z8 from if_pos h0]
  · have e := edges m c ⟨t.val - 1, pred_lt t⟩
    rw [outsAt0_B m c t h0]
    dsimp only
    rw [out0_B_8_eq, show eT0 m c t = _ from if_neg h0, show eT1 m c t = _ from if_neg h0, e.1, e.2]

theorem outs9 (c : Dev nD) (t : Fin cfg0.N) : (outsAt0 m c t.val t.isLt).2.2.1 = g9 (half (iblk m c 0 t) (iblk m c 1 t) (iblk m c 3 t) (iblk m c 5 t) (eT0 m c t)) (half (iblk m c 0 t) (iblk m c 2 t) (iblk m c 4 t) (iblk m c 6 t) (eT1 m c t)) := by
  by_cases h0 : t.val % 16 = 0
  · rw [outsAt0_A m c t h0]
    dsimp only
    rw [out0_A_9_eq, show eT0 m c t = z8 from if_pos h0, show eT1 m c t = z8 from if_pos h0]
  · have e := edges m c ⟨t.val - 1, pred_lt t⟩
    rw [outsAt0_B m c t h0]
    dsimp only
    rw [out0_B_9_eq, show eT0 m c t = _ from if_neg h0, show eT1 m c t = _ from if_neg h0, e.1, e.2]

/-! ## The arrays after the run -/

theorem flushes7 : ∀ t : Fin cfg0.N, (cfg0.win 7).flush t = true :=
  (by decide +kernel : ∀ t : Fin grid0.N, win0_7.flush t = true)
theorem flushes8 : ∀ t : Fin cfg0.N, (cfg0.win 8).flush t = true :=
  (by decide +kernel : ∀ t : Fin grid0.N, win0_8.flush t = true)
theorem flushes9 : ∀ t : Fin cfg0.N, (cfg0.win 9).flush t = true :=
  (by decide +kernel : ∀ t : Fin grid0.N, win0_9.flush t = true)

theorem result7 (c : Dev nD) (i : S2x8192x5632.Idx) : (dats m 0 c).arrAt 7 cfg0.N i = w7 (vX m c) (vW m c) i := by
  have h1 : (i 1).val < 8192 := (i 1).isLt
  have h2 : (i 2).val < 5632 := (i 2).isLt
  have hN : cfg0.N = 64 := N_0
  obtain ⟨t, ht⟩ : ∃ t : Fin cfg0.N, t.val = (i 2).val / 1408 * 16 + (i 1).val / 512 := ⟨⟨(i 2).val / 1408 * 16 + (i 1).val / 512, by rw [hN]; omega⟩, rfl⟩
  obtain ⟨r, hr⟩ : ∃ r : Fin 512, r.val = (i 1).val % 512 := ⟨⟨(i 1).val % 512, Nat.mod_lt _ (by decide)⟩, rfl⟩
  obtain ⟨q, hq⟩ : ∃ q : Fin 1408, q.val = (i 2).val % 1408 := ⟨⟨(i 2).val % 1408, Nat.mod_lt _ (by decide)⟩, rfl⟩
  have hR : row t r = i 1 := Fin.ext (by show t.val % 16 * 512 + r.val = (i 1).val; omega)
  have hC : col t q = i 2 := Fin.ext (by show t.val / 16 * 1408 + q.val = (i 2).val; omega)
  have hb := congrFun ((blocks7 m c t (flushes7 t)).trans (flushed7 m c t)) (ix3 (i 0) r q)
  have he : ((cfg0.win 7).blk t).view.emb (ix3 (i 0) r q) = i := by
    obtain ⟨e0, e1, e2⟩ := index7 t
    funext a
    apply Fin.ext
    match a with
    | ⟨0, _⟩ => show win0_7.index t (0 : Fin 3) * 2 + 1 * (i 0).val = (i 0).val; rw [e0]; omega
    | ⟨1, _⟩ => show win0_7.index t (1 : Fin 3) * 512 + 1 * r.val = (i 1).val; rw [e1]; omega
    | ⟨2, _⟩ => show win0_7.index t (2 : Fin 3) * 1408 + 1 * q.val = (i 2).val; rw [e2]; omega
  refine (congrArg ((dats m 0 c).arrAt 7 cfg0.N) he.symm).trans (hb.trans ?_)
  rw [outs7 m c t]
  show g7 (iblk m c 0 t) (iblk m c 1 t) (iblk m c 2 t) (ix3 (i 0) r q) = uG (vX m c) (vW m c) (i 1) (hcol (i 0) (i 2))
  rcases (show i 0 = (0 : Fin 2) ∨ i 0 = (1 : Fin 2) from (by decide : ∀ s : Fin 2, s = 0 ∨ s = 1) (i 0)) with h | h
  · rw [h]
    exact (uB0_eq m c t r q).trans (congrArg₂ (fun R C => uG (vX m c) (vW m c) R (hcol 0 C)) hR hC)
  · rw [h]
    exact (uB1_eq m c t r q).trans (congrArg₂ (fun R C => uG (vX m c) (vW m c) R (hcol 1 C)) hR hC)

theorem result8 (c : Dev nD) (i : S2x8192x5632.Idx) : (dats m 0 c).arrAt 8 cfg0.N i = w8 (vX m c) (vW m c) (vK m c) (vB m c) i := by
  have h1 : (i 1).val < 8192 := (i 1).isLt
  have h2 : (i 2).val < 5632 := (i 2).isLt
  have hN : cfg0.N = 64 := N_0
  obtain ⟨t, ht⟩ : ∃ t : Fin cfg0.N, t.val = (i 2).val / 1408 * 16 + (i 1).val / 512 := ⟨⟨(i 2).val / 1408 * 16 + (i 1).val / 512, by rw [hN]; omega⟩, rfl⟩
  obtain ⟨r, hr⟩ : ∃ r : Fin 512, r.val = (i 1).val % 512 := ⟨⟨(i 1).val % 512, Nat.mod_lt _ (by decide)⟩, rfl⟩
  obtain ⟨q, hq⟩ : ∃ q : Fin 1408, q.val = (i 2).val % 1408 := ⟨⟨(i 2).val % 1408, Nat.mod_lt _ (by decide)⟩, rfl⟩
  have hR : row t r = i 1 := Fin.ext (by show t.val % 16 * 512 + r.val = (i 1).val; omega)
  have hC : col t q = i 2 := Fin.ext (by show t.val / 16 * 1408 + q.val = (i 2).val; omega)
  have hb := congrFun ((blocks8 m c t (flushes8 t)).trans (flushed8 m c t)) (ix3 (i 0) r q)
  have he : ((cfg0.win 8).blk t).view.emb (ix3 (i 0) r q) = i := by
    obtain ⟨e0, e1, e2⟩ := index8 t
    funext a
    apply Fin.ext
    match a with
    | ⟨0, _⟩ => show win0_8.index t (0 : Fin 3) * 2 + 1 * (i 0).val = (i 0).val; rw [e0]; omega
    | ⟨1, _⟩ => show win0_8.index t (1 : Fin 3) * 512 + 1 * r.val = (i 1).val; rw [e1]; omega
    | ⟨2, _⟩ => show win0_8.index t (2 : Fin 3) * 1408 + 1 * q.val = (i 2).val; rw [e2]; omega
  refine (congrArg ((dats m 0 c).arrAt 8 cfg0.N) he.symm).trans (hb.trans ?_)
  rw [outs8 m c t]
  have g0 : half (iblk m c 0 t) (iblk m c 1 t) (iblk m c 3 t) (iblk m c 5 t) (eT0 m c t) (ix2 r q) = cG (vX m c) (vW m c) (vK m c) (vB m c) (hcol 0 (i 2)) (i 1).val :=
    (half0_eq m c t r q).trans (congrArg₂ (fun C R => cG (vX m c) (vW m c) (vK m c) (vB m c) (hcol 0 C) R) hC (congrArg Fin.val hR))
  have g1 : half (iblk m c 0 t) (iblk m c 2 t) (iblk m c 4 t) (iblk m c 6 t) (eT1 m c t) (ix2 r q) = cG (vX m c) (vW m c) (vK m c) (vB m c) (hcol 1 (i 2)) (i 1).val :=
    (half1_eq m c t r q).trans (congrArg₂ (fun C R => cG (vX m c) (vW m c) (vK m c) (vB m c) (hcol 1 C) R) hC (congrArg Fin.val hR))
  show (if (i 0).val = 0 then slope ((half (iblk m c 0 t) (iblk m c 1 t) (iblk m c 3 t) (iblk m c 5 t) (eT0 m c t)) (ix2 r q)) ((half (iblk m c 0 t) (iblk m c 2 t) (iblk m c 4 t) (iblk m c 6 t) (eT1 m c t)) (ix2 r q)) else (half (iblk m c 0 t) (iblk m c 1 t) (iblk m c 3 t) (iblk m c 5 t) (eT0 m c t)) (ix2 r q) * sg ((half (iblk m c 0 t) (iblk m c 1 t) (iblk m c 3 t) (iblk m c 5 t) (eT0 m c t)) (ix2 r q))) = _
  rw [g0, g1]
  rfl

theorem result9 (c : Dev nD) (i : S8192x5632.Idx) : (dats m 0 c).arrAt 9 cfg0.N i = w9 (vX m c) (vW m c) (vK m c) (vB m c) i := by
  have h1 : (i 0).val < 8192 := (i 0).isLt
  have h2 : (i 1).val < 5632 := (i 1).isLt
  have hN : cfg0.N = 64 := N_0
  obtain ⟨t, ht⟩ : ∃ t : Fin cfg0.N, t.val = (i 1).val / 1408 * 16 + (i 0).val / 512 := ⟨⟨(i 1).val / 1408 * 16 + (i 0).val / 512, by rw [hN]; omega⟩, rfl⟩
  obtain ⟨r, hr⟩ : ∃ r : Fin 512, r.val = (i 0).val % 512 := ⟨⟨(i 0).val % 512, Nat.mod_lt _ (by decide)⟩, rfl⟩
  obtain ⟨q, hq⟩ : ∃ q : Fin 1408, q.val = (i 1).val % 1408 := ⟨⟨(i 1).val % 1408, Nat.mod_lt _ (by decide)⟩, rfl⟩
  have hR : row t r = i 0 := Fin.ext (by show t.val % 16 * 512 + r.val = (i 0).val; omega)
  have hC : col t q = i 1 := Fin.ext (by show t.val / 16 * 1408 + q.val = (i 1).val; omega)
  have hb := congrFun ((blocks9 m c t (flushes9 t)).trans (flushed9 m c t)) (ix2 r q)
  have he : ((cfg0.win 9).blk t).view.emb (ix2 r q) = i := by
    obtain ⟨e0, e1⟩ := index9 t
    funext a
    apply Fin.ext
    match a with
    | ⟨0, _⟩ => show win0_9.index t (0 : Fin 2) * 512 + 1 * r.val = (i 0).val; rw [e0]; omega
    | ⟨1, _⟩ => show win0_9.index t (1 : Fin 2) * 1408 + 1 * q.val = (i 1).val; rw [e1]; omega
  refine (congrArg ((dats m 0 c).arrAt 9 cfg0.N) he.symm).trans (hb.trans ?_)
  rw [outs9 m c t]
  have g0 : half (iblk m c 0 t) (iblk m c 1 t) (iblk m c 3 t) (iblk m c 5 t) (eT0 m c t) (ix2 r q) = cG (vX m c) (vW m c) (vK m c) (vB m c) (hcol 0 (i 1)) (i 0).val :=
    (half0_eq m c t r q).trans (congrArg₂ (fun C R => cG (vX m c) (vW m c) (vK m c) (vB m c) (hcol 0 C) R) hC (congrArg Fin.val hR))
  have g1 : half (iblk m c 0 t) (iblk m c 2 t) (iblk m c 4 t) (iblk m c 6 t) (eT1 m c t) (ix2 r q) = cG (vX m c) (vW m c) (vK m c) (vB m c) (hcol 1 (i 1)) (i 0).val :=
    (half1_eq m c t r q).trans (congrArg₂ (fun C R => cG (vX m c) (vW m c) (vK m c) (vB m c) (hcol 1 C) R) hC (congrArg Fin.val hR))
  show (half (iblk m c 0 t) (iblk m c 1 t) (iblk m c 3 t) (iblk m c 5 t) (eT0 m c t)) (ix2 r q) * sg ((half (iblk m c 0 t) (iblk m c 1 t) (iblk m c 3 t) (iblk m c 5 t) (eT0 m c t)) (ix2 r q)) * (half (iblk m c 0 t) (iblk m c 2 t) (iblk m c 4 t) (iblk m c 6 t) (eT1 m c t)) (ix2 r q) = _
  rw [g0, g1]
  rfl

end Cert.Kernel6Ideal.Up

end
-- ==== Proof.Up.lean ====
module

public import proofs.«01_k».proof.Defs
public import proofs.«01_k».proof.Proof.UpWhole
public import proofs.«01_k».proof.Proof.GateFinite
public import proofs.«01_k».proof.Proof.Gen.Reference6Ideal.Run
public import proofs.«01_k».proof.Proof.Gen.Reference6Ideal.Read

@[expose] public section

set_option maxRecDepth 16384

noncomputable section

namespace Cert.Kernel6Ideal.Up

open Idealize.ShloMosaic Idealize.ShloMosaic.TcCoe
open Cert.Kernel6Ideal.Gen Cert.Kernel6Ideal.Value
open Cert.KernelIdeal.Gate (Fin' fin_add fin_mul fin_sub fin_zero fin_one fin_sum fin_sig fin_of_sub fin_of_all one_index)

section
open Cert.Reference6Ideal Cert.Reference6Ideal.Read

variable (x0 : Vec Ideal Cert.Reference6Ideal.S8192x2048 .bf16) (x1 : Vec Ideal Cert.Reference6Ideal.S2048x11264 .bf16)
  (x2 : Vec Ideal Cert.Reference6Ideal.S3x11264 .f32) (x3 : Vec Ideal Cert.Reference6Ideal.S1x11264 .f32)

/-! ## The reference at an index -/

theorem v2_eq (R : Fin 8192) (C : Fin 11264) : val_main_v2 (F := Ideal) x0 x1 (ix2 R C) = uG x0 x1 R C := by
  rw [val_main_v2_apply]
  refine Finset.sum_congr rfl fun k _ => congrArg₂ (· * ·) (congrArg x0 ?_) (congrArg x1 ?_)
  · funext a; apply Fin.ext
    match a with
    | ⟨0, _⟩ => rfl
    | ⟨1, _⟩ => rfl
  · funext a; apply Fin.ext
    match a with
    | ⟨0, _⟩ => rfl
    | ⟨1, _⟩ => rfl

theorem v4_eq (n : Fin 8194) (C : Fin 11264) : val_main_v4 (F := Ideal) x0 x1 (ix2 n C) = hU x0 x1 C n.val := by
  have hn := n.isLt
  unfold val_main_v4 hU
  by_cases h : n.val < 2
  · rw [dif_neg (by omega)]
    refine (concatenate_pair_apply_left (s₁ := Cert.Reference6Ideal.S2x11264) (s₂ := Cert.Reference6Ideal.S8192x11264) 0 _ _ _ (ix2 n C : Cert.Reference6Ideal.S8194x11264.Idx) rfl (ix2 ⟨n.val, h⟩ C) (fun b => match b with
      | ⟨0, _⟩ => rfl
      | ⟨1, _⟩ => rfl)).trans ?_
    rw [val_main_v3_apply, val_main_cst_apply]
    exact Ideal.ofBits_zero_f32
  · rw [dif_pos ⟨by omega, by omega⟩]
    refine (concatenate_pair_apply_right (s₁ := Cert.Reference6Ideal.S2x11264) (s₂ := Cert.Reference6Ideal.S8192x11264) 0 _ _ _ (ix2 n C : Cert.Reference6Ideal.S8194x11264.Idx) rfl rfl (ix2 ⟨n.val - 2, by omega⟩ C) (fun b hb => match b with
      | ⟨0, _⟩ => absurd rfl hb
      | ⟨1, _⟩ => rfl) (by show n.val - 2 + 2 = n.val; omega)).trans ?_
    exact v2_eq x0 x1 _ C

theorem tap0 (R : Fin 8192) (C : Fin 11264) : val_main_v9 (F := Ideal) x2 (ix2 R C) = x2 (ix2 0 C) := by
  rw [val_main_v9_apply, val_main_v8_apply, val_main_v6_apply, val_main_v5_apply]
  congr 1; funext a; apply Fin.ext
  match a with
  | ⟨0, _⟩ => rfl
  | ⟨1, _⟩ => simp

theorem tap1 (R : Fin 8192) (C : Fin 11264) : val_main_v17 (F := Ideal) x2 (ix2 R C) = x2 (ix2 1 C) := by
  rw [val_main_v17_apply, val_main_v16_apply, val_main_v14_apply, val_main_v13_apply]
  congr 1; funext a; apply Fin.ext
  match a with
  | ⟨0, _⟩ => rfl
  | ⟨1, _⟩ => simp

theorem tap2 (R : Fin 8192) (C : Fin 11264) : val_main_v24 (F := Ideal) x2 (ix2 R C) = x2 (ix2 2 C) := by
  rw [val_main_v24_apply, val_main_v23_apply, val_main_v21_apply, val_main_v20_apply]
  congr 1; funext a; apply Fin.ext
  match a with
  | ⟨0, _⟩ => rfl
  | ⟨1, _⟩ => simp

theorem bias_eq (R : Fin 8192) (C : Fin 11264) : val_main_v29 (F := Ideal) x3 (ix2 R C) = x3 (ix2 0 C) := by
  rw [val_main_v29_apply, val_main_v28_apply, val_main_v27_apply]
  congr 1; funext a; apply Fin.ext
  match a with
  | ⟨0, _⟩ => rfl
  | ⟨1, _⟩ => simp

theorem rows0 (R : Fin 8192) (C : Fin 11264) : val_main_v7 (F := Ideal) x0 x1 (ix2 R C) = hU x0 x1 C R.val := by
  rw [val_main_v7_apply]
  refine Eq.trans (congrArg _ ?_) (v4_eq x0 x1 ⟨R.val, by have := R.isLt; omega⟩ C)
  funext a; apply Fin.ext
  match a with
  | ⟨0, _⟩ => rfl
  | ⟨1, _⟩ => rfl

theorem rows1 (R : Fin 8192) (C : Fin 11264) : val_main_v15 (F := Ideal) x0 x1 (ix2 R C) = hU x0 x1 C (R.val + 1) := by
  rw [val_main_v15_apply]
  refine Eq.trans (congrArg _ ?_) (v4_eq x0 x1 ⟨R.val + 1, by have := R.isLt; omega⟩ C)
  funext a; apply Fin.ext
  match a with
  | ⟨0, _⟩ => exact Nat.add_comm 1 R.val
  | ⟨1, _⟩ => rfl

theorem rows2 (R : Fin 8192) (C : Fin 11264) : val_main_v22 (F := Ideal) x0 x1 (ix2 R C) = hU x0 x1 C (R.val + 2) := by
  rw [val_main_v22_apply]
  refine Eq.trans (congrArg _ ?_) (v4_eq x0 x1 ⟨R.val + 2, by have := R.isLt; omega⟩ C)
  funext a; apply Fin.ext
  match a with
  | ⟨0, _⟩ => exact Nat.add_comm 2 R.val
  | ⟨1, _⟩ => rfl

theorem v11_eq (i : Cert.Reference6Ideal.S8192x11264.Idx) : val_main_v11 (F := Ideal) i = (0 : EReal) := by
  rw [val_main_v11_apply, val_main_cst_0_apply]
  exact Ideal.ofBits_zero_f32

/-- The convolved array. -/
theorem v30_eq (R : Fin 8192) (C : Fin 11264) : val_main_v30 (F := Ideal) x0 x1 x2 x3 (ix2 R C) = cG x0 x1 x2 x3 C R.val := by
  rw [val_main_v30_apply, val_main_v26_apply, val_main_v19_apply, val_main_v12_apply, val_main_v10_apply, val_main_v18_apply, val_main_v25_apply]
  rw [tap0, tap1, tap2, bias_eq, rows0, rows1, rows2, v11_eq]
  show (0 : EReal) + x2 (ix2 0 C) * hU x0 x1 C R.val + x2 (ix2 1 C) * hU x0 x1 C (R.val + 1) + x2 (ix2 2 C) * hU x0 x1 C (R.val + 2) + x3 (ix2 0 C) = _
  rw [zero_add]
  rfl

theorem gate_eq (R : Fin 8192) (C : Fin 5632) : val_main_v31 (F := Ideal) x0 x1 x2 x3 (ix2 R C) = cG x0 x1 x2 x3 (hcol 0 C) R.val := by
  rw [val_main_v31_apply]
  refine Eq.trans (congrArg _ ?_) (v30_eq x0 x1 x2 x3 R (hcol 0 C))
  funext a; apply Fin.ext
  match a with
  | ⟨0, _⟩ => rfl
  | ⟨1, _⟩ => show C.val = 0 * 5632 + C.val; omega

theorem val_eq (R : Fin 8192) (C : Fin 5632) : val_main_v32 (F := Ideal) x0 x1 x2 x3 (ix2 R C) = cG x0 x1 x2 x3 (hcol 1 C) R.val := by
  rw [val_main_v32_apply]
  refine Eq.trans (congrArg _ ?_) (v30_eq x0 x1 x2 x3 R (hcol 1 C))
  funext a; apply Fin.ext
  match a with
  | ⟨0, _⟩ => rfl
  | ⟨1, _⟩ => show 5632 + C.val = 1 * 5632 + C.val; omega

theorem sg_neg (g : EReal) : sg g = Ideal.div 1 (1 + Ideal.exp (-g)) := by
  unfold sg; rw [sub_eq_add_neg, zero_add]

/-- The logistic function of the gate. -/
theorem sig_eq (i : Cert.Reference6Ideal.S8192x5632.Idx) : val_main_v33_2 (F := Ideal) x0 x1 x2 x3 i = sg (val_main_v31 (F := Ideal) x0 x1 x2 x3 i) := by
  rw [val_main_v33_2_apply, val_main_call0_v3_apply, val_main_call0_v1_apply, val_main_call0_v0_apply, val_main_call0_v4_apply, val_main_call0_v2_apply,
    val_main_call0_cst_0_apply, val_main_call0_cst_apply]
  show Ideal.div (Ideal.ofBits .f32 0x3F800000#32) (Ideal.ofBits .f32 0x3F800000#32 + Ideal.exp (-(val_main_v31 (F := Ideal) x0 x1 x2 x3 i))) = _
  rw [Ideal.ofBits_one_f32, sg_neg]

theorem act_eq (i : Cert.Reference6Ideal.S8192x5632.Idx) : val_main_v33_0 (F := Ideal) x0 x1 x2 x3 i
    = val_main_v31 (F := Ideal) x0 x1 x2 x3 i * sg (val_main_v31 (F := Ideal) x0 x1 x2 x3 i) := by
  rw [val_main_v33_0_apply, sig_eq]
  rfl

theorem one_eq (i : Cert.Reference6Ideal.S8192x5632.Idx) : val_main_v35 (F := Ideal) i = (1 : EReal) := by
  rw [val_main_v35_apply, val_main_cst_1_apply]
  exact Ideal.ofBits_one_f32

theorem dsig_eq (i : Cert.Reference6Ideal.S8192x5632.Idx) : val_main_v33_1 (F := Ideal) x0 x1 x2 x3 i
    = sg (val_main_v31 (F := Ideal) x0 x1 x2 x3 i) * (1 - sg (val_main_v31 (F := Ideal) x0 x1 x2 x3 i)) := by
  rw [val_main_v33_1_apply, val_main_call0_v7_apply, val_main_call0_v6_apply, val_main_call0_cst_1_apply, sig_eq]
  show sg _ * (Ideal.ofBits .f32 0x3F800000#32 - sg _) = _
  rw [Ideal.ofBits_one_f32]

/-! ## Real numbers -/

theorem fin_sg {g : EReal} (h : Fin' g) : Fin' (sg g) := by rw [sg_neg]; exact fin_sig h

theorem slope_of {g v s : EReal} (hg : Fin' g) (hv : Fin' v) (hs : Fin' s) :
    1 * v * s + g * (1 * v) * (s * (1 - s)) = v * (s * (1 + g * (1 - s))) := by
  obtain ⟨g, rfl⟩ := hg; obtain ⟨v, rfl⟩ := hv; obtain ⟨s, rfl⟩ := hs
  rw [one_mul, ← EReal.coe_one]
  simp only [← EReal.coe_mul, ← EReal.coe_sub, ← EReal.coe_add]
  congr 1; ring

theorem fin_cG (h0 : ∀ i, Fin' (x0 i)) (h1 : ∀ i, Fin' (x1 i)) (h2 : ∀ i, Fin' (x2 i)) (h3 : ∀ i, Fin' (x3 i)) (C : Fin 11264) (R : ℕ) :
    Fin' (cG x0 x1 x2 x3 C R) := by
  have hu : ∀ n, Fin' (hU x0 x1 C n) := fun n => by
    unfold hU
    split
    · exact fin_sum _ fun k => fin_mul (h0 _) (h1 _)
    · exact fin_zero
  exact fin_add (fin_add (fin_add (fin_mul (h2 _) (hu _)) (fin_mul (h2 _) (hu _))) (fin_mul (h2 _) (hu _))) (h3 _)

/-! ## The three results -/

theorem pair3 (i : Cert.Reference6Ideal.S2x8192x5632.Idx) : ∃ (s : Fin 2) (R : Fin 8192) (C : Fin 5632), i = ix3 s R C :=
  ⟨i 0, i 1, i 2, funext fun a => match a with
    | ⟨0, _⟩ => rfl
    | ⟨1, _⟩ => rfl
    | ⟨2, _⟩ => rfl⟩

theorem v43_0 (R : Fin 8192) (C : Fin 5632) : val_main_v43 (F := Ideal) x0 x1 (ix3 0 R C) = uG x0 x1 R (hcol 0 C) := by
  unfold val_main_v43
  refine (concatenate_pair_apply_left (s₁ := Cert.Reference6Ideal.S1x8192x5632) (s₂ := Cert.Reference6Ideal.S1x8192x5632) 0 _ _ _ (ix3 0 R C : Cert.Reference6Ideal.S2x8192x5632.Idx) rfl (ix3 0 R C) (fun b => match b with
    | ⟨0, _⟩ => rfl
    | ⟨1, _⟩ => rfl
    | ⟨2, _⟩ => rfl)).trans ?_
  rw [val_main_v41_apply, val_main_v39_apply]
  refine Eq.trans (congrArg _ ?_) (v2_eq x0 x1 R (hcol 0 C))
  funext a; apply Fin.ext
  match a with
  | ⟨0, _⟩ => rfl
  | ⟨1, _⟩ => show C.val = 0 * 5632 + C.val; omega

theorem v43_1 (R : Fin 8192) (C : Fin 5632) : val_main_v43 (F := Ideal) x0 x1 (ix3 1 R C) = uG x0 x1 R (hcol 1 C) := by
  unfold val_main_v43
  refine (concatenate_pair_apply_right (s₁ := Cert.Reference6Ideal.S1x8192x5632) (s₂ := Cert.Reference6Ideal.S1x8192x5632) 0 _ _ _ (ix3 1 R C : Cert.Reference6Ideal.S2x8192x5632.Idx) rfl rfl (ix3 0 R C) (fun b hb => match b with
    | ⟨0, _⟩ => absurd rfl hb
    | ⟨1, _⟩ => rfl
    | ⟨2, _⟩ => rfl) rfl).trans ?_
  rw [val_main_v42_apply, val_main_v40_apply]
  refine Eq.trans (congrArg _ ?_) (v2_eq x0 x1 R (hcol 1 C))
  funext a; apply Fin.ext
  match a with
  | ⟨0, _⟩ => rfl
  | ⟨1, _⟩ => show 5632 + C.val = 1 * 5632 + C.val; omega

theorem v44_eq : val_main_v44 (F := Ideal) x0 x1 = w7 x0 x1 := by
  funext i
  obtain ⟨s, R, C, rfl⟩ := pair3 i
  show val_main_v43 (F := Ideal) x0 x1 (ix3 s R C) = uG x0 x1 R (hcol s C)
  rcases (show s = 0 ∨ s = 1 by omega) with rfl | rfl
  · exact v43_0 x0 x1 R C
  · exact v43_1 x0 x1 R C

theorem v47_0 (R : Fin 8192) (C : Fin 5632) : val_main_v47 (F := Ideal) x0 x1 x2 x3 (ix3 0 R C) = val_main_v38 (F := Ideal) x0 x1 x2 x3 (ix2 R C) := by
  unfold val_main_v47
  refine (concatenate_pair_apply_left (s₁ := Cert.Reference6Ideal.S1x8192x5632) (s₂ := Cert.Reference6Ideal.S1x8192x5632) 0 _ _ _ (ix3 0 R C : Cert.Reference6Ideal.S2x8192x5632.Idx) rfl (ix3 0 R C) (fun b => match b with
    | ⟨0, _⟩ => rfl
    | ⟨1, _⟩ => rfl
    | ⟨2, _⟩ => rfl)).trans ?_
  rw [val_main_v45_apply]
  congr 1; funext a; apply Fin.ext
  match a with
  | ⟨0, _⟩ => rfl
  | ⟨1, _⟩ => rfl

theorem v47_1 (R : Fin 8192) (C : Fin 5632) : val_main_v47 (F := Ideal) x0 x1 x2 x3 (ix3 1 R C) = val_main_v36 (F := Ideal) x0 x1 x2 x3 (ix2 R C) := by
  unfold val_main_v47
  refine (concatenate_pair_apply_right (s₁ := Cert.Reference6Ideal.S1x8192x5632) (s₂ := Cert.Reference6Ideal.S1x8192x5632) 0 _ _ _ (ix3 1 R C : Cert.Reference6Ideal.S2x8192x5632.Idx) rfl rfl (ix3 0 R C) (fun b hb => match b with
    | ⟨0, _⟩ => absurd rfl hb
    | ⟨1, _⟩ => rfl
    | ⟨2, _⟩ => rfl) rfl).trans ?_
  rw [val_main_v46_apply]
  congr 1; funext a; apply Fin.ext
  match a with
  | ⟨0, _⟩ => rfl
  | ⟨1, _⟩ => rfl

theorem v38_eq (h0 : ∀ i, Fin' (x0 i)) (h1 : ∀ i, Fin' (x1 i)) (h2 : ∀ i, Fin' (x2 i)) (h3 : ∀ i, Fin' (x3 i)) (R : Fin 8192) (C : Fin 5632) :
    val_main_v38 (F := Ideal) x0 x1 x2 x3 (ix2 R C) = slope (cG x0 x1 x2 x3 (hcol 0 C) R.val) (cG x0 x1 x2 x3 (hcol 1 C) R.val) := by
  rw [val_main_v38_apply, val_main_call1_v1_apply, val_main_call1_v2_apply, val_main_call1_v0_apply, val_main_v37_apply, sig_eq, dsig_eq, one_eq, gate_eq, val_eq]
  have hg := fin_cG x0 x1 x2 x3 h0 h1 h2 h3 (hcol 0 C) R.val
  exact slope_of hg (fin_cG x0 x1 x2 x3 h0 h1 h2 h3 (hcol 1 C) R.val) (fin_sg hg)

theorem v36_eq (R : Fin 8192) (C : Fin 5632) : val_main_v36 (F := Ideal) x0 x1 x2 x3 (ix2 R C)
    = cG x0 x1 x2 x3 (hcol 0 C) R.val * sg (cG x0 x1 x2 x3 (hcol 0 C) R.val) := by
  rw [val_main_v36_apply, act_eq, one_eq, gate_eq]
  exact mul_one _

theorem v48_eq (h0 : ∀ i, Fin' (x0 i)) (h1 : ∀ i, Fin' (x1 i)) (h2 : ∀ i, Fin' (x2 i)) (h3 : ∀ i, Fin' (x3 i)) :
    val_main_v48 (F := Ideal) x0 x1 x2 x3 = w8 x0 x1 x2 x3 := by
  funext i
  obtain ⟨s, R, C, rfl⟩ := pair3 i
  show val_main_v47 (F := Ideal) x0 x1 x2 x3 (ix3 s R C) = _
  rcases (show s = 0 ∨ s = 1 by omega) with rfl | rfl
  · rw [v47_0, v38_eq x0 x1 x2 x3 h0 h1 h2 h3]
    rfl
  · rw [v47_1, v36_eq]
    rfl

theorem v49_eq : val_main_v49 (F := Ideal) x0 x1 x2 x3 = w9 x0 x1 x2 x3 := by
  funext i
  obtain ⟨R, C, rfl⟩ : ∃ (R : Fin 8192) (C : Fin 5632), i = ix2 R C := ⟨i 0, i 1, funext fun a => match a with
    | ⟨0, _⟩ => rfl
    | ⟨1, _⟩ => rfl⟩
  show val_main_v34 (F := Ideal) x0 x1 x2 x3 (ix2 R C) = _
  rw [val_main_v34_apply, act_eq, gate_eq, val_eq]
  rfl

end

/-! ## The precondition read back -/

theorem fin_of_all16 {s : Shape} {axes : List (Fin s.rank)} (x : FVec Ideal s .bf16) (hb : Cert.Pre_finite6.S_.BroadcastsInDim s (![] : Fin 0 → Fin s.rank))
    (hr : s.ReducesTo axes Cert.Pre_finite6.S_) (hs : 0 < Cert.Pre_finite6.S_.numel) (j : Cert.Pre_finite6.S_.Idx)
    (e : Host.reduce IntOp.andi (cmpf .oeq (subf x x) (broadcastInDim s ![] hb (constant (F := Ideal) Cert.Pre_finite6.S_ .bf16 0x0000#16)))
      (constantI Cert.Pre_finite6.S_ 1 1#1) hr hs j = 1#1) (i : s.Idx) : Fin' (x i) := by
  haveI := one_index
  have e1 := Host.reduce_andi_all _ _ hr hs j e i
  have e2 : BitVec.ofBool (decide (x i - x i = Ideal.ofBits .bf16 0x0000#16)) = 1#1 := e1
  rw [Ideal.ofBits_zero_bf16] at e2
  refine fin_of_sub (Classical.byContradiction fun h => ?_)
  rw [decide_eq_false h] at e2
  exact absurd e2 (by decide)

theorem fin_args [Cert.Pre_finite6.Facts] (x : Vec Ideal S8192x2048 .bf16) (w : Vec Ideal S2048x11264 .bf16) (k : Vec Ideal S3x11264 .f32)
    (b : Vec Ideal S1x11264 .f32) (h : Cert.Pre_finite6.fn (F := Ideal) x w k b = fun _ => 1#1) :
    (∀ i, Fin' (x i)) ∧ (∀ i, Fin' (w i)) ∧ (∀ i, Fin' (k i)) ∧ (∀ i, Fin' (b i)) := by
  have h0 := congrFun h (fun a => a.elim0)
  unfold Cert.Pre_finite6.fn Cert.Pre_finite6.fn_part1 at h0
  obtain ⟨h1, e3⟩ := IntOp.andi_eq_one.1 h0
  obtain ⟨h2, e2⟩ := IntOp.andi_eq_one.1 h1
  obtain ⟨e0, e1⟩ := IntOp.andi_eq_one.1 h2
  exact ⟨fun i => fin_of_all16 x _ _ _ _ e0 i, fun i => fin_of_all16 w _ _ _ _ e1 i, fun i => fin_of_all k _ _ _ _ e2 i, fun i => fin_of_all b _ _ _ _ e3 i⟩

/-! ## The kernel and its reference -/

theorem same2 {α β ζ : Type} (f : α → β → ζ) {a a' : α} {b b' : β} (ha : a = a') (hb : b = b') : f a b = f a' b' := by
  subst ha hb; rfl

theorem same4 {α β γ δ ζ : Type} (f : α → β → γ → δ → ζ) {a a' : α} {b b' : β} {c c' : γ} {d d' : δ}
    (ha : a = a') (hb : b = b') (hc : c = c') (hd : d = d') : f a b c d = f a' b' c' d' := by
  subst ha hb hc hd; rfl

/-- The kernel and its reference end with equal results. -/
theorem equal [Cert.Pre_finite6.Facts] : Cert.algebraic_Kernel6Ideal_Reference6Ideal_pre_finite6 := by
  intro m g m' g' hpre hagree
  refine ⟨fun c => w7 (vX m c) (vW m c), fun c => w8 (vX m c) (vW m c) (vK m c) (vB m c), fun c => w9 (vX m c) (vW m c) (vK m c) (vB m c), ?_, ?_⟩
  · refine (θ_run defs _ _).mono (fun r h c => ?_) (run_blocks m g)
    exact ⟨(h c).1.trans (funext fun i => result7 m c i), (h c).2.1.trans (funext fun i => result8 m c i), (h c).2.2.1.trans (funext fun i => result9 m c i), (h c).2.2.2⟩
  · refine (θ_run Cert.Reference6Ideal.defs _ _).mono (fun r h c => ?_) (Cert.Reference6Ideal.Value.run (F := Ideal) m' g')
    obtain ⟨a0, a1, a2, a3⟩ := hagree c
    obtain ⟨h0, h1, h2, h3⟩ := fin_args (vX m c) (vW m c) (vK m c) (vB m c) (hpre c)
    exact ⟨(((h c).1.trans (Cert.Reference6Ideal.Read.val_main_v44_eq (F := Ideal) _ _)).trans (same2 (Cert.Reference6Ideal.Read.val_main_v44 (F := Ideal)) a0 a1)).trans (v44_eq _ _),
      (((h c).2.1.trans (Cert.Reference6Ideal.Read.val_main_v48_eq (F := Ideal) m' c)).trans (same4 (Cert.Reference6Ideal.Read.val_main_v48 (F := Ideal)) a0 a1 a2 a3)).trans (v48_eq _ _ _ _ h0 h1 h2 h3),
      (((h c).2.2.1.trans (Cert.Reference6Ideal.Read.val_main_v49_eq (F := Ideal) m' c)).trans (same4 (Cert.Reference6Ideal.Read.val_main_v49 (F := Ideal)) a0 a1 a2 a3)).trans (v49_eq _ _ _ _),
      (h c).2.2.2⟩

end Cert.Kernel6Ideal.Up

end
-- ==== Proof.Qkv.lean ====
module

public import proofs.«01_k».proof.Proof.Gen.Kernel7Ideal.Value
public import proofs.«01_k».proof.Proof.Gen.Reference7Ideal.Run
public import proofs.«01_k».proof.Proof.Gen.Reference7Ideal.Read
public import proofs.«01_k».proof.Proof.Whole
public import proofs.«01_k».proof.Defs
public import Idealize.ShloMosaic.Lib.Tactic
public import Idealize.ShloMosaic.Lib.Claim

@[expose] public section

set_option maxRecDepth 16384

noncomputable section

namespace Cert.Kernel7Ideal.Qkv

open Idealize.ShloMosaic Idealize.ShloMosaic.TcCoe Idealize.ShloMosaic.Tactic
open Cert.Kernel7Ideal.Gen Cert.Kernel7Ideal.Value

/-! ## One point -/

/-- The product of a block of rows with the weights. -/
def prod (x0 : Vec Ideal S512x2048 .bf16) (x1 : Vec Ideal S2048x2560 .bf16) : Vec Ideal S512x2560 .f32 := fun y =>
  (∑ k : Fin 2048, x0 (ix2 (y 0) k) * x1 (ix2 k (y 1)))

theorem pay1_eq (x0 : Vec Ideal S512x2048 .bf16) (x1 : Vec Ideal S2048x2560 .bf16) : k0_pay1 x0 x1 = prod x0 x1 := by
  funext y; idx_vars y; unfold prod k0_pay1; pointwise; try rfl

theorem out_eq (x0 : Vec Ideal S512x2048 .bf16) (x1 : Vec Ideal S2048x2560 .bf16) : out0_2 x0 x1 = prod x0 x1 := by
  unfold out0_2
  rw [View.canon_unit_zero Whole.z2, View.ld_unit_zero Whole.z2, View.ld_unit_zero Whole.z2, pay1_eq]

/-! ## The blocks a point reads -/

variable (m : (ℓ : Loc nD τ sig) → Buf (Elt Ideal) ℓ) (ρ : Dev nD → PrngReg)

theorem index0 : ∀ t : Fin cfg0.N, win0_0.index t (0 : Fin 2) = t.val ∧ win0_0.index t (1 : Fin 2) = 0 :=
  (by decide +kernel : ∀ t : Fin grid0.N, _)

theorem index1 : ∀ t : Fin cfg0.N, win0_1.index t (0 : Fin 2) = 0 ∧ win0_1.index t (1 : Fin 2) = 0 :=
  (by decide +kernel : ∀ t : Fin grid0.N, _)

theorem index2 : ∀ t : Fin cfg0.N, win0_2.index t (0 : Fin 2) = t.val ∧ win0_2.index t (1 : Fin 2) = 0 :=
  (by decide +kernel : ∀ t : Fin grid0.N, _)

/-- The normalised rows and the weights, as launched. -/
abbrev hid (c : Dev nD) : Vec Ideal S8192x2048 .bf16 := m ((c.tc : Thread nD τ).loc main_arg0)
abbrev wqkv (c : Dev nD) : Vec Ideal S2048x2560 .bf16 := m ((c.tc : Thread nD τ).loc main_arg1)

theorem block0 (c : Dev nD) (t : Fin cfg0.N) (r : Fin 512) (k : Fin 2048) :
    iblk m c 0 t (ix2 r k) = hid m c (ix2 ⟨t.val * 512 + r.val, by have := r.isLt; have := lt_of_lt_of_eq t.isLt (show cfg0.N = 16 from N_0); omega⟩ k) := by
  obtain ⟨e0, e1⟩ := index0 t
  have hN := lt_of_lt_of_eq t.isLt (show cfg0.N = _ from N_0)
  show hid m c (((cfg0.win 0).blk t).view.emb (ix2 r k)) = _
  congr 1
  funext a
  apply Fin.ext
  match a with
  | ⟨0, _⟩ => show win0_0.index t (0 : Fin 2) * 512 + 1 * r.val = (t.val) * 512 + r.val; rw [e0]; omega
  | ⟨1, _⟩ => show win0_0.index t (1 : Fin 2) * 2048 + 1 * k.val = k.val; rw [e1]; omega

theorem block1 (c : Dev nD) (t : Fin cfg0.N) (p : Fin 2048) (q : Fin 2560) :
    iblk m c 1 t (ix2 p q) = wqkv m c (ix2 p q) := by
  obtain ⟨e0, e1⟩ := index1 t
  have hN := lt_of_lt_of_eq t.isLt (show cfg0.N = _ from N_0)
  show wqkv m c (((cfg0.win 1).blk t).view.emb (ix2 p q)) = _
  congr 1
  funext a
  apply Fin.ext
  match a with
  | ⟨0, _⟩ => show win0_1.index t (0 : Fin 2) * 2048 + 1 * p.val = p.val; rw [e0]; omega
  | ⟨1, _⟩ => show win0_1.index t (1 : Fin 2) * 2560 + 1 * q.val = q.val; rw [e1]; omega

/-! ## The whole result -/

theorem flushes : ∀ t : Fin cfg0.N, (cfg0.win 2).flush t = true :=
  (by decide +kernel : ∀ t : Fin grid0.N, win0_2.flush t = true)

/-- What the kernel's result holds: the whole product. -/
def whole (c : Dev nD) : Vec Ideal S8192x2560 .f32 := fun i =>
  (∑ k : Fin 2048, hid m c (ix2 (i 0) k) * wqkv m c (ix2 k (i 1)))

theorem result_eq (c : Dev nD) (i : S8192x2560.Idx) : (dats m 0 c).arrAt 2 cfg0.N i = whole m c i := by
  have hi0 : (i 0).val < 8192 := (i 0).isLt
  have hN : cfg0.N = 16 := N_0
  obtain ⟨t, ht⟩ : ∃ t : Fin cfg0.N, t.val = (i 0).val / 512 := ⟨⟨(i 0).val / 512, by rw [hN]; omega⟩, rfl⟩
  obtain ⟨r, hr⟩ : ∃ r : Fin 512, r.val = (i 0).val % 512 := ⟨⟨(i 0).val % 512, Nat.mod_lt _ (by decide)⟩, rfl⟩
  have hb := congrFun ((blocks2 m c t (flushes t)).trans (flushed2 m c t)) (ix2 r (i 1))
  have he : ((cfg0.win 2).blk t).view.emb (ix2 r (i 1)) = i := by
    obtain ⟨e0, e1⟩ := index2 t
    funext a
    apply Fin.ext
    match a with
    | ⟨0, _⟩ => show win0_2.index t (0 : Fin 2) * 512 + 1 * r.val = (i 0).val; rw [e0]; omega
    | ⟨1, _⟩ => show win0_2.index t (1 : Fin 2) * 2560 + 1 * (i 1).val = (i 1).val; rw [e1]; omega
  refine (congrArg ((dats m 0 c).arrAt 2 cfg0.N) he.symm).trans (hb.trans ?_)
  rw [out_eq]
  show prod (iblk m c 0 t) (iblk m c 1 t) (ix2 r (i 1)) = _
  unfold prod whole
  refine Finset.sum_congr rfl fun k _ => congrArg₂ (· * ·) (block0 m c t r k |>.trans (congrArg (hid m c) ?_)) (block1 m c t k (i 1))
  · funext a
    apply Fin.ext
    match a with
    | ⟨0, _⟩ => show t.val * 512 + r.val = (i 0).val; omega
    | ⟨1, _⟩ => rfl

/-! ## The reference -/

section
open Cert.Reference7Ideal.Read

/-- What the reference's result holds. -/
theorem reference_eq (x0 : Vec Ideal S8192x2048 .bf16) (x1 : Vec Ideal S2048x2560 .bf16) (i : S8192x2560.Idx) :
    val_main_v2 (F := Ideal) x0 x1 i = (∑ k : Fin 2048, x0 (ix2 (i 0) k) * x1 (ix2 k (i 1))) := by
  rw [val_main_v2_apply]
  refine Finset.sum_congr rfl fun k _ => ?_
  rw [val_main_v0_apply, val_main_v1_apply]
  refine congrArg₂ (· * ·) (congrArg x0 ?_) (congrArg x1 ?_)
  · funext a
    apply Fin.ext
    match a with
    | ⟨0, _⟩ => rfl
    | ⟨1, _⟩ => rfl
  · funext a
    apply Fin.ext
    match a with
    | ⟨0, _⟩ => rfl
    | ⟨1, _⟩ => rfl

end

/-- The kernel and its reference end with equal results. -/
theorem equal : Cert.algebraic_Kernel7Ideal_Reference7Ideal := by
  pair_intro
  · run_from Cert.Kernel7Ideal.Value.run_blocks m g
  · run_from Cert.Reference7Ideal.Value.run m' g'
    exact (Cert.Reference7Ideal.Read.val_main_v2_eq _ _).trans (funext fun i => (reference_eq _ _ i).trans (result_eq m c i).symm)

end Cert.Kernel7Ideal.Qkv

end
-- ==== Proof.AttnOut.lean ====
module

public import proofs.«01_k».proof.Proof.Gen.Kernel8Ideal.Value
public import proofs.«01_k».proof.Proof.Gen.Reference8Ideal.Run
public import proofs.«01_k».proof.Proof.Gen.Reference8Ideal.Read
public import proofs.«01_k».proof.Proof.Whole
public import proofs.«01_k».proof.Defs
public import Idealize.ShloMosaic.Lib.Tactic
public import Idealize.ShloMosaic.Lib.Claim

@[expose] public section

set_option maxRecDepth 16384

noncomputable section

namespace Cert.Kernel8Ideal.AttnOut

open Idealize.ShloMosaic Idealize.ShloMosaic.TcCoe Idealize.ShloMosaic.Tactic
open Cert.Kernel8Ideal.Gen Cert.Kernel8Ideal.Value

/-! ## One point -/

/-- The product of a block of rows with the weights, and the residual. -/
def prod (x0 : Vec Ideal S512x2048 .bf16) (x1 : Vec Ideal S2048x2048 .bf16) (x2 : Vec Ideal S512x2048 .f32) : Vec Ideal S512x2048 .f32 := fun y =>
  (∑ k : Fin 2048, x0 (ix2 (y 0) k) * x1 (ix2 k (y 1))) + x2 y

theorem pay1_eq (x0 : Vec Ideal S512x2048 .bf16) (x1 : Vec Ideal S2048x2048 .bf16) (x2 : Vec Ideal S512x2048 .f32) : k0_pay1 x0 x1 x2 = prod x0 x1 x2 := by
  funext y; idx_vars y; unfold prod k0_pay1; pointwise; try rfl

theorem out_eq (x0 : Vec Ideal S512x2048 .bf16) (x1 : Vec Ideal S2048x2048 .bf16) (x2 : Vec Ideal S512x2048 .f32) : out0_3 x0 x1 x2 = prod x0 x1 x2 := by
  unfold out0_3
  rw [View.canon_unit_zero Whole.z2, View.ld_unit_zero Whole.z2, View.ld_unit_zero Whole.z2, View.ld_unit_zero Whole.z2, pay1_eq]

/-! ## The blocks a point reads -/

variable (m : (ℓ : Loc nD τ sig) → Buf (Elt Ideal) ℓ) (ρ : Dev nD → PrngReg)

theorem index0 : ∀ t : Fin cfg0.N, win0_0.index t (0 : Fin 2) = t.val ∧ win0_0.index t (1 : Fin 2) = 0 :=
  (by decide +kernel : ∀ t : Fin grid0.N, _)

theorem index1 : ∀ t : Fin cfg0.N, win0_1.index t (0 : Fin 2) = 0 ∧ win0_1.index t (1 : Fin 2) = 0 :=
  (by decide +kernel : ∀ t : Fin grid0.N, _)

theorem index3 : ∀ t : Fin cfg0.N, win0_3.index t (0 : Fin 2) = t.val ∧ win0_3.index t (1 : Fin 2) = 0 :=
  (by decide +kernel : ∀ t : Fin grid0.N, _)

theorem index2 : ∀ t : Fin cfg0.N, win0_2.index t (0 : Fin 2) = t.val ∧ win0_2.index t (1 : Fin 2) = 0 :=
  (by decide +kernel : ∀ t : Fin grid0.N, _)

/-- The heads' outputs, the weights and the residual, as launched. -/
abbrev heads (c : Dev nD) : Vec Ideal S8192x2048 .bf16 := m ((c.tc : Thread nD τ).loc main_arg0)
abbrev wo (c : Dev nD) : Vec Ideal S2048x2048 .bf16 := m ((c.tc : Thread nD τ).loc main_arg1)
abbrev resid (c : Dev nD) : Vec Ideal S8192x2048 .f32 := m ((c.tc : Thread nD τ).loc main_arg2)

theorem block0 (c : Dev nD) (t : Fin cfg0.N) (r : Fin 512) (k : Fin 2048) :
    iblk m c 0 t (ix2 r k) = heads m c (ix2 ⟨t.val * 512 + r.val, by have := r.isLt; have := lt_of_lt_of_eq t.isLt (show cfg0.N = 16 from N_0); omega⟩ k) := by
  obtain ⟨e0, e1⟩ := index0 t
  have hN := lt_of_lt_of_eq t.isLt (show cfg0.N = _ from N_0)
  show heads m c (((cfg0.win 0).blk t).view.emb (ix2 r k)) = _
  congr 1
  funext a
  apply Fin.ext
  match a with
  | ⟨0, _⟩ => show win0_0.index t (0 : Fin 2) * 512 + 1 * r.val = (t.val) * 512 + r.val; rw [e0]; omega
  | ⟨1, _⟩ => show win0_0.index t (1 : Fin 2) * 2048 + 1 * k.val = k.val; rw [e1]; omega

theorem block1 (c : Dev nD) (t : Fin cfg0.N) (p : Fin 2048) (q : Fin 2048) :
    iblk m c 1 t (ix2 p q) = wo m c (ix2 p q) := by
  obtain ⟨e0, e1⟩ := index1 t
  have hN := lt_of_lt_of_eq t.isLt (show cfg0.N = _ from N_0)
  show wo m c (((cfg0.win 1).blk t).view.emb (ix2 p q)) = _
  congr 1
  funext a
  apply Fin.ext
  match a with
  | ⟨0, _⟩ => show win0_1.index t (0 : Fin 2) * 2048 + 1 * p.val = p.val; rw [e0]; omega
  | ⟨1, _⟩ => show win0_1.index t (1 : Fin 2) * 2048 + 1 * q.val = q.val; rw [e1]; omega

theorem block2 (c : Dev nD) (t : Fin cfg0.N) (r : Fin 512) (q : Fin 2048) :
    iblk m c 2 t (ix2 r q) = resid m c (ix2 ⟨t.val * 512 + r.val, by have := r.isLt; have := lt_of_lt_of_eq t.isLt (show cfg0.N = 16 from N_0); omega⟩ q) := by
  obtain ⟨e0, e1⟩ := index2 t
  have hN := lt_of_lt_of_eq t.isLt (show cfg0.N = _ from N_0)
  show resid m c (((cfg0.win 2).blk t).view.emb (ix2 r q)) = _
  congr 1
  funext a
  apply Fin.ext
  match a with
  | ⟨0, _⟩ => show win0_2.index t (0 : Fin 2) * 512 + 1 * r.val = (t.val) * 512 + r.val; rw [e0]; omega
  | ⟨1, _⟩ => show win0_2.index t (1 : Fin 2) * 2048 + 1 * q.val = q.val; rw [e1]; omega

/-! ## The whole result -/

theorem flushes : ∀ t : Fin cfg0.N, (cfg0.win 3).flush t = true :=
  (by decide +kernel : ∀ t : Fin grid0.N, win0_3.flush t = true)

/-- What the kernel's result holds: the whole product and the residual. -/
def whole (c : Dev nD) : Vec Ideal S8192x2048 .f32 := fun i =>
  (∑ k : Fin 2048, heads m c (ix2 (i 0) k) * wo m c (ix2 k (i 1))) + resid m c i

theorem result_eq (c : Dev nD) (i : S8192x2048.Idx) : (dats m 0 c).arrAt 3 cfg0.N i = whole m c i := by
  have hi0 : (i 0).val < 8192 := (i 0).isLt
  have hN : cfg0.N = 16 := N_0
  obtain ⟨t, ht⟩ : ∃ t : Fin cfg0.N, t.val = (i 0).val / 512 := ⟨⟨(i 0).val / 512, by rw [hN]; omega⟩, rfl⟩
  obtain ⟨r, hr⟩ : ∃ r : Fin 512, r.val = (i 0).val % 512 := ⟨⟨(i 0).val % 512, Nat.mod_lt _ (by decide)⟩, rfl⟩
  have hb := congrFun ((blocks3 m c t (flushes t)).trans (flushed3 m c t)) (ix2 r (i 1))
  have he : ((cfg0.win 3).blk t).view.emb (ix2 r (i 1)) = i := by
    obtain ⟨e0, e1⟩ := index3 t
    funext a
    apply Fin.ext
    match a with
    | ⟨0, _⟩ => show win0_3.index t (0 : Fin 2) * 512 + 1 * r.val = (i 0).val; rw [e0]; omega
    | ⟨1, _⟩ => show win0_3.index t (1 : Fin 2) * 2048 + 1 * (i 1).val = (i 1).val; rw [e1]; omega
  refine (congrArg ((dats m 0 c).arrAt 3 cfg0.N) he.symm).trans (hb.trans ?_)
  rw [out_eq]
  show prod (iblk m c 0 t) (iblk m c 1 t) (iblk m c 2 t) (ix2 r (i 1)) = _
  unfold prod whole
  refine congrArg₂ (· + ·) (Finset.sum_congr rfl fun k _ => congrArg₂ (· * ·) (block0 m c t r k |>.trans (congrArg (heads m c) ?_)) (block1 m c t k (i 1))) ((block2 m c t r (i 1)).trans (congrArg (resid m c) ?_))
  · funext a
    apply Fin.ext
    match a with
    | ⟨0, _⟩ => show t.val * 512 + r.val = (i 0).val; omega
    | ⟨1, _⟩ => rfl
  · funext a
    apply Fin.ext
    match a with
    | ⟨0, _⟩ => show t.val * 512 + r.val = (i 0).val; omega
    | ⟨1, _⟩ => rfl

/-! ## The reference -/

section
open Cert.Reference8Ideal.Read

/-- What the reference's result holds. -/
theorem reference_eq (x0 : Vec Ideal S8192x2048 .bf16) (x1 : Vec Ideal S2048x2048 .bf16) (x2 : Vec Ideal S8192x2048 .f32) (i : S8192x2048.Idx) :
    val_main_v3 (F := Ideal) x0 x1 x2 i = (∑ k : Fin 2048, x0 (ix2 (i 0) k) * x1 (ix2 k (i 1))) + x2 i := by
  rw [val_main_v3_apply, val_main_v2_apply]
  refine (add_comm _ _).trans (congrArg (· + x2 i) ?_)
  refine Finset.sum_congr rfl fun k _ => ?_
  rw [val_main_v0_apply, val_main_v1_apply]
  refine congrArg₂ (· * ·) (congrArg x0 ?_) (congrArg x1 ?_)
  · funext a
    apply Fin.ext
    match a with
    | ⟨0, _⟩ => rfl
    | ⟨1, _⟩ => rfl
  · funext a
    apply Fin.ext
    match a with
    | ⟨0, _⟩ => rfl
    | ⟨1, _⟩ => rfl

end

/-- The kernel and its reference end with equal results. -/
theorem equal : Cert.algebraic_Kernel8Ideal_Reference8Ideal := by
  pair_intro
  · run_from Cert.Kernel8Ideal.Value.run_blocks m g
  · run_from Cert.Reference8Ideal.Value.run m' g'
    exact (Cert.Reference8Ideal.Read.val_main_v3_eq _ _ _).trans (funext fun i => (reference_eq _ _ _ i).trans (result_eq m c i).symm)

end Cert.Kernel8Ideal.AttnOut

end
-- ==== Proof.AttnDo.lean ====
module

public import proofs.«01_k».proof.Proof.Gen.Kernel9Ideal.Value
public import proofs.«01_k».proof.Proof.Gen.Reference9Ideal.Run
public import proofs.«01_k».proof.Proof.Gen.Reference9Ideal.Read
public import proofs.«01_k».proof.Proof.Whole
public import proofs.«01_k».proof.Defs
public import Idealize.ShloMosaic.Lib.Tactic
public import Idealize.ShloMosaic.Lib.Claim

@[expose] public section

set_option maxRecDepth 16384

noncomputable section

namespace Cert.Kernel9Ideal.AttnDo

open Idealize.ShloMosaic Idealize.ShloMosaic.TcCoe Idealize.ShloMosaic.Tactic
open Cert.Kernel9Ideal.Gen Cert.Kernel9Ideal.Value

/-! ## One point -/

/-- The product of a block of rows with the weights. -/
def prod (x0 : Vec Ideal S512x2048 .bf16) (x1 : Vec Ideal S2048x2048 .bf16) : Vec Ideal S512x2048 .bf16 := fun y =>
  (∑ k : Fin 2048, x0 (ix2 (y 0) k) * x1 (ix2 (y 1) k))

theorem pay1_eq (x0 : Vec Ideal S512x2048 .bf16) (x1 : Vec Ideal S2048x2048 .bf16) : k0_pay1 x0 x1 = prod x0 x1 := by
  funext y; idx_vars y; unfold prod k0_pay1; pointwise; try rfl

theorem out_eq (x0 : Vec Ideal S512x2048 .bf16) (x1 : Vec Ideal S2048x2048 .bf16) : out0_2 x0 x1 = prod x0 x1 := by
  unfold out0_2
  rw [View.canon_unit_zero Whole.z2, View.ld_unit_zero Whole.z2, View.ld_unit_zero Whole.z2, pay1_eq]

/-! ## The blocks a point reads -/

variable (m : (ℓ : Loc nD τ sig) → Buf (Elt Ideal) ℓ) (ρ : Dev nD → PrngReg)

theorem index0 : ∀ t : Fin cfg0.N, win0_0.index t (0 : Fin 2) = t.val ∧ win0_0.index t (1 : Fin 2) = 0 :=
  (by decide +kernel : ∀ t : Fin grid0.N, _)

theorem index1 : ∀ t : Fin cfg0.N, win0_1.index t (0 : Fin 2) = 0 ∧ win0_1.index t (1 : Fin 2) = 0 :=
  (by decide +kernel : ∀ t : Fin grid0.N, _)

theorem index2 : ∀ t : Fin cfg0.N, win0_2.index t (0 : Fin 2) = t.val ∧ win0_2.index t (1 : Fin 2) = 0 :=
  (by decide +kernel : ∀ t : Fin grid0.N, _)

/-- The gradient and the weights, as launched. -/
abbrev grad (c : Dev nD) : Vec Ideal S8192x2048 .bf16 := m ((c.tc : Thread nD τ).loc main_arg0)
abbrev wo (c : Dev nD) : Vec Ideal S2048x2048 .bf16 := m ((c.tc : Thread nD τ).loc main_arg1)

theorem block0 (c : Dev nD) (t : Fin cfg0.N) (r : Fin 512) (k : Fin 2048) :
    iblk m c 0 t (ix2 r k) = grad m c (ix2 ⟨t.val * 512 + r.val, by have := r.isLt; have := lt_of_lt_of_eq t.isLt (show cfg0.N = 16 from N_0); omega⟩ k) := by
  obtain ⟨e0, e1⟩ := index0 t
  have hN := lt_of_lt_of_eq t.isLt (show cfg0.N = _ from N_0)
  show grad m c (((cfg0.win 0).blk t).view.emb (ix2 r k)) = _
  congr 1
  funext a
  apply Fin.ext
  match a with
  | ⟨0, _⟩ => show win0_0.index t (0 : Fin 2) * 512 + 1 * r.val = (t.val) * 512 + r.val; rw [e0]; omega
  | ⟨1, _⟩ => show win0_0.index t (1 : Fin 2) * 2048 + 1 * k.val = k.val; rw [e1]; omega

theorem block1 (c : Dev nD) (t : Fin cfg0.N) (p : Fin 2048) (q : Fin 2048) :
    iblk m c 1 t (ix2 p q) = wo m c (ix2 p q) := by
  obtain ⟨e0, e1⟩ := index1 t
  have hN := lt_of_lt_of_eq t.isLt (show cfg0.N = _ from N_0)
  show wo m c (((cfg0.win 1).blk t).view.emb (ix2 p q)) = _
  congr 1
  funext a
  apply Fin.ext
  match a with
  | ⟨0, _⟩ => show win0_1.index t (0 : Fin 2) * 2048 + 1 * p.val = p.val; rw [e0]; omega
  | ⟨1, _⟩ => show win0_1.index t (1 : Fin 2) * 2048 + 1 * q.val = q.val; rw [e1]; omega

/-! ## The whole result -/

theorem flushes : ∀ t : Fin cfg0.N, (cfg0.win 2).flush t = true :=
  (by decide +kernel : ∀ t : Fin grid0.N, win0_2.flush t = true)

/-- What the kernel's result holds: the whole product. -/
def whole (c : Dev nD) : Vec Ideal S8192x2048 .bf16 := fun i =>
  (∑ k : Fin 2048, grad m c (ix2 (i 0) k) * wo m c (ix2 (i 1) k))

theorem result_eq (c : Dev nD) (i : S8192x2048.Idx) : (dats m 0 c).arrAt 2 cfg0.N i = whole m c i := by
  have hi0 : (i 0).val < 8192 := (i 0).isLt
  have hN : cfg0.N = 16 := N_0
  obtain ⟨t, ht⟩ : ∃ t : Fin cfg0.N, t.val = (i 0).val / 512 := ⟨⟨(i 0).val / 512, by rw [hN]; omega⟩, rfl⟩
  obtain ⟨r, hr⟩ : ∃ r : Fin 512, r.val = (i 0).val % 512 := ⟨⟨(i 0).val % 512, Nat.mod_lt _ (by decide)⟩, rfl⟩
  have hb := congrFun ((blocks2 m c t (flushes t)).trans (flushed2 m c t)) (ix2 r (i 1))
  have he : ((cfg0.win 2).blk t).view.emb (ix2 r (i 1)) = i := by
    obtain ⟨e0, e1⟩ := index2 t
    funext a
    apply Fin.ext
    match a with
    | ⟨0, _⟩ => show win0_2.index t (0 : Fin 2) * 512 + 1 * r.val = (i 0).val; rw [e0]; omega
    | ⟨1, _⟩ => show win0_2.index t (1 : Fin 2) * 2048 + 1 * (i 1).val = (i 1).val; rw [e1]; omega
  refine (congrArg ((dats m 0 c).arrAt 2 cfg0.N) he.symm).trans (hb.trans ?_)
  rw [out_eq]
  show prod (iblk m c 0 t) (iblk m c 1 t) (ix2 r (i 1)) = _
  unfold prod whole
  refine Finset.sum_congr rfl fun k _ => congrArg₂ (· * ·) (block0 m c t r k |>.trans (congrArg (grad m c) ?_)) (block1 m c t (i 1) k)
  · funext a
    apply Fin.ext
    match a with
    | ⟨0, _⟩ => show t.val * 512 + r.val = (i 0).val; omega
    | ⟨1, _⟩ => rfl

/-! ## The reference -/

section
open Cert.Reference9Ideal.Read

/-- What the reference's result holds. -/
theorem reference_eq (x0 : Vec Ideal S8192x2048 .bf16) (x1 : Vec Ideal S2048x2048 .bf16) (i : S8192x2048.Idx) :
    val_main_v5 (F := Ideal) x0 x1 i = (∑ k : Fin 2048, x0 (ix2 (i 0) k) * x1 (ix2 (i 1) k)) := by
  rw [val_main_v5_apply]
  show val_main_v4 (F := Ideal) x0 x1 i = _
  rw [val_main_v4_apply]
  refine Finset.sum_congr rfl fun k _ => ?_
  rw [val_main_v3_apply, val_main_v1_apply]
  refine congrArg₂ (· * ·) (congrArg x0 ?_) (congrArg x1 ?_)
  · funext a
    apply Fin.ext
    match a with
    | ⟨0, _⟩ => rfl
    | ⟨1, _⟩ => rfl
  · funext a
    apply Fin.ext
    match a with
    | ⟨0, _⟩ => rfl
    | ⟨1, _⟩ => rfl

end

/-- The kernel and its reference end with equal results. -/
theorem equal : Cert.algebraic_Kernel9Ideal_Reference9Ideal := by
  pair_intro
  · run_from Cert.Kernel9Ideal.Value.run_blocks m g
  · run_from Cert.Reference9Ideal.Value.run m' g'
    exact (Cert.Reference9Ideal.Read.val_main_v5_eq _ _).trans (funext fun i => (reference_eq _ _ i).trans (result_eq m c i).symm)

end Cert.Kernel9Ideal.AttnDo

end
-- ==== Proof.AttnDwo.lean ====
module

public import proofs.«01_k».proof.Proof.Gen.Kernel10Ideal.Value
public import proofs.«01_k».proof.Proof.Gen.Reference10Ideal.Run
public import proofs.«01_k».proof.Proof.Gen.Reference10Ideal.Read
public import proofs.«01_k».proof.Proof.Whole
public import proofs.«01_k».proof.Defs
public import Idealize.ShloMosaic.Lib.Tactic
public import Idealize.ShloMosaic.Lib.Claim

@[expose] public section

set_option maxRecDepth 16384

noncomputable section

namespace Cert.Kernel10Ideal.AttnDwo

open Idealize.ShloMosaic Idealize.ShloMosaic.TcCoe Idealize.ShloMosaic.Tactic
open Cert.Kernel10Ideal.Gen Cert.Kernel10Ideal.Value

/-! ## One point -/

/-- The product of a block of transposed attention outputs with a block of gradient columns, over one block of rows. -/
def prod (x0 : Vec Ideal S2048x1024 .bf16) (x1 : Vec Ideal S2048x1024 .bf16) : Vec Ideal S1024x1024 .f32 := fun y =>
  ∑ k : Fin 2048, x0 (ix2 k (y 0)) * x1 (ix2 k (y 1))

theorem pay1_eq (x0 : Vec Ideal S2048x1024 .bf16) (x1 : Vec Ideal S2048x1024 .bf16) : k0_pay1 x0 x1 = prod x0 x1 := by
  funext y; idx_vars y; unfold prod k0_pay1; pointwise; try rfl

theorem pay2_eq (x0 : Vec Ideal S2048x1024 .bf16) (x1 : Vec Ideal S2048x1024 .bf16) : k0_pay2 x0 x1 = prod x0 x1 := by
  unfold k0_pay2
  rw [pay1_eq]
  generalize prod x0 x1 = p
  funext y; idx_vars y; pointwise

theorem pay3_eq (x0 : Vec Ideal S2048x1024 .bf16) (x1 : Vec Ideal S2048x1024 .bf16) (a : Vec Ideal S1024x1024 .f32) :
    k0_pay3 x0 x1 a = fun y => a y + prod x0 x1 y := by
  unfold k0_pay3
  rw [pay1_eq]
  generalize prod x0 x1 = p
  funext y; idx_vars y; pointwise

theorem scrA  (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i) (hc2 : ¬cond0_2 i)
    (x0 : Vec Ideal S2048x1024 .bf16) (x1 : Vec Ideal S2048x1024 .bf16) :
    sout0_A_0 c i arg3 harg3 arg4 harg4 arg5 harg5 arg6 harg6 hc0 hc1 hc2 x0 x1 = prod x0 x1 := by
  unfold sout0_A_0 kernelRun0_A
  sl_unfold_words
  dsimp only
  rw [Whole.readAt_all harg3 x0 Whole.z2, Whole.readAt_all harg4 x1 Whole.z2, pay2_eq]
  exact Whole.read_all _ _ Whole.z2 _ _ _

theorem scrB  (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i) (hc2 : ¬cond0_2 i)
    (x0 : Vec Ideal S2048x1024 .bf16) (x1 : Vec Ideal S2048x1024 .bf16) (xs0 : Vec Ideal S1024x1024 .f32) :
    sout0_B_0 c i arg3 harg3 arg4 harg4 arg5 harg5 arg6 harg6 hc0 hc1 hc2 x0 x1 xs0 = fun y => xs0 y + prod x0 x1 y := by
  unfold sout0_B_0 kernelRun0_B
  sl_unfold_words
  dsimp only
  rw [Whole.readAt_all harg3 x0 Whole.z2, Whole.readAt_all harg4 x1 Whole.z2, Whole.readAt_all harg6 xs0 Whole.z2, pay3_eq]
  exact Whole.read_all _ _ Whole.z2 _ _ _

theorem outC  (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i) (hc2 : cond0_2 i)
    (x0 : Vec Ideal S2048x1024 .bf16) (x1 : Vec Ideal S2048x1024 .bf16) (xs0 : Vec Ideal S1024x1024 .f32) :
    out0_C_2 c i arg3 harg3 arg4 harg4 arg5 harg5 arg6 harg6 hc0 hc1 hc2 x0 x1 xs0 = fun y => xs0 y + prod x0 x1 y := by
  unfold out0_C_2 kernelRun0_C
  sl_unfold_words
  dsimp only
  rw [Whole.readAt_all harg3 x0 Whole.z2, Whole.readAt_all harg4 x1 Whole.z2, Whole.readAt_all harg6 xs0 Whole.z2, pay3_eq,
    Whole.readCov_all _ Whole.z2]
  exact Whole.read_all _ _ Whole.z2 _ _ _

/-! ## The blocks a point reads -/

variable (m : (ℓ : Loc nD τ sig) → Buf (Elt Ideal) ℓ) (ρ : Dev nD → PrngReg)

theorem index0 : ∀ t : Fin cfg0.N, win0_0.index t (0 : Fin 2) = t.val % 4 ∧ win0_0.index t (1 : Fin 2) = t.val / 8 :=
  (by decide +kernel : ∀ t : Fin grid0.N, _)

theorem index1 : ∀ t : Fin cfg0.N, win0_1.index t (0 : Fin 2) = t.val % 4 ∧ win0_1.index t (1 : Fin 2) = t.val / 4 % 2 :=
  (by decide +kernel : ∀ t : Fin grid0.N, _)

/-- The heads' outputs and the gradient, as launched. -/
abbrev heads (c : Dev nD) : Vec Ideal S8192x2048 .bf16 := m ((c.tc : Thread nD τ).loc main_arg0)
abbrev grad (c : Dev nD) : Vec Ideal S8192x2048 .bf16 := m ((c.tc : Thread nD τ).loc main_arg1)

theorem block0 (c : Dev nD) (t : Fin cfg0.N) (k : Fin 2048) (r : Fin 1024) :
    iblk m c 0 t (ix2 k r) = heads m c (ix2 ⟨t.val % 4 * 2048 + k.val, by have := k.isLt; omega⟩ ⟨t.val / 8 * 1024 + r.val, by have := r.isLt; have := lt_of_lt_of_eq t.isLt (show cfg0.N = 16 from N_0); omega⟩) := by
  obtain ⟨e0, e1⟩ := index0 t
  have hN := lt_of_lt_of_eq t.isLt (show cfg0.N = _ from N_0)
  show heads m c (((cfg0.win 0).blk t).view.emb (ix2 k r)) = _
  congr 1
  funext a
  apply Fin.ext
  match a with
  | ⟨0, _⟩ => show win0_0.index t (0 : Fin 2) * 2048 + 1 * k.val = (t.val % 4) * 2048 + k.val; rw [e0]; omega
  | ⟨1, _⟩ => show win0_0.index t (1 : Fin 2) * 1024 + 1 * r.val = (t.val / 8) * 1024 + r.val; rw [e1]; omega

theorem block1 (c : Dev nD) (t : Fin cfg0.N) (k : Fin 2048) (q : Fin 1024) :
    iblk m c 1 t (ix2 k q) = grad m c (ix2 ⟨t.val % 4 * 2048 + k.val, by have := k.isLt; omega⟩ ⟨t.val / 4 % 2 * 1024 + q.val, by have := q.isLt; omega⟩) := by
  obtain ⟨e0, e1⟩ := index1 t
  have hN := lt_of_lt_of_eq t.isLt (show cfg0.N = _ from N_0)
  show grad m c (((cfg0.win 1).blk t).view.emb (ix2 k q)) = _
  congr 1
  funext a
  apply Fin.ext
  match a with
  | ⟨0, _⟩ => show win0_1.index t (0 : Fin 2) * 2048 + 1 * k.val = (t.val % 4) * 2048 + k.val; rw [e0]; omega
  | ⟨1, _⟩ => show win0_1.index t (1 : Fin 2) * 1024 + 1 * q.val = (t.val / 4 % 2) * 1024 + q.val; rw [e1]; omega

/-! ## The whole result -/

/-- The term of the product at row `k` for the result's index `i`. -/
def term (c : Dev nD) (i : S2048x2048.Idx) (k : Fin 8192) : EReal := heads m c (ix2 k (i 0)) * grad m c (ix2 k (i 1))

/-- What the point at step `b` of the run that makes the block of `i` adds. -/
theorem prod_at (c : Dev nD) (i : S2048x2048.Idx) (t : Fin cfg0.N) (b : Fin 4)
    (ht : t.val = 4 * (2 * ((i 0).val / 1024) + (i 1).val / 1024) + b.val) (h0 : (i 0).val % 1024 < 1024) (h1 : (i 1).val % 1024 < 1024) :
    prod (iblk m c 0 t) (iblk m c 1 t) (ix2 ⟨(i 0).val % 1024, h0⟩ ⟨(i 1).val % 1024, h1⟩)
      = ∑ k : Fin 2048, term m c i ⟨b.val * 2048 + k.val, by have := k.isLt; have := b.isLt; omega⟩ := by
  have hi0 : (i 0).val < 2048 := (i 0).isLt
  have hi1 : (i 1).val < 2048 := (i 1).isLt
  have hb := b.isLt
  unfold prod
  refine Finset.sum_congr rfl fun k _ => ?_
  have hk := k.isLt
  unfold term
  refine congrArg₂ (· * ·) ((block0 m c t k _).trans (congrArg (heads m c) ?_)) ((block1 m c t k _).trans (congrArg (grad m c) ?_))
  · funext a
    apply Fin.ext
    match a with
    | ⟨0, _⟩ => show t.val % 4 * 2048 + k.val = b.val * 2048 + k.val; omega
    | ⟨1, _⟩ => show t.val / 8 * 1024 + (i 0).val % 1024 = (i 0).val; omega
  · funext a
    apply Fin.ext
    match a with
    | ⟨0, _⟩ => show t.val % 4 * 2048 + k.val = b.val * 2048 + k.val; omega
    | ⟨1, _⟩ => show t.val / 4 % 2 * 1024 + (i 1).val % 1024 = (i 1).val; omega

/-- What the kernel's result holds: the whole product. -/
theorem result_eq (c : Dev nD) (i : S2048x2048.Idx) : G2 m c i = ∑ k : Fin 8192, term m c i k := by
  have hi0 : (i 0).val < 2048 := (i 0).isLt
  have hi1 : (i 1).val < 2048 := (i 1).isLt
  have hN : cfg0.N = 16 := N_0
  have hr : run2Of i = 2 * ((i 0).val / 1024) + (i 1).val / 1024 := by
    show 2 * ((i 0).val / 1024 - 0) + 1 * ((i 1).val / 1024 - 0) = _
    omega
  have hp : pt2Of i = 4 * (2 * ((i 0).val / 1024) + (i 1).val / 1024) + 3 := by show 4 * run2Of i + 3 = _; rw [hr]
  unfold G2
  rw [dif_pos (by rw [hp, hN]; omega), ← outsAt0_sweep m c (pt2Of i) (by rw [hp, hN]; omega)]
  obtain ⟨n, hn⟩ : ∃ n, n = 4 * (2 * ((i 0).val / 1024) + (i 1).val / 1024) := ⟨_, rfl⟩
  rw [← hn] at hp
  have hn4 : n % 4 = 0 := by omega
  have hlt : n + 3 < cfg0.N := by rw [hN]; omega
  have e : ∀ (p : ℕ) (h : p < cfg0.N), p = n + 3 → outsAt0 m c p h = outsAt0 m c (n + 3) hlt := fun p h hh => by subst hh; rfl
  rw [e _ _ hp]
  rw [outsAt0_succ, stAt0_C m c ⟨n + 3, hlt⟩ _ (by show ¬(n + 3) % 4 = 0; omega) (by show 1 ≤ (n + 3) % 4; omega) (by show (n + 3) % 4 = 3; omega)]
  dsimp only
  rw [outC]
  rw [outsAt0_succ, stAt0_B m c ⟨n + 2, by omega⟩ _ (by show ¬(n + 2) % 4 = 0; omega) (by show 1 ≤ (n + 2) % 4; omega) (by show ¬(n + 2) % 4 = 3; omega)]
  dsimp only
  rw [scrB]
  rw [outsAt0_succ, stAt0_B m c ⟨n + 1, by omega⟩ _ (by show ¬(n + 1) % 4 = 0; omega) (by show 1 ≤ (n + 1) % 4; omega) (by show ¬(n + 1) % 4 = 3; omega)]
  dsimp only
  rw [scrB]
  rw [outsAt0_A m c ⟨n, by omega⟩ (by show n % 4 = 0; omega) (by show ¬1 ≤ n % 4; omega) (by show ¬n % 4 = 3; omega)]
  dsimp only
  rw [scrA]
  rw [Fin.sum_univ_tiles 4 2048 rfl, Fin.sum_univ_four]
  rw [← prod_at m c i ⟨n, by omega⟩ 0 (by show n = _; rw [hn]; rfl) (Nat.mod_lt _ (by decide)) (Nat.mod_lt _ (by decide)),
    ← prod_at m c i ⟨n + 1, by omega⟩ 1 (by show n + 1 = _; rw [hn]; rfl) (Nat.mod_lt _ (by decide)) (Nat.mod_lt _ (by decide)),
    ← prod_at m c i ⟨n + 2, by omega⟩ 2 (by show n + 2 = _; rw [hn]; rfl) (Nat.mod_lt _ (by decide)) (Nat.mod_lt _ (by decide)),
    ← prod_at m c i ⟨n + 3, by omega⟩ 3 (by show n + 3 = _; rw [hn]; rfl) (Nat.mod_lt _ (by decide)) (Nat.mod_lt _ (by decide))]
  have hl : loc2Of i = ix2 ⟨(i 0).val % 1024, Nat.mod_lt _ (by decide)⟩ ⟨(i 1).val % 1024, Nat.mod_lt _ (by decide)⟩ := by
    funext a
    apply Fin.ext
    match a with
    | ⟨0, _⟩ => rfl
    | ⟨1, _⟩ => rfl
  rw [hl]

/-! ## The reference -/

section
open Cert.Reference10Ideal.Read

/-- What the reference's result holds. -/
theorem reference_eq (x0 : Vec Ideal S8192x2048 .bf16) (x1 : Vec Ideal S8192x2048 .bf16) (i : S2048x2048.Idx) :
    val_main_v5 (F := Ideal) x0 x1 i = ∑ k : Fin 8192, x0 (ix2 k (i 0)) * x1 (ix2 k (i 1)) := by
  rw [val_main_v5_apply, val_main_v4_apply]
  refine Finset.sum_congr rfl fun k _ => ?_
  rw [val_main_v3_apply, val_main_v1_apply, mul_comm]
  refine congrArg₂ (· * ·) (congrArg x0 ?_) (congrArg x1 ?_)
  · funext a
    apply Fin.ext
    match a with
    | ⟨0, _⟩ => rfl
    | ⟨1, _⟩ => rfl
  · funext a
    apply Fin.ext
    match a with
    | ⟨0, _⟩ => rfl
    | ⟨1, _⟩ => rfl

end

/-- The kernel and its reference end with equal results. -/
theorem equal : Cert.algebraic_Kernel10Ideal_Reference10Ideal := by
  pair_intro
  · run_from Cert.Kernel10Ideal.Value.run m g
  · run_from Cert.Reference10Ideal.Value.run m' g'
    exact (Cert.Reference10Ideal.Read.val_main_v5_eq _ _).trans (funext fun i => (reference_eq _ _ i).trans (result_eq m c i).symm)

end Cert.Kernel10Ideal.AttnDwo

end
-- ==== Proof.AttnDwqkv.lean ====
module

public import proofs.«01_k».proof.Proof.Gen.Kernel11Ideal.Value
public import proofs.«01_k».proof.Proof.Gen.Reference11Ideal.Run
public import proofs.«01_k».proof.Proof.Gen.Reference11Ideal.Read
public import proofs.«01_k».proof.Proof.Whole
public import proofs.«01_k».proof.Defs
public import Idealize.ShloMosaic.Lib.Tactic
public import Idealize.ShloMosaic.Lib.Claim

@[expose] public section

set_option maxRecDepth 16384

noncomputable section

namespace Cert.Kernel11Ideal.AttnDwqkv

open Idealize.ShloMosaic Idealize.ShloMosaic.TcCoe Idealize.ShloMosaic.Tactic
open Cert.Kernel11Ideal.Gen Cert.Kernel11Ideal.Value

/-! ## One point -/

/-- The product of a block of transposed normalised rows with a block of gradient columns, over one block of rows. -/
def prod (x0 : Vec Ideal S2048x1024 .bf16) (x1 : Vec Ideal S2048x1280 .bf16) : Vec Ideal S1024x1280 .f32 := fun y =>
  ∑ k : Fin 2048, x0 (ix2 k (y 0)) * x1 (ix2 k (y 1))

theorem pay1_eq (x0 : Vec Ideal S2048x1024 .bf16) (x1 : Vec Ideal S2048x1280 .bf16) : k0_pay1 x0 x1 = prod x0 x1 := by
  funext y; idx_vars y; unfold prod k0_pay1; pointwise; try rfl

theorem pay2_eq (x0 : Vec Ideal S2048x1024 .bf16) (x1 : Vec Ideal S2048x1280 .bf16) : k0_pay2 x0 x1 = prod x0 x1 := by
  unfold k0_pay2
  rw [pay1_eq]
  generalize prod x0 x1 = p
  funext y; idx_vars y; pointwise

theorem pay3_eq (x0 : Vec Ideal S2048x1024 .bf16) (x1 : Vec Ideal S2048x1280 .bf16) (a : Vec Ideal S1024x1280 .f32) :
    k0_pay3 x0 x1 a = fun y => a y + prod x0 x1 y := by
  unfold k0_pay3
  rw [pay1_eq]
  generalize prod x0 x1 = p
  funext y; idx_vars y; pointwise

theorem scrA  (c : Dev nD) (i : grid0.Coords) (arg3 : Memref sig .tc .vmem S2048x1024 .bf16) (harg3 : arg3.IsWhole) (arg4 : Memref sig .tc .vmem S2048x1280 .bf16) (harg4 : arg4.IsWhole) (arg5 : Memref sig .tc .vmem S1024x1280 .f32) (harg5 : arg5.IsWhole) (arg6 : Memref sig .tc .vmem S1024x1280 .f32) (harg6 : arg6.IsWhole) (hc0 : cond0_0 i) (hc1 : ¬cond0_1 i) (hc2 : ¬cond0_2 i)
    (x0 : Vec Ideal S2048x1024 .bf16) (x1 : Vec Ideal S2048x1280 .bf16) :
    sout0_A_0 c i arg3 harg3 arg4 harg4 arg5 harg5 arg6 harg6 hc0 hc1 hc2 x0 x1 = prod x0 x1 := by
  unfold sout0_A_0 kernelRun0_A
  sl_unfold_words
  dsimp only
  rw [Whole.readAt_all harg3 x0 Whole.z2, Whole.readAt_all harg4 x1 Whole.z2, pay2_eq]
  exact Whole.read_all _ _ Whole.z2 _ _ _

theorem scrB  (c : Dev nD) (i : grid0.Coords) (arg3 : Memref sig .tc .vmem S2048x1024 .bf16) (harg3 : arg3.IsWhole) (arg4 : Memref sig .tc .vmem S2048x1280 .bf16) (harg4 : arg4.IsWhole) (arg5 : Memref sig .tc .vmem S1024x1280 .f32) (harg5 : arg5.IsWhole) (arg6 : Memref sig .tc .vmem S1024x1280 .f32) (harg6 : arg6.IsWhole) (hc0 : ¬cond0_0 i) (hc1 : cond0_1 i) (hc2 : ¬cond0_2 i)
    (x0 : Vec Ideal S2048x1024 .bf16) (x1 : Vec Ideal S2048x1280 .bf16) (xs0 : Vec Ideal S1024x1280 .f32) :
    sout0_B_0 c i arg3 harg3 arg4 harg4 arg5 harg5 arg6 harg6 hc0 hc1 hc2 x0 x1 xs0 = fun y => xs0 y + prod x0 x1 y := by
  unfold sout0_B_0 kernelRun0_B
  sl_unfold_words
  dsimp only
  rw [Whole.readAt_all harg3 x0 Whole.z2, Whole.readAt_all harg4 x1 Whole.z2, Whole.readAt_all harg6 xs0 Whole.z2, pay3_eq]
  exact Whole.read_all _ _ Whole.z2 _ _ _

theorem outC  (c : Dev nD) (i : grid0.Coords) (arg3 : Memref sig .tc .vmem S2048x1024 .bf16) (harg3 : arg3.IsWhole) (arg4 : Memref sig .tc .vmem S2048x1280 .bf16) (harg4 : arg4.IsWhole) (arg5 : Memref sig .tc .vmem S1024x1280 .f32) (harg5 : arg5.IsWhole) (arg6 : Memref sig .tc .vmem S1024x1280 .f32) (harg6 : arg6.IsWhole) (hc0 : ¬cond0_0 i) (hc1 : cond0_1 i) (hc2 : cond0_2 i)
    (x0 : Vec Ideal S2048x1024 .bf16) (x1 : Vec Ideal S2048x1280 .bf16) (xs0 : Vec Ideal S1024x1280 .f32) :
    out0_C_2 c i arg3 harg3 arg4 harg4 arg5 harg5 arg6 harg6 hc0 hc1 hc2 x0 x1 xs0 = fun y => xs0 y + prod x0 x1 y := by
  unfold out0_C_2 kernelRun0_C
  sl_unfold_words
  dsimp only
  rw [Whole.readAt_all harg3 x0 Whole.z2, Whole.readAt_all harg4 x1 Whole.z2, Whole.readAt_all harg6 xs0 Whole.z2, pay3_eq,
    Whole.readCov_all _ Whole.z2]
  exact Whole.read_all _ _ Whole.z2 _ _ _

/-! ## The blocks a point reads -/

variable (m : (ℓ : Loc nD τ sig) → Buf (Elt Ideal) ℓ) (ρ : Dev nD → PrngReg)

theorem index0 : ∀ t : Fin cfg0.N, win0_0.index t (0 : Fin 2) = t.val % 4 ∧ win0_0.index t (1 : Fin 2) = t.val / 8 :=
  (by decide +kernel : ∀ t : Fin grid0.N, _)

theorem index1 : ∀ t : Fin cfg0.N, win0_1.index t (0 : Fin 2) = t.val % 4 ∧ win0_1.index t (1 : Fin 2) = t.val / 4 % 2 :=
  (by decide +kernel : ∀ t : Fin grid0.N, _)

/-- The normalised rows and the gradient, as launched. -/
abbrev hid (c : Dev nD) : Vec Ideal S8192x2048 .bf16 := m ((c.tc : Thread nD τ).loc main_arg0)
abbrev grad (c : Dev nD) : Vec Ideal S8192x2560 .bf16 := m ((c.tc : Thread nD τ).loc main_arg1)

theorem block0 (c : Dev nD) (t : Fin cfg0.N) (k : Fin 2048) (r : Fin 1024) :
    iblk m c 0 t (ix2 k r) = hid m c (ix2 ⟨t.val % 4 * 2048 + k.val, by have := k.isLt; omega⟩ ⟨t.val / 8 * 1024 + r.val, by have := r.isLt; have := lt_of_lt_of_eq t.isLt (show cfg0.N = 16 from N_0); omega⟩) := by
  obtain ⟨e0, e1⟩ := index0 t
  have hN := lt_of_lt_of_eq t.isLt (show cfg0.N = _ from N_0)
  show hid m c (((cfg0.win 0).blk t).view.emb (ix2 k r)) = _
  congr 1
  funext a
  apply Fin.ext
  match a with
  | ⟨0, _⟩ => show win0_0.index t (0 : Fin 2) * 2048 + 1 * k.val = (t.val % 4) * 2048 + k.val; rw [e0]; omega
  | ⟨1, _⟩ => show win0_0.index t (1 : Fin 2) * 1024 + 1 * r.val = (t.val / 8) * 1024 + r.val; rw [e1]; omega

theorem block1 (c : Dev nD) (t : Fin cfg0.N) (k : Fin 2048) (q : Fin 1280) :
    iblk m c 1 t (ix2 k q) = grad m c (ix2 ⟨t.val % 4 * 2048 + k.val, by have := k.isLt; omega⟩ ⟨t.val / 4 % 2 * 1280 + q.val, by have := q.isLt; omega⟩) := by
  obtain ⟨e0, e1⟩ := index1 t
  have hN := lt_of_lt_of_eq t.isLt (show cfg0.N = _ from N_0)
  show grad m c (((cfg0.win 1).blk t).view.emb (ix2 k q)) = _
  congr 1
  funext a
  apply Fin.ext
  match a with
  | ⟨0, _⟩ => show win0_1.index t (0 : Fin 2) * 2048 + 1 * k.val = (t.val % 4) * 2048 + k.val; rw [e0]; omega
  | ⟨1, _⟩ => show win0_1.index t (1 : Fin 2) * 1280 + 1 * q.val = (t.val / 4 % 2) * 1280 + q.val; rw [e1]; omega

/-! ## The whole result -/

/-- The term of the product at row `k` for the result's index `i`. -/
def term (c : Dev nD) (i : S2048x2560.Idx) (k : Fin 8192) : EReal := hid m c (ix2 k (i 0)) * grad m c (ix2 k (i 1))

/-- What the point at step `b` of the run that makes the block of `i` adds. -/
theorem prod_at (c : Dev nD) (i : S2048x2560.Idx) (t : Fin cfg0.N) (b : Fin 4)
    (ht : t.val = 4 * (2 * ((i 0).val / 1024) + (i 1).val / 1280) + b.val) (h0 : (i 0).val % 1024 < 1024) (h1 : (i 1).val % 1280 < 1280) :
    prod (iblk m c 0 t) (iblk m c 1 t) (ix2 ⟨(i 0).val % 1024, h0⟩ ⟨(i 1).val % 1280, h1⟩)
      = ∑ k : Fin 2048, term m c i ⟨b.val * 2048 + k.val, by have := k.isLt; have := b.isLt; omega⟩ := by
  have hi0 : (i 0).val < 2048 := (i 0).isLt
  have hi1 : (i 1).val < 2560 := (i 1).isLt
  have hb := b.isLt
  unfold prod
  refine Finset.sum_congr rfl fun k _ => ?_
  have hk := k.isLt
  unfold term
  refine congrArg₂ (· * ·) ((block0 m c t k _).trans (congrArg (hid m c) ?_)) ((block1 m c t k _).trans (congrArg (grad m c) ?_))
  · funext a
    apply Fin.ext
    match a with
    | ⟨0, _⟩ => show t.val % 4 * 2048 + k.val = b.val * 2048 + k.val; omega
    | ⟨1, _⟩ => show t.val / 8 * 1024 + (i 0).val % 1024 = (i 0).val; omega
  · funext a
    apply Fin.ext
    match a with
    | ⟨0, _⟩ => show t.val % 4 * 2048 + k.val = b.val * 2048 + k.val; omega
    | ⟨1, _⟩ => show t.val / 4 % 2 * 1280 + (i 1).val % 1280 = (i 1).val; omega

/-- What the kernel's result holds: the whole product. -/
theorem result_eq (c : Dev nD) (i : S2048x2560.Idx) : G2 m c i = ∑ k : Fin 8192, term m c i k := by
  have hi0 : (i 0).val < 2048 := (i 0).isLt
  have hi1 : (i 1).val < 2560 := (i 1).isLt
  have hN : cfg0.N = 16 := N_0
  have hr : run2Of i = 2 * ((i 0).val / 1024) + (i 1).val / 1280 := by
    show 2 * ((i 0).val / 1024 - 0) + 1 * ((i 1).val / 1280 - 0) = _
    omega
  have hp : pt2Of i = 4 * (2 * ((i 0).val / 1024) + (i 1).val / 1280) + 3 := by show 4 * run2Of i + 3 = _; rw [hr]
  unfold G2
  rw [dif_pos (by rw [hp, hN]; omega), ← outsAt0_sweep m c (pt2Of i) (by rw [hp, hN]; omega)]
  obtain ⟨n, hn⟩ : ∃ n, n = 4 * (2 * ((i 0).val / 1024) + (i 1).val / 1280) := ⟨_, rfl⟩
  rw [← hn] at hp
  have hn4 : n % 4 = 0 := by omega
  have hlt : n + 3 < cfg0.N := by rw [hN]; omega
  have e : ∀ (p : ℕ) (h : p < cfg0.N), p = n + 3 → outsAt0 m c p h = outsAt0 m c (n + 3) hlt := fun p h hh => by subst hh; rfl
  rw [e _ _ hp]
  rw [outsAt0_succ, stAt0_C m c ⟨n + 3, hlt⟩ _ (by show ¬(n + 3) % 4 = 0; omega) (by show 1 ≤ (n + 3) % 4; omega) (by show (n + 3) % 4 = 3; omega)]
  dsimp only
  rw [outC]
  rw [outsAt0_succ, stAt0_B m c ⟨n + 2, by omega⟩ _ (by show ¬(n + 2) % 4 = 0; omega) (by show 1 ≤ (n + 2) % 4; omega) (by show ¬(n + 2) % 4 = 3; omega)]
  dsimp only
  rw [scrB]
  rw [outsAt0_succ, stAt0_B m c ⟨n + 1, by omega⟩ _ (by show ¬(n + 1) % 4 = 0; omega) (by show 1 ≤ (n + 1) % 4; omega) (by show ¬(n + 1) % 4 = 3; omega)]
  dsimp only
  rw [scrB]
  rw [outsAt0_A m c ⟨n, by omega⟩ (by show n % 4 = 0; omega) (by show ¬1 ≤ n % 4; omega) (by show ¬n % 4 = 3; omega)]
  dsimp only
  rw [scrA]
  rw [Fin.sum_univ_tiles 4 2048 rfl, Fin.sum_univ_four]
  rw [← prod_at m c i ⟨n, by omega⟩ 0 (by show n = _; rw [hn]; rfl) (Nat.mod_lt _ (by decide)) (Nat.mod_lt _ (by decide)),
    ← prod_at m c i ⟨n + 1, by omega⟩ 1 (by show n + 1 = _; rw [hn]; rfl) (Nat.mod_lt _ (by decide)) (Nat.mod_lt _ (by decide)),
    ← prod_at m c i ⟨n + 2, by omega⟩ 2 (by show n + 2 = _; rw [hn]; rfl) (Nat.mod_lt _ (by decide)) (Nat.mod_lt _ (by decide)),
    ← prod_at m c i ⟨n + 3, by omega⟩ 3 (by show n + 3 = _; rw [hn]; rfl) (Nat.mod_lt _ (by decide)) (Nat.mod_lt _ (by decide))]
  have hl : loc2Of i = ix2 ⟨(i 0).val % 1024, Nat.mod_lt _ (by decide)⟩ ⟨(i 1).val % 1280, Nat.mod_lt _ (by decide)⟩ := by
    funext a
    apply Fin.ext
    match a with
    | ⟨0, _⟩ => rfl
    | ⟨1, _⟩ => rfl
  rw [hl]

/-! ## The reference -/

section
open Cert.Reference11Ideal.Read

/-- What the reference's result holds. -/
theorem reference_eq (x0 : Vec Ideal S8192x2048 .bf16) (x1 : Vec Ideal S8192x2560 .bf16) (i : S2048x2560.Idx) :
    val_main_v5 (F := Ideal) x0 x1 i = ∑ k : Fin 8192, x0 (ix2 k (i 0)) * x1 (ix2 k (i 1)) := by
  rw [val_main_v5_apply, val_main_v4_apply]
  refine Finset.sum_congr rfl fun k _ => ?_
  rw [val_main_v3_apply, val_main_v1_apply, mul_comm]
  refine congrArg₂ (· * ·) (congrArg x0 ?_) (congrArg x1 ?_)
  · funext a
    apply Fin.ext
    match a with
    | ⟨0, _⟩ => rfl
    | ⟨1, _⟩ => rfl
  · funext a
    apply Fin.ext
    match a with
    | ⟨0, _⟩ => rfl
    | ⟨1, _⟩ => rfl

end

/-- The kernel and its reference end with equal results. -/
theorem equal : Cert.algebraic_Kernel11Ideal_Reference11Ideal := by
  pair_intro
  · run_from Cert.Kernel11Ideal.Value.run m g
  · run_from Cert.Reference11Ideal.Value.run m' g'
    exact (Cert.Reference11Ideal.Read.val_main_v5_eq _ _).trans (funext fun i => (reference_eq _ _ i).trans (result_eq m c i).symm)

end Cert.Kernel11Ideal.AttnDwqkv

end
-- ==== Proof.AttnDh.lean ====
module

public import proofs.«01_k».proof.Proof.Gen.Kernel12Ideal.Value
public import proofs.«01_k».proof.Proof.Gen.Reference12Ideal.Run
public import proofs.«01_k».proof.Proof.Gen.Reference12Ideal.Read
public import proofs.«01_k».proof.Proof.Whole
public import proofs.«01_k».proof.Defs
public import Idealize.ShloMosaic.Lib.Tactic
public import Idealize.ShloMosaic.Lib.Claim

@[expose] public section

set_option maxRecDepth 16384

noncomputable section

namespace Cert.Kernel12Ideal.AttnDh

open Idealize.ShloMosaic Idealize.ShloMosaic.TcCoe Idealize.ShloMosaic.Tactic
open Cert.Kernel12Ideal.Gen Cert.Kernel12Ideal.Value

/-! ## One point -/

/-- The product of a block of rows with the weights. -/
def prod (x0 : Vec Ideal S512x2560 .bf16) (x1 : Vec Ideal S2048x2560 .bf16) : Vec Ideal S512x2048 .f32 := fun y =>
  (∑ k : Fin 2560, x0 (ix2 (y 0) k) * x1 (ix2 (y 1) k))

theorem pay1_eq (x0 : Vec Ideal S512x2560 .bf16) (x1 : Vec Ideal S2048x2560 .bf16) : k0_pay1 x0 x1 = prod x0 x1 := by
  funext y; idx_vars y; unfold prod k0_pay1; pointwise; try rfl

theorem out_eq (x0 : Vec Ideal S512x2560 .bf16) (x1 : Vec Ideal S2048x2560 .bf16) : out0_2 x0 x1 = prod x0 x1 := by
  unfold out0_2
  rw [View.canon_unit_zero Whole.z2, View.ld_unit_zero Whole.z2, View.ld_unit_zero Whole.z2, pay1_eq]

/-! ## The blocks a point reads -/

variable (m : (ℓ : Loc nD τ sig) → Buf (Elt Ideal) ℓ) (ρ : Dev nD → PrngReg)

theorem index0 : ∀ t : Fin cfg0.N, win0_0.index t (0 : Fin 2) = t.val ∧ win0_0.index t (1 : Fin 2) = 0 :=
  (by decide +kernel : ∀ t : Fin grid0.N, _)

theorem index1 : ∀ t : Fin cfg0.N, win0_1.index t (0 : Fin 2) = 0 ∧ win0_1.index t (1 : Fin 2) = 0 :=
  (by decide +kernel : ∀ t : Fin grid0.N, _)

theorem index2 : ∀ t : Fin cfg0.N, win0_2.index t (0 : Fin 2) = t.val ∧ win0_2.index t (1 : Fin 2) = 0 :=
  (by decide +kernel : ∀ t : Fin grid0.N, _)

/-- The gradient and the weights, as launched. -/
abbrev grad (c : Dev nD) : Vec Ideal S8192x2560 .bf16 := m ((c.tc : Thread nD τ).loc main_arg0)
abbrev wqkv (c : Dev nD) : Vec Ideal S2048x2560 .bf16 := m ((c.tc : Thread nD τ).loc main_arg1)

theorem block0 (c : Dev nD) (t : Fin cfg0.N) (r : Fin 512) (k : Fin 2560) :
    iblk m c 0 t (ix2 r k) = grad m c (ix2 ⟨t.val * 512 + r.val, by have := r.isLt; have := lt_of_lt_of_eq t.isLt (show cfg0.N = 16 from N_0); omega⟩ k) := by
  obtain ⟨e0, e1⟩ := index0 t
  have hN := lt_of_lt_of_eq t.isLt (show cfg0.N = _ from N_0)
  show grad m c (((cfg0.win 0).blk t).view.emb (ix2 r k)) = _
  congr 1
  funext a
  apply Fin.ext
  match a with
  | ⟨0, _⟩ => show win0_0.index t (0 : Fin 2) * 512 + 1 * r.val = (t.val) * 512 + r.val; rw [e0]; omega
  | ⟨1, _⟩ => show win0_0.index t (1 : Fin 2) * 2560 + 1 * k.val = k.val; rw [e1]; omega

theorem block1 (c : Dev nD) (t : Fin cfg0.N) (p : Fin 2048) (q : Fin 2560) :
    iblk m c 1 t (ix2 p q) = wqkv m c (ix2 p q) := by
  obtain ⟨e0, e1⟩ := index1 t
  have hN := lt_of_lt_of_eq t.isLt (show cfg0.N = _ from N_0)
  show wqkv m c (((cfg0.win 1).blk t).view.emb (ix2 p q)) = _
  congr 1
  funext a
  apply Fin.ext
  match a with
  | ⟨0, _⟩ => show win0_1.index t (0 : Fin 2) * 2048 + 1 * p.val = p.val; rw [e0]; omega
  | ⟨1, _⟩ => show win0_1.index t (1 : Fin 2) * 2560 + 1 * q.val = q.val; rw [e1]; omega

/-! ## The whole result -/

theorem flushes : ∀ t : Fin cfg0.N, (cfg0.win 2).flush t = true :=
  (by decide +kernel : ∀ t : Fin grid0.N, win0_2.flush t = true)

/-- What the kernel's result holds: the whole product. -/
def whole (c : Dev nD) : Vec Ideal S8192x2048 .f32 := fun i =>
  (∑ k : Fin 2560, grad m c (ix2 (i 0) k) * wqkv m c (ix2 (i 1) k))

theorem result_eq (c : Dev nD) (i : S8192x2048.Idx) : (dats m 0 c).arrAt 2 cfg0.N i = whole m c i := by
  have hi0 : (i 0).val < 8192 := (i 0).isLt
  have hN : cfg0.N = 16 := N_0
  obtain ⟨t, ht⟩ : ∃ t : Fin cfg0.N, t.val = (i 0).val / 512 := ⟨⟨(i 0).val / 512, by rw [hN]; omega⟩, rfl⟩
  obtain ⟨r, hr⟩ : ∃ r : Fin 512, r.val = (i 0).val % 512 := ⟨⟨(i 0).val % 512, Nat.mod_lt _ (by decide)⟩, rfl⟩
  have hb := congrFun ((blocks2 m c t (flushes t)).trans (flushed2 m c t)) (ix2 r (i 1))
  have he : ((cfg0.win 2).blk t).view.emb (ix2 r (i 1)) = i := by
    obtain ⟨e0, e1⟩ := index2 t
    funext a
    apply Fin.ext
    match a with
    | ⟨0, _⟩ => show win0_2.index t (0 : Fin 2) * 512 + 1 * r.val = (i 0).val; rw [e0]; omega
    | ⟨1, _⟩ => show win0_2.index t (1 : Fin 2) * 2048 + 1 * (i 1).val = (i 1).val; rw [e1]; omega
  refine (congrArg ((dats m 0 c).arrAt 2 cfg0.N) he.symm).trans (hb.trans ?_)
  rw [out_eq]
  show prod (iblk m c 0 t) (iblk m c 1 t) (ix2 r (i 1)) = _
  unfold prod whole
  refine Finset.sum_congr rfl fun k _ => congrArg₂ (· * ·) (block0 m c t r k |>.trans (congrArg (grad m c) ?_)) (block1 m c t (i 1) k)
  · funext a
    apply Fin.ext
    match a with
    | ⟨0, _⟩ => show t.val * 512 + r.val = (i 0).val; omega
    | ⟨1, _⟩ => rfl

/-! ## The reference -/

section
open Cert.Reference12Ideal.Read

/-- What the reference's result holds. -/
theorem reference_eq (x0 : Vec Ideal S8192x2560 .bf16) (x1 : Vec Ideal S2048x2560 .bf16) (i : S8192x2048.Idx) :
    val_main_v4 (F := Ideal) x0 x1 i = (∑ k : Fin 2560, x0 (ix2 (i 0) k) * x1 (ix2 (i 1) k)) := by
  rw [val_main_v4_apply]
  refine Finset.sum_congr rfl fun k _ => ?_
  rw [val_main_v3_apply, val_main_v1_apply]
  refine congrArg₂ (· * ·) (congrArg x0 ?_) (congrArg x1 ?_)
  · funext a
    apply Fin.ext
    match a with
    | ⟨0, _⟩ => rfl
    | ⟨1, _⟩ => rfl
  · funext a
    apply Fin.ext
    match a with
    | ⟨0, _⟩ => rfl
    | ⟨1, _⟩ => rfl

end

/-- The kernel and its reference end with equal results. -/
theorem equal : Cert.algebraic_Kernel12Ideal_Reference12Ideal := by
  pair_intro
  · run_from Cert.Kernel12Ideal.Value.run_blocks m g
  · run_from Cert.Reference12Ideal.Value.run m' g'
    exact (Cert.Reference12Ideal.Read.val_main_v4_eq _ _).trans (funext fun i => (reference_eq _ _ i).trans (result_eq m c i).symm)

end Cert.Kernel12Ideal.AttnDh

end
-- ==== Proof.NormTile.lean ====
module

public import proofs.«01_k».proof.Proof.Gen.Kernel13Ideal.Value
public import proofs.«01_k».proof.Proof.Whole
public import Idealize.ShloMosaic.Lib.Pointwise

@[expose] public section

set_option maxRecDepth 16384

noncomputable section

namespace Cert.Kernel13Ideal.Norm

open Idealize.ShloMosaic Idealize.ShloMosaic.TcCoe
open Cert.Kernel13Ideal.Gen Cert.Kernel13Ideal.Value

/-! ## One row of the norm -/

/-- The length of a row, and the small number added to its mean square. -/
def nN : EReal := Ideal.ofBits .f32 0x45000000#32
def nE : EReal := Ideal.ofBits .f32 0x358637BD#32

/-- One over the root of the mean square of a row. -/
def rt (f : Fin 2048 → EReal) : EReal := Ideal.rsqrt (Ideal.div (∑ k, f k * f k) nN + nE)

/-- The gradient of a row, by the gradient `d` of the normalised row and the gain `g`. -/
def dxr (f d g : Fin 2048 → EReal) (q : Fin 2048) : EReal :=
  rt f * (d q * g q - f q * rt f * Ideal.div (∑ k, d k * g k * (f k * rt f)) nN)

/-! ## The values over a tile -/

theorem pay2_eq (x : Vec Ideal S512x2048 .f32) (r : Fin 512) (z : Fin 1) : k0_pay2 x (ix2 r z) = rt fun k => x (ix2 r k) := by
  unfold k0_pay2 rt; pointwise; try rfl

theorem pay3_eq (x : Vec Ideal S512x2048 .f32) (r : Fin 512) (q : Fin 2048) : k0_pay3 x (ix2 r q) = x (ix2 r q) * rt fun k => x (ix2 r k) := by
  rw [← pay2_eq x r 0]
  unfold k0_pay3; generalize k0_pay2 x = u; pointwise; try rfl

theorem pay4_eq (d x : Vec Ideal S512x2048 .f32) (z : Fin 1) (q : Fin 2048) :
    k0_pay4 d x (ix2 z q) = ∑ r : Fin 512, d (ix2 r q) * (x (ix2 r q) * rt fun k => x (ix2 r k)) := by
  refine Eq.trans ?_ (Finset.sum_congr rfl fun r _ => congrArg _ (pay3_eq x r q))
  unfold k0_pay4; generalize k0_pay3 x = u; pointwise; try rfl

theorem pay5_eq (d x : Vec Ideal S512x2048 .f32) (g : Vec Ideal S1x2048 .f32) (e : Vec Ideal S512x2048 .f32) (r : Fin 512) (q : Fin 2048) :
    k0_pay5 d x g e (ix2 r q) = e (ix2 r q) + dxr (fun k => x (ix2 r k)) (fun k => d (ix2 r k)) (fun k => g (ix2 0 k)) q := by
  unfold dxr
  rw [show (∑ k : Fin 2048, d (ix2 r k) * g (ix2 0 k) * (x (ix2 r k) * rt fun k => x (ix2 r k))) = ∑ k : Fin 2048, d (ix2 r k) * g (ix2 0 k) * k0_pay3 x (ix2 r k)
    from Finset.sum_congr rfl fun k _ => congrArg _ (pay3_eq x r k).symm, ← pay3_eq x r q, ← pay2_eq x r 0]
  unfold k0_pay5; generalize k0_pay3 x = u; generalize k0_pay2 x = v; pointwise; try rfl

theorem pay6_eq (d x : Vec Ideal S512x2048 .f32) (g : Vec Ideal S1x2048 .f32) (e : Vec Ideal S512x2048 .f32) : k0_pay6 d x g e = k0_pay5 d x g e := by
  unfold k0_pay6; generalize k0_pay5 d x g e = u; funext y; idx_vars y; pointwise; try rfl

theorem pay1_eq (a b : Vec Ideal S1x2048 .f32) (y : S1x2048.Idx) : k0_pay1 a b y = b y + a y := by
  idx_vars y; unfold k0_pay1; pointwise; try rfl

/-! ## The buffers after a tile -/

set_option maxHeartbeats 2000000 in
theorem out0_A_4_eq (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S1x2048 .f32) (harg7 : arg7.IsWhole) (hc0 : cond0_0 i) (hc1 : ¬cond0_1 i)
    (x0 : Vec Ideal S512x2048 .f32) (x1 : Vec Ideal S512x2048 .f32) (x2 : Vec Ideal S1x2048 .f32) (x3 : Vec Ideal S512x2048 .f32) :
    out0_A_4 c i arg1 harg1 arg2 harg2 arg3 harg3 arg4 harg4 arg5 harg5 arg6 harg6 arg7 harg7 hc0 hc1 x0 x1 x2 x3 = k0_pay5 x0 x1 x2 x3 := by
  unfold out0_A_4 kernelRun0_A
  sl_unfold_words
  dsimp only
  rw [Whole.readAt_all harg1 x0 Whole.z2, Whole.readAt_all harg2 x1 Whole.z2, Whole.readAt_all harg3 x2 Whole.z2, Whole.readAt_all harg4 x3 Whole.z2]
  exact Whole.read_all _ _ Whole.z2 _ _ _

set_option maxHeartbeats 2000000 in
theorem out0_A_5_eq (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S1x2048 .f32) (harg7 : arg7.IsWhole) (hc0 : cond0_0 i) (hc1 : ¬cond0_1 i)
    (x0 : Vec Ideal S512x2048 .f32) (x1 : Vec Ideal S512x2048 .f32) (x2 : Vec Ideal S1x2048 .f32) (x3 : Vec Ideal S512x2048 .f32) :
    out0_A_5 c i arg1 harg1 arg2 harg2 arg3 harg3 arg4 harg4 arg5 harg5 arg6 harg6 arg7 harg7 hc0 hc1 x0 x1 x2 x3 = k0_pay5 x0 x1 x2 x3 := by
  unfold out0_A_5 kernelRun0_A
  sl_unfold_words
  dsimp only
  rw [Whole.readAt_all harg1 x0 Whole.z2, Whole.readAt_all harg2 x1 Whole.z2, Whole.readAt_all harg3 x2 Whole.z2, Whole.readAt_all harg4 x3 Whole.z2, pay6_eq]
  exact Whole.read_all _ _ Whole.z2 _ _ _

set_option maxHeartbeats 2000000 in
theorem out0_A_6_eq (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S1x2048 .f32) (harg7 : arg7.IsWhole) (hc0 : cond0_0 i) (hc1 : ¬cond0_1 i)
    (x0 : Vec Ideal S512x2048 .f32) (x1 : Vec Ideal S512x2048 .f32) (x2 : Vec Ideal S1x2048 .f32) (x3 : Vec Ideal S512x2048 .f32) :
    out0_A_6 c i arg1 harg1 arg2 harg2 arg3 harg3 arg4 harg4 arg5 harg5 arg6 harg6 arg7 harg7 hc0 hc1 x0 x1 x2 x3 = k0_pay4 x0 x1 := by
  unfold out0_A_6 kernelRun0_A
  sl_unfold_words
  dsimp only
  rw [Whole.readAt_all harg1 x0 Whole.z2, Whole.readAt_all harg2 x1 Whole.z2]
  exact Whole.read_all _ _ Whole.z2 _ _ _

set_option maxHeartbeats 2000000 in
theorem out0_B_4_eq (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S1x2048 .f32) (harg7 : arg7.IsWhole) (hc0 : ¬cond0_0 i) (hc1 : cond0_1 i)
    (x0 : Vec Ideal S512x2048 .f32) (x1 : Vec Ideal S512x2048 .f32) (x2 : Vec Ideal S1x2048 .f32) (x3 : Vec Ideal S512x2048 .f32) (xo6 : Vec Ideal S1x2048 .f32) :
    out0_B_4 c i arg1 harg1 arg2 harg2 arg3 harg3 arg4 harg4 arg5 harg5 arg6 harg6 arg7 harg7 hc0 hc1 x0 x1 x2 x3 xo6 = k0_pay5 x0 x1 x2 x3 := by
  unfold out0_B_4 kernelRun0_B
  sl_unfold_words
  dsimp only
  rw [Whole.readAt_all harg1 x0 Whole.z2, Whole.readAt_all harg2 x1 Whole.z2, Whole.readAt_all harg3 x2 Whole.z2, Whole.readAt_all harg4 x3 Whole.z2]
  exact Whole.read_all _ _ Whole.z2 _ _ _

set_option maxHeartbeats 2000000 in
theorem out0_B_5_eq (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S1x2048 .f32) (harg7 : arg7.IsWhole) (hc0 : ¬cond0_0 i) (hc1 : cond0_1 i)
    (x0 : Vec Ideal S512x2048 .f32) (x1 : Vec Ideal S512x2048 .f32) (x2 : Vec Ideal S1x2048 .f32) (x3 : Vec Ideal S512x2048 .f32) (xo6 : Vec Ideal S1x2048 .f32) :
    out0_B_5 c i arg1 harg1 arg2 harg2 arg3 harg3 arg4 harg4 arg5 harg5 arg6 harg6 arg7 harg7 hc0 hc1 x0 x1 x2 x3 xo6 = k0_pay5 x0 x1 x2 x3 := by
  unfold out0_B_5 kernelRun0_B
  sl_unfold_words
  dsimp only
  rw [Whole.readAt_all harg1 x0 Whole.z2, Whole.readAt_all harg2 x1 Whole.z2, Whole.readAt_all harg3 x2 Whole.z2, Whole.readAt_all harg4 x3 Whole.z2, pay6_eq]
  exact Whole.read_all _ _ Whole.z2 _ _ _

set_option maxHeartbeats 2000000 in
theorem out0_B_6_eq (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S1x2048 .f32) (harg7 : arg7.IsWhole) (hc0 : ¬cond0_0 i) (hc1 : cond0_1 i)
    (x0 : Vec Ideal S512x2048 .f32) (x1 : Vec Ideal S512x2048 .f32) (x2 : Vec Ideal S1x2048 .f32) (x3 : Vec Ideal S512x2048 .f32) (xo6 : Vec Ideal S1x2048 .f32) :
    out0_B_6 c i arg1 harg1 arg2 harg2 arg3 harg3 arg4 harg4 arg5 harg5 arg6 harg6 arg7 harg7 hc0 hc1 x0 x1 x2 x3 xo6 = k0_pay1 (k0_pay4 x0 x1) xo6 := by
  unfold out0_B_6 kernelRun0_B
  sl_unfold_words
  dsimp only
  rw [Whole.readAt_all harg1 x0 Whole.z2, Whole.readAt_all harg2 x1 Whole.z2, Whole.readAt_all harg7 xo6 Whole.z2]
  exact Whole.read_all _ _ Whole.z2 _ _ _

end Cert.Kernel13Ideal.Norm

end
-- ==== Proof.NormRow.lean ====
module

public import proofs.«01_k».proof.Proof.NormTile
public import proofs.«01_k».proof.Proof.GateFinite

@[expose] public section

set_option maxRecDepth 16384

noncomputable section

namespace Cert.Kernel13Ideal.Norm

open Idealize.ShloMosaic Idealize.ShloMosaic.TcCoe
open Cert.KernelIdeal.Gate (Fin' fin_add fin_mul fin_sub fin_zero fin_one fin_sum fin_of_sub fin_of_all one_index)

/-! ## The constants -/

/-- Minus a half. -/
def nH : EReal := Ideal.ofBits .f32 0xBF000000#32

theorem nN_eq : nN = ((2048 : ℝ) : EReal) := by
  unfold nN; simp [Ideal.ofBits, Ideal.ieee, -EReal.coe_mul]; norm_num

theorem nH_eq : nH = ((-(1 / 2) : ℝ) : EReal) := by
  unfold nH; simp [Ideal.ofBits, Ideal.ieee, -EReal.coe_mul, -EReal.coe_neg]; norm_num

theorem nE_eq : ∃ e : ℝ, 0 < e ∧ nE = (e : EReal) := by
  refine ⟨_, ?_, by unfold nE; simp [Ideal.ofBits, Ideal.ieee, -EReal.coe_mul]; rfl⟩
  norm_num

/-! ## The gradient of a row, two ways -/

/-- The mean square of a row and the small number. -/
def ms (f : Fin 2048 → EReal) : EReal := Ideal.div (∑ k, f k * f k) nN + nE

/-- What the mean square contributes to the gradient, before the factor of the entry. -/
def sc (f d g : Fin 2048 → EReal) : EReal :=
  Ideal.div ((∑ k, f k * (d k * g k)) * (nH * Ideal.div (rt f) (ms f))) nN

/-- The gradient of a row by the product rule. -/
def dxp (f d g : Fin 2048 → EReal) (q : Fin 2048) : EReal := d q * g q * rt f + f q * sc f d g + sc f d g * f q

theorem coe_sum {n : ℕ} (g : Fin n → ℝ) : ∑ k, ((g k : ℝ) : EReal) = ((∑ k, g k : ℝ) : EReal) :=
  (map_sum (⟨⟨fun r : ℝ => (r : EReal), EReal.coe_zero⟩, EReal.coe_add⟩ : ℝ →+ EReal) g Finset.univ).symm

theorem div_coe (x y : ℝ) (h : y ≠ 0) : Ideal.div (x : EReal) (y : EReal) = ((x / y : ℝ) : EReal) := by
  unfold Ideal.div
  rw [if_neg (fun e => h (EReal.coe_eq_zero.1 e)), ← EReal.coe_inv, ← EReal.coe_mul, div_eq_mul_inv]

theorem rsqrt_coe (m : ℝ) (h : 0 < m) : Ideal.rsqrt (m : EReal) = (((Real.sqrt m)⁻¹ : ℝ) : EReal) := by
  show (if m < 0 then (⊥ : EReal) else if m = 0 then ⊤ else (((Real.sqrt m)⁻¹ : ℝ) : EReal)) = _
  rw [if_neg (not_lt.2 h.le), if_neg h.ne']

/-- The mean square of a row of real numbers is a positive real number. -/
theorem ms_coe (F : Fin 2048 → ℝ) : ∃ m : ℝ, 0 < m ∧ ms (fun k => (F k : EReal)) = (m : EReal) := by
  obtain ⟨e, he, hE⟩ := nE_eq
  refine ⟨(∑ k, F k * F k) / 2048 + e, ?_, ?_⟩
  · have : 0 ≤ ∑ k, F k * F k := Finset.sum_nonneg fun k _ => mul_self_nonneg _
    positivity
  · unfold ms
    rw [nN_eq, hE, Finset.sum_congr rfl fun k _ => (EReal.coe_mul (F k) (F k)).symm, coe_sum, div_coe _ _ (by norm_num), ← EReal.coe_add]

theorem rt_coe (F : Fin 2048 → ℝ) (m : ℝ) (h : 0 < m) (e : ms (fun k => (F k : EReal)) = (m : EReal)) :
    rt (fun k => (F k : EReal)) = (((Real.sqrt m)⁻¹ : ℝ) : EReal) := by
  show Ideal.rsqrt (ms _) = _
  rw [e, rsqrt_coe m h]

theorem mul_add_pos {r : ℝ} (hr : 0 < r) (x y : EReal) : (r : EReal) * (x + y) = r * x + r * y :=
  EReal.left_distrib_of_nonneg_of_ne_top (EReal.coe_nonneg.2 hr.le) (EReal.coe_ne_top r) x y

/-- A positive real number can be taken out of a sum. -/
theorem mul_sum_pos {r : ℝ} (hr : 0 < r) {n : ℕ} (u : Fin n → EReal) : ∑ k, (r : EReal) * u k = (r : EReal) * ∑ k, u k := by
  induction n with
  | zero => simp
  | succ n ih => rw [Fin.sum_univ_succ, Fin.sum_univ_succ, ih, mul_add_pos hr]

theorem add_self (x : EReal) : x + x = ((2 : ℝ) : EReal) * x := by
  have h := EReal.right_distrib_of_nonneg (a := 1) (b := 1) (c := x) zero_le_one zero_le_one
  rw [one_mul] at h
  rw [← h, show ((2 : ℝ) : EReal) = 1 + 1 by rw [← EReal.coe_one, ← EReal.coe_add]; norm_num]

theorem div_real (x : EReal) (y : ℝ) (h : y ≠ 0) : Ideal.div x (y : EReal) = x * ((y⁻¹ : ℝ) : EReal) := by
  unfold Ideal.div
  rw [if_neg (fun e => h (EReal.coe_eq_zero.1 e)), ← EReal.coe_inv]

theorem sq_nonneg' (x : EReal) : 0 ≤ x * x := by
  induction x using EReal.rec with
  | bot => simp
  | coe r => rw [← EReal.coe_mul, ← EReal.coe_zero]; exact EReal.coe_le_coe_iff.2 (mul_self_nonneg r)
  | top => simp

/-- With an infinite entry in the row both are zero. -/
theorem dxr_top (f d g : Fin 2048 → EReal) (hf : ¬∀ k, Fin' (f k)) (q : Fin 2048) : dxp f d g q = 0 ∧ dxr f d g q = 0 := by
  obtain ⟨k, hk⟩ := not_forall.1 hf
  have hs : f k * f k = ⊤ := by
    generalize f k = x at hk
    induction x using EReal.rec with
    | bot => simp
    | coe r => exact absurd ⟨r, rfl⟩ hk
    | top => simp
  have hS : ∑ k, f k * f k = ⊤ := top_le_iff.1 (hs ▸ Finset.single_le_sum (f := fun k => f k * f k) (fun i _ => sq_nonneg' (f i)) (Finset.mem_univ k))
  obtain ⟨e, he, hE⟩ := nE_eq
  have hm : ms f = ⊤ := by
    unfold ms
    rw [hS, nN_eq, hE, div_real _ _ (by norm_num), EReal.top_mul_coe_of_pos (by norm_num)]
    exact EReal.top_add_coe e
  have hr : rt f = 0 := by
    show Ideal.rsqrt (ms f) = 0
    rw [hm]
    rfl
  have hz : sc f d g = 0 := by
    unfold sc
    rw [hr, hm, nN_eq, div_real _ _ (by norm_num)]
    have : Ideal.div 0 ⊤ = 0 := by unfold Ideal.div; rw [if_neg (by simp), zero_mul]
    rw [this, mul_zero, mul_zero, zero_mul]
  unfold dxp dxr
  rw [hz, hr]
  exact ⟨by simp, zero_mul _⟩

/-- The two agree. -/
theorem dxr_eq (f d g : Fin 2048 → EReal) (q : Fin 2048) : dxp f d g q = dxr f d g q := by
  by_cases hf : ∀ k, Fin' (f k)
  swap
  · obtain ⟨h1, h2⟩ := dxr_top f d g hf q
    rw [h1, h2]
  choose F eF using hf
  obtain rfl : f = fun k => (F k : EReal) := funext eF
  obtain ⟨m, hm, em⟩ := ms_coe F
  unfold dxp sc dxr
  rw [rt_coe F m hm em, em, nH_eq, nN_eq]
  obtain ⟨r, hr⟩ : ∃ r : ℝ, r = (Real.sqrt m)⁻¹ := ⟨_, rfl⟩
  have hp : 0 < r := by rw [hr]; exact inv_pos.2 (Real.sqrt_pos.2 hm)
  have h2 : r * r * m = 1 := by
    have hs : Real.sqrt m ≠ 0 := (Real.sqrt_pos.2 hm).ne'
    have := Real.mul_self_sqrt hm.le
    rw [hr]
    field_simp
    nlinarith [this]
  rw [← hr]
  have hA : ∑ k, d k * g k * ((F k : EReal) * (r : EReal)) = (r : EReal) * ∑ k, (F k : EReal) * (d k * g k) := by
    rw [← mul_sum_pos hp]
    exact Finset.sum_congr rfl fun k _ => by rw [mul_comm (d k * g k), mul_comm (F k : EReal) (r : EReal), mul_assoc]
  rw [hA]
  generalize ∑ k, (F k : EReal) * (d k * g k) = B
  generalize d q * g q = u
  have h3 : r / m = r * r * r := by
    rw [div_eq_iff hm.ne']
    linear_combination (-r) * h2
  rw [div_coe r m hm.ne', h3, div_real _ _ (by norm_num), div_real _ _ (by norm_num), sub_eq_add_neg, mul_add_pos hp, add_assoc,
    mul_comm (_ * _) (F q : EReal), add_self, mul_comm u]
  refine congrArg ((r : EReal) * u + ·) ?_
  have hl : ((2 : ℝ) : EReal) * ((F q : EReal) * (B * (((-(1 / 2) : ℝ) : EReal) * ((r * r * r : ℝ) : EReal)) * ((2048⁻¹ : ℝ) : EReal)))
      = ((2 * F q * (-(1 / 2)) * (r * r * r) * 2048⁻¹ : ℝ) : EReal) * B := by
    rw [EReal.coe_mul (2 * F q * (-(1 / 2)) * (r * r * r)), EReal.coe_mul (2 * F q * (-(1 / 2))), EReal.coe_mul (2 * F q), EReal.coe_mul 2]
    ac_rfl
  have hn : (r : EReal) * -((F q : EReal) * (r : EReal) * ((r : EReal) * B * ((2048⁻¹ : ℝ) : EReal)))
      = ((-1 * r * F q * r * r * 2048⁻¹ : ℝ) : EReal) * B := by
    rw [← neg_one_mul, show (-1 : EReal) = ((-1 : ℝ) : EReal) by rw [EReal.coe_neg, EReal.coe_one],
      EReal.coe_mul (-1 * r * F q * r * r), EReal.coe_mul (-1 * r * F q * r), EReal.coe_mul (-1 * r * F q), EReal.coe_mul (-1 * r), EReal.coe_mul (-1)]
    ac_rfl
  refine hl.trans (Eq.trans ?_ hn.symm)
  congr 2
  ring

end Cert.Kernel13Ideal.Norm

end
-- ==== Proof.Norm.lean ====
module

public import proofs.«01_k».proof.Defs
public import proofs.«01_k».proof.Proof.NormRow
public import proofs.«01_k».proof.Proof.Gen.Reference13Ideal.Run
public import proofs.«01_k».proof.Proof.Gen.Reference13Ideal.Read

@[expose] public section

set_option maxRecDepth 16384

noncomputable section

namespace Cert.Kernel13Ideal.Norm

open Idealize.ShloMosaic Idealize.ShloMosaic.TcCoe
open Cert.Kernel13Ideal.Gen Cert.Kernel13Ideal.Value
open Cert.KernelIdeal.Gate (Fin' fin_add fin_mul fin_sub fin_zero fin_one fin_sum fin_of_sub fin_of_all one_index)

/-! ## The results over whole arrays -/

section
variable (D X : Vec Ideal S8192x2048 .f32) (G : Vec Ideal S1x2048 .f32) (E : Vec Ideal S8192x2048 .f32)

/-- Row `R` of an array. -/
def rowOf (A : Vec Ideal S8192x2048 .f32) (R : Fin 8192) : Fin 2048 → EReal := fun k => A (ix2 R k)

/-- What row `R` adds to the gradient of the gain. -/
def gT (q : Fin 2048) (R : Fin 8192) : EReal := D (ix2 R q) * (X (ix2 R q) * rt (rowOf X R))

/-- The gradient of the input, on top of the gradient that came past the norm. -/
def wX : Vec Ideal S8192x2048 .f32 := fun i => E (ix2 (i 0) (i 1)) + dxr (rowOf X (i 0)) (rowOf D (i 0)) (fun k => G (ix2 0 k)) (i 1)

/-- The gradient of the gain. -/
def wG : Vec Ideal S1x2048 .f32 := fun i => ∑ R : Fin 8192, gT D X (i 1) R

end

/-! ## The blocks a point reads -/

variable (m : (ℓ : Loc nD τ sig) → Buf (Elt Ideal) ℓ) (ρ : Dev nD → PrngReg)

/-- The gradient of the normalised rows, the rows, the gain and the gradient past the norm, as launched. -/
def vD (c : Dev nD) : Vec Ideal S8192x2048 .f32 := m ((c.tc : Thread nD τ).loc main_arg0)
def vX (c : Dev nD) : Vec Ideal S8192x2048 .f32 := m ((c.tc : Thread nD τ).loc main_arg1)
def vG (c : Dev nD) : Vec Ideal S1x2048 .f32 := m ((c.tc : Thread nD τ).loc main_arg2)
def vE (c : Dev nD) : Vec Ideal S8192x2048 .f32 := m ((c.tc : Thread nD τ).loc main_arg3)

theorem t_lt (t : Fin cfg0.N) : t.val < 16 := lt_of_lt_of_eq t.isLt (show cfg0.N = 16 from N_0)

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)
theorem index4 : ∀ t : Fin cfg0.N, win0_4.index t (0 : Fin 2) = t.val ∧ win0_4.index t (1 : Fin 2) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)

/-- The rows of a point's tile. -/
def row (t : Fin cfg0.N) (r : Fin 512) : Fin 8192 := ⟨t.val * 512 + r.val, by have := r.isLt; have := t_lt t; omega⟩

theorem block0 (c : Dev nD) (t : Fin cfg0.N) (r : Fin 512) (k : Fin 2048) : iblk m c 0 t (ix2 r k) = vD m c (ix2 (row t r) k) := by
  obtain ⟨e0, e1⟩ := index0 t
  show vD m c (((cfg0.win 0).blk t).view.emb (ix2 r k)) = _
  congr 1; funext a; apply Fin.ext
  match a with
  | ⟨0, _⟩ => show win0_0.index t (0 : Fin 2) * 512 + 1 * r.val = t.val * 512 + r.val; rw [e0]; omega
  | ⟨1, _⟩ => show win0_0.index t (1 : Fin 2) * 2048 + 1 * k.val = k.val; rw [e1]; omega

theorem block1 (c : Dev nD) (t : Fin cfg0.N) (r : Fin 512) (k : Fin 2048) : iblk m c 1 t (ix2 r k) = vX m c (ix2 (row t r) k) := by
  obtain ⟨e0, e1⟩ := index1 t
  show vX m c (((cfg0.win 1).blk t).view.emb (ix2 r k)) = _
  congr 1; funext a; apply Fin.ext
  match a with
  | ⟨0, _⟩ => show win0_1.index t (0 : Fin 2) * 512 + 1 * r.val = t.val * 512 + r.val; rw [e0]; omega
  | ⟨1, _⟩ => show win0_1.index t (1 : Fin 2) * 2048 + 1 * k.val = k.val; rw [e1]; omega

theorem block2 (c : Dev nD) (t : Fin cfg0.N) (z : Fin 1) (k : Fin 2048) : iblk m c 2 t (ix2 z k) = vG m c (ix2 z k) := by
  obtain ⟨e0, e1⟩ := index2 t
  show vG m c (((cfg0.win 2).blk t).view.emb (ix2 z k)) = _
  congr 1; funext a; apply Fin.ext
  match a with
  | ⟨0, _⟩ => show win0_2.index t (0 : Fin 2) * 1 + 1 * z.val = z.val; rw [e0]; omega
  | ⟨1, _⟩ => show win0_2.index t (1 : Fin 2) * 2048 + 1 * k.val = k.val; rw [e1]; omega

theorem block3 (c : Dev nD) (t : Fin cfg0.N) (r : Fin 512) (k : Fin 2048) : iblk m c 3 t (ix2 r k) = vE m c (ix2 (row t r) k) := by
  obtain ⟨e0, e1⟩ := index3 t
  show vE m c (((cfg0.win 3).blk t).view.emb (ix2 r k)) = _
  congr 1; funext a; apply Fin.ext
  match a with
  | ⟨0, _⟩ => show win0_3.index t (0 : Fin 2) * 512 + 1 * r.val = t.val * 512 + r.val; rw [e0]; omega
  | ⟨1, _⟩ => show win0_3.index t (1 : Fin 2) * 2048 + 1 * k.val = k.val; rw [e1]; omega

theorem rows0 (c : Dev nD) (t : Fin cfg0.N) (r : Fin 512) : (fun k : Fin 2048 => iblk m c 0 t (ix2 r k)) = rowOf (vD m c) (row t r) := funext fun k => block0 m c t r k
theorem rows1 (c : Dev nD) (t : Fin cfg0.N) (r : Fin 512) : (fun k : Fin 2048 => iblk m c 1 t (ix2 r k)) = rowOf (vX m c) (row t r) := funext fun k => block1 m c t r k
theorem rows2 (c : Dev nD) (t : Fin cfg0.N) : (fun k : Fin 2048 => iblk m c 2 t (ix2 0 k)) = fun k => vG m c (ix2 0 k) := funext fun k => block2 m c t 0 k

/-- The gradient over a tile. -/
theorem tile4 (c : Dev nD) (t : Fin cfg0.N) (r : Fin 512) (q : Fin 2048) :
    k0_pay5 (iblk m c 0 t) (iblk m c 1 t) (iblk m c 2 t) (iblk m c 3 t) (ix2 r q) = wX (vD m c) (vX m c) (vG m c) (vE m c) (ix2 (row t r) q) := by
  rw [pay5_eq]
  exact congrArg₂ (· + ·) (block3 m c t r q) (by rw [rows0, rows1, rows2]; rfl)

/-- What tile `n` adds to the gradient of the gain. -/
def gS (c : Dev nD) (q : Fin 2048) (n : ℕ) : EReal := ∑ r : Fin 512, gT (vD m c) (vX m c) q ⟨(n * 512 + r.val) % 8192, Nat.mod_lt _ (by decide)⟩

theorem tile6 (c : Dev nD) (t : Fin cfg0.N) (z : Fin 1) (q : Fin 2048) :
    k0_pay4 (iblk m c 0 t) (iblk m c 1 t) (ix2 z q) = gS m c q t.val := by
  rw [pay4_eq]
  refine Finset.sum_congr rfl fun r _ => ?_
  have hr : (⟨(t.val * 512 + r.val) % 8192, Nat.mod_lt _ (by decide)⟩ : Fin 8192) = row t r :=
    Fin.ext (by have := r.isLt; have := t_lt t; show (t.val * 512 + r.val) % 8192 = t.val * 512 + r.val; omega)
  rw [hr]
  exact congrArg₂ (· * ·) (block0 m c t r q) (congrArg₂ (· * ·) (block1 m c t r q) (congrArg rt (rows1 m c t r)))

theorem pred_lt (t : Fin cfg0.N) : t.val - 1 < cfg0.N := Nat.lt_of_le_of_lt (Nat.sub_le _ _) t.isLt

theorem outs4 (c : Dev nD) (t : Fin cfg0.N) : (outsAt0 m c t.val t.isLt).1 = k0_pay5 (iblk m c 0 t) (iblk m c 1 t) (iblk m c 2 t) (iblk m c 3 t) := by
  have ht := t_lt t
  by_cases h0 : t.val % 16 = 0
  · rw [outsAt0_A m c t h0 (by omega)]
    dsimp only
    rw [out0_A_4_eq]
  · rw [outsAt0_B m c t h0 (by omega)]
    dsimp only
    rw [out0_B_4_eq]

theorem outs5 (c : Dev nD) (t : Fin cfg0.N) : (outsAt0 m c t.val t.isLt).2.1 = k0_pay5 (iblk m c 0 t) (iblk m c 1 t) (iblk m c 2 t) (iblk m c 3 t) := by
  have ht := t_lt t
  by_cases h0 : t.val % 16 = 0
  · rw [outsAt0_A m c t h0 (by omega)]
    dsimp only
    rw [out0_A_5_eq]
  · rw [outsAt0_B m c t h0 (by omega)]
    dsimp only
    rw [out0_B_5_eq]

/-- After a point the sums are those over the tiles so far. -/
theorem outs6 (c : Dev nD) (z : Fin 1) (q : Fin 2048) : ∀ (n : ℕ) (h : n < cfg0.N),
    (outsAt0 m c n h).2.2 (ix2 z q) = ∑ i ∈ Finset.range (n + 1), gS m c q i := by
  intro n
  induction n with
  | zero =>
    intro h
    rw [outsAt0_A m c ⟨0, h⟩ rfl (by show ¬1 ≤ 0; omega)]
    dsimp only
    rw [out0_A_6_eq, Finset.sum_range_one]
    exact tile6 m c ⟨0, h⟩ z q
  | succ n ih =>
    intro h
    have ht := t_lt ⟨n + 1, h⟩
    have ht' : n + 1 < 16 := ht
    rw [outsAt0_B m c ⟨n + 1, h⟩ (by show ¬(n + 1) % 16 = 0; omega) (by show 1 ≤ n + 1; omega)]
    dsimp only
    rw [out0_B_6_eq, pay1_eq, Finset.sum_range_succ]
    exact congrArg₂ (· + ·) (ih _) (tile6 m c ⟨n + 1, h⟩ z q)

/-- The sixteen tiles make up the rows. -/
theorem sum_tiles (c : Dev nD) (q : Fin 2048) : ∑ i ∈ Finset.range 16, gS m c q i = ∑ R : Fin 8192, gT (vD m c) (vX m c) q R := by
  rw [Fin.sum_univ_tiles 16 512 rfl, Finset.sum_range]
  refine Finset.sum_congr rfl fun i _ => Finset.sum_congr rfl fun r _ => congrArg _ (Fin.ext ?_)
  have := i.isLt
  have := r.isLt
  show (i.val * 512 + r.val) % 8192 = i.val * 512 + r.val
  omega

/-! ## The arrays after the run -/

theorem flushes4 : ∀ t : Fin cfg0.N, (cfg0.win 4).flush t = true := (by decide +kernel : ∀ t : Fin grid0.N, win0_4.flush t = true)
theorem flushes5 : ∀ t : Fin cfg0.N, (cfg0.win 5).flush t = true := (by decide +kernel : ∀ t : Fin grid0.N, win0_5.flush t = true)

theorem result4 (c : Dev nD) (i : S8192x2048.Idx) : (dats m 0 c).arrAt 4 cfg0.N i = wX (vD m c) (vX m c) (vG m c) (vE m c) i := by
  have h0 : (i 0).val < 8192 := (i 0).isLt
  have hN : cfg0.N = 16 := N_0
  obtain ⟨t, ht⟩ : ∃ t : Fin cfg0.N, t.val = (i 0).val / 512 := ⟨⟨(i 0).val / 512, by rw [hN]; omega⟩, rfl⟩
  obtain ⟨r, hr⟩ : ∃ r : Fin 512, r.val = (i 0).val % 512 := ⟨⟨(i 0).val % 512, Nat.mod_lt _ (by decide)⟩, rfl⟩
  have hR : row t r = i 0 := Fin.ext (by show t.val * 512 + r.val = (i 0).val; omega)
  have hb := congrFun ((blocks4 m c t (flushes4 t)).trans (flushed4 m c t)) (ix2 r (i 1))
  have he : ((cfg0.win 4).blk t).view.emb (ix2 r (i 1)) = i := by
    obtain ⟨e0, e1⟩ := index4 t
    funext a
    apply Fin.ext
    match a with
    | ⟨0, _⟩ => show win0_4.index t (0 : Fin 2) * 512 + 1 * r.val = (i 0).val; rw [e0]; omega
    | ⟨1, _⟩ => show win0_4.index t (1 : Fin 2) * 2048 + 1 * (i 1).val = (i 1).val; rw [e1]; omega
  refine (congrArg ((dats m 0 c).arrAt 4 cfg0.N) he.symm).trans (hb.trans ?_)
  rw [outs4 m c t]
  refine (tile4 m c t r (i 1)).trans ?_
  rw [hR]
  rfl

theorem result5 (c : Dev nD) (i : S8192x2048.Idx) : (dats m 0 c).arrAt 5 cfg0.N i = wX (vD m c) (vX m c) (vG m c) (vE m c) i := by
  have h0 : (i 0).val < 8192 := (i 0).isLt
  have hN : cfg0.N = 16 := N_0
  obtain ⟨t, ht⟩ : ∃ t : Fin cfg0.N, t.val = (i 0).val / 512 := ⟨⟨(i 0).val / 512, by rw [hN]; omega⟩, rfl⟩
  obtain ⟨r, hr⟩ : ∃ r : Fin 512, r.val = (i 0).val % 512 := ⟨⟨(i 0).val % 512, Nat.mod_lt _ (by decide)⟩, rfl⟩
  have hR : row t r = i 0 := Fin.ext (by show t.val * 512 + r.val = (i 0).val; omega)
  have hb := congrFun ((blocks5 m c t (flushes5 t)).trans (flushed5 m c t)) (ix2 r (i 1))
  have he : ((cfg0.win 5).blk t).view.emb (ix2 r (i 1)) = i := by
    obtain ⟨e0, e1⟩ := index5 t
    funext a
    apply Fin.ext
    match a with
    | ⟨0, _⟩ => show win0_5.index t (0 : Fin 2) * 512 + 1 * r.val = (i 0).val; rw [e0]; omega
    | ⟨1, _⟩ => show win0_5.index t (1 : Fin 2) * 2048 + 1 * (i 1).val = (i 1).val; rw [e1]; omega
  refine (congrArg ((dats m 0 c).arrAt 5 cfg0.N) he.symm).trans (hb.trans ?_)
  rw [outs5 m c t]
  refine (tile4 m c t r (i 1)).trans ?_
  rw [hR]
  rfl

theorem flushed6_eq (c : Dev nD) (t : Fin cfg0.N) (hf : (cfg0.win 6).flush t = true) :
    (dats m 0 c).flushed 6 t = ((cfg0.win 6).blk t).view.read (Elt Ideal) (wG (vD m c) (vX m c)) := by
  rw [flushed6 m c t]
  have ht : t.val % 16 = 15 := (flush0_6 t).mp hf
  have ht' := t_lt t
  obtain ⟨e0, e1⟩ := index6 t
  funext y
  have hy0 : (y 0).val < 1 := (y 0).isLt
  have hl : (cfg0.win 6).xinj (grid0.coords t) y = (ix2 (y 0) (y 1) : S1x2048.Idx) := by
    funext a
    match a with
    | ⟨0, _⟩ => rfl
    | ⟨1, _⟩ => rfl
  show (outsAt0 m c t.val t.isLt).2.2 ((cfg0.win 6).xinj (grid0.coords t) y) = wG (vD m c) (vX m c) (((cfg0.win 6).blk t).view.emb y)
  refine (congrArg (outsAt0 m c t.val t.isLt).2.2 hl).trans ((outs6 m c (y 0) (y 1) t.val t.isLt).trans ?_)
  refine (congrArg (fun n => ∑ i ∈ Finset.range n, gS m c (y 1) i) (show t.val + 1 = 16 by omega)).trans ((sum_tiles m c (y 1)).trans ?_)
  have hc : (y 1 : Fin 2048) = (((cfg0.win 6).blk t).view.emb y) 1 := Fin.ext (by
    show (y 1).val = win0_6.index t (1 : Fin 2) * 2048 + 1 * (y 1).val; rw [e1]; omega)
  exact congrArg (fun q => ∑ R : Fin 8192, gT (vD m c) (vX m c) q R) hc

theorem mem_blk6 (t : Fin cfg0.N) (i : S1x2048.Idx) :
    i ∈ ((cfg0.win 6).blk t).view.set ↔ ∀ a : Fin 2, win0_6.index t a * S1x2048.size a ≤ (i a).val ∧ (i a).val < win0_6.index t a * S1x2048.size a + S1x2048.size a := by
  show i ∈ ((View.whole main_v0_2).slice (win0_6.rect t)).set ↔ _
  rw [View.set_slice_whole, Rect.mem_set_unit]
  exact Iff.rfl

theorem result6 (c : Dev nD) : (dats m 0 c).arrAt 6 cfg0.N = wG (vD m c) (vX m c) :=
  (dats m 0 c).arrAt_eq_of_cover 6 _ (fun t hf => flushed6_eq m c t hf) (fun i => by
    have h0 : (i 0).val < 1 := (i 0).isLt
    have h1 : (i 1).val < 2048 := (i 1).isLt
    let t : Fin cfg0.N := ⟨15, lt_of_lt_of_eq (by omega) N_0.symm⟩
    obtain ⟨e0, e1⟩ := index6 t
    refine ⟨t, (flush0_6 t).mpr rfl, ?_⟩
    rw [mem_blk6]
    intro a
    match a with
    | ⟨0, _⟩ => show win0_6.index t (0 : Fin 2) * 1 ≤ (i 0).val ∧ (i 0).val < win0_6.index t (0 : Fin 2) * 1 + 1; omega
    | ⟨1, _⟩ => show win0_6.index t (1 : Fin 2) * 2048 ≤ (i 1).val ∧ (i 1).val < win0_6.index t (1 : Fin 2) * 2048 + 2048; omega)

/-! ## The reference at an index -/

section
open Cert.Reference13Ideal Cert.Reference13Ideal.Read

variable (x0 x1 : Vec Ideal Cert.Reference13Ideal.S8192x2048 .f32) (x2 : Vec Ideal Cert.Reference13Ideal.S1x2048 .f32) (x3 : Vec Ideal Cert.Reference13Ideal.S8192x2048 .f32)

theorem v6_eq (R : Fin 8192) (z : Fin 1) : val_main_v6 (F := Ideal) x1 (ix2 R z) = ms (rowOf x1 R) := by
  rw [val_main_v6_apply, val_main_v4_apply, val_main_v5_apply, val_main_v3_apply, val_main_v2_apply, val_main_v1_apply, val_main_cst_apply, val_main_cst_0_apply, val_main_cst_1_apply]
  show Ideal.div (Ideal.ofBits .f32 0x00000000#32 + _) nN + nE = _
  rw [Ideal.ofBits_zero_f32, zero_add]
  unfold ms
  refine congrArg (fun s => Ideal.div s nN + nE) (Finset.sum_congr rfl fun k _ => ?_)
  rw [val_main_v0_apply]
  have hi : idx_main_v1 (idx_main_v2 (ix2 R z : Cert.Reference13Ideal.S8192x1.Idx)) k = ix2 R k := by
    funext a
    match a with
    | ⟨0, _⟩ => rfl
    | ⟨1, _⟩ => rfl
  rw [hi]
  rfl

theorem v7_eq (R : Fin 8192) (z : Fin 1) : val_main_v7 (F := Ideal) x1 (ix2 R z) = rt (rowOf x1 R) := by
  rw [val_main_v7_apply, v6_eq]
  rfl

theorem v10_eq (R : Fin 8192) (z : Fin 1) : val_main_v10 (F := Ideal) x1 (ix2 R z) = nH * Ideal.div (rt (rowOf x1 R)) (ms (rowOf x1 R)) := by
  rw [val_main_v10_apply, val_main_v9_apply, val_main_cst_2_apply, val_main_v8_apply, v7_eq, v6_eq]
  rfl

theorem v11_eq (R : Fin 8192) (q : Fin 2048) : val_main_v11 (F := Ideal) x1 (ix2 R q) = rt (rowOf x1 R) := by
  rw [val_main_v11_apply]
  refine Eq.trans (congrArg _ ?_) (v7_eq x1 R 0)
  funext a
  match a with
  | ⟨0, _⟩ => rfl
  | ⟨1, _⟩ => rfl

theorem v23_eq (R : Fin 8192) (q : Fin 2048) : val_main_v23 (F := Ideal) x1 (ix2 R q) = rt (rowOf x1 R) := by
  rw [val_main_v23_apply]
  refine Eq.trans (congrArg _ ?_) (v7_eq x1 R 0)
  funext a
  match a with
  | ⟨0, _⟩ => rfl
  | ⟨1, _⟩ => rfl

theorem v19_eq (R : Fin 8192) (q : Fin 2048) : val_main_v19 (F := Ideal) x0 x2 (ix2 R q) = x0 (ix2 R q) * x2 (ix2 0 q) := by
  rw [val_main_v19_apply, val_main_v18_apply]
  refine congrArg (fun j => x0 (ix2 R q) * x2 j) ?_
  funext a
  match a with
  | ⟨0, _⟩ => rfl
  | ⟨1, _⟩ => rfl

theorem v22_eq (R : Fin 8192) (z : Fin 1) : val_main_v22 (F := Ideal) x0 x1 x2 (ix2 R z) = ∑ k : Fin 2048, x1 (ix2 R k) * (x0 (ix2 R k) * x2 (ix2 0 k)) := by
  rw [val_main_v22_apply, val_main_v21_apply, val_main_cst_4_apply]
  show Ideal.ofBits .f32 0x00000000#32 + _ = _
  rw [Ideal.ofBits_zero_f32, zero_add]
  refine Finset.sum_congr rfl fun k _ => ?_
  have hi : idx_main_v21 (idx_main_v22 (ix2 R z : Cert.Reference13Ideal.S8192x1.Idx)) k = ix2 R k := by
    funext a; apply Fin.ext
    match a with
    | ⟨0, _⟩ => show R.val * 1 + z.val = R.val; omega
    | ⟨1, _⟩ => rfl
  rw [hi, val_main_v20_apply, v19_eq]
  rfl

theorem v29_eq (R : Fin 8192) (q : Fin 2048) : val_main_v29 (F := Ideal) x0 x1 x2 (ix2 R q) = sc (rowOf x1 R) (rowOf x0 R) (fun k => x2 (ix2 0 k)) := by
  rw [val_main_v29_apply, val_main_v28_apply, val_main_cst_6_apply]
  show Ideal.ofBits .f32 0x00000000#32 + _ = _
  rw [Ideal.ofBits_zero_f32, zero_add, Fin.sum_univ_one]
  have hi : idx_main_v28 (idx_main_v29 (ix2 R q : Cert.Reference13Ideal.S8192x2048.Idx)) 0 = ix2 R 0 := by
    funext a
    match a with
    | ⟨0, _⟩ => rfl
    | ⟨1, _⟩ => rfl
  rw [hi, val_main_v27_apply, val_main_v26_apply, val_main_cst_5_apply, val_main_v25_apply, v22_eq, v10_eq]
  rfl

theorem v33_eq (R : Fin 8192) (q : Fin 2048) : val_main_v33 (F := Ideal) x0 x1 x2 (ix2 R q) = dxp (rowOf x1 R) (rowOf x0 R) (fun k => x2 (ix2 0 k)) q := by
  rw [val_main_v33_apply, val_main_v31_apply, val_main_v24_apply, val_main_v30_apply, val_main_v32_apply, v19_eq, v23_eq, v29_eq]
  rfl

theorem pair2 (i : Cert.Reference13Ideal.S8192x2048.Idx) : ∃ (R : Fin 8192) (q : Fin 2048), i = ix2 R q :=
  ⟨i 0, i 1, funext fun a => match a with
    | ⟨0, _⟩ => rfl
    | ⟨1, _⟩ => rfl⟩

theorem v34_eq : val_main_v34 (F := Ideal) x0 x1 x2 x3 = wX x0 x1 x2 x3 := by
  funext i
  obtain ⟨R, q, rfl⟩ := pair2 i
  rw [val_main_v34_apply, v33_eq, dxr_eq (rowOf x1 R) (rowOf x0 R) (fun k => x2 (ix2 0 k))]
  rfl

theorem v36_eq : val_main_v36 (F := Ideal) x0 x1 x2 x3 = wX x0 x1 x2 x3 := by
  refine Eq.trans ?_ (v34_eq x0 x1 x2 x3)
  funext i
  rw [val_main_v36_apply, val_main_v35_apply, val_main_v34_apply]
  rfl

theorem v17_eq : val_main_v17 (F := Ideal) x0 x1 = wG x0 x1 := by
  funext i
  rw [val_main_v17_apply, val_main_v16_apply, val_main_cst_3_apply]
  show Ideal.ofBits .f32 0x00000000#32 + _ = _
  rw [Ideal.ofBits_zero_f32, zero_add]
  refine Finset.sum_congr rfl fun R _ => ?_
  have hi : idx_main_v16 (idx_main_v17 i) R = ix2 R (i 1) := by
    have h : (i 0).val < 1 := (i 0).isLt
    funext a; apply Fin.ext
    match a with
    | ⟨0, _⟩ => rfl
    | ⟨1, _⟩ => show (i 0).val * 2048 + (i 1).val = (i 1).val; omega
  rw [hi]
  refine Eq.trans (b := x1 (ix2 R (i 1)) * rt (rowOf x1 R) * x0 (ix2 R (i 1))) ?_ (mul_comm _ _)
  refine (val_main_v15_apply (F := Ideal) x0 x1 (ix2 R (i 1))).trans ?_
  refine congrArg (· * x0 (ix2 R (i 1))) ?_
  refine (val_main_v12_apply (F := Ideal) x1 (ix2 R (i 1))).trans ?_
  exact congrArg (x1 (ix2 R (i 1)) * ·) (v11_eq x1 R (i 1))

end

/-! ## The kernel and its reference -/

theorem same2 {α β ζ : Type} (f : α → β → ζ) {a a' : α} {b b' : β} (ha : a = a') (hb : b = b') : f a b = f a' b' := by
  subst ha hb; rfl

theorem same4 {α β γ δ ζ : Type} (f : α → β → γ → δ → ζ) {a a' : α} {b b' : β} {c c' : γ} {d d' : δ}
    (ha : a = a') (hb : b = b') (hc : c = c') (hd : d = d') : f a b c d = f a' b' c' d' := by
  subst ha hb hc hd; rfl

/-- The kernel and its reference end with equal results. -/
theorem equal : Cert.algebraic_Kernel13Ideal_Reference13Ideal := by
  intro m g m' g' _ hagree
  refine ⟨fun c => wX (vD m c) (vX m c) (vG m c) (vE m c), fun c => wX (vD m c) (vX m c) (vG m c) (vE m c), fun c => wG (vD m c) (vX m c), ?_, ?_⟩
  · refine (θ_run defs _ _).mono (fun r h c => ?_) (run_blocks m g)
    exact ⟨(h c).1.trans (funext fun i => result4 m c i), (h c).2.1.trans (funext fun i => result5 m c i), (h c).2.2.1.trans (result6 m c), (h c).2.2.2⟩
  · refine (θ_run Cert.Reference13Ideal.defs _ _).mono (fun r h c => ?_) (Cert.Reference13Ideal.Value.run (F := Ideal) m' g')
    obtain ⟨a0, a1, a2, a3⟩ := hagree c
    exact ⟨(((h c).1.trans (Cert.Reference13Ideal.Read.val_main_v34_eq (F := Ideal) _ _ _ _)).trans (same4 (Cert.Reference13Ideal.Read.val_main_v34 (F := Ideal)) a0 a1 a2 a3)).trans (v34_eq _ _ _ _),
      (((h c).2.1.trans (Cert.Reference13Ideal.Read.val_main_v36_eq (F := Ideal) _ _ _ _)).trans (same4 (Cert.Reference13Ideal.Read.val_main_v36 (F := Ideal)) a0 a1 a2 a3)).trans (v36_eq _ _ _ _),
      (((h c).2.2.1.trans (Cert.Reference13Ideal.Read.val_main_v17_eq (F := Ideal) _ _)).trans (same2 (Cert.Reference13Ideal.Read.val_main_v17 (F := Ideal)) a0 a1)).trans (v17_eq _ _),
      (h c).2.2.2⟩

end Cert.Kernel13Ideal.Norm

end
-- ==== Proof.PoolTile.lean ====
module

public import proofs.«01_k».proof.Proof.Gen.Kernel14Ideal.Value
public import proofs.«01_k».proof.Proof.Whole
public import proofs.«01_k».proof.Proof.NormRow
public import Idealize.ShloMosaic.Lib.Pointwise

@[expose] public section

set_option maxRecDepth 16384

noncomputable section

namespace Cert.Kernel14Ideal.Pool

open Idealize.ShloMosaic Idealize.ShloMosaic.TcCoe
open Cert.Kernel14Ideal.Gen Cert.Kernel14Ideal.Value
open Cert.Kernel13Ideal.Norm (rt dxr nN nE)

/-- Column `k` of group `g`. -/
def col (g : Fin 4) (k : Fin 512) : Fin 2048 := ⟨512 * g.val + k.val, by omega⟩

/-- The group a column is in. -/
def grp (C : Fin 2048) : Fin 4 := ⟨C.val / 512, by omega⟩

/-- The place of a column in its group. -/
def loc (C : Fin 2048) : Fin 512 := ⟨C.val % 512, by omega⟩

theorem grp_col (g : Fin 4) (k : Fin 512) : grp (col g k) = g := Fin.ext (by show (512 * g.val + k.val) / 512 = _; omega)

theorem loc_col (g : Fin 4) (k : Fin 512) : loc (col g k) = k := Fin.ext (by show (512 * g.val + k.val) % 512 = _; omega)

theorem col_grp (C : Fin 2048) : col (grp C) (loc C) = C := Fin.ext (by show 512 * (C.val / 512) + C.val % 512 = _; omega)

theorem col_zero (k : Fin 512) : col 0 k = ⟨k.val, by omega⟩ := Fin.ext (by show 512 * 0 + k.val = k.val; omega)

/-- The number of rows a window of width `w` has at the row after `a`. -/
def cnt (a w : BitVec 32) : EReal := FloatOps.sitofp (F := Ideal) .f32 (IntOp.minsi (a + 1#32) w)

/-- The width of a group's window. -/
def wd : Fin 4 → BitVec 32 := ![2#32, 4#32, 8#32, 16#32]

theorem ds0_eq (x : Vec Ideal S256x2048 .f32) (d : Vec Ideal S256x512 .bf16) (w : Vec Ideal S1x512x512 .bf16) (o : Vec Ideal S1x512 .f32) (j : Fin 512) :
    k0_pay12 x d w o (ix2 0 j) = o (ix2 0 j) + ∑ r : Fin 256, x (ix2 r (col 0 j)) * ∑ k : Fin 512, d (ix2 r k) * w (ix3 0 k j) := by
  unfold k0_pay12 k0_pay11
  simp only [col_zero]
  pointwise
  try rfl

theorem dw0_eq (v7 : FVec Ideal S256x2048 .bf16) (d : Vec Ideal S256x512 .bf16) (o : Vec Ideal S1x512x512 .f32) (k j : Fin 512) :
    k0_pay13 v7 (k0_pay11 d) o (ix3 0 k j) = o (ix3 0 k j) + ∑ r : Fin 256, d (ix2 r k) * v7 (ix2 r (col 0 j)) := by
  unfold k0_pay13 k0_pay11
  simp only [col_zero]
  pointwise
  try rfl

theorem dd0_eq (v7 : FVec Ideal S256x2048 .bf16) (w : Vec Ideal S1x512x512 .bf16) (r : Fin 256) (j : Fin 512) :
    k0_pay14 v7 w (ix2 r j) = ∑ k : Fin 512, v7 (ix2 r (col 0 k)) * w (ix3 0 j k) := by
  unfold k0_pay14
  pointwise
  try rfl

theorem ex0_eq (v7 : FVec Ideal S256x2048 .bf16) (a : IVec S256x1 32) (w : Vec Ideal S1x512x512 .bf16) (r : Fin 256) (j : Fin 512) :
    k0_pay15 v7 a w (ix2 r j) = Ideal.div (∑ k : Fin 512, v7 (ix2 r (col 0 k)) * w (ix3 0 j k)) (cnt (a (ix2 r 0)) 2#32) := by
  rw [← dd0_eq]
  unfold k0_pay15 cnt
  generalize k0_pay14 v7 w = u
  pointwise
  try rfl

theorem ha0_eq (i0 : BitVec 32) (v11 : FVec Ideal S32x2048 .bf16) (ah : IVec S32x1 32) (w : Vec Ideal S1x512x512 .bf16) (r : Fin 32) (j : Fin 512) :
    k0_pay17 (k0_pay16 i0 v11 ah w) (ix2 r j)
      = if Scalar.cmpi .slt i0 31#32 = 1#1 then Ideal.div (∑ k : Fin 512, v11 (ix2 r (col 0 k)) * w (ix3 0 j k)) (cnt (ah (ix2 r 0)) 2#32) else 0 := by
  unfold k0_pay17 k0_pay16 cnt
  pointwise
  try rfl

theorem ds1_eq (x : Vec Ideal S256x2048 .f32) (d : Vec Ideal S256x512 .bf16) (w : Vec Ideal S1x512x512 .bf16) (o : Vec Ideal S1x512 .f32) (j : Fin 512) :
    k0_pay19 x d w o (ix2 0 j) = o (ix2 0 j) + ∑ r : Fin 256, x (ix2 r (col 1 j)) * ∑ k : Fin 512, d (ix2 r k) * w (ix3 0 k j) := by
  unfold k0_pay19 k0_pay18
  skip
  pointwise
  try rfl

theorem dw1_eq (v7 : FVec Ideal S256x2048 .bf16) (d : Vec Ideal S256x512 .bf16) (o : Vec Ideal S1x512x512 .f32) (k j : Fin 512) :
    k0_pay20 v7 d o (ix3 0 k j) = o (ix3 0 k j) + ∑ r : Fin 256, d (ix2 r k) * v7 (ix2 r (col 1 j)) := by
  unfold k0_pay20 k0_pay18
  skip
  pointwise
  try rfl

theorem dd1_eq (v7 : FVec Ideal S256x2048 .bf16) (w : Vec Ideal S1x512x512 .bf16) (r : Fin 256) (j : Fin 512) :
    k0_pay21 v7 w (ix2 r j) = ∑ k : Fin 512, v7 (ix2 r (col 1 k)) * w (ix3 0 j k) := by
  unfold k0_pay21
  pointwise
  try rfl

theorem ex1_eq (v7 : FVec Ideal S256x2048 .bf16) (a : IVec S256x1 32) (w : Vec Ideal S1x512x512 .bf16) (r : Fin 256) (j : Fin 512) :
    k0_pay23 a (k0_pay21 v7 w) (ix2 r j) = Ideal.div (∑ k : Fin 512, v7 (ix2 r (col 1 k)) * w (ix3 0 j k)) (cnt (a (ix2 r 0)) 4#32) := by
  rw [← dd1_eq]
  unfold k0_pay23 cnt
  generalize k0_pay21 v7 w = u
  pointwise
  try rfl

theorem ha1_eq (i0 : BitVec 32) (v11 : FVec Ideal S32x2048 .bf16) (ah : IVec S32x1 32) (w : Vec Ideal S1x512x512 .bf16) (r : Fin 32) (j : Fin 512) :
    k0_pay24 i0 ah (k0_pay22 v11) w (ix2 r j)
      = if Scalar.cmpi .slt i0 31#32 = 1#1 then Ideal.div (∑ k : Fin 512, v11 (ix2 r (col 1 k)) * w (ix3 0 j k)) (cnt (ah (ix2 r 0)) 4#32) else 0 := by
  unfold k0_pay24 k0_pay22 cnt
  pointwise
  try rfl

theorem ds2_eq (x : Vec Ideal S256x2048 .f32) (d : Vec Ideal S256x512 .bf16) (w : Vec Ideal S1x512x512 .bf16) (o : Vec Ideal S1x512 .f32) (j : Fin 512) :
    k0_pay26 x d w o (ix2 0 j) = o (ix2 0 j) + ∑ r : Fin 256, x (ix2 r (col 2 j)) * ∑ k : Fin 512, d (ix2 r k) * w (ix3 0 k j) := by
  unfold k0_pay26 k0_pay25
  skip
  pointwise
  try rfl

theorem dw2_eq (v7 : FVec Ideal S256x2048 .bf16) (d : Vec Ideal S256x512 .bf16) (o : Vec Ideal S1x512x512 .f32) (k j : Fin 512) :
    k0_pay27 v7 (k0_pay25 d) o (ix3 0 k j) = o (ix3 0 k j) + ∑ r : Fin 256, d (ix2 r k) * v7 (ix2 r (col 2 j)) := by
  unfold k0_pay27 k0_pay25
  skip
  pointwise
  try rfl

theorem dd2_eq (v7 : FVec Ideal S256x2048 .bf16) (w : Vec Ideal S1x512x512 .bf16) (r : Fin 256) (j : Fin 512) :
    k0_pay28 v7 w (ix2 r j) = ∑ k : Fin 512, v7 (ix2 r (col 2 k)) * w (ix3 0 j k) := by
  unfold k0_pay28
  pointwise
  try rfl

theorem ex2_eq (v7 : FVec Ideal S256x2048 .bf16) (a : IVec S256x1 32) (w : Vec Ideal S1x512x512 .bf16) (r : Fin 256) (j : Fin 512) :
    k0_pay29 v7 a w (ix2 r j) = Ideal.div (∑ k : Fin 512, v7 (ix2 r (col 2 k)) * w (ix3 0 j k)) (cnt (a (ix2 r 0)) 8#32) := by
  rw [← dd2_eq]
  unfold k0_pay29 cnt
  generalize k0_pay28 v7 w = u
  pointwise
  try rfl

theorem ha2_eq (i0 : BitVec 32) (v11 : FVec Ideal S32x2048 .bf16) (ah : IVec S32x1 32) (w : Vec Ideal S1x512x512 .bf16) (r : Fin 32) (j : Fin 512) :
    k0_pay31 i0 (k0_pay30 v11 ah w) 31#32 (ix2 r j)
      = if Scalar.cmpi .slt i0 31#32 = 1#1 then Ideal.div (∑ k : Fin 512, v11 (ix2 r (col 2 k)) * w (ix3 0 j k)) (cnt (ah (ix2 r 0)) 8#32) else 0 := by
  unfold k0_pay31 k0_pay30 cnt
  pointwise
  try rfl

theorem ds3_eq (x : Vec Ideal S256x2048 .f32) (d : Vec Ideal S256x512 .bf16) (w : Vec Ideal S1x512x512 .bf16) (o : Vec Ideal S1x512 .f32) (j : Fin 512) :
    k0_pay33 x d w o (ix2 0 j) = o (ix2 0 j) + ∑ r : Fin 256, x (ix2 r (col 3 j)) * ∑ k : Fin 512, d (ix2 r k) * w (ix3 0 k j) := by
  unfold k0_pay33 k0_pay32
  skip
  pointwise
  try rfl

theorem dw3_eq (v7 : FVec Ideal S256x2048 .bf16) (d : Vec Ideal S256x512 .bf16) (o : Vec Ideal S1x512x512 .f32) (k j : Fin 512) :
    k0_pay34 v7 d o (ix3 0 k j) = o (ix3 0 k j) + ∑ r : Fin 256, d (ix2 r k) * v7 (ix2 r (col 3 j)) := by
  unfold k0_pay34 k0_pay32
  skip
  pointwise
  try rfl

theorem dd3_eq (v7 : FVec Ideal S256x2048 .bf16) (w : Vec Ideal S1x512x512 .bf16) (r : Fin 256) (j : Fin 512) :
    k0_pay35 v7 w (ix2 r j) = ∑ k : Fin 512, v7 (ix2 r (col 3 k)) * w (ix3 0 j k) := by
  unfold k0_pay35
  pointwise
  try rfl

theorem ex3_eq (v7 : FVec Ideal S256x2048 .bf16) (a : IVec S256x1 32) (w : Vec Ideal S1x512x512 .bf16) (r : Fin 256) (j : Fin 512) :
    k0_pay37 a (k0_pay35 v7 w) (ix2 r j) = Ideal.div (∑ k : Fin 512, v7 (ix2 r (col 3 k)) * w (ix3 0 j k)) (cnt (a (ix2 r 0)) 16#32) := by
  rw [← dd3_eq]
  unfold k0_pay37 cnt
  generalize k0_pay35 v7 w = u
  pointwise
  try rfl

theorem ha3_eq (i0 : BitVec 32) (v11 : FVec Ideal S32x2048 .bf16) (ah : IVec S32x1 32) (w : Vec Ideal S1x512x512 .bf16) (r : Fin 32) (j : Fin 512) :
    k0_pay38 i0 ah (k0_pay36 v11) w (ix2 r j)
      = if Scalar.cmpi .slt i0 31#32 = 1#1 then Ideal.div (∑ k : Fin 512, v11 (ix2 r (col 3 k)) * w (ix3 0 j k)) (cnt (ah (ix2 r 0)) 16#32) else 0 := by
  unfold k0_pay38 k0_pay36 cnt
  pointwise
  try rfl

theorem pay7_eq (x : Vec Ideal S256x2048 .f32) (s : Vec Ideal S1x2048 .f32) (r : Fin 256) (C : Fin 2048) :
    k0_pay7 x s (ix2 r C) = x (ix2 r C) * s (ix2 0 C) := by
  unfold k0_pay7
  pointwise
  try rfl

theorem pay8_eq (x : Vec Ideal S32x2048 .f32) (s : Vec Ideal S1x2048 .f32) (r : Fin 32) (C : Fin 2048) :
    k0_pay8 s x (ix2 r C) = x (ix2 r C) * s (ix2 0 C) := by
  unfold k0_pay8
  pointwise
  try rfl

theorem pay9_eq (i : grid0.Coords) (r : Fin 256) :
    k0_pay9 i (ix2 r 0) = BitVec.ofNat 32 (i 0).val * 256#32 + BitVec.ofNat 32 r.val := by
  unfold k0_pay9
  pointwise
  try rfl

theorem pay10_eq (i : grid0.Coords) (r : Fin 32) :
    k0_pay10 i (ix2 r 0) = (BitVec.ofNat 32 (i 0).val + 1#32) * 256#32 + BitVec.ofNat 32 r.val := by
  unfold k0_pay10
  pointwise
  try rfl

theorem pay3_eq (h x : FVec Ideal S256x2048 .f32) (o : Vec Ideal S1x2048 .f32) (C : Fin 2048) :
    k0_pay3 h x o (ix2 0 C) = o (ix2 0 C) + ∑ r : Fin 256, h (ix2 r C) * x (ix2 r C) := by
  unfold k0_pay3
  pointwise
  try rfl

theorem pay57_eq (x : Vec Ideal S256x2048 .f32) (r : Fin 256) (C : Fin 2048) :
    k0_pay57 x (ix2 r C) = x (ix2 r C) * rt fun k => x (ix2 r k) := by
  unfold k0_pay57 k0_pay56 rt nN nE
  pointwise
  try rfl

theorem pay1_eq (x3 h : Vec Ideal S256x2048 .f32) (gn : Vec Ideal S1x2048 .f32) (x : Vec Ideal S256x2048 .f32) (r : Fin 256) (C : Fin 2048) :
    k0_pay1 x3 h gn (k0_pay56 x) (k0_pay57 x) (ix2 r C)
      = x3 (ix2 r C) + dxr (fun k => x (ix2 r k)) (fun k => h (ix2 r k)) (fun k => gn (ix2 0 k)) C := by
  unfold k0_pay1 k0_pay57 k0_pay56 dxr rt nN nE
  pointwise
  try rfl

theorem pay2_eq (x3 h : Vec Ideal S256x2048 .f32) (gn : Vec Ideal S1x2048 .f32) (x : Vec Ideal S256x2048 .f32) :
    k0_pay2 x3 h gn (k0_pay56 x) (k0_pay57 x) = k0_pay1 x3 h gn (k0_pay56 x) (k0_pay57 x) := rfl

theorem zero8_eq (r : Fin 8) (C : Fin 2048) : k0_pay39 (F := Ideal) (ix2 r C) = 0 ∧ k0_pay40 (F := Ideal) (ix2 r C) = 0
    ∧ k0_pay42 (F := Ideal) k0_pay41 (ix2 r C) = 0 ∧ k0_pay43 (F := Ideal) (ix2 r C) = 0 := by
  refine ⟨?_, ?_, ?_, ?_⟩
  · unfold k0_pay39; pointwise; try exact Ideal.ofBits_zero_f32
  · unfold k0_pay40; pointwise; try exact Ideal.ofBits_zero_f32
  · unfold k0_pay42 k0_pay41; pointwise; try exact Ideal.ofBits_zero_f32
  · unfold k0_pay43; pointwise; try exact Ideal.ofBits_zero_f32

theorem pay4_eq (g : Fin 4) (k j : Fin 512) : k0_pay4 (F := Ideal) (ix3 g k j) = 0 := by
  unfold k0_pay4; pointwise; try exact Ideal.ofBits_zero_f32

theorem pay5_eq (C : Fin 2048) : k0_pay5 (F := Ideal) (ix2 0 C) = 0 := by
  unfold k0_pay5; pointwise; try exact Ideal.ofBits_zero_f32

theorem pay6_eq (C : Fin 2048) : k0_pay6 (F := Ideal) (ix2 0 C) = 0 := by
  unfold k0_pay6; pointwise; try exact Ideal.ofBits_zero_f32

/-- Two reads added up, as a store of the window sums is. -/
theorem adds_eq (a b : Vec Ideal S280x512 .f32) (r : Fin 280) (j : Fin 512) :
    k0_pay44 a b (ix2 r j) = a (ix2 r j) + b (ix2 r j) ∧ k0_pay45 a b (ix2 r j) = a (ix2 r j) + b (ix2 r j)
      ∧ k0_pay46 a b (ix2 r j) = a (ix2 r j) + b (ix2 r j) ∧ k0_pay48 (k0_pay47 a b) (ix2 r j) = a (ix2 r j) + b (ix2 r j)
      ∧ k0_pay49 a b (ix2 r j) = a (ix2 r j) + b (ix2 r j) ∧ k0_pay50 a b (ix2 r j) = a (ix2 r j) + b (ix2 r j)
      ∧ k0_pay51 a b (ix2 r j) = a (ix2 r j) + b (ix2 r j) ∧ k0_pay52 a b (ix2 r j) = a (ix2 r j) + b (ix2 r j)
      ∧ k0_pay53 a b (ix2 r j) = a (ix2 r j) + b (ix2 r j) ∧ k0_pay54 a b (ix2 r j) = a (ix2 r j) + b (ix2 r j) := by
  refine ⟨?_, ?_, ?_, ?_, ?_, ?_, ?_, ?_, ?_, ?_⟩
  · unfold k0_pay44; pointwise; try rfl
  · unfold k0_pay45; pointwise; try rfl
  · unfold k0_pay46; pointwise; try rfl
  · unfold k0_pay48 k0_pay47; pointwise; try rfl
  · unfold k0_pay49; pointwise; try rfl
  · unfold k0_pay50; pointwise; try rfl
  · unfold k0_pay51; pointwise; try rfl
  · unfold k0_pay52; pointwise; try rfl
  · unfold k0_pay53; pointwise; try rfl
  · unfold k0_pay54; pointwise; try rfl

theorem pay55_eq (a0 a1 a2 a3 : FVec Ideal S256x512 .f32) (b0 b1 b2 b3 : Vec Ideal S256x512 .f32) (r : Fin 256) (j : Fin 512) :
    k0_pay55 a0 a1 a2 a3 b0 b1 b2 b3 (ix2 r (col 0 j)) = b0 (ix2 r j) - a0 (ix2 r j)
      ∧ k0_pay55 a0 a1 a2 a3 b0 b1 b2 b3 (ix2 r (col 1 j)) = b1 (ix2 r j) - a1 (ix2 r j)
      ∧ k0_pay55 a0 a1 a2 a3 b0 b1 b2 b3 (ix2 r (col 2 j)) = b2 (ix2 r j) - a2 (ix2 r j)
      ∧ k0_pay55 a0 a1 a2 a3 b0 b1 b2 b3 (ix2 r (col 3 j)) = b3 (ix2 r j) - a3 (ix2 r j) := by
  refine ⟨?_, ?_, ?_, ?_⟩
  · unfold k0_pay55; pointwise
    rw [dif_pos (by show 512 * 0 + j.val < 512; omega)]
    exact congrArg₂ (· - ·) (congrArg (fun z => b0 (ix2 r z)) (Fin.ext (by show 512 * 0 + j.val = j.val; omega))) (congrArg (fun z => a0 (ix2 r z)) (Fin.ext (by show 512 * 0 + j.val = j.val; omega)))
  · unfold k0_pay55; pointwise
    rw [dif_neg (by show ¬ (512 * 1 + j.val < 512); omega), dif_pos (by show 512 * 1 + j.val - 512 < 512; omega)]
    exact congrArg₂ (· - ·) (congrArg (fun z => b1 (ix2 r z)) (Fin.ext (by show 512 * 1 + j.val - 512 = j.val; omega))) (congrArg (fun z => a1 (ix2 r z)) (Fin.ext (by show 512 * 1 + j.val - 512 = j.val; omega)))
  · unfold k0_pay55; pointwise
    rw [dif_neg (by show ¬ (512 * 2 + j.val < 512); omega), dif_neg (by show ¬ (512 * 2 + j.val - 512 < 512); omega), dif_pos (by show 512 * 2 + j.val - 512 - 512 < 512; omega)]
    exact congrArg₂ (· - ·) (congrArg (fun z => b2 (ix2 r z)) (Fin.ext (by show 512 * 2 + j.val - 512 - 512 = j.val; omega))) (congrArg (fun z => a2 (ix2 r z)) (Fin.ext (by show 512 * 2 + j.val - 512 - 512 = j.val; omega)))
  · unfold k0_pay55; pointwise
    rw [dif_neg (by show ¬ (512 * 3 + j.val < 512); omega), dif_neg (by show ¬ (512 * 3 + j.val - 512 < 512); omega), dif_neg (by show ¬ (512 * 3 + j.val - 512 - 512 < 512); omega)]
    exact congrArg₂ (· - ·) (congrArg (fun z => b3 (ix2 r z)) (Fin.ext (by show 512 * 3 + j.val - 512 - 512 - 512 = j.val; omega))) (congrArg (fun z => a3 (ix2 r z)) (Fin.ext (by show 512 * 3 + j.val - 512 - 512 - 512 = j.val; omega)))

end Cert.Kernel14Ideal.Pool

end
-- ==== Proof.PoolRead.lean ====
module

public import proofs.«01_k».proof.Proof.PoolTile
public import proofs.«01_k».proof.Proof.GateTile

@[expose] public section

set_option maxRecDepth 16384

noncomputable section

namespace Cert.Kernel14Ideal.Pool

open Idealize.ShloMosaic Idealize.ShloMosaic.TcCoe
open Cert.Kernel14Ideal.Gen Cert.Kernel14Ideal.Value
open Cert.KernelIdeal.Gate (emb2)

/-- A buffer of the window sums, by row and column. -/
abbrev Buf := ℕ → Fin 2048 → EReal

/-- The part of a buffer from row `o`, in the columns of group `g`. -/
def Rd (E : Buf) (o : ℕ) (g : Fin 4) (n : ℕ) : (⟨2, ![n, 512]⟩ : Shape).Idx → EReal := fun x => E (o + (x 0).val) (col g (x 1))

theorem Rd_apply (E : Buf) (o : ℕ) (g : Fin 4) (n : ℕ) (r : Fin n) (j : Fin 512) : Rd E o g n (ix2 r j) = E (o + r.val) (col g j) := rfl

/-- A stored piece agrees with a buffer. -/
def Ok (E : Buf) (p : View.Piece (Elt Ideal) S288x2048 .f32) : Prop :=
  ∀ x : p.1.shape.Idx, p.2 x = E ((p.1.emb x) 0).val ((p.1.emb x) 1)

theorem ok_of (E : Buf) {o c n : ℕ} (g : Fin 4) (hc : 512 * g.val = c)
    (inb : ∀ x, (![o, c] : Fin 2 → ℕ) x + (![n, 512] : Fin 2 → ℕ) x ≤ S288x2048.size x)
    (p : Vec Ideal ⟨2, ![n, 512]⟩ .f32) (h : ∀ (r : Fin n) (j : Fin 512), p (ix2 r j) = E (o + r.val) (col g j)) :
    Ok E ⟨Rect.unit (s := S288x2048) ![o, c] ![n, 512] inb, p⟩ := by
  intro x
  show p x = _
  obtain ⟨r, j, rfl⟩ : ∃ (r : Fin n) (j : Fin 512), x = ix2 r j := ⟨x 0, x 1, by
    funext a
    match a with
    | ⟨0, _⟩ => rfl
    | ⟨1, _⟩ => rfl⟩
  rw [h r j]
  have he := emb2 (a := 288) (b := 2048) inb r j
  refine (congrArg₂ E ?_ ?_)
  · exact (congrArg (fun y : S288x2048.Idx => (y 0).val) he).symm
  · refine Eq.trans (Fin.ext ?_) (congrArg (fun y : S288x2048.Idx => y 1) he).symm
    show 512 * g.val + j.val = c + j.val
    omega

theorem ok_rows (E : Buf) {o n : ℕ}
    (inb : ∀ x, (![o, 0] : Fin 2 → ℕ) x + (![n, 2048] : Fin 2 → ℕ) x ≤ S288x2048.size x)
    (p : Vec Ideal ⟨2, ![n, 2048]⟩ .f32) (h : ∀ (r : Fin n) (C : Fin 2048), p (ix2 r C) = E (o + r.val) C) :
    Ok E ⟨Rect.unit (s := S288x2048) ![o, 0] ![n, 2048] inb, p⟩ := by
  intro x
  show p x = _
  obtain ⟨r, j, rfl⟩ : ∃ (r : Fin n) (j : Fin 2048), x = ix2 r j := ⟨x 0, x 1, by
    funext a
    match a with
    | ⟨0, _⟩ => rfl
    | ⟨1, _⟩ => rfl⟩
  rw [h r j]
  have he := emb2 (a := 288) (b := 2048) inb r j
  refine (congrArg₂ E ?_ ?_)
  · exact (congrArg (fun y : S288x2048.Idx => (y 0).val) he).symm
  · refine Eq.trans (Fin.ext ?_) (congrArg (fun y : S288x2048.Idx => y 1) he).symm
    show j.val = 0 + j.val
    omega

/-- A load of a buffer every stored piece of which agrees with `E` reads `E`, where a piece lies. -/
theorem rd_of {sig : RefSig} {κ : Kind} {sp : Space} (v : View sig κ sp S288x2048 .f32) (L : List (View.Piece (Elt Ideal) S288x2048 .f32)) (E : Buf)
    {o c n : ℕ} (g : Fin 4) (hc : 512 * g.val = c)
    (inb : ∀ x, (![o, c] : Fin 2 → ℕ) x + (![n, 512] : Fin 2 → ℕ) x ≤ S288x2048.size x)
    (hL : ∀ p ∈ L, Ok E p)
    (hcov : ∀ r : ℕ, r < n → ∃ p ∈ L, ∀ (h : o + r < 288) (j : Fin 512), (ix2 ⟨o + r, h⟩ (col g j) : S288x2048.Idx) ∈ p.1.set) :
    v.readCov L (Rect.unit (s := S288x2048) ![o, c] ![n, 512] inb).toLoadRect = Rd E o g n := by
  funext x
  obtain ⟨r, j, rfl⟩ : ∃ (r : Fin n) (j : Fin 512), x = ix2 r j := ⟨x 0, x 1, by
    funext a
    match a with
    | ⟨0, _⟩ => rfl
    | ⟨1, _⟩ => rfl⟩
  have hr : o + r.val < 288 := by have := inb 0; have := r.isLt; simp at *; omega
  unfold View.readCov
  rw [View.readAt_apply]
  have he : (Rect.unit (s := S288x2048) ![o, c] ![n, 512] inb).toLoadRect.idx (ix2 r j) = ix2 ⟨o + r.val, hr⟩ (col g j) := by
    refine (emb2 (a := 288) (b := 2048) inb r j).trans ?_
    refine congrArg (ix2 _) (Fin.ext ?_)
    show c + j.val = 512 * g.val + j.val
    omega
  rw [he]
  suffices key : ∀ L : List (View.Piece (Elt Ideal) S288x2048 .f32), (∀ p ∈ L, Ok E p) → ∀ y, (∃ p ∈ L, y ∈ p.1.set) →
      v.read (Elt Ideal) (v.writes (Elt Ideal) v.junk L) y = E (y 0).val (y 1) by
    obtain ⟨p, hp, h⟩ := hcov r.val r.isLt
    exact key L hL _ ⟨p, hp, h hr j⟩
  intro L
  induction L with
  | nil => rintro - y ⟨p, hp, -⟩; cases hp
  | cons p L ih =>
    intro hL y hy
    by_cases hm : y ∈ p.1.set
    · rw [← Rect.map_emb_univ, Finset.mem_map] at hm
      obtain ⟨x, -, hx⟩ := hm
      subst hx
      rw [View.writes_cons]
      exact (View.read_slice_write_emb _ _ _ (Finset.mem_univ x)).trans (hL p (by simp) x)
    · have hr : v.read (Elt Ideal) (v.writes (Elt Ideal) v.junk (p :: L)) y = v.read (Elt Ideal) (v.writes (Elt Ideal) v.junk L) y := by
        rw [View.writes_cons]
        exact View.read_slice_write_of_not_mem _ _ _ _ (by rw [Rect.map_emb_univ]; exact hm)
      rw [hr]
      refine ih (fun q hq => hL q (by simp [hq])) y ?_
      obtain ⟨q, hq, hyq⟩ := hy
      rcases List.mem_cons.mp hq with rfl | hq
      · exact absurd hyq hm
      · exact ⟨q, hq, hyq⟩

theorem mem_piece {o c n m : ℕ} (inb : ∀ x, (![o, c] : Fin 2 → ℕ) x + (![n, m] : Fin 2 → ℕ) x ≤ S288x2048.size x)
    (r : ℕ) (hr : r < 288) (C : Fin 2048) (h0 : o ≤ r) (h1 : r < o + n) (h2 : c ≤ C.val) (h3 : C.val < c + m) :
    (ix2 ⟨r, hr⟩ C : S288x2048.Idx) ∈ (Rect.unit (s := S288x2048) ![o, c] ![n, m] inb).set := by
  rw [Rect.mem_set_unit]
  intro a
  match a with
  | ⟨0, _⟩ => exact ⟨h0, h1⟩
  | ⟨1, _⟩ => exact ⟨h2, h3⟩

/-- The divided gradient over a tile's rows and the first rows after it. -/
def ext (i0 : BitVec 32) (v7 : Vec Ideal S256x2048 .bf16) (v11 : Vec Ideal S32x2048 .bf16) (a : IVec S256x1 32) (ah : IVec S32x1 32)
    (w0 w1 w2 w3 : Vec Ideal S1x512x512 .bf16) : Buf := fun r C =>
  if h : r < 256 then
    Ideal.div (∑ k : Fin 512, v7 (ix2 ⟨r, h⟩ (col (grp C) k)) * (![w0, w1, w2, w3] : Fin 4 → Vec Ideal S1x512x512 .bf16) (grp C) (ix3 0 (loc C) k))
      (cnt (a (ix2 ⟨r, h⟩ 0)) (wd (grp C)))
  else if h : r - 256 < 32 then
    if Scalar.cmpi .slt i0 31#32 = 1#1 then
      Ideal.div (∑ k : Fin 512, v11 (ix2 ⟨r - 256, h⟩ (col (grp C) k)) * (![w0, w1, w2, w3] : Fin 4 → Vec Ideal S1x512x512 .bf16) (grp C) (ix3 0 (loc C) k))
        (cnt (ah (ix2 ⟨r - 256, h⟩ 0)) (wd (grp C)))
    else 0
  else 0

/-- One more level of the window sums: two rows `k` apart, added up. -/
def lev (P : Buf) (k : ℕ) : Buf := fun r C => if r < 280 then P r C + P (k + r) C else 0

variable {sig : RefSig} {κ : Kind} {sp : Space}

theorem ext_ok (i0 : BitVec 32) (v7 : Vec Ideal S256x2048 .bf16) (v11 : Vec Ideal S32x2048 .bf16) (a : IVec S256x1 32) (ah : IVec S32x1 32)
    (w0 w1 w2 w3 : Vec Ideal S1x512x512 .bf16) (h0 h1 h2 h3 e0 e1 e2 e3) :
    ∀ p ∈ ([⟨Rect.unit (s := S288x2048) ![256, 1536] S32x512.size h3, k0_pay38 i0 ah (k0_pay36 v11) w3⟩,
      ⟨Rect.unit (s := S288x2048) ![0, 1536] S256x512.size e3, k0_pay37 a (k0_pay35 v7 w3)⟩,
      ⟨Rect.unit (s := S288x2048) ![256, 1024] S32x512.size h2, k0_pay31 i0 (k0_pay30 v11 ah w2) 31#32⟩,
      ⟨Rect.unit (s := S288x2048) ![0, 1024] S256x512.size e2, k0_pay29 v7 a w2⟩,
      ⟨Rect.unit (s := S288x2048) ![256, 512] S32x512.size h1, k0_pay24 i0 ah (k0_pay22 v11) w1⟩,
      ⟨Rect.unit (s := S288x2048) ![0, 512] S256x512.size e1, k0_pay23 a (k0_pay21 v7 w1)⟩,
      ⟨Rect.unit (s := S288x2048) ![256, 0] S32x512.size h0, k0_pay17 (k0_pay16 i0 v11 ah w0)⟩,
      ⟨Rect.unit (s := S288x2048) ![0, 0] S256x512.size e0, k0_pay15 v7 a w0⟩] : List (View.Piece (Elt Ideal) S288x2048 .f32)), Ok (ext i0 v7 v11 a ah w0 w1 w2 w3) p := by
  intro p hp
  simp only [List.mem_cons, List.not_mem_nil, or_false] at hp
  rcases hp with rfl | rfl | rfl | rfl | rfl | rfl | rfl | rfl
  · refine ok_of _ 3 rfl _ _ fun r j => (ha3_eq _ _ _ _ r j).trans ?_
    unfold ext
    have hr : 256 + r.val - 256 = r.val := by omega
    rw [dif_neg (by omega), dif_pos (by omega : 256 + r.val - 256 < 32), grp_col, loc_col]
    simp only [hr]
    rfl
  · refine ok_of _ 3 rfl _ _ fun r j => (ex3_eq _ _ _ r j).trans ?_
    unfold ext
    have hr : 0 + r.val = r.val := by omega
    rw [dif_pos (by omega : 0 + r.val < 256), grp_col, loc_col]
    simp only [hr]
    rfl
  · refine ok_of _ 2 rfl _ _ fun r j => (ha2_eq _ _ _ _ r j).trans ?_
    unfold ext
    have hr : 256 + r.val - 256 = r.val := by omega
    rw [dif_neg (by omega), dif_pos (by omega : 256 + r.val - 256 < 32), grp_col, loc_col]
    simp only [hr]
    rfl
  · refine ok_of _ 2 rfl _ _ fun r j => (ex2_eq _ _ _ r j).trans ?_
    unfold ext
    have hr : 0 + r.val = r.val := by omega
    rw [dif_pos (by omega : 0 + r.val < 256), grp_col, loc_col]
    simp only [hr]
    rfl
  · refine ok_of _ 1 rfl _ _ fun r j => (ha1_eq _ _ _ _ r j).trans ?_
    unfold ext
    have hr : 256 + r.val - 256 = r.val := by omega
    rw [dif_neg (by omega), dif_pos (by omega : 256 + r.val - 256 < 32), grp_col, loc_col]
    simp only [hr]
    rfl
  · refine ok_of _ 1 rfl _ _ fun r j => (ex1_eq _ _ _ r j).trans ?_
    unfold ext
    have hr : 0 + r.val = r.val := by omega
    rw [dif_pos (by omega : 0 + r.val < 256), grp_col, loc_col]
    simp only [hr]
    rfl
  · refine ok_of _ 0 rfl _ _ fun r j => (ha0_eq _ _ _ _ r j).trans ?_
    unfold ext
    have hr : 256 + r.val - 256 = r.val := by omega
    rw [dif_neg (by omega), dif_pos (by omega : 256 + r.val - 256 < 32), grp_col, loc_col]
    simp only [hr]
    rfl
  · refine ok_of _ 0 rfl _ _ fun r j => (ex0_eq _ _ _ r j).trans ?_
    unfold ext
    have hr : 0 + r.val = r.val := by omega
    rw [dif_pos (by omega : 0 + r.val < 256), grp_col, loc_col]
    simp only [hr]
    rfl

theorem rdE_0_0 (v : View sig κ sp S288x2048 .f32) (i0 : BitVec 32) (v7 : Vec Ideal S256x2048 .bf16) (v11 : Vec Ideal S32x2048 .bf16) (a : IVec S256x1 32) (ah : IVec S32x1 32)
    (w0 w1 w2 w3 : Vec Ideal S1x512x512 .bf16) (h0 h1 h2 h3 e0 e1 e2 e3) (inb) :
    v.readCov ([⟨Rect.unit (s := S288x2048) ![256, 1536] S32x512.size h3, k0_pay38 i0 ah (k0_pay36 v11) w3⟩,
      ⟨Rect.unit (s := S288x2048) ![0, 1536] S256x512.size e3, k0_pay37 a (k0_pay35 v7 w3)⟩,
      ⟨Rect.unit (s := S288x2048) ![256, 1024] S32x512.size h2, k0_pay31 i0 (k0_pay30 v11 ah w2) 31#32⟩,
      ⟨Rect.unit (s := S288x2048) ![0, 1024] S256x512.size e2, k0_pay29 v7 a w2⟩,
      ⟨Rect.unit (s := S288x2048) ![256, 512] S32x512.size h1, k0_pay24 i0 ah (k0_pay22 v11) w1⟩,
      ⟨Rect.unit (s := S288x2048) ![0, 512] S256x512.size e1, k0_pay23 a (k0_pay21 v7 w1)⟩,
      ⟨Rect.unit (s := S288x2048) ![256, 0] S32x512.size h0, k0_pay17 (k0_pay16 i0 v11 ah w0)⟩,
      ⟨Rect.unit (s := S288x2048) ![0, 0] S256x512.size e0, k0_pay15 v7 a w0⟩] : List (View.Piece (Elt Ideal) S288x2048 .f32)) (Rect.unit (s := S288x2048) ![0, 0] S280x512.size inb).toLoadRect
      = Rd (ext i0 v7 v11 a ah w0 w1 w2 w3) 0 0 280 := by
  refine rd_of v _ _ 0 rfl inb (ext_ok i0 v7 v11 a ah w0 w1 w2 w3 h0 h1 h2 h3 e0 e1 e2 e3) fun r hr => ?_
  by_cases h : 0 + r < 256
  · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), fun hh j => mem_piece e0 _ hh _ (by omega) (by omega) (by show 0 ≤ 512 * 0 + j.val; omega) (by show 512 * 0 + j.val < 0 + 512; have := j.isLt; omega)⟩
  · exact ⟨_, (List.mem_cons_of_mem _ (List.mem_cons_of_mem _ (List.mem_cons_of_mem _ (List.mem_cons_of_mem _ (List.mem_cons_of_mem _ (List.mem_cons_of_mem _ List.mem_cons_self)))))), fun hh j => mem_piece h0 _ hh _ (by omega) (by omega) (by show 0 ≤ 512 * 0 + j.val; omega) (by show 512 * 0 + j.val < 0 + 512; have := j.isLt; omega)⟩

theorem rdE_0_1 (v : View sig κ sp S288x2048 .f32) (i0 : BitVec 32) (v7 : Vec Ideal S256x2048 .bf16) (v11 : Vec Ideal S32x2048 .bf16) (a : IVec S256x1 32) (ah : IVec S32x1 32)
    (w0 w1 w2 w3 : Vec Ideal S1x512x512 .bf16) (h0 h1 h2 h3 e0 e1 e2 e3) (inb) :
    v.readCov ([⟨Rect.unit (s := S288x2048) ![256, 1536] S32x512.size h3, k0_pay38 i0 ah (k0_pay36 v11) w3⟩,
      ⟨Rect.unit (s := S288x2048) ![0, 1536] S256x512.size e3, k0_pay37 a (k0_pay35 v7 w3)⟩,
      ⟨Rect.unit (s := S288x2048) ![256, 1024] S32x512.size h2, k0_pay31 i0 (k0_pay30 v11 ah w2) 31#32⟩,
      ⟨Rect.unit (s := S288x2048) ![0, 1024] S256x512.size e2, k0_pay29 v7 a w2⟩,
      ⟨Rect.unit (s := S288x2048) ![256, 512] S32x512.size h1, k0_pay24 i0 ah (k0_pay22 v11) w1⟩,
      ⟨Rect.unit (s := S288x2048) ![0, 512] S256x512.size e1, k0_pay23 a (k0_pay21 v7 w1)⟩,
      ⟨Rect.unit (s := S288x2048) ![256, 0] S32x512.size h0, k0_pay17 (k0_pay16 i0 v11 ah w0)⟩,
      ⟨Rect.unit (s := S288x2048) ![0, 0] S256x512.size e0, k0_pay15 v7 a w0⟩] : List (View.Piece (Elt Ideal) S288x2048 .f32)) (Rect.unit (s := S288x2048) ![1, 0] S280x512.size inb).toLoadRect
      = Rd (ext i0 v7 v11 a ah w0 w1 w2 w3) 1 0 280 := by
  refine rd_of v _ _ 0 rfl inb (ext_ok i0 v7 v11 a ah w0 w1 w2 w3 h0 h1 h2 h3 e0 e1 e2 e3) fun r hr => ?_
  by_cases h : 1 + r < 256
  · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), fun hh j => mem_piece e0 _ hh _ (by omega) (by omega) (by show 0 ≤ 512 * 0 + j.val; omega) (by show 512 * 0 + j.val < 0 + 512; have := j.isLt; omega)⟩
  · exact ⟨_, (List.mem_cons_of_mem _ (List.mem_cons_of_mem _ (List.mem_cons_of_mem _ (List.mem_cons_of_mem _ (List.mem_cons_of_mem _ (List.mem_cons_of_mem _ List.mem_cons_self)))))), fun hh j => mem_piece h0 _ hh _ (by omega) (by omega) (by show 0 ≤ 512 * 0 + j.val; omega) (by show 512 * 0 + j.val < 0 + 512; have := j.isLt; omega)⟩

theorem rdE_1_0 (v : View sig κ sp S288x2048 .f32) (i0 : BitVec 32) (v7 : Vec Ideal S256x2048 .bf16) (v11 : Vec Ideal S32x2048 .bf16) (a : IVec S256x1 32) (ah : IVec S32x1 32)
    (w0 w1 w2 w3 : Vec Ideal S1x512x512 .bf16) (h0 h1 h2 h3 e0 e1 e2 e3) (inb) :
    v.readCov ([⟨Rect.unit (s := S288x2048) ![256, 1536] S32x512.size h3, k0_pay38 i0 ah (k0_pay36 v11) w3⟩,
      ⟨Rect.unit (s := S288x2048) ![0, 1536] S256x512.size e3, k0_pay37 a (k0_pay35 v7 w3)⟩,
      ⟨Rect.unit (s := S288x2048) ![256, 1024] S32x512.size h2, k0_pay31 i0 (k0_pay30 v11 ah w2) 31#32⟩,
      ⟨Rect.unit (s := S288x2048) ![0, 1024] S256x512.size e2, k0_pay29 v7 a w2⟩,
      ⟨Rect.unit (s := S288x2048) ![256, 512] S32x512.size h1, k0_pay24 i0 ah (k0_pay22 v11) w1⟩,
      ⟨Rect.unit (s := S288x2048) ![0, 512] S256x512.size e1, k0_pay23 a (k0_pay21 v7 w1)⟩,
      ⟨Rect.unit (s := S288x2048) ![256, 0] S32x512.size h0, k0_pay17 (k0_pay16 i0 v11 ah w0)⟩,
      ⟨Rect.unit (s := S288x2048) ![0, 0] S256x512.size e0, k0_pay15 v7 a w0⟩] : List (View.Piece (Elt Ideal) S288x2048 .f32)) (Rect.unit (s := S288x2048) ![0, 512] S280x512.size inb).toLoadRect
      = Rd (ext i0 v7 v11 a ah w0 w1 w2 w3) 0 1 280 := by
  refine rd_of v _ _ 1 rfl inb (ext_ok i0 v7 v11 a ah w0 w1 w2 w3 h0 h1 h2 h3 e0 e1 e2 e3) fun r hr => ?_
  by_cases h : 0 + r < 256
  · exact ⟨_, (List.mem_cons_of_mem _ (List.mem_cons_of_mem _ (List.mem_cons_of_mem _ (List.mem_cons_of_mem _ (List.mem_cons_of_mem _ List.mem_cons_self))))), fun hh j => mem_piece e1 _ hh _ (by omega) (by omega) (by show 512 ≤ 512 * 1 + j.val; omega) (by show 512 * 1 + j.val < 512 + 512; have := j.isLt; omega)⟩
  · exact ⟨_, (List.mem_cons_of_mem _ (List.mem_cons_of_mem _ (List.mem_cons_of_mem _ (List.mem_cons_of_mem _ List.mem_cons_self)))), fun hh j => mem_piece h1 _ hh _ (by omega) (by omega) (by show 512 ≤ 512 * 1 + j.val; omega) (by show 512 * 1 + j.val < 512 + 512; have := j.isLt; omega)⟩

theorem rdE_1_1 (v : View sig κ sp S288x2048 .f32) (i0 : BitVec 32) (v7 : Vec Ideal S256x2048 .bf16) (v11 : Vec Ideal S32x2048 .bf16) (a : IVec S256x1 32) (ah : IVec S32x1 32)
    (w0 w1 w2 w3 : Vec Ideal S1x512x512 .bf16) (h0 h1 h2 h3 e0 e1 e2 e3) (inb) :
    v.readCov ([⟨Rect.unit (s := S288x2048) ![256, 1536] S32x512.size h3, k0_pay38 i0 ah (k0_pay36 v11) w3⟩,
      ⟨Rect.unit (s := S288x2048) ![0, 1536] S256x512.size e3, k0_pay37 a (k0_pay35 v7 w3)⟩,
      ⟨Rect.unit (s := S288x2048) ![256, 1024] S32x512.size h2, k0_pay31 i0 (k0_pay30 v11 ah w2) 31#32⟩,
      ⟨Rect.unit (s := S288x2048) ![0, 1024] S256x512.size e2, k0_pay29 v7 a w2⟩,
      ⟨Rect.unit (s := S288x2048) ![256, 512] S32x512.size h1, k0_pay24 i0 ah (k0_pay22 v11) w1⟩,
      ⟨Rect.unit (s := S288x2048) ![0, 512] S256x512.size e1, k0_pay23 a (k0_pay21 v7 w1)⟩,
      ⟨Rect.unit (s := S288x2048) ![256, 0] S32x512.size h0, k0_pay17 (k0_pay16 i0 v11 ah w0)⟩,
      ⟨Rect.unit (s := S288x2048) ![0, 0] S256x512.size e0, k0_pay15 v7 a w0⟩] : List (View.Piece (Elt Ideal) S288x2048 .f32)) (Rect.unit (s := S288x2048) ![1, 512] S280x512.size inb).toLoadRect
      = Rd (ext i0 v7 v11 a ah w0 w1 w2 w3) 1 1 280 := by
  refine rd_of v _ _ 1 rfl inb (ext_ok i0 v7 v11 a ah w0 w1 w2 w3 h0 h1 h2 h3 e0 e1 e2 e3) fun r hr => ?_
  by_cases h : 1 + r < 256
  · exact ⟨_, (List.mem_cons_of_mem _ (List.mem_cons_of_mem _ (List.mem_cons_of_mem _ (List.mem_cons_of_mem _ (List.mem_cons_of_mem _ List.mem_cons_self))))), fun hh j => mem_piece e1 _ hh _ (by omega) (by omega) (by show 512 ≤ 512 * 1 + j.val; omega) (by show 512 * 1 + j.val < 512 + 512; have := j.isLt; omega)⟩
  · exact ⟨_, (List.mem_cons_of_mem _ (List.mem_cons_of_mem _ (List.mem_cons_of_mem _ (List.mem_cons_of_mem _ List.mem_cons_self)))), fun hh j => mem_piece h1 _ hh _ (by omega) (by omega) (by show 512 ≤ 512 * 1 + j.val; omega) (by show 512 * 1 + j.val < 512 + 512; have := j.isLt; omega)⟩

theorem rdE_2_0 (v : View sig κ sp S288x2048 .f32) (i0 : BitVec 32) (v7 : Vec Ideal S256x2048 .bf16) (v11 : Vec Ideal S32x2048 .bf16) (a : IVec S256x1 32) (ah : IVec S32x1 32)
    (w0 w1 w2 w3 : Vec Ideal S1x512x512 .bf16) (h0 h1 h2 h3 e0 e1 e2 e3) (inb) :
    v.readCov ([⟨Rect.unit (s := S288x2048) ![256, 1536] S32x512.size h3, k0_pay38 i0 ah (k0_pay36 v11) w3⟩,
      ⟨Rect.unit (s := S288x2048) ![0, 1536] S256x512.size e3, k0_pay37 a (k0_pay35 v7 w3)⟩,
      ⟨Rect.unit (s := S288x2048) ![256, 1024] S32x512.size h2, k0_pay31 i0 (k0_pay30 v11 ah w2) 31#32⟩,
      ⟨Rect.unit (s := S288x2048) ![0, 1024] S256x512.size e2, k0_pay29 v7 a w2⟩,
      ⟨Rect.unit (s := S288x2048) ![256, 512] S32x512.size h1, k0_pay24 i0 ah (k0_pay22 v11) w1⟩,
      ⟨Rect.unit (s := S288x2048) ![0, 512] S256x512.size e1, k0_pay23 a (k0_pay21 v7 w1)⟩,
      ⟨Rect.unit (s := S288x2048) ![256, 0] S32x512.size h0, k0_pay17 (k0_pay16 i0 v11 ah w0)⟩,
      ⟨Rect.unit (s := S288x2048) ![0, 0] S256x512.size e0, k0_pay15 v7 a w0⟩] : List (View.Piece (Elt Ideal) S288x2048 .f32)) (Rect.unit (s := S288x2048) ![0, 1024] S280x512.size inb).toLoadRect
      = Rd (ext i0 v7 v11 a ah w0 w1 w2 w3) 0 2 280 := by
  refine rd_of v _ _ 2 rfl inb (ext_ok i0 v7 v11 a ah w0 w1 w2 w3 h0 h1 h2 h3 e0 e1 e2 e3) fun r hr => ?_
  by_cases h : 0 + r < 256
  · exact ⟨_, (List.mem_cons_of_mem _ (List.mem_cons_of_mem _ (List.mem_cons_of_mem _ List.mem_cons_self))), fun hh j => mem_piece e2 _ hh _ (by omega) (by omega) (by show 1024 ≤ 512 * 2 + j.val; omega) (by show 512 * 2 + j.val < 1024 + 512; have := j.isLt; omega)⟩
  · exact ⟨_, (List.mem_cons_of_mem _ (List.mem_cons_of_mem _ List.mem_cons_self)), fun hh j => mem_piece h2 _ hh _ (by omega) (by omega) (by show 1024 ≤ 512 * 2 + j.val; omega) (by show 512 * 2 + j.val < 1024 + 512; have := j.isLt; omega)⟩

theorem rdE_2_1 (v : View sig κ sp S288x2048 .f32) (i0 : BitVec 32) (v7 : Vec Ideal S256x2048 .bf16) (v11 : Vec Ideal S32x2048 .bf16) (a : IVec S256x1 32) (ah : IVec S32x1 32)
    (w0 w1 w2 w3 : Vec Ideal S1x512x512 .bf16) (h0 h1 h2 h3 e0 e1 e2 e3) (inb) :
    v.readCov ([⟨Rect.unit (s := S288x2048) ![256, 1536] S32x512.size h3, k0_pay38 i0 ah (k0_pay36 v11) w3⟩,
      ⟨Rect.unit (s := S288x2048) ![0, 1536] S256x512.size e3, k0_pay37 a (k0_pay35 v7 w3)⟩,
      ⟨Rect.unit (s := S288x2048) ![256, 1024] S32x512.size h2, k0_pay31 i0 (k0_pay30 v11 ah w2) 31#32⟩,
      ⟨Rect.unit (s := S288x2048) ![0, 1024] S256x512.size e2, k0_pay29 v7 a w2⟩,
      ⟨Rect.unit (s := S288x2048) ![256, 512] S32x512.size h1, k0_pay24 i0 ah (k0_pay22 v11) w1⟩,
      ⟨Rect.unit (s := S288x2048) ![0, 512] S256x512.size e1, k0_pay23 a (k0_pay21 v7 w1)⟩,
      ⟨Rect.unit (s := S288x2048) ![256, 0] S32x512.size h0, k0_pay17 (k0_pay16 i0 v11 ah w0)⟩,
      ⟨Rect.unit (s := S288x2048) ![0, 0] S256x512.size e0, k0_pay15 v7 a w0⟩] : List (View.Piece (Elt Ideal) S288x2048 .f32)) (Rect.unit (s := S288x2048) ![1, 1024] S280x512.size inb).toLoadRect
      = Rd (ext i0 v7 v11 a ah w0 w1 w2 w3) 1 2 280 := by
  refine rd_of v _ _ 2 rfl inb (ext_ok i0 v7 v11 a ah w0 w1 w2 w3 h0 h1 h2 h3 e0 e1 e2 e3) fun r hr => ?_
  by_cases h : 1 + r < 256
  · exact ⟨_, (List.mem_cons_of_mem _ (List.mem_cons_of_mem _ (List.mem_cons_of_mem _ List.mem_cons_self))), fun hh j => mem_piece e2 _ hh _ (by omega) (by omega) (by show 1024 ≤ 512 * 2 + j.val; omega) (by show 512 * 2 + j.val < 1024 + 512; have := j.isLt; omega)⟩
  · exact ⟨_, (List.mem_cons_of_mem _ (List.mem_cons_of_mem _ List.mem_cons_self)), fun hh j => mem_piece h2 _ hh _ (by omega) (by omega) (by show 1024 ≤ 512 * 2 + j.val; omega) (by show 512 * 2 + j.val < 1024 + 512; have := j.isLt; omega)⟩

theorem rdE_3_0 (v : View sig κ sp S288x2048 .f32) (i0 : BitVec 32) (v7 : Vec Ideal S256x2048 .bf16) (v11 : Vec Ideal S32x2048 .bf16) (a : IVec S256x1 32) (ah : IVec S32x1 32)
    (w0 w1 w2 w3 : Vec Ideal S1x512x512 .bf16) (h0 h1 h2 h3 e0 e1 e2 e3) (inb) :
    v.readCov ([⟨Rect.unit (s := S288x2048) ![256, 1536] S32x512.size h3, k0_pay38 i0 ah (k0_pay36 v11) w3⟩,
      ⟨Rect.unit (s := S288x2048) ![0, 1536] S256x512.size e3, k0_pay37 a (k0_pay35 v7 w3)⟩,
      ⟨Rect.unit (s := S288x2048) ![256, 1024] S32x512.size h2, k0_pay31 i0 (k0_pay30 v11 ah w2) 31#32⟩,
      ⟨Rect.unit (s := S288x2048) ![0, 1024] S256x512.size e2, k0_pay29 v7 a w2⟩,
      ⟨Rect.unit (s := S288x2048) ![256, 512] S32x512.size h1, k0_pay24 i0 ah (k0_pay22 v11) w1⟩,
      ⟨Rect.unit (s := S288x2048) ![0, 512] S256x512.size e1, k0_pay23 a (k0_pay21 v7 w1)⟩,
      ⟨Rect.unit (s := S288x2048) ![256, 0] S32x512.size h0, k0_pay17 (k0_pay16 i0 v11 ah w0)⟩,
      ⟨Rect.unit (s := S288x2048) ![0, 0] S256x512.size e0, k0_pay15 v7 a w0⟩] : List (View.Piece (Elt Ideal) S288x2048 .f32)) (Rect.unit (s := S288x2048) ![0, 1536] S280x512.size inb).toLoadRect
      = Rd (ext i0 v7 v11 a ah w0 w1 w2 w3) 0 3 280 := by
  refine rd_of v _ _ 3 rfl inb (ext_ok i0 v7 v11 a ah w0 w1 w2 w3 h0 h1 h2 h3 e0 e1 e2 e3) fun r hr => ?_
  by_cases h : 0 + r < 256
  · exact ⟨_, (List.mem_cons_of_mem _ List.mem_cons_self), fun hh j => mem_piece e3 _ hh _ (by omega) (by omega) (by show 1536 ≤ 512 * 3 + j.val; omega) (by show 512 * 3 + j.val < 1536 + 512; have := j.isLt; omega)⟩
  · exact ⟨_, List.mem_cons_self, fun hh j => mem_piece h3 _ hh _ (by omega) (by omega) (by show 1536 ≤ 512 * 3 + j.val; omega) (by show 512 * 3 + j.val < 1536 + 512; have := j.isLt; omega)⟩

theorem rdE_3_1 (v : View sig κ sp S288x2048 .f32) (i0 : BitVec 32) (v7 : Vec Ideal S256x2048 .bf16) (v11 : Vec Ideal S32x2048 .bf16) (a : IVec S256x1 32) (ah : IVec S32x1 32)
    (w0 w1 w2 w3 : Vec Ideal S1x512x512 .bf16) (h0 h1 h2 h3 e0 e1 e2 e3) (inb) :
    v.readCov ([⟨Rect.unit (s := S288x2048) ![256, 1536] S32x512.size h3, k0_pay38 i0 ah (k0_pay36 v11) w3⟩,
      ⟨Rect.unit (s := S288x2048) ![0, 1536] S256x512.size e3, k0_pay37 a (k0_pay35 v7 w3)⟩,
      ⟨Rect.unit (s := S288x2048) ![256, 1024] S32x512.size h2, k0_pay31 i0 (k0_pay30 v11 ah w2) 31#32⟩,
      ⟨Rect.unit (s := S288x2048) ![0, 1024] S256x512.size e2, k0_pay29 v7 a w2⟩,
      ⟨Rect.unit (s := S288x2048) ![256, 512] S32x512.size h1, k0_pay24 i0 ah (k0_pay22 v11) w1⟩,
      ⟨Rect.unit (s := S288x2048) ![0, 512] S256x512.size e1, k0_pay23 a (k0_pay21 v7 w1)⟩,
      ⟨Rect.unit (s := S288x2048) ![256, 0] S32x512.size h0, k0_pay17 (k0_pay16 i0 v11 ah w0)⟩,
      ⟨Rect.unit (s := S288x2048) ![0, 0] S256x512.size e0, k0_pay15 v7 a w0⟩] : List (View.Piece (Elt Ideal) S288x2048 .f32)) (Rect.unit (s := S288x2048) ![1, 1536] S280x512.size inb).toLoadRect
      = Rd (ext i0 v7 v11 a ah w0 w1 w2 w3) 1 3 280 := by
  refine rd_of v _ _ 3 rfl inb (ext_ok i0 v7 v11 a ah w0 w1 w2 w3 h0 h1 h2 h3 e0 e1 e2 e3) fun r hr => ?_
  by_cases h : 1 + r < 256
  · exact ⟨_, (List.mem_cons_of_mem _ List.mem_cons_self), fun hh j => mem_piece e3 _ hh _ (by omega) (by omega) (by show 1536 ≤ 512 * 3 + j.val; omega) (by show 512 * 3 + j.val < 1536 + 512; have := j.isLt; omega)⟩
  · exact ⟨_, List.mem_cons_self, fun hh j => mem_piece h3 _ hh _ (by omega) (by omega) (by show 1536 ≤ 512 * 3 + j.val; omega) (by show 512 * 3 + j.val < 1536 + 512; have := j.isLt; omega)⟩

theorem zero_ok (P : Buf) (k : ℕ) (inb) (z : Vec Ideal S8x2048 .f32) (hz : ∀ r C, z (ix2 r C) = 0) :
    Ok (lev P k) ⟨Rect.unit (s := S288x2048) ![280, 0] S8x2048.size inb, z⟩ := by
  refine ok_rows _ inb z fun r C => (hz r C).trans ?_
  unfold lev
  rw [if_neg (by omega)]

theorem lev_ok (P : Buf) (k c : ℕ) (g : Fin 4) (hc : 512 * g.val = c) (inb) (p : Vec Ideal S280x512 .f32)
    (hp : ∀ (r : Fin 280) (j : Fin 512), p (ix2 r j) = Rd P 0 g 280 (ix2 r j) + Rd P k g 280 (ix2 r j)) :
    Ok (lev P k) ⟨Rect.unit (s := S288x2048) ![0, c] S280x512.size inb, p⟩ := by
  refine ok_of _ g hc inb p fun r j => (hp r j).trans ?_
  unfold lev
  rw [if_pos (by have := r.isLt; omega), Rd_apply, Rd_apply]
  refine congrArg₂ (· + ·) rfl (congrArg (fun n => P n (col g j)) ?_)
  omega

/-- A load in the columns just stored, of the rows below 288. -/
theorem rd_lev (v : View sig κ sp S288x2048 .f32) (P : Buf) (k : ℕ) (L : List (View.Piece (Elt Ideal) S288x2048 .f32))
    {o c n : ℕ} (g : Fin 4) (hc : 512 * g.val = c) (inb) (inz) (z : Vec Ideal S8x2048 .f32) (ino) (p : Vec Ideal S280x512 .f32)
    (hL : ∀ q ∈ L, Ok (lev P k) q) (hz : ⟨Rect.unit (s := S288x2048) ![280, 0] S8x2048.size inz, z⟩ ∈ L)
    (hp : ⟨Rect.unit (s := S288x2048) ![0, c] S280x512.size ino, p⟩ ∈ L) :
    v.readCov L (Rect.unit (s := S288x2048) ![o, c] ![n, 512] inb).toLoadRect = Rd (lev P k) o g n := by
  refine rd_of v L _ g hc inb hL fun r hr => ?_
  by_cases h : o + r < 280
  · exact ⟨_, hp, fun hh j => mem_piece ino _ hh _ (by omega) (by omega) (by show c ≤ 512 * g.val + j.val; omega) (by show 512 * g.val + j.val < c + 512; have := j.isLt; omega)⟩
  · exact ⟨_, hz, fun hh j => mem_piece inz _ hh _ (by omega) (by omega) (by omega) (by show (col g j).val < 0 + 2048; have := (col g j).isLt; omega)⟩

theorem ok14_1 (E : Buf) (iz i1 i0) :
    ∀ p ∈ ([⟨Rect.unit (s := S288x2048) ![0, 512] S280x512.size i1, k0_pay45 (F := Ideal) (Rd E 0 1 280) (Rd E 1 1 280)⟩,
      ⟨Rect.unit (s := S288x2048) ![0, 0] S280x512.size i0, k0_pay44 (F := Ideal) (Rd E 0 0 280) (Rd E 1 0 280)⟩,
      ⟨Rect.unit (s := S288x2048) ![280, 0] S8x2048.size iz, k0_pay39 (F := Ideal)⟩] : List (View.Piece (Elt Ideal) S288x2048 .f32)), Ok (lev E 1) p := by
  intro p hp
  simp only [List.mem_cons, List.not_mem_nil, or_false] at hp
  rcases hp with rfl | rfl | rfl
  · exact lev_ok E 1 _ 1 rfl _ _ fun r j => (adds_eq _ _ r j).2.1
  · exact lev_ok E 1 _ 0 rfl _ _ fun r j => (adds_eq _ _ r j).1
  · exact zero_ok E 1 _ _ fun r C => (zero8_eq r C).1

theorem rd14_1_0_1 (v : View sig κ sp S288x2048 .f32) (E : Buf) (iz i1 i0) (inb) :
    v.readCov ([⟨Rect.unit (s := S288x2048) ![0, 512] S280x512.size i1, k0_pay45 (F := Ideal) (Rd E 0 1 280) (Rd E 1 1 280)⟩,
      ⟨Rect.unit (s := S288x2048) ![0, 0] S280x512.size i0, k0_pay44 (F := Ideal) (Rd E 0 0 280) (Rd E 1 0 280)⟩,
      ⟨Rect.unit (s := S288x2048) ![280, 0] S8x2048.size iz, k0_pay39 (F := Ideal)⟩] : List (View.Piece (Elt Ideal) S288x2048 .f32)) (Rect.unit (s := S288x2048) ![0, 512] S280x512.size inb).toLoadRect
      = Rd (lev E 1) 0 1 280 :=
  rd_lev v E 1 _ 1 rfl inb _ _ _ _ (ok14_1 E iz i1 i0) (List.mem_cons_of_mem _ (List.mem_cons_of_mem _ List.mem_cons_self)) List.mem_cons_self

theorem rd14_1_2_1 (v : View sig κ sp S288x2048 .f32) (E : Buf) (iz i1 i0) (inb) :
    v.readCov ([⟨Rect.unit (s := S288x2048) ![0, 512] S280x512.size i1, k0_pay45 (F := Ideal) (Rd E 0 1 280) (Rd E 1 1 280)⟩,
      ⟨Rect.unit (s := S288x2048) ![0, 0] S280x512.size i0, k0_pay44 (F := Ideal) (Rd E 0 0 280) (Rd E 1 0 280)⟩,
      ⟨Rect.unit (s := S288x2048) ![280, 0] S8x2048.size iz, k0_pay39 (F := Ideal)⟩] : List (View.Piece (Elt Ideal) S288x2048 .f32)) (Rect.unit (s := S288x2048) ![2, 512] S280x512.size inb).toLoadRect
      = Rd (lev E 1) 2 1 280 :=
  rd_lev v E 1 _ 1 rfl inb _ _ _ _ (ok14_1 E iz i1 i0) (List.mem_cons_of_mem _ (List.mem_cons_of_mem _ List.mem_cons_self)) List.mem_cons_self

theorem ok14_2 (E : Buf) (iz i2 i1 i0) :
    ∀ p ∈ ([⟨Rect.unit (s := S288x2048) ![0, 1024] S280x512.size i2, k0_pay48 (F := Ideal) (k0_pay47 (F := Ideal) (Rd E 0 2 280) (Rd E 1 2 280))⟩,
      ⟨Rect.unit (s := S288x2048) ![0, 512] S280x512.size i1, k0_pay45 (F := Ideal) (Rd E 0 1 280) (Rd E 1 1 280)⟩,
      ⟨Rect.unit (s := S288x2048) ![0, 0] S280x512.size i0, k0_pay44 (F := Ideal) (Rd E 0 0 280) (Rd E 1 0 280)⟩,
      ⟨Rect.unit (s := S288x2048) ![280, 0] S8x2048.size iz, k0_pay39 (F := Ideal)⟩] : List (View.Piece (Elt Ideal) S288x2048 .f32)), Ok (lev E 1) p := by
  intro p hp
  simp only [List.mem_cons, List.not_mem_nil, or_false] at hp
  rcases hp with rfl | rfl | rfl | rfl
  · exact lev_ok E 1 _ 2 rfl _ _ fun r j => (adds_eq _ _ r j).2.2.2.1
  · exact lev_ok E 1 _ 1 rfl _ _ fun r j => (adds_eq _ _ r j).2.1
  · exact lev_ok E 1 _ 0 rfl _ _ fun r j => (adds_eq _ _ r j).1
  · exact zero_ok E 1 _ _ fun r C => (zero8_eq r C).1

theorem rd14_2_0_2 (v : View sig κ sp S288x2048 .f32) (E : Buf) (iz i2 i1 i0) (inb) :
    v.readCov ([⟨Rect.unit (s := S288x2048) ![0, 1024] S280x512.size i2, k0_pay48 (F := Ideal) (k0_pay47 (F := Ideal) (Rd E 0 2 280) (Rd E 1 2 280))⟩,
      ⟨Rect.unit (s := S288x2048) ![0, 512] S280x512.size i1, k0_pay45 (F := Ideal) (Rd E 0 1 280) (Rd E 1 1 280)⟩,
      ⟨Rect.unit (s := S288x2048) ![0, 0] S280x512.size i0, k0_pay44 (F := Ideal) (Rd E 0 0 280) (Rd E 1 0 280)⟩,
      ⟨Rect.unit (s := S288x2048) ![280, 0] S8x2048.size iz, k0_pay39 (F := Ideal)⟩] : List (View.Piece (Elt Ideal) S288x2048 .f32)) (Rect.unit (s := S288x2048) ![0, 1024] S280x512.size inb).toLoadRect
      = Rd (lev E 1) 0 2 280 :=
  rd_lev v E 1 _ 2 rfl inb _ _ _ _ (ok14_2 E iz i2 i1 i0) (List.mem_cons_of_mem _ (List.mem_cons_of_mem _ (List.mem_cons_of_mem _ List.mem_cons_self))) List.mem_cons_self

theorem rd14_2_2_2 (v : View sig κ sp S288x2048 .f32) (E : Buf) (iz i2 i1 i0) (inb) :
    v.readCov ([⟨Rect.unit (s := S288x2048) ![0, 1024] S280x512.size i2, k0_pay48 (F := Ideal) (k0_pay47 (F := Ideal) (Rd E 0 2 280) (Rd E 1 2 280))⟩,
      ⟨Rect.unit (s := S288x2048) ![0, 512] S280x512.size i1, k0_pay45 (F := Ideal) (Rd E 0 1 280) (Rd E 1 1 280)⟩,
      ⟨Rect.unit (s := S288x2048) ![0, 0] S280x512.size i0, k0_pay44 (F := Ideal) (Rd E 0 0 280) (Rd E 1 0 280)⟩,
      ⟨Rect.unit (s := S288x2048) ![280, 0] S8x2048.size iz, k0_pay39 (F := Ideal)⟩] : List (View.Piece (Elt Ideal) S288x2048 .f32)) (Rect.unit (s := S288x2048) ![2, 1024] S280x512.size inb).toLoadRect
      = Rd (lev E 1) 2 2 280 :=
  rd_lev v E 1 _ 2 rfl inb _ _ _ _ (ok14_2 E iz i2 i1 i0) (List.mem_cons_of_mem _ (List.mem_cons_of_mem _ (List.mem_cons_of_mem _ List.mem_cons_self))) List.mem_cons_self

theorem ok14_3 (E : Buf) (iz i3 i2 i1 i0) :
    ∀ p ∈ ([⟨Rect.unit (s := S288x2048) ![0, 1536] S280x512.size i3, k0_pay51 (F := Ideal) (Rd E 0 3 280) (Rd E 1 3 280)⟩,
      ⟨Rect.unit (s := S288x2048) ![0, 1024] S280x512.size i2, k0_pay48 (F := Ideal) (k0_pay47 (F := Ideal) (Rd E 0 2 280) (Rd E 1 2 280))⟩,
      ⟨Rect.unit (s := S288x2048) ![0, 512] S280x512.size i1, k0_pay45 (F := Ideal) (Rd E 0 1 280) (Rd E 1 1 280)⟩,
      ⟨Rect.unit (s := S288x2048) ![0, 0] S280x512.size i0, k0_pay44 (F := Ideal) (Rd E 0 0 280) (Rd E 1 0 280)⟩,
      ⟨Rect.unit (s := S288x2048) ![280, 0] S8x2048.size iz, k0_pay39 (F := Ideal)⟩] : List (View.Piece (Elt Ideal) S288x2048 .f32)), Ok (lev E 1) p := by
  intro p hp
  simp only [List.mem_cons, List.not_mem_nil, or_false] at hp
  rcases hp with rfl | rfl | rfl | rfl | rfl
  · exact lev_ok E 1 _ 3 rfl _ _ fun r j => (adds_eq _ _ r j).2.2.2.2.2.2.1
  · exact lev_ok E 1 _ 2 rfl _ _ fun r j => (adds_eq _ _ r j).2.2.2.1
  · exact lev_ok E 1 _ 1 rfl _ _ fun r j => (adds_eq _ _ r j).2.1
  · exact lev_ok E 1 _ 0 rfl _ _ fun r j => (adds_eq _ _ r j).1
  · exact zero_ok E 1 _ _ fun r C => (zero8_eq r C).1

theorem rd14_3_0_3 (v : View sig κ sp S288x2048 .f32) (E : Buf) (iz i3 i2 i1 i0) (inb) :
    v.readCov ([⟨Rect.unit (s := S288x2048) ![0, 1536] S280x512.size i3, k0_pay51 (F := Ideal) (Rd E 0 3 280) (Rd E 1 3 280)⟩,
      ⟨Rect.unit (s := S288x2048) ![0, 1024] S280x512.size i2, k0_pay48 (F := Ideal) (k0_pay47 (F := Ideal) (Rd E 0 2 280) (Rd E 1 2 280))⟩,
      ⟨Rect.unit (s := S288x2048) ![0, 512] S280x512.size i1, k0_pay45 (F := Ideal) (Rd E 0 1 280) (Rd E 1 1 280)⟩,
      ⟨Rect.unit (s := S288x2048) ![0, 0] S280x512.size i0, k0_pay44 (F := Ideal) (Rd E 0 0 280) (Rd E 1 0 280)⟩,
      ⟨Rect.unit (s := S288x2048) ![280, 0] S8x2048.size iz, k0_pay39 (F := Ideal)⟩] : List (View.Piece (Elt Ideal) S288x2048 .f32)) (Rect.unit (s := S288x2048) ![0, 1536] S280x512.size inb).toLoadRect
      = Rd (lev E 1) 0 3 280 :=
  rd_lev v E 1 _ 3 rfl inb _ _ _ _ (ok14_3 E iz i3 i2 i1 i0) (List.mem_cons_of_mem _ (List.mem_cons_of_mem _ (List.mem_cons_of_mem _ (List.mem_cons_of_mem _ List.mem_cons_self)))) List.mem_cons_self

theorem rd14_3_2_3 (v : View sig κ sp S288x2048 .f32) (E : Buf) (iz i3 i2 i1 i0) (inb) :
    v.readCov ([⟨Rect.unit (s := S288x2048) ![0, 1536] S280x512.size i3, k0_pay51 (F := Ideal) (Rd E 0 3 280) (Rd E 1 3 280)⟩,
      ⟨Rect.unit (s := S288x2048) ![0, 1024] S280x512.size i2, k0_pay48 (F := Ideal) (k0_pay47 (F := Ideal) (Rd E 0 2 280) (Rd E 1 2 280))⟩,
      ⟨Rect.unit (s := S288x2048) ![0, 512] S280x512.size i1, k0_pay45 (F := Ideal) (Rd E 0 1 280) (Rd E 1 1 280)⟩,
      ⟨Rect.unit (s := S288x2048) ![0, 0] S280x512.size i0, k0_pay44 (F := Ideal) (Rd E 0 0 280) (Rd E 1 0 280)⟩,
      ⟨Rect.unit (s := S288x2048) ![280, 0] S8x2048.size iz, k0_pay39 (F := Ideal)⟩] : List (View.Piece (Elt Ideal) S288x2048 .f32)) (Rect.unit (s := S288x2048) ![2, 1536] S280x512.size inb).toLoadRect
      = Rd (lev E 1) 2 3 280 :=
  rd_lev v E 1 _ 3 rfl inb _ _ _ _ (ok14_3 E iz i3 i2 i1 i0) (List.mem_cons_of_mem _ (List.mem_cons_of_mem _ (List.mem_cons_of_mem _ (List.mem_cons_of_mem _ List.mem_cons_self)))) List.mem_cons_self

theorem rd14_3_0_0 (v : View sig κ sp S288x2048 .f32) (E : Buf) (iz i3 i2 i1 i0) (inb) :
    v.readCov ([⟨Rect.unit (s := S288x2048) ![0, 1536] S280x512.size i3, k0_pay51 (F := Ideal) (Rd E 0 3 280) (Rd E 1 3 280)⟩,
      ⟨Rect.unit (s := S288x2048) ![0, 1024] S280x512.size i2, k0_pay48 (F := Ideal) (k0_pay47 (F := Ideal) (Rd E 0 2 280) (Rd E 1 2 280))⟩,
      ⟨Rect.unit (s := S288x2048) ![0, 512] S280x512.size i1, k0_pay45 (F := Ideal) (Rd E 0 1 280) (Rd E 1 1 280)⟩,
      ⟨Rect.unit (s := S288x2048) ![0, 0] S280x512.size i0, k0_pay44 (F := Ideal) (Rd E 0 0 280) (Rd E 1 0 280)⟩,
      ⟨Rect.unit (s := S288x2048) ![280, 0] S8x2048.size iz, k0_pay39 (F := Ideal)⟩] : List (View.Piece (Elt Ideal) S288x2048 .f32)) (Rect.unit (s := S288x2048) ![0, 0] S256x512.size inb).toLoadRect
      = Rd (lev E 1) 0 0 256 :=
  rd_lev v E 1 _ 0 rfl inb _ _ _ _ (ok14_3 E iz i3 i2 i1 i0) (List.mem_cons_of_mem _ (List.mem_cons_of_mem _ (List.mem_cons_of_mem _ (List.mem_cons_of_mem _ List.mem_cons_self)))) (List.mem_cons_of_mem _ (List.mem_cons_of_mem _ (List.mem_cons_of_mem _ List.mem_cons_self)))

theorem ok15_2 (E : Buf) (iz i2 i1) :
    ∀ p ∈ ([⟨Rect.unit (s := S288x2048) ![0, 1024] S280x512.size i2, k0_pay49 (F := Ideal) (Rd E 0 2 280) (Rd E 2 2 280)⟩,
      ⟨Rect.unit (s := S288x2048) ![0, 512] S280x512.size i1, k0_pay46 (F := Ideal) (Rd E 0 1 280) (Rd E 2 1 280)⟩,
      ⟨Rect.unit (s := S288x2048) ![280, 0] S8x2048.size iz, k0_pay40 (F := Ideal)⟩] : List (View.Piece (Elt Ideal) S288x2048 .f32)), Ok (lev E 2) p := by
  intro p hp
  simp only [List.mem_cons, List.not_mem_nil, or_false] at hp
  rcases hp with rfl | rfl | rfl
  · exact lev_ok E 2 _ 2 rfl _ _ fun r j => (adds_eq _ _ r j).2.2.2.2.1
  · exact lev_ok E 2 _ 1 rfl _ _ fun r j => (adds_eq _ _ r j).2.2.1
  · exact zero_ok E 2 _ _ fun r C => (zero8_eq r C).2.1

theorem rd15_2_0_2 (v : View sig κ sp S288x2048 .f32) (E : Buf) (iz i2 i1) (inb) :
    v.readCov ([⟨Rect.unit (s := S288x2048) ![0, 1024] S280x512.size i2, k0_pay49 (F := Ideal) (Rd E 0 2 280) (Rd E 2 2 280)⟩,
      ⟨Rect.unit (s := S288x2048) ![0, 512] S280x512.size i1, k0_pay46 (F := Ideal) (Rd E 0 1 280) (Rd E 2 1 280)⟩,
      ⟨Rect.unit (s := S288x2048) ![280, 0] S8x2048.size iz, k0_pay40 (F := Ideal)⟩] : List (View.Piece (Elt Ideal) S288x2048 .f32)) (Rect.unit (s := S288x2048) ![0, 1024] S280x512.size inb).toLoadRect
      = Rd (lev E 2) 0 2 280 :=
  rd_lev v E 2 _ 2 rfl inb _ _ _ _ (ok15_2 E iz i2 i1) (List.mem_cons_of_mem _ (List.mem_cons_of_mem _ List.mem_cons_self)) List.mem_cons_self

theorem rd15_2_4_2 (v : View sig κ sp S288x2048 .f32) (E : Buf) (iz i2 i1) (inb) :
    v.readCov ([⟨Rect.unit (s := S288x2048) ![0, 1024] S280x512.size i2, k0_pay49 (F := Ideal) (Rd E 0 2 280) (Rd E 2 2 280)⟩,
      ⟨Rect.unit (s := S288x2048) ![0, 512] S280x512.size i1, k0_pay46 (F := Ideal) (Rd E 0 1 280) (Rd E 2 1 280)⟩,
      ⟨Rect.unit (s := S288x2048) ![280, 0] S8x2048.size iz, k0_pay40 (F := Ideal)⟩] : List (View.Piece (Elt Ideal) S288x2048 .f32)) (Rect.unit (s := S288x2048) ![4, 1024] S280x512.size inb).toLoadRect
      = Rd (lev E 2) 4 2 280 :=
  rd_lev v E 2 _ 2 rfl inb _ _ _ _ (ok15_2 E iz i2 i1) (List.mem_cons_of_mem _ (List.mem_cons_of_mem _ List.mem_cons_self)) List.mem_cons_self

theorem ok15_3 (E : Buf) (iz i3 i2 i1) :
    ∀ p ∈ ([⟨Rect.unit (s := S288x2048) ![0, 1536] S280x512.size i3, k0_pay52 (F := Ideal) (Rd E 0 3 280) (Rd E 2 3 280)⟩,
      ⟨Rect.unit (s := S288x2048) ![0, 1024] S280x512.size i2, k0_pay49 (F := Ideal) (Rd E 0 2 280) (Rd E 2 2 280)⟩,
      ⟨Rect.unit (s := S288x2048) ![0, 512] S280x512.size i1, k0_pay46 (F := Ideal) (Rd E 0 1 280) (Rd E 2 1 280)⟩,
      ⟨Rect.unit (s := S288x2048) ![280, 0] S8x2048.size iz, k0_pay40 (F := Ideal)⟩] : List (View.Piece (Elt Ideal) S288x2048 .f32)), Ok (lev E 2) p := by
  intro p hp
  simp only [List.mem_cons, List.not_mem_nil, or_false] at hp
  rcases hp with rfl | rfl | rfl | rfl
  · exact lev_ok E 2 _ 3 rfl _ _ fun r j => (adds_eq _ _ r j).2.2.2.2.2.2.2.1
  · exact lev_ok E 2 _ 2 rfl _ _ fun r j => (adds_eq _ _ r j).2.2.2.2.1
  · exact lev_ok E 2 _ 1 rfl _ _ fun r j => (adds_eq _ _ r j).2.2.1
  · exact zero_ok E 2 _ _ fun r C => (zero8_eq r C).2.1

theorem rd15_3_0_3 (v : View sig κ sp S288x2048 .f32) (E : Buf) (iz i3 i2 i1) (inb) :
    v.readCov ([⟨Rect.unit (s := S288x2048) ![0, 1536] S280x512.size i3, k0_pay52 (F := Ideal) (Rd E 0 3 280) (Rd E 2 3 280)⟩,
      ⟨Rect.unit (s := S288x2048) ![0, 1024] S280x512.size i2, k0_pay49 (F := Ideal) (Rd E 0 2 280) (Rd E 2 2 280)⟩,
      ⟨Rect.unit (s := S288x2048) ![0, 512] S280x512.size i1, k0_pay46 (F := Ideal) (Rd E 0 1 280) (Rd E 2 1 280)⟩,
      ⟨Rect.unit (s := S288x2048) ![280, 0] S8x2048.size iz, k0_pay40 (F := Ideal)⟩] : List (View.Piece (Elt Ideal) S288x2048 .f32)) (Rect.unit (s := S288x2048) ![0, 1536] S280x512.size inb).toLoadRect
      = Rd (lev E 2) 0 3 280 :=
  rd_lev v E 2 _ 3 rfl inb _ _ _ _ (ok15_3 E iz i3 i2 i1) (List.mem_cons_of_mem _ (List.mem_cons_of_mem _ (List.mem_cons_of_mem _ List.mem_cons_self))) List.mem_cons_self

theorem rd15_3_4_3 (v : View sig κ sp S288x2048 .f32) (E : Buf) (iz i3 i2 i1) (inb) :
    v.readCov ([⟨Rect.unit (s := S288x2048) ![0, 1536] S280x512.size i3, k0_pay52 (F := Ideal) (Rd E 0 3 280) (Rd E 2 3 280)⟩,
      ⟨Rect.unit (s := S288x2048) ![0, 1024] S280x512.size i2, k0_pay49 (F := Ideal) (Rd E 0 2 280) (Rd E 2 2 280)⟩,
      ⟨Rect.unit (s := S288x2048) ![0, 512] S280x512.size i1, k0_pay46 (F := Ideal) (Rd E 0 1 280) (Rd E 2 1 280)⟩,
      ⟨Rect.unit (s := S288x2048) ![280, 0] S8x2048.size iz, k0_pay40 (F := Ideal)⟩] : List (View.Piece (Elt Ideal) S288x2048 .f32)) (Rect.unit (s := S288x2048) ![4, 1536] S280x512.size inb).toLoadRect
      = Rd (lev E 2) 4 3 280 :=
  rd_lev v E 2 _ 3 rfl inb _ _ _ _ (ok15_3 E iz i3 i2 i1) (List.mem_cons_of_mem _ (List.mem_cons_of_mem _ (List.mem_cons_of_mem _ List.mem_cons_self))) List.mem_cons_self

theorem rd15_3_0_1 (v : View sig κ sp S288x2048 .f32) (E : Buf) (iz i3 i2 i1) (inb) :
    v.readCov ([⟨Rect.unit (s := S288x2048) ![0, 1536] S280x512.size i3, k0_pay52 (F := Ideal) (Rd E 0 3 280) (Rd E 2 3 280)⟩,
      ⟨Rect.unit (s := S288x2048) ![0, 1024] S280x512.size i2, k0_pay49 (F := Ideal) (Rd E 0 2 280) (Rd E 2 2 280)⟩,
      ⟨Rect.unit (s := S288x2048) ![0, 512] S280x512.size i1, k0_pay46 (F := Ideal) (Rd E 0 1 280) (Rd E 2 1 280)⟩,
      ⟨Rect.unit (s := S288x2048) ![280, 0] S8x2048.size iz, k0_pay40 (F := Ideal)⟩] : List (View.Piece (Elt Ideal) S288x2048 .f32)) (Rect.unit (s := S288x2048) ![0, 512] S256x512.size inb).toLoadRect
      = Rd (lev E 2) 0 1 256 :=
  rd_lev v E 2 _ 1 rfl inb _ _ _ _ (ok15_3 E iz i3 i2 i1) (List.mem_cons_of_mem _ (List.mem_cons_of_mem _ (List.mem_cons_of_mem _ List.mem_cons_self))) (List.mem_cons_of_mem _ (List.mem_cons_of_mem _ List.mem_cons_self))

theorem ok16_3 (E : Buf) (iz i3 i2) :
    ∀ p ∈ ([⟨Rect.unit (s := S288x2048) ![0, 1536] S280x512.size i3, k0_pay53 (F := Ideal) (Rd E 0 3 280) (Rd E 4 3 280)⟩,
      ⟨Rect.unit (s := S288x2048) ![0, 1024] S280x512.size i2, k0_pay50 (F := Ideal) (Rd E 0 2 280) (Rd E 4 2 280)⟩,
      ⟨Rect.unit (s := S288x2048) ![280, 0] S8x2048.size iz, k0_pay42 (F := Ideal) k0_pay41⟩] : List (View.Piece (Elt Ideal) S288x2048 .f32)), Ok (lev E 4) p := by
  intro p hp
  simp only [List.mem_cons, List.not_mem_nil, or_false] at hp
  rcases hp with rfl | rfl | rfl
  · exact lev_ok E 4 _ 3 rfl _ _ fun r j => (adds_eq _ _ r j).2.2.2.2.2.2.2.2.1
  · exact lev_ok E 4 _ 2 rfl _ _ fun r j => (adds_eq _ _ r j).2.2.2.2.2.1
  · exact zero_ok E 4 _ _ fun r C => (zero8_eq r C).2.2.1

theorem rd16_3_0_3 (v : View sig κ sp S288x2048 .f32) (E : Buf) (iz i3 i2) (inb) :
    v.readCov ([⟨Rect.unit (s := S288x2048) ![0, 1536] S280x512.size i3, k0_pay53 (F := Ideal) (Rd E 0 3 280) (Rd E 4 3 280)⟩,
      ⟨Rect.unit (s := S288x2048) ![0, 1024] S280x512.size i2, k0_pay50 (F := Ideal) (Rd E 0 2 280) (Rd E 4 2 280)⟩,
      ⟨Rect.unit (s := S288x2048) ![280, 0] S8x2048.size iz, k0_pay42 (F := Ideal) k0_pay41⟩] : List (View.Piece (Elt Ideal) S288x2048 .f32)) (Rect.unit (s := S288x2048) ![0, 1536] S280x512.size inb).toLoadRect
      = Rd (lev E 4) 0 3 280 :=
  rd_lev v E 4 _ 3 rfl inb _ _ _ _ (ok16_3 E iz i3 i2) (List.mem_cons_of_mem _ (List.mem_cons_of_mem _ List.mem_cons_self)) List.mem_cons_self

theorem rd16_3_8_3 (v : View sig κ sp S288x2048 .f32) (E : Buf) (iz i3 i2) (inb) :
    v.readCov ([⟨Rect.unit (s := S288x2048) ![0, 1536] S280x512.size i3, k0_pay53 (F := Ideal) (Rd E 0 3 280) (Rd E 4 3 280)⟩,
      ⟨Rect.unit (s := S288x2048) ![0, 1024] S280x512.size i2, k0_pay50 (F := Ideal) (Rd E 0 2 280) (Rd E 4 2 280)⟩,
      ⟨Rect.unit (s := S288x2048) ![280, 0] S8x2048.size iz, k0_pay42 (F := Ideal) k0_pay41⟩] : List (View.Piece (Elt Ideal) S288x2048 .f32)) (Rect.unit (s := S288x2048) ![8, 1536] S280x512.size inb).toLoadRect
      = Rd (lev E 4) 8 3 280 :=
  rd_lev v E 4 _ 3 rfl inb _ _ _ _ (ok16_3 E iz i3 i2) (List.mem_cons_of_mem _ (List.mem_cons_of_mem _ List.mem_cons_self)) List.mem_cons_self

theorem rd16_3_0_2 (v : View sig κ sp S288x2048 .f32) (E : Buf) (iz i3 i2) (inb) :
    v.readCov ([⟨Rect.unit (s := S288x2048) ![0, 1536] S280x512.size i3, k0_pay53 (F := Ideal) (Rd E 0 3 280) (Rd E 4 3 280)⟩,
      ⟨Rect.unit (s := S288x2048) ![0, 1024] S280x512.size i2, k0_pay50 (F := Ideal) (Rd E 0 2 280) (Rd E 4 2 280)⟩,
      ⟨Rect.unit (s := S288x2048) ![280, 0] S8x2048.size iz, k0_pay42 (F := Ideal) k0_pay41⟩] : List (View.Piece (Elt Ideal) S288x2048 .f32)) (Rect.unit (s := S288x2048) ![0, 1024] S256x512.size inb).toLoadRect
      = Rd (lev E 4) 0 2 256 :=
  rd_lev v E 4 _ 2 rfl inb _ _ _ _ (ok16_3 E iz i3 i2) (List.mem_cons_of_mem _ (List.mem_cons_of_mem _ List.mem_cons_self)) (List.mem_cons_of_mem _ List.mem_cons_self)

theorem ok17_3 (E : Buf) (iz i3) :
    ∀ p ∈ ([⟨Rect.unit (s := S288x2048) ![0, 1536] S280x512.size i3, k0_pay54 (F := Ideal) (Rd E 0 3 280) (Rd E 8 3 280)⟩,
      ⟨Rect.unit (s := S288x2048) ![280, 0] S8x2048.size iz, k0_pay43 (F := Ideal)⟩] : List (View.Piece (Elt Ideal) S288x2048 .f32)), Ok (lev E 8) p := by
  intro p hp
  simp only [List.mem_cons, List.not_mem_nil, or_false] at hp
  rcases hp with rfl | rfl
  · exact lev_ok E 8 _ 3 rfl _ _ fun r j => (adds_eq _ _ r j).2.2.2.2.2.2.2.2.2
  · exact zero_ok E 8 _ _ fun r C => (zero8_eq r C).2.2.2

theorem rd17_3_0_3 (v : View sig κ sp S288x2048 .f32) (E : Buf) (iz i3) (inb) :
    v.readCov ([⟨Rect.unit (s := S288x2048) ![0, 1536] S280x512.size i3, k0_pay54 (F := Ideal) (Rd E 0 3 280) (Rd E 8 3 280)⟩,
      ⟨Rect.unit (s := S288x2048) ![280, 0] S8x2048.size iz, k0_pay43 (F := Ideal)⟩] : List (View.Piece (Elt Ideal) S288x2048 .f32)) (Rect.unit (s := S288x2048) ![0, 1536] S256x512.size inb).toLoadRect
      = Rd (lev E 8) 0 3 256 :=
  rd_lev v E 8 _ 3 rfl inb _ _ _ _ (ok17_3 E iz i3) (List.mem_cons_of_mem _ List.mem_cons_self) List.mem_cons_self

end Cert.Kernel14Ideal.Pool

end
-- ==== Proof.PoolPoint.lean ====
module

public import proofs.«01_k».proof.Proof.PoolRead

@[expose] public section

set_option maxRecDepth 16384

noncomputable section

namespace Cert.Kernel14Ideal.Pool

open Idealize.ShloMosaic Idealize.ShloMosaic.TcCoe
open Cert.Kernel14Ideal.Gen Cert.Kernel14Ideal.Value
open Cert.KernelIdeal.Gate (emb2 blk readAt_blk)

/-- A group's matrix. -/
def W (x4 : Vec Ideal S4x512x512 .bf16) (g : Fin 4) : Vec Ideal S1x512x512 .bf16 := fun y => x4 (ix3 g (y 1) (y 2))

/-- A group's columns of the saved averages. -/
def Dg (x6 : Vec Ideal S256x2048 .bf16) (g : Fin 4) : Vec Ideal S256x512 .bf16 := fun y => x6 (ix2 (y 0) (col g (y 1)))

theorem w_load {m : Memref Cert.Kernel14Ideal.sig .tc .vmem S4x512x512 .bf16} (h : m.IsWhole) (x4 : Vec Ideal S4x512x512 .bf16) {o : ℕ} (g : Fin 4) (hg : g.val = o)
    (inb : ∀ x, (![o, 0, 0] : Fin 3 → ℕ) x + (![1, 512, 512] : Fin 3 → ℕ) x ≤ S4x512x512.size x) :
    View.readAt (Elt Ideal) m.view (Rect.unit (s := S4x512x512) ![o, 0, 0] S1x512x512.size inb).toLoadRect (h.unread x4) = W x4 g := by
  rw [readAt_blk m h]
  funext y
  show x4 _ = x4 _
  refine congrArg x4 (funext fun a => Fin.ext ?_)
  match a with
  | ⟨0, _⟩ => show o + 1 * (y 0).val = g.val; have : (y 0).val < 1 := (y 0).isLt; omega
  | ⟨1, _⟩ => show 0 + 1 * (y 1).val = (y 1).val; omega
  | ⟨2, _⟩ => show 0 + 1 * (y 2).val = (y 2).val; omega

theorem d_load {m : Memref Cert.Kernel14Ideal.sig .tc .vmem S256x2048 .bf16} (h : m.IsWhole) (x6 : Vec Ideal S256x2048 .bf16) {c : ℕ} (g : Fin 4) (hg : 512 * g.val = c)
    (inb : ∀ x, (![0, c] : Fin 2 → ℕ) x + (![256, 512] : Fin 2 → ℕ) x ≤ S256x2048.size x) :
    View.readAt (Elt Ideal) m.view (Rect.unit (s := S256x2048) ![0, c] S256x512.size inb).toLoadRect (h.unread x6) = Dg x6 g := by
  rw [readAt_blk m h]
  funext y
  show x6 _ = x6 _
  refine congrArg x6 (funext fun a => Fin.ext ?_)
  match a with
  | ⟨0, _⟩ => show 0 + 1 * (y 0).val = (y 0).val; omega
  | ⟨1, _⟩ => show c + 1 * (y 1).val = 512 * g.val + (y 1).val; omega

/-- The divided gradient a tile's window sums are taken over. -/
def tE (i : grid0.Coords) (x0 : Vec Ideal S256x2048 .f32) (x1 : Vec Ideal S32x2048 .f32) (x4 : Vec Ideal S4x512x512 .bf16) (x5 : Vec Ideal S1x2048 .f32) : Buf :=
  ext (BitVec.ofNat 32 (i 0).val) (k0_pay7 x0 x5) (k0_pay8 x5 x1) (k0_pay9 i) (k0_pay10 i) (W x4 0) (W x4 1) (W x4 2) (W x4 3)

/-- The gradient at the norm's result, over a tile. -/
def tH (i : grid0.Coords) (x0 : Vec Ideal S256x2048 .f32) (x1 : Vec Ideal S32x2048 .f32) (x4 : Vec Ideal S4x512x512 .bf16) (x5 : Vec Ideal S1x2048 .f32) : Vec Ideal S256x2048 .f32 :=
  k0_pay55 (k0_pay14 (k0_pay7 x0 x5) (W x4 0)) (k0_pay21 (k0_pay7 x0 x5) (W x4 1)) (k0_pay28 (k0_pay7 x0 x5) (W x4 2)) (k0_pay35 (k0_pay7 x0 x5) (W x4 3))
    (Rd (lev (tE i x0 x1 x4 x5) 1) 0 0 256) (Rd (lev (lev (tE i x0 x1 x4 x5) 1) 2) 0 1 256) (Rd (lev (lev (lev (tE i x0 x1 x4 x5) 1) 2) 4) 0 2 256)
    (Rd (lev (lev (lev (lev (tE i x0 x1 x4 x5) 1) 2) 4) 8) 0 3 256)

set_option maxHeartbeats 4000000 in
theorem out0_B_7_eq (c : Dev nD) (i : grid0.Coords) (arg1 : Memref sig .tc .vmem S256x2048 .f32) (harg1 : arg1.IsWhole) (arg2 : Memref sig .tc .vmem S32x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S4x512x512 .bf16) (harg5 : arg5.IsWhole) (arg6 : Memref sig .tc .vmem S1x2048 .f32) (harg6 : arg6.IsWhole) (arg7 : Memref sig .tc .vmem S256x2048 .bf16) (harg7 : arg7.IsWhole) (arg8 : Memref sig .tc .vmem S256x2048 .f32) (harg8 : arg8.IsWhole) (arg9 : Memref sig .tc .vmem S256x2048 .bf16) (harg9 : arg9.IsWhole) (arg10 : Memref sig .tc .vmem S4x512x512 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S288x2048 .f32) (harg13 : arg13.IsWhole) (arg14 : Memref sig .tc .vmem S288x2048 .f32) (harg14 : arg14.IsWhole) (arg15 : Memref sig .tc .vmem S288x2048 .f32) (harg15 : arg15.IsWhole) (arg16 : Memref sig .tc .vmem S288x2048 .f32) (harg16 : arg16.IsWhole) (arg17 : Memref sig .tc .vmem S288x2048 .f32) (harg17 : arg17.IsWhole) (hc0 : ¬cond0_0 i)
    (x0 : Vec Ideal S256x2048 .f32) (x1 : Vec Ideal S32x2048 .f32) (x2 : Vec Ideal S256x2048 .f32) (x3 : Vec Ideal S1x2048 .f32) (x4 : Vec Ideal S4x512x512 .bf16) (x5 : Vec Ideal S1x2048 .f32) (x6 : Vec Ideal S256x2048 .bf16) (xo9 : Vec Ideal S4x512x512 .f32) (xo10 : Vec Ideal S1x2048 .f32) (xo11 : Vec Ideal S1x2048 .f32) :
    out0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xo9 xo10 xo11 = k0_pay1 x0 (tH i x0 x1 x4 x5) x3 (k0_pay56 x2) (k0_pay57 x2) := by
  unfold out0_B_7 kernelRun0_B
  sl_unfold_words
  dsimp only
  simp only [w_load (o := 0) harg5 x4 0 rfl, w_load (o := 1) harg5 x4 1 rfl, w_load (o := 2) harg5 x4 2 rfl, w_load (o := 3) harg5 x4 3 rfl]
  simp only [Whole.readAt_all harg1 x0 Whole.z2, Whole.readAt_all harg2 x1 Whole.z2, Whole.readAt_all harg3 x2 Whole.z2, Whole.readAt_all harg4 x3 Whole.z2, Whole.readAt_all harg6 x5 Whole.z2]
  rw [rdE_0_0, rdE_0_1, rdE_1_0, rdE_1_1, rdE_2_0, rdE_2_1, rdE_3_0, rdE_3_1]
  rw [rd14_1_0_1, rd14_1_2_1, rd14_2_0_2, rd14_2_2_2, rd14_3_0_3, rd14_3_2_3, rd14_3_0_0]
  rw [rd15_2_0_2, rd15_2_4_2, rd15_3_0_3, rd15_3_4_3, rd15_3_0_1]
  rw [rd16_3_0_3, rd16_3_8_3, rd16_3_0_2]
  rw [rd17_3_0_3]
  exact Whole.read_all _ _ Whole.z2 _ _ _

set_option maxHeartbeats 4000000 in
theorem out0_B_8_eq (c : Dev nD) (i : grid0.Coords) (arg1 : Memref sig .tc .vmem S256x2048 .f32) (harg1 : arg1.IsWhole) (arg2 : Memref sig .tc .vmem S32x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S4x512x512 .bf16) (harg5 : arg5.IsWhole) (arg6 : Memref sig .tc .vmem S1x2048 .f32) (harg6 : arg6.IsWhole) (arg7 : Memref sig .tc .vmem S256x2048 .bf16) (harg7 : arg7.IsWhole) (arg8 : Memref sig .tc .vmem S256x2048 .f32) (harg8 : arg8.IsWhole) (arg9 : Memref sig .tc .vmem S256x2048 .bf16) (harg9 : arg9.IsWhole) (arg10 : Memref sig .tc .vmem S4x512x512 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S288x2048 .f32) (harg13 : arg13.IsWhole) (arg14 : Memref sig .tc .vmem S288x2048 .f32) (harg14 : arg14.IsWhole) (arg15 : Memref sig .tc .vmem S288x2048 .f32) (harg15 : arg15.IsWhole) (arg16 : Memref sig .tc .vmem S288x2048 .f32) (harg16 : arg16.IsWhole) (arg17 : Memref sig .tc .vmem S288x2048 .f32) (harg17 : arg17.IsWhole) (hc0 : ¬cond0_0 i)
    (x0 : Vec Ideal S256x2048 .f32) (x1 : Vec Ideal S32x2048 .f32) (x2 : Vec Ideal S256x2048 .f32) (x3 : Vec Ideal S1x2048 .f32) (x4 : Vec Ideal S4x512x512 .bf16) (x5 : Vec Ideal S1x2048 .f32) (x6 : Vec Ideal S256x2048 .bf16) (xo9 : Vec Ideal S4x512x512 .f32) (xo10 : Vec Ideal S1x2048 .f32) (xo11 : Vec Ideal S1x2048 .f32) :
    out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xo9 xo10 xo11 = k0_pay2 x0 (tH i x0 x1 x4 x5) x3 (k0_pay56 x2) (k0_pay57 x2) := by
  unfold out0_B_8 kernelRun0_B
  sl_unfold_words
  dsimp only
  simp only [w_load (o := 0) harg5 x4 0 rfl, w_load (o := 1) harg5 x4 1 rfl, w_load (o := 2) harg5 x4 2 rfl, w_load (o := 3) harg5 x4 3 rfl]
  simp only [Whole.readAt_all harg1 x0 Whole.z2, Whole.readAt_all harg2 x1 Whole.z2, Whole.readAt_all harg3 x2 Whole.z2, Whole.readAt_all harg4 x3 Whole.z2, Whole.readAt_all harg6 x5 Whole.z2]
  rw [rdE_0_0, rdE_0_1, rdE_1_0, rdE_1_1, rdE_2_0, rdE_2_1, rdE_3_0, rdE_3_1]
  rw [rd14_1_0_1, rd14_1_2_1, rd14_2_0_2, rd14_2_2_2, rd14_3_0_3, rd14_3_2_3, rd14_3_0_0]
  rw [rd15_2_0_2, rd15_2_4_2, rd15_3_0_3, rd15_3_4_3, rd15_3_0_1]
  rw [rd16_3_0_3, rd16_3_8_3, rd16_3_0_2]
  rw [rd17_3_0_3]
  exact Whole.read_all _ _ Whole.z2 _ _ _

set_option maxHeartbeats 4000000 in
theorem out0_B_11_eq (c : Dev nD) (i : grid0.Coords) (arg1 : Memref sig .tc .vmem S256x2048 .f32) (harg1 : arg1.IsWhole) (arg2 : Memref sig .tc .vmem S32x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S4x512x512 .bf16) (harg5 : arg5.IsWhole) (arg6 : Memref sig .tc .vmem S1x2048 .f32) (harg6 : arg6.IsWhole) (arg7 : Memref sig .tc .vmem S256x2048 .bf16) (harg7 : arg7.IsWhole) (arg8 : Memref sig .tc .vmem S256x2048 .f32) (harg8 : arg8.IsWhole) (arg9 : Memref sig .tc .vmem S256x2048 .bf16) (harg9 : arg9.IsWhole) (arg10 : Memref sig .tc .vmem S4x512x512 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S288x2048 .f32) (harg13 : arg13.IsWhole) (arg14 : Memref sig .tc .vmem S288x2048 .f32) (harg14 : arg14.IsWhole) (arg15 : Memref sig .tc .vmem S288x2048 .f32) (harg15 : arg15.IsWhole) (arg16 : Memref sig .tc .vmem S288x2048 .f32) (harg16 : arg16.IsWhole) (arg17 : Memref sig .tc .vmem S288x2048 .f32) (harg17 : arg17.IsWhole) (hc0 : ¬cond0_0 i)
    (x0 : Vec Ideal S256x2048 .f32) (x1 : Vec Ideal S32x2048 .f32) (x2 : Vec Ideal S256x2048 .f32) (x3 : Vec Ideal S1x2048 .f32) (x4 : Vec Ideal S4x512x512 .bf16) (x5 : Vec Ideal S1x2048 .f32) (x6 : Vec Ideal S256x2048 .bf16) (xo9 : Vec Ideal S4x512x512 .f32) (xo10 : Vec Ideal S1x2048 .f32) (xo11 : Vec Ideal S1x2048 .f32) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xo9 xo10 xo11 = k0_pay3 (tH i x0 x1 x4 x5) (k0_pay57 x2) xo11 := by
  unfold out0_B_11 kernelRun0_B
  sl_unfold_words
  dsimp only
  simp only [w_load (o := 0) harg5 x4 0 rfl, w_load (o := 1) harg5 x4 1 rfl, w_load (o := 2) harg5 x4 2 rfl, w_load (o := 3) harg5 x4 3 rfl]
  simp only [Whole.readAt_all harg1 x0 Whole.z2, Whole.readAt_all harg2 x1 Whole.z2, Whole.readAt_all harg3 x2 Whole.z2, Whole.readAt_all harg4 x3 Whole.z2, Whole.readAt_all harg6 x5 Whole.z2]
  rw [rdE_0_0, rdE_0_1, rdE_1_0, rdE_1_1, rdE_2_0, rdE_2_1, rdE_3_0, rdE_3_1]
  rw [rd14_1_0_1, rd14_1_2_1, rd14_2_0_2, rd14_2_2_2, rd14_3_0_3, rd14_3_2_3, rd14_3_0_0]
  rw [rd15_2_0_2, rd15_2_4_2, rd15_3_0_3, rd15_3_4_3, rd15_3_0_1]
  rw [rd16_3_0_3, rd16_3_8_3, rd16_3_0_2]
  rw [rd17_3_0_3]
  rw [Whole.readAt_all harg12 xo11 Whole.z2]
  exact Whole.read_all _ _ Whole.z2 _ _ _

set_option maxHeartbeats 4000000 in
theorem out0_A_7_eq (c : Dev nD) (i : grid0.Coords) (arg1 : Memref sig .tc .vmem S256x2048 .f32) (harg1 : arg1.IsWhole) (arg2 : Memref sig .tc .vmem S32x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S4x512x512 .bf16) (harg5 : arg5.IsWhole) (arg6 : Memref sig .tc .vmem S1x2048 .f32) (harg6 : arg6.IsWhole) (arg7 : Memref sig .tc .vmem S256x2048 .bf16) (harg7 : arg7.IsWhole) (arg8 : Memref sig .tc .vmem S256x2048 .f32) (harg8 : arg8.IsWhole) (arg9 : Memref sig .tc .vmem S256x2048 .bf16) (harg9 : arg9.IsWhole) (arg10 : Memref sig .tc .vmem S4x512x512 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S288x2048 .f32) (harg13 : arg13.IsWhole) (arg14 : Memref sig .tc .vmem S288x2048 .f32) (harg14 : arg14.IsWhole) (arg15 : Memref sig .tc .vmem S288x2048 .f32) (harg15 : arg15.IsWhole) (arg16 : Memref sig .tc .vmem S288x2048 .f32) (harg16 : arg16.IsWhole) (arg17 : Memref sig .tc .vmem S288x2048 .f32) (harg17 : arg17.IsWhole) (hc0 : cond0_0 i)
    (x0 : Vec Ideal S256x2048 .f32) (x1 : Vec Ideal S32x2048 .f32) (x2 : Vec Ideal S256x2048 .f32) (x3 : Vec Ideal S1x2048 .f32) (x4 : Vec Ideal S4x512x512 .bf16) (x5 : Vec Ideal S1x2048 .f32) (x6 : Vec Ideal S256x2048 .bf16) :
    out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 = k0_pay1 x0 (tH i x0 x1 x4 x5) x3 (k0_pay56 x2) (k0_pay57 x2) := by
  unfold out0_A_7 kernelRun0_A
  sl_unfold_words
  dsimp only
  simp only [w_load (o := 0) harg5 x4 0 rfl, w_load (o := 1) harg5 x4 1 rfl, w_load (o := 2) harg5 x4 2 rfl, w_load (o := 3) harg5 x4 3 rfl]
  simp only [Whole.readAt_all harg1 x0 Whole.z2, Whole.readAt_all harg2 x1 Whole.z2, Whole.readAt_all harg3 x2 Whole.z2, Whole.readAt_all harg4 x3 Whole.z2, Whole.readAt_all harg6 x5 Whole.z2]
  rw [rdE_0_0, rdE_0_1, rdE_1_0, rdE_1_1, rdE_2_0, rdE_2_1, rdE_3_0, rdE_3_1]
  rw [rd14_1_0_1, rd14_1_2_1, rd14_2_0_2, rd14_2_2_2, rd14_3_0_3, rd14_3_2_3, rd14_3_0_0]
  rw [rd15_2_0_2, rd15_2_4_2, rd15_3_0_3, rd15_3_4_3, rd15_3_0_1]
  rw [rd16_3_0_3, rd16_3_8_3, rd16_3_0_2]
  rw [rd17_3_0_3]
  exact Whole.read_all _ _ Whole.z2 _ _ _

set_option maxHeartbeats 4000000 in
theorem out0_A_8_eq (c : Dev nD) (i : grid0.Coords) (arg1 : Memref sig .tc .vmem S256x2048 .f32) (harg1 : arg1.IsWhole) (arg2 : Memref sig .tc .vmem S32x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S4x512x512 .bf16) (harg5 : arg5.IsWhole) (arg6 : Memref sig .tc .vmem S1x2048 .f32) (harg6 : arg6.IsWhole) (arg7 : Memref sig .tc .vmem S256x2048 .bf16) (harg7 : arg7.IsWhole) (arg8 : Memref sig .tc .vmem S256x2048 .f32) (harg8 : arg8.IsWhole) (arg9 : Memref sig .tc .vmem S256x2048 .bf16) (harg9 : arg9.IsWhole) (arg10 : Memref sig .tc .vmem S4x512x512 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S288x2048 .f32) (harg13 : arg13.IsWhole) (arg14 : Memref sig .tc .vmem S288x2048 .f32) (harg14 : arg14.IsWhole) (arg15 : Memref sig .tc .vmem S288x2048 .f32) (harg15 : arg15.IsWhole) (arg16 : Memref sig .tc .vmem S288x2048 .f32) (harg16 : arg16.IsWhole) (arg17 : Memref sig .tc .vmem S288x2048 .f32) (harg17 : arg17.IsWhole) (hc0 : cond0_0 i)
    (x0 : Vec Ideal S256x2048 .f32) (x1 : Vec Ideal S32x2048 .f32) (x2 : Vec Ideal S256x2048 .f32) (x3 : Vec Ideal S1x2048 .f32) (x4 : Vec Ideal S4x512x512 .bf16) (x5 : Vec Ideal S1x2048 .f32) (x6 : Vec Ideal S256x2048 .bf16) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 = k0_pay2 x0 (tH i x0 x1 x4 x5) x3 (k0_pay56 x2) (k0_pay57 x2) := by
  unfold out0_A_8 kernelRun0_A
  sl_unfold_words
  dsimp only
  simp only [w_load (o := 0) harg5 x4 0 rfl, w_load (o := 1) harg5 x4 1 rfl, w_load (o := 2) harg5 x4 2 rfl, w_load (o := 3) harg5 x4 3 rfl]
  simp only [Whole.readAt_all harg1 x0 Whole.z2, Whole.readAt_all harg2 x1 Whole.z2, Whole.readAt_all harg3 x2 Whole.z2, Whole.readAt_all harg4 x3 Whole.z2, Whole.readAt_all harg6 x5 Whole.z2]
  rw [rdE_0_0, rdE_0_1, rdE_1_0, rdE_1_1, rdE_2_0, rdE_2_1, rdE_3_0, rdE_3_1]
  rw [rd14_1_0_1, rd14_1_2_1, rd14_2_0_2, rd14_2_2_2, rd14_3_0_3, rd14_3_2_3, rd14_3_0_0]
  rw [rd15_2_0_2, rd15_2_4_2, rd15_3_0_3, rd15_3_4_3, rd15_3_0_1]
  rw [rd16_3_0_3, rd16_3_8_3, rd16_3_0_2]
  rw [rd17_3_0_3]
  exact Whole.read_all _ _ Whole.z2 _ _ _

set_option maxHeartbeats 4000000 in
theorem out0_A_11_eq (c : Dev nD) (i : grid0.Coords) (arg1 : Memref sig .tc .vmem S256x2048 .f32) (harg1 : arg1.IsWhole) (arg2 : Memref sig .tc .vmem S32x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S4x512x512 .bf16) (harg5 : arg5.IsWhole) (arg6 : Memref sig .tc .vmem S1x2048 .f32) (harg6 : arg6.IsWhole) (arg7 : Memref sig .tc .vmem S256x2048 .bf16) (harg7 : arg7.IsWhole) (arg8 : Memref sig .tc .vmem S256x2048 .f32) (harg8 : arg8.IsWhole) (arg9 : Memref sig .tc .vmem S256x2048 .bf16) (harg9 : arg9.IsWhole) (arg10 : Memref sig .tc .vmem S4x512x512 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S288x2048 .f32) (harg13 : arg13.IsWhole) (arg14 : Memref sig .tc .vmem S288x2048 .f32) (harg14 : arg14.IsWhole) (arg15 : Memref sig .tc .vmem S288x2048 .f32) (harg15 : arg15.IsWhole) (arg16 : Memref sig .tc .vmem S288x2048 .f32) (harg16 : arg16.IsWhole) (arg17 : Memref sig .tc .vmem S288x2048 .f32) (harg17 : arg17.IsWhole) (hc0 : cond0_0 i)
    (x0 : Vec Ideal S256x2048 .f32) (x1 : Vec Ideal S32x2048 .f32) (x2 : Vec Ideal S256x2048 .f32) (x3 : Vec Ideal S1x2048 .f32) (x4 : Vec Ideal S4x512x512 .bf16) (x5 : Vec Ideal S1x2048 .f32) (x6 : Vec Ideal S256x2048 .bf16) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 = k0_pay3 (tH i x0 x1 x4 x5) (k0_pay57 x2) (k0_pay6 (F := Ideal)) := by
  unfold out0_A_11 kernelRun0_A
  sl_unfold_words
  dsimp only
  simp only [w_load (o := 0) harg5 x4 0 rfl, w_load (o := 1) harg5 x4 1 rfl, w_load (o := 2) harg5 x4 2 rfl, w_load (o := 3) harg5 x4 3 rfl]
  simp only [Whole.readAt_all harg1 x0 Whole.z2, Whole.readAt_all harg2 x1 Whole.z2, Whole.readAt_all harg3 x2 Whole.z2, Whole.readAt_all harg4 x3 Whole.z2, Whole.readAt_all harg6 x5 Whole.z2]
  rw [rdE_0_0, rdE_0_1, rdE_1_0, rdE_1_1, rdE_2_0, rdE_2_1, rdE_3_0, rdE_3_1]
  rw [rd14_1_0_1, rd14_1_2_1, rd14_2_0_2, rd14_2_2_2, rd14_3_0_3, rd14_3_2_3, rd14_3_0_0]
  rw [rd15_2_0_2, rd15_2_4_2, rd15_3_0_3, rd15_3_4_3, rd15_3_0_1]
  rw [rd16_3_0_3, rd16_3_8_3, rd16_3_0_2]
  rw [rd17_3_0_3]
  rw [Whole.readCov_all _ Whole.z2]
  exact Whole.read_all _ _ Whole.z2 _ _ _

end Cert.Kernel14Ideal.Pool

end
-- ==== Proof.PoolAcc.lean ====
module

public import proofs.«01_k».proof.Proof.PoolPoint
public import Idealize.ShloMosaic.Lib.Pipeline.ReadBack

@[expose] public section

set_option maxRecDepth 16384

noncomputable section

namespace Cert.Kernel14Ideal.Pool

open Idealize.ShloMosaic Idealize.ShloMosaic.TcCoe
open Cert.Kernel14Ideal.Gen Cert.Kernel14Ideal.Value
open Cert.KernelIdeal.Gate (emb2 blk readAt_blk)

/-- A group's part of the running sum of the matrices' gradient. -/
def Wo (o : Vec Ideal S4x512x512 .f32) (g : Fin 4) : Vec Ideal S1x512x512 .f32 := fun y => o (ix3 g (y 1) (y 2))

/-- A group's part of the running sum of the scale's gradient. -/
def So (o : Vec Ideal S1x2048 .f32) (g : Fin 4) : Vec Ideal S1x512 .f32 := fun y => o (ix2 0 (col g (y 1)))

theorem wo_load {m : Memref Cert.Kernel14Ideal.sig .tc .vmem S4x512x512 .f32} (h : m.IsWhole) (x : Vec Ideal S4x512x512 .f32) {o : ℕ} (g : Fin 4) (hg : g.val = o)
    (inb : ∀ x, (![o, 0, 0] : Fin 3 → ℕ) x + (![1, 512, 512] : Fin 3 → ℕ) x ≤ S4x512x512.size x) :
    View.readAt (Elt Ideal) m.view (Rect.unit (s := S4x512x512) ![o, 0, 0] S1x512x512.size inb).toLoadRect (h.unread x) = Wo x g := by
  rw [readAt_blk m h]
  funext y
  show x _ = x _
  refine congrArg x (funext fun a => Fin.ext ?_)
  match a with
  | ⟨0, _⟩ => show o + 1 * (y 0).val = g.val; have : (y 0).val < 1 := (y 0).isLt; omega
  | ⟨1, _⟩ => show 0 + 1 * (y 1).val = (y 1).val; omega
  | ⟨2, _⟩ => show 0 + 1 * (y 2).val = (y 2).val; omega

theorem so_load {m : Memref Cert.Kernel14Ideal.sig .tc .vmem S1x2048 .f32} (h : m.IsWhole) (x : Vec Ideal S1x2048 .f32) {c : ℕ} (g : Fin 4) (hg : 512 * g.val = c)
    (inb : ∀ x, (![0, c] : Fin 2 → ℕ) x + (![1, 512] : Fin 2 → ℕ) x ≤ S1x2048.size x) :
    View.readAt (Elt Ideal) m.view (Rect.unit (s := S1x2048) ![0, c] S1x512.size inb).toLoadRect (h.unread x) = So x g := by
  rw [readAt_blk m h]
  funext y
  show x _ = x _
  refine congrArg x (funext fun a => Fin.ext ?_)
  match a with
  | ⟨0, _⟩ => show 0 + 1 * (y 0).val = 0; have : (y 0).val < 1 := (y 0).isLt; omega
  | ⟨1, _⟩ => show c + 1 * (y 1).val = 512 * g.val + (y 1).val; omega

/-- A tile added to the gradient of the scale. -/
def tDs (x0 : Vec Ideal S256x2048 .f32) (x4 : Vec Ideal S4x512x512 .bf16) (x6 : Vec Ideal S256x2048 .bf16) (o : Vec Ideal S1x2048 .f32) : Vec Ideal S1x2048 .f32 := fun y =>
  o (ix2 0 (y 1)) + ∑ r : Fin 256, x0 (ix2 r (y 1)) * ∑ k : Fin 512, x6 (ix2 r (col (grp (y 1)) k)) * x4 (ix3 (grp (y 1)) k (loc (y 1)))

/-- A tile added to the gradient of the matrices. -/
def tDw (x0 : Vec Ideal S256x2048 .f32) (x5 : Vec Ideal S1x2048 .f32) (x6 : Vec Ideal S256x2048 .bf16) (o : Vec Ideal S4x512x512 .f32) : Vec Ideal S4x512x512 .f32 := fun y =>
  o (ix3 (y 0) (y 1) (y 2)) + ∑ r : Fin 256, x6 (ix2 r (col (y 0) (y 1))) * (x0 (ix2 r (col (y 0) (y 2))) * x5 (ix2 0 (col (y 0) (y 2))))

/-- Stores that agree with `G` and cover the buffer leave `G`, whatever was stored before. -/
theorem read_front {sig : RefSig} {κ : Kind} {sp : Space} {s : Shape} {e : EltTy} {Val : EltTy → Type}
    (v : View sig κ sp s e) (f : v.ty.Contents Val) (G : s.Idx → Val e) (L L' : List (View.Piece Val s e))
    (hL : ∀ p ∈ L, ∀ x : p.1.shape.Idx, p.2 x = G (p.1.emb x)) (hc : ∀ y, ∃ p ∈ L, y ∈ p.1.set) :
    v.read Val (v.writes Val f (L ++ L')) = G := by
  funext y
  suffices key : ∀ L : List (View.Piece Val s e), (∀ p ∈ L, ∀ x : p.1.shape.Idx, p.2 x = G (p.1.emb x)) → (∃ p ∈ L, y ∈ p.1.set) →
      v.read Val (v.writes Val f (L ++ L')) y = G y from key L hL (hc y)
  intro L
  induction L with
  | nil => rintro - ⟨p, hp, -⟩; cases hp
  | cons p L ih =>
    intro hL hy
    by_cases hm : y ∈ p.1.set
    · rw [← Rect.map_emb_univ, Finset.mem_map] at hm
      obtain ⟨x, -, hx⟩ := hm
      subst hx
      rw [List.cons_append, View.writes_cons]
      exact (View.read_slice_write_emb _ _ _ (Finset.mem_univ x)).trans (hL p (by simp) x)
    · have hr : v.read Val (v.writes Val f (p :: L ++ L')) y = v.read Val (v.writes Val f (L ++ L')) y := by
        rw [List.cons_append, View.writes_cons]
        exact View.read_slice_write_of_not_mem _ _ _ _ (by rw [Rect.map_emb_univ]; exact hm)
      rw [hr]
      refine ih (fun q hq => hL q (by simp [hq])) ?_
      obtain ⟨q, hq, hyq⟩ := hy
      rcases List.mem_cons.mp hq with rfl | hq
      · exact absurd hyq hm
      · exact ⟨q, hq, hyq⟩

theorem dw_piece (G : Vec Ideal S4x512x512 .f32) {o : ℕ} (g : Fin 4) (hg : g.val = o)
    (inb : ∀ x, (![o, 0, 0] : Fin 3 → ℕ) x + (![1, 512, 512] : Fin 3 → ℕ) x ≤ S4x512x512.size x)
    (p : Vec Ideal S1x512x512 .f32) (h : ∀ k j : Fin 512, p (ix3 0 k j) = G (ix3 g k j)) (x : S1x512x512.Idx) :
    p x = G ((Rect.unit (s := S4x512x512) ![o, 0, 0] S1x512x512.size inb).emb x) := by
  have hx : x = ix3 0 (x 1) (x 2) := by
    funext a
    apply Fin.ext
    match a with
    | ⟨0, _⟩ => show (x 0).val = 0; have : (x 0).val < 1 := (x 0).isLt; omega
    | ⟨1, _⟩ => rfl
    | ⟨2, _⟩ => rfl
  refine (congrArg p hx).trans ((h (x 1) (x 2)).trans (congrArg G ?_))
  funext a
  apply Fin.ext
  match a with
  | ⟨0, _⟩ => show g.val = o + 1 * (x 0).val; have : (x 0).val < 1 := (x 0).isLt; omega
  | ⟨1, _⟩ => show (x 1).val = 0 + 1 * (x 1).val; omega
  | ⟨2, _⟩ => show (x 2).val = 0 + 1 * (x 2).val; omega

theorem ds_piece (G : Vec Ideal S1x2048 .f32) {c : ℕ} (g : Fin 4) (hc : 512 * g.val = c)
    (inb : ∀ x, (![0, c] : Fin 2 → ℕ) x + (![1, 512] : Fin 2 → ℕ) x ≤ S1x2048.size x)
    (p : Vec Ideal S1x512 .f32) (h : ∀ j : Fin 512, p (ix2 0 j) = G (ix2 0 (col g j))) (x : S1x512.Idx) :
    p x = G ((Rect.unit (s := S1x2048) ![0, c] S1x512.size inb).emb x) := by
  have hx : x = ix2 0 (x 1) := by
    funext a
    apply Fin.ext
    match a with
    | ⟨0, _⟩ => show (x 0).val = 0; have : (x 0).val < 1 := (x 0).isLt; omega
    | ⟨1, _⟩ => rfl
  refine (congrArg p hx).trans ((h (x 1)).trans (congrArg G ?_))
  funext a
  apply Fin.ext
  match a with
  | ⟨0, _⟩ => show 0 = 0 + 1 * (x 0).val; have : (x 0).val < 1 := (x 0).isLt; omega
  | ⟨1, _⟩ => show 512 * g.val + (x 1).val = c + 1 * (x 1).val; omega

theorem mem_dw {o : ℕ} (inb : ∀ x, (![o, 0, 0] : Fin 3 → ℕ) x + (![1, 512, 512] : Fin 3 → ℕ) x ≤ S4x512x512.size x)
    (y : S4x512x512.Idx) (h : (y 0).val = o) : y ∈ (Rect.unit (s := S4x512x512) ![o, 0, 0] S1x512x512.size inb).set := by
  rw [Rect.mem_set_unit]
  intro a
  match a with
  | ⟨0, _⟩ => exact ⟨h.ge, by show (y 0).val < o + 1; omega⟩
  | ⟨1, _⟩ => exact ⟨Nat.zero_le _, by show (y 1).val < 0 + 512; have : (y 1).val < 512 := (y 1).isLt; omega⟩
  | ⟨2, _⟩ => exact ⟨Nat.zero_le _, by show (y 2).val < 0 + 512; have : (y 2).val < 512 := (y 2).isLt; omega⟩

theorem mem_ds {c : ℕ} (inb : ∀ x, (![0, c] : Fin 2 → ℕ) x + (![1, 512] : Fin 2 → ℕ) x ≤ S1x2048.size x)
    (y : S1x2048.Idx) (h : c ≤ (y 1).val) (h' : (y 1).val < c + 512) : y ∈ (Rect.unit (s := S1x2048) ![0, c] S1x512.size inb).set := by
  rw [Rect.mem_set_unit]
  intro a
  match a with
  | ⟨0, _⟩ => exact ⟨Nat.zero_le _, by show (y 0).val < 0 + 1; have : (y 0).val < 1 := (y 0).isLt; omega⟩
  | ⟨1, _⟩ => exact ⟨h, h'⟩

variable {sig : RefSig} {κ : Kind} {sp : Space}

theorem dw_read (v : View sig κ sp S4x512x512 .f32) (f : v.ty.Contents (Elt Ideal)) (x0 : Vec Ideal S256x2048 .f32) (x5 : Vec Ideal S1x2048 .f32)
    (x6 : Vec Ideal S256x2048 .bf16) (o : Vec Ideal S4x512x512 .f32) (i3 i2 i1 i0) (L : List (View.Piece (Elt Ideal) S4x512x512 .f32)) :
    v.read (Elt Ideal) (v.writes (Elt Ideal) f (⟨Rect.unit (s := S4x512x512) ![3, 0, 0] S1x512x512.size i3, k0_pay34 (k0_pay7 x0 x5) (Dg x6 3) (Wo o 3)⟩ ::
      ⟨Rect.unit (s := S4x512x512) ![2, 0, 0] S1x512x512.size i2, k0_pay27 (k0_pay7 x0 x5) (k0_pay25 (Dg x6 2)) (Wo o 2)⟩ ::
      ⟨Rect.unit (s := S4x512x512) ![1, 0, 0] S1x512x512.size i1, k0_pay20 (k0_pay7 x0 x5) (Dg x6 1) (Wo o 1)⟩ ::
      ⟨Rect.unit (s := S4x512x512) ![0, 0, 0] S1x512x512.size i0, k0_pay13 (k0_pay7 x0 x5) (k0_pay11 (Dg x6 0)) (Wo o 0)⟩ :: L)) = tDw x0 x5 x6 o := by
  refine read_front v f _ [_, _, _, _] L ?_ ?_
  · intro p hp
    simp only [List.mem_cons, List.not_mem_nil, or_false] at hp
    rcases hp with rfl | rfl | rfl | rfl
    · refine dw_piece (o := 3) _ 3 rfl i3 _ fun k j => (dw3_eq _ _ _ k j).trans ?_
      simp only [pay7_eq]
      rfl
    · refine dw_piece (o := 2) _ 2 rfl i2 _ fun k j => (dw2_eq _ _ _ k j).trans ?_
      simp only [pay7_eq]
      rfl
    · refine dw_piece (o := 1) _ 1 rfl i1 _ fun k j => (dw1_eq _ _ _ k j).trans ?_
      simp only [pay7_eq]
      rfl
    · refine dw_piece (o := 0) _ 0 rfl i0 _ fun k j => (dw0_eq _ _ _ k j).trans ?_
      simp only [pay7_eq]
      rfl
  · intro y
    have h : (y 0).val < 4 := (y 0).isLt
    have h : (y 0).val = 3 ∨ (y 0).val = 2 ∨ (y 0).val = 1 ∨ (y 0).val = 0 := by omega
    rcases h with h | h | h | h
    · exact ⟨_, List.mem_cons_self, mem_dw i3 y h⟩
    · exact ⟨_, (List.mem_cons_of_mem _ List.mem_cons_self), mem_dw i2 y h⟩
    · exact ⟨_, (List.mem_cons_of_mem _ (List.mem_cons_of_mem _ List.mem_cons_self)), mem_dw i1 y h⟩
    · exact ⟨_, (List.mem_cons_of_mem _ (List.mem_cons_of_mem _ (List.mem_cons_of_mem _ List.mem_cons_self))), mem_dw i0 y h⟩

theorem ds_read (v : View sig κ sp S1x2048 .f32) (f : v.ty.Contents (Elt Ideal)) (x0 : Vec Ideal S256x2048 .f32) (x4 : Vec Ideal S4x512x512 .bf16)
    (x6 : Vec Ideal S256x2048 .bf16) (o : Vec Ideal S1x2048 .f32) (i3 i2 i1 i0) (L : List (View.Piece (Elt Ideal) S1x2048 .f32)) :
    v.read (Elt Ideal) (v.writes (Elt Ideal) f (⟨Rect.unit (s := S1x2048) ![0, 1536] S1x512.size i3, k0_pay33 x0 (Dg x6 3) (W x4 3) (So o 3)⟩ ::
      ⟨Rect.unit (s := S1x2048) ![0, 1024] S1x512.size i2, k0_pay26 x0 (Dg x6 2) (W x4 2) (So o 2)⟩ ::
      ⟨Rect.unit (s := S1x2048) ![0, 512] S1x512.size i1, k0_pay19 x0 (Dg x6 1) (W x4 1) (So o 1)⟩ ::
      ⟨Rect.unit (s := S1x2048) ![0, 0] S1x512.size i0, k0_pay12 x0 (Dg x6 0) (W x4 0) (So o 0)⟩ :: L)) = tDs x0 x4 x6 o := by
  refine read_front v f _ [_, _, _, _] L ?_ ?_
  · intro p hp
    simp only [List.mem_cons, List.not_mem_nil, or_false] at hp
    rcases hp with rfl | rfl | rfl | rfl
    · refine ds_piece (c := 1536) _ 3 rfl i3 _ fun j => (ds3_eq _ _ _ _ j).trans ?_
      show _ = So o 3 (ix2 0 j) + ∑ r : Fin 256, x0 (ix2 r (col 3 j)) * ∑ k : Fin 512, x6 (ix2 r (col (grp (col 3 j)) k)) * x4 (ix3 (grp (col 3 j)) k (loc (col 3 j)))
      rw [grp_col, loc_col]
      rfl
    · refine ds_piece (c := 1024) _ 2 rfl i2 _ fun j => (ds2_eq _ _ _ _ j).trans ?_
      show _ = So o 2 (ix2 0 j) + ∑ r : Fin 256, x0 (ix2 r (col 2 j)) * ∑ k : Fin 512, x6 (ix2 r (col (grp (col 2 j)) k)) * x4 (ix3 (grp (col 2 j)) k (loc (col 2 j)))
      rw [grp_col, loc_col]
      rfl
    · refine ds_piece (c := 512) _ 1 rfl i1 _ fun j => (ds1_eq _ _ _ _ j).trans ?_
      show _ = So o 1 (ix2 0 j) + ∑ r : Fin 256, x0 (ix2 r (col 1 j)) * ∑ k : Fin 512, x6 (ix2 r (col (grp (col 1 j)) k)) * x4 (ix3 (grp (col 1 j)) k (loc (col 1 j)))
      rw [grp_col, loc_col]
      rfl
    · refine ds_piece (c := 0) _ 0 rfl i0 _ fun j => (ds0_eq _ _ _ _ j).trans ?_
      show _ = So o 0 (ix2 0 j) + ∑ r : Fin 256, x0 (ix2 r (col 0 j)) * ∑ k : Fin 512, x6 (ix2 r (col (grp (col 0 j)) k)) * x4 (ix3 (grp (col 0 j)) k (loc (col 0 j)))
      rw [grp_col, loc_col]
      rfl
  · intro y
    have h : (y 1).val < 2048 := (y 1).isLt
    have h : 1536 ≤ (y 1).val ∨ (1024 ≤ (y 1).val ∧ (y 1).val < 1536) ∨ (512 ≤ (y 1).val ∧ (y 1).val < 1024) ∨ (y 1).val < 512 := by omega
    rcases h with h | h | h | h
    · exact ⟨_, List.mem_cons_self, mem_ds i3 y (by omega) (by omega)⟩
    · exact ⟨_, (List.mem_cons_of_mem _ List.mem_cons_self), mem_ds i2 y (by omega) (by omega)⟩
    · exact ⟨_, (List.mem_cons_of_mem _ (List.mem_cons_of_mem _ List.mem_cons_self)), mem_ds i1 y (by omega) (by omega)⟩
    · exact ⟨_, (List.mem_cons_of_mem _ (List.mem_cons_of_mem _ (List.mem_cons_of_mem _ List.mem_cons_self))), mem_ds i0 y (by omega) (by omega)⟩

theorem zw0 (v : View sig κ sp S4x512x512 .f32) (z : Vec Ideal S4x512x512 .f32) (iz) (inb) :
    v.readCov ([⟨Rect.unit (s := S4x512x512) ![0, 0, 0] S4x512x512.size iz, z⟩] : List (View.Piece (Elt Ideal) S4x512x512 .f32))
      (Rect.unit (s := S4x512x512) ![0, 0, 0] S1x512x512.size inb).toLoadRect = Wo z 0 := by
  rw [View.readCov_fill v iz z [] _ (by decide)]
  funext y
  show z _ = z _
  refine congrArg z (funext fun a => Fin.ext ?_)
  match a with
  | ⟨0, _⟩ => show 0 + 1 * (y 0).val = 0; have : (y 0).val < 1 := (y 0).isLt; omega
  | ⟨1, _⟩ => show 0 + 1 * (y 1).val = (y 1).val; omega
  | ⟨2, _⟩ => show 0 + 1 * (y 2).val = (y 2).val; omega

theorem zs0 (v : View sig κ sp S1x2048 .f32) (z : Vec Ideal S1x2048 .f32) (iz) (inb) :
    v.readCov ([⟨Rect.unit (s := S1x2048) ![0, 0] S1x2048.size iz, z⟩] : List (View.Piece (Elt Ideal) S1x2048 .f32))
      (Rect.unit (s := S1x2048) ![0, 0] S1x512.size inb).toLoadRect = So z 0 := by
  rw [View.readCov_fill v iz z [] _ (by decide)]
  funext y
  show z _ = z _
  refine congrArg z (funext fun a => Fin.ext ?_)
  match a with
  | ⟨0, _⟩ => show 0 + 1 * (y 0).val = 0; have : (y 0).val < 1 := (y 0).isLt; omega
  | ⟨1, _⟩ => show 0 + 1 * (y 1).val = 512 * 0 + (y 1).val; omega

theorem zw1 (v : View sig κ sp S4x512x512 .f32) (z : Vec Ideal S4x512x512 .f32) (i0) (p0 : Vec Ideal S1x512x512 .f32) (iz) (inb) :
    v.readCov (⟨Rect.unit (s := S4x512x512) ![0, 0, 0] S1x512x512.size i0, p0⟩ :: [⟨Rect.unit (s := S4x512x512) ![0, 0, 0] S4x512x512.size iz, z⟩] : List (View.Piece (Elt Ideal) S4x512x512 .f32))
      (Rect.unit (s := S4x512x512) ![1, 0, 0] S1x512x512.size inb).toLoadRect = Wo z 1 := by
  rw [View.readCov_skip v (Rect.unit (s := S4x512x512) ![0, 0, 0] S1x512x512.size i0) p0 _ _ rfl, View.readCov_fill v iz z [] _ (by decide)]
  funext y
  show z _ = z _
  refine congrArg z (funext fun a => Fin.ext ?_)
  match a with
  | ⟨0, _⟩ => show 1 + 1 * (y 0).val = 1; have : (y 0).val < 1 := (y 0).isLt; omega
  | ⟨1, _⟩ => show 0 + 1 * (y 1).val = (y 1).val; omega
  | ⟨2, _⟩ => show 0 + 1 * (y 2).val = (y 2).val; omega

theorem zs1 (v : View sig κ sp S1x2048 .f32) (z : Vec Ideal S1x2048 .f32) (i0) (p0 : Vec Ideal S1x512 .f32) (iz) (inb) :
    v.readCov (⟨Rect.unit (s := S1x2048) ![0, 0] S1x512.size i0, p0⟩ :: [⟨Rect.unit (s := S1x2048) ![0, 0] S1x2048.size iz, z⟩] : List (View.Piece (Elt Ideal) S1x2048 .f32))
      (Rect.unit (s := S1x2048) ![0, 512] S1x512.size inb).toLoadRect = So z 1 := by
  rw [View.readCov_skip v (Rect.unit (s := S1x2048) ![0, 0] S1x512.size i0) p0 _ _ rfl, View.readCov_fill v iz z [] _ (by decide)]
  funext y
  show z _ = z _
  refine congrArg z (funext fun a => Fin.ext ?_)
  match a with
  | ⟨0, _⟩ => show 0 + 1 * (y 0).val = 0; have : (y 0).val < 1 := (y 0).isLt; omega
  | ⟨1, _⟩ => show 512 + 1 * (y 1).val = 512 * 1 + (y 1).val; omega

theorem zw2 (v : View sig κ sp S4x512x512 .f32) (z : Vec Ideal S4x512x512 .f32) (i1) (p1 : Vec Ideal S1x512x512 .f32) (i0) (p0 : Vec Ideal S1x512x512 .f32) (iz) (inb) :
    v.readCov (⟨Rect.unit (s := S4x512x512) ![1, 0, 0] S1x512x512.size i1, p1⟩ :: ⟨Rect.unit (s := S4x512x512) ![0, 0, 0] S1x512x512.size i0, p0⟩ :: [⟨Rect.unit (s := S4x512x512) ![0, 0, 0] S4x512x512.size iz, z⟩] : List (View.Piece (Elt Ideal) S4x512x512 .f32))
      (Rect.unit (s := S4x512x512) ![2, 0, 0] S1x512x512.size inb).toLoadRect = Wo z 2 := by
  rw [View.readCov_skip v (Rect.unit (s := S4x512x512) ![1, 0, 0] S1x512x512.size i1) p1 _ _ rfl, View.readCov_skip v (Rect.unit (s := S4x512x512) ![0, 0, 0] S1x512x512.size i0) p0 _ _ rfl, View.readCov_fill v iz z [] _ (by decide)]
  funext y
  show z _ = z _
  refine congrArg z (funext fun a => Fin.ext ?_)
  match a with
  | ⟨0, _⟩ => show 2 + 1 * (y 0).val = 2; have : (y 0).val < 1 := (y 0).isLt; omega
  | ⟨1, _⟩ => show 0 + 1 * (y 1).val = (y 1).val; omega
  | ⟨2, _⟩ => show 0 + 1 * (y 2).val = (y 2).val; omega

theorem zs2 (v : View sig κ sp S1x2048 .f32) (z : Vec Ideal S1x2048 .f32) (i1) (p1 : Vec Ideal S1x512 .f32) (i0) (p0 : Vec Ideal S1x512 .f32) (iz) (inb) :
    v.readCov (⟨Rect.unit (s := S1x2048) ![0, 512] S1x512.size i1, p1⟩ :: ⟨Rect.unit (s := S1x2048) ![0, 0] S1x512.size i0, p0⟩ :: [⟨Rect.unit (s := S1x2048) ![0, 0] S1x2048.size iz, z⟩] : List (View.Piece (Elt Ideal) S1x2048 .f32))
      (Rect.unit (s := S1x2048) ![0, 1024] S1x512.size inb).toLoadRect = So z 2 := by
  rw [View.readCov_skip v (Rect.unit (s := S1x2048) ![0, 512] S1x512.size i1) p1 _ _ rfl, View.readCov_skip v (Rect.unit (s := S1x2048) ![0, 0] S1x512.size i0) p0 _ _ rfl, View.readCov_fill v iz z [] _ (by decide)]
  funext y
  show z _ = z _
  refine congrArg z (funext fun a => Fin.ext ?_)
  match a with
  | ⟨0, _⟩ => show 0 + 1 * (y 0).val = 0; have : (y 0).val < 1 := (y 0).isLt; omega
  | ⟨1, _⟩ => show 1024 + 1 * (y 1).val = 512 * 2 + (y 1).val; omega

theorem zw3 (v : View sig κ sp S4x512x512 .f32) (z : Vec Ideal S4x512x512 .f32) (i2) (p2 : Vec Ideal S1x512x512 .f32) (i1) (p1 : Vec Ideal S1x512x512 .f32) (i0) (p0 : Vec Ideal S1x512x512 .f32) (iz) (inb) :
    v.readCov (⟨Rect.unit (s := S4x512x512) ![2, 0, 0] S1x512x512.size i2, p2⟩ :: ⟨Rect.unit (s := S4x512x512) ![1, 0, 0] S1x512x512.size i1, p1⟩ :: ⟨Rect.unit (s := S4x512x512) ![0, 0, 0] S1x512x512.size i0, p0⟩ :: [⟨Rect.unit (s := S4x512x512) ![0, 0, 0] S4x512x512.size iz, z⟩] : List (View.Piece (Elt Ideal) S4x512x512 .f32))
      (Rect.unit (s := S4x512x512) ![3, 0, 0] S1x512x512.size inb).toLoadRect = Wo z 3 := by
  rw [View.readCov_skip v (Rect.unit (s := S4x512x512) ![2, 0, 0] S1x512x512.size i2) p2 _ _ rfl, View.readCov_skip v (Rect.unit (s := S4x512x512) ![1, 0, 0] S1x512x512.size i1) p1 _ _ rfl, View.readCov_skip v (Rect.unit (s := S4x512x512) ![0, 0, 0] S1x512x512.size i0) p0 _ _ rfl, View.readCov_fill v iz z [] _ (by decide)]
  funext y
  show z _ = z _
  refine congrArg z (funext fun a => Fin.ext ?_)
  match a with
  | ⟨0, _⟩ => show 3 + 1 * (y 0).val = 3; have : (y 0).val < 1 := (y 0).isLt; omega
  | ⟨1, _⟩ => show 0 + 1 * (y 1).val = (y 1).val; omega
  | ⟨2, _⟩ => show 0 + 1 * (y 2).val = (y 2).val; omega

theorem zs3 (v : View sig κ sp S1x2048 .f32) (z : Vec Ideal S1x2048 .f32) (i2) (p2 : Vec Ideal S1x512 .f32) (i1) (p1 : Vec Ideal S1x512 .f32) (i0) (p0 : Vec Ideal S1x512 .f32) (iz) (inb) :
    v.readCov (⟨Rect.unit (s := S1x2048) ![0, 1024] S1x512.size i2, p2⟩ :: ⟨Rect.unit (s := S1x2048) ![0, 512] S1x512.size i1, p1⟩ :: ⟨Rect.unit (s := S1x2048) ![0, 0] S1x512.size i0, p0⟩ :: [⟨Rect.unit (s := S1x2048) ![0, 0] S1x2048.size iz, z⟩] : List (View.Piece (Elt Ideal) S1x2048 .f32))
      (Rect.unit (s := S1x2048) ![0, 1536] S1x512.size inb).toLoadRect = So z 3 := by
  rw [View.readCov_skip v (Rect.unit (s := S1x2048) ![0, 1024] S1x512.size i2) p2 _ _ rfl, View.readCov_skip v (Rect.unit (s := S1x2048) ![0, 512] S1x512.size i1) p1 _ _ rfl, View.readCov_skip v (Rect.unit (s := S1x2048) ![0, 0] S1x512.size i0) p0 _ _ rfl, View.readCov_fill v iz z [] _ (by decide)]
  funext y
  show z _ = z _
  refine congrArg z (funext fun a => Fin.ext ?_)
  match a with
  | ⟨0, _⟩ => show 0 + 1 * (y 0).val = 0; have : (y 0).val < 1 := (y 0).isLt; omega
  | ⟨1, _⟩ => show 1536 + 1 * (y 1).val = 512 * 3 + (y 1).val; omega

end Cert.Kernel14Ideal.Pool

namespace Cert.Kernel14Ideal.Pool

open Idealize.ShloMosaic Idealize.ShloMosaic.TcCoe
open Cert.Kernel14Ideal.Gen Cert.Kernel14Ideal.Value

set_option maxHeartbeats 4000000 in
theorem out0_B_9_eq (c : Dev nD) (i : grid0.Coords) (arg1 : Memref sig .tc .vmem S256x2048 .f32) (harg1 : arg1.IsWhole) (arg2 : Memref sig .tc .vmem S32x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S4x512x512 .bf16) (harg5 : arg5.IsWhole) (arg6 : Memref sig .tc .vmem S1x2048 .f32) (harg6 : arg6.IsWhole) (arg7 : Memref sig .tc .vmem S256x2048 .bf16) (harg7 : arg7.IsWhole) (arg8 : Memref sig .tc .vmem S256x2048 .f32) (harg8 : arg8.IsWhole) (arg9 : Memref sig .tc .vmem S256x2048 .bf16) (harg9 : arg9.IsWhole) (arg10 : Memref sig .tc .vmem S4x512x512 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S288x2048 .f32) (harg13 : arg13.IsWhole) (arg14 : Memref sig .tc .vmem S288x2048 .f32) (harg14 : arg14.IsWhole) (arg15 : Memref sig .tc .vmem S288x2048 .f32) (harg15 : arg15.IsWhole) (arg16 : Memref sig .tc .vmem S288x2048 .f32) (harg16 : arg16.IsWhole) (arg17 : Memref sig .tc .vmem S288x2048 .f32) (harg17 : arg17.IsWhole) (hc0 : ¬cond0_0 i)
    (x0 : Vec Ideal S256x2048 .f32) (x1 : Vec Ideal S32x2048 .f32) (x2 : Vec Ideal S256x2048 .f32) (x3 : Vec Ideal S1x2048 .f32) (x4 : Vec Ideal S4x512x512 .bf16) (x5 : Vec Ideal S1x2048 .f32) (x6 : Vec Ideal S256x2048 .bf16) (xo9 : Vec Ideal S4x512x512 .f32) (xo10 : Vec Ideal S1x2048 .f32) (xo11 : Vec Ideal S1x2048 .f32) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xo9 xo10 xo11 = tDw x0 x5 x6 xo9 := by
  unfold out0_B_9 kernelRun0_B
  sl_unfold_words
  dsimp only
  simp only [d_load (c := 0) harg7 x6 0 rfl, d_load (c := 512) harg7 x6 1 rfl, d_load (c := 1024) harg7 x6 2 rfl, d_load (c := 1536) harg7 x6 3 rfl]
  simp only [Whole.readAt_all harg1 x0 Whole.z2, Whole.readAt_all harg6 x5 Whole.z2]
  simp only [wo_load (o := 0) harg10 xo9 0 rfl, wo_load (o := 1) harg10 xo9 1 rfl, wo_load (o := 2) harg10 xo9 2 rfl, wo_load (o := 3) harg10 xo9 3 rfl]
  exact dw_read _ _ _ _ _ _ _ _ _ _ _

set_option maxHeartbeats 4000000 in
theorem out0_B_10_eq (c : Dev nD) (i : grid0.Coords) (arg1 : Memref sig .tc .vmem S256x2048 .f32) (harg1 : arg1.IsWhole) (arg2 : Memref sig .tc .vmem S32x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S4x512x512 .bf16) (harg5 : arg5.IsWhole) (arg6 : Memref sig .tc .vmem S1x2048 .f32) (harg6 : arg6.IsWhole) (arg7 : Memref sig .tc .vmem S256x2048 .bf16) (harg7 : arg7.IsWhole) (arg8 : Memref sig .tc .vmem S256x2048 .f32) (harg8 : arg8.IsWhole) (arg9 : Memref sig .tc .vmem S256x2048 .bf16) (harg9 : arg9.IsWhole) (arg10 : Memref sig .tc .vmem S4x512x512 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S288x2048 .f32) (harg13 : arg13.IsWhole) (arg14 : Memref sig .tc .vmem S288x2048 .f32) (harg14 : arg14.IsWhole) (arg15 : Memref sig .tc .vmem S288x2048 .f32) (harg15 : arg15.IsWhole) (arg16 : Memref sig .tc .vmem S288x2048 .f32) (harg16 : arg16.IsWhole) (arg17 : Memref sig .tc .vmem S288x2048 .f32) (harg17 : arg17.IsWhole) (hc0 : ¬cond0_0 i)
    (x0 : Vec Ideal S256x2048 .f32) (x1 : Vec Ideal S32x2048 .f32) (x2 : Vec Ideal S256x2048 .f32) (x3 : Vec Ideal S1x2048 .f32) (x4 : Vec Ideal S4x512x512 .bf16) (x5 : Vec Ideal S1x2048 .f32) (x6 : Vec Ideal S256x2048 .bf16) (xo9 : Vec Ideal S4x512x512 .f32) (xo10 : Vec Ideal S1x2048 .f32) (xo11 : Vec Ideal S1x2048 .f32) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xo9 xo10 xo11 = tDs x0 x4 x6 xo10 := by
  unfold out0_B_10 kernelRun0_B
  sl_unfold_words
  dsimp only
  simp only [d_load (c := 0) harg7 x6 0 rfl, d_load (c := 512) harg7 x6 1 rfl, d_load (c := 1024) harg7 x6 2 rfl, d_load (c := 1536) harg7 x6 3 rfl]
  simp only [w_load (o := 0) harg5 x4 0 rfl, w_load (o := 1) harg5 x4 1 rfl, w_load (o := 2) harg5 x4 2 rfl, w_load (o := 3) harg5 x4 3 rfl]
  simp only [Whole.readAt_all harg1 x0 Whole.z2]
  simp only [so_load (c := 0) harg11 xo10 0 rfl, so_load (c := 512) harg11 xo10 1 rfl, so_load (c := 1024) harg11 xo10 2 rfl, so_load (c := 1536) harg11 xo10 3 rfl]
  exact ds_read _ _ _ _ _ _ _ _ _ _ _

set_option maxHeartbeats 4000000 in
theorem out0_A_9_eq (c : Dev nD) (i : grid0.Coords) (arg1 : Memref sig .tc .vmem S256x2048 .f32) (harg1 : arg1.IsWhole) (arg2 : Memref sig .tc .vmem S32x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S4x512x512 .bf16) (harg5 : arg5.IsWhole) (arg6 : Memref sig .tc .vmem S1x2048 .f32) (harg6 : arg6.IsWhole) (arg7 : Memref sig .tc .vmem S256x2048 .bf16) (harg7 : arg7.IsWhole) (arg8 : Memref sig .tc .vmem S256x2048 .f32) (harg8 : arg8.IsWhole) (arg9 : Memref sig .tc .vmem S256x2048 .bf16) (harg9 : arg9.IsWhole) (arg10 : Memref sig .tc .vmem S4x512x512 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S288x2048 .f32) (harg13 : arg13.IsWhole) (arg14 : Memref sig .tc .vmem S288x2048 .f32) (harg14 : arg14.IsWhole) (arg15 : Memref sig .tc .vmem S288x2048 .f32) (harg15 : arg15.IsWhole) (arg16 : Memref sig .tc .vmem S288x2048 .f32) (harg16 : arg16.IsWhole) (arg17 : Memref sig .tc .vmem S288x2048 .f32) (harg17 : arg17.IsWhole) (hc0 : cond0_0 i)
    (x0 : Vec Ideal S256x2048 .f32) (x1 : Vec Ideal S32x2048 .f32) (x2 : Vec Ideal S256x2048 .f32) (x3 : Vec Ideal S1x2048 .f32) (x4 : Vec Ideal S4x512x512 .bf16) (x5 : Vec Ideal S1x2048 .f32) (x6 : Vec Ideal S256x2048 .bf16) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 = tDw x0 x5 x6 (k0_pay4 (F := Ideal)) := by
  unfold out0_A_9 kernelRun0_A
  sl_unfold_words
  dsimp only
  simp only [d_load (c := 0) harg7 x6 0 rfl, d_load (c := 512) harg7 x6 1 rfl, d_load (c := 1024) harg7 x6 2 rfl, d_load (c := 1536) harg7 x6 3 rfl]
  simp only [Whole.readAt_all harg1 x0 Whole.z2, Whole.readAt_all harg6 x5 Whole.z2]
  rw [zw0, zw1, zw2, zw3]
  exact dw_read _ _ _ _ _ _ _ _ _ _ _

set_option maxHeartbeats 4000000 in
theorem out0_A_10_eq (c : Dev nD) (i : grid0.Coords) (arg1 : Memref sig .tc .vmem S256x2048 .f32) (harg1 : arg1.IsWhole) (arg2 : Memref sig .tc .vmem S32x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S4x512x512 .bf16) (harg5 : arg5.IsWhole) (arg6 : Memref sig .tc .vmem S1x2048 .f32) (harg6 : arg6.IsWhole) (arg7 : Memref sig .tc .vmem S256x2048 .bf16) (harg7 : arg7.IsWhole) (arg8 : Memref sig .tc .vmem S256x2048 .f32) (harg8 : arg8.IsWhole) (arg9 : Memref sig .tc .vmem S256x2048 .bf16) (harg9 : arg9.IsWhole) (arg10 : Memref sig .tc .vmem S4x512x512 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S288x2048 .f32) (harg13 : arg13.IsWhole) (arg14 : Memref sig .tc .vmem S288x2048 .f32) (harg14 : arg14.IsWhole) (arg15 : Memref sig .tc .vmem S288x2048 .f32) (harg15 : arg15.IsWhole) (arg16 : Memref sig .tc .vmem S288x2048 .f32) (harg16 : arg16.IsWhole) (arg17 : Memref sig .tc .vmem S288x2048 .f32) (harg17 : arg17.IsWhole) (hc0 : cond0_0 i)
    (x0 : Vec Ideal S256x2048 .f32) (x1 : Vec Ideal S32x2048 .f32) (x2 : Vec Ideal S256x2048 .f32) (x3 : Vec Ideal S1x2048 .f32) (x4 : Vec Ideal S4x512x512 .bf16) (x5 : Vec Ideal S1x2048 .f32) (x6 : Vec Ideal S256x2048 .bf16) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 = tDs x0 x4 x6 (k0_pay5 (F := Ideal)) := by
  unfold out0_A_10 kernelRun0_A
  sl_unfold_words
  dsimp only
  simp only [d_load (c := 0) harg7 x6 0 rfl, d_load (c := 512) harg7 x6 1 rfl, d_load (c := 1024) harg7 x6 2 rfl, d_load (c := 1536) harg7 x6 3 rfl]
  simp only [w_load (o := 0) harg5 x4 0 rfl, w_load (o := 1) harg5 x4 1 rfl, w_load (o := 2) harg5 x4 2 rfl, w_load (o := 3) harg5 x4 3 rfl]
  simp only [Whole.readAt_all harg1 x0 Whole.z2]
  rw [zs0, zs1, zs2, zs3]
  exact ds_read _ _ _ _ _ _ _ _ _ _ _

end Cert.Kernel14Ideal.Pool

end
-- ==== Proof.PoolWhole.lean ====
module

public import proofs.«01_k».proof.Defs
public import proofs.«01_k».proof.Proof.PoolPoint
public import proofs.«01_k».proof.Proof.PoolAcc
public import proofs.«01_k».proof.Proof.Gen.Kernel14Ideal.Value

@[expose] public section

set_option maxRecDepth 16384

noncomputable section

namespace Cert.Kernel14Ideal.Pool

open Idealize.ShloMosaic Idealize.ShloMosaic.TcCoe
open Cert.Kernel14Ideal.Gen Cert.Kernel14Ideal.Value
open Cert.Kernel13Ideal.Norm (rt dxr)

/-! ## The results over whole arrays -/

section
variable (D : Vec Ideal S8192x2048 .f32) (X : Vec Ideal S8192x2048 .f32) (G : Vec Ideal S1x2048 .f32) (M : Vec Ideal S4x512x512 .bf16)
  (S : Vec Ideal S1x2048 .f32) (A : Vec Ideal S8192x2048 .bf16)

/-- The gradient at the differences of averages and rows. -/
def hD (R : Fin 8192) (C : Fin 2048) : EReal :=
  ∑ k : Fin 512, (D (ix2 R (col (grp C) k)) * S (ix2 0 (col (grp C) k))) * M (ix3 (grp C) (loc C) k)

/-- The same divided by the length of the row's window, zero past the last row. -/
def hE : Buf := fun R C => if h : R < 8192 then Ideal.div (hD D M S ⟨R, h⟩ C) (cnt (BitVec.ofNat 32 R) (wd (grp C))) else 0

/-- One more level of window sums: two rows `k` apart, added up. -/
def dlev (P : Buf) (k : ℕ) : Buf := fun R C => P R C + P (R + k) C

/-- The sums over each group's windows of two, four, eight and sixteen rows. -/
def hS (P : Buf) (g : Fin 4) : Buf :=
  (![dlev P 1, dlev (dlev P 1) 2, dlev (dlev (dlev P 1) 2) 4, dlev (dlev (dlev (dlev P 1) 2) 4) 8] : Fin 4 → Buf) g

/-- The gradient at the norm's result. -/
def hH (R : Fin 8192) (C : Fin 2048) : EReal := hS (hE D M S) (grp C) R.val C - hD D M S R C

/-- The gradient of the rows, on top of the gradient that came past the mixer. -/
def wX : Vec Ideal S8192x2048 .f32 := fun i =>
  D (ix2 (i 0) (i 1)) + dxr (fun k => X (ix2 (i 0) k)) (fun k => hH D M S (i 0) k) (fun k => G (ix2 0 k)) (i 1)

/-- What row `R` adds to the gradient of the matrices. -/
def gW (a : Fin 4) (p q : Fin 512) (R : Fin 8192) : EReal := A (ix2 R (col a p)) * (D (ix2 R (col a q)) * S (ix2 0 (col a q)))

/-- What row `R` adds to the gradient of the scale. -/
def gS (C : Fin 2048) (R : Fin 8192) : EReal := D (ix2 R C) * ∑ k : Fin 512, A (ix2 R (col (grp C) k)) * M (ix3 (grp C) k (loc C))

/-- What row `R` adds to the gradient of the gain. -/
def gG (C : Fin 2048) (R : Fin 8192) : EReal := hH D M S R C * (X (ix2 R C) * rt fun k => X (ix2 R k))

def wW : Vec Ideal S4x512x512 .f32 := fun i => ∑ R : Fin 8192, gW D S A (i 0) (i 1) (i 2) R
def wS : Vec Ideal S1x2048 .f32 := fun i => ∑ R : Fin 8192, gS D M A (i 1) R
def wG : Vec Ideal S1x2048 .f32 := fun i => ∑ R : Fin 8192, gG D X M S (i 1) R

end

/-! ## The blocks a point reads -/

variable (m : (ℓ : Loc nD τ sig) → Idealize.ShloMosaic.Buf (Elt Ideal) ℓ) (ρ : Dev nD → PrngReg)

/-- The gradient, the rows, the gain, the matrices, the scale and the saved differences, as the kernel finds them. -/
def vD (c : Dev nD) : Vec Ideal S8192x2048 .f32 := V m c main_arg0
def vX (c : Dev nD) : Vec Ideal S8192x2048 .f32 := V m c main_arg1
def vG (c : Dev nD) : Vec Ideal S1x2048 .f32 := V m c main_arg2
def vM (c : Dev nD) : Vec Ideal S4x512x512 .bf16 := V m c main_v126
def vS (c : Dev nD) : Vec Ideal S1x2048 .f32 := V m c main_arg4
def vA (c : Dev nD) : Vec Ideal S8192x2048 .bf16 := V m c main_v127

theorem t_lt (t : Fin cfg0.N) : t.val < 32 := lt_of_lt_of_eq t.isLt (show cfg0.N = 32 from N_0)

theorem point : ∀ t : Fin cfg0.N, (grid0.coords t 0).val = t.val := (by decide +kernel : ∀ t : Fin grid0.N, _)

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = min ((t.val + 1) * 8) 255 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 3) = 0 ∧ win0_4.index t (1 : Fin 3) = 0 ∧ win0_4.index t (2 : Fin 3) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = t.val ∧ win0_6.index t (1 : Fin 2) = 0 :=
  (by decide +kernel : ∀ t : Fin grid0.N, _)
theorem index7 : ∀ t : Fin cfg0.N, win0_7.index t (0 : Fin 2) = t.val ∧ win0_7.index t (1 : Fin 2) = 0 :=
  (by decide +kernel : ∀ t : Fin grid0.N, _)
theorem index8 : ∀ t : Fin cfg0.N, win0_8.index t (0 : Fin 2) = t.val ∧ win0_8.index t (1 : Fin 2) = 0 :=
  (by decide +kernel : ∀ t : Fin grid0.N, _)
theorem index9 : ∀ t : Fin cfg0.N, win0_9.index t (0 : Fin 3) = 0 ∧ win0_9.index t (1 : Fin 3) = 0 ∧ win0_9.index t (2 : Fin 3) = 0 :=
  (by decide +kernel : ∀ t : Fin grid0.N, _)
theorem index10 : ∀ t : Fin cfg0.N, win0_10.index t (0 : Fin 2) = 0 ∧ win0_10.index t (1 : Fin 2) = 0 :=
  (by decide +kernel : ∀ t : Fin grid0.N, _)
theorem index11 : ∀ t : Fin cfg0.N, win0_11.index t (0 : Fin 2) = 0 ∧ win0_11.index t (1 : Fin 2) = 0 :=
  (by decide +kernel : ∀ t : Fin grid0.N, _)

/-- The rows of a point's tile. -/
def row (t : Fin cfg0.N) (r : Fin 256) : Fin 8192 := ⟨t.val * 256 + r.val, by have := r.isLt; have := t_lt t; omega⟩

theorem block0 (c : Dev nD) (t : Fin cfg0.N) (r : Fin 256) (k : Fin 2048) : iblk m c 0 t (ix2 r k) = vD m c (ix2 (row t r) k) := by
  obtain ⟨e0, e1⟩ := index0 t
  show vD m c (((cfg0.win 0).blk t).view.emb (ix2 r k)) = _
  congr 1; funext a; apply Fin.ext
  match a with
  | ⟨0, _⟩ => show win0_0.index t (0 : Fin 2) * 256 + 1 * r.val = t.val * 256 + r.val; rw [e0]; omega
  | ⟨1, _⟩ => show win0_0.index t (1 : Fin 2) * 2048 + 1 * k.val = k.val; rw [e1]; omega

theorem block2 (c : Dev nD) (t : Fin cfg0.N) (r : Fin 256) (k : Fin 2048) : iblk m c 2 t (ix2 r k) = vX m c (ix2 (row t r) k) := by
  obtain ⟨e0, e1⟩ := index2 t
  show vX m c (((cfg0.win 2).blk t).view.emb (ix2 r k)) = _
  congr 1; funext a; apply Fin.ext
  match a with
  | ⟨0, _⟩ => show win0_2.index t (0 : Fin 2) * 256 + 1 * r.val = t.val * 256 + r.val; rw [e0]; omega
  | ⟨1, _⟩ => show win0_2.index t (1 : Fin 2) * 2048 + 1 * k.val = k.val; rw [e1]; omega

theorem block6 (c : Dev nD) (t : Fin cfg0.N) (r : Fin 256) (k : Fin 2048) : iblk m c 6 t (ix2 r k) = vA m c (ix2 (row t r) k) := by
  obtain ⟨e0, e1⟩ := index6 t
  show vA m c (((cfg0.win 6).blk t).view.emb (ix2 r k)) = _
  congr 1; funext a; apply Fin.ext
  match a with
  | ⟨0, _⟩ => show win0_6.index t (0 : Fin 2) * 256 + 1 * r.val = t.val * 256 + r.val; rw [e0]; omega
  | ⟨1, _⟩ => show win0_6.index t (1 : Fin 2) * 2048 + 1 * k.val = k.val; rw [e1]; omega

theorem block1 (c : Dev nD) (t : Fin cfg0.N) (h : t.val < 31) (r : Fin 32) (k : Fin 2048) :
    iblk m c 1 t (ix2 r k) = vD m c (ix2 ⟨t.val * 256 + 256 + r.val, by have := r.isLt; omega⟩ k) := by
  obtain ⟨e0, e1⟩ := index1 t
  show vD m c (((cfg0.win 1).blk t).view.emb (ix2 r k)) = _
  congr 1; funext a; apply Fin.ext
  match a with
  | ⟨0, _⟩ => show win0_1.index t (0 : Fin 2) * 32 + 1 * r.val = t.val * 256 + 256 + r.val; rw [e0]; omega
  | ⟨1, _⟩ => show win0_1.index t (1 : Fin 2) * 2048 + 1 * k.val = k.val; rw [e1]; omega

theorem block4 (c : Dev nD) (t : Fin cfg0.N) (a : Fin 4) (p q : Fin 512) : iblk m c 4 t (ix3 a p q) = vM m c (ix3 a p q) := by
  obtain ⟨e0, e1, e2⟩ := index4 t
  show vM m c (((cfg0.win 4).blk t).view.emb (ix3 a p q)) = _
  congr 1; funext x; apply Fin.ext
  match x with
  | ⟨0, _⟩ => show win0_4.index t (0 : Fin 3) * 4 + 1 * a.val = a.val; rw [e0]; omega
  | ⟨1, _⟩ => show win0_4.index t (1 : Fin 3) * 512 + 1 * p.val = p.val; rw [e1]; omega
  | ⟨2, _⟩ => show win0_4.index t (2 : Fin 3) * 512 + 1 * q.val = q.val; rw [e2]; omega

theorem block3 (c : Dev nD) (t : Fin cfg0.N) (z : Fin 1) (k : Fin 2048) : iblk m c 3 t (ix2 z k) = vG m c (ix2 z k) := by
  obtain ⟨e0, e1⟩ := index3 t
  show vG m c (((cfg0.win 3).blk t).view.emb (ix2 z k)) = _
  congr 1; funext a; apply Fin.ext
  match a with
  | ⟨0, _⟩ => show win0_3.index t (0 : Fin 2) * 1 + 1 * z.val = z.val; rw [e0]; omega
  | ⟨1, _⟩ => show win0_3.index t (1 : Fin 2) * 2048 + 1 * k.val = k.val; rw [e1]; omega

theorem block5 (c : Dev nD) (t : Fin cfg0.N) (z : Fin 1) (k : Fin 2048) : iblk m c 5 t (ix2 z k) = vS m c (ix2 z k) := by
  obtain ⟨e0, e1⟩ := index5 t
  show vS m c (((cfg0.win 5).blk t).view.emb (ix2 z k)) = _
  congr 1; funext a; apply Fin.ext
  match a with
  | ⟨0, _⟩ => show win0_5.index t (0 : Fin 2) * 1 + 1 * z.val = z.val; rw [e0]; omega
  | ⟨1, _⟩ => show win0_5.index t (1 : Fin 2) * 2048 + 1 * k.val = k.val; rw [e1]; omega

/-! ## A tile's buffer, and the window sums over it -/

theorem words {a b n : ℕ} (h : a * 256 + b = n) : BitVec.ofNat 32 a * 256#32 + BitVec.ofNat 32 b = BitVec.ofNat 32 n := by
  subst h
  rw [BitVec.ofNat_add, BitVec.ofNat_mul]

theorem words' {a b n : ℕ} (h : (a + 1) * 256 + b = n) : (BitVec.ofNat 32 a + 1#32) * 256#32 + BitVec.ofNat 32 b = BitVec.ofNat 32 n := by
  subst h
  rw [BitVec.ofNat_add, BitVec.ofNat_mul, BitVec.ofNat_add]

theorem before_last : ∀ t : Fin 32, (Scalar.cmpi .slt (BitVec.ofNat 32 t.val) 31#32 = 1#1) ↔ t.val < 31 := by decide +kernel

/-- The four matrices, picked by the group. -/
theorem pick (x4 : Vec Ideal S4x512x512 .bf16) (g : Fin 4) (p q : Fin 512) :
    (![W x4 0, W x4 1, W x4 2, W x4 3] : Fin 4 → Vec Ideal S1x512x512 .bf16) g (ix3 0 p q) = x4 (ix3 g p q) := by
  match g with
  | ⟨0, _⟩ => rfl
  | ⟨1, _⟩ => rfl
  | ⟨2, _⟩ => rfl
  | ⟨3, _⟩ => rfl

/-- The buffer of a point. -/
def pE (c : Dev nD) (t : Fin cfg0.N) : Buf := tE (grid0.coords t) (iblk m c 0 t) (iblk m c 1 t) (iblk m c 4 t) (iblk m c 5 t)

theorem pE_eq (c : Dev nD) (t : Fin cfg0.N) (r : ℕ) (hr : r < 288) (C : Fin 2048) :
    pE m c t r C = hE (vD m c) (vM m c) (vS m c) (t.val * 256 + r) C := by
  have ht := t_lt t
  have hp := point t
  unfold pE tE ext hE
  rw [hp]
  by_cases h : r < 256
  · rw [dif_pos h, dif_pos (show t.val * 256 + r < 8192 by omega)]
    refine congrArg₂ Ideal.div (Finset.sum_congr rfl fun k _ => ?_) ?_
    · rw [pick, block4, pay7_eq]
      exact congrArg₂ (· * ·) (congrArg₂ (· * ·) (block0 m c t ⟨r, h⟩ _) (block5 m c t 0 _)) rfl
    · refine congrArg (fun z => cnt z _) ?_
      refine (pay9_eq (grid0.coords t) ⟨r, h⟩).trans ?_
      rw [hp]
      exact words rfl
  · rw [dif_neg h, dif_pos (show r - 256 < 32 by omega)]
    by_cases hl : t.val < 31
    · rw [if_pos ((before_last ⟨t.val, ht⟩).mpr hl), dif_pos (show t.val * 256 + r < 8192 by omega)]
      have hR : (⟨t.val * 256 + 256 + (r - 256), by omega⟩ : Fin 8192) = ⟨t.val * 256 + r, by omega⟩ :=
        Fin.ext (show t.val * 256 + 256 + (r - 256) = t.val * 256 + r by omega)
      refine congrArg₂ Ideal.div (Finset.sum_congr rfl fun k _ => ?_) ?_
      · rw [pick, block4, pay8_eq]
        refine congrArg₂ (· * ·) (congrArg₂ (· * ·) ((block1 m c t hl ⟨r - 256, by omega⟩ _).trans ?_) (block5 m c t 0 _)) rfl
        exact congrArg (fun R => vD m c (ix2 R _)) hR
      · refine congrArg (fun z => cnt z _) ?_
        refine (pay10_eq (grid0.coords t) ⟨r - 256, by omega⟩).trans ?_
        rw [hp]
        exact words' (by show (t.val + 1) * 256 + (r - 256) = _; omega)
    · rw [if_neg (fun hc => hl ((before_last ⟨t.val, ht⟩).mp hc)), dif_neg (show ¬ t.val * 256 + r < 8192 by omega)]

/-- A level over a tile is the level over the rows. -/
theorem lev_dlev {P Q : Buf} {T : ℕ} (b k : ℕ) (hb : b ≤ 280) (h : ∀ r, r < b + k → ∀ C, P r C = Q (T + r) C) :
    ∀ r, r < b → ∀ C, lev P k r C = dlev Q k (T + r) C := by
  intro r hr C
  unfold lev dlev
  rw [if_pos (by omega), h r (by omega) C, h (k + r) (by omega) C, show T + (k + r) = T + r + k by omega]

theorem lev1 (c : Dev nD) (t : Fin cfg0.N) : ∀ r, r < 280 → ∀ C, lev (pE m c t) 1 r C = dlev (hE (vD m c) (vM m c) (vS m c)) 1 (t.val * 256 + r) C :=
  lev_dlev 280 1 (by omega) fun r hr C => pE_eq m c t r (by omega) C
theorem lev2 (c : Dev nD) (t : Fin cfg0.N) : ∀ r, r < 278 → ∀ C, lev (lev (pE m c t) 1) 2 r C = dlev (dlev (hE (vD m c) (vM m c) (vS m c)) 1) 2 (t.val * 256 + r) C :=
  lev_dlev 278 2 (by omega) fun r hr C => lev1 m c t r (by omega) C
theorem lev3 (c : Dev nD) (t : Fin cfg0.N) : ∀ r, r < 274 → ∀ C, lev (lev (lev (pE m c t) 1) 2) 4 r C = dlev (dlev (dlev (hE (vD m c) (vM m c) (vS m c)) 1) 2) 4 (t.val * 256 + r) C :=
  lev_dlev 274 4 (by omega) fun r hr C => lev2 m c t r (by omega) C
theorem lev4 (c : Dev nD) (t : Fin cfg0.N) : ∀ r, r < 266 → ∀ C, lev (lev (lev (lev (pE m c t) 1) 2) 4) 8 r C = dlev (dlev (dlev (dlev (hE (vD m c) (vM m c) (vS m c)) 1) 2) 4) 8 (t.val * 256 + r) C :=
  lev_dlev 266 8 (by omega) fun r hr C => lev3 m c t r (by omega) C

/-! ## What a point leaves -/

/-- The gradient at the norm's result, over a point's tile. -/
def pH (c : Dev nD) (t : Fin cfg0.N) : Vec Ideal S256x2048 .f32 := tH (grid0.coords t) (iblk m c 0 t) (iblk m c 1 t) (iblk m c 4 t) (iblk m c 5 t)

theorem sum_hD (c : Dev nD) (t : Fin cfg0.N) (r : Fin 256) (g : Fin 4) (j : Fin 512) :
    ∑ k : Fin 512, k0_pay7 (iblk m c 0 t) (iblk m c 5 t) (ix2 r (col g k)) * W (iblk m c 4 t) g (ix3 0 j k) = hD (vD m c) (vM m c) (vS m c) (row t r) (col g j) := by
  unfold hD
  rw [grp_col, loc_col]
  refine Finset.sum_congr rfl fun k _ => ?_
  rw [pay7_eq]
  exact congrArg₂ (· * ·) (congrArg₂ (· * ·) (block0 m c t r _) (block5 m c t 0 _)) (block4 m c t g j k)

theorem pH_col (c : Dev nD) (t : Fin cfg0.N) (r : Fin 256) (g : Fin 4) (j : Fin 512) :
    pH m c t (ix2 r (col g j)) = hH (vD m c) (vM m c) (vS m c) (row t r) (col g j) := by
  have hr := r.isLt
  obtain ⟨e0, e1, e2, e3⟩ := pay55_eq (k0_pay14 (k0_pay7 (iblk m c 0 t) (iblk m c 5 t)) (W (iblk m c 4 t) 0)) (k0_pay21 (k0_pay7 (iblk m c 0 t) (iblk m c 5 t)) (W (iblk m c 4 t) 1))
    (k0_pay28 (k0_pay7 (iblk m c 0 t) (iblk m c 5 t)) (W (iblk m c 4 t) 2)) (k0_pay35 (k0_pay7 (iblk m c 0 t) (iblk m c 5 t)) (W (iblk m c 4 t) 3))
    (Rd (lev (pE m c t) 1) 0 0 256) (Rd (lev (lev (pE m c t) 1) 2) 0 1 256) (Rd (lev (lev (lev (pE m c t) 1) 2) 4) 0 2 256)
    (Rd (lev (lev (lev (lev (pE m c t) 1) 2) 4) 8) 0 3 256) r j
  unfold hH
  rw [grp_col]
  match g with
  | ⟨0, _⟩ =>
    refine e0.trans (congrArg₂ (· - ·) ?_ ((dd0_eq _ _ r j).trans (sum_hD m c t r 0 j)))
    rw [Rd_apply, Nat.zero_add, lev1 m c t _ (by omega)]
    rfl
  | ⟨1, _⟩ =>
    refine e1.trans (congrArg₂ (· - ·) ?_ ((dd1_eq _ _ r j).trans (sum_hD m c t r 1 j)))
    rw [Rd_apply, Nat.zero_add, lev2 m c t _ (by omega)]
    rfl
  | ⟨2, _⟩ =>
    refine e2.trans (congrArg₂ (· - ·) ?_ ((dd2_eq _ _ r j).trans (sum_hD m c t r 2 j)))
    rw [Rd_apply, Nat.zero_add, lev3 m c t _ (by omega)]
    rfl
  | ⟨3, _⟩ =>
    refine e3.trans (congrArg₂ (· - ·) ?_ ((dd3_eq _ _ r j).trans (sum_hD m c t r 3 j)))
    rw [Rd_apply, Nat.zero_add, lev4 m c t _ (by omega)]
    rfl

theorem pH_eq (c : Dev nD) (t : Fin cfg0.N) (r : Fin 256) (C : Fin 2048) :
    pH m c t (ix2 r C) = hH (vD m c) (vM m c) (vS m c) (row t r) C := by
  have := pH_col m c t r (grp C) (loc C)
  rwa [col_grp] at this

/-- The gradient of the rows over a tile. -/
theorem tile7 (c : Dev nD) (t : Fin cfg0.N) (r : Fin 256) (q : Fin 2048) :
    k0_pay1 (iblk m c 0 t) (pH m c t) (iblk m c 3 t) (k0_pay56 (iblk m c 2 t)) (k0_pay57 (iblk m c 2 t)) (ix2 r q)
      = wX (vD m c) (vX m c) (vG m c) (vM m c) (vS m c) (ix2 (row t r) q) := by
  rw [pay1_eq]
  refine congrArg₂ (· + ·) (block0 m c t r q) ?_
  rw [show (fun k => iblk m c 2 t (ix2 r k)) = fun k => vX m c (ix2 (row t r) k) from funext fun k => block2 m c t r k,
    show (fun k => pH m c t (ix2 r k)) = fun k => hH (vD m c) (vM m c) (vS m c) (row t r) k from funext fun k => pH_eq m c t r k,
    show (fun k => iblk m c 3 t (ix2 0 k)) = fun k => vG m c (ix2 0 k) from funext fun k => block3 m c t 0 k]
  rfl

/-- The sum of a term per row over tile `n`. -/
def part (f : Fin 8192 → EReal) (n : ℕ) : EReal := ∑ r : Fin 256, f ⟨(n * 256 + r.val) % 8192, Nat.mod_lt _ (by decide)⟩

theorem part_eq (f : Fin 8192 → EReal) (t : Fin cfg0.N) : ∑ r : Fin 256, f (row t r) = part f t.val :=
  Finset.sum_congr rfl fun r _ => congrArg f (Fin.ext (by have := r.isLt; have := t_lt t; show t.val * 256 + r.val = (t.val * 256 + r.val) % 8192; omega))

/-- The tiles make up the rows. -/
theorem sum_parts (f : Fin 8192 → EReal) : ∑ i ∈ Finset.range 32, part f i = ∑ R : Fin 8192, f R := by
  rw [Fin.sum_univ_tiles 32 256 rfl, Finset.sum_range]
  refine Finset.sum_congr rfl fun i _ => Finset.sum_congr rfl fun r _ => congrArg _ (Fin.ext ?_)
  have := i.isLt
  have := r.isLt
  show (i.val * 256 + r.val) % 8192 = i.val * 256 + r.val
  omega

theorem tile9 (c : Dev nD) (t : Fin cfg0.N) (o : Vec Ideal S4x512x512 .f32) (a : Fin 4) (p q : Fin 512) :
    tDw (iblk m c 0 t) (iblk m c 5 t) (iblk m c 6 t) o (ix3 a p q) = o (ix3 a p q) + part (gW (vD m c) (vS m c) (vA m c) a p q) t.val := by
  rw [← part_eq]
  refine congrArg₂ (· + ·) rfl (Finset.sum_congr rfl fun r _ => ?_)
  exact congrArg₂ (· * ·) (block6 m c t r _) (congrArg₂ (· * ·) (block0 m c t r _) (block5 m c t 0 _))

theorem tile10 (c : Dev nD) (t : Fin cfg0.N) (o : Vec Ideal S1x2048 .f32) (q : Fin 2048) :
    tDs (iblk m c 0 t) (iblk m c 4 t) (iblk m c 6 t) o (ix2 0 q) = o (ix2 0 q) + part (gS (vD m c) (vM m c) (vA m c) q) t.val := by
  rw [← part_eq]
  refine congrArg₂ (· + ·) rfl (Finset.sum_congr rfl fun r _ => ?_)
  refine congrArg₂ (· * ·) (block0 m c t r _) (Finset.sum_congr rfl fun k _ => ?_)
  exact congrArg₂ (· * ·) (block6 m c t r _) (block4 m c t _ k _)

theorem tile11 (c : Dev nD) (t : Fin cfg0.N) (o : Vec Ideal S1x2048 .f32) (q : Fin 2048) :
    k0_pay3 (pH m c t) (k0_pay57 (iblk m c 2 t)) o (ix2 0 q) = o (ix2 0 q) + part (gG (vD m c) (vX m c) (vM m c) (vS m c) q) t.val := by
  rw [← part_eq, pay3_eq]
  refine congrArg₂ (· + ·) rfl (Finset.sum_congr rfl fun r _ => ?_)
  rw [pay57_eq]
  exact congrArg₂ (· * ·) (pH_eq m c t r q) (congrArg₂ (· * ·) (block2 m c t r q) (congrArg rt (funext fun k => block2 m c t r k)))

theorem outs7 (c : Dev nD) (t : Fin cfg0.N) :
    (outsAt0 m c t.val t.isLt).1 = k0_pay1 (iblk m c 0 t) (pH m c t) (iblk m c 3 t) (k0_pay56 (iblk m c 2 t)) (k0_pay57 (iblk m c 2 t)) := by
  by_cases h0 : t.val % 32 = 0
  · rw [outsAt0_A m c t h0]
    dsimp only
    rw [out0_A_7_eq]
    rfl
  · rw [outsAt0_B m c t h0]
    dsimp only
    rw [out0_B_7_eq]
    rfl

theorem outs8 (c : Dev nD) (t : Fin cfg0.N) :
    (outsAt0 m c t.val t.isLt).2.1 = k0_pay2 (iblk m c 0 t) (pH m c t) (iblk m c 3 t) (k0_pay56 (iblk m c 2 t)) (k0_pay57 (iblk m c 2 t)) := by
  by_cases h0 : t.val % 32 = 0
  · rw [outsAt0_A m c t h0]
    dsimp only
    rw [out0_A_8_eq]
    rfl
  · rw [outsAt0_B m c t h0]
    dsimp only
    rw [out0_B_8_eq]
    rfl

/-- After a point the sums are those over the tiles so far. -/
theorem outs9 (c : Dev nD) (a : Fin 4) (p q : Fin 512) : ∀ (n : ℕ) (h : n < cfg0.N),
    (outsAt0 m c n h).2.2.1 (ix3 a p q) = ∑ i ∈ Finset.range (n + 1), part (gW (vD m c) (vS m c) (vA m c) a p q) i := by
  intro n
  induction n with
  | zero =>
    intro h
    rw [outsAt0_A m c ⟨0, h⟩ rfl]
    dsimp only
    rw [out0_A_9_eq, Finset.sum_range_one]
    refine (tile9 m c ⟨0, h⟩ _ a p q).trans ?_
    rw [pay4_eq, zero_add]
  | succ n ih =>
    intro h
    have ht : n + 1 < 32 := t_lt ⟨n + 1, h⟩
    rw [outsAt0_B m c ⟨n + 1, h⟩ (by show ¬(n + 1) % 32 = 0; omega)]
    dsimp only
    rw [out0_B_9_eq, Finset.sum_range_succ]
    exact (tile9 m c ⟨n + 1, h⟩ _ a p q).trans (congrArg₂ (· + ·) (ih _) rfl)

/-- After a point the sums are those over the tiles so far. -/
theorem outs10 (c : Dev nD) (q : Fin 2048) : ∀ (n : ℕ) (h : n < cfg0.N),
    (outsAt0 m c n h).2.2.2.1 (ix2 0 q) = ∑ i ∈ Finset.range (n + 1), part (gS (vD m c) (vM m c) (vA m c) q) i := by
  intro n
  induction n with
  | zero =>
    intro h
    rw [outsAt0_A m c ⟨0, h⟩ rfl]
    dsimp only
    rw [out0_A_10_eq, Finset.sum_range_one]
    refine (tile10 m c ⟨0, h⟩ _ q).trans ?_
    rw [pay5_eq, zero_add]
  | succ n ih =>
    intro h
    have ht : n + 1 < 32 := t_lt ⟨n + 1, h⟩
    rw [outsAt0_B m c ⟨n + 1, h⟩ (by show ¬(n + 1) % 32 = 0; omega)]
    dsimp only
    rw [out0_B_10_eq, Finset.sum_range_succ]
    exact (tile10 m c ⟨n + 1, h⟩ _ q).trans (congrArg₂ (· + ·) (ih _) rfl)

/-- After a point the sums are those over the tiles so far. -/
theorem outs11 (c : Dev nD) (q : Fin 2048) : ∀ (n : ℕ) (h : n < cfg0.N),
    (outsAt0 m c n h).2.2.2.2 (ix2 0 q) = ∑ i ∈ Finset.range (n + 1), part (gG (vD m c) (vX m c) (vM m c) (vS m c) q) i := by
  intro n
  induction n with
  | zero =>
    intro h
    rw [outsAt0_A m c ⟨0, h⟩ rfl]
    dsimp only
    rw [out0_A_11_eq, Finset.sum_range_one]
    refine (tile11 m c ⟨0, h⟩ _ q).trans ?_
    rw [pay6_eq, zero_add]
  | succ n ih =>
    intro h
    have ht : n + 1 < 32 := t_lt ⟨n + 1, h⟩
    rw [outsAt0_B m c ⟨n + 1, h⟩ (by show ¬(n + 1) % 32 = 0; omega)]
    dsimp only
    rw [out0_B_11_eq, Finset.sum_range_succ]
    exact (tile11 m c ⟨n + 1, h⟩ _ q).trans (congrArg₂ (· + ·) (ih _) rfl)

/-! ## The arrays after the run -/

theorem result7 (c : Dev nD) (i : S8192x2048.Idx) : (dats m 0 c).arrAt 7 cfg0.N i = wX (vD m c) (vX m c) (vG m c) (vM m c) (vS m c) i := by
  have h0 : (i 0).val < 8192 := (i 0).isLt
  have hN : cfg0.N = 32 := N_0
  obtain ⟨t, ht⟩ : ∃ t : Fin cfg0.N, t.val = (i 0).val / 256 := ⟨⟨(i 0).val / 256, by rw [hN]; omega⟩, rfl⟩
  obtain ⟨r, hr⟩ : ∃ r : Fin 256, r.val = (i 0).val % 256 := ⟨⟨(i 0).val % 256, Nat.mod_lt _ (by decide)⟩, rfl⟩
  have hR : row t r = i 0 := Fin.ext (by show t.val * 256 + r.val = (i 0).val; omega)
  have hb := congrFun ((blocks7 m c t (flush0_7 t)).trans (flushed7 m c t)) (ix2 r (i 1))
  have he : ((cfg0.win 7).blk t).view.emb (ix2 r (i 1)) = i := by
    obtain ⟨e0, e1⟩ := index7 t
    funext a
    apply Fin.ext
    match a with
    | ⟨0, _⟩ => show win0_7.index t (0 : Fin 2) * 256 + 1 * r.val = (i 0).val; rw [e0]; omega
    | ⟨1, _⟩ => show win0_7.index t (1 : Fin 2) * 2048 + 1 * (i 1).val = (i 1).val; rw [e1]; omega
  refine (congrArg ((dats m 0 c).arrAt 7 cfg0.N) he.symm).trans (hb.trans ?_)
  rw [outs7 m c t]
  refine (tile7 m c t r (i 1)).trans ?_
  rw [hR]
  rfl

theorem result8 (c : Dev nD) (i : S8192x2048.Idx) : (dats m 0 c).arrAt 8 cfg0.N i = wX (vD m c) (vX m c) (vG m c) (vM m c) (vS m c) i := by
  have h0 : (i 0).val < 8192 := (i 0).isLt
  have hN : cfg0.N = 32 := N_0
  obtain ⟨t, ht⟩ : ∃ t : Fin cfg0.N, t.val = (i 0).val / 256 := ⟨⟨(i 0).val / 256, by rw [hN]; omega⟩, rfl⟩
  obtain ⟨r, hr⟩ : ∃ r : Fin 256, r.val = (i 0).val % 256 := ⟨⟨(i 0).val % 256, Nat.mod_lt _ (by decide)⟩, rfl⟩
  have hR : row t r = i 0 := Fin.ext (by show t.val * 256 + r.val = (i 0).val; omega)
  have hb := congrFun ((blocks8 m c t (flush0_8 t)).trans (flushed8 m c t)) (ix2 r (i 1))
  have he : ((cfg0.win 8).blk t).view.emb (ix2 r (i 1)) = i := by
    obtain ⟨e0, e1⟩ := index8 t
    funext a
    apply Fin.ext
    match a with
    | ⟨0, _⟩ => show win0_8.index t (0 : Fin 2) * 256 + 1 * r.val = (i 0).val; rw [e0]; omega
    | ⟨1, _⟩ => show win0_8.index t (1 : Fin 2) * 2048 + 1 * (i 1).val = (i 1).val; rw [e1]; omega
  refine (congrArg ((dats m 0 c).arrAt 8 cfg0.N) he.symm).trans (hb.trans ?_)
  rw [outs8 m c t]
  refine (tile7 m c t r (i 1)).trans ?_
  rw [hR]
  rfl

theorem flushed9_eq (c : Dev nD) (t : Fin cfg0.N) (hf : (cfg0.win 9).flush t = true) :
    (dats m 0 c).flushed 9 t = ((cfg0.win 9).blk t).view.read (Elt Ideal) (wW (vD m c) (vS m c) (vA m c)) := by
  rw [flushed9 m c t]
  have ht : t.val % 32 = 31 := (flush0_9 t).mp hf
  have ht' := t_lt t
  obtain ⟨e0, e1, e2⟩ := index9 t
  funext y
  have hl : (cfg0.win 9).xinj (grid0.coords t) y = (ix3 (y 0) (y 1) (y 2) : S4x512x512.Idx) := by
    funext a
    match a with
    | ⟨0, _⟩ => rfl
    | ⟨1, _⟩ => rfl
    | ⟨2, _⟩ => rfl
  show (outsAt0 m c t.val t.isLt).2.2.1 ((cfg0.win 9).xinj (grid0.coords t) y) = wW (vD m c) (vS m c) (vA m c) (((cfg0.win 9).blk t).view.emb y)
  refine (congrArg (outsAt0 m c t.val t.isLt).2.2.1 hl).trans ((outs9 m c (y 0) (y 1) (y 2) t.val t.isLt).trans ?_)
  refine (congrArg (fun n => ∑ i ∈ Finset.range n, part (gW (vD m c) (vS m c) (vA m c) (y 0) (y 1) (y 2)) i) (show t.val + 1 = 32 by omega)).trans ((sum_parts _).trans ?_)
  have hc0 : (y 0 : Fin 4) = (((cfg0.win 9).blk t).view.emb y) 0 := Fin.ext (by
    show (y 0).val = win0_9.index t (0 : Fin 3) * 4 + 1 * (y 0).val; rw [e0]; omega)
  have hc1 : (y 1 : Fin 512) = (((cfg0.win 9).blk t).view.emb y) 1 := Fin.ext (by
    show (y 1).val = win0_9.index t (1 : Fin 3) * 512 + 1 * (y 1).val; rw [e1]; omega)
  have hc2 : (y 2 : Fin 512) = (((cfg0.win 9).blk t).view.emb y) 2 := Fin.ext (by
    show (y 2).val = win0_9.index t (2 : Fin 3) * 512 + 1 * (y 2).val; rw [e2]; omega)
  refine Finset.sum_congr rfl fun R _ => ?_
  exact (congrArg (fun a => gW (vD m c) (vS m c) (vA m c) a (y 1) (y 2) R) hc0).trans ((congrArg (fun p => gW (vD m c) (vS m c) (vA m c) _ p (y 2) R) hc1).trans (congrArg (fun q => gW (vD m c) (vS m c) (vA m c) _ _ q R) hc2))

theorem mem_blk9 (t : Fin cfg0.N) (i : S4x512x512.Idx) :
    i ∈ ((cfg0.win 9).blk t).view.set ↔ ∀ a : Fin 3, win0_9.index t a * S4x512x512.size a ≤ (i a).val ∧ (i a).val < win0_9.index t a * S4x512x512.size a + S4x512x512.size a := by
  show i ∈ ((View.whole main_v128_2).slice (win0_9.rect t)).set ↔ _
  rw [View.set_slice_whole, Rect.mem_set_unit]
  exact Iff.rfl

theorem result9 (c : Dev nD) : (dats m 0 c).arrAt 9 cfg0.N = wW (vD m c) (vS m c) (vA m c) :=
  (dats m 0 c).arrAt_eq_of_cover 9 _ (fun t hf => flushed9_eq m c t hf) (fun i => by
    have h0 : (i 0).val < 4 := (i 0).isLt
    have h1 : (i 1).val < 512 := (i 1).isLt
    have h2 : (i 2).val < 512 := (i 2).isLt
    let t : Fin cfg0.N := ⟨31, lt_of_lt_of_eq (by omega) N_0.symm⟩
    obtain ⟨e0, e1, e2⟩ := index9 t
    refine ⟨t, (flush0_9 t).mpr rfl, ?_⟩
    rw [mem_blk9]
    intro a
    match a with
    | ⟨0, _⟩ => show win0_9.index t (0 : Fin 3) * 4 ≤ (i 0).val ∧ (i 0).val < win0_9.index t (0 : Fin 3) * 4 + 4; omega
    | ⟨1, _⟩ => show win0_9.index t (1 : Fin 3) * 512 ≤ (i 1).val ∧ (i 1).val < win0_9.index t (1 : Fin 3) * 512 + 512; omega
    | ⟨2, _⟩ => show win0_9.index t (2 : Fin 3) * 512 ≤ (i 2).val ∧ (i 2).val < win0_9.index t (2 : Fin 3) * 512 + 512; omega)

theorem flushed10_eq (c : Dev nD) (t : Fin cfg0.N) (hf : (cfg0.win 10).flush t = true) :
    (dats m 0 c).flushed 10 t = ((cfg0.win 10).blk t).view.read (Elt Ideal) (wS (vD m c) (vM m c) (vA m c)) := by
  rw [flushed10 m c t]
  have ht : t.val % 32 = 31 := (flush0_10 t).mp hf
  have ht' := t_lt t
  obtain ⟨e0, e1⟩ := index10 t
  funext y
  have hl : (cfg0.win 10).xinj (grid0.coords t) y = (ix2 0 (y 1) : S1x2048.Idx) := by
    funext a
    match a with
    | ⟨0, _⟩ => exact Fin.ext (by have h0 : (y 0).val < 1 := (y 0).isLt; show (y 0).val = 0; omega)
    | ⟨1, _⟩ => rfl
  show (outsAt0 m c t.val t.isLt).2.2.2.1 ((cfg0.win 10).xinj (grid0.coords t) y) = wS (vD m c) (vM m c) (vA m c) (((cfg0.win 10).blk t).view.emb y)
  refine (congrArg (outsAt0 m c t.val t.isLt).2.2.2.1 hl).trans ((outs10 m c (y 1) t.val t.isLt).trans ?_)
  refine (congrArg (fun n => ∑ i ∈ Finset.range n, part (gS (vD m c) (vM m c) (vA m c) (y 1)) i) (show t.val + 1 = 32 by omega)).trans ((sum_parts _).trans ?_)
  have hc : (y 1 : Fin 2048) = (((cfg0.win 10).blk t).view.emb y) 1 := Fin.ext (by
    show (y 1).val = win0_10.index t (1 : Fin 2) * 2048 + 1 * (y 1).val; rw [e1]; omega)
  exact congrArg (fun q => ∑ R : Fin 8192, gS (vD m c) (vM m c) (vA m c) q R) hc

theorem mem_blk10 (t : Fin cfg0.N) (i : S1x2048.Idx) :
    i ∈ ((cfg0.win 10).blk t).view.set ↔ ∀ a : Fin 2, win0_10.index t a * S1x2048.size a ≤ (i a).val ∧ (i a).val < win0_10.index t a * S1x2048.size a + S1x2048.size a := by
  show i ∈ ((View.whole main_v128_3).slice (win0_10.rect t)).set ↔ _
  rw [View.set_slice_whole, Rect.mem_set_unit]
  exact Iff.rfl

theorem result10 (c : Dev nD) : (dats m 0 c).arrAt 10 cfg0.N = wS (vD m c) (vM m c) (vA m c) :=
  (dats m 0 c).arrAt_eq_of_cover 10 _ (fun t hf => flushed10_eq m c t hf) (fun i => by
    have h0 : (i 0).val < 1 := (i 0).isLt
    have h1 : (i 1).val < 2048 := (i 1).isLt
    let t : Fin cfg0.N := ⟨31, lt_of_lt_of_eq (by omega) N_0.symm⟩
    obtain ⟨e0, e1⟩ := index10 t
    refine ⟨t, (flush0_10 t).mpr rfl, ?_⟩
    rw [mem_blk10]
    intro a
    match a with
    | ⟨0, _⟩ => show win0_10.index t (0 : Fin 2) * 1 ≤ (i 0).val ∧ (i 0).val < win0_10.index t (0 : Fin 2) * 1 + 1; omega
    | ⟨1, _⟩ => show win0_10.index t (1 : Fin 2) * 2048 ≤ (i 1).val ∧ (i 1).val < win0_10.index t (1 : Fin 2) * 2048 + 2048; omega)

theorem flushed11_eq (c : Dev nD) (t : Fin cfg0.N) (hf : (cfg0.win 11).flush t = true) :
    (dats m 0 c).flushed 11 t = ((cfg0.win 11).blk t).view.read (Elt Ideal) (wG (vD m c) (vX m c) (vM m c) (vS m c)) := by
  rw [flushed11 m c t]
  have ht : t.val % 32 = 31 := (flush0_11 t).mp hf
  have ht' := t_lt t
  obtain ⟨e0, e1⟩ := index11 t
  funext y
  have hl : (cfg0.win 11).xinj (grid0.coords t) y = (ix2 0 (y 1) : S1x2048.Idx) := by
    funext a
    match a with
    | ⟨0, _⟩ => exact Fin.ext (by have h0 : (y 0).val < 1 := (y 0).isLt; show (y 0).val = 0; omega)
    | ⟨1, _⟩ => rfl
  show (outsAt0 m c t.val t.isLt).2.2.2.2 ((cfg0.win 11).xinj (grid0.coords t) y) = wG (vD m c) (vX m c) (vM m c) (vS m c) (((cfg0.win 11).blk t).view.emb y)
  refine (congrArg (outsAt0 m c t.val t.isLt).2.2.2.2 hl).trans ((outs11 m c (y 1) t.val t.isLt).trans ?_)
  refine (congrArg (fun n => ∑ i ∈ Finset.range n, part (gG (vD m c) (vX m c) (vM m c) (vS m c) (y 1)) i) (show t.val + 1 = 32 by omega)).trans ((sum_parts _).trans ?_)
  have hc : (y 1 : Fin 2048) = (((cfg0.win 11).blk t).view.emb y) 1 := Fin.ext (by
    show (y 1).val = win0_11.index t (1 : Fin 2) * 2048 + 1 * (y 1).val; rw [e1]; omega)
  exact congrArg (fun q => ∑ R : Fin 8192, gG (vD m c) (vX m c) (vM m c) (vS m c) q R) hc

theorem mem_blk11 (t : Fin cfg0.N) (i : S1x2048.Idx) :
    i ∈ ((cfg0.win 11).blk t).view.set ↔ ∀ a : Fin 2, win0_11.index t a * S1x2048.size a ≤ (i a).val ∧ (i a).val < win0_11.index t a * S1x2048.size a + S1x2048.size a := by
  show i ∈ ((View.whole main_v128_4).slice (win0_11.rect t)).set ↔ _
  rw [View.set_slice_whole, Rect.mem_set_unit]
  exact Iff.rfl

theorem result11 (c : Dev nD) : (dats m 0 c).arrAt 11 cfg0.N = wG (vD m c) (vX m c) (vM m c) (vS m c) :=
  (dats m 0 c).arrAt_eq_of_cover 11 _ (fun t hf => flushed11_eq m c t hf) (fun i => by
    have h0 : (i 0).val < 1 := (i 0).isLt
    have h1 : (i 1).val < 2048 := (i 1).isLt
    let t : Fin cfg0.N := ⟨31, lt_of_lt_of_eq (by omega) N_0.symm⟩
    obtain ⟨e0, e1⟩ := index11 t
    refine ⟨t, (flush0_11 t).mpr rfl, ?_⟩
    rw [mem_blk11]
    intro a
    match a with
    | ⟨0, _⟩ => show win0_11.index t (0 : Fin 2) * 1 ≤ (i 0).val ∧ (i 0).val < win0_11.index t (0 : Fin 2) * 1 + 1; omega
    | ⟨1, _⟩ => show win0_11.index t (1 : Fin 2) * 2048 ≤ (i 1).val ∧ (i 1).val < win0_11.index t (1 : Fin 2) * 2048 + 2048; omega)

end Cert.Kernel14Ideal.Pool

end
-- ==== Proof.PoolHost.lean ====
module

public import proofs.«01_k».proof.Proof.PoolWhole
public import proofs.«01_k».proof.Proof.Gen.Reference14Ideal.Read

@[expose] public section

set_option maxRecDepth 65536
set_option maxHeartbeats 40000000

noncomputable section

namespace Cert.Kernel14Ideal.Pool

open Idealize.ShloMosaic Idealize.ShloMosaic.TcCoe
open Cert.Kernel14Ideal.Gen Cert.Kernel14Ideal.Value

/-! ## What the host leaves for the call -/

variable (m : (ℓ : Loc nD τ sig) → Idealize.ShloMosaic.Buf (Elt Ideal) ℓ)

/-- The arrays of the device before the host's operations, and after them. -/
def w0 (c : Dev nD) : Valuation τ sig (Elt Ideal) := fun b => m (c, b)
def w1 (c : Dev nD) : Valuation τ sig (Elt Ideal) := StableHlo.after hostOps0 (w0 m c)

theorem V_eq (c : Dev nD) (b : Ref sig .tc) : V m c b = w1 m c (Proc.devRef .tc b) := rfl

theorem w1_v126 (c : Dev nD) : w1 m c (no_index (Proc.devRef .tc main_v126)) =
    truncf (F := Ideal) .bf16 (m ((c.tc : Thread nD τ).loc main_arg3) : Vec Ideal S4x512x512 .f32) bitsLt_bf16_f32 := by
  unfold w1
  simp only [hostOps0, StableHlo.TRef.binary, StableHlo.TRef.nullary, StableHlo.TRef.unary, StableHlo.TRef.toBuf, StableHlo.TRef.ofBuf, cast_eq]
  after_results_simp
  rfl

open Cert.Reference14Ideal.Read in
theorem w1_v127 (c : Dev nD) : w1 m c (no_index (Proc.devRef .tc main_v127)) =
    truncf (F := Ideal) .bf16 (concatenate S8192x2048 1 [⟨S8192x512, val_main_v33 (F := Ideal) (m ((c.tc : Thread nD τ).loc main_arg1)) (m ((c.tc : Thread nD τ).loc main_arg2))⟩,
      ⟨S8192x512, val_main_v55 (F := Ideal) (m ((c.tc : Thread nD τ).loc main_arg1)) (m ((c.tc : Thread nD τ).loc main_arg2))⟩,
      ⟨S8192x512, val_main_v85 (F := Ideal) (m ((c.tc : Thread nD τ).loc main_arg1)) (m ((c.tc : Thread nD τ).loc main_arg2))⟩,
      ⟨S8192x512, val_main_v131 (F := Ideal) (m ((c.tc : Thread nD τ).loc main_arg1)) (m ((c.tc : Thread nD τ).loc main_arg2))⟩]
      concatenates_S8192x512_S8192x512_S8192x512_S8192x512_S8192x2048_d1 : Vec Ideal S8192x2048 .f32) bitsLt_bf16_f32 := by
  unfold w1
  simp only [hostOps0, StableHlo.TRef.binary, StableHlo.TRef.nullary, StableHlo.TRef.unary, StableHlo.TRef.toBuf, StableHlo.TRef.ofBuf, cast_eq]
  after_results_simp
  rfl

end Cert.Kernel14Ideal.Pool

end
-- ==== Proof.PoolRef.lean ====
module

public import proofs.«01_k».proof.Proof.PoolWhole
public import proofs.«01_k».proof.Proof.Norm
public import proofs.«01_k».proof.Proof.Gen.Reference14Ideal.Read

@[expose] public section

set_option maxRecDepth 16384

noncomputable section

namespace Cert.Kernel14Ideal.Pool

open Idealize.ShloMosaic Idealize.ShloMosaic.TcCoe
open Cert.Reference14Ideal Cert.Reference14Ideal.Read
open Cert.Kernel13Ideal.Norm (rt dxr dxp dxr_eq ms sc nN nE nH rowOf)

/-! ## Reading joined and padded arrays -/

theorem ext2 {n k : ℕ} (i : (⟨2, ![n, k]⟩ : Shape).Idx) (r : Fin n) (c : Fin k) (h0 : (i 0).val = r.val) (h1 : (i 1).val = c.val) : i = ix2 r c := by
  funext a
  match a with
  | ⟨0, _⟩ => exact Fin.ext h0
  | ⟨1, _⟩ => exact Fin.ext h1

theorem ext3 {n k l : ℕ} (i : (⟨3, ![n, k, l]⟩ : Shape).Idx) (a : Fin n) (p : Fin k) (q : Fin l)
    (h0 : (i 0).val = a.val) (h1 : (i 1).val = p.val) (h2 : (i 2).val = q.val) : i = ix3 a p q := by
  funext x
  match x with
  | ⟨0, _⟩ => exact Fin.ext h0
  | ⟨1, _⟩ => exact Fin.ext h1
  | ⟨2, _⟩ => exact Fin.ext h2

/-- Four groups of columns side by side. -/
theorem cat4 (a0 a1 a2 a3 : Vec Ideal S8192x512 .f32) (h : Shape.Concatenates [S8192x512, S8192x512, S8192x512, S8192x512] S8192x2048 1)
    (R : Fin 8192) (g : Fin 4) (j : Fin 512) :
    concatenate S8192x2048 1 [⟨S8192x512, a0⟩, ⟨S8192x512, a1⟩, ⟨S8192x512, a2⟩, ⟨S8192x512, a3⟩] h (ix2 R (col g j))
      = (![a0, a1, a2, a3] : Fin 4 → Vec Ideal S8192x512 .f32) g (ix2 R j) := by
  pointwise
  match g with
  | ⟨0, _⟩ =>
    rw [dif_pos (by show 512 * 0 + j.val < 512; omega)]
    exact congrArg a0 (ext2 _ _ _ rfl (by show 512 * 0 + j.val = j.val; omega))
  | ⟨1, _⟩ =>
    rw [dif_neg (by show ¬ (512 * 1 + j.val < 512); omega), dif_pos (by show 512 * 1 + j.val - 512 < 512; omega)]
    exact congrArg a1 (ext2 _ _ _ rfl (by show 512 * 1 + j.val - 512 = j.val; omega))
  | ⟨2, _⟩ =>
    rw [dif_neg (by show ¬ (512 * 2 + j.val < 512); omega), dif_neg (by show ¬ (512 * 2 + j.val - 512 < 512); omega), dif_pos (by show 512 * 2 + j.val - 512 - 512 < 512; omega)]
    exact congrArg a2 (ext2 _ _ _ rfl (by show 512 * 2 + j.val - 512 - 512 = j.val; omega))
  | ⟨3, _⟩ =>
    rw [dif_neg (by show ¬ (512 * 3 + j.val < 512); omega), dif_neg (by show ¬ (512 * 3 + j.val - 512 < 512); omega), dif_neg (by show ¬ (512 * 3 + j.val - 512 - 512 < 512); omega)]
    exact congrArg a3 (ext2 _ _ _ rfl (by show 512 * 3 + j.val - 512 - 512 - 512 = j.val; omega))

/-- Rows moved down by `l`, read `k` rows above the last place they can move to. -/
theorem pad_row {T l e k w : ℕ} (x : Vec Ideal S8192x512 .f32) (v : Vec Ideal S_ .f32) (h : S8192x512.Pads (![l, 0] : Fin 2 → ℕ) ![e, 0] ![0, 0] ⟨2, ![T, 512]⟩)
    (hu : 0 < S_.numel) (hv : v (Shape.Idx.first hu) = 0) (P : Buf) (g : Fin 4)
    (hP : ∀ (R : Fin 8192) (j : Fin 512), x (ix2 R j) = P R.val (col g j)) (hz : ∀ r C, 8192 ≤ r → P r C = 0)
    (R : Fin 8192) (j : Fin 512) (i : (⟨2, ![T, 512]⟩ : Shape).Idx) (h0 : (i 0).val = w + R.val) (h1 : (i 1).val = j.val) (hw : l + k = w) :
    pad ⟨2, ![T, 512]⟩ (![l, 0] : Fin 2 → ℕ) ![e, 0] ![0, 0] x v h hu i = P (R.val + k) (col g j) := by
  unfold pad
  by_cases hR : R.val + k < 8192
  · have hin : ∀ a : Fin 2, (![l, 0] : Fin 2 → ℕ) a ≤ (i (a.cast h.1)).val ∧ ((i (a.cast h.1)).val - (![l, 0] : Fin 2 → ℕ) a) % ((![0, 0] : Fin 2 → ℕ) a + 1) = 0
        ∧ ((i (a.cast h.1)).val - (![l, 0] : Fin 2 → ℕ) a) / ((![0, 0] : Fin 2 → ℕ) a + 1) < S8192x512.size a := by
      intro a
      match a with
      | ⟨0, _⟩ => show l ≤ (i 0).val ∧ ((i 0).val - l) % (0 + 1) = 0 ∧ ((i 0).val - l) / (0 + 1) < 8192; rw [h0]; omega
      | ⟨1, _⟩ => show 0 ≤ (i 1).val ∧ ((i 1).val - 0) % (0 + 1) = 0 ∧ ((i 1).val - 0) / (0 + 1) < 512; rw [h1]; have := j.isLt; omega
    rw [dif_pos hin]
    refine (congrArg x (ext2 _ ⟨R.val + k, hR⟩ j ?_ ?_)).trans (hP _ j)
    · show ((i 0).val - l) / (0 + 1) = R.val + k; rw [h0]; omega
    · show ((i 1).val - 0) / (0 + 1) = j.val; rw [h1]; omega
  · rw [dif_neg, hv, hz _ _ (by omega)]
    intro hin
    have : ((i 0).val - l) / (0 + 1) < 8192 := (hin (0 : Fin 2)).2.2
    rw [h0] at this
    omega

/-- A group of columns put in its place among zeros. -/
theorem pad_col {c e : ℕ} (x : Vec Ideal S8192x512 .f32) (v : Vec Ideal S_ .f32) (h : S8192x512.Pads (![0, c] : Fin 2 → ℕ) ![0, e] ![0, 0] S8192x2048)
    (hu : 0 < S_.numel) (hv : v (Shape.Idx.first hu) = 0) (a : Fin 4) (ha : 512 * a.val = c) (R : Fin 8192) (g : Fin 4) (j : Fin 512) :
    pad S8192x2048 (![0, c] : Fin 2 → ℕ) ![0, e] ![0, 0] x v h hu (ix2 R (col g j)) = if g = a then x (ix2 R j) else 0 := by
  unfold pad
  have hj := j.isLt
  have hR := R.isLt
  by_cases hg : g = a
  · subst hg
    have hin : ∀ a : Fin 2, (![0, c] : Fin 2 → ℕ) a ≤ ((ix2 R (col g j) : S8192x2048.Idx) (a.cast h.1)).val ∧ (((ix2 R (col g j) : S8192x2048.Idx) (a.cast h.1)).val - (![0, c] : Fin 2 → ℕ) a) % ((![0, 0] : Fin 2 → ℕ) a + 1) = 0
        ∧ (((ix2 R (col g j) : S8192x2048.Idx) (a.cast h.1)).val - (![0, c] : Fin 2 → ℕ) a) / ((![0, 0] : Fin 2 → ℕ) a + 1) < S8192x512.size a := by
      intro a
      match a with
      | ⟨0, _⟩ => show 0 ≤ R.val ∧ (R.val - 0) % (0 + 1) = 0 ∧ (R.val - 0) / (0 + 1) < 8192; omega
      | ⟨1, _⟩ => show c ≤ 512 * g.val + j.val ∧ (512 * g.val + j.val - c) % (0 + 1) = 0 ∧ (512 * g.val + j.val - c) / (0 + 1) < 512; omega
    rw [dif_pos hin, if_pos rfl]
    refine congrArg x (ext2 _ R j ?_ ?_)
    · show (R.val - 0) / (0 + 1) = R.val; omega
    · show (512 * g.val + j.val - c) / (0 + 1) = j.val; omega
  · rw [dif_neg, if_neg hg, hv]
    intro hin
    have h1 : c ≤ 512 * g.val + j.val := (hin (1 : Fin 2)).1
    have h2 : (512 * g.val + j.val - c) / (0 + 1) < 512 := (hin (1 : Fin 2)).2.2
    exact hg (Fin.ext (by omega))

/-- A matrix put in its place among zeros. -/
theorem pad_grp {c e : ℕ} (x : Vec Ideal S1x512x512 .f32) (v : Vec Ideal S_ .f32) (h : S1x512x512.Pads (![c, 0, 0] : Fin 3 → ℕ) ![e, 0, 0] ![0, 0, 0] S4x512x512)
    (hu : 0 < S_.numel) (hv : v (Shape.Idx.first hu) = 0) (a : Fin 4) (ha : a.val = c) (g : Fin 4) (p q : Fin 512) :
    pad S4x512x512 (![c, 0, 0] : Fin 3 → ℕ) ![e, 0, 0] ![0, 0, 0] x v h hu (ix3 g p q) = if g = a then x (ix3 0 p q) else 0 := by
  unfold pad
  have hp := p.isLt
  have hq := q.isLt
  by_cases hg : g = a
  · subst hg
    have hin : ∀ a : Fin 3, (![c, 0, 0] : Fin 3 → ℕ) a ≤ ((ix3 g p q : S4x512x512.Idx) (a.cast h.1)).val ∧ (((ix3 g p q : S4x512x512.Idx) (a.cast h.1)).val - (![c, 0, 0] : Fin 3 → ℕ) a) % ((![0, 0, 0] : Fin 3 → ℕ) a + 1) = 0
        ∧ (((ix3 g p q : S4x512x512.Idx) (a.cast h.1)).val - (![c, 0, 0] : Fin 3 → ℕ) a) / ((![0, 0, 0] : Fin 3 → ℕ) a + 1) < S1x512x512.size a := by
      intro a
      match a with
      | ⟨0, _⟩ => show c ≤ g.val ∧ (g.val - c) % (0 + 1) = 0 ∧ (g.val - c) / (0 + 1) < 1; omega
      | ⟨1, _⟩ => show 0 ≤ p.val ∧ (p.val - 0) % (0 + 1) = 0 ∧ (p.val - 0) / (0 + 1) < 512; omega
      | ⟨2, _⟩ => show 0 ≤ q.val ∧ (q.val - 0) % (0 + 1) = 0 ∧ (q.val - 0) / (0 + 1) < 512; omega
    rw [dif_pos hin, if_pos rfl]
    refine congrArg x (ext3 _ 0 p q ?_ ?_ ?_)
    · show (g.val - c) / (0 + 1) = 0; omega
    · show (p.val - 0) / (0 + 1) = p.val; omega
    · show (q.val - 0) / (0 + 1) = q.val; omega
  · rw [dif_neg, if_neg hg, hv]
    intro hin
    have h1 : c ≤ g.val := (hin (0 : Fin 3)).1
    have h2 : (g.val - c) / (0 + 1) < 1 := (hin (0 : Fin 3)).2.2
    exact hg (Fin.ext (by omega))

/-! ## The reference's arrays -/

variable (x0 x1 : Vec Ideal S8192x2048 .f32) (x2 x4 : Vec Ideal S1x2048 .f32) (x3 : Vec Ideal S4x512x512 .f32)

/-- The matrices, and the differences of averages and rows. -/
def bM : Vec Ideal S4x512x512 .bf16 := fun i => (x3 i : EReal)
def bA : Vec Ideal S8192x2048 .bf16 := fun i =>
  ((![val_main_v33 (F := Ideal) x1 x2, val_main_v55 (F := Ideal) x1 x2, val_main_v85 (F := Ideal) x1 x2, val_main_v131 (F := Ideal) x1 x2] : Fin 4 → Vec Ideal S8192x512 .f32)
    (grp (i 1)) (ix2 (i 0) (loc (i 1))) : EReal)

theorem bA_col (R : Fin 8192) (g : Fin 4) (j : Fin 512) : bA x1 x2 (ix2 R (col g j)) =
    (![val_main_v33 (F := Ideal) x1 x2, val_main_v55 (F := Ideal) x1 x2, val_main_v85 (F := Ideal) x1 x2, val_main_v131 (F := Ideal) x1 x2] : Fin 4 → Vec Ideal S8192x512 .f32) g (ix2 R j) := by
  show (![val_main_v33 (F := Ideal) x1 x2, val_main_v55 (F := Ideal) x1 x2, val_main_v85 (F := Ideal) x1 x2, val_main_v131 (F := Ideal) x1 x2] : Fin 4 → Vec Ideal S8192x512 .f32)
    (grp (col g j)) (ix2 R (loc (col g j))) = _
  rw [grp_col, loc_col]

theorem v153_eq (i : S8192x2048.Idx) (R : Fin 8192) (C : Fin 2048) (h0 : (i 0).val = R.val) (h1 : (i 1).val = C.val) :
    val_main_v153 (F := Ideal) x0 x4 i = x0 (ix2 R C) * x4 (ix2 0 C) := by
  obtain rfl := ext2 i R C h0 h1
  have hC := C.isLt
  rw [val_main_v153_apply, val_main_v148_apply, val_main_v152_apply]
  refine congrArg₂ (· * ·) (congrArg x0 (ext2 _ R C ?_ ?_)) (congrArg x4 (ext2 _ 0 C rfl rfl))
  · show (R.val * 2048 + C.val) / 2048 = R.val; omega
  · show (R.val * 2048 + C.val) % 2048 = C.val; omega

/-! Group 0. -/

theorem w0_eq (i : S512x512.Idx) (p q : Fin 512) (h0 : (i 0).val = p.val) (h1 : (i 1).val = q.val) :
    val_main_v133 (F := Ideal) x3 i = bM x3 (ix3 0 p q) := by
  obtain rfl := ext2 i p q h0 h1
  have hp := p.isLt
  have hq := q.isLt
  rw [val_main_v133_apply, val_main_v132_apply]
  refine congrArg x3 (ext3 _ 0 p q rfl ?_ ?_)
  · show (p.val * 512 + q.val) / 512 % 512 = p.val; omega
  · show (p.val * 512 + q.val) % 512 = q.val; omega

theorem s0_eq (i : S8192x512.Idx) (R : Fin 8192) (k : Fin 512) (h0 : (i 0).val = R.val) (h1 : (i 1).val = k.val) :
    val_main_v154 (F := Ideal) x0 x4 i = x0 (ix2 R (col 0 k)) * x4 (ix2 0 (col 0 k)) := by
  obtain rfl := ext2 i R k h0 h1
  rw [val_main_v154_apply]
  exact v153_eq x0 x4 _ R (col 0 k) rfl (by show k.val = 512 * 0 + k.val; omega)

theorem hd0 (R : Fin 8192) (j : Fin 512) : val_main_v177 (F := Ideal) x0 x3 x4 (ix2 R j) = hD x0 (bM x3) x4 R (col 0 j) := by
  rw [val_main_v177_apply]
  unfold hD
  rw [grp_col, loc_col]
  exact Finset.sum_congr rfl fun k _ => congrArg₂ (· * ·) (s0_eq x0 x4 _ R k rfl rfl) (w0_eq x3 _ j k rfl rfl)

theorem fw0 (R : Fin 8192) (j : Fin 512) :
    val_main_v134 (F := Ideal) x1 x2 x3 (ix2 R j) = ∑ k : Fin 512, bA x1 x2 (ix2 R (col 0 k)) * bM x3 (ix3 0 k j) := by
  rw [val_main_v134_apply]
  exact Finset.sum_congr rfl fun k _ => congrArg₂ (· * ·) ((congrArg _ (ext2 _ R k rfl rfl)).trans (bA_col x1 x2 R 0 k).symm) (w0_eq x3 _ k j rfl rfl)

theorem gw0 (p q : Fin 512) : val_main_v178 (F := Ideal) x0 x1 x2 x4 (ix3 0 p q) = ∑ R : Fin 8192, gW x0 x4 (bA x1 x2) 0 p q R := by
  rw [val_main_v178_apply, val_main_v176_apply, val_main_v175_apply]
  refine Finset.sum_congr rfl fun R _ => (congrArg₂ (· * ·) (s0_eq x0 x4 _ R q rfl rfl) ((congrArg _ (ext2 _ R p rfl rfl)).trans (bA_col x1 x2 R 0 p).symm)).trans (mul_comm _ _)

theorem he0 (R : Fin 8192) (j : Fin 512) : val_main_v259 (F := Ideal) x0 x3 x4 (ix2 R j) = hE x0 (bM x3) x4 R.val (col 0 j) := by
  rw [val_main_v259_apply, hd0, val_main_v258_apply, val_main_v30_apply, val_main_v29_apply, val_main_v28_apply, val_main_v26_apply,
    val_main_v25_apply, val_main_v27_apply, val_main_c_apply, val_main_c_6_apply, val_main_v15_apply]
  unfold hE
  rw [dif_pos R.isLt, grp_col]
  rfl

/-! Group 1. -/

theorem w1_eq (i : S512x512.Idx) (p q : Fin 512) (h0 : (i 0).val = p.val) (h1 : (i 1).val = q.val) :
    val_main_v136 (F := Ideal) x3 i = bM x3 (ix3 1 p q) := by
  obtain rfl := ext2 i p q h0 h1
  have hp := p.isLt
  have hq := q.isLt
  rw [val_main_v136_apply, val_main_v135_apply]
  refine congrArg x3 (ext3 _ 1 p q rfl ?_ ?_)
  · show (p.val * 512 + q.val) / 512 % 512 = p.val; omega
  · show (p.val * 512 + q.val) % 512 = q.val; omega

theorem s1_eq (i : S8192x512.Idx) (R : Fin 8192) (k : Fin 512) (h0 : (i 0).val = R.val) (h1 : (i 1).val = k.val) :
    val_main_v155 (F := Ideal) x0 x4 i = x0 (ix2 R (col 1 k)) * x4 (ix2 0 (col 1 k)) := by
  obtain rfl := ext2 i R k h0 h1
  rw [val_main_v155_apply]
  exact v153_eq x0 x4 _ R (col 1 k) rfl (by show 512 + k.val = 512 * 1 + k.val; omega)

theorem hd1 (R : Fin 8192) (j : Fin 512) : val_main_v171 (F := Ideal) x0 x3 x4 (ix2 R j) = hD x0 (bM x3) x4 R (col 1 j) := by
  rw [val_main_v171_apply]
  unfold hD
  rw [grp_col, loc_col]
  exact Finset.sum_congr rfl fun k _ => congrArg₂ (· * ·) (s1_eq x0 x4 _ R k rfl rfl) (w1_eq x3 _ j k rfl rfl)

theorem fw1 (R : Fin 8192) (j : Fin 512) :
    val_main_v137 (F := Ideal) x1 x2 x3 (ix2 R j) = ∑ k : Fin 512, bA x1 x2 (ix2 R (col 1 k)) * bM x3 (ix3 1 k j) := by
  rw [val_main_v137_apply]
  exact Finset.sum_congr rfl fun k _ => congrArg₂ (· * ·) ((congrArg _ (ext2 _ R k rfl rfl)).trans (bA_col x1 x2 R 1 k).symm) (w1_eq x3 _ k j rfl rfl)

theorem gw1 (p q : Fin 512) : val_main_v172 (F := Ideal) x0 x1 x2 x4 (ix3 0 p q) = ∑ R : Fin 8192, gW x0 x4 (bA x1 x2) 1 p q R := by
  rw [val_main_v172_apply, val_main_v170_apply, val_main_v169_apply]
  refine Finset.sum_congr rfl fun R _ => (congrArg₂ (· * ·) (s1_eq x0 x4 _ R q rfl rfl) ((congrArg _ (ext2 _ R p rfl rfl)).trans (bA_col x1 x2 R 1 p).symm)).trans (mul_comm _ _)

theorem he1 (R : Fin 8192) (j : Fin 512) : val_main_v244 (F := Ideal) x0 x3 x4 (ix2 R j) = hE x0 (bM x3) x4 R.val (col 1 j) := by
  rw [val_main_v244_apply, hd1, val_main_v243_apply, val_main_v52_apply, val_main_v51_apply, val_main_v50_apply, val_main_v48_apply,
    val_main_v47_apply, val_main_v49_apply, val_main_c_10_apply, val_main_c_11_apply, val_main_v15_apply]
  unfold hE
  rw [dif_pos R.isLt, grp_col]
  rfl

/-! Group 2. -/

theorem w2_eq (i : S512x512.Idx) (p q : Fin 512) (h0 : (i 0).val = p.val) (h1 : (i 1).val = q.val) :
    val_main_v139 (F := Ideal) x3 i = bM x3 (ix3 2 p q) := by
  obtain rfl := ext2 i p q h0 h1
  have hp := p.isLt
  have hq := q.isLt
  rw [val_main_v139_apply, val_main_v138_apply]
  refine congrArg x3 (ext3 _ 2 p q rfl ?_ ?_)
  · show (p.val * 512 + q.val) / 512 % 512 = p.val; omega
  · show (p.val * 512 + q.val) % 512 = q.val; omega

theorem s2_eq (i : S8192x512.Idx) (R : Fin 8192) (k : Fin 512) (h0 : (i 0).val = R.val) (h1 : (i 1).val = k.val) :
    val_main_v156 (F := Ideal) x0 x4 i = x0 (ix2 R (col 2 k)) * x4 (ix2 0 (col 2 k)) := by
  obtain rfl := ext2 i R k h0 h1
  rw [val_main_v156_apply]
  exact v153_eq x0 x4 _ R (col 2 k) rfl (by show 1024 + k.val = 512 * 2 + k.val; omega)

theorem hd2 (R : Fin 8192) (j : Fin 512) : val_main_v165 (F := Ideal) x0 x3 x4 (ix2 R j) = hD x0 (bM x3) x4 R (col 2 j) := by
  rw [val_main_v165_apply]
  unfold hD
  rw [grp_col, loc_col]
  exact Finset.sum_congr rfl fun k _ => congrArg₂ (· * ·) (s2_eq x0 x4 _ R k rfl rfl) (w2_eq x3 _ j k rfl rfl)

theorem fw2 (R : Fin 8192) (j : Fin 512) :
    val_main_v140 (F := Ideal) x1 x2 x3 (ix2 R j) = ∑ k : Fin 512, bA x1 x2 (ix2 R (col 2 k)) * bM x3 (ix3 2 k j) := by
  rw [val_main_v140_apply]
  exact Finset.sum_congr rfl fun k _ => congrArg₂ (· * ·) ((congrArg _ (ext2 _ R k rfl rfl)).trans (bA_col x1 x2 R 2 k).symm) (w2_eq x3 _ k j rfl rfl)

theorem gw2 (p q : Fin 512) : val_main_v166 (F := Ideal) x0 x1 x2 x4 (ix3 0 p q) = ∑ R : Fin 8192, gW x0 x4 (bA x1 x2) 2 p q R := by
  rw [val_main_v166_apply, val_main_v164_apply, val_main_v163_apply]
  refine Finset.sum_congr rfl fun R _ => (congrArg₂ (· * ·) (s2_eq x0 x4 _ R q rfl rfl) ((congrArg _ (ext2 _ R p rfl rfl)).trans (bA_col x1 x2 R 2 p).symm)).trans (mul_comm _ _)

theorem he2 (R : Fin 8192) (j : Fin 512) : val_main_v221 (F := Ideal) x0 x3 x4 (ix2 R j) = hE x0 (bM x3) x4 R.val (col 2 j) := by
  rw [val_main_v221_apply, hd2, val_main_v220_apply, val_main_v82_apply, val_main_v81_apply, val_main_v80_apply, val_main_v78_apply,
    val_main_v77_apply, val_main_v79_apply, val_main_c_15_apply, val_main_c_16_apply, val_main_v15_apply]
  unfold hE
  rw [dif_pos R.isLt, grp_col]
  rfl

/-! Group 3. -/

theorem w3_eq (i : S512x512.Idx) (p q : Fin 512) (h0 : (i 0).val = p.val) (h1 : (i 1).val = q.val) :
    val_main_v142 (F := Ideal) x3 i = bM x3 (ix3 3 p q) := by
  obtain rfl := ext2 i p q h0 h1
  have hp := p.isLt
  have hq := q.isLt
  rw [val_main_v142_apply, val_main_v141_apply]
  refine congrArg x3 (ext3 _ 3 p q rfl ?_ ?_)
  · show (p.val * 512 + q.val) / 512 % 512 = p.val; omega
  · show (p.val * 512 + q.val) % 512 = q.val; omega

theorem s3_eq (i : S8192x512.Idx) (R : Fin 8192) (k : Fin 512) (h0 : (i 0).val = R.val) (h1 : (i 1).val = k.val) :
    val_main_v157 (F := Ideal) x0 x4 i = x0 (ix2 R (col 3 k)) * x4 (ix2 0 (col 3 k)) := by
  obtain rfl := ext2 i R k h0 h1
  rw [val_main_v157_apply]
  exact v153_eq x0 x4 _ R (col 3 k) rfl (by show 1536 + k.val = 512 * 3 + k.val; omega)

theorem hd3 (R : Fin 8192) (j : Fin 512) : val_main_v160 (F := Ideal) x0 x3 x4 (ix2 R j) = hD x0 (bM x3) x4 R (col 3 j) := by
  rw [val_main_v160_apply]
  unfold hD
  rw [grp_col, loc_col]
  exact Finset.sum_congr rfl fun k _ => congrArg₂ (· * ·) (s3_eq x0 x4 _ R k rfl rfl) (w3_eq x3 _ j k rfl rfl)

theorem fw3 (R : Fin 8192) (j : Fin 512) :
    val_main_v143 (F := Ideal) x1 x2 x3 (ix2 R j) = ∑ k : Fin 512, bA x1 x2 (ix2 R (col 3 k)) * bM x3 (ix3 3 k j) := by
  rw [val_main_v143_apply]
  exact Finset.sum_congr rfl fun k _ => congrArg₂ (· * ·) ((congrArg _ (ext2 _ R k rfl rfl)).trans (bA_col x1 x2 R 3 k).symm) (w3_eq x3 _ k j rfl rfl)

theorem gw3 (p q : Fin 512) : val_main_v161 (F := Ideal) x0 x1 x2 x4 (ix3 0 p q) = ∑ R : Fin 8192, gW x0 x4 (bA x1 x2) 3 p q R := by
  rw [val_main_v161_apply, val_main_v159_apply, val_main_v158_apply]
  refine Finset.sum_congr rfl fun R _ => (congrArg₂ (· * ·) (s3_eq x0 x4 _ R q rfl rfl) ((congrArg _ (ext2 _ R p rfl rfl)).trans (bA_col x1 x2 R 3 p).symm)).trans (mul_comm _ _)

theorem he3 (R : Fin 8192) (j : Fin 512) : val_main_v183 (F := Ideal) x0 x3 x4 (ix2 R j) = hE x0 (bM x3) x4 R.val (col 3 j) := by
  rw [val_main_v183_apply, hd3, val_main_v182_apply, val_main_v128_apply, val_main_v127_apply, val_main_v126_apply, val_main_v124_apply,
    val_main_v123_apply, val_main_v125_apply, val_main_c_20_apply, val_main_c_21_apply, val_main_v15_apply]
  unfold hE
  rw [dif_pos R.isLt, grp_col]
  rfl

/-! ## The window sums -/

theorem hE_zero (r : ℕ) (C : Fin 2048) (h : 8192 ≤ r) : hE x0 (bM x3) x4 r C = 0 := dif_neg (by omega)

theorem hS0 (P : Buf) (R : ℕ) (C : Fin 2048) : P (R + 1) C + P R C = hS P 0 R C := by
  show _ = dlev P 1 R C
  simp only [dlev, Nat.add_assoc, Nat.reduceAdd]
  ac_rfl

theorem hS1 (P : Buf) (R : ℕ) (C : Fin 2048) : P (R + 3) C + P (R + 2) C + P (R + 1) C + P R C = hS P 1 R C := by
  show _ = dlev (dlev P 1) 2 R C
  simp only [dlev, Nat.add_assoc, Nat.reduceAdd]
  ac_rfl

theorem hS2 (P : Buf) (R : ℕ) (C : Fin 2048) : P (R + 7) C + P (R + 6) C + P (R + 5) C + P (R + 4) C + P (R + 3) C + P (R + 2) C + P (R + 1) C + P R C = hS P 2 R C := by
  show _ = dlev (dlev (dlev P 1) 2) 4 R C
  simp only [dlev, Nat.add_assoc, Nat.reduceAdd]
  ac_rfl

theorem hS3 (P : Buf) (R : ℕ) (C : Fin 2048) : P (R + 15) C + P (R + 14) C + P (R + 13) C + P (R + 12) C + P (R + 11) C + P (R + 10) C + P (R + 9) C + P (R + 8) C + P (R + 7) C + P (R + 6) C + P (R + 5) C + P (R + 4) C + P (R + 3) C + P (R + 2) C + P (R + 1) C + P R C = hS P 3 R C := by
  show _ = dlev (dlev (dlev (dlev P 1) 2) 4) 8 R C
  simp only [dlev, Nat.add_assoc, Nat.reduceAdd]
  ac_rfl

theorem win0 (R : Fin 8192) (j : Fin 512) : val_main_v264 (F := Ideal) x0 x3 x4 (ix2 R j) = hS (hE x0 (bM x3) x4) 0 R.val (col 0 j) := by
  have e {l e k : ℕ} (v : Vec Ideal S_ .f32) (h : S8192x512.Pads (![l, 0] : Fin 2 → ℕ) ![e, 0] ![0, 0] S8194x512) (hu : 0 < S_.numel) (hv : v = constant (F := Ideal) S_ .f32 0x00000000#32) (hw : l + k = 2) :
      pad S8194x512 (![l, 0] : Fin 2 → ℕ) ![e, 0] ![0, 0] (val_main_v259 (F := Ideal) x0 x3 x4) v h hu (idx_main_v264 (ix2 R j)) = hE x0 (bM x3) x4 (R.val + k) (col 0 j) :=
    pad_row _ v h hu (by rw [hv]; exact Ideal.ofBits_zero_f32) (hE x0 (bM x3) x4) 0 (he0 x0 x4 x3) (hE_zero x0 x4 x3) R j _ rfl rfl hw
  rw [val_main_v264_apply, val_main_v262_apply, ← hS0]
  exact (congrArg₂ (· + ·) (e (l := 1) (k := 1) _ _ _ rfl rfl) (e (l := 2) (k := 0) _ _ _ rfl rfl))

theorem hh0 (R : Fin 8192) (j : Fin 512) : val_main_v265 (F := Ideal) x0 x3 x4 (ix2 R j) = hH x0 (bM x3) x4 R (col 0 j) := by
  rw [val_main_v265_apply, val_main_v257_apply, hd0, win0]
  unfold hH
  rw [grp_col, sub_eq_add_neg]
  exact add_comm _ _

theorem win1 (R : Fin 8192) (j : Fin 512) : val_main_v253 (F := Ideal) x0 x3 x4 (ix2 R j) = hS (hE x0 (bM x3) x4) 1 R.val (col 1 j) := by
  have e {l e k : ℕ} (v : Vec Ideal S_ .f32) (h : S8192x512.Pads (![l, 0] : Fin 2 → ℕ) ![e, 0] ![0, 0] S8196x512) (hu : 0 < S_.numel) (hv : v = constant (F := Ideal) S_ .f32 0x00000000#32) (hw : l + k = 4) :
      pad S8196x512 (![l, 0] : Fin 2 → ℕ) ![e, 0] ![0, 0] (val_main_v244 (F := Ideal) x0 x3 x4) v h hu (idx_main_v253 (ix2 R j)) = hE x0 (bM x3) x4 (R.val + k) (col 1 j) :=
    pad_row _ v h hu (by rw [hv]; exact Ideal.ofBits_zero_f32) (hE x0 (bM x3) x4) 1 (he1 x0 x4 x3) (hE_zero x0 x4 x3) R j _ rfl rfl hw
  rw [val_main_v253_apply, val_main_v251_apply, val_main_v249_apply, val_main_v247_apply, ← hS1]
  exact (congrArg₂ (· + ·) (congrArg₂ (· + ·) (congrArg₂ (· + ·) (e (l := 1) (k := 3) _ _ _ rfl rfl) (e (l := 2) (k := 2) _ _ _ rfl rfl)) (e (l := 3) (k := 1) _ _ _ rfl rfl)) (e (l := 4) (k := 0) _ _ _ rfl rfl))

theorem hh1 (R : Fin 8192) (j : Fin 512) : val_main_v254 (F := Ideal) x0 x3 x4 (ix2 R j) = hH x0 (bM x3) x4 R (col 1 j) := by
  rw [val_main_v254_apply, val_main_v242_apply, hd1, win1]
  unfold hH
  rw [grp_col, sub_eq_add_neg]
  exact add_comm _ _

theorem win2 (R : Fin 8192) (j : Fin 512) : val_main_v238 (F := Ideal) x0 x3 x4 (ix2 R j) = hS (hE x0 (bM x3) x4) 2 R.val (col 2 j) := by
  have e {l e k : ℕ} (v : Vec Ideal S_ .f32) (h : S8192x512.Pads (![l, 0] : Fin 2 → ℕ) ![e, 0] ![0, 0] S8200x512) (hu : 0 < S_.numel) (hv : v = constant (F := Ideal) S_ .f32 0x00000000#32) (hw : l + k = 8) :
      pad S8200x512 (![l, 0] : Fin 2 → ℕ) ![e, 0] ![0, 0] (val_main_v221 (F := Ideal) x0 x3 x4) v h hu (idx_main_v238 (ix2 R j)) = hE x0 (bM x3) x4 (R.val + k) (col 2 j) :=
    pad_row _ v h hu (by rw [hv]; exact Ideal.ofBits_zero_f32) (hE x0 (bM x3) x4) 2 (he2 x0 x4 x3) (hE_zero x0 x4 x3) R j _ rfl rfl hw
  rw [val_main_v238_apply, val_main_v236_apply, val_main_v234_apply, val_main_v232_apply, val_main_v230_apply, val_main_v228_apply, val_main_v226_apply, val_main_v224_apply, ← hS2]
  exact (congrArg₂ (· + ·) (congrArg₂ (· + ·) (congrArg₂ (· + ·) (congrArg₂ (· + ·) (congrArg₂ (· + ·) (congrArg₂ (· + ·) (congrArg₂ (· + ·) (e (l := 1) (k := 7) _ _ _ rfl rfl) (e (l := 2) (k := 6) _ _ _ rfl rfl)) (e (l := 3) (k := 5) _ _ _ rfl rfl)) (e (l := 4) (k := 4) _ _ _ rfl rfl)) (e (l := 5) (k := 3) _ _ _ rfl rfl)) (e (l := 6) (k := 2) _ _ _ rfl rfl)) (e (l := 7) (k := 1) _ _ _ rfl rfl)) (e (l := 8) (k := 0) _ _ _ rfl rfl))

theorem hh2 (R : Fin 8192) (j : Fin 512) : val_main_v239 (F := Ideal) x0 x3 x4 (ix2 R j) = hH x0 (bM x3) x4 R (col 2 j) := by
  rw [val_main_v239_apply, val_main_v219_apply, hd2, win2]
  unfold hH
  rw [grp_col, sub_eq_add_neg]
  exact add_comm _ _

theorem win3 (R : Fin 8192) (j : Fin 512) : val_main_v216 (F := Ideal) x0 x3 x4 (ix2 R j) = hS (hE x0 (bM x3) x4) 3 R.val (col 3 j) := by
  have e {l e k : ℕ} (v : Vec Ideal S_ .f32) (h : S8192x512.Pads (![l, 0] : Fin 2 → ℕ) ![e, 0] ![0, 0] S8208x512) (hu : 0 < S_.numel) (hv : v = constant (F := Ideal) S_ .f32 0x00000000#32) (hw : l + k = 16) :
      pad S8208x512 (![l, 0] : Fin 2 → ℕ) ![e, 0] ![0, 0] (val_main_v183 (F := Ideal) x0 x3 x4) v h hu (idx_main_v216 (ix2 R j)) = hE x0 (bM x3) x4 (R.val + k) (col 3 j) :=
    pad_row _ v h hu (by rw [hv]; exact Ideal.ofBits_zero_f32) (hE x0 (bM x3) x4) 3 (he3 x0 x4 x3) (hE_zero x0 x4 x3) R j _ rfl rfl hw
  rw [val_main_v216_apply, val_main_v214_apply, val_main_v212_apply, val_main_v210_apply, val_main_v208_apply, val_main_v206_apply, val_main_v204_apply, val_main_v202_apply, val_main_v200_apply, val_main_v198_apply, val_main_v196_apply, val_main_v194_apply, val_main_v192_apply, val_main_v190_apply, val_main_v188_apply, val_main_v186_apply, ← hS3]
  exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (e (l := 1) (k := 15) _ _ _ rfl rfl) (e (l := 2) (k := 14) _ _ _ rfl rfl)) (e (l := 3) (k := 13) _ _ _ rfl rfl)) (e (l := 4) (k := 12) _ _ _ rfl rfl)) (e (l := 5) (k := 11) _ _ _ rfl rfl)) (e (l := 6) (k := 10) _ _ _ rfl rfl)) (e (l := 7) (k := 9) _ _ _ rfl rfl)) (e (l := 8) (k := 8) _ _ _ rfl rfl)) (e (l := 9) (k := 7) _ _ _ rfl rfl)) (e (l := 10) (k := 6) _ _ _ rfl rfl)) (e (l := 11) (k := 5) _ _ _ rfl rfl)) (e (l := 12) (k := 4) _ _ _ rfl rfl)) (e (l := 13) (k := 3) _ _ _ rfl rfl)) (e (l := 14) (k := 2) _ _ _ rfl rfl)) (e (l := 15) (k := 1) _ _ _ rfl rfl)) (e (l := 16) (k := 0) _ _ _ rfl rfl))

theorem hh3 (R : Fin 8192) (j : Fin 512) : val_main_v217 (F := Ideal) x0 x3 x4 (ix2 R j) = hH x0 (bM x3) x4 R (col 3 j) := by
  rw [val_main_v217_apply, val_main_v181_apply, hd3, win3]
  unfold hH
  rw [grp_col, sub_eq_add_neg]
  exact add_comm _ _

/-! ## The results -/

/-- Of four terms, each present for its own group, the group's own remains. -/
theorem only (g : Fin 4) (f : Fin 4 → EReal) (a0 a1 a2 a3 : EReal) (h0 : f 0 = a0) (h1 : f 1 = a1) (h2 : f 2 = a2) (h3 : f 3 = a3) :
    (((if g = 3 then a3 else 0) + if g = 2 then a2 else 0) + if g = 1 then a1 else 0) + (if g = 0 then a0 else 0) = f g := by
  subst h0 h1 h2 h3
  match g with
  | ⟨0, _⟩ => simp
  | ⟨1, _⟩ => simp
  | ⟨2, _⟩ => simp
  | ⟨3, _⟩ => simp

theorem v267_col (R : Fin 8192) (g : Fin 4) (j : Fin 512) : val_main_v267 (F := Ideal) x0 x3 x4 (ix2 R (col g j)) = hH x0 (bM x3) x4 R (col g j) := by
  rw [val_main_v267_apply, val_main_v256_apply, val_main_v241_apply]
  refine Eq.trans ?_ (only g (fun a => hH x0 (bM x3) x4 R (col a j)) _ _ _ _ (hh0 x0 x4 x3 R j).symm (hh1 x0 x4 x3 R j).symm (hh2 x0 x4 x3 R j).symm (hh3 x0 x4 x3 R j).symm)
  exact congrArg₂ (· + ·) (congrArg₂ (· + ·) (congrArg₂ (· + ·)
    (pad_col _ _ _ _ Ideal.ofBits_zero_f32 3 rfl R g j) (pad_col _ _ _ _ Ideal.ofBits_zero_f32 2 rfl R g j))
    (pad_col _ _ _ _ Ideal.ofBits_zero_f32 1 rfl R g j)) (pad_col _ _ _ _ Ideal.ofBits_zero_f32 0 rfl R g j)

theorem v267_eq (R : Fin 8192) (C : Fin 2048) : val_main_v267 (F := Ideal) x0 x3 x4 (ix2 R C) = hH x0 (bM x3) x4 R C := by
  have := v267_col x0 x4 x3 R (grp C) (loc C)
  rwa [col_grp] at this

theorem v180_eq : val_main_v180 (F := Ideal) x0 x1 x2 x4 = wW x0 x4 (bA x1 x2) := by
  funext i
  obtain ⟨g, p, q, rfl⟩ : ∃ (g : Fin 4) (p q : Fin 512), i = ix3 g p q := ⟨i 0, i 1, i 2, ext3 i _ _ _ rfl rfl rfl⟩
  rw [val_main_v180_apply, val_main_v174_apply, val_main_v168_apply]
  refine Eq.trans ?_ (only g (fun a => ∑ R : Fin 8192, gW x0 x4 (bA x1 x2) a p q R) _ _ _ _ (gw0 x0 x1 x2 x4 p q).symm (gw1 x0 x1 x2 x4 p q).symm (gw2 x0 x1 x2 x4 p q).symm (gw3 x0 x1 x2 x4 p q).symm)
  exact congrArg₂ (· + ·) (congrArg₂ (· + ·) (congrArg₂ (· + ·)
    (pad_grp _ _ _ _ Ideal.ofBits_zero_f32 3 rfl g p q) (pad_grp _ _ _ _ Ideal.ofBits_zero_f32 2 rfl g p q))
    (pad_grp _ _ _ _ Ideal.ofBits_zero_f32 1 rfl g p q)) (pad_grp _ _ _ _ Ideal.ofBits_zero_f32 0 rfl g p q)

theorem v144_col (R : Fin 8192) (g : Fin 4) (j : Fin 512) :
    val_main_v144 (F := Ideal) x1 x2 x3 (ix2 R (col g j)) = ∑ k : Fin 512, bA x1 x2 (ix2 R (col g k)) * bM x3 (ix3 g k j) := by
  refine (cat4 _ _ _ _ _ R g j).trans ?_
  match g with
  | ⟨0, _⟩ => exact fw0 x1 x2 x3 R j
  | ⟨1, _⟩ => exact fw1 x1 x2 x3 R j
  | ⟨2, _⟩ => exact fw2 x1 x2 x3 R j
  | ⟨3, _⟩ => exact fw3 x1 x2 x3 R j

theorem v151_eq : val_main_v151 (F := Ideal) x0 x1 x2 x3 = wS x0 (bM x3) (bA x1 x2) := by
  funext i
  obtain ⟨z, C, rfl⟩ : ∃ (z : Fin 1) (C : Fin 2048), i = ix2 z C := ⟨i 0, i 1, ext2 i _ _ rfl rfl⟩
  rw [val_main_v151_apply, val_main_v150_apply, val_main_cst_22_apply]
  show Ideal.ofBits .f32 0x00000000#32 + _ = _
  rw [Ideal.ofBits_zero_f32, zero_add]
  refine Finset.sum_congr rfl fun R _ => ?_
  have hC := C.isLt
  have hi : idx_main_v150 (idx_main_v151 (ix2 z C : S1x2048.Idx)) R = ix2 R C := ext2 _ _ _ rfl (by show z.val * 2048 + C.val = C.val; omega)
  rw [hi, val_main_v149_apply, val_main_v148_apply]
  refine (mul_comm _ _).trans (congrArg₂ (· * ·) (congrArg x0 (ext2 _ R C ?_ ?_)) ?_)
  · show (R.val * 2048 + C.val) / 2048 = R.val; omega
  · show (R.val * 2048 + C.val) % 2048 = C.val; omega
  · have := v144_col x1 x2 x3 R (grp C) (loc C)
    rwa [col_grp] at this

theorem p7_eq (R : Fin 8192) (z : Fin 1) : val_main_v7 (F := Ideal) x1 (ix2 R z) = rt fun k => x1 (ix2 R k) := by
  rw [val_main_v7_apply, val_main_v6_apply, val_main_v4_apply, val_main_v5_apply, val_main_v3_apply, val_main_v2_apply, val_main_v1_apply, val_main_cst_apply, val_main_cst_0_apply, val_main_cst_1_apply]
  show Ideal.rsqrt (Ideal.div (Ideal.ofBits .f32 0x00000000#32 + _) nN + nE) = _
  rw [Ideal.ofBits_zero_f32, zero_add]
  refine congrArg (fun s => Ideal.rsqrt (Ideal.div s nN + nE)) (Finset.sum_congr rfl fun k _ => ?_)
  rw [val_main_v0_apply]
  exact congrArg (fun i => x1 i * x1 i) (ext2 _ R k rfl rfl)

theorem p6_eq (R : Fin 8192) (z : Fin 1) : val_main_v6 (F := Ideal) x1 (ix2 R z) = ms fun k => x1 (ix2 R k) := by
  rw [val_main_v6_apply, val_main_v4_apply, val_main_v5_apply, val_main_v3_apply, val_main_v2_apply, val_main_v1_apply, val_main_cst_apply, val_main_cst_0_apply, val_main_cst_1_apply]
  show Ideal.div (Ideal.ofBits .f32 0x00000000#32 + _) nN + nE = _
  rw [Ideal.ofBits_zero_f32, zero_add]
  unfold ms
  refine congrArg (fun s => Ideal.div s nN + nE) (Finset.sum_congr rfl fun k _ => ?_)
  rw [val_main_v0_apply]
  exact congrArg (fun i => x1 i * x1 i) (ext2 _ R k rfl rfl)

theorem v270_eq : val_main_v270 (F := Ideal) x0 x1 x3 x4 = wG x0 x1 (bM x3) x4 := by
  funext i
  obtain ⟨z, C, rfl⟩ : ∃ (z : Fin 1) (C : Fin 2048), i = ix2 z C := ⟨i 0, i 1, ext2 i _ _ rfl rfl⟩
  rw [val_main_v270_apply, val_main_v269_apply, val_main_cst_61_apply]
  show Ideal.ofBits .f32 0x00000000#32 + _ = _
  rw [Ideal.ofBits_zero_f32, zero_add]
  refine Finset.sum_congr rfl fun R _ => ?_
  have hi : idx_main_v269 (idx_main_v270 (ix2 z C : S1x2048.Idx)) R = ix2 R C := ext2 _ _ _ rfl (by show z.val * 2048 + C.val = C.val; omega)
  rw [hi, val_main_v268_apply, val_main_v12_apply, val_main_v11_apply, v267_eq]
  refine (mul_comm _ _).trans (congrArg (hH x0 (bM x3) x4 R C * ·) (congrArg (x1 (ix2 R C) * ·) ?_))
  exact (congrArg _ (ext2 _ R 0 rfl rfl)).trans (p7_eq x1 R 0)

/-- The gradient at the norm's result times the gain. -/
theorem v272_eq (R : Fin 8192) (C : Fin 2048) : val_main_v272 (F := Ideal) x0 x2 x3 x4 (ix2 R C) = hH x0 (bM x3) x4 R C * x2 (ix2 0 C) := by
  rw [val_main_v272_apply, v267_eq, val_main_v271_apply]
  exact congrArg (fun i => hH x0 (bM x3) x4 R C * x2 i) (ext2 _ 0 C rfl rfl)

theorem v283_eq (R : Fin 8192) (C : Fin 2048) : val_main_v283 (F := Ideal) x0 x1 x2 x3 x4 (ix2 R C) =
    sc (fun k => x1 (ix2 R k)) (fun k => hH x0 (bM x3) x4 R k) (fun k => x2 (ix2 0 k)) := by
  rw [val_main_v283_apply, val_main_v282_apply, val_main_cst_64_apply]
  show Ideal.ofBits .f32 0x00000000#32 + _ = _
  rw [Ideal.ofBits_zero_f32, zero_add, Fin.sum_univ_one]
  have hi : idx_main_v282 (idx_main_v283 (ix2 R C : S8192x2048.Idx)) 0 = ix2 R 0 := ext2 _ _ _ rfl rfl
  rw [hi, val_main_v281_apply, val_main_v280_apply, val_main_cst_63_apply, val_main_v279_apply, val_main_v10_apply, val_main_v9_apply, val_main_cst_2_apply, val_main_v8_apply,
    p7_eq, p6_eq, val_main_v275_apply, val_main_v274_apply, val_main_cst_62_apply]
  show Ideal.div ((Ideal.ofBits .f32 0x00000000#32 + _) * _) nN = _
  rw [Ideal.ofBits_zero_f32, zero_add]
  unfold sc
  refine congrArg (fun s => Ideal.div (s * _) nN) (Finset.sum_congr rfl fun k _ => ?_)
  have hk : idx_main_v274 (idx_main_v275 (ix2 R 0 : S8192x1.Idx)) k = ix2 R k := ext2 _ _ _ (by show R.val * 1 + 0 = R.val; omega) rfl
  rw [hk, val_main_v273_apply, v272_eq]
  rfl

theorem v287_eq : val_main_v287 (F := Ideal) x0 x1 x2 x3 x4 = wX x0 x1 x2 (bM x3) x4 := by
  funext i
  obtain ⟨R, C, rfl⟩ : ∃ (R : Fin 8192) (C : Fin 2048), i = ix2 R C := ⟨i 0, i 1, ext2 i _ _ rfl rfl⟩
  show _ = x0 (ix2 R C) + dxr (fun k => x1 (ix2 R k)) (fun k => hH x0 (bM x3) x4 R k) (fun k => x2 (ix2 0 k)) C
  rw [val_main_v287_apply, val_main_v286_apply, val_main_v285_apply, val_main_v284_apply, val_main_v278_apply, val_main_v277_apply, v272_eq, v283_eq, val_main_v276_apply, ← dxr_eq]
  have h7 : val_main_v7 (F := Ideal) x1 (idx_main_v276 (ix2 R C : S8192x2048.Idx)) = rt fun k => x1 (ix2 R k) := (congrArg _ (ext2 _ R 0 rfl rfl)).trans (p7_eq x1 R 0)
  rw [h7]
  unfold dxp
  exact (add_assoc _ _ _).trans ((add_assoc _ _ _).trans (congrArg (x0 (ix2 R C) + ·) (add_assoc _ _ _).symm))

theorem v288_eq : val_main_v288 (F := Ideal) x0 x1 x2 x3 x4 = wX x0 x1 x2 (bM x3) x4 := by
  refine Eq.trans ?_ (v287_eq x0 x1 x2 x4 x3)
  funext i
  rw [val_main_v288_apply]
  rfl

end Cert.Kernel14Ideal.Pool

end
-- ==== Proof.Pool.lean ====
module

public import proofs.«01_k».proof.Proof.PoolHost
public import proofs.«01_k».proof.Proof.PoolRef
public import proofs.«01_k».proof.Proof.Gen.Reference14Ideal.Run

@[expose] public section

set_option maxRecDepth 16384

noncomputable section

namespace Cert.Kernel14Ideal.Pool

open Idealize.ShloMosaic Idealize.ShloMosaic.TcCoe
open Cert.Kernel14Ideal Cert.Kernel14Ideal.Gen Cert.Kernel14Ideal.Value

/-! ## The kernel and its reference -/

variable (m : (ℓ : Loc nD τ sig) → Idealize.ShloMosaic.Buf (Elt Ideal) ℓ)

/-- The gradient, the rows, the gain, the matrices and the scale, as launched. -/
abbrev aD (c : Dev nD) : Vec Ideal S8192x2048 .f32 := m ((c.tc : Thread nD τ).loc main_arg0)
abbrev aX (c : Dev nD) : Vec Ideal S8192x2048 .f32 := m ((c.tc : Thread nD τ).loc main_arg1)
abbrev aG (c : Dev nD) : Vec Ideal S1x2048 .f32 := m ((c.tc : Thread nD τ).loc main_arg2)
abbrev aW (c : Dev nD) : Vec Ideal S4x512x512 .f32 := m ((c.tc : Thread nD τ).loc main_arg3)
abbrev aS (c : Dev nD) : Vec Ideal S1x2048 .f32 := m ((c.tc : Thread nD τ).loc main_arg4)

theorem vD_eq (c : Dev nD) : vD m c = aD m c := V_main_arg0 m c
theorem vX_eq (c : Dev nD) : vX m c = aX m c := V_main_arg1 m c
theorem vG_eq (c : Dev nD) : vG m c = aG m c := V_main_arg2 m c
theorem vS_eq (c : Dev nD) : vS m c = aS m c := V_main_arg4 m c
theorem vM_eq (c : Dev nD) : vM m c = bM (aW m c) := (w1_v126 m c).trans rfl
theorem vA_eq (c : Dev nD) : vA m c = bA (aX m c) (aG m c) := by
  funext i
  obtain ⟨R, C, rfl⟩ : ∃ (R : Fin 8192) (C : Fin 2048), i = ix2 R C := ⟨i 0, i 1, ext2 i _ _ rfl rfl⟩
  have h := cat4 (Cert.Reference14Ideal.Read.val_main_v33 (F := Ideal) (aX m c) (aG m c)) (Cert.Reference14Ideal.Read.val_main_v55 (F := Ideal) (aX m c) (aG m c))
    (Cert.Reference14Ideal.Read.val_main_v85 (F := Ideal) (aX m c) (aG m c)) (Cert.Reference14Ideal.Read.val_main_v131 (F := Ideal) (aX m c) (aG m c))
    concatenates_S8192x512_S8192x512_S8192x512_S8192x512_S8192x2048_d1 R (grp C) (loc C)
  rw [col_grp] at h
  exact (congrFun (w1_v127 m c) (ix2 R C)).trans h

theorem same4 {α β γ δ ζ : Type} (f : α → β → γ → δ → ζ) {a a' : α} {b b' : β} {c c' : γ} {d d' : δ}
    (ha : a = a') (hb : b = b') (hc : c = c') (hd : d = d') : f a b c d = f a' b' c' d' := by
  subst ha hb hc hd; rfl

theorem same5 {α β γ δ ε ζ : Type} (f : α → β → γ → δ → ε → ζ) {a a' : α} {b b' : β} {c c' : γ} {d d' : δ} {e e' : ε}
    (ha : a = a') (hb : b = b') (hc : c = c') (hd : d = d') (he : e = e') : f a b c d e = f a' b' c' d' e' := by
  subst ha hb hc hd he; rfl

/-- The results in the arrays as launched. -/
theorem rows_eq (c : Dev nD) : wX (vD m c) (vX m c) (vG m c) (vM m c) (vS m c) = wX (aD m c) (aX m c) (aG m c) (bM (aW m c)) (aS m c) := by
  rw [vD_eq, vX_eq, vG_eq, vM_eq, vS_eq]
theorem mats_eq (c : Dev nD) : wW (vD m c) (vS m c) (vA m c) = wW (aD m c) (aS m c) (bA (aX m c) (aG m c)) := by
  rw [vD_eq, vS_eq, vA_eq]
theorem scale_eq (c : Dev nD) : wS (vD m c) (vM m c) (vA m c) = wS (aD m c) (bM (aW m c)) (bA (aX m c) (aG m c)) := by
  rw [vD_eq, vM_eq, vA_eq]
theorem gain_eq (c : Dev nD) : wG (vD m c) (vX m c) (vM m c) (vS m c) = wG (aD m c) (aX m c) (bM (aW m c)) (aS m c) := by
  rw [vD_eq, vX_eq, vM_eq, vS_eq]

/-- The kernel and its reference end with equal results. -/
theorem equal : Cert.algebraic_Kernel14Ideal_Reference14Ideal := by
  intro m g m' g' _ hagree
  refine ⟨fun c => wX (aD m c) (aX m c) (aG m c) (bM (aW m c)) (aS m c), fun c => wX (aD m c) (aX m c) (aG m c) (bM (aW m c)) (aS m c),
    fun c => wW (aD m c) (aS m c) (bA (aX m c) (aG m c)), fun c => wS (aD m c) (bM (aW m c)) (bA (aX m c) (aG m c)),
    fun c => wG (aD m c) (aX m c) (bM (aW m c)) (aS m c), ?_, ?_⟩
  · refine (θ_run defs _ _).mono (fun r h c => ?_) (run_blocks m g)
    obtain ⟨h7, h8, h9, h10, h11, hk⟩ := h c
    exact ⟨(h7.trans (funext fun i => result7 m c i)).trans (rows_eq m c), (h8.trans (funext fun i => result8 m c i)).trans (rows_eq m c),
      (h9.trans (result9 m c)).trans (mats_eq m c), (h10.trans (result10 m c)).trans (scale_eq m c), (h11.trans (result11 m c)).trans (gain_eq m c), hk⟩
  · refine (θ_run Cert.Reference14Ideal.defs _ _).mono (fun r h c => ?_) (Cert.Reference14Ideal.Value.run (F := Ideal) m' g')
    obtain ⟨a0, a1, a2, a3, a4⟩ := hagree c
    obtain ⟨h1, h2, h3, h4, h5, hk⟩ := h c
    exact ⟨((h1.trans (Cert.Reference14Ideal.Read.val_main_v287_eq (F := Ideal) _)).trans (same5 (Cert.Reference14Ideal.Read.val_main_v287 (F := Ideal)) a0 a1 a2 a3 a4)).trans (v287_eq _ _ _ _ _),
      ((h2.trans (Cert.Reference14Ideal.Read.val_main_v288_eq (F := Ideal) _)).trans (same5 (Cert.Reference14Ideal.Read.val_main_v288 (F := Ideal)) a0 a1 a2 a3 a4)).trans (v288_eq _ _ _ _ _),
      ((h3.trans (Cert.Reference14Ideal.Read.val_main_v180_eq (F := Ideal) _)).trans (same4 (Cert.Reference14Ideal.Read.val_main_v180 (F := Ideal)) a0 a1 a2 a4)).trans (v180_eq _ _ _ _),
      ((h4.trans (Cert.Reference14Ideal.Read.val_main_v151_eq (F := Ideal) _)).trans (same4 (Cert.Reference14Ideal.Read.val_main_v151 (F := Ideal)) a0 a1 a2 a3)).trans (v151_eq _ _ _ _),
      ((h5.trans (Cert.Reference14Ideal.Read.val_main_v270_eq (F := Ideal) _)).trans (same4 (Cert.Reference14Ideal.Read.val_main_v270 (F := Ideal)) a0 a1 a3 a4)).trans (v270_eq _ _ _ _), hk⟩

end Cert.Kernel14Ideal.Pool

end
-- ==== Proof.PoolFwdTile.lean ====
module

public import proofs.«01_k».proof.Proof.Gen.Kernel15Ideal.Value
public import proofs.«01_k».proof.Proof.PoolPoint

@[expose] public section

set_option maxRecDepth 16384

noncomputable section

namespace Cert.Kernel15Ideal.PoolFwd

open Idealize.ShloMosaic Idealize.ShloMosaic.TcCoe
open Cert.Kernel15Ideal.Gen Cert.Kernel15Ideal.Value
open Cert.KernelIdeal.Gate (emb2 blk readAt_blk)
open Cert.Kernel13Ideal.Norm (rt nN nE)
open Cert.Kernel14Ideal.Pool (col grp loc grp_col loc_col col_grp col_zero cnt wd Buf Rd Rd_apply Ok ok_of ok_rows rd_of mem_piece W)

/-- An index of a rank-two shape is its two coordinates. -/
theorem ix_split {a b : ℕ} (y : (⟨2, ![a, b]⟩ : Shape).Idx) : ∃ (r : Fin a) (j : Fin b), y = ix2 r j := ⟨y 0, y 1, by
  funext a
  match a with
  | ⟨0, _⟩ => rfl
  | ⟨1, _⟩ => rfl⟩

/-! ## The payloads, by entry -/

/-- A row divided by its root mean square and scaled, at an entry. -/
def nrm {n : ℕ} (x : Vec Ideal ⟨2, ![n, 2048]⟩ .f32) (g : Vec Ideal S1x2048 .f32) (r : Fin n) (C : Fin 2048) : EReal :=
  x (ix2 r C) * rt (fun k => x (ix2 r k)) * g (ix2 0 C)

theorem pay2_eq (g : Vec Ideal S1x2048 .f32) (x : Vec Ideal S256x2048 .f32) (r : Fin 256) (C : Fin 2048) :
    k0_pay2 g x (ix2 r C) = nrm x g r C := by
  unfold k0_pay2 nrm rt nN nE
  pointwise
  try rfl

theorem pay4_eq (g : Vec Ideal S1x2048 .f32) (x : Vec Ideal S256x2048 .f32) (r : Fin 256) (C : Fin 2048) :
    k0_pay4 g x (ix2 r C) = nrm x g r C := by
  rw [← pay2_eq]
  unfold k0_pay4
  generalize k0_pay2 g x = u
  pointwise
  try rfl

theorem pay3_eq (i : grid0.Coords) (g : Vec Ideal S1x2048 .f32) (x : Vec Ideal S32x2048 .f32) (r : Fin 32) (C : Fin 2048) :
    k0_pay3 i g x (ix2 r C) = if Scalar.cmpi .sgt (BitVec.ofNat 32 (i 0).val) 0#32 = 1#1 then nrm x g r C else 0 := by
  unfold k0_pay3 nrm rt nN nE
  pointwise
  try rfl

/-- Eight rows of zeros. -/
def zero8 : Vec Ideal S8x2048 .f32 := fun _ => 0

theorem zeros : k0_pay6 (F := Ideal) k0_pay5 = zero8 ∧ k0_pay7 (F := Ideal) = zero8 ∧ k0_pay8 (F := Ideal) = zero8 ∧ k0_pay9 (F := Ideal) = zero8 := by
  refine ⟨?_, ?_, ?_, ?_⟩ <;> funext y
  · unfold k0_pay6 k0_pay5 zero8; pointwise; try exact Ideal.ofBits_zero_f32
  · unfold k0_pay7 zero8; pointwise; try exact Ideal.ofBits_zero_f32
  · unfold k0_pay8 zero8; pointwise; try exact Ideal.ofBits_zero_f32
  · unfold k0_pay9 zero8; pointwise; try exact Ideal.ofBits_zero_f32

/-- Two reads added up. -/
def sum2 (a b : Vec Ideal S280x512 .f32) : Vec Ideal S280x512 .f32 := fun y => a y + b y

theorem sums (a b : Vec Ideal S280x512 .f32) :
    k0_pay10 a b = sum2 a b ∧ k0_pay11 a b = sum2 a b ∧ k0_pay12 a b = sum2 a b ∧ k0_pay13 a b = sum2 a b ∧ k0_pay14 a b = sum2 a b
      ∧ k0_pay15 a b = sum2 a b ∧ k0_pay16 a b = sum2 a b ∧ k0_pay17 a b = sum2 a b ∧ k0_pay18 a b = sum2 a b ∧ k0_pay19 a b = sum2 a b := by
  refine ⟨?_, ?_, ?_, ?_, ?_, ?_, ?_, ?_, ?_, ?_⟩ <;> funext y <;> unfold sum2
  · unfold k0_pay10; pointwise; try rfl
  · unfold k0_pay11; pointwise; try rfl
  · unfold k0_pay12; pointwise; try rfl
  · unfold k0_pay13; pointwise; try rfl
  · unfold k0_pay14; pointwise; try rfl
  · unfold k0_pay15; pointwise; try rfl
  · unfold k0_pay16; pointwise; try rfl
  · unfold k0_pay17; pointwise; try rfl
  · unfold k0_pay18; pointwise; try rfl
  · unfold k0_pay19; pointwise; try rfl

theorem pay20_eq (a : BitVec 32) (r : Fin 256) : k0_pay20 a (ix2 r 0) = a * 256#32 + BitVec.ofNat 32 r.val := by
  unfold k0_pay20
  pointwise
  try rfl

/-- A group's averages less its own entries. -/
def dif (a : IVec S256x1 32) (h : FVec Ideal S256x2048 .f32) (g : Fin 4) (v : Vec Ideal S256x512 .f32) : Vec Ideal S256x512 .bf16 := fun y =>
  Ideal.div (v y) (cnt (a (ix2 (y 0) 0)) (wd g)) - h (ix2 (y 0) (col g (y 1)))

theorem difs (a : BitVec 32) (h : FVec Ideal S256x2048 .f32) (v : Vec Ideal S256x512 .f32) :
    k0_pay21 a h v = dif (k0_pay20 a) h 0 v ∧ k0_pay23 h (k0_pay20 a) v = dif (k0_pay20 a) h 1 v
      ∧ k0_pay26 h (k0_pay20 a) k0_pay25 v = dif (k0_pay20 a) h 2 v ∧ k0_pay28 h (k0_pay20 a) v = dif (k0_pay20 a) h 3 v := by
  refine ⟨?_, ?_, ?_, ?_⟩ <;> funext y <;> obtain ⟨r, j, rfl⟩ := ix_split y <;> unfold dif
  · unfold k0_pay21 cnt
    generalize k0_pay20 a = u
    show _ = Ideal.div (v (ix2 r j)) _ - h (ix2 r (col 0 j))
    rw [col_zero]
    pointwise
    try rfl
  · unfold k0_pay23 cnt; generalize k0_pay20 a = u; pointwise; try rfl
  · unfold k0_pay26 k0_pay25 cnt; generalize k0_pay20 a = u; pointwise; try rfl
  · unfold k0_pay28 cnt; generalize k0_pay20 a = u; pointwise; try rfl

/-- A group of the result: the input plus the mixed and scaled differences. -/
def mix (x : Vec Ideal S256x2048 .f32) (d : FVec Ideal S256x512 .bf16) (w : Vec Ideal S1x512x512 .bf16) (s : Vec Ideal S1x512 .f32) (g : Fin 4) :
    Vec Ideal S256x512 .f32 := fun y =>
  x (ix2 (y 0) (col g (y 1))) + (∑ k : Fin 512, d (ix2 (y 0) k) * w (ix3 0 k (y 1))) * s (ix2 0 (y 1))

theorem mix0 (x : Vec Ideal S256x2048 .f32) (d : FVec Ideal S256x512 .bf16) (w : Vec Ideal S1x512x512 .bf16) (s : Vec Ideal S1x512 .f32) :
    k0_pay22 x d w s = mix x d w s 0 := by
  funext y
  obtain ⟨r, j, rfl⟩ := ix_split y
  unfold k0_pay22 mix
  show _ = x (ix2 r (col 0 j)) + _
  rw [col_zero]
  pointwise
  try rfl

theorem mix1 (x : Vec Ideal S256x2048 .f32) (a : IVec S256x1 32) (h : FVec Ideal S256x2048 .f32) (v : Vec Ideal S256x512 .f32)
    (w : Vec Ideal S1x512x512 .bf16) (s : Vec Ideal S1x512 .f32) : k0_pay24 x h a v w s = mix x (k0_pay23 h a v) w s 1 := by
  funext y
  obtain ⟨r, j, rfl⟩ := ix_split y
  unfold k0_pay24 mix
  generalize k0_pay23 h a v = u
  pointwise
  try rfl

theorem mix2 (x : Vec Ideal S256x2048 .f32) (a b : IVec S256x1 32) (h : FVec Ideal S256x2048 .f32) (v : Vec Ideal S256x512 .f32)
    (w : Vec Ideal S1x512x512 .bf16) (s : Vec Ideal S1x512 .f32) : k0_pay27 x h a b v w s = mix x (k0_pay26 h a b v) w s 2 := by
  funext y
  obtain ⟨r, j, rfl⟩ := ix_split y
  unfold k0_pay27 mix
  generalize k0_pay26 h a b v = u
  pointwise
  try rfl

theorem mix3 (x : Vec Ideal S256x2048 .f32) (d : FVec Ideal S256x512 .bf16) (w : Vec Ideal S1x512x512 .bf16) (s : Vec Ideal S1x512 .f32) :
    k0_pay1 x d (k0_pay29 w) (constant (F := Ideal) S256x512 .f32 0x00000000#32) s = mix x d w s 3 := by
  funext y
  obtain ⟨r, j, rfl⟩ := ix_split y
  unfold k0_pay1 k0_pay29 mix
  pointwise
  try rfl

/-! ## The buffers of the window sums -/

/-- The normed rows of a tile, after the last rows before it. -/
def base (i : grid0.Coords) (x : Vec Ideal S256x2048 .f32) (h : Vec Ideal S32x2048 .f32) (g : Vec Ideal S1x2048 .f32) : Buf := fun r C =>
  if h' : r < 32 then if Scalar.cmpi .sgt (BitVec.ofNat 32 (i 0).val) 0#32 = 1#1 then nrm h g ⟨r, h'⟩ C else 0
  else if h' : r - 32 < 256 then nrm x g ⟨r - 32, h'⟩ C else 0

/-- One more level of the window sums: a row and the one `k` before it, added up. -/
def lev (P : Buf) (k : ℕ) : Buf := fun r C => if 8 ≤ r then P r C + P (r - k) C else 0

/-- Stored pieces of a level: the zero rows, then the groups' columns one by one. -/
inductive Lev (P : Buf) (k o : ℕ) : List (Fin 4) → List (View.Piece (Elt Ideal) S288x2048 .f32) → Prop
  | nil (inb) : Lev P k o [] [⟨Rect.unit (s := S288x2048) ![0, 0] S8x2048.size inb, zero8⟩]
  | cons (g : Fin 4) (c : ℕ) (hc : 512 * g.val = c) (inb) {gs L} (h : Lev P k o gs L) :
      Lev P k o (g :: gs) (⟨Rect.unit (s := S288x2048) ![8, c] S280x512.size inb, sum2 (Rd P 8 g 280) (Rd P o g 280)⟩ :: L)

theorem Lev.ok {P : Buf} {k o : ℕ} {gs L} (h : Lev P k o gs L) (ho : o + k = 8) : ∀ p ∈ L, Ok (lev P k) p := by
  induction h with
  | nil inb =>
    intro p hp
    obtain rfl := List.mem_singleton.1 hp
    refine ok_rows _ _ _ fun r C => ?_
    have := r.isLt
    exact (if_neg (by omega : ¬ 8 ≤ 0 + r.val)).symm
  | cons g c hc inb h ih =>
    intro p hp
    rcases List.mem_cons.1 hp with rfl | hp
    · refine ok_of _ g hc _ _ fun r j => ?_
      refine Eq.trans ?_ (if_pos (by omega : 8 ≤ 8 + r.val)).symm
      rw [show 8 + r.val - k = o + r.val by omega]
      rfl
    · exact ih p hp

theorem Lev.cov {P : Buf} {k o : ℕ} {gs L} (h : Lev P k o gs L) (g : Fin 4) (hg : g ∈ gs) (r : ℕ) (hr : r < 288) :
    ∃ p ∈ L, ∀ (h : r < 288) (j : Fin 512), (ix2 ⟨r, h⟩ (col g j) : S288x2048.Idx) ∈ p.1.set := by
  by_cases h8 : r < 8
  · suffices key : ∀ gs, Lev P k o gs L → ∃ p ∈ L, ∀ (h : r < 288) (j : Fin 512), (ix2 ⟨r, h⟩ (col g j) : S288x2048.Idx) ∈ p.1.set from key gs h
    clear hg h
    intro gs h
    induction h with
    | nil inb => exact ⟨_, List.mem_cons_self, fun h j => mem_piece inb _ h _ (by omega) (by omega) (by omega) (by have := (col g j).isLt; omega)⟩
    | cons g c hc inb h ih =>
      obtain ⟨p, hp, e⟩ := ih
      exact ⟨p, List.mem_cons_of_mem _ hp, e⟩
  · induction h with
    | nil inb => cases hg
    | cons g' c hc inb h ih =>
      rcases List.mem_cons.1 hg with rfl | hg
      · exact ⟨_, List.mem_cons_self, fun h j => mem_piece inb _ h _ (by omega) (by omega) (by show c ≤ 512 * g.val + j.val; omega) (by show 512 * g.val + j.val < c + 512; have := j.isLt; omega)⟩
      · obtain ⟨p, hp, e⟩ := ih hg
        exact ⟨p, List.mem_cons_of_mem _ hp, e⟩

theorem Lev.rd {sig : RefSig} {κ : Kind} {sp : Space} (v : View sig κ sp S288x2048 .f32) {P : Buf} {k o : ℕ} {gs L} (h : Lev P k o gs L) (ho : o + k = 8)
    (q c : ℕ) (g : Fin 4) (hg : g ∈ gs) (hc : 512 * g.val = c) (inb) :
    v.readCov L (Rect.unit (s := S288x2048) ![q, c] S280x512.size inb).toLoadRect = Rd (lev P k) q g 280 :=
  rd_of v L _ g hc inb (h.ok ho) fun r hr => h.cov g hg _ (by have := inb 0; simp at this; omega)

theorem Lev.rd32 {sig : RefSig} {κ : Kind} {sp : Space} (v : View sig κ sp S288x2048 .f32) {P : Buf} {k o : ℕ} {gs L} (h : Lev P k o gs L) (ho : o + k = 8)
    (c : ℕ) (g : Fin 4) (hg : g ∈ gs) (hc : 512 * g.val = c) (inb) :
    v.readCov L (Rect.unit (s := S288x2048) ![32, c] S256x512.size inb).toLoadRect = Rd (lev P k) 32 g 256 :=
  rd_of v L _ g hc inb (h.ok ho) fun r hr => h.cov g hg _ (by omega)

theorem rdE {sig : RefSig} {κ : Kind} {sp : Space} (v : View sig κ sp S288x2048 .f32) (i : grid0.Coords) (x : Vec Ideal S256x2048 .f32) (h : Vec Ideal S32x2048 .f32)
    (gn : Vec Ideal S1x2048 .f32) (h0 h1) (q c : ℕ) (g : Fin 4) (hc : 512 * g.val = c) (inb) :
    v.readCov ([⟨Rect.unit (s := S288x2048) ![32, 0] S256x2048.size h1, k0_pay4 gn x⟩,
      ⟨Rect.unit (s := S288x2048) ![0, 0] S32x2048.size h0, k0_pay3 i gn h⟩] : List (View.Piece (Elt Ideal) S288x2048 .f32))
      (Rect.unit (s := S288x2048) ![q, c] S280x512.size inb).toLoadRect = Rd (base i x h gn) q g 280 := by
  refine rd_of v _ _ g hc inb ?_ fun r hr => ?_
  · simp only [List.forall_mem_cons]
    refine ⟨?_, ?_, fun _ h => absurd h List.not_mem_nil⟩
    · refine ok_rows _ _ _ fun r C => (pay4_eq _ _ r C).trans ?_
      unfold base
      have e : 32 + r.val - 32 = r.val := by omega
      rw [dif_neg (by omega), dif_pos (by omega : 32 + r.val - 32 < 256)]
      simp only [e]
    · refine ok_rows _ _ _ fun r C => (pay3_eq i _ _ r C).trans ?_
      unfold base
      have e : 0 + r.val = r.val := by omega
      rw [dif_pos (by omega : 0 + r.val < 32)]
      simp only [e]
  · have hq : q + r < 288 := by have := inb 0; simp at this; omega
    by_cases h : q + r < 32
    · exact ⟨_, List.mem_cons_of_mem _ List.mem_cons_self, fun hh j => mem_piece h0 _ hh _ (by omega) (by omega) (by omega) (by have := (col g j).isLt; omega)⟩
    · exact ⟨_, List.mem_cons_self, fun hh j => mem_piece h1 _ hh _ (by omega) (by omega) (by omega) (by have := (col g j).isLt; omega)⟩

end Cert.Kernel15Ideal.PoolFwd

end
-- ==== Proof.PoolFwdPoint.lean ====
module

public import proofs.«01_k».proof.Proof.PoolFwdTile

@[expose] public section

set_option maxRecDepth 16384

noncomputable section

namespace Cert.Kernel15Ideal.PoolFwd

open Idealize.ShloMosaic Idealize.ShloMosaic.TcCoe
open Cert.Kernel15Ideal.Gen Cert.Kernel15Ideal.Value
open Cert.KernelIdeal.Gate (emb2 blk readAt_blk read_of_pieces)
open Cert.Kernel13Ideal.Norm (rt nN nE)
open Cert.Kernel14Ideal.Pool (col grp loc grp_col loc_col col_grp col_zero cnt wd Buf Rd Rd_apply W)

theorem w_load {m : Memref sig .tc .vmem S4x512x512 .bf16} (h : m.IsWhole) (x : Vec Ideal S4x512x512 .bf16) {o : ℕ} (g : Fin 4) (hg : g.val = o)
    (inb : ∀ x, (![o, 0, 0] : Fin 3 → ℕ) x + (![1, 512, 512] : Fin 3 → ℕ) x ≤ S4x512x512.size x) :
    View.readAt (Elt Ideal) m.view (Rect.unit (s := S4x512x512) ![o, 0, 0] S1x512x512.size inb).toLoadRect (h.unread x) = W x g := by
  rw [readAt_blk m h]
  funext y
  show x _ = x _
  refine congrArg x (funext fun a => Fin.ext ?_)
  match a with
  | ⟨0, _⟩ => show o + 1 * (y 0).val = g.val; have : (y 0).val < 1 := (y 0).isLt; omega
  | ⟨1, _⟩ => show 0 + 1 * (y 1).val = (y 1).val; omega
  | ⟨2, _⟩ => show 0 + 1 * (y 2).val = (y 2).val; omega

/-- A group's columns of the scale. -/
def Sg (x : Vec Ideal S1x2048 .f32) (g : Fin 4) : Vec Ideal S1x512 .f32 := fun y => x (ix2 0 (col g (y 1)))

theorem s_load {m : Memref sig .tc .vmem S1x2048 .f32} (h : m.IsWhole) (x : Vec Ideal S1x2048 .f32) {c : ℕ} (g : Fin 4) (hg : 512 * g.val = c)
    (inb : ∀ x, (![0, c] : Fin 2 → ℕ) x + (![1, 512] : Fin 2 → ℕ) x ≤ S1x2048.size x) :
    View.readAt (Elt Ideal) m.view (Rect.unit (s := S1x2048) ![0, c] S1x512.size inb).toLoadRect (h.unread x) = Sg x g := by
  rw [readAt_blk m h]
  funext y
  show x _ = x _
  refine congrArg x (funext fun a => Fin.ext ?_)
  match a with
  | ⟨0, _⟩ => show 0 + 1 * (y 0).val = 0; have : (y 0).val < 1 := (y 0).isLt; omega
  | ⟨1, _⟩ => show c + 1 * (y 1).val = 512 * g.val + (y 1).val; omega

/-- The buffers of the window sums, one after the other. -/
def LV (E : Buf) : Fin 4 → Buf := ![lev E 1, lev (lev E 1) 2, lev (lev (lev E 1) 2) 4, lev (lev (lev (lev E 1) 2) 4) 8]

/-- A tile of the differences. -/
def tD (i : grid0.Coords) (x0 : Vec Ideal S256x2048 .f32) (x1 : Vec Ideal S32x2048 .f32) (x2 : Vec Ideal S1x2048 .f32) : Vec Ideal S256x2048 .bf16 := fun y =>
  Ideal.div (LV (base i x0 x1 x2) (grp (y 1)) (32 + (y 0).val) (y 1))
    (cnt (BitVec.ofNat 32 (i 0).val * 256#32 + BitVec.ofNat 32 (y 0).val) (wd (grp (y 1)))) - nrm x0 x2 (y 0) (y 1)

/-- A tile of the result. -/
def tO (i : grid0.Coords) (x0 : Vec Ideal S256x2048 .f32) (x1 : Vec Ideal S32x2048 .f32) (x2 : Vec Ideal S1x2048 .f32) (x3 : Vec Ideal S4x512x512 .bf16)
    (x4 : Vec Ideal S1x2048 .f32) : Vec Ideal S256x2048 .f32 := fun y =>
  x0 y + (∑ k : Fin 512, tD i x0 x1 x2 (ix2 (y 0) (col (grp (y 1)) k)) * x3 (ix3 (grp (y 1)) k (loc (y 1)))) * x4 (ix2 0 (y 1))

theorem emb_grp {c : ℕ} (g : Fin 4) (hc : 512 * g.val = c) (inb : ∀ x, (![0, c] : Fin 2 → ℕ) x + (![256, 512] : Fin 2 → ℕ) x ≤ S256x2048.size x)
    (r : Fin 256) (j : Fin 512) : (Rect.unit (s := S256x2048) ![0, c] ![256, 512] inb).emb (ix2 r j) = ix2 r (col g j) := by
  refine (emb2 (a := 256) (b := 2048) inb r j).trans (congrArg₂ ix2 (Fin.ext ?_) (Fin.ext ?_))
  · show 0 + r.val = r.val; omega
  · show c + j.val = 512 * g.val + j.val; omega

theorem dif_apply (i : grid0.Coords) (x0 : Vec Ideal S256x2048 .f32) (x1 : Vec Ideal S32x2048 .f32) (x2 : Vec Ideal S1x2048 .f32) (g : Fin 4) (r : Fin 256) (j : Fin 512) :
    dif (k0_pay20 (BitVec.ofNat 32 (i 0).val)) (k0_pay2 x2 x0) g (Rd (LV (base i x0 x1 x2) g) 32 g 256) (ix2 r j) = tD i x0 x1 x2 (ix2 r (col g j)) := by
  unfold dif tD
  show Ideal.div _ (cnt (k0_pay20 _ (ix2 r 0)) _) - k0_pay2 x2 x0 (ix2 r (col g j)) = Ideal.div (LV _ (grp (col g j)) (32 + r.val) (col g j)) (cnt _ (wd (grp (col g j)))) - nrm x0 x2 r (col g j)
  rw [pay2_eq, pay20_eq, grp_col]
  rfl

theorem piece_d (i : grid0.Coords) (x0 : Vec Ideal S256x2048 .f32) (x1 : Vec Ideal S32x2048 .f32) (x2 : Vec Ideal S1x2048 .f32) {c : ℕ} (g : Fin 4) (hc : 512 * g.val = c) (inb)
    (x : S256x512.Idx) : dif (k0_pay20 (BitVec.ofNat 32 (i 0).val)) (k0_pay2 x2 x0) g (Rd (LV (base i x0 x1 x2) g) 32 g 256) x
      = tD i x0 x1 x2 ((Rect.unit (s := S256x2048) ![0, c] S256x512.size inb).emb x) := by
  obtain ⟨r, j, rfl⟩ := ix_split x
  exact (dif_apply i x0 x1 x2 g r j).trans (congrArg (tD i x0 x1 x2) (emb_grp g hc inb r j).symm)

theorem piece_o (i : grid0.Coords) (x0 : Vec Ideal S256x2048 .f32) (x1 : Vec Ideal S32x2048 .f32) (x2 : Vec Ideal S1x2048 .f32) (x3 : Vec Ideal S4x512x512 .bf16)
    (x4 : Vec Ideal S1x2048 .f32) {c : ℕ} (g : Fin 4) (hc : 512 * g.val = c) (inb) (x : S256x512.Idx) :
    mix x0 (dif (k0_pay20 (BitVec.ofNat 32 (i 0).val)) (k0_pay2 x2 x0) g (Rd (LV (base i x0 x1 x2) g) 32 g 256)) (W x3 g) (Sg x4 g) g x
      = tO i x0 x1 x2 x3 x4 ((Rect.unit (s := S256x2048) ![0, c] S256x512.size inb).emb x) := by
  obtain ⟨r, j, rfl⟩ := ix_split x
  refine Eq.trans ?_ (congrArg (tO i x0 x1 x2 x3 x4) (emb_grp g hc inb r j).symm)
  unfold mix tO
  show x0 (ix2 r (col g j)) + (∑ k : Fin 512, dif _ _ g _ (ix2 r k) * x3 (ix3 g k j)) * x4 (ix2 0 (col g j))
    = x0 (ix2 r (col g j)) + (∑ k : Fin 512, tD i x0 x1 x2 (ix2 r (col (grp (col g j)) k)) * x3 (ix3 (grp (col g j)) k (loc (col g j)))) * x4 (ix2 0 (col g j))
  rw [grp_col, loc_col]
  simp only [dif_apply]

section
variable (c : Dev nD) (i : grid0.Coords) (arg1 : Memref sig .tc .vmem S256x2048 .f32) (harg1 : arg1.IsWhole) (arg2 : Memref sig .tc .vmem S32x2048 .f32) (harg2 : arg2.IsWhole)
  (arg3 : Memref sig .tc .vmem S1x2048 .f32) (harg3 : arg3.IsWhole) (arg4 : Memref sig .tc .vmem S4x512x512 .bf16) (harg4 : arg4.IsWhole)
  (arg5 : Memref sig .tc .vmem S1x2048 .f32) (harg5 : arg5.IsWhole) (arg6 : Memref sig .tc .vmem S256x2048 .f32) (harg6 : arg6.IsWhole)
  (arg7 : Memref sig .tc .vmem S256x2048 .bf16) (harg7 : arg7.IsWhole) (arg8 : Memref sig .tc .vmem S288x2048 .f32) (harg8 : arg8.IsWhole)
  (arg9 : Memref sig .tc .vmem S288x2048 .f32) (harg9 : arg9.IsWhole) (arg10 : Memref sig .tc .vmem S288x2048 .f32) (harg10 : arg10.IsWhole)
  (arg11 : Memref sig .tc .vmem S288x2048 .f32) (harg11 : arg11.IsWhole) (arg12 : Memref sig .tc .vmem S288x2048 .f32) (harg12 : arg12.IsWhole)
  (x0 : Vec Ideal S256x2048 .f32) (x1 : Vec Ideal S32x2048 .f32) (x2 : Vec Ideal S1x2048 .f32) (x3 : Vec Ideal S4x512x512 .bf16) (x4 : Vec Ideal S1x2048 .f32)

set_option maxHeartbeats 4000000 in
/-- The body's stores into the two results agree with the tiles. -/
theorem pieces : (∀ p ∈ (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4).1,
      ∀ x : p.1.shape.Idx, p.2 x = tO i x0 x1 x2 x3 x4 (p.1.emb x))
    ∧ (∀ p ∈ (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4).2.1,
      ∀ x : p.1.shape.Idx, p.2 x = tD i x0 x1 x2 (p.1.emb x)) := by
  unfold kernelRun0_A
  sl_unfold_words
  dsimp only
  simp only [Whole.readAt_all harg1 x0 Whole.z2, Whole.readAt_all harg2 x1 Whole.z2, Whole.readAt_all harg3 x2 Whole.z2]
  simp only [w_load (o := 0) harg4 x3 0 rfl, w_load (o := 1) harg4 x3 1 rfl, w_load (o := 2) harg4 x3 2 rfl, w_load (o := 3) harg4 x3 3 rfl,
    s_load (c := 0) harg5 x4 0 rfl, s_load (c := 512) harg5 x4 1 rfl, s_load (c := 1024) harg5 x4 2 rfl, s_load (c := 1536) harg5 x4 3 rfl]
  simp only [zeros, sums]
  simp only [mix0, mix1, mix2, mix3, difs]
  have b10 := (Lev.cons 0 0 rfl inb_S288x2048_S280x512_8_0 (Lev.nil (P := (base i x0 x1 x2)) (k := 1) (o := 7) inb_S288x2048_S8x2048_0_0))
  have b11 := (Lev.cons 1 512 rfl inb_S288x2048_S280x512_8_512 b10)
  have b12 := (Lev.cons 2 1024 rfl inb_S288x2048_S280x512_8_1024 b11)
  have b13 := (Lev.cons 3 1536 rfl inb_S288x2048_S280x512_8_1536 b12)
  have b21 := (Lev.cons 1 512 rfl inb_S288x2048_S280x512_8_512 (Lev.nil (P := (lev (base i x0 x1 x2) 1)) (k := 2) (o := 6) inb_S288x2048_S8x2048_0_0))
  have b22 := (Lev.cons 2 1024 rfl inb_S288x2048_S280x512_8_1024 b21)
  have b23 := (Lev.cons 3 1536 rfl inb_S288x2048_S280x512_8_1536 b22)
  have b32 := (Lev.cons 2 1024 rfl inb_S288x2048_S280x512_8_1024 (Lev.nil (P := (lev (lev (base i x0 x1 x2) 1) 2)) (k := 4) (o := 4) inb_S288x2048_S8x2048_0_0))
  have b33 := (Lev.cons 3 1536 rfl inb_S288x2048_S280x512_8_1536 b32)
  have b43 := (Lev.cons 3 1536 rfl inb_S288x2048_S280x512_8_1536 (Lev.nil (P := (lev (lev (lev (base i x0 x1 x2) 1) 2) 4)) (k := 8) (o := 0) inb_S288x2048_S8x2048_0_0))
  rw [rdE _ i x0 x1 x2 _ _ 8 0 0 rfl, rdE _ i x0 x1 x2 _ _ 7 0 0 rfl, rdE _ i x0 x1 x2 _ _ 8 512 1 rfl, rdE _ i x0 x1 x2 _ _ 7 512 1 rfl, rdE _ i x0 x1 x2 _ _ 8 1024 2 rfl, rdE _ i x0 x1 x2 _ _ 7 1024 2 rfl, rdE _ i x0 x1 x2 _ _ 8 1536 3 rfl, rdE _ i x0 x1 x2 _ _ 7 1536 3 rfl]
  rw [b11.rd _ rfl 8 512 1 (by decide) rfl, b11.rd _ rfl 6 512 1 (by decide) rfl, b12.rd _ rfl 8 1024 2 (by decide) rfl, b12.rd _ rfl 6 1024 2 (by decide) rfl, b13.rd _ rfl 8 1536 3 (by decide) rfl, b13.rd _ rfl 6 1536 3 (by decide) rfl]
  rw [b13.rd32 _ rfl 0 0 (by decide) rfl]
  rw [b22.rd _ rfl 8 1024 2 (by decide) rfl, b22.rd _ rfl 4 1024 2 (by decide) rfl, b23.rd _ rfl 8 1536 3 (by decide) rfl, b23.rd _ rfl 4 1536 3 (by decide) rfl]
  rw [b23.rd32 _ rfl 512 1 (by decide) rfl]
  rw [b33.rd _ rfl 8 1536 3 (by decide) rfl, b33.rd _ rfl 0 1536 3 (by decide) rfl]
  rw [b33.rd32 _ rfl 1024 2 (by decide) rfl]
  rw [b43.rd32 _ rfl 1536 3 (by decide) rfl]
  simp only [List.forall_mem_cons]
  exact ⟨⟨piece_o i x0 x1 x2 x3 x4 3 rfl _, piece_o i x0 x1 x2 x3 x4 2 rfl _, piece_o i x0 x1 x2 x3 x4 1 rfl _, piece_o i x0 x1 x2 x3 x4 0 rfl _, fun _ h => absurd h List.not_mem_nil⟩,
    piece_d i x0 x1 x2 3 rfl _, piece_d i x0 x1 x2 2 rfl _, piece_d i x0 x1 x2 1 rfl _, piece_d i x0 x1 x2 0 rfl _, fun _ h => absurd h List.not_mem_nil⟩

theorem out0_A_5_eq : out0_A_5 (F := Ideal) c i arg1 harg1 arg2 harg2 arg3 harg3 arg4 harg4 arg5 harg5 arg6 harg6 arg7 harg7 arg8 harg8 arg9 harg9 arg10 harg10 arg11 harg11 arg12 harg12 x0 x1 x2 x3 x4 = tO i x0 x1 x2 x3 x4 := by
  unfold out0_A_5
  refine read_of_pieces _ _ _ _ (pieces c i arg1 harg1 arg2 harg2 arg3 harg3 arg4 harg4 arg5 harg5 arg6 harg6 arg7 harg7 arg8 harg8 arg9 harg9 arg10 harg10 arg11 harg11 arg12 harg12 x0 x1 x2 x3 x4).1 fun y h => ?_
  obtain ⟨p, hp, hy⟩ := cover0_A_5 (F := Ideal) c i arg1 harg1 arg2 harg2 arg3 harg3 arg4 harg4 arg5 harg5 arg6 harg6 arg7 harg7 arg8 harg8 arg9 harg9 arg10 harg10 arg11 harg11 arg12 harg12 x0 x1 x2 x3 x4 y
  exact absurd hy (h p hp)

theorem out0_A_6_eq : out0_A_6 (F := Ideal) c i arg1 harg1 arg2 harg2 arg3 harg3 arg4 harg4 arg5 harg5 arg6 harg6 arg7 harg7 arg8 harg8 arg9 harg9 arg10 harg10 arg11 harg11 arg12 harg12 x0 x1 x2 x3 x4 = tD i x0 x1 x2 := by
  unfold out0_A_6
  refine read_of_pieces _ _ _ _ (pieces c i arg1 harg1 arg2 harg2 arg3 harg3 arg4 harg4 arg5 harg5 arg6 harg6 arg7 harg7 arg8 harg8 arg9 harg9 arg10 harg10 arg11 harg11 arg12 harg12 x0 x1 x2 x3 x4).2 fun y h => ?_
  obtain ⟨p, hp, hy⟩ := cover0_A_6 (F := Ideal) c i arg1 harg1 arg2 harg2 arg3 harg3 arg4 harg4 arg5 harg5 arg6 harg6 arg7 harg7 arg8 harg8 arg9 harg9 arg10 harg10 arg11 harg11 arg12 harg12 x0 x1 x2 x3 x4 y
  exact absurd hy (h p hp)

end

end Cert.Kernel15Ideal.PoolFwd

end
-- ==== Proof.PoolFwdWhole.lean ====
module

public import proofs.«01_k».proof.Proof.PoolFwdPoint
public import proofs.«01_k».proof.Proof.PoolWhole

@[expose] public section

set_option maxRecDepth 16384

noncomputable section

namespace Cert.Kernel15Ideal.PoolFwd

open Idealize.ShloMosaic Idealize.ShloMosaic.TcCoe
open Cert.Kernel15Ideal Cert.Kernel15Ideal.Gen Cert.Kernel15Ideal.Value
open Cert.Kernel13Ideal.Norm (rt nN nE)
open Cert.Kernel14Ideal.Pool (col grp loc grp_col loc_col col_grp cnt wd Buf words)

/-! ## The results over whole arrays -/

section
variable (X : Vec Ideal S8192x2048 .f32) (G : Vec Ideal S1x2048 .f32) (M : Vec Ideal S4x512x512 .bf16) (S : Vec Ideal S1x2048 .f32)

/-- The normed rows below thirty-two rows of zeros. -/
def nX : Buf := fun n C => if h : 32 ≤ n ∧ n - 32 < 8192 then nrm X G ⟨n - 32, h.2⟩ C else 0

/-- One more level of window sums: a row and the one `k` before it, added up. -/
def dl (P : Buf) (k : ℕ) : Buf := fun n C => P n C + P (n - k) C

/-- The sums over each group's windows of two, four, eight and sixteen rows. -/
def wS (P : Buf) (g : Fin 4) : Buf := (![dl P 1, dl (dl P 1) 2, dl (dl (dl P 1) 2) 4, dl (dl (dl (dl P 1) 2) 4) 8] : Fin 4 → Buf) g

/-- The differences of the windows' averages and the normed rows. -/
def wD : Vec Ideal S8192x2048 .bf16 := fun i =>
  Ideal.div (wS (nX X G) (grp (i 1)) (32 + (i 0).val) (i 1)) (cnt (BitVec.ofNat 32 (i 0).val) (wd (grp (i 1)))) - nrm X G (i 0) (i 1)

/-- The input plus the mixed and scaled differences. -/
def wO : Vec Ideal S8192x2048 .f32 := fun i =>
  X (ix2 (i 0) (i 1)) + (∑ k : Fin 512, wD X G (ix2 (i 0) (col (grp (i 1)) k)) * M (ix3 (grp (i 1)) k (loc (i 1)))) * S (ix2 0 (i 1))

end

/-! ## The blocks a point reads -/

variable (m : (ℓ : Loc nD τ sig) → Idealize.ShloMosaic.Buf (Elt Ideal) ℓ) (ρ : Dev nD → PrngReg)

/-- The rows, the gain, the matrices and the scale, as the kernel finds them. -/
def vX (c : Dev nD) : Vec Ideal S8192x2048 .f32 := V m c main_arg0
def vG (c : Dev nD) : Vec Ideal S1x2048 .f32 := V m c main_arg1
def vM (c : Dev nD) : Vec Ideal S4x512x512 .bf16 := V m c main_v0
def vS (c : Dev nD) : Vec Ideal S1x2048 .f32 := V m c main_arg3

theorem t_lt (t : Fin cfg0.N) : t.val < 32 := lt_of_lt_of_eq t.isLt (show cfg0.N = 32 from N_0)

theorem point : ∀ t : Fin cfg0.N, (grid0.coords t 0).val = t.val := (by decide +kernel : ∀ t : Fin grid0.N, _)

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val * 8 - 1 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 3) = 0 ∧ win0_3.index t (1 : Fin 3) = 0 ∧ win0_3.index t (2 : Fin 3) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)
theorem index6 : ∀ t : Fin cfg0.N, win0_6.index t (0 : Fin 2) = t.val ∧ win0_6.index t (1 : Fin 2) = 0 :=
  (by decide +kernel : ∀ t : Fin grid0.N, _)

/-- The rows of a point's tile. -/
def row (t : Fin cfg0.N) (r : Fin 256) : Fin 8192 := ⟨t.val * 256 + r.val, by have := r.isLt; have := t_lt t; omega⟩

theorem block0 (c : Dev nD) (t : Fin cfg0.N) (r : Fin 256) (k : Fin 2048) : iblk m c 0 t (ix2 r k) = vX m c (ix2 (row t r) k) := by
  obtain ⟨e0, e1⟩ := index0 t
  show vX m c (((cfg0.win 0).blk t).view.emb (ix2 r k)) = _
  congr 1; funext a; apply Fin.ext
  match a with
  | ⟨0, _⟩ => show win0_0.index t (0 : Fin 2) * 256 + 1 * r.val = t.val * 256 + r.val; rw [e0]; omega
  | ⟨1, _⟩ => show win0_0.index t (1 : Fin 2) * 2048 + 1 * k.val = k.val; rw [e1]; omega

theorem block1 (c : Dev nD) (t : Fin cfg0.N) (h : 0 < t.val) (r : Fin 32) (k : Fin 2048) :
    iblk m c 1 t (ix2 r k) = vX m c (ix2 ⟨t.val * 256 + r.val - 32, by have := r.isLt; have := t_lt t; omega⟩ k) := by
  obtain ⟨e0, e1⟩ := index1 t
  show vX m c (((cfg0.win 1).blk t).view.emb (ix2 r k)) = _
  congr 1; funext a; apply Fin.ext
  match a with
  | ⟨0, _⟩ => show win0_1.index t (0 : Fin 2) * 32 + 1 * r.val = t.val * 256 + r.val - 32; rw [e0]; omega
  | ⟨1, _⟩ => show win0_1.index t (1 : Fin 2) * 2048 + 1 * k.val = k.val; rw [e1]; omega

theorem block2 (c : Dev nD) (t : Fin cfg0.N) (z : Fin 1) (k : Fin 2048) : iblk m c 2 t (ix2 z k) = vG m c (ix2 z k) := by
  obtain ⟨e0, e1⟩ := index2 t
  show vG m c (((cfg0.win 2).blk t).view.emb (ix2 z k)) = _
  congr 1; funext a; apply Fin.ext
  match a with
  | ⟨0, _⟩ => show win0_2.index t (0 : Fin 2) * 1 + 1 * z.val = z.val; rw [e0]; omega
  | ⟨1, _⟩ => show win0_2.index t (1 : Fin 2) * 2048 + 1 * k.val = k.val; rw [e1]; omega

theorem block3 (c : Dev nD) (t : Fin cfg0.N) (a : Fin 4) (p q : Fin 512) : iblk m c 3 t (ix3 a p q) = vM m c (ix3 a p q) := by
  obtain ⟨e0, e1, e2⟩ := index3 t
  show vM m c (((cfg0.win 3).blk t).view.emb (ix3 a p q)) = _
  congr 1; funext x; apply Fin.ext
  match x with
  | ⟨0, _⟩ => show win0_3.index t (0 : Fin 3) * 4 + 1 * a.val = a.val; rw [e0]; omega
  | ⟨1, _⟩ => show win0_3.index t (1 : Fin 3) * 512 + 1 * p.val = p.val; rw [e1]; omega
  | ⟨2, _⟩ => show win0_3.index t (2 : Fin 3) * 512 + 1 * q.val = q.val; rw [e2]; omega

theorem block4 (c : Dev nD) (t : Fin cfg0.N) (z : Fin 1) (k : Fin 2048) : iblk m c 4 t (ix2 z k) = vS m c (ix2 z k) := by
  obtain ⟨e0, e1⟩ := index4 t
  show vS m c (((cfg0.win 4).blk t).view.emb (ix2 z k)) = _
  congr 1; funext a; apply Fin.ext
  match a with
  | ⟨0, _⟩ => show win0_4.index t (0 : Fin 2) * 1 + 1 * z.val = z.val; rw [e0]; omega
  | ⟨1, _⟩ => show win0_4.index t (1 : Fin 2) * 2048 + 1 * k.val = k.val; rw [e1]; omega

/-! ## A tile's buffer, and the window sums over it -/

theorem after_first : ∀ t : Fin 32, (Scalar.cmpi .sgt (BitVec.ofNat 32 t.val) 0#32 = 1#1) ↔ 0 < t.val := by decide +kernel

/-- Rows that are rows of the array are normed as they are there. -/
theorem nrm_of {n : ℕ} (x : Vec Ideal ⟨2, ![n, 2048]⟩ .f32) (g : Vec Ideal S1x2048 .f32) (X : Vec Ideal S8192x2048 .f32) (G : Vec Ideal S1x2048 .f32) (r : Fin n) (R : Fin 8192)
    (hx : ∀ k, x (ix2 r k) = X (ix2 R k)) (hg : ∀ k, g (ix2 0 k) = G (ix2 0 k)) (C : Fin 2048) : nrm x g r C = nrm X G R C := by
  unfold nrm
  rw [hg, hx, funext hx]

/-- The buffer of a point. -/
def pB (c : Dev nD) (t : Fin cfg0.N) : Buf := base (grid0.coords t) (iblk m c 0 t) (iblk m c 1 t) (iblk m c 2 t)

theorem pB_eq (c : Dev nD) (t : Fin cfg0.N) (r : ℕ) (hr : r < 288) (C : Fin 2048) : pB m c t r C = nX (vX m c) (vG m c) (t.val * 256 + r) C := by
  have ht := t_lt t
  unfold pB base nX
  rw [point t]
  by_cases h : r < 32
  · rw [dif_pos h]
    by_cases h0 : 0 < t.val
    · rw [if_pos ((after_first ⟨t.val, ht⟩).mpr h0), dif_pos (by omega : 32 ≤ t.val * 256 + r ∧ t.val * 256 + r - 32 < 8192)]
      exact nrm_of (iblk m c 1 t) (iblk m c 2 t) _ _ ⟨r, h⟩ _ (fun k => block1 m c t h0 ⟨r, h⟩ k) (fun k => block2 m c t 0 k) C
    · rw [if_neg (fun hc => h0 ((after_first ⟨t.val, ht⟩).mp hc)), dif_neg (by omega)]
  · rw [dif_neg h, dif_pos (show r - 32 < 256 by omega), dif_pos (by omega : 32 ≤ t.val * 256 + r ∧ t.val * 256 + r - 32 < 8192)]
    have hR : row t ⟨r - 32, by omega⟩ = ⟨t.val * 256 + r - 32, by omega⟩ := Fin.ext (by show t.val * 256 + (r - 32) = t.val * 256 + r - 32; omega)
    rw [← hR]
    exact nrm_of (iblk m c 0 t) (iblk m c 2 t) _ _ ⟨r - 32, by omega⟩ _ (fun k => block0 m c t _ k) (fun k => block2 m c t 0 k) C

/-- A level over a tile is the level over the rows. -/
theorem lev_dl {P Q : Buf} {T : ℕ} (a b k : ℕ) (hb : 8 ≤ b) (hk : a + k ≤ b) (h : ∀ r, a ≤ r → r < 288 → ∀ C, P r C = Q (T + r) C) :
    ∀ r, b ≤ r → r < 288 → ∀ C, lev P k r C = dl Q k (T + r) C := by
  intro r h1 h2 C
  unfold lev dl
  rw [if_pos (by omega), h r (by omega) h2 C, h (r - k) (by omega) (by omega) C, show T + (r - k) = T + r - k by omega]

theorem LV_eq (c : Dev nD) (t : Fin cfg0.N) (g : Fin 4) (r : Fin 256) (C : Fin 2048) :
    LV (pB m c t) g (32 + r.val) C = wS (nX (vX m c) (vG m c)) g (32 + (t.val * 256 + r.val)) C := by
  have hr := r.isLt
  have h0 : ∀ r, 0 ≤ r → r < 288 → ∀ C, pB m c t r C = nX (vX m c) (vG m c) (t.val * 256 + r) C := fun r _ h C => pB_eq m c t r h C
  have h1 := lev_dl 0 8 1 (by omega) (by omega) h0
  have h2 := lev_dl 8 10 2 (by omega) (by omega) h1
  have h3 := lev_dl 10 14 4 (by omega) (by omega) h2
  have h4 := lev_dl 14 22 8 (by omega) (by omega) h3
  rw [show 32 + (t.val * 256 + r.val) = t.val * 256 + (32 + r.val) by omega]
  match g with
  | ⟨0, _⟩ => exact h1 _ (by omega) (by omega) C
  | ⟨1, _⟩ => exact h2 _ (by omega) (by omega) C
  | ⟨2, _⟩ => exact h3 _ (by omega) (by omega) C
  | ⟨3, _⟩ => exact h4 _ (by omega) (by omega) C

/-! ## What a point leaves -/

theorem tD_eq (c : Dev nD) (t : Fin cfg0.N) (r : Fin 256) (C : Fin 2048) :
    tD (grid0.coords t) (iblk m c 0 t) (iblk m c 1 t) (iblk m c 2 t) (ix2 r C) = wD (vX m c) (vG m c) (ix2 (row t r) C) := by
  show Ideal.div (LV (pB m c t) (grp C) (32 + r.val) C) (cnt (BitVec.ofNat 32 (grid0.coords t 0).val * 256#32 + BitVec.ofNat 32 r.val) (wd (grp C)))
      - nrm (iblk m c 0 t) (iblk m c 2 t) r C
    = Ideal.div (wS (nX (vX m c) (vG m c)) (grp C) (32 + (t.val * 256 + r.val)) C) (cnt (BitVec.ofNat 32 (t.val * 256 + r.val)) (wd (grp C))) - nrm (vX m c) (vG m c) (row t r) C
  rw [LV_eq, point t, words rfl]
  exact congrArg₂ (· - ·) rfl (nrm_of (iblk m c 0 t) (iblk m c 2 t) _ _ r _ (fun k => block0 m c t r k) (fun k => block2 m c t 0 k) C)

theorem tO_eq (c : Dev nD) (t : Fin cfg0.N) (r : Fin 256) (C : Fin 2048) :
    tO (grid0.coords t) (iblk m c 0 t) (iblk m c 1 t) (iblk m c 2 t) (iblk m c 3 t) (iblk m c 4 t) (ix2 r C) = wO (vX m c) (vG m c) (vM m c) (vS m c) (ix2 (row t r) C) :=
  congrArg₂ (· + ·) (block0 m c t r C) (congrArg₂ (· * ·)
    (Finset.sum_congr rfl fun k _ => congrArg₂ (· * ·) (tD_eq m c t r (col (grp C) k)) (block3 m c t (grp C) k (loc C))) (block4 m c t 0 C))

/-! ## The arrays after the run -/

/-- An entry of the array lies in the tile of one point. -/
theorem place (R : Fin 8192) : ∃ (t : Fin cfg0.N) (r : Fin 256), row t r = R := by
  have h0 := R.isLt
  have hN : cfg0.N = 32 := N_0
  exact ⟨⟨R.val / 256, by rw [hN]; omega⟩, ⟨R.val % 256, Nat.mod_lt _ (by decide)⟩, Fin.ext (by show R.val / 256 * 256 + R.val % 256 = R.val; omega)⟩

theorem result5 (c : Dev nD) : (dats m 0 c).arrAt 5 cfg0.N = wO (vX m c) (vG m c) (vM m c) (vS m c) := by
  funext i
  obtain ⟨R, C, rfl⟩ := ix_split i
  obtain ⟨t, r, rfl⟩ := place R
  have hb := congrFun ((blocks5 m c t (flush0_5 t)).trans (flushed5_A m c t)) (ix2 r C)
  have he : ((cfg0.win 5).blk t).view.emb (ix2 r C) = ix2 (row t r) C := by
    obtain ⟨e0, e1⟩ := index5 t
    funext a
    apply Fin.ext
    match a with
    | ⟨0, _⟩ => show win0_5.index t (0 : Fin 2) * 256 + 1 * r.val = t.val * 256 + r.val; rw [e0]; omega
    | ⟨1, _⟩ => show win0_5.index t (1 : Fin 2) * 2048 + 1 * C.val = C.val; rw [e1]; omega
  refine (congrArg ((dats m 0 c).arrAt 5 cfg0.N) he.symm).trans (hb.trans ?_)
  rw [out0_A_5_eq]
  exact tO_eq m c t r C

theorem result6 (c : Dev nD) : (dats m 0 c).arrAt 6 cfg0.N = wD (vX m c) (vG m c) := by
  funext i
  obtain ⟨R, C, rfl⟩ := ix_split i
  obtain ⟨t, r, rfl⟩ := place R
  have hb := congrFun ((blocks6 m c t (flush0_6 t)).trans (flushed6_A m c t)) (ix2 r C)
  have he : ((cfg0.win 6).blk t).view.emb (ix2 r C) = ix2 (row t r) C := by
    obtain ⟨e0, e1⟩ := index6 t
    funext a
    apply Fin.ext
    match a with
    | ⟨0, _⟩ => show win0_6.index t (0 : Fin 2) * 256 + 1 * r.val = t.val * 256 + r.val; rw [e0]; omega
    | ⟨1, _⟩ => show win0_6.index t (1 : Fin 2) * 2048 + 1 * C.val = C.val; rw [e1]; omega
  refine (congrArg ((dats m 0 c).arrAt 6 cfg0.N) he.symm).trans (hb.trans ?_)
  rw [out0_A_6_eq]
  exact tD_eq m c t r C

/-! ## The matrices as the host leaves them -/

theorem vX_eq (c : Dev nD) : vX m c = m ((c.tc : Thread nD τ).loc main_arg0) := V_main_arg0 m c
theorem vG_eq (c : Dev nD) : vG m c = m ((c.tc : Thread nD τ).loc main_arg1) := V_main_arg1 m c
theorem vS_eq (c : Dev nD) : vS m c = m ((c.tc : Thread nD τ).loc main_arg3) := V_main_arg3 m c

theorem vM_eq (c : Dev nD) : vM m c = (m ((c.tc : Thread nD τ).loc main_arg2) : Vec Ideal S4x512x512 .f32) := by
  show StableHlo.after hostOps0 (fun b => m (c, b)) (no_index (Proc.devRef .tc main_v0)) = _
  simp only [hostOps0, StableHlo.TRef.binary, StableHlo.TRef.nullary, StableHlo.TRef.unary, StableHlo.TRef.toBuf, StableHlo.TRef.ofBuf, cast_eq]
  after_results_simp
  rfl

end Cert.Kernel15Ideal.PoolFwd

end
-- ==== Proof.PoolFwdRef.lean ====
module

public import proofs.«01_k».proof.Proof.PoolFwdWhole
public import proofs.«01_k».proof.Proof.PoolRef
public import proofs.«01_k».proof.Proof.Gen.Reference15Ideal.Read

@[expose] public section

set_option maxRecDepth 16384

noncomputable section

namespace Cert.Kernel15Ideal.PoolFwd

open Idealize.ShloMosaic Idealize.ShloMosaic.TcCoe
open Cert.Reference15Ideal Cert.Reference15Ideal.Read
open Cert.Kernel13Ideal.Norm (rt nN nE)
open Cert.Kernel14Ideal.Pool (col grp loc grp_col loc_col col_grp cnt wd Buf ext2 ext3 cat4)

/-! ## Reading rows below zeros -/

/-- A group's rows below `w` rows of zeros, from row `o` on. -/
theorem slid {w T o k : ℕ} (z : Vec Ideal ⟨2, ![w, 512]⟩ .f32) (x : Vec Ideal S8192x512 .f32)
    (h : Shape.Concatenates [⟨2, ![w, 512]⟩, S8192x512] ⟨2, ![T, 512]⟩ 0) (hs : (⟨2, ![T, 512]⟩ : Shape).Slices ![o, 0] S8192x512)
    (P : Buf) (g : Fin 4) (hz : ∀ i, z i = 0) (hP : ∀ (R : Fin 8192) (j : Fin 512), x (ix2 R j) = P (32 + R.val) (col g j)) (h0 : ∀ n C, n < 32 → P n C = 0)
    (hk : o + k = w) (hw : w ≤ 16) (R : Fin 8192) (j : Fin 512) :
    extractStridedSlice S8192x512 ![o, 0] (concatenate ⟨2, ![T, 512]⟩ 0 [⟨⟨2, ![w, 512]⟩, z⟩, ⟨S8192x512, x⟩] h) hs (ix2 R j) = P (32 + R.val - k) (col g j) := by
  pointwise
  by_cases hR : o + R.val < w
  · rw [dif_pos (by show o + R.val < w; exact hR), hz, h0 _ _ (by omega)]
  · rw [dif_neg (by show ¬ (o + R.val < w); exact hR)]
    have hl := R.isLt
    refine (congrArg x (ext2 _ ⟨R.val - k, by omega⟩ j ?_ ?_)).trans ((hP _ j).trans ?_)
    · show o + R.val - w = R.val - k; omega
    · show 0 + j.val = j.val; omega
    · exact congrArg (fun n => P n (col g j)) (by show 32 + (R.val - k) = 32 + R.val - k; omega)

section
variable (x0 : Vec Ideal S8192x2048 .f32) (x1 : Vec Ideal S1x2048 .f32) (x2 : Vec Ideal S4x512x512 .f32) (x3 : Vec Ideal S1x2048 .f32)

theorem nX_row (R : Fin 8192) (C : Fin 2048) : nX x0 x1 (32 + R.val) C = nrm x0 x1 R C := by
  have hR := R.isLt
  unfold nX
  rw [dif_pos ⟨by omega, by omega⟩]
  exact congrArg (fun r => nrm x0 x1 r C) (Fin.ext (by show 32 + R.val - 32 = R.val; omega))

theorem nX_low (n : ℕ) (C : Fin 2048) (h : n < 32) : nX x0 x1 n C = 0 := by
  unfold nX
  rw [dif_neg (by omega)]

theorem v11_eq (R : Fin 8192) (C : Fin 2048) : val_main_v11 (F := Ideal) x0 x1 (ix2 R C) = nrm x0 x1 R C := by
  rw [val_main_v11_apply, val_main_v9_apply, val_main_v8_apply, val_main_v10_apply,
    val_main_v7_apply, val_main_v6_apply, val_main_v4_apply, val_main_v5_apply, val_main_v3_apply, val_main_v2_apply, val_main_v1_apply, val_main_cst_apply, val_main_cst_0_apply, val_main_cst_1_apply]
  refine congrArg₂ (· * ·) (congrArg₂ (· * ·) rfl ?_) (congrArg x1 (ext2 _ 0 C rfl rfl))
  show Ideal.rsqrt (Ideal.div (Ideal.ofBits .f32 0x00000000#32 + _) nN + nE) = _
  rw [Ideal.ofBits_zero_f32, zero_add]
  refine congrArg (fun s => Ideal.rsqrt (Ideal.div s nN + nE)) (Finset.sum_congr rfl fun k _ => ?_)
  rw [val_main_v0_apply]
  exact congrArg (fun i => x0 i * x0 i) (ext2 _ R k rfl rfl)

/-- A window's sum over its count, less the row, is the difference the whole array holds. -/
theorem diff_at (g : Fin 4) (R : Fin 8192) (j : Fin 512) (s n b : EReal) (hs : s = wS (nX x0 x1) g (32 + R.val) (col g j))
    (hn : n = cnt (BitVec.ofNat 32 R.val) (wd g)) (hb : b = nrm x0 x1 R (col g j)) : Ideal.div s n - b = wD x0 x1 (ix2 R (col g j)) := by
  subst hs hn hb
  show _ = Ideal.div (wS (nX x0 x1) (grp (col g j)) (32 + R.val) (col g j)) (cnt (BitVec.ofNat 32 R.val) (wd (grp (col g j)))) - nrm x0 x1 R (col g j)
  rw [grp_col]

/-! The sums of two, four, eight and sixteen rows, from the farthest to the nearest. -/

theorem win2 (P : Buf) (n : ℕ) (C : Fin 2048) : 0 + P n C + P (n - 1) C = wS P 0 n C := by
  show _ = dl P 1 n C
  simp only [dl, Nat.sub_sub, Nat.reduceAdd, zero_add]

theorem win4 (P : Buf) (n : ℕ) (C : Fin 2048) : 0 + P n C + P (n - 1) C + P (n - 2) C + P (n - 3) C = wS P 1 n C := by
  show _ = dl (dl P 1) 2 n C
  simp only [dl, Nat.sub_sub, Nat.reduceAdd, zero_add]
  ac_rfl

theorem win8 (P : Buf) (n : ℕ) (C : Fin 2048) : 0 + P n C + P (n - 1) C + P (n - 2) C + P (n - 3) C + P (n - 4) C + P (n - 5) C + P (n - 6) C + P (n - 7) C = wS P 2 n C := by
  show _ = dl (dl (dl P 1) 2) 4 n C
  simp only [dl, Nat.sub_sub, Nat.reduceAdd, zero_add]
  ac_rfl

theorem win16 (P : Buf) (n : ℕ) (C : Fin 2048) : 0 + P n C + P (n - 1) C + P (n - 2) C + P (n - 3) C + P (n - 4) C + P (n - 5) C + P (n - 6) C + P (n - 7) C + P (n - 8) C + P (n - 9) C + P (n - 10) C + P (n - 11) C + P (n - 12) C + P (n - 13) C + P (n - 14) C + P (n - 15) C = wS P 3 n C := by
  show _ = dl (dl (dl (dl P 1) 2) 4) 8 n C
  simp only [dl, Nat.sub_sub, Nat.reduceAdd, zero_add]
  ac_rfl

/-! Group 0. -/

theorem row0 (R : Fin 8192) (j : Fin 512) : val_main_v13 (F := Ideal) x0 x1 (ix2 R j) = nrm x0 x1 R (col 0 j) := by
  rw [val_main_v13_apply]
  exact (congrArg _ (ext2 _ R (col 0 j) rfl (by show j.val = 512 * 0 + j.val; omega))).trans (v11_eq x0 x1 R (col 0 j))

theorem num0 (R : Fin 8192) (j : Fin 512) : val_main_v20 (F := Ideal) x0 x1 (ix2 R j) = wS (nX x0 x1) 0 (32 + R.val) (col 0 j) := by
  have e {o : ℕ} (hs : Shape.Slices S8194x512 ![o, 0] S8192x512) (k : ℕ) (hk : o + k = 2) :
      extractStridedSlice S8192x512 ![o, 0] (val_main_v15 (F := Ideal) x0 x1) hs (ix2 R j) = nX x0 x1 (32 + R.val - k) (col 0 j) :=
    slid _ _ _ hs (nX x0 x1) 0 (fun i => by rw [val_main_v14_apply, val_main_cst_2_apply]; exact Ideal.ofBits_zero_f32)
      (fun R j => (row0 x0 x1 R j).trans (nX_row x0 x1 R _).symm) (nX_low x0 x1) hk (by decide) R j
  have zero : val_main_v17 (F := Ideal) (ix2 R j) = (0 : EReal) := by rw [val_main_v17_apply, val_main_cst_3_apply]; exact Ideal.ofBits_zero_f32
  rw [val_main_v20_apply, val_main_v18_apply]
  refine Eq.trans ?_ (win2 (nX x0 x1) (32 + R.val) (col 0 j))
  exact congrArg₂ (· + ·) (congrArg₂ (· + ·) zero (e _ 0 rfl)) (e _ 1 rfl)

theorem dif0 (R : Fin 8192) (j : Fin 512) : val_main_v29 (F := Ideal) x0 x1 (ix2 R j) = wD x0 x1 (ix2 R (col 0 j)) := by
  rw [val_main_v29_apply, val_main_v28_apply]
  refine diff_at x0 x1 0 R j _ _ _ (num0 x0 x1 R j) ?_ (row0 x0 x1 R j)
  rw [val_main_v27_apply, val_main_v26_apply, val_main_v25_apply, val_main_v24_apply, val_main_v22_apply, val_main_v21_apply, val_main_v23_apply, val_main_c_apply, val_main_c_4_apply, val_main_v12_apply]
  rfl

theorem mat0 (p q : Fin 512) (i : S512x512.Idx) (h0 : (i 0).val = p.val) (h1 : (i 1).val = q.val) :
    val_main_v126 (F := Ideal) x2 i = x2 (ix3 0 p q) := by
  obtain rfl := ext2 i p q h0 h1
  have hp := p.isLt
  have hq := q.isLt
  rw [val_main_v126_apply, val_main_v125_apply]
  refine congrArg x2 (ext3 _ 0 p q rfl ?_ ?_)
  · show (p.val * 512 + q.val) / 512 % 512 = p.val; omega
  · show (p.val * 512 + q.val) % 512 = q.val; omega

theorem mixed0 (R : Fin 8192) (j : Fin 512) : val_main_v127 (F := Ideal) x0 x1 x2 (ix2 R j) = ∑ k : Fin 512, wD x0 x1 (ix2 R (col 0 k)) * x2 (ix3 0 k j) := by
  rw [val_main_v127_apply]
  exact Finset.sum_congr rfl fun k _ => congrArg₂ (· * ·) ((congrArg _ (ext2 _ R k rfl rfl)).trans (dif0 x0 x1 R k)) (mat0 x2 k j _ rfl rfl)

/-! Group 1. -/

theorem row1 (R : Fin 8192) (j : Fin 512) : val_main_v30 (F := Ideal) x0 x1 (ix2 R j) = nrm x0 x1 R (col 1 j) := by
  rw [val_main_v30_apply]
  exact (congrArg _ (ext2 _ R (col 1 j) rfl (by show 512 + j.val = 512 * 1 + j.val; omega))).trans (v11_eq x0 x1 R (col 1 j))

theorem num1 (R : Fin 8192) (j : Fin 512) : val_main_v41 (F := Ideal) x0 x1 (ix2 R j) = wS (nX x0 x1) 1 (32 + R.val) (col 1 j) := by
  have e {o : ℕ} (hs : Shape.Slices S8196x512 ![o, 0] S8192x512) (k : ℕ) (hk : o + k = 4) :
      extractStridedSlice S8192x512 ![o, 0] (val_main_v32 (F := Ideal) x0 x1) hs (ix2 R j) = nX x0 x1 (32 + R.val - k) (col 1 j) :=
    slid _ _ _ hs (nX x0 x1) 1 (fun i => by rw [val_main_v31_apply, val_main_cst_5_apply]; exact Ideal.ofBits_zero_f32)
      (fun R j => (row1 x0 x1 R j).trans (nX_row x0 x1 R _).symm) (nX_low x0 x1) hk (by decide) R j
  have zero : val_main_v34 (F := Ideal) (ix2 R j) = (0 : EReal) := by rw [val_main_v34_apply, val_main_cst_6_apply]; exact Ideal.ofBits_zero_f32
  rw [val_main_v41_apply, val_main_v39_apply, val_main_v37_apply, val_main_v35_apply]
  refine Eq.trans ?_ (win4 (nX x0 x1) (32 + R.val) (col 1 j))
  exact congrArg₂ (· + ·) (congrArg₂ (· + ·) (congrArg₂ (· + ·) (congrArg₂ (· + ·) zero (e _ 0 rfl)) (e _ 1 rfl)) (e _ 2 rfl)) (e _ 3 rfl)

theorem dif1 (R : Fin 8192) (j : Fin 512) : val_main_v50 (F := Ideal) x0 x1 (ix2 R j) = wD x0 x1 (ix2 R (col 1 j)) := by
  rw [val_main_v50_apply, val_main_v49_apply]
  refine diff_at x0 x1 1 R j _ _ _ (num1 x0 x1 R j) ?_ (row1 x0 x1 R j)
  rw [val_main_v48_apply, val_main_v47_apply, val_main_v46_apply, val_main_v45_apply, val_main_v43_apply, val_main_v42_apply, val_main_v44_apply, val_main_c_7_apply, val_main_c_8_apply, val_main_v12_apply]
  rfl

theorem mat1 (p q : Fin 512) (i : S512x512.Idx) (h0 : (i 0).val = p.val) (h1 : (i 1).val = q.val) :
    val_main_v129 (F := Ideal) x2 i = x2 (ix3 1 p q) := by
  obtain rfl := ext2 i p q h0 h1
  have hp := p.isLt
  have hq := q.isLt
  rw [val_main_v129_apply, val_main_v128_apply]
  refine congrArg x2 (ext3 _ 1 p q rfl ?_ ?_)
  · show (p.val * 512 + q.val) / 512 % 512 = p.val; omega
  · show (p.val * 512 + q.val) % 512 = q.val; omega

theorem mixed1 (R : Fin 8192) (j : Fin 512) : val_main_v130 (F := Ideal) x0 x1 x2 (ix2 R j) = ∑ k : Fin 512, wD x0 x1 (ix2 R (col 1 k)) * x2 (ix3 1 k j) := by
  rw [val_main_v130_apply]
  exact Finset.sum_congr rfl fun k _ => congrArg₂ (· * ·) ((congrArg _ (ext2 _ R k rfl rfl)).trans (dif1 x0 x1 R k)) (mat1 x2 k j _ rfl rfl)

/-! Group 2. -/

theorem row2 (R : Fin 8192) (j : Fin 512) : val_main_v51 (F := Ideal) x0 x1 (ix2 R j) = nrm x0 x1 R (col 2 j) := by
  rw [val_main_v51_apply]
  exact (congrArg _ (ext2 _ R (col 2 j) rfl (by show 1024 + j.val = 512 * 2 + j.val; omega))).trans (v11_eq x0 x1 R (col 2 j))

theorem num2 (R : Fin 8192) (j : Fin 512) : val_main_v70 (F := Ideal) x0 x1 (ix2 R j) = wS (nX x0 x1) 2 (32 + R.val) (col 2 j) := by
  have e {o : ℕ} (hs : Shape.Slices S8200x512 ![o, 0] S8192x512) (k : ℕ) (hk : o + k = 8) :
      extractStridedSlice S8192x512 ![o, 0] (val_main_v53 (F := Ideal) x0 x1) hs (ix2 R j) = nX x0 x1 (32 + R.val - k) (col 2 j) :=
    slid _ _ _ hs (nX x0 x1) 2 (fun i => by rw [val_main_v52_apply, val_main_cst_9_apply]; exact Ideal.ofBits_zero_f32)
      (fun R j => (row2 x0 x1 R j).trans (nX_row x0 x1 R _).symm) (nX_low x0 x1) hk (by decide) R j
  have zero : val_main_v55 (F := Ideal) (ix2 R j) = (0 : EReal) := by rw [val_main_v55_apply, val_main_cst_10_apply]; exact Ideal.ofBits_zero_f32
  rw [val_main_v70_apply, val_main_v68_apply, val_main_v66_apply, val_main_v64_apply, val_main_v62_apply, val_main_v60_apply, val_main_v58_apply, val_main_v56_apply]
  refine Eq.trans ?_ (win8 (nX x0 x1) (32 + R.val) (col 2 j))
  exact congrArg₂ (· + ·) (congrArg₂ (· + ·) (congrArg₂ (· + ·) (congrArg₂ (· + ·) (congrArg₂ (· + ·) (congrArg₂ (· + ·) (congrArg₂ (· + ·) (congrArg₂ (· + ·) zero (e _ 0 rfl)) (e _ 1 rfl)) (e _ 2 rfl)) (e _ 3 rfl)) (e _ 4 rfl)) (e _ 5 rfl)) (e _ 6 rfl)) (e _ 7 rfl)

theorem dif2 (R : Fin 8192) (j : Fin 512) : val_main_v79 (F := Ideal) x0 x1 (ix2 R j) = wD x0 x1 (ix2 R (col 2 j)) := by
  rw [val_main_v79_apply, val_main_v78_apply]
  refine diff_at x0 x1 2 R j _ _ _ (num2 x0 x1 R j) ?_ (row2 x0 x1 R j)
  rw [val_main_v77_apply, val_main_v76_apply, val_main_v75_apply, val_main_v74_apply, val_main_v72_apply, val_main_v71_apply, val_main_v73_apply, val_main_c_11_apply, val_main_c_12_apply, val_main_v12_apply]
  rfl

theorem mat2 (p q : Fin 512) (i : S512x512.Idx) (h0 : (i 0).val = p.val) (h1 : (i 1).val = q.val) :
    val_main_v132 (F := Ideal) x2 i = x2 (ix3 2 p q) := by
  obtain rfl := ext2 i p q h0 h1
  have hp := p.isLt
  have hq := q.isLt
  rw [val_main_v132_apply, val_main_v131_apply]
  refine congrArg x2 (ext3 _ 2 p q rfl ?_ ?_)
  · show (p.val * 512 + q.val) / 512 % 512 = p.val; omega
  · show (p.val * 512 + q.val) % 512 = q.val; omega

theorem mixed2 (R : Fin 8192) (j : Fin 512) : val_main_v133 (F := Ideal) x0 x1 x2 (ix2 R j) = ∑ k : Fin 512, wD x0 x1 (ix2 R (col 2 k)) * x2 (ix3 2 k j) := by
  rw [val_main_v133_apply]
  exact Finset.sum_congr rfl fun k _ => congrArg₂ (· * ·) ((congrArg _ (ext2 _ R k rfl rfl)).trans (dif2 x0 x1 R k)) (mat2 x2 k j _ rfl rfl)

/-! Group 3. -/

theorem row3 (R : Fin 8192) (j : Fin 512) : val_main_v80 (F := Ideal) x0 x1 (ix2 R j) = nrm x0 x1 R (col 3 j) := by
  rw [val_main_v80_apply]
  exact (congrArg _ (ext2 _ R (col 3 j) rfl (by show 1536 + j.val = 512 * 3 + j.val; omega))).trans (v11_eq x0 x1 R (col 3 j))

theorem num3 (R : Fin 8192) (j : Fin 512) : val_main_v115 (F := Ideal) x0 x1 (ix2 R j) = wS (nX x0 x1) 3 (32 + R.val) (col 3 j) := by
  have e {o : ℕ} (hs : Shape.Slices S8208x512 ![o, 0] S8192x512) (k : ℕ) (hk : o + k = 16) :
      extractStridedSlice S8192x512 ![o, 0] (val_main_v82 (F := Ideal) x0 x1) hs (ix2 R j) = nX x0 x1 (32 + R.val - k) (col 3 j) :=
    slid _ _ _ hs (nX x0 x1) 3 (fun i => by rw [val_main_v81_apply, val_main_cst_13_apply]; exact Ideal.ofBits_zero_f32)
      (fun R j => (row3 x0 x1 R j).trans (nX_row x0 x1 R _).symm) (nX_low x0 x1) hk (by decide) R j
  have zero : val_main_v84 (F := Ideal) (ix2 R j) = (0 : EReal) := by rw [val_main_v84_apply, val_main_cst_14_apply]; exact Ideal.ofBits_zero_f32
  rw [val_main_v115_apply, val_main_v113_apply, val_main_v111_apply, val_main_v109_apply, val_main_v107_apply, val_main_v105_apply, val_main_v103_apply, val_main_v101_apply, val_main_v99_apply, val_main_v97_apply, val_main_v95_apply, val_main_v93_apply, val_main_v91_apply, val_main_v89_apply, val_main_v87_apply, val_main_v85_apply]
  refine Eq.trans ?_ (win16 (nX x0 x1) (32 + R.val) (col 3 j))
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) zero (e _ 0 rfl)) (e _ 1 rfl)) (e _ 2 rfl)) (e _ 3 rfl)) (e _ 4 rfl)) (e _ 5 rfl)) (e _ 6 rfl)) (e _ 7 rfl)) (e _ 8 rfl)) (e _ 9 rfl)) (e _ 10 rfl)) (e _ 11 rfl)) (e _ 12 rfl)) (e _ 13 rfl)) (e _ 14 rfl)) (e _ 15 rfl)

theorem dif3 (R : Fin 8192) (j : Fin 512) : val_main_v124 (F := Ideal) x0 x1 (ix2 R j) = wD x0 x1 (ix2 R (col 3 j)) := by
  rw [val_main_v124_apply, val_main_v123_apply]
  refine diff_at x0 x1 3 R j _ _ _ (num3 x0 x1 R j) ?_ (row3 x0 x1 R j)
  rw [val_main_v122_apply, val_main_v121_apply, val_main_v120_apply, val_main_v119_apply, val_main_v117_apply, val_main_v116_apply, val_main_v118_apply, val_main_c_15_apply, val_main_c_16_apply, val_main_v12_apply]
  rfl

theorem mat3 (p q : Fin 512) (i : S512x512.Idx) (h0 : (i 0).val = p.val) (h1 : (i 1).val = q.val) :
    val_main_v135 (F := Ideal) x2 i = x2 (ix3 3 p q) := by
  obtain rfl := ext2 i p q h0 h1
  have hp := p.isLt
  have hq := q.isLt
  rw [val_main_v135_apply, val_main_v134_apply]
  refine congrArg x2 (ext3 _ 3 p q rfl ?_ ?_)
  · show (p.val * 512 + q.val) / 512 % 512 = p.val; omega
  · show (p.val * 512 + q.val) % 512 = q.val; omega

theorem mixed3 (R : Fin 8192) (j : Fin 512) : val_main_v136 (F := Ideal) x0 x1 x2 (ix2 R j) = ∑ k : Fin 512, wD x0 x1 (ix2 R (col 3 k)) * x2 (ix3 3 k j) := by
  rw [val_main_v136_apply]
  exact Finset.sum_congr rfl fun k _ => congrArg₂ (· * ·) ((congrArg _ (ext2 _ R k rfl rfl)).trans (dif3 x0 x1 R k)) (mat3 x2 k j _ rfl rfl)

/-! ## The results -/

theorem v142_eq : val_main_v142 (F := Ideal) x0 x1 = wD x0 x1 := by
  funext i
  obtain ⟨R, C, rfl⟩ : ∃ (R : Fin 8192) (C : Fin 2048), i = ix2 R C := ⟨i 0, i 1, ext2 i _ _ rfl rfl⟩
  obtain ⟨g, j, rfl⟩ : ∃ (g : Fin 4) (j : Fin 512), C = col g j := ⟨grp C, loc C, (col_grp C).symm⟩
  refine (cat4 _ _ _ _ Cert.Reference15Ideal.Gen.concatenates_S8192x512_S8192x512_S8192x512_S8192x512_S8192x2048_d1 R g j).trans ?_
  match g with
  | ⟨0, _⟩ => exact dif0 x0 x1 R j
  | ⟨1, _⟩ => exact dif1 x0 x1 R j
  | ⟨2, _⟩ => exact dif2 x0 x1 R j
  | ⟨3, _⟩ => exact dif3 x0 x1 R j

theorem v140_eq : val_main_v140 (F := Ideal) x0 x1 x2 x3 = wO x0 x1 x2 x3 := by
  funext i
  obtain ⟨R, C, rfl⟩ : ∃ (R : Fin 8192) (C : Fin 2048), i = ix2 R C := ⟨i 0, i 1, ext2 i _ _ rfl rfl⟩
  obtain ⟨g, j, rfl⟩ : ∃ (g : Fin 4) (j : Fin 512), C = col g j := ⟨grp C, loc C, (col_grp C).symm⟩
  rw [val_main_v140_apply, val_main_v139_apply, val_main_v138_apply]
  show _ = x0 (ix2 R (col g j)) + (∑ k : Fin 512, wD x0 x1 (ix2 R (col (grp (col g j)) k)) * x2 (ix3 (grp (col g j)) k (loc (col g j)))) * x3 (ix2 0 (col g j))
  rw [grp_col, loc_col]
  refine congrArg₂ (· + ·) rfl (congrArg₂ (· * ·) ?_ (congrArg x3 (ext2 _ 0 _ rfl rfl)))
  refine (cat4 _ _ _ _ Cert.Reference15Ideal.Gen.concatenates_S8192x512_S8192x512_S8192x512_S8192x512_S8192x2048_d1 R g j).trans ?_
  match g with
  | ⟨0, _⟩ => exact mixed0 x0 x1 x2 R j
  | ⟨1, _⟩ => exact mixed1 x0 x1 x2 R j
  | ⟨2, _⟩ => exact mixed2 x0 x1 x2 R j
  | ⟨3, _⟩ => exact mixed3 x0 x1 x2 R j

end

end Cert.Kernel15Ideal.PoolFwd

end
-- ==== Proof.PoolFwd.lean ====
module

public import proofs.«01_k».proof.Proof.PoolFwdRef
public import proofs.«01_k».proof.Proof.Pool
public import proofs.«01_k».proof.Proof.Gen.Reference15Ideal.Run

@[expose] public section

set_option maxRecDepth 16384

noncomputable section

namespace Cert.Kernel15Ideal.PoolFwd

open Idealize.ShloMosaic Idealize.ShloMosaic.TcCoe
open Cert.Kernel15Ideal Cert.Kernel15Ideal.Gen Cert.Kernel15Ideal.Value
open Cert.Kernel14Ideal.Pool (same4)

/-! ## The kernel and its reference -/

variable (m : (ℓ : Loc nD τ sig) → Idealize.ShloMosaic.Buf (Elt Ideal) ℓ)

/-- The rows, the gain, the matrices and the scale, as launched. -/
abbrev aX (c : Dev nD) : Vec Ideal S8192x2048 .f32 := m ((c.tc : Thread nD τ).loc main_arg0)
abbrev aG (c : Dev nD) : Vec Ideal S1x2048 .f32 := m ((c.tc : Thread nD τ).loc main_arg1)
abbrev aW (c : Dev nD) : Vec Ideal S4x512x512 .f32 := m ((c.tc : Thread nD τ).loc main_arg2)
abbrev aS (c : Dev nD) : Vec Ideal S1x2048 .f32 := m ((c.tc : Thread nD τ).loc main_arg3)

/-- The kernel and its reference end with equal results. -/
theorem equal : Cert.algebraic_Kernel15Ideal_Reference15Ideal := by
  intro m g m' g' _ hagree
  refine ⟨fun c => wO (aX m c) (aG m c) (aW m c) (aS m c), fun c => wD (aX m c) (aG m c), ?_, ?_⟩
  · refine (θ_run defs _ _).mono (fun r h c => ?_) (run_blocks m g)
    obtain ⟨h5, h6, hk⟩ := h c
    exact ⟨(h5.trans (result5 m c)).trans (same4 wO (vX_eq m c) (vG_eq m c) (vM_eq m c) (vS_eq m c)),
      (h6.trans (result6 m c)).trans (congrArg₂ wD (vX_eq m c) (vG_eq m c)), hk⟩
  · refine (θ_run Cert.Reference15Ideal.defs _ _).mono (fun r h c => ?_) (Cert.Reference15Ideal.Value.run (F := Ideal) m' g')
    obtain ⟨a0, a1, a2, a3⟩ := hagree c
    obtain ⟨h1, h2, hk⟩ := h c
    exact ⟨((h1.trans (Cert.Reference15Ideal.Read.val_main_v140_eq (F := Ideal) _ c)).trans (same4 (Cert.Reference15Ideal.Read.val_main_v140 (F := Ideal)) a0 a1 a2 a3)).trans (v140_eq _ _ _ _),
      ((h2.trans (Cert.Reference15Ideal.Read.val_main_v142_eq (F := Ideal) _ c)).trans (congrArg₂ (Cert.Reference15Ideal.Read.val_main_v142 (F := Ideal)) a0 a1)).trans (v142_eq _ _), hk⟩

end Cert.Kernel15Ideal.PoolFwd

end
-- ==== Proof.NormFwd.lean ====
module

public import proofs.«01_k».proof.Proof.Gen.Kernel16Ideal.Value
public import proofs.«01_k».proof.Proof.Gen.Reference16Ideal.Run
public import proofs.«01_k».proof.Proof.Gen.Reference16Ideal.Read
public import proofs.«01_k».proof.Proof.PoolFwdTile
public import proofs.«01_k».proof.Proof.PoolRef

@[expose] public section

set_option maxRecDepth 16384

noncomputable section

namespace Cert.Kernel16Ideal.NormFwd

open Idealize.ShloMosaic Idealize.ShloMosaic.TcCoe Idealize.ShloMosaic.Tactic
open Cert.Kernel16Ideal.Gen Cert.Kernel16Ideal.Value
open Cert.Kernel13Ideal.Norm (rt nN nE)
open Cert.Kernel14Ideal.Pool (ext2)
open Cert.Kernel15Ideal.PoolFwd (nrm ix_split)

/-! ## One point -/

/-- A block of rows, normed and scaled. -/
def rows (x0 : Vec Ideal S512x2048 .f32) (x1 : Vec Ideal S1x2048 .f32) : Vec Ideal S512x2048 .bf16 := fun y => nrm x0 x1 (y 0) (y 1)

theorem pay1_eq (x0 : Vec Ideal S512x2048 .f32) (x1 : Vec Ideal S1x2048 .f32) : k0_pay1 x0 x1 = rows x0 x1 := by
  funext y; idx_vars y; unfold rows nrm rt nN nE k0_pay1; pointwise; try rfl

theorem out_eq (x0 : Vec Ideal S512x2048 .f32) (x1 : Vec Ideal S1x2048 .f32) : out0_2 x0 x1 = rows x0 x1 := by
  unfold out0_2
  rw [View.canon_unit_zero Whole.z2, View.ld_unit_zero Whole.z2, View.ld_unit_zero Whole.z2, pay1_eq]

/-! ## The blocks a point reads -/

variable (m : (ℓ : Loc nD τ sig) → Buf (Elt Ideal) ℓ) (ρ : Dev nD → PrngReg)

theorem index0 : ∀ t : Fin cfg0.N, win0_0.index t (0 : Fin 2) = t.val ∧ win0_0.index t (1 : Fin 2) = 0 :=
  (by decide +kernel : ∀ t : Fin grid0.N, _)

theorem index1 : ∀ t : Fin cfg0.N, win0_1.index t (0 : Fin 2) = 0 ∧ win0_1.index t (1 : Fin 2) = 0 :=
  (by decide +kernel : ∀ t : Fin grid0.N, _)

theorem index2 : ∀ t : Fin cfg0.N, win0_2.index t (0 : Fin 2) = t.val ∧ win0_2.index t (1 : Fin 2) = 0 :=
  (by decide +kernel : ∀ t : Fin grid0.N, _)

theorem flushes : ∀ t : Fin cfg0.N, (cfg0.win 2).flush t = true :=
  (by decide +kernel : ∀ t : Fin grid0.N, win0_2.flush t = true)

/-- The rows and the gain, as launched. -/
abbrev inp (c : Dev nD) : Vec Ideal S8192x2048 .f32 := m ((c.tc : Thread nD τ).loc main_arg0)
abbrev gain (c : Dev nD) : Vec Ideal S1x2048 .f32 := m ((c.tc : Thread nD τ).loc main_arg1)

/-- Row `r` of block `t`, among all rows. -/
def row (t : Fin cfg0.N) (r : Fin 512) : Fin 8192 :=
  ⟨t.val * 512 + r.val, by have := r.isLt; have := lt_of_lt_of_eq t.isLt (show cfg0.N = 16 from N_0); omega⟩

theorem block0 (c : Dev nD) (t : Fin cfg0.N) (r : Fin 512) (k : Fin 2048) : iblk m c 0 t (ix2 r k) = inp m c (ix2 (row t r) k) := by
  obtain ⟨e0, e1⟩ := index0 t
  refine congrArg (inp m c) (ext2 _ (row t r) k ?_ ?_)
  · show win0_0.index t (0 : Fin 2) * 512 + 1 * r.val = t.val * 512 + r.val; rw [e0]; omega
  · show win0_0.index t (1 : Fin 2) * 2048 + 1 * k.val = k.val; rw [e1]; omega

theorem block1 (c : Dev nD) (t : Fin cfg0.N) (k : Fin 2048) : iblk m c 1 t (ix2 0 k) = gain m c (ix2 0 k) := by
  obtain ⟨e0, e1⟩ := index1 t
  refine congrArg (gain m c) (ext2 _ 0 k ?_ ?_)
  · show win0_1.index t (0 : Fin 2) * 1 + 1 * 0 = 0; rw [e0]
  · show win0_1.index t (1 : Fin 2) * 2048 + 1 * k.val = k.val; rw [e1]; omega

theorem emb2 (t : Fin cfg0.N) (r : Fin 512) (k : Fin 2048) : ((cfg0.win 2).blk t).view.emb (ix2 r k) = ix2 (row t r) k := by
  obtain ⟨e0, e1⟩ := index2 t
  refine ext2 _ (row t r) k ?_ ?_
  · show win0_2.index t (0 : Fin 2) * 512 + 1 * r.val = t.val * 512 + r.val; rw [e0]; omega
  · show win0_2.index t (1 : Fin 2) * 2048 + 1 * k.val = k.val; rw [e1]; omega

/-! ## The whole result -/

/-- All rows, normed and scaled. -/
def whole (X : Vec Ideal S8192x2048 .f32) (G : Vec Ideal S1x2048 .f32) : Vec Ideal S8192x2048 .bf16 := fun i => nrm X G (i 0) (i 1)

theorem result_eq (c : Dev nD) : (dats m 0 c).arrAt 2 cfg0.N = whole (inp m c) (gain m c) := by
  funext i
  obtain ⟨R, C, rfl⟩ := ix_split i
  have hR := R.isLt
  obtain ⟨t, r, rfl⟩ : ∃ (t : Fin cfg0.N) (r : Fin 512), R = row t r :=
    ⟨⟨R.val / 512, by rw [show cfg0.N = 16 from N_0]; omega⟩, ⟨R.val % 512, Nat.mod_lt _ (by decide)⟩, Fin.ext (by show R.val = R.val / 512 * 512 + R.val % 512; omega)⟩
  have hb := congrFun ((blocks2 m c t (flushes t)).trans (flushed2 m c t)) (ix2 r C)
  refine (congrArg ((dats m 0 c).arrAt 2 cfg0.N) (emb2 t r C).symm).trans (hb.trans ?_)
  rw [out_eq]
  show nrm (iblk m c 0 t) (iblk m c 1 t) r C = nrm (inp m c) (gain m c) (row t r) C
  unfold nrm
  refine congrArg₂ (· * ·) (congrArg₂ (· * ·) (block0 m c t r C) (congrArg rt (funext fun k => block0 m c t r k))) (block1 m c t C)

/-! ## The reference -/

section
open Cert.Reference16Ideal.Read

/-- What the reference's result holds. -/
theorem reference_eq (x0 : Vec Ideal S8192x2048 .f32) (x1 : Vec Ideal S1x2048 .f32) : val_main_v12 (F := Ideal) x0 x1 = whole x0 x1 := by
  funext i
  obtain ⟨R, C, rfl⟩ := ix_split i
  show val_main_v11 (F := Ideal) x0 x1 (ix2 R C) = nrm x0 x1 R C
  rw [val_main_v11_apply, val_main_v9_apply, val_main_v8_apply, val_main_v10_apply,
    val_main_v7_apply, val_main_v6_apply, val_main_v4_apply, val_main_v5_apply, val_main_v3_apply, val_main_v2_apply, val_main_v1_apply, val_main_cst_apply, val_main_cst_0_apply, val_main_cst_1_apply]
  refine congrArg₂ (· * ·) (congrArg₂ (· * ·) rfl ?_) (congrArg x1 (ext2 _ 0 C rfl rfl))
  show Ideal.rsqrt (Ideal.div (Ideal.ofBits .f32 0x00000000#32 + _) nN + nE) = _
  rw [Ideal.ofBits_zero_f32, zero_add]
  refine congrArg (fun s => Ideal.rsqrt (Ideal.div s nN + nE)) (Finset.sum_congr rfl fun k _ => ?_)
  rw [val_main_v0_apply]
  exact congrArg (fun i => x0 i * x0 i) (ext2 _ R k rfl rfl)

end

/-- The kernel and its reference end with equal results. -/
theorem equal : Cert.algebraic_Kernel16Ideal_Reference16Ideal := by
  pair_intro
  · run_from Cert.Kernel16Ideal.Value.run_blocks m g
  · run_from Cert.Reference16Ideal.Value.run m' g'
    exact ((Cert.Reference16Ideal.Read.val_main_v12_eq _ _).trans (reference_eq _ _)).trans (result_eq m c).symm

end Cert.Kernel16Ideal.NormFwd

end
-- ==== Proof.Loss.lean ====
module

public import proofs.«01_k».proof.Proof.Gen.Kernel17Ideal.Value
public import proofs.«01_k».proof.Proof.Gen.Reference17Ideal.Run
public import proofs.«01_k».proof.Proof.Gen.Reference17Ideal.Read
public import proofs.«01_k».proof.Proof.PoolFwdTile
public import proofs.«01_k».proof.Proof.PoolRef

@[expose] public section

set_option maxRecDepth 16384

noncomputable section

namespace Cert.Kernel17Ideal.Loss

open Idealize.ShloMosaic Idealize.ShloMosaic.TcCoe Idealize.ShloMosaic.Tactic
open Cert.Kernel17Ideal.Gen Cert.Kernel17Ideal.Value
open Cert.Kernel13Ideal.Norm (nN)
open Cert.Kernel14Ideal.Pool (ext2)
open Cert.Kernel15Ideal.PoolFwd (ix_split)

/-! ## One point -/

/-- One half, and one over the width. -/
def half : EReal := Ideal.ofBits .f32 0x3F000000#32
def inv : EReal := Ideal.ofBits .f32 0x3A000000#32

theorem half_eq : half = ((1 / 2 : ℝ) : EReal) := by unfold half; simp [Ideal.ofBits, Ideal.ieee, -EReal.coe_mul]; norm_num
theorem inv_eq : inv = ((1 / 2048 : ℝ) : EReal) := by unfold inv; simp [Ideal.ofBits, Ideal.ieee, -EReal.coe_mul]; norm_num

/-- A row's mean squared error. -/
def sq (f g : Fin 2048 → EReal) : EReal := Ideal.div (∑ k, (f k - g k) * (f k - g k)) nN

/-- What a block of rows adds to the loss. -/
def part (x0 x1 : Vec Ideal S512x2048 .f32) : EReal := half * ∑ r : Fin 512, sq (fun k => x0 (ix2 r k)) (fun k => x1 (ix2 r k))

/-- The loss's derivative over a block of rows. -/
def grad (x0 x1 : Vec Ideal S512x2048 .f32) : Vec Ideal S512x2048 .f32 := fun y => (x0 (ix2 (y 0) (y 1)) - x1 (ix2 (y 0) (y 1))) * inv

theorem pay2_eq (x0 x1 : Vec Ideal S512x2048 .f32) : k0_pay2 x0 x1 = grad x0 x1 := by
  funext y; idx_vars y; unfold k0_pay2 k0_pay1 grad inv; pointwise; try rfl

theorem pay3_eq (x0 x1 : Vec Ideal S512x2048 .f32) : k0_pay3 x0 x1 = grad x0 x1 := by
  unfold k0_pay3; rw [pay2_eq]; generalize grad x0 x1 = u; funext y; idx_vars y; pointwise; try rfl

theorem pay4_eq (x0 x1 : Vec Ideal S512x2048 .f32) : k0_pay4 x0 x1 = fun _ => part x0 x1 := by
  funext y; idx_vars y; unfold k0_pay4 k0_pay1 part sq nN half; pointwise; try rfl

theorem pay5_eq (x0 x1 : Vec Ideal S512x2048 .f32) (l : Vec Ideal S8x128 .f32) : k0_pay5 x0 x1 l = fun y => l y + part x0 x1 := by
  unfold k0_pay5; rw [pay4_eq]; generalize part x0 x1 = u; funext y; idx_vars y; pointwise; try rfl

theorem outA2 (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S8x128 .f32) (harg3 : arg3.IsWhole) (arg4 : Memref sig .tc .vmem S512x2048 .f32) (harg4 : arg4.IsWhole) (arg5 : Memref sig .tc .vmem S512x2048 .bf16) (harg5 : arg5.IsWhole) (hc0 : cond0_0 i) (hc1 : ¬cond0_1 i)
    (x0 x1 : Vec Ideal S512x2048 .f32) : out0_A_2 c i arg1 harg1 arg2 harg2 arg3 harg3 arg4 harg4 arg5 harg5 hc0 hc1 x0 x1 = fun _ => part x0 x1 := by
  unfold out0_A_2 kernelRun0_A
  sl_unfold_words
  dsimp only
  rw [Whole.readAt_all harg1 x0 Whole.z2, Whole.readAt_all harg2 x1 Whole.z2, pay4_eq]
  exact Whole.read_all _ _ Whole.z2 _ _ _

theorem outA3 (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S8x128 .f32) (harg3 : arg3.IsWhole) (arg4 : Memref sig .tc .vmem S512x2048 .f32) (harg4 : arg4.IsWhole) (arg5 : Memref sig .tc .vmem S512x2048 .bf16) (harg5 : arg5.IsWhole) (hc0 : cond0_0 i) (hc1 : ¬cond0_1 i)
    (x0 x1 : Vec Ideal S512x2048 .f32) : out0_A_3 c i arg1 harg1 arg2 harg2 arg3 harg3 arg4 harg4 arg5 harg5 hc0 hc1 x0 x1 = grad x0 x1 := by
  unfold out0_A_3 kernelRun0_A
  sl_unfold_words
  dsimp only
  rw [Whole.readAt_all harg1 x0 Whole.z2, Whole.readAt_all harg2 x1 Whole.z2, pay2_eq]
  exact Whole.read_all _ _ Whole.z2 _ _ _

theorem outA4 (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S8x128 .f32) (harg3 : arg3.IsWhole) (arg4 : Memref sig .tc .vmem S512x2048 .f32) (harg4 : arg4.IsWhole) (arg5 : Memref sig .tc .vmem S512x2048 .bf16) (harg5 : arg5.IsWhole) (hc0 : cond0_0 i) (hc1 : ¬cond0_1 i)
    (x0 x1 : Vec Ideal S512x2048 .f32) : out0_A_4 c i arg1 harg1 arg2 harg2 arg3 harg3 arg4 harg4 arg5 harg5 hc0 hc1 x0 x1 = grad x0 x1 := by
  unfold out0_A_4 kernelRun0_A
  sl_unfold_words
  dsimp only
  rw [Whole.readAt_all harg1 x0 Whole.z2, Whole.readAt_all harg2 x1 Whole.z2, pay3_eq]
  exact Whole.read_all _ _ Whole.z2 _ _ _

theorem outB2 (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S8x128 .f32) (harg3 : arg3.IsWhole) (arg4 : Memref sig .tc .vmem S512x2048 .f32) (harg4 : arg4.IsWhole) (arg5 : Memref sig .tc .vmem S512x2048 .bf16) (harg5 : arg5.IsWhole) (hc0 : ¬cond0_0 i) (hc1 : cond0_1 i)
    (x0 x1 : Vec Ideal S512x2048 .f32) (l : Vec Ideal S8x128 .f32) : out0_B_2 c i arg1 harg1 arg2 harg2 arg3 harg3 arg4 harg4 arg5 harg5 hc0 hc1 x0 x1 l = fun y => l y + part x0 x1 := by
  unfold out0_B_2 kernelRun0_B
  sl_unfold_words
  dsimp only
  rw [Whole.readAt_all harg1 x0 Whole.z2, Whole.readAt_all harg2 x1 Whole.z2, Whole.readAt_all harg3 l Whole.z2, pay5_eq]
  exact Whole.read_all _ _ Whole.z2 _ _ _

theorem outB3 (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S8x128 .f32) (harg3 : arg3.IsWhole) (arg4 : Memref sig .tc .vmem S512x2048 .f32) (harg4 : arg4.IsWhole) (arg5 : Memref sig .tc .vmem S512x2048 .bf16) (harg5 : arg5.IsWhole) (hc0 : ¬cond0_0 i) (hc1 : cond0_1 i)
    (x0 x1 : Vec Ideal S512x2048 .f32) (l : Vec Ideal S8x128 .f32) : out0_B_3 c i arg1 harg1 arg2 harg2 arg3 harg3 arg4 harg4 arg5 harg5 hc0 hc1 x0 x1 l = grad x0 x1 := by
  unfold out0_B_3 kernelRun0_B
  sl_unfold_words
  dsimp only
  rw [Whole.readAt_all harg1 x0 Whole.z2, Whole.readAt_all harg2 x1 Whole.z2, pay2_eq]
  exact Whole.read_all _ _ Whole.z2 _ _ _

theorem outB4 (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S8x128 .f32) (harg3 : arg3.IsWhole) (arg4 : Memref sig .tc .vmem S512x2048 .f32) (harg4 : arg4.IsWhole) (arg5 : Memref sig .tc .vmem S512x2048 .bf16) (harg5 : arg5.IsWhole) (hc0 : ¬cond0_0 i) (hc1 : cond0_1 i)
    (x0 x1 : Vec Ideal S512x2048 .f32) (l : Vec Ideal S8x128 .f32) : out0_B_4 c i arg1 harg1 arg2 harg2 arg3 harg3 arg4 harg4 arg5 harg5 hc0 hc1 x0 x1 l = grad x0 x1 := by
  unfold out0_B_4 kernelRun0_B
  sl_unfold_words
  dsimp only
  rw [Whole.readAt_all harg1 x0 Whole.z2, Whole.readAt_all harg2 x1 Whole.z2, pay3_eq]
  exact Whole.read_all _ _ Whole.z2 _ _ _

/-! ## The blocks a point reads -/

variable (m : (ℓ : Loc nD τ sig) → Buf (Elt Ideal) ℓ) (ρ : Dev nD → PrngReg)

/-- The last layer's output and the target, as launched. -/
abbrev vY (c : Dev nD) : Vec Ideal S8192x2048 .f32 := m ((c.tc : Thread nD τ).loc main_arg0)
abbrev vT (c : Dev nD) : Vec Ideal S8192x2048 .f32 := m ((c.tc : Thread nD τ).loc main_arg1)

theorem t_lt (t : Fin cfg0.N) : t.val < 16 := lt_of_lt_of_eq t.isLt (show cfg0.N = 16 from N_0)

theorem index0 : ∀ t : Fin cfg0.N, (win0_0.index t (0 : Fin 2) = t.val ∧ win0_0.index t (1 : Fin 2) = 0) ∧ win0_1.index t (0 : Fin 2) = t.val ∧ win0_1.index t (1 : Fin 2) = 0 :=
  (by decide +kernel : ∀ t : Fin grid0.N, _)
theorem index3 : ∀ t : Fin cfg0.N, (win0_3.index t (0 : Fin 2) = t.val ∧ win0_3.index t (1 : Fin 2) = 0) ∧ win0_4.index t (0 : Fin 2) = t.val ∧ win0_4.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem flushes3 : ∀ t : Fin cfg0.N, (cfg0.win 3).flush t = true := (by decide +kernel : ∀ t : Fin grid0.N, win0_3.flush t = true)
theorem flushes4 : ∀ t : Fin cfg0.N, (cfg0.win 4).flush t = true := (by decide +kernel : ∀ t : Fin grid0.N, win0_4.flush t = true)

/-- Row `r` of block `t`, among all rows. -/
def row (t : Fin cfg0.N) (r : Fin 512) : Fin 8192 := ⟨t.val * 512 + r.val, by have := r.isLt; have := t_lt t; omega⟩

theorem block0 (c : Dev nD) (t : Fin cfg0.N) (r : Fin 512) (k : Fin 2048) : iblk m c 0 t (ix2 r k) = vY m c (ix2 (row t r) k) := by
  obtain ⟨⟨e0, e1⟩, -⟩ := index0 t
  refine congrArg (vY m c) (ext2 _ (row t r) k ?_ ?_)
  · show win0_0.index t (0 : Fin 2) * 512 + 1 * r.val = t.val * 512 + r.val; rw [e0]; omega
  · show win0_0.index t (1 : Fin 2) * 2048 + 1 * k.val = k.val; rw [e1]; omega

theorem block1 (c : Dev nD) (t : Fin cfg0.N) (r : Fin 512) (k : Fin 2048) : iblk m c 1 t (ix2 r k) = vT m c (ix2 (row t r) k) := by
  obtain ⟨-, e0, e1⟩ := index0 t
  refine congrArg (vT m c) (ext2 _ (row t r) k ?_ ?_)
  · show win0_1.index t (0 : Fin 2) * 512 + 1 * r.val = t.val * 512 + r.val; rw [e0]; omega
  · show win0_1.index t (1 : Fin 2) * 2048 + 1 * k.val = k.val; rw [e1]; omega

/-! ## The results over whole arrays -/

/-- Row `R`'s mean squared error. -/
def err (Y T : Vec Ideal S8192x2048 .f32) (R : Fin 8192) : EReal := sq (fun k => Y (ix2 R k)) (fun k => T (ix2 R k))

/-- The loss, in every entry of its block, and its derivative. -/
def wL (Y T : Vec Ideal S8192x2048 .f32) : Vec Ideal S8x128 .f32 := fun _ => half * ∑ R : Fin 8192, err Y T R
def wY (Y T : Vec Ideal S8192x2048 .f32) : Vec Ideal S8192x2048 .f32 := fun i => (Y (ix2 (i 0) (i 1)) - T (ix2 (i 0) (i 1))) * inv

/-- The sum of the errors of block `n`. -/
def tile (Y T : Vec Ideal S8192x2048 .f32) (n : ℕ) : EReal := ∑ r : Fin 512, err Y T ⟨(n * 512 + r.val) % 8192, Nat.mod_lt _ (by decide)⟩

theorem part_at (c : Dev nD) (t : Fin cfg0.N) : part (iblk m c 0 t) (iblk m c 1 t) = half * tile (vY m c) (vT m c) t.val := by
  unfold part tile
  refine congrArg (half * ·) (Finset.sum_congr rfl fun r _ => ?_)
  have hr : (⟨(t.val * 512 + r.val) % 8192, Nat.mod_lt _ (by decide)⟩ : Fin 8192) = row t r :=
    Fin.ext (by have := r.isLt; have := t_lt t; show (t.val * 512 + r.val) % 8192 = t.val * 512 + r.val; omega)
  rw [hr]
  exact congrArg₂ sq (funext fun k => block0 m c t r k) (funext fun k => block1 m c t r k)

theorem grad_at (c : Dev nD) (t : Fin cfg0.N) (r : Fin 512) (q : Fin 2048) :
    grad (iblk m c 0 t) (iblk m c 1 t) (ix2 r q) = wY (vY m c) (vT m c) (ix2 (row t r) q) :=
  congrArg₂ (fun a b : EReal => (a - b) * inv) (block0 m c t r q) (block1 m c t r q)

/-- One half of a sum is the sum of the halves. -/
theorem half_add (x y : EReal) : half * (x + y) = half * x + half * y := by
  rw [half_eq]
  exact EReal.left_distrib_of_nonneg_of_ne_top (EReal.coe_nonneg.2 (by norm_num)) (EReal.coe_ne_top _) x y

/-- After a point, the loss's block holds the loss over the blocks so far, and the other two buffers the derivative over the point's rows. -/
theorem outs (c : Dev nD) : ∀ (n : ℕ) (h : n < cfg0.N),
    (outsAt0 m c n h).1 = (fun _ => half * ∑ i ∈ Finset.range (n + 1), tile (vY m c) (vT m c) i)
      ∧ (outsAt0 m c n h).2.1 = grad (iblk m c 0 ⟨n, h⟩) (iblk m c 1 ⟨n, h⟩) ∧ (outsAt0 m c n h).2.2 = grad (iblk m c 0 ⟨n, h⟩) (iblk m c 1 ⟨n, h⟩) := by
  intro n
  induction n with
  | zero =>
    intro h
    rw [outsAt0_A m c ⟨0, h⟩ rfl (by show ¬1 ≤ 0; omega)]
    dsimp only
    rw [outA2, outA3, outA4, part_at, Finset.sum_range_one]
    exact ⟨rfl, rfl, rfl⟩
  | succ n ih =>
    intro h
    have ht : n + 1 < 16 := t_lt ⟨n + 1, h⟩
    rw [outsAt0_B m c ⟨n + 1, h⟩ (by show ¬(n + 1) % 16 = 0; omega) (by show 1 ≤ n + 1; omega)]
    dsimp only
    rw [outB2, outB3, outB4, part_at, Finset.sum_range_succ, half_add]
    exact ⟨funext fun y => congrArg (· + half * tile (vY m c) (vT m c) (n + 1)) (congrFun (ih (by omega)).1 y), rfl, rfl⟩

/-- The sixteen blocks make up the rows. -/
theorem sum_tiles (Y T : Vec Ideal S8192x2048 .f32) : ∑ i ∈ Finset.range 16, tile Y T i = ∑ R : Fin 8192, err Y T R := by
  rw [Fin.sum_univ_tiles 16 512 rfl, Finset.sum_range]
  refine Finset.sum_congr rfl fun i _ => Finset.sum_congr rfl fun r _ => congrArg _ (Fin.ext ?_)
  have := i.isLt
  have := r.isLt
  show (i.val * 512 + r.val) % 8192 = i.val * 512 + r.val
  omega

/-! ## The arrays after the run -/

/-- Every row of the whole is a row of a block. -/
theorem row_onto (R : Fin 8192) : ∃ (t : Fin cfg0.N) (r : Fin 512), R = row t r := by
  have hR := R.isLt
  exact ⟨⟨R.val / 512, by rw [show cfg0.N = 16 from N_0]; omega⟩, ⟨R.val % 512, Nat.mod_lt _ (by decide)⟩, Fin.ext (by show R.val = R.val / 512 * 512 + R.val % 512; omega)⟩

theorem result3 (c : Dev nD) : (dats m 0 c).arrAt 3 cfg0.N = wY (vY m c) (vT m c) := by
  funext i
  obtain ⟨R, q, rfl⟩ := ix_split i
  obtain ⟨t, r, rfl⟩ := row_onto R
  obtain ⟨⟨e0, e1⟩, -⟩ := index3 t
  have hb := congrFun ((blocks3 m c t (flushes3 t)).trans (flushed3 m c t)) (ix2 r q)
  have he : ((cfg0.win 3).blk t).view.emb (ix2 r q) = ix2 (row t r) q := by
    refine ext2 _ (row t r) q ?_ ?_
    · show win0_3.index t (0 : Fin 2) * 512 + 1 * r.val = t.val * 512 + r.val; rw [e0]; omega
    · show win0_3.index t (1 : Fin 2) * 2048 + 1 * q.val = q.val; rw [e1]; omega
  refine (congrArg ((dats m 0 c).arrAt 3 cfg0.N) he.symm).trans (hb.trans ?_)
  rw [(outs m c t.val t.isLt).2.1]
  exact grad_at m c t r q

theorem result4 (c : Dev nD) : (dats m 0 c).arrAt 4 cfg0.N = wY (vY m c) (vT m c) := by
  funext i
  obtain ⟨R, q, rfl⟩ := ix_split i
  obtain ⟨t, r, rfl⟩ := row_onto R
  obtain ⟨-, e0, e1⟩ := index3 t
  have hb := congrFun ((blocks4 m c t (flushes4 t)).trans (flushed4 m c t)) (ix2 r q)
  have he : ((cfg0.win 4).blk t).view.emb (ix2 r q) = ix2 (row t r) q := by
    refine ext2 _ (row t r) q ?_ ?_
    · show win0_4.index t (0 : Fin 2) * 512 + 1 * r.val = t.val * 512 + r.val; rw [e0]; omega
    · show win0_4.index t (1 : Fin 2) * 2048 + 1 * q.val = q.val; rw [e1]; omega
  refine (congrArg ((dats m 0 c).arrAt 4 cfg0.N) he.symm).trans (hb.trans ?_)
  rw [(outs m c t.val t.isLt).2.2]
  exact grad_at m c t r q

theorem flushed2_eq (c : Dev nD) (t : Fin cfg0.N) (hf : (cfg0.win 2).flush t = true) :
    (dats m 0 c).flushed 2 t = ((cfg0.win 2).blk t).view.read (Elt Ideal) (wL (vY m c) (vT m c)) := by
  rw [flushed2 m c t, (outs m c t.val t.isLt).1]
  have ht : t.val % 16 = 15 := (flush0_2 t).mp hf
  have ht' := t_lt t
  rw [show t.val + 1 = 16 by omega, sum_tiles]
  rfl

theorem mem_blk2 (t : Fin cfg0.N) (i : S8x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0_0).slice (win0_2.rect t)).set ↔ _
  rw [View.set_slice_whole, Rect.mem_set_unit]
  exact Iff.rfl

theorem result2 (c : Dev nD) : (dats m 0 c).arrAt 2 cfg0.N = wL (vY m c) (vT m c) :=
  (dats m 0 c).arrAt_eq_of_cover 2 _ (fun t hf => flushed2_eq m c t hf) (fun i => by
    have h0 : (i 0).val < 8 := (i 0).isLt
    have h1 : (i 1).val < 128 := (i 1).isLt
    let t : Fin cfg0.N := ⟨15, lt_of_lt_of_eq (by omega) N_0.symm⟩
    obtain ⟨e0, e1⟩ := index2 t
    refine ⟨t, (flush0_2 t).mpr rfl, ?_⟩
    rw [mem_blk2]
    intro a
    match a with
    | ⟨0, _⟩ => show win0_2.index t (0 : Fin 2) * 8 ≤ (i 0).val ∧ (i 0).val < win0_2.index t (0 : Fin 2) * 8 + 8; omega
    | ⟨1, _⟩ => show win0_2.index t (1 : Fin 2) * 128 ≤ (i 1).val ∧ (i 1).val < win0_2.index t (1 : Fin 2) * 128 + 128; omega)

/-! ## The reference -/

section
open Cert.Reference17Ideal.Read

variable (x0 x1 : Vec Ideal S8192x2048 .f32)

/-- A row's error, in the reference. -/
theorem v6_eq (R : Fin 8192) : val_main_v6 (F := Ideal) x0 x1 (ix1 R) = err x0 x1 R := by
  rw [val_main_v6_apply, val_main_v4_apply, val_main_v5_apply, val_main_cst_0_apply, val_main_cst_1_apply]
  show Ideal.div (Ideal.ofBits .f32 0x00000000#32 + _) nN = _
  rw [Ideal.ofBits_zero_f32, zero_add]
  refine congrArg (fun s => Ideal.div s nN) (Finset.sum_congr rfl fun k _ => ?_)
  rw [val_main_v1_apply, val_main_v0_apply]
  exact congrArg (fun i => (x0 i - x1 i) * (x0 i - x1 i)) (ext2 _ R k rfl rfl)

/-- The loss, in the reference. -/
theorem v15_eq : val_main_v15 (F := Ideal) x0 x1 = wL x0 x1 := by
  funext i
  rw [val_main_v15_apply, val_main_v8_apply, val_main_cst_3_apply, val_main_v7_apply, val_main_cst_2_apply]
  show half * (Ideal.ofBits .f32 0x00000000#32 + _) = _
  rw [Ideal.ofBits_zero_f32, zero_add]
  refine congrArg (half * ·) ?_
  refine (sum_idx1 (n0 := 8192) _).trans ?_
  exact Finset.sum_congr rfl fun R _ => v6_eq x0 x1 R

/-- The derivative, in the reference. -/
theorem v14_eq : val_main_v14 (F := Ideal) x0 x1 = wY x0 x1 := by
  funext i
  obtain ⟨R, q, rfl⟩ := ix_split i
  rw [val_main_v14_apply, val_main_v13_apply, val_main_v12_apply, val_main_v10_apply, val_main_v9_apply, val_main_cst_4_apply, val_main_cst_5_apply,
    val_main_v11_apply, val_main_cst_6_apply, val_main_v3_apply, val_main_v2_apply, val_main_cst_apply, val_main_v0_apply]
  show Ideal.div (half * Ideal.ofBits .f32 0x3F800000#32) nN * (Ideal.ofBits .f32 0x40000000#32 * (x0 (ix2 R q) - x1 (ix2 R q))) = (x0 (ix2 R q) - x1 (ix2 R q)) * inv
  have h : Ideal.div (half * Ideal.ofBits .f32 0x3F800000#32) nN * Ideal.ofBits .f32 0x40000000#32 = inv := by
    have e2 : Ideal.ofBits .f32 0x40000000#32 = ((2 : ℝ) : EReal) := by simp [Ideal.ofBits, Ideal.ieee, -EReal.coe_mul]; norm_num
    have en : nN = ((2048 : ℝ) : EReal) := by unfold nN; simp [Ideal.ofBits, Ideal.ieee, -EReal.coe_mul]; norm_num
    rw [Ideal.ofBits_one_f32, mul_one, half_eq, inv_eq, e2, en]
    unfold Ideal.div
    rw [if_neg (fun h => by have := EReal.coe_eq_zero.1 h; norm_num at this), ← EReal.coe_inv, ← EReal.coe_mul, ← EReal.coe_mul]
    norm_num
  rw [← mul_assoc, h, mul_comm]

theorem v16_eq : val_main_v16 (F := Ideal) x0 x1 = wY x0 x1 := by
  rw [← v14_eq]
  funext i
  rw [val_main_v16_apply]
  rfl

end

/-- The kernel and its reference end with equal results. -/
theorem equal : Cert.algebraic_Kernel17Ideal_Reference17Ideal := by
  pair_intro
  · run_from Cert.Kernel17Ideal.Value.run_blocks m g
  · run_from Cert.Reference17Ideal.Value.run m' g'
    · exact ((Cert.Reference17Ideal.Read.val_main_v15_eq _ _).trans (v15_eq _ _)).trans (result2 m c).symm
    · exact ((Cert.Reference17Ideal.Read.val_main_v14_eq _ _).trans (v14_eq _ _)).trans (result3 m c).symm
    · exact ((Cert.Reference17Ideal.Read.val_main_v16_eq _ _).trans (v16_eq _ _)).trans (result4 m c).symm

end Cert.Kernel17Ideal.Loss

end
-- ==== Proof.Adam.lean ====
module

public import proofs.«01_k».proof.Proof.Gen.Kernel18Ideal.Value
public import proofs.«01_k».proof.Proof.Gen.Reference18Ideal.Run
public import proofs.«01_k».proof.Proof.Gen.Reference18Ideal.Read
public import proofs.«01_k».proof.Defs
public import Idealize.ShloMosaic.Lib.Tactic
public import Idealize.ShloMosaic.Lib.Claim

@[expose] public section

set_option maxRecDepth 16384

noncomputable section

namespace Cert.Kernel18Ideal.Adam

open Idealize.ShloMosaic Idealize.ShloMosaic.TcCoe Idealize.ShloMosaic.Tactic
open Cert.Kernel18Ideal.Gen Cert.Kernel18Ideal.Value
open Cert.Reference18Ideal.Read

/-! ## The reference, entry by entry -/

variable (w g a b : Vec Ideal S8192x1408 .f32)

/-- The new first moment. -/
theorem first_eq : val_main_v4 (F := Ideal) g a = G5 g a := by
  funext i
  rw [val_main_v4_apply, val_main_v1_apply, val_main_v3_apply, val_main_v0_apply, val_main_v2_apply, val_main_cst_apply, val_main_cst_0_apply]

/-- The new second moment. -/
theorem second_eq : val_main_v10 (F := Ideal) g b = G6 g b := by
  funext i
  rw [val_main_v10_apply, val_main_v6_apply, val_main_v9_apply, val_main_v5_apply, val_main_v8_apply, val_main_v7_apply, val_main_cst_1_apply, val_main_cst_2_apply]

/-- What is added to the weights. -/
theorem delta_eq : val_main_v23 (F := Ideal) w g a b = G4 g a b w := by
  funext i
  rw [val_main_v23_apply, val_main_v22_apply, val_main_cst_7_apply, val_main_v21_apply, val_main_v20_apply, val_main_v19_apply, val_main_cst_6_apply,
    val_main_v18_apply, val_main_v17_apply, val_main_v16_apply, val_main_cst_5_apply, val_main_v15_apply, val_main_v14_apply, val_main_v13_apply, val_main_cst_4_apply,
    val_main_v12_apply, val_main_v11_apply, val_main_cst_3_apply, first_eq, second_eq]
  rfl

/-- The kernel and its reference end with equal results. -/
theorem equal : Cert.algebraic_Kernel18Ideal_Reference18Ideal := by
  pair_intro
  · run_from Cert.Kernel18Ideal.Value.run m g
  · run_from Cert.Reference18Ideal.Value.run m' g'
    · exact (val_main_v23_eq _ _ _ _).trans (delta_eq _ _ _ _)
    · exact (val_main_v4_eq _ _).trans (first_eq _ _)
    · exact (val_main_v10_eq _ _).trans (second_eq _ _)

end Cert.Kernel18Ideal.Adam

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.ReferenceIdeal.Run
public import proofs.«01_k».proof.Proof.Gen.ReferenceIdeal.Read
public import proofs.«01_k».proof.Proof.GateRun
public import proofs.«01_k».proof.Proof.Dwup
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Dh
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Dwdown
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Down
public import proofs.«01_k».proof.Proof.GateEqual
public import proofs.«01_k».proof.Proof.Gen.Pre_finite
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.Up
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.Qkv
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.AttnOut
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.AttnDo
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Reference10Ideal.Read
public import proofs.«01_k».proof.Proof.AttnDwo
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.Gen.Reference11Ideal.Read
public import proofs.«01_k».proof.Proof.AttnDwqkv
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel12Ideal.Value
public import proofs.«01_k».proof.Proof.Gen.Reference12Ideal.Run
public import proofs.«01_k».proof.Proof.Gen.Reference12Ideal.Read
public import proofs.«01_k».proof.Proof.AttnDh
public import proofs.«01_k».proof.Proof.Gen.Pre_finite6
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Norm
public import proofs.«01_k».proof.Proof.Gen.Kernel14
public import proofs.«01_k».proof.Proof.Gen.Kernel14Ideal
public import proofs.«01_k».proof.Proof.Gen.Reference14Ideal
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Pool
public import proofs.«01_k».proof.Proof.Gen.Kernel15
public import proofs.«01_k».proof.Proof.Gen.Kernel15Ideal
public import proofs.«01_k».proof.Proof.Gen.Reference15Ideal
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.PoolFwd
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel16Ideal.Value
public import proofs.«01_k».proof.Proof.Gen.Reference16Ideal.Run
public import proofs.«01_k».proof.Proof.Gen.Reference16Ideal.Read
public import proofs.«01_k».proof.Proof.NormFwd
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel17Ideal.Value
public import proofs.«01_k».proof.Proof.Gen.Reference17Ideal.Run
public import proofs.«01_k».proof.Proof.Gen.Reference17Ideal.Read
public import proofs.«01_k».proof.Proof.Loss
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel18Ideal.Value
public import proofs.«01_k».proof.Proof.Gen.Reference18Ideal.Run
public import proofs.«01_k».proof.Proof.Gen.Reference18Ideal.Read
public import proofs.«01_k».proof.Proof.Adam
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Pre_finite.Gen.facts, Cert.Pre_finite6.Gen.facts,
  Cert.KernelIdeal.Gate.frame_kernel,
  fun m ρ _ => Cert.KernelIdeal.Gate.frame_ideal m ρ,
  fun m ρ _ => Cert.KernelIdeal.Gate.frame_ideal m ρ,
  fun m ρ _ => (θ_run Cert.ReferenceIdeal.defs _ _).mono (fun r h => ⟨fun c => (h c).2.2, sem_eq_zero_of_no_sems (by decide) r.2⟩)
    (Cert.ReferenceIdeal.Value.run (F := Ideal) m ρ),
  fun m ρ _ => (θ_run Cert.ReferenceIdeal.defs _ _).mono (fun r h => ⟨fun c => (h c).2.2, sem_eq_zero_of_no_sems (by decide) r.2⟩)
    (Cert.ReferenceIdeal.Value.run (F := Ideal) m ρ),
  fun m ρ _ => Cert.Kernel2.Gen.frame m ρ,
  fun m ρ _ => Cert.Kernel2Ideal.Gen.frame m ρ,
  fun m ρ _ => (θ_run Cert.Reference2Ideal.defs _ _).mono (fun r h => ⟨fun c => (h c).2, sem_eq_zero_of_no_sems (by decide) r.2⟩)
    (Cert.Reference2Ideal.Value.run (F := Ideal) m ρ),
  fun m ρ _ => Cert.Kernel3.Gen.frame m ρ,
  fun m ρ _ => Cert.Kernel3Ideal.Gen.frame m ρ,
  fun m ρ _ => (θ_run Cert.Reference3Ideal.defs _ _).mono (fun r h => ⟨fun c => (h c).2, sem_eq_zero_of_no_sems (by decide) r.2⟩)
    (Cert.Reference3Ideal.Value.run (F := Ideal) m ρ),
  fun m ρ _ => Cert.Kernel4.Gen.frame m ρ,
  fun m ρ _ => Cert.Kernel4Ideal.Gen.frame m ρ,
  fun m ρ _ => (θ_run Cert.Reference4Ideal.defs _ _).mono (fun r h => ⟨fun c => (h c).2, sem_eq_zero_of_no_sems (by decide) r.2⟩)
    (Cert.Reference4Ideal.Value.run (F := Ideal) m ρ),
  fun m ρ _ => Cert.Kernel5.Gen.frame m ρ,
  fun m ρ _ => Cert.Kernel5Ideal.Gen.frame m ρ,
  fun m ρ _ => (θ_run Cert.Reference5Ideal.defs _ _).mono (fun r h => ⟨fun c => (h c).2, sem_eq_zero_of_no_sems (by decide) r.2⟩)
    (Cert.Reference5Ideal.Value.run (F := Ideal) m ρ),
  fun m ρ _ => Cert.Kernel6.Gen.frame m ρ,
  fun m ρ _ => Cert.Kernel6Ideal.Gen.frame m ρ,
  fun m ρ _ => Cert.Kernel6Ideal.Gen.frame m ρ,
  fun m ρ _ => (θ_run Cert.Reference6Ideal.defs _ _).mono (fun r h => ⟨fun c => (h c).2.2.2, sem_eq_zero_of_no_sems (by decide) r.2⟩)
    (Cert.Reference6Ideal.Value.run (F := Ideal) m ρ),
  fun m ρ _ => (θ_run Cert.Reference6Ideal.defs _ _).mono (fun r h => ⟨fun c => (h c).2.2.2, sem_eq_zero_of_no_sems (by decide) r.2⟩)
    (Cert.Reference6Ideal.Value.run (F := Ideal) m ρ),
  fun m ρ _ => Cert.Kernel7.Gen.frame m ρ,
  fun m ρ _ => Cert.Kernel7Ideal.Gen.frame m ρ,
  fun m ρ _ => (θ_run Cert.Reference7Ideal.defs _ _).mono (fun r h => ⟨fun c => (h c).2, sem_eq_zero_of_no_sems (by decide) r.2⟩)
    (Cert.Reference7Ideal.Value.run (F := Ideal) m ρ),
  fun m ρ _ => Cert.Kernel8.Gen.frame m ρ,
  fun m ρ _ => Cert.Kernel8Ideal.Gen.frame m ρ,
  fun m ρ _ => (θ_run Cert.Reference8Ideal.defs _ _).mono (fun r h => ⟨fun c => (h c).2, sem_eq_zero_of_no_sems (by decide) r.2⟩)
    (Cert.Reference8Ideal.Value.run (F := Ideal) m ρ),
  fun m ρ _ => Cert.Kernel9.Gen.frame m ρ,
  fun m ρ _ => Cert.Kernel9Ideal.Gen.frame m ρ,
  fun m ρ _ => (θ_run Cert.Reference9Ideal.defs _ _).mono (fun r h => ⟨fun c => (h c).2, sem_eq_zero_of_no_sems (by decide) r.2⟩)
    (Cert.Reference9Ideal.Value.run (F := Ideal) m ρ),
  fun m ρ _ => Cert.Kernel10.Gen.frame m ρ,
  fun m ρ _ => Cert.Kernel10Ideal.Gen.frame m ρ,
  fun m ρ _ => (θ_run Cert.Reference10Ideal.defs _ _).mono (fun r h => ⟨fun c => (h c).2, sem_eq_zero_of_no_sems (by decide) r.2⟩)
    (Cert.Reference10Ideal.Value.run (F := Ideal) m ρ),
  fun m ρ _ => Cert.Kernel11.Gen.frame m ρ,
  fun m ρ _ => Cert.Kernel11Ideal.Gen.frame m ρ,
  fun m ρ _ => (θ_run Cert.Reference11Ideal.defs _ _).mono (fun r h => ⟨fun c => (h c).2, sem_eq_zero_of_no_sems (by decide) r.2⟩)
    (Cert.Reference11Ideal.Value.run (F := Ideal) m ρ),
  fun m ρ _ => Cert.Kernel12.Gen.frame m ρ,
  fun m ρ _ => Cert.Kernel12Ideal.Gen.frame m ρ,
  fun m ρ _ => (θ_run Cert.Reference12Ideal.defs _ _).mono (fun r h => ⟨fun c => (h c).2, sem_eq_zero_of_no_sems (by decide) r.2⟩)
    (Cert.Reference12Ideal.Value.run (F := Ideal) m ρ),
  fun m ρ _ => Cert.Kernel13.Gen.frame m ρ,
  fun m ρ _ => Cert.Kernel13Ideal.Gen.frame m ρ,
  fun m ρ _ => (θ_run Cert.Reference13Ideal.defs _ _).mono (fun r h => ⟨fun c => (h c).2.2.2, sem_eq_zero_of_no_sems (by decide) r.2⟩)
    (Cert.Reference13Ideal.Value.run (F := Ideal) m ρ),
  fun m ρ _ => Cert.Kernel14.Gen.frame m ρ,
  fun m ρ _ => Cert.Kernel14Ideal.Gen.frame m ρ,
  fun m ρ _ => (θ_run Cert.Reference14Ideal.defs _ _).mono (fun r h => ⟨fun c => (h c).2.2.2.2.2, sem_eq_zero_of_no_sems (by decide) r.2⟩)
    (Cert.Reference14Ideal.Value.run (F := Ideal) m ρ),
  fun m ρ _ => Cert.Kernel15.Gen.frame m ρ,
  fun m ρ _ => Cert.Kernel15Ideal.Gen.frame m ρ,
  fun m ρ _ => (θ_run Cert.Reference15Ideal.defs _ _).mono (fun r h => ⟨fun c => (h c).2.2, sem_eq_zero_of_no_sems (by decide) r.2⟩)
    (Cert.Reference15Ideal.Value.run (F := Ideal) m ρ),
  fun m ρ _ => Cert.Kernel16.Gen.frame m ρ,
  fun m ρ _ => Cert.Kernel16Ideal.Gen.frame m ρ,
  fun m ρ _ => (θ_run Cert.Reference16Ideal.defs _ _).mono (fun r h => ⟨fun c => (h c).2, sem_eq_zero_of_no_sems (by decide) r.2⟩)
    (Cert.Reference16Ideal.Value.run (F := Ideal) m ρ),
  fun m ρ _ => Cert.Kernel17.Gen.frame m ρ,
  fun m ρ _ => Cert.Kernel17Ideal.Gen.frame m ρ,
  fun m ρ _ => (θ_run Cert.Reference17Ideal.defs _ _).mono (fun r h => ⟨fun c => (h c).2.2.2, sem_eq_zero_of_no_sems (by decide) r.2⟩)
    (Cert.Reference17Ideal.Value.run (F := Ideal) m ρ),
  fun m ρ _ => Cert.Kernel18.Gen.frame m ρ,
  fun m ρ _ => Cert.Kernel18Ideal.Gen.frame m ρ,
  fun m ρ _ => (θ_run Cert.Reference18Ideal.defs _ _).mono (fun r h => ⟨fun c => (h c).2.2.2, sem_eq_zero_of_no_sems (by decide) r.2⟩)
    (Cert.Reference18Ideal.Value.run (F := Ideal) m ρ),
  trivial, Cert.KernelIdeal.Gate.equal,
  trivial, Cert.Kernel2Ideal.Dwup.equal,
  trivial, Cert.Kernel3Ideal.Dh.equal,
  trivial, Cert.Kernel4Ideal.Dwdown.equal,
  trivial, Cert.Kernel5Ideal.Down.equal,
  trivial, Cert.Kernel6Ideal.Up.equal,
  trivial, Cert.Kernel7Ideal.Qkv.equal,
  trivial, Cert.Kernel8Ideal.AttnOut.equal,
  trivial, Cert.Kernel9Ideal.AttnDo.equal,
  trivial, Cert.Kernel10Ideal.AttnDwo.equal,
  trivial, Cert.Kernel11Ideal.AttnDwqkv.equal,
  trivial, Cert.Kernel12Ideal.AttnDh.equal,
  trivial, Cert.Kernel13Ideal.Norm.equal,
  trivial, Cert.Kernel14Ideal.Pool.equal,
  trivial, Cert.Kernel15Ideal.PoolFwd.equal,
  trivial, Cert.Kernel16Ideal.NormFwd.equal,
  trivial, Cert.Kernel17Ideal.Loss.equal,
  trivial, Cert.Kernel18Ideal.Adam.equal⟩

end Cert.Proof

end
